-- ==== Defs.lean ====
def Pre_ConvKernel (m : (ℓ : Loc Cert.ConvKernel.nD Cert.ConvKernel.τ Cert.ConvKernel.sig) → Buf (Elt Bits) ℓ) : Prop :=
  True

def Pre_ConvKernelIdeal (m : (ℓ : Loc Cert.ConvKernelIdeal.nD Cert.ConvKernelIdeal.τ Cert.ConvKernelIdeal.sig) → Buf (Elt Ideal) ℓ) : Prop :=
  True

def Pre_ConvReferenceIdeal (m : (ℓ : Loc Cert.ConvReferenceIdeal.nD Cert.ConvReferenceIdeal.τ Cert.ConvReferenceIdeal.sig) → Buf (Elt Ideal) ℓ) : Prop :=
  True

def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossKernelIdeal_loss_finite [hPre_loss_finite : Cert.Pre_loss_finite.Facts] (m : (ℓ : Loc Cert.LossKernelIdeal.nD Cert.LossKernelIdeal.τ Cert.LossKernelIdeal.sig) → Buf (Elt Ideal) ℓ) : Prop :=
  ∀ c : Dev Cert.LossKernelIdeal.nD,
    (Cert.Pre_loss_finite.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2))).1 = (fun _ => 1#1)
    ∧ (Cert.Pre_loss_finite.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2))).2.1 = (fun _ => 1#1)
    ∧ (Cert.Pre_loss_finite.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2))).2.2 = (fun _ => 1#1)

def Pre_LossReferenceIdeal (m : (ℓ : Loc Cert.LossReferenceIdeal.nD Cert.LossReferenceIdeal.τ Cert.LossReferenceIdeal.sig) → Buf (Elt Ideal) ℓ) : Prop :=
  True

def Pre_LossReferenceIdeal_loss_finite [hPre_loss_finite : Cert.Pre_loss_finite.Facts] (m : (ℓ : Loc Cert.LossReferenceIdeal.nD Cert.LossReferenceIdeal.τ Cert.LossReferenceIdeal.sig) → Buf (Elt Ideal) ℓ) : Prop :=
  ∀ c : Dev Cert.LossReferenceIdeal.nD,
    (Cert.Pre_loss_finite.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2))).1 = (fun _ => 1#1)
    ∧ (Cert.Pre_loss_finite.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2))).2.1 = (fun _ => 1#1)
    ∧ (Cert.Pre_loss_finite.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2))).2.2 = (fun _ => 1#1)

def Pre_UnropeKernel (m : (ℓ : Loc Cert.UnropeKernel.nD Cert.UnropeKernel.τ Cert.UnropeKernel.sig) → Buf (Elt Bits) ℓ) : Prop :=
  True

def Pre_UnropeKernelIdeal (m : (ℓ : Loc Cert.UnropeKernelIdeal.nD Cert.UnropeKernelIdeal.τ Cert.UnropeKernelIdeal.sig) → Buf (Elt Ideal) ℓ) : Prop :=
  True

def Pre_UnropeReferenceIdeal (m : (ℓ : Loc Cert.UnropeReferenceIdeal.nD Cert.UnropeReferenceIdeal.τ Cert.UnropeReferenceIdeal.sig) → Buf (Elt Ideal) ℓ) : Prop :=
  True

def Pre_GateUpKernel (m : (ℓ : Loc Cert.GateUpKernel.nD Cert.GateUpKernel.τ Cert.GateUpKernel.sig) → Buf (Elt Bits) ℓ) : Prop :=
  True

def Pre_GateUpKernelIdeal (m : (ℓ : Loc Cert.GateUpKernelIdeal.nD Cert.GateUpKernelIdeal.τ Cert.GateUpKernelIdeal.sig) → Buf (Elt Ideal) ℓ) : Prop :=
  True

def Pre_GateUpKernelIdeal_dgu_finite [hPre_dgu_finite : Cert.Pre_dgu_finite.Facts] (m : (ℓ : Loc Cert.GateUpKernelIdeal.nD Cert.GateUpKernelIdeal.τ Cert.GateUpKernelIdeal.sig) → Buf (Elt Ideal) ℓ) : Prop :=
  ∀ c : Dev Cert.GateUpKernelIdeal.nD,
    (Cert.Pre_dgu_finite.fn (F := Ideal) (m ((c.tc : Thread Cert.GateUpKernelIdeal.nD Cert.GateUpKernelIdeal.τ).loc Cert.GateUpKernelIdeal.main_arg0)) (m ((c.tc : Thread Cert.GateUpKernelIdeal.nD Cert.GateUpKernelIdeal.τ).loc Cert.GateUpKernelIdeal.main_arg1)) (m ((c.tc : Thread Cert.GateUpKernelIdeal.nD Cert.GateUpKernelIdeal.τ).loc Cert.GateUpKernelIdeal.main_arg2)) (m ((c.tc : Thread Cert.GateUpKernelIdeal.nD Cert.GateUpKernelIdeal.τ).loc Cert.GateUpKernelIdeal.main_arg3)) (m ((c.tc : Thread Cert.GateUpKernelIdeal.nD Cert.GateUpKernelIdeal.τ).loc Cert.GateUpKernelIdeal.main_arg4))).1 = (fun _ => 1#1)
    ∧ (Cert.Pre_dgu_finite.fn (F := Ideal) (m ((c.tc : Thread Cert.GateUpKernelIdeal.nD Cert.GateUpKernelIdeal.τ).loc Cert.GateUpKernelIdeal.main_arg0)) (m ((c.tc : Thread Cert.GateUpKernelIdeal.nD Cert.GateUpKernelIdeal.τ).loc Cert.GateUpKernelIdeal.main_arg1)) (m ((c.tc : Thread Cert.GateUpKernelIdeal.nD Cert.GateUpKernelIdeal.τ).loc Cert.GateUpKernelIdeal.main_arg2)) (m ((c.tc : Thread Cert.GateUpKernelIdeal.nD Cert.GateUpKernelIdeal.τ).loc Cert.GateUpKernelIdeal.main_arg3)) (m ((c.tc : Thread Cert.GateUpKernelIdeal.nD Cert.GateUpKernelIdeal.τ).loc Cert.GateUpKernelIdeal.main_arg4))).2.1 = (fun _ => 1#1)
    ∧ (Cert.Pre_dgu_finite.fn (F := Ideal) (m ((c.tc : Thread Cert.GateUpKernelIdeal.nD Cert.GateUpKernelIdeal.τ).loc Cert.GateUpKernelIdeal.main_arg0)) (m ((c.tc : Thread Cert.GateUpKernelIdeal.nD Cert.GateUpKernelIdeal.τ).loc Cert.GateUpKernelIdeal.main_arg1)) (m ((c.tc : Thread Cert.GateUpKernelIdeal.nD Cert.GateUpKernelIdeal.τ).loc Cert.GateUpKernelIdeal.main_arg2)) (m ((c.tc : Thread Cert.GateUpKernelIdeal.nD Cert.GateUpKernelIdeal.τ).loc Cert.GateUpKernelIdeal.main_arg3)) (m ((c.tc : Thread Cert.GateUpKernelIdeal.nD Cert.GateUpKernelIdeal.τ).loc Cert.GateUpKernelIdeal.main_arg4))).2.2.1 = (fun _ => 1#1)
    ∧ (Cert.Pre_dgu_finite.fn (F := Ideal) (m ((c.tc : Thread Cert.GateUpKernelIdeal.nD Cert.GateUpKernelIdeal.τ).loc Cert.GateUpKernelIdeal.main_arg0)) (m ((c.tc : Thread Cert.GateUpKernelIdeal.nD Cert.GateUpKernelIdeal.τ).loc Cert.GateUpKernelIdeal.main_arg1)) (m ((c.tc : Thread Cert.GateUpKernelIdeal.nD Cert.GateUpKernelIdeal.τ).loc Cert.GateUpKernelIdeal.main_arg2)) (m ((c.tc : Thread Cert.GateUpKernelIdeal.nD Cert.GateUpKernelIdeal.τ).loc Cert.GateUpKernelIdeal.main_arg3)) (m ((c.tc : Thread Cert.GateUpKernelIdeal.nD Cert.GateUpKernelIdeal.τ).loc Cert.GateUpKernelIdeal.main_arg4))).2.2.2.1 = (fun _ => 1#1)
    ∧ (Cert.Pre_dgu_finite.fn (F := Ideal) (m ((c.tc : Thread Cert.GateUpKernelIdeal.nD Cert.GateUpKernelIdeal.τ).loc Cert.GateUpKernelIdeal.main_arg0)) (m ((c.tc : Thread Cert.GateUpKernelIdeal.nD Cert.GateUpKernelIdeal.τ).loc Cert.GateUpKernelIdeal.main_arg1)) (m ((c.tc : Thread Cert.GateUpKernelIdeal.nD Cert.GateUpKernelIdeal.τ).loc Cert.GateUpKernelIdeal.main_arg2)) (m ((c.tc : Thread Cert.GateUpKernelIdeal.nD Cert.GateUpKernelIdeal.τ).loc Cert.GateUpKernelIdeal.main_arg3)) (m ((c.tc : Thread Cert.GateUpKernelIdeal.nD Cert.GateUpKernelIdeal.τ).loc Cert.GateUpKernelIdeal.main_arg4))).2.2.2.2 = (fun _ => 1#1)

def Pre_GateUpReferenceIdeal (m : (ℓ : Loc Cert.GateUpReferenceIdeal.nD Cert.GateUpReferenceIdeal.τ Cert.GateUpReferenceIdeal.sig) → Buf (Elt Ideal) ℓ) : Prop :=
  True

def Pre_GateUpReferenceIdeal_dgu_finite [hPre_dgu_finite : Cert.Pre_dgu_finite.Facts] (m : (ℓ : Loc Cert.GateUpReferenceIdeal.nD Cert.GateUpReferenceIdeal.τ Cert.GateUpReferenceIdeal.sig) → Buf (Elt Ideal) ℓ) : Prop :=
  ∀ c : Dev Cert.GateUpReferenceIdeal.nD,
    (Cert.Pre_dgu_finite.fn (F := Ideal) (m ((c.tc : Thread Cert.GateUpReferenceIdeal.nD Cert.GateUpReferenceIdeal.τ).loc Cert.GateUpReferenceIdeal.main_arg0)) (m ((c.tc : Thread Cert.GateUpReferenceIdeal.nD Cert.GateUpReferenceIdeal.τ).loc Cert.GateUpReferenceIdeal.main_arg1)) (m ((c.tc : Thread Cert.GateUpReferenceIdeal.nD Cert.GateUpReferenceIdeal.τ).loc Cert.GateUpReferenceIdeal.main_arg2)) (m ((c.tc : Thread Cert.GateUpReferenceIdeal.nD Cert.GateUpReferenceIdeal.τ).loc Cert.GateUpReferenceIdeal.main_arg3)) (m ((c.tc : Thread Cert.GateUpReferenceIdeal.nD Cert.GateUpReferenceIdeal.τ).loc Cert.GateUpReferenceIdeal.main_arg4))).1 = (fun _ => 1#1)
    ∧ (Cert.Pre_dgu_finite.fn (F := Ideal) (m ((c.tc : Thread Cert.GateUpReferenceIdeal.nD Cert.GateUpReferenceIdeal.τ).loc Cert.GateUpReferenceIdeal.main_arg0)) (m ((c.tc : Thread Cert.GateUpReferenceIdeal.nD Cert.GateUpReferenceIdeal.τ).loc Cert.GateUpReferenceIdeal.main_arg1)) (m ((c.tc : Thread Cert.GateUpReferenceIdeal.nD Cert.GateUpReferenceIdeal.τ).loc Cert.GateUpReferenceIdeal.main_arg2)) (m ((c.tc : Thread Cert.GateUpReferenceIdeal.nD Cert.GateUpReferenceIdeal.τ).loc Cert.GateUpReferenceIdeal.main_arg3)) (m ((c.tc : Thread Cert.GateUpReferenceIdeal.nD Cert.GateUpReferenceIdeal.τ).loc Cert.GateUpReferenceIdeal.main_arg4))).2.1 = (fun _ => 1#1)
    ∧ (Cert.Pre_dgu_finite.fn (F := Ideal) (m ((c.tc : Thread Cert.GateUpReferenceIdeal.nD Cert.GateUpReferenceIdeal.τ).loc Cert.GateUpReferenceIdeal.main_arg0)) (m ((c.tc : Thread Cert.GateUpReferenceIdeal.nD Cert.GateUpReferenceIdeal.τ).loc Cert.GateUpReferenceIdeal.main_arg1)) (m ((c.tc : Thread Cert.GateUpReferenceIdeal.nD Cert.GateUpReferenceIdeal.τ).loc Cert.GateUpReferenceIdeal.main_arg2)) (m ((c.tc : Thread Cert.GateUpReferenceIdeal.nD Cert.GateUpReferenceIdeal.τ).loc Cert.GateUpReferenceIdeal.main_arg3)) (m ((c.tc : Thread Cert.GateUpReferenceIdeal.nD Cert.GateUpReferenceIdeal.τ).loc Cert.GateUpReferenceIdeal.main_arg4))).2.2.1 = (fun _ => 1#1)
    ∧ (Cert.Pre_dgu_finite.fn (F := Ideal) (m ((c.tc : Thread Cert.GateUpReferenceIdeal.nD Cert.GateUpReferenceIdeal.τ).loc Cert.GateUpReferenceIdeal.main_arg0)) (m ((c.tc : Thread Cert.GateUpReferenceIdeal.nD Cert.GateUpReferenceIdeal.τ).loc Cert.GateUpReferenceIdeal.main_arg1)) (m ((c.tc : Thread Cert.GateUpReferenceIdeal.nD Cert.GateUpReferenceIdeal.τ).loc Cert.GateUpReferenceIdeal.main_arg2)) (m ((c.tc : Thread Cert.GateUpReferenceIdeal.nD Cert.GateUpReferenceIdeal.τ).loc Cert.GateUpReferenceIdeal.main_arg3)) (m ((c.tc : Thread Cert.GateUpReferenceIdeal.nD Cert.GateUpReferenceIdeal.τ).loc Cert.GateUpReferenceIdeal.main_arg4))).2.2.2.1 = (fun _ => 1#1)
    ∧ (Cert.Pre_dgu_finite.fn (F := Ideal) (m ((c.tc : Thread Cert.GateUpReferenceIdeal.nD Cert.GateUpReferenceIdeal.τ).loc Cert.GateUpReferenceIdeal.main_arg0)) (m ((c.tc : Thread Cert.GateUpReferenceIdeal.nD Cert.GateUpReferenceIdeal.τ).loc Cert.GateUpReferenceIdeal.main_arg1)) (m ((c.tc : Thread Cert.GateUpReferenceIdeal.nD Cert.GateUpReferenceIdeal.τ).loc Cert.GateUpReferenceIdeal.main_arg2)) (m ((c.tc : Thread Cert.GateUpReferenceIdeal.nD Cert.GateUpReferenceIdeal.τ).loc Cert.GateUpReferenceIdeal.main_arg3)) (m ((c.tc : Thread Cert.GateUpReferenceIdeal.nD Cert.GateUpReferenceIdeal.τ).loc Cert.GateUpReferenceIdeal.main_arg4))).2.2.2.2 = (fun _ => 1#1)

def Pre_ConvDxKernel (m : (ℓ : Loc Cert.ConvDxKernel.nD Cert.ConvDxKernel.τ Cert.ConvDxKernel.sig) → Buf (Elt Bits) ℓ) : Prop :=
  True

def Pre_ConvDxKernelIdeal (m : (ℓ : Loc Cert.ConvDxKernelIdeal.nD Cert.ConvDxKernelIdeal.τ Cert.ConvDxKernelIdeal.sig) → Buf (Elt Ideal) ℓ) : Prop :=
  True

def Pre_ConvDxKernelIdeal_convdx_finite [hPre_convdx_finite : Cert.Pre_convdx_finite.Facts] (m : (ℓ : Loc Cert.ConvDxKernelIdeal.nD Cert.ConvDxKernelIdeal.τ Cert.ConvDxKernelIdeal.sig) → Buf (Elt Ideal) ℓ) : Prop :=
  ∀ c : Dev Cert.ConvDxKernelIdeal.nD,
    (Cert.Pre_convdx_finite.fn (F := Ideal) (m ((c.tc : Thread Cert.ConvDxKernelIdeal.nD Cert.ConvDxKernelIdeal.τ).loc Cert.ConvDxKernelIdeal.main_arg0)) (m ((c.tc : Thread Cert.ConvDxKernelIdeal.nD Cert.ConvDxKernelIdeal.τ).loc Cert.ConvDxKernelIdeal.main_arg1)) (m ((c.tc : Thread Cert.ConvDxKernelIdeal.nD Cert.ConvDxKernelIdeal.τ).loc Cert.ConvDxKernelIdeal.main_arg2)) (m ((c.tc : Thread Cert.ConvDxKernelIdeal.nD Cert.ConvDxKernelIdeal.τ).loc Cert.ConvDxKernelIdeal.main_arg3)) (m ((c.tc : Thread Cert.ConvDxKernelIdeal.nD Cert.ConvDxKernelIdeal.τ).loc Cert.ConvDxKernelIdeal.main_arg4))).1 = (fun _ => 1#1)
    ∧ (Cert.Pre_convdx_finite.fn (F := Ideal) (m ((c.tc : Thread Cert.ConvDxKernelIdeal.nD Cert.ConvDxKernelIdeal.τ).loc Cert.ConvDxKernelIdeal.main_arg0)) (m ((c.tc : Thread Cert.ConvDxKernelIdeal.nD Cert.ConvDxKernelIdeal.τ).loc Cert.ConvDxKernelIdeal.main_arg1)) (m ((c.tc : Thread Cert.ConvDxKernelIdeal.nD Cert.ConvDxKernelIdeal.τ).loc Cert.ConvDxKernelIdeal.main_arg2)) (m ((c.tc : Thread Cert.ConvDxKernelIdeal.nD Cert.ConvDxKernelIdeal.τ).loc Cert.ConvDxKernelIdeal.main_arg3)) (m ((c.tc : Thread Cert.ConvDxKernelIdeal.nD Cert.ConvDxKernelIdeal.τ).loc Cert.ConvDxKernelIdeal.main_arg4))).2.1 = (fun _ => 1#1)
    ∧ (Cert.Pre_convdx_finite.fn (F := Ideal) (m ((c.tc : Thread Cert.ConvDxKernelIdeal.nD Cert.ConvDxKernelIdeal.τ).loc Cert.ConvDxKernelIdeal.main_arg0)) (m ((c.tc : Thread Cert.ConvDxKernelIdeal.nD Cert.ConvDxKernelIdeal.τ).loc Cert.ConvDxKernelIdeal.main_arg1)) (m ((c.tc : Thread Cert.ConvDxKernelIdeal.nD Cert.ConvDxKernelIdeal.τ).loc Cert.ConvDxKernelIdeal.main_arg2)) (m ((c.tc : Thread Cert.ConvDxKernelIdeal.nD Cert.ConvDxKernelIdeal.τ).loc Cert.ConvDxKernelIdeal.main_arg3)) (m ((c.tc : Thread Cert.ConvDxKernelIdeal.nD Cert.ConvDxKernelIdeal.τ).loc Cert.ConvDxKernelIdeal.main_arg4))).2.2.1 = (fun _ => 1#1)
    ∧ (Cert.Pre_convdx_finite.fn (F := Ideal) (m ((c.tc : Thread Cert.ConvDxKernelIdeal.nD Cert.ConvDxKernelIdeal.τ).loc Cert.ConvDxKernelIdeal.main_arg0)) (m ((c.tc : Thread Cert.ConvDxKernelIdeal.nD Cert.ConvDxKernelIdeal.τ).loc Cert.ConvDxKernelIdeal.main_arg1)) (m ((c.tc : Thread Cert.ConvDxKernelIdeal.nD Cert.ConvDxKernelIdeal.τ).loc Cert.ConvDxKernelIdeal.main_arg2)) (m ((c.tc : Thread Cert.ConvDxKernelIdeal.nD Cert.ConvDxKernelIdeal.τ).loc Cert.ConvDxKernelIdeal.main_arg3)) (m ((c.tc : Thread Cert.ConvDxKernelIdeal.nD Cert.ConvDxKernelIdeal.τ).loc Cert.ConvDxKernelIdeal.main_arg4))).2.2.2.1 = (fun _ => 1#1)
    ∧ (Cert.Pre_convdx_finite.fn (F := Ideal) (m ((c.tc : Thread Cert.ConvDxKernelIdeal.nD Cert.ConvDxKernelIdeal.τ).loc Cert.ConvDxKernelIdeal.main_arg0)) (m ((c.tc : Thread Cert.ConvDxKernelIdeal.nD Cert.ConvDxKernelIdeal.τ).loc Cert.ConvDxKernelIdeal.main_arg1)) (m ((c.tc : Thread Cert.ConvDxKernelIdeal.nD Cert.ConvDxKernelIdeal.τ).loc Cert.ConvDxKernelIdeal.main_arg2)) (m ((c.tc : Thread Cert.ConvDxKernelIdeal.nD Cert.ConvDxKernelIdeal.τ).loc Cert.ConvDxKernelIdeal.main_arg3)) (m ((c.tc : Thread Cert.ConvDxKernelIdeal.nD Cert.ConvDxKernelIdeal.τ).loc Cert.ConvDxKernelIdeal.main_arg4))).2.2.2.2 = (fun _ => 1#1)

def Pre_ConvDxReferenceIdeal (m : (ℓ : Loc Cert.ConvDxReferenceIdeal.nD Cert.ConvDxReferenceIdeal.τ Cert.ConvDxReferenceIdeal.sig) → Buf (Elt Ideal) ℓ) : Prop :=
  True

def Pre_ConvDxReferenceIdeal_convdx_finite [hPre_convdx_finite : Cert.Pre_convdx_finite.Facts] (m : (ℓ : Loc Cert.ConvDxReferenceIdeal.nD Cert.ConvDxReferenceIdeal.τ Cert.ConvDxReferenceIdeal.sig) → Buf (Elt Ideal) ℓ) : Prop :=
  ∀ c : Dev Cert.ConvDxReferenceIdeal.nD,
    (Cert.Pre_convdx_finite.fn (F := Ideal) (m ((c.tc : Thread Cert.ConvDxReferenceIdeal.nD Cert.ConvDxReferenceIdeal.τ).loc Cert.ConvDxReferenceIdeal.main_arg0)) (m ((c.tc : Thread Cert.ConvDxReferenceIdeal.nD Cert.ConvDxReferenceIdeal.τ).loc Cert.ConvDxReferenceIdeal.main_arg1)) (m ((c.tc : Thread Cert.ConvDxReferenceIdeal.nD Cert.ConvDxReferenceIdeal.τ).loc Cert.ConvDxReferenceIdeal.main_arg2)) (m ((c.tc : Thread Cert.ConvDxReferenceIdeal.nD Cert.ConvDxReferenceIdeal.τ).loc Cert.ConvDxReferenceIdeal.main_arg3)) (m ((c.tc : Thread Cert.ConvDxReferenceIdeal.nD Cert.ConvDxReferenceIdeal.τ).loc Cert.ConvDxReferenceIdeal.main_arg4))).1 = (fun _ => 1#1)
    ∧ (Cert.Pre_convdx_finite.fn (F := Ideal) (m ((c.tc : Thread Cert.ConvDxReferenceIdeal.nD Cert.ConvDxReferenceIdeal.τ).loc Cert.ConvDxReferenceIdeal.main_arg0)) (m ((c.tc : Thread Cert.ConvDxReferenceIdeal.nD Cert.ConvDxReferenceIdeal.τ).loc Cert.ConvDxReferenceIdeal.main_arg1)) (m ((c.tc : Thread Cert.ConvDxReferenceIdeal.nD Cert.ConvDxReferenceIdeal.τ).loc Cert.ConvDxReferenceIdeal.main_arg2)) (m ((c.tc : Thread Cert.ConvDxReferenceIdeal.nD Cert.ConvDxReferenceIdeal.τ).loc Cert.ConvDxReferenceIdeal.main_arg3)) (m ((c.tc : Thread Cert.ConvDxReferenceIdeal.nD Cert.ConvDxReferenceIdeal.τ).loc Cert.ConvDxReferenceIdeal.main_arg4))).2.1 = (fun _ => 1#1)
    ∧ (Cert.Pre_convdx_finite.fn (F := Ideal) (m ((c.tc : Thread Cert.ConvDxReferenceIdeal.nD Cert.ConvDxReferenceIdeal.τ).loc Cert.ConvDxReferenceIdeal.main_arg0)) (m ((c.tc : Thread Cert.ConvDxReferenceIdeal.nD Cert.ConvDxReferenceIdeal.τ).loc Cert.ConvDxReferenceIdeal.main_arg1)) (m ((c.tc : Thread Cert.ConvDxReferenceIdeal.nD Cert.ConvDxReferenceIdeal.τ).loc Cert.ConvDxReferenceIdeal.main_arg2)) (m ((c.tc : Thread Cert.ConvDxReferenceIdeal.nD Cert.ConvDxReferenceIdeal.τ).loc Cert.ConvDxReferenceIdeal.main_arg3)) (m ((c.tc : Thread Cert.ConvDxReferenceIdeal.nD Cert.ConvDxReferenceIdeal.τ).loc Cert.ConvDxReferenceIdeal.main_arg4))).2.2.1 = (fun _ => 1#1)
    ∧ (Cert.Pre_convdx_finite.fn (F := Ideal) (m ((c.tc : Thread Cert.ConvDxReferenceIdeal.nD Cert.ConvDxReferenceIdeal.τ).loc Cert.ConvDxReferenceIdeal.main_arg0)) (m ((c.tc : Thread Cert.ConvDxReferenceIdeal.nD Cert.ConvDxReferenceIdeal.τ).loc Cert.ConvDxReferenceIdeal.main_arg1)) (m ((c.tc : Thread Cert.ConvDxReferenceIdeal.nD Cert.ConvDxReferenceIdeal.τ).loc Cert.ConvDxReferenceIdeal.main_arg2)) (m ((c.tc : Thread Cert.ConvDxReferenceIdeal.nD Cert.ConvDxReferenceIdeal.τ).loc Cert.ConvDxReferenceIdeal.main_arg3)) (m ((c.tc : Thread Cert.ConvDxReferenceIdeal.nD Cert.ConvDxReferenceIdeal.τ).loc Cert.ConvDxReferenceIdeal.main_arg4))).2.2.2.1 = (fun _ => 1#1)
    ∧ (Cert.Pre_convdx_finite.fn (F := Ideal) (m ((c.tc : Thread Cert.ConvDxReferenceIdeal.nD Cert.ConvDxReferenceIdeal.τ).loc Cert.ConvDxReferenceIdeal.main_arg0)) (m ((c.tc : Thread Cert.ConvDxReferenceIdeal.nD Cert.ConvDxReferenceIdeal.τ).loc Cert.ConvDxReferenceIdeal.main_arg1)) (m ((c.tc : Thread Cert.ConvDxReferenceIdeal.nD Cert.ConvDxReferenceIdeal.τ).loc Cert.ConvDxReferenceIdeal.main_arg2)) (m ((c.tc : Thread Cert.ConvDxReferenceIdeal.nD Cert.ConvDxReferenceIdeal.τ).loc Cert.ConvDxReferenceIdeal.main_arg3)) (m ((c.tc : Thread Cert.ConvDxReferenceIdeal.nD Cert.ConvDxReferenceIdeal.τ).loc Cert.ConvDxReferenceIdeal.main_arg4))).2.2.2.2 = (fun _ => 1#1)

def Pre_EvenDxKernel (m : (ℓ : Loc Cert.EvenDxKernel.nD Cert.EvenDxKernel.τ Cert.EvenDxKernel.sig) → Buf (Elt Bits) ℓ) : Prop :=
  True

def Pre_EvenDxKernelIdeal (m : (ℓ : Loc Cert.EvenDxKernelIdeal.nD Cert.EvenDxKernelIdeal.τ Cert.EvenDxKernelIdeal.sig) → Buf (Elt Ideal) ℓ) : Prop :=
  True

def Pre_EvenDxKernelIdeal_evendx_finite [hPre_evendx_finite : Cert.Pre_evendx_finite.Facts] (m : (ℓ : Loc Cert.EvenDxKernelIdeal.nD Cert.EvenDxKernelIdeal.τ Cert.EvenDxKernelIdeal.sig) → Buf (Elt Ideal) ℓ) : Prop :=
  ∀ c : Dev Cert.EvenDxKernelIdeal.nD,
    (Cert.Pre_evendx_finite.fn (F := Ideal) (m ((c.tc : Thread Cert.EvenDxKernelIdeal.nD Cert.EvenDxKernelIdeal.τ).loc Cert.EvenDxKernelIdeal.main_arg0)) (m ((c.tc : Thread Cert.EvenDxKernelIdeal.nD Cert.EvenDxKernelIdeal.τ).loc Cert.EvenDxKernelIdeal.main_arg1)) (m ((c.tc : Thread Cert.EvenDxKernelIdeal.nD Cert.EvenDxKernelIdeal.τ).loc Cert.EvenDxKernelIdeal.main_arg2)) (m ((c.tc : Thread Cert.EvenDxKernelIdeal.nD Cert.EvenDxKernelIdeal.τ).loc Cert.EvenDxKernelIdeal.main_arg3)) (m ((c.tc : Thread Cert.EvenDxKernelIdeal.nD Cert.EvenDxKernelIdeal.τ).loc Cert.EvenDxKernelIdeal.main_arg4))).1 = (fun _ => 1#1)
    ∧ (Cert.Pre_evendx_finite.fn (F := Ideal) (m ((c.tc : Thread Cert.EvenDxKernelIdeal.nD Cert.EvenDxKernelIdeal.τ).loc Cert.EvenDxKernelIdeal.main_arg0)) (m ((c.tc : Thread Cert.EvenDxKernelIdeal.nD Cert.EvenDxKernelIdeal.τ).loc Cert.EvenDxKernelIdeal.main_arg1)) (m ((c.tc : Thread Cert.EvenDxKernelIdeal.nD Cert.EvenDxKernelIdeal.τ).loc Cert.EvenDxKernelIdeal.main_arg2)) (m ((c.tc : Thread Cert.EvenDxKernelIdeal.nD Cert.EvenDxKernelIdeal.τ).loc Cert.EvenDxKernelIdeal.main_arg3)) (m ((c.tc : Thread Cert.EvenDxKernelIdeal.nD Cert.EvenDxKernelIdeal.τ).loc Cert.EvenDxKernelIdeal.main_arg4))).2.1 = (fun _ => 1#1)
    ∧ (Cert.Pre_evendx_finite.fn (F := Ideal) (m ((c.tc : Thread Cert.EvenDxKernelIdeal.nD Cert.EvenDxKernelIdeal.τ).loc Cert.EvenDxKernelIdeal.main_arg0)) (m ((c.tc : Thread Cert.EvenDxKernelIdeal.nD Cert.EvenDxKernelIdeal.τ).loc Cert.EvenDxKernelIdeal.main_arg1)) (m ((c.tc : Thread Cert.EvenDxKernelIdeal.nD Cert.EvenDxKernelIdeal.τ).loc Cert.EvenDxKernelIdeal.main_arg2)) (m ((c.tc : Thread Cert.EvenDxKernelIdeal.nD Cert.EvenDxKernelIdeal.τ).loc Cert.EvenDxKernelIdeal.main_arg3)) (m ((c.tc : Thread Cert.EvenDxKernelIdeal.nD Cert.EvenDxKernelIdeal.τ).loc Cert.EvenDxKernelIdeal.main_arg4))).2.2.1 = (fun _ => 1#1)
    ∧ (Cert.Pre_evendx_finite.fn (F := Ideal) (m ((c.tc : Thread Cert.EvenDxKernelIdeal.nD Cert.EvenDxKernelIdeal.τ).loc Cert.EvenDxKernelIdeal.main_arg0)) (m ((c.tc : Thread Cert.EvenDxKernelIdeal.nD Cert.EvenDxKernelIdeal.τ).loc Cert.EvenDxKernelIdeal.main_arg1)) (m ((c.tc : Thread Cert.EvenDxKernelIdeal.nD Cert.EvenDxKernelIdeal.τ).loc Cert.EvenDxKernelIdeal.main_arg2)) (m ((c.tc : Thread Cert.EvenDxKernelIdeal.nD Cert.EvenDxKernelIdeal.τ).loc Cert.EvenDxKernelIdeal.main_arg3)) (m ((c.tc : Thread Cert.EvenDxKernelIdeal.nD Cert.EvenDxKernelIdeal.τ).loc Cert.EvenDxKernelIdeal.main_arg4))).2.2.2.1 = (fun _ => 1#1)
    ∧ (Cert.Pre_evendx_finite.fn (F := Ideal) (m ((c.tc : Thread Cert.EvenDxKernelIdeal.nD Cert.EvenDxKernelIdeal.τ).loc Cert.EvenDxKernelIdeal.main_arg0)) (m ((c.tc : Thread Cert.EvenDxKernelIdeal.nD Cert.EvenDxKernelIdeal.τ).loc Cert.EvenDxKernelIdeal.main_arg1)) (m ((c.tc : Thread Cert.EvenDxKernelIdeal.nD Cert.EvenDxKernelIdeal.τ).loc Cert.EvenDxKernelIdeal.main_arg2)) (m ((c.tc : Thread Cert.EvenDxKernelIdeal.nD Cert.EvenDxKernelIdeal.τ).loc Cert.EvenDxKernelIdeal.main_arg3)) (m ((c.tc : Thread Cert.EvenDxKernelIdeal.nD Cert.EvenDxKernelIdeal.τ).loc Cert.EvenDxKernelIdeal.main_arg4))).2.2.2.2 = (fun _ => 1#1)

def Pre_EvenDxReferenceIdeal (m : (ℓ : Loc Cert.EvenDxReferenceIdeal.nD Cert.EvenDxReferenceIdeal.τ Cert.EvenDxReferenceIdeal.sig) → Buf (Elt Ideal) ℓ) : Prop :=
  True

def Pre_EvenDxReferenceIdeal_evendx_finite [hPre_evendx_finite : Cert.Pre_evendx_finite.Facts] (m : (ℓ : Loc Cert.EvenDxReferenceIdeal.nD Cert.EvenDxReferenceIdeal.τ Cert.EvenDxReferenceIdeal.sig) → Buf (Elt Ideal) ℓ) : Prop :=
  ∀ c : Dev Cert.EvenDxReferenceIdeal.nD,
    (Cert.Pre_evendx_finite.fn (F := Ideal) (m ((c.tc : Thread Cert.EvenDxReferenceIdeal.nD Cert.EvenDxReferenceIdeal.τ).loc Cert.EvenDxReferenceIdeal.main_arg0)) (m ((c.tc : Thread Cert.EvenDxReferenceIdeal.nD Cert.EvenDxReferenceIdeal.τ).loc Cert.EvenDxReferenceIdeal.main_arg1)) (m ((c.tc : Thread Cert.EvenDxReferenceIdeal.nD Cert.EvenDxReferenceIdeal.τ).loc Cert.EvenDxReferenceIdeal.main_arg2)) (m ((c.tc : Thread Cert.EvenDxReferenceIdeal.nD Cert.EvenDxReferenceIdeal.τ).loc Cert.EvenDxReferenceIdeal.main_arg3)) (m ((c.tc : Thread Cert.EvenDxReferenceIdeal.nD Cert.EvenDxReferenceIdeal.τ).loc Cert.EvenDxReferenceIdeal.main_arg4))).1 = (fun _ => 1#1)
    ∧ (Cert.Pre_evendx_finite.fn (F := Ideal) (m ((c.tc : Thread Cert.EvenDxReferenceIdeal.nD Cert.EvenDxReferenceIdeal.τ).loc Cert.EvenDxReferenceIdeal.main_arg0)) (m ((c.tc : Thread Cert.EvenDxReferenceIdeal.nD Cert.EvenDxReferenceIdeal.τ).loc Cert.EvenDxReferenceIdeal.main_arg1)) (m ((c.tc : Thread Cert.EvenDxReferenceIdeal.nD Cert.EvenDxReferenceIdeal.τ).loc Cert.EvenDxReferenceIdeal.main_arg2)) (m ((c.tc : Thread Cert.EvenDxReferenceIdeal.nD Cert.EvenDxReferenceIdeal.τ).loc Cert.EvenDxReferenceIdeal.main_arg3)) (m ((c.tc : Thread Cert.EvenDxReferenceIdeal.nD Cert.EvenDxReferenceIdeal.τ).loc Cert.EvenDxReferenceIdeal.main_arg4))).2.1 = (fun _ => 1#1)
    ∧ (Cert.Pre_evendx_finite.fn (F := Ideal) (m ((c.tc : Thread Cert.EvenDxReferenceIdeal.nD Cert.EvenDxReferenceIdeal.τ).loc Cert.EvenDxReferenceIdeal.main_arg0)) (m ((c.tc : Thread Cert.EvenDxReferenceIdeal.nD Cert.EvenDxReferenceIdeal.τ).loc Cert.EvenDxReferenceIdeal.main_arg1)) (m ((c.tc : Thread Cert.EvenDxReferenceIdeal.nD Cert.EvenDxReferenceIdeal.τ).loc Cert.EvenDxReferenceIdeal.main_arg2)) (m ((c.tc : Thread Cert.EvenDxReferenceIdeal.nD Cert.EvenDxReferenceIdeal.τ).loc Cert.EvenDxReferenceIdeal.main_arg3)) (m ((c.tc : Thread Cert.EvenDxReferenceIdeal.nD Cert.EvenDxReferenceIdeal.τ).loc Cert.EvenDxReferenceIdeal.main_arg4))).2.2.1 = (fun _ => 1#1)
    ∧ (Cert.Pre_evendx_finite.fn (F := Ideal) (m ((c.tc : Thread Cert.EvenDxReferenceIdeal.nD Cert.EvenDxReferenceIdeal.τ).loc Cert.EvenDxReferenceIdeal.main_arg0)) (m ((c.tc : Thread Cert.EvenDxReferenceIdeal.nD Cert.EvenDxReferenceIdeal.τ).loc Cert.EvenDxReferenceIdeal.main_arg1)) (m ((c.tc : Thread Cert.EvenDxReferenceIdeal.nD Cert.EvenDxReferenceIdeal.τ).loc Cert.EvenDxReferenceIdeal.main_arg2)) (m ((c.tc : Thread Cert.EvenDxReferenceIdeal.nD Cert.EvenDxReferenceIdeal.τ).loc Cert.EvenDxReferenceIdeal.main_arg3)) (m ((c.tc : Thread Cert.EvenDxReferenceIdeal.nD Cert.EvenDxReferenceIdeal.τ).loc Cert.EvenDxReferenceIdeal.main_arg4))).2.2.2.1 = (fun _ => 1#1)
    ∧ (Cert.Pre_evendx_finite.fn (F := Ideal) (m ((c.tc : Thread Cert.EvenDxReferenceIdeal.nD Cert.EvenDxReferenceIdeal.τ).loc Cert.EvenDxReferenceIdeal.main_arg0)) (m ((c.tc : Thread Cert.EvenDxReferenceIdeal.nD Cert.EvenDxReferenceIdeal.τ).loc Cert.EvenDxReferenceIdeal.main_arg1)) (m ((c.tc : Thread Cert.EvenDxReferenceIdeal.nD Cert.EvenDxReferenceIdeal.τ).loc Cert.EvenDxReferenceIdeal.main_arg2)) (m ((c.tc : Thread Cert.EvenDxReferenceIdeal.nD Cert.EvenDxReferenceIdeal.τ).loc Cert.EvenDxReferenceIdeal.main_arg3)) (m ((c.tc : Thread Cert.EvenDxReferenceIdeal.nD Cert.EvenDxReferenceIdeal.τ).loc Cert.EvenDxReferenceIdeal.main_arg4))).2.2.2.2 = (fun _ => 1#1)

def Pre_FfnDxKernel (m : (ℓ : Loc Cert.FfnDxKernel.nD Cert.FfnDxKernel.τ Cert.FfnDxKernel.sig) → Buf (Elt Bits) ℓ) : Prop :=
  True

def Pre_FfnDxKernelIdeal (m : (ℓ : Loc Cert.FfnDxKernelIdeal.nD Cert.FfnDxKernelIdeal.τ Cert.FfnDxKernelIdeal.sig) → Buf (Elt Ideal) ℓ) : Prop :=
  True

def Pre_FfnDxKernelIdeal_ffndx_finite [hPre_ffndx_finite : Cert.Pre_ffndx_finite.Facts] (m : (ℓ : Loc Cert.FfnDxKernelIdeal.nD Cert.FfnDxKernelIdeal.τ Cert.FfnDxKernelIdeal.sig) → Buf (Elt Ideal) ℓ) : Prop :=
  ∀ c : Dev Cert.FfnDxKernelIdeal.nD,
    (Cert.Pre_ffndx_finite.fn (F := Ideal) (m ((c.tc : Thread Cert.FfnDxKernelIdeal.nD Cert.FfnDxKernelIdeal.τ).loc Cert.FfnDxKernelIdeal.main_arg0)) (m ((c.tc : Thread Cert.FfnDxKernelIdeal.nD Cert.FfnDxKernelIdeal.τ).loc Cert.FfnDxKernelIdeal.main_arg1)) (m ((c.tc : Thread Cert.FfnDxKernelIdeal.nD Cert.FfnDxKernelIdeal.τ).loc Cert.FfnDxKernelIdeal.main_arg2)) (m ((c.tc : Thread Cert.FfnDxKernelIdeal.nD Cert.FfnDxKernelIdeal.τ).loc Cert.FfnDxKernelIdeal.main_arg3)) (m ((c.tc : Thread Cert.FfnDxKernelIdeal.nD Cert.FfnDxKernelIdeal.τ).loc Cert.FfnDxKernelIdeal.main_arg4)) (m ((c.tc : Thread Cert.FfnDxKernelIdeal.nD Cert.FfnDxKernelIdeal.τ).loc Cert.FfnDxKernelIdeal.main_arg5)) (m ((c.tc : Thread Cert.FfnDxKernelIdeal.nD Cert.FfnDxKernelIdeal.τ).loc Cert.FfnDxKernelIdeal.main_arg6))).1 = (fun _ => 1#1)
    ∧ (Cert.Pre_ffndx_finite.fn (F := Ideal) (m ((c.tc : Thread Cert.FfnDxKernelIdeal.nD Cert.FfnDxKernelIdeal.τ).loc Cert.FfnDxKernelIdeal.main_arg0)) (m ((c.tc : Thread Cert.FfnDxKernelIdeal.nD Cert.FfnDxKernelIdeal.τ).loc Cert.FfnDxKernelIdeal.main_arg1)) (m ((c.tc : Thread Cert.FfnDxKernelIdeal.nD Cert.FfnDxKernelIdeal.τ).loc Cert.FfnDxKernelIdeal.main_arg2)) (m ((c.tc : Thread Cert.FfnDxKernelIdeal.nD Cert.FfnDxKernelIdeal.τ).loc Cert.FfnDxKernelIdeal.main_arg3)) (m ((c.tc : Thread Cert.FfnDxKernelIdeal.nD Cert.FfnDxKernelIdeal.τ).loc Cert.FfnDxKernelIdeal.main_arg4)) (m ((c.tc : Thread Cert.FfnDxKernelIdeal.nD Cert.FfnDxKernelIdeal.τ).loc Cert.FfnDxKernelIdeal.main_arg5)) (m ((c.tc : Thread Cert.FfnDxKernelIdeal.nD Cert.FfnDxKernelIdeal.τ).loc Cert.FfnDxKernelIdeal.main_arg6))).2.1 = (fun _ => 1#1)
    ∧ (Cert.Pre_ffndx_finite.fn (F := Ideal) (m ((c.tc : Thread Cert.FfnDxKernelIdeal.nD Cert.FfnDxKernelIdeal.τ).loc Cert.FfnDxKernelIdeal.main_arg0)) (m ((c.tc : Thread Cert.FfnDxKernelIdeal.nD Cert.FfnDxKernelIdeal.τ).loc Cert.FfnDxKernelIdeal.main_arg1)) (m ((c.tc : Thread Cert.FfnDxKernelIdeal.nD Cert.FfnDxKernelIdeal.τ).loc Cert.FfnDxKernelIdeal.main_arg2)) (m ((c.tc : Thread Cert.FfnDxKernelIdeal.nD Cert.FfnDxKernelIdeal.τ).loc Cert.FfnDxKernelIdeal.main_arg3)) (m ((c.tc : Thread Cert.FfnDxKernelIdeal.nD Cert.FfnDxKernelIdeal.τ).loc Cert.FfnDxKernelIdeal.main_arg4)) (m ((c.tc : Thread Cert.FfnDxKernelIdeal.nD Cert.FfnDxKernelIdeal.τ).loc Cert.FfnDxKernelIdeal.main_arg5)) (m ((c.tc : Thread Cert.FfnDxKernelIdeal.nD Cert.FfnDxKernelIdeal.τ).loc Cert.FfnDxKernelIdeal.main_arg6))).2.2.1 = (fun _ => 1#1)
    ∧ (Cert.Pre_ffndx_finite.fn (F := Ideal) (m ((c.tc : Thread Cert.FfnDxKernelIdeal.nD Cert.FfnDxKernelIdeal.τ).loc Cert.FfnDxKernelIdeal.main_arg0)) (m ((c.tc : Thread Cert.FfnDxKernelIdeal.nD Cert.FfnDxKernelIdeal.τ).loc Cert.FfnDxKernelIdeal.main_arg1)) (m ((c.tc : Thread Cert.FfnDxKernelIdeal.nD Cert.FfnDxKernelIdeal.τ).loc Cert.FfnDxKernelIdeal.main_arg2)) (m ((c.tc : Thread Cert.FfnDxKernelIdeal.nD Cert.FfnDxKernelIdeal.τ).loc Cert.FfnDxKernelIdeal.main_arg3)) (m ((c.tc : Thread Cert.FfnDxKernelIdeal.nD Cert.FfnDxKernelIdeal.τ).loc Cert.FfnDxKernelIdeal.main_arg4)) (m ((c.tc : Thread Cert.FfnDxKernelIdeal.nD Cert.FfnDxKernelIdeal.τ).loc Cert.FfnDxKernelIdeal.main_arg5)) (m ((c.tc : Thread Cert.FfnDxKernelIdeal.nD Cert.FfnDxKernelIdeal.τ).loc Cert.FfnDxKernelIdeal.main_arg6))).2.2.2.1 = (fun _ => 1#1)
    ∧ (Cert.Pre_ffndx_finite.fn (F := Ideal) (m ((c.tc : Thread Cert.FfnDxKernelIdeal.nD Cert.FfnDxKernelIdeal.τ).loc Cert.FfnDxKernelIdeal.main_arg0)) (m ((c.tc : Thread Cert.FfnDxKernelIdeal.nD Cert.FfnDxKernelIdeal.τ).loc Cert.FfnDxKernelIdeal.main_arg1)) (m ((c.tc : Thread Cert.FfnDxKernelIdeal.nD Cert.FfnDxKernelIdeal.τ).loc Cert.FfnDxKernelIdeal.main_arg2)) (m ((c.tc : Thread Cert.FfnDxKernelIdeal.nD Cert.FfnDxKernelIdeal.τ).loc Cert.FfnDxKernelIdeal.main_arg3)) (m ((c.tc : Thread Cert.FfnDxKernelIdeal.nD Cert.FfnDxKernelIdeal.τ).loc Cert.FfnDxKernelIdeal.main_arg4)) (m ((c.tc : Thread Cert.FfnDxKernelIdeal.nD Cert.FfnDxKernelIdeal.τ).loc Cert.FfnDxKernelIdeal.main_arg5)) (m ((c.tc : Thread Cert.FfnDxKernelIdeal.nD Cert.FfnDxKernelIdeal.τ).loc Cert.FfnDxKernelIdeal.main_arg6))).2.2.2.2.1 = (fun _ => 1#1)
    ∧ (Cert.Pre_ffndx_finite.fn (F := Ideal) (m ((c.tc : Thread Cert.FfnDxKernelIdeal.nD Cert.FfnDxKernelIdeal.τ).loc Cert.FfnDxKernelIdeal.main_arg0)) (m ((c.tc : Thread Cert.FfnDxKernelIdeal.nD Cert.FfnDxKernelIdeal.τ).loc Cert.FfnDxKernelIdeal.main_arg1)) (m ((c.tc : Thread Cert.FfnDxKernelIdeal.nD Cert.FfnDxKernelIdeal.τ).loc Cert.FfnDxKernelIdeal.main_arg2)) (m ((c.tc : Thread Cert.FfnDxKernelIdeal.nD Cert.FfnDxKernelIdeal.τ).loc Cert.FfnDxKernelIdeal.main_arg3)) (m ((c.tc : Thread Cert.FfnDxKernelIdeal.nD Cert.FfnDxKernelIdeal.τ).loc Cert.FfnDxKernelIdeal.main_arg4)) (m ((c.tc : Thread Cert.FfnDxKernelIdeal.nD Cert.FfnDxKernelIdeal.τ).loc Cert.FfnDxKernelIdeal.main_arg5)) (m ((c.tc : Thread Cert.FfnDxKernelIdeal.nD Cert.FfnDxKernelIdeal.τ).loc Cert.FfnDxKernelIdeal.main_arg6))).2.2.2.2.2.1 = (fun _ => 1#1)
    ∧ (Cert.Pre_ffndx_finite.fn (F := Ideal) (m ((c.tc : Thread Cert.FfnDxKernelIdeal.nD Cert.FfnDxKernelIdeal.τ).loc Cert.FfnDxKernelIdeal.main_arg0)) (m ((c.tc : Thread Cert.FfnDxKernelIdeal.nD Cert.FfnDxKernelIdeal.τ).loc Cert.FfnDxKernelIdeal.main_arg1)) (m ((c.tc : Thread Cert.FfnDxKernelIdeal.nD Cert.FfnDxKernelIdeal.τ).loc Cert.FfnDxKernelIdeal.main_arg2)) (m ((c.tc : Thread Cert.FfnDxKernelIdeal.nD Cert.FfnDxKernelIdeal.τ).loc Cert.FfnDxKernelIdeal.main_arg3)) (m ((c.tc : Thread Cert.FfnDxKernelIdeal.nD Cert.FfnDxKernelIdeal.τ).loc Cert.FfnDxKernelIdeal.main_arg4)) (m ((c.tc : Thread Cert.FfnDxKernelIdeal.nD Cert.FfnDxKernelIdeal.τ).loc Cert.FfnDxKernelIdeal.main_arg5)) (m ((c.tc : Thread Cert.FfnDxKernelIdeal.nD Cert.FfnDxKernelIdeal.τ).loc Cert.FfnDxKernelIdeal.main_arg6))).2.2.2.2.2.2 = (fun _ => 1#1)

def Pre_FfnDxReferenceIdeal (m : (ℓ : Loc Cert.FfnDxReferenceIdeal.nD Cert.FfnDxReferenceIdeal.τ Cert.FfnDxReferenceIdeal.sig) → Buf (Elt Ideal) ℓ) : Prop :=
  True

def Pre_FfnDxReferenceIdeal_ffndx_finite [hPre_ffndx_finite : Cert.Pre_ffndx_finite.Facts] (m : (ℓ : Loc Cert.FfnDxReferenceIdeal.nD Cert.FfnDxReferenceIdeal.τ Cert.FfnDxReferenceIdeal.sig) → Buf (Elt Ideal) ℓ) : Prop :=
  ∀ c : Dev Cert.FfnDxReferenceIdeal.nD,
    (Cert.Pre_ffndx_finite.fn (F := Ideal) (m ((c.tc : Thread Cert.FfnDxReferenceIdeal.nD Cert.FfnDxReferenceIdeal.τ).loc Cert.FfnDxReferenceIdeal.main_arg0)) (m ((c.tc : Thread Cert.FfnDxReferenceIdeal.nD Cert.FfnDxReferenceIdeal.τ).loc Cert.FfnDxReferenceIdeal.main_arg1)) (m ((c.tc : Thread Cert.FfnDxReferenceIdeal.nD Cert.FfnDxReferenceIdeal.τ).loc Cert.FfnDxReferenceIdeal.main_arg2)) (m ((c.tc : Thread Cert.FfnDxReferenceIdeal.nD Cert.FfnDxReferenceIdeal.τ).loc Cert.FfnDxReferenceIdeal.main_arg3)) (m ((c.tc : Thread Cert.FfnDxReferenceIdeal.nD Cert.FfnDxReferenceIdeal.τ).loc Cert.FfnDxReferenceIdeal.main_arg4)) (m ((c.tc : Thread Cert.FfnDxReferenceIdeal.nD Cert.FfnDxReferenceIdeal.τ).loc Cert.FfnDxReferenceIdeal.main_arg5)) (m ((c.tc : Thread Cert.FfnDxReferenceIdeal.nD Cert.FfnDxReferenceIdeal.τ).loc Cert.FfnDxReferenceIdeal.main_arg6))).1 = (fun _ => 1#1)
    ∧ (Cert.Pre_ffndx_finite.fn (F := Ideal) (m ((c.tc : Thread Cert.FfnDxReferenceIdeal.nD Cert.FfnDxReferenceIdeal.τ).loc Cert.FfnDxReferenceIdeal.main_arg0)) (m ((c.tc : Thread Cert.FfnDxReferenceIdeal.nD Cert.FfnDxReferenceIdeal.τ).loc Cert.FfnDxReferenceIdeal.main_arg1)) (m ((c.tc : Thread Cert.FfnDxReferenceIdeal.nD Cert.FfnDxReferenceIdeal.τ).loc Cert.FfnDxReferenceIdeal.main_arg2)) (m ((c.tc : Thread Cert.FfnDxReferenceIdeal.nD Cert.FfnDxReferenceIdeal.τ).loc Cert.FfnDxReferenceIdeal.main_arg3)) (m ((c.tc : Thread Cert.FfnDxReferenceIdeal.nD Cert.FfnDxReferenceIdeal.τ).loc Cert.FfnDxReferenceIdeal.main_arg4)) (m ((c.tc : Thread Cert.FfnDxReferenceIdeal.nD Cert.FfnDxReferenceIdeal.τ).loc Cert.FfnDxReferenceIdeal.main_arg5)) (m ((c.tc : Thread Cert.FfnDxReferenceIdeal.nD Cert.FfnDxReferenceIdeal.τ).loc Cert.FfnDxReferenceIdeal.main_arg6))).2.1 = (fun _ => 1#1)
    ∧ (Cert.Pre_ffndx_finite.fn (F := Ideal) (m ((c.tc : Thread Cert.FfnDxReferenceIdeal.nD Cert.FfnDxReferenceIdeal.τ).loc Cert.FfnDxReferenceIdeal.main_arg0)) (m ((c.tc : Thread Cert.FfnDxReferenceIdeal.nD Cert.FfnDxReferenceIdeal.τ).loc Cert.FfnDxReferenceIdeal.main_arg1)) (m ((c.tc : Thread Cert.FfnDxReferenceIdeal.nD Cert.FfnDxReferenceIdeal.τ).loc Cert.FfnDxReferenceIdeal.main_arg2)) (m ((c.tc : Thread Cert.FfnDxReferenceIdeal.nD Cert.FfnDxReferenceIdeal.τ).loc Cert.FfnDxReferenceIdeal.main_arg3)) (m ((c.tc : Thread Cert.FfnDxReferenceIdeal.nD Cert.FfnDxReferenceIdeal.τ).loc Cert.FfnDxReferenceIdeal.main_arg4)) (m ((c.tc : Thread Cert.FfnDxReferenceIdeal.nD Cert.FfnDxReferenceIdeal.τ).loc Cert.FfnDxReferenceIdeal.main_arg5)) (m ((c.tc : Thread Cert.FfnDxReferenceIdeal.nD Cert.FfnDxReferenceIdeal.τ).loc Cert.FfnDxReferenceIdeal.main_arg6))).2.2.1 = (fun _ => 1#1)
    ∧ (Cert.Pre_ffndx_finite.fn (F := Ideal) (m ((c.tc : Thread Cert.FfnDxReferenceIdeal.nD Cert.FfnDxReferenceIdeal.τ).loc Cert.FfnDxReferenceIdeal.main_arg0)) (m ((c.tc : Thread Cert.FfnDxReferenceIdeal.nD Cert.FfnDxReferenceIdeal.τ).loc Cert.FfnDxReferenceIdeal.main_arg1)) (m ((c.tc : Thread Cert.FfnDxReferenceIdeal.nD Cert.FfnDxReferenceIdeal.τ).loc Cert.FfnDxReferenceIdeal.main_arg2)) (m ((c.tc : Thread Cert.FfnDxReferenceIdeal.nD Cert.FfnDxReferenceIdeal.τ).loc Cert.FfnDxReferenceIdeal.main_arg3)) (m ((c.tc : Thread Cert.FfnDxReferenceIdeal.nD Cert.FfnDxReferenceIdeal.τ).loc Cert.FfnDxReferenceIdeal.main_arg4)) (m ((c.tc : Thread Cert.FfnDxReferenceIdeal.nD Cert.FfnDxReferenceIdeal.τ).loc Cert.FfnDxReferenceIdeal.main_arg5)) (m ((c.tc : Thread Cert.FfnDxReferenceIdeal.nD Cert.FfnDxReferenceIdeal.τ).loc Cert.FfnDxReferenceIdeal.main_arg6))).2.2.2.1 = (fun _ => 1#1)
    ∧ (Cert.Pre_ffndx_finite.fn (F := Ideal) (m ((c.tc : Thread Cert.FfnDxReferenceIdeal.nD Cert.FfnDxReferenceIdeal.τ).loc Cert.FfnDxReferenceIdeal.main_arg0)) (m ((c.tc : Thread Cert.FfnDxReferenceIdeal.nD Cert.FfnDxReferenceIdeal.τ).loc Cert.FfnDxReferenceIdeal.main_arg1)) (m ((c.tc : Thread Cert.FfnDxReferenceIdeal.nD Cert.FfnDxReferenceIdeal.τ).loc Cert.FfnDxReferenceIdeal.main_arg2)) (m ((c.tc : Thread Cert.FfnDxReferenceIdeal.nD Cert.FfnDxReferenceIdeal.τ).loc Cert.FfnDxReferenceIdeal.main_arg3)) (m ((c.tc : Thread Cert.FfnDxReferenceIdeal.nD Cert.FfnDxReferenceIdeal.τ).loc Cert.FfnDxReferenceIdeal.main_arg4)) (m ((c.tc : Thread Cert.FfnDxReferenceIdeal.nD Cert.FfnDxReferenceIdeal.τ).loc Cert.FfnDxReferenceIdeal.main_arg5)) (m ((c.tc : Thread Cert.FfnDxReferenceIdeal.nD Cert.FfnDxReferenceIdeal.τ).loc Cert.FfnDxReferenceIdeal.main_arg6))).2.2.2.2.1 = (fun _ => 1#1)
    ∧ (Cert.Pre_ffndx_finite.fn (F := Ideal) (m ((c.tc : Thread Cert.FfnDxReferenceIdeal.nD Cert.FfnDxReferenceIdeal.τ).loc Cert.FfnDxReferenceIdeal.main_arg0)) (m ((c.tc : Thread Cert.FfnDxReferenceIdeal.nD Cert.FfnDxReferenceIdeal.τ).loc Cert.FfnDxReferenceIdeal.main_arg1)) (m ((c.tc : Thread Cert.FfnDxReferenceIdeal.nD Cert.FfnDxReferenceIdeal.τ).loc Cert.FfnDxReferenceIdeal.main_arg2)) (m ((c.tc : Thread Cert.FfnDxReferenceIdeal.nD Cert.FfnDxReferenceIdeal.τ).loc Cert.FfnDxReferenceIdeal.main_arg3)) (m ((c.tc : Thread Cert.FfnDxReferenceIdeal.nD Cert.FfnDxReferenceIdeal.τ).loc Cert.FfnDxReferenceIdeal.main_arg4)) (m ((c.tc : Thread Cert.FfnDxReferenceIdeal.nD Cert.FfnDxReferenceIdeal.τ).loc Cert.FfnDxReferenceIdeal.main_arg5)) (m ((c.tc : Thread Cert.FfnDxReferenceIdeal.nD Cert.FfnDxReferenceIdeal.τ).loc Cert.FfnDxReferenceIdeal.main_arg6))).2.2.2.2.2.1 = (fun _ => 1#1)
    ∧ (Cert.Pre_ffndx_finite.fn (F := Ideal) (m ((c.tc : Thread Cert.FfnDxReferenceIdeal.nD Cert.FfnDxReferenceIdeal.τ).loc Cert.FfnDxReferenceIdeal.main_arg0)) (m ((c.tc : Thread Cert.FfnDxReferenceIdeal.nD Cert.FfnDxReferenceIdeal.τ).loc Cert.FfnDxReferenceIdeal.main_arg1)) (m ((c.tc : Thread Cert.FfnDxReferenceIdeal.nD Cert.FfnDxReferenceIdeal.τ).loc Cert.FfnDxReferenceIdeal.main_arg2)) (m ((c.tc : Thread Cert.FfnDxReferenceIdeal.nD Cert.FfnDxReferenceIdeal.τ).loc Cert.FfnDxReferenceIdeal.main_arg3)) (m ((c.tc : Thread Cert.FfnDxReferenceIdeal.nD Cert.FfnDxReferenceIdeal.τ).loc Cert.FfnDxReferenceIdeal.main_arg4)) (m ((c.tc : Thread Cert.FfnDxReferenceIdeal.nD Cert.FfnDxReferenceIdeal.τ).loc Cert.FfnDxReferenceIdeal.main_arg5)) (m ((c.tc : Thread Cert.FfnDxReferenceIdeal.nD Cert.FfnDxReferenceIdeal.τ).loc Cert.FfnDxReferenceIdeal.main_arg6))).2.2.2.2.2.2 = (fun _ => 1#1)

def Pre_AttnKernel (m : (ℓ : Loc Cert.AttnKernel.nD Cert.AttnKernel.τ Cert.AttnKernel.sig) → Buf (Elt Bits) ℓ) : Prop :=
  True

def Pre_AttnKernelIdeal (m : (ℓ : Loc Cert.AttnKernelIdeal.nD Cert.AttnKernelIdeal.τ Cert.AttnKernelIdeal.sig) → Buf (Elt Ideal) ℓ) : Prop :=
  True

def Pre_AttnKernelIdeal_attn_finite [hPre_attn_finite : Cert.Pre_attn_finite.Facts] (m : (ℓ : Loc Cert.AttnKernelIdeal.nD Cert.AttnKernelIdeal.τ Cert.AttnKernelIdeal.sig) → Buf (Elt Ideal) ℓ) : Prop :=
  ∀ c : Dev Cert.AttnKernelIdeal.nD,
    (Cert.Pre_attn_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3)) (m ((c.tc : Thread Cert.AttnKernelIdeal.nD Cert.AttnKernelIdeal.τ).loc Cert.AttnKernelIdeal.main_arg4)) (m ((c.tc : Thread Cert.AttnKernelIdeal.nD Cert.AttnKernelIdeal.τ).loc Cert.AttnKernelIdeal.main_arg5))).1 = (fun _ => 1#1)
    ∧ (Cert.Pre_attn_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3)) (m ((c.tc : Thread Cert.AttnKernelIdeal.nD Cert.AttnKernelIdeal.τ).loc Cert.AttnKernelIdeal.main_arg4)) (m ((c.tc : Thread Cert.AttnKernelIdeal.nD Cert.AttnKernelIdeal.τ).loc Cert.AttnKernelIdeal.main_arg5))).2.1 = (fun _ => 1#1)
    ∧ (Cert.Pre_attn_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3)) (m ((c.tc : Thread Cert.AttnKernelIdeal.nD Cert.AttnKernelIdeal.τ).loc Cert.AttnKernelIdeal.main_arg4)) (m ((c.tc : Thread Cert.AttnKernelIdeal.nD Cert.AttnKernelIdeal.τ).loc Cert.AttnKernelIdeal.main_arg5))).2.2.1 = (fun _ => 1#1)
    ∧ (Cert.Pre_attn_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3)) (m ((c.tc : Thread Cert.AttnKernelIdeal.nD Cert.AttnKernelIdeal.τ).loc Cert.AttnKernelIdeal.main_arg4)) (m ((c.tc : Thread Cert.AttnKernelIdeal.nD Cert.AttnKernelIdeal.τ).loc Cert.AttnKernelIdeal.main_arg5))).2.2.2.1 = (fun _ => 1#1)
    ∧ (Cert.Pre_attn_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3)) (m ((c.tc : Thread Cert.AttnKernelIdeal.nD Cert.AttnKernelIdeal.τ).loc Cert.AttnKernelIdeal.main_arg4)) (m ((c.tc : Thread Cert.AttnKernelIdeal.nD Cert.AttnKernelIdeal.τ).loc Cert.AttnKernelIdeal.main_arg5))).2.2.2.2.1 = (fun _ => 1#1)
    ∧ (Cert.Pre_attn_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3)) (m ((c.tc : Thread Cert.AttnKernelIdeal.nD Cert.AttnKernelIdeal.τ).loc Cert.AttnKernelIdeal.main_arg4)) (m ((c.tc : Thread Cert.AttnKernelIdeal.nD Cert.AttnKernelIdeal.τ).loc Cert.AttnKernelIdeal.main_arg5))).2.2.2.2.2 = (fun _ => 1#1)

def Pre_AttnReferenceIdeal (m : (ℓ : Loc Cert.AttnReferenceIdeal.nD Cert.AttnReferenceIdeal.τ Cert.AttnReferenceIdeal.sig) → Buf (Elt Ideal) ℓ) : Prop :=
  True

def Pre_AttnReferenceIdeal_attn_finite [hPre_attn_finite : Cert.Pre_attn_finite.Facts] (m : (ℓ : Loc Cert.AttnReferenceIdeal.nD Cert.AttnReferenceIdeal.τ Cert.AttnReferenceIdeal.sig) → Buf (Elt Ideal) ℓ) : Prop :=
  ∀ c : Dev Cert.AttnReferenceIdeal.nD,
    (Cert.Pre_attn_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4)) (m ((c.tc : Thread Cert.AttnReferenceIdeal.nD Cert.AttnReferenceIdeal.τ).loc Cert.AttnReferenceIdeal.main_arg5))).1 = (fun _ => 1#1)
    ∧ (Cert.Pre_attn_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4)) (m ((c.tc : Thread Cert.AttnReferenceIdeal.nD Cert.AttnReferenceIdeal.τ).loc Cert.AttnReferenceIdeal.main_arg5))).2.1 = (fun _ => 1#1)
    ∧ (Cert.Pre_attn_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4)) (m ((c.tc : Thread Cert.AttnReferenceIdeal.nD Cert.AttnReferenceIdeal.τ).loc Cert.AttnReferenceIdeal.main_arg5))).2.2.1 = (fun _ => 1#1)
    ∧ (Cert.Pre_attn_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4)) (m ((c.tc : Thread Cert.AttnReferenceIdeal.nD Cert.AttnReferenceIdeal.τ).loc Cert.AttnReferenceIdeal.main_arg5))).2.2.2.1 = (fun _ => 1#1)
    ∧ (Cert.Pre_attn_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4)) (m ((c.tc : Thread Cert.AttnReferenceIdeal.nD Cert.AttnReferenceIdeal.τ).loc Cert.AttnReferenceIdeal.main_arg5))).2.2.2.2.1 = (fun _ => 1#1)
    ∧ (Cert.Pre_attn_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4)) (m ((c.tc : Thread Cert.AttnReferenceIdeal.nD Cert.AttnReferenceIdeal.τ).loc Cert.AttnReferenceIdeal.main_arg5))).2.2.2.2.2 = (fun _ => 1#1)

def Pre_SguKernel (m : (ℓ : Loc Cert.SguKernel.nD Cert.SguKernel.τ Cert.SguKernel.sig) → Buf (Elt Bits) ℓ) : Prop :=
  True

def Pre_SguKernelIdeal (m : (ℓ : Loc Cert.SguKernelIdeal.nD Cert.SguKernelIdeal.τ Cert.SguKernelIdeal.sig) → Buf (Elt Ideal) ℓ) : Prop :=
  True

def Pre_SguReferenceIdeal (m : (ℓ : Loc Cert.SguReferenceIdeal.nD Cert.SguReferenceIdeal.τ Cert.SguReferenceIdeal.sig) → Buf (Elt Ideal) ℓ) : Prop :=
  True

def Pre_PrepKernel (m : (ℓ : Loc Cert.PrepKernel.nD Cert.PrepKernel.τ Cert.PrepKernel.sig) → Buf (Elt Bits) ℓ) : Prop :=
  True

def Pre_PrepKernelIdeal (m : (ℓ : Loc Cert.PrepKernelIdeal.nD Cert.PrepKernelIdeal.τ Cert.PrepKernelIdeal.sig) → Buf (Elt Ideal) ℓ) : Prop :=
  True

def Pre_PrepKernelIdeal_prep_finite [hPre_prep_finite : Cert.Pre_prep_finite.Facts] (m : (ℓ : Loc Cert.PrepKernelIdeal.nD Cert.PrepKernelIdeal.τ Cert.PrepKernelIdeal.sig) → Buf (Elt Ideal) ℓ) : Prop :=
  ∀ c : Dev Cert.PrepKernelIdeal.nD,
    (Cert.Pre_prep_finite.fn (F := Ideal) (m ((c.tc : Thread Cert.PrepKernelIdeal.nD Cert.PrepKernelIdeal.τ).loc Cert.PrepKernelIdeal.main_arg0)) (m ((c.tc : Thread Cert.PrepKernelIdeal.nD Cert.PrepKernelIdeal.τ).loc Cert.PrepKernelIdeal.main_arg1)) (m ((c.tc : Thread Cert.PrepKernelIdeal.nD Cert.PrepKernelIdeal.τ).loc Cert.PrepKernelIdeal.main_arg2)) (m ((c.tc : Thread Cert.PrepKernelIdeal.nD Cert.PrepKernelIdeal.τ).loc Cert.PrepKernelIdeal.main_arg3)) (m ((c.tc : Thread Cert.PrepKernelIdeal.nD Cert.PrepKernelIdeal.τ).loc Cert.PrepKernelIdeal.main_arg4)) (m ((c.tc : Thread Cert.PrepKernelIdeal.nD Cert.PrepKernelIdeal.τ).loc Cert.PrepKernelIdeal.main_arg5)) (m ((c.tc : Thread Cert.PrepKernelIdeal.nD Cert.PrepKernelIdeal.τ).loc Cert.PrepKernelIdeal.main_arg6)) (m ((c.tc : Thread Cert.PrepKernelIdeal.nD Cert.PrepKernelIdeal.τ).loc Cert.PrepKernelIdeal.main_arg7)) (m ((c.tc : Thread Cert.PrepKernelIdeal.nD Cert.PrepKernelIdeal.τ).loc Cert.PrepKernelIdeal.main_arg8)) (m ((c.tc : Thread Cert.PrepKernelIdeal.nD Cert.PrepKernelIdeal.τ).loc Cert.PrepKernelIdeal.main_arg9))).1 = (fun _ => 1#1)
    ∧ (Cert.Pre_prep_finite.fn (F := Ideal) (m ((c.tc : Thread Cert.PrepKernelIdeal.nD Cert.PrepKernelIdeal.τ).loc Cert.PrepKernelIdeal.main_arg0)) (m ((c.tc : Thread Cert.PrepKernelIdeal.nD Cert.PrepKernelIdeal.τ).loc Cert.PrepKernelIdeal.main_arg1)) (m ((c.tc : Thread Cert.PrepKernelIdeal.nD Cert.PrepKernelIdeal.τ).loc Cert.PrepKernelIdeal.main_arg2)) (m ((c.tc : Thread Cert.PrepKernelIdeal.nD Cert.PrepKernelIdeal.τ).loc Cert.PrepKernelIdeal.main_arg3)) (m ((c.tc : Thread Cert.PrepKernelIdeal.nD Cert.PrepKernelIdeal.τ).loc Cert.PrepKernelIdeal.main_arg4)) (m ((c.tc : Thread Cert.PrepKernelIdeal.nD Cert.PrepKernelIdeal.τ).loc Cert.PrepKernelIdeal.main_arg5)) (m ((c.tc : Thread Cert.PrepKernelIdeal.nD Cert.PrepKernelIdeal.τ).loc Cert.PrepKernelIdeal.main_arg6)) (m ((c.tc : Thread Cert.PrepKernelIdeal.nD Cert.PrepKernelIdeal.τ).loc Cert.PrepKernelIdeal.main_arg7)) (m ((c.tc : Thread Cert.PrepKernelIdeal.nD Cert.PrepKernelIdeal.τ).loc Cert.PrepKernelIdeal.main_arg8)) (m ((c.tc : Thread Cert.PrepKernelIdeal.nD Cert.PrepKernelIdeal.τ).loc Cert.PrepKernelIdeal.main_arg9))).2.1 = (fun _ => 1#1)
    ∧ (Cert.Pre_prep_finite.fn (F := Ideal) (m ((c.tc : Thread Cert.PrepKernelIdeal.nD Cert.PrepKernelIdeal.τ).loc Cert.PrepKernelIdeal.main_arg0)) (m ((c.tc : Thread Cert.PrepKernelIdeal.nD Cert.PrepKernelIdeal.τ).loc Cert.PrepKernelIdeal.main_arg1)) (m ((c.tc : Thread Cert.PrepKernelIdeal.nD Cert.PrepKernelIdeal.τ).loc Cert.PrepKernelIdeal.main_arg2)) (m ((c.tc : Thread Cert.PrepKernelIdeal.nD Cert.PrepKernelIdeal.τ).loc Cert.PrepKernelIdeal.main_arg3)) (m ((c.tc : Thread Cert.PrepKernelIdeal.nD Cert.PrepKernelIdeal.τ).loc Cert.PrepKernelIdeal.main_arg4)) (m ((c.tc : Thread Cert.PrepKernelIdeal.nD Cert.PrepKernelIdeal.τ).loc Cert.PrepKernelIdeal.main_arg5)) (m ((c.tc : Thread Cert.PrepKernelIdeal.nD Cert.PrepKernelIdeal.τ).loc Cert.PrepKernelIdeal.main_arg6)) (m ((c.tc : Thread Cert.PrepKernelIdeal.nD Cert.PrepKernelIdeal.τ).loc Cert.PrepKernelIdeal.main_arg7)) (m ((c.tc : Thread Cert.PrepKernelIdeal.nD Cert.PrepKernelIdeal.τ).loc Cert.PrepKernelIdeal.main_arg8)) (m ((c.tc : Thread Cert.PrepKernelIdeal.nD Cert.PrepKernelIdeal.τ).loc Cert.PrepKernelIdeal.main_arg9))).2.2.1 = (fun _ => 1#1)
    ∧ (Cert.Pre_prep_finite.fn (F := Ideal) (m ((c.tc : Thread Cert.PrepKernelIdeal.nD Cert.PrepKernelIdeal.τ).loc Cert.PrepKernelIdeal.main_arg0)) (m ((c.tc : Thread Cert.PrepKernelIdeal.nD Cert.PrepKernelIdeal.τ).loc Cert.PrepKernelIdeal.main_arg1)) (m ((c.tc : Thread Cert.PrepKernelIdeal.nD Cert.PrepKernelIdeal.τ).loc Cert.PrepKernelIdeal.main_arg2)) (m ((c.tc : Thread Cert.PrepKernelIdeal.nD Cert.PrepKernelIdeal.τ).loc Cert.PrepKernelIdeal.main_arg3)) (m ((c.tc : Thread Cert.PrepKernelIdeal.nD Cert.PrepKernelIdeal.τ).loc Cert.PrepKernelIdeal.main_arg4)) (m ((c.tc : Thread Cert.PrepKernelIdeal.nD Cert.PrepKernelIdeal.τ).loc Cert.PrepKernelIdeal.main_arg5)) (m ((c.tc : Thread Cert.PrepKernelIdeal.nD Cert.PrepKernelIdeal.τ).loc Cert.PrepKernelIdeal.main_arg6)) (m ((c.tc : Thread Cert.PrepKernelIdeal.nD Cert.PrepKernelIdeal.τ).loc Cert.PrepKernelIdeal.main_arg7)) (m ((c.tc : Thread Cert.PrepKernelIdeal.nD Cert.PrepKernelIdeal.τ).loc Cert.PrepKernelIdeal.main_arg8)) (m ((c.tc : Thread Cert.PrepKernelIdeal.nD Cert.PrepKernelIdeal.τ).loc Cert.PrepKernelIdeal.main_arg9))).2.2.2.1 = (fun _ => 1#1)
    ∧ (Cert.Pre_prep_finite.fn (F := Ideal) (m ((c.tc : Thread Cert.PrepKernelIdeal.nD Cert.PrepKernelIdeal.τ).loc Cert.PrepKernelIdeal.main_arg0)) (m ((c.tc : Thread Cert.PrepKernelIdeal.nD Cert.PrepKernelIdeal.τ).loc Cert.PrepKernelIdeal.main_arg1)) (m ((c.tc : Thread Cert.PrepKernelIdeal.nD Cert.PrepKernelIdeal.τ).loc Cert.PrepKernelIdeal.main_arg2)) (m ((c.tc : Thread Cert.PrepKernelIdeal.nD Cert.PrepKernelIdeal.τ).loc Cert.PrepKernelIdeal.main_arg3)) (m ((c.tc : Thread Cert.PrepKernelIdeal.nD Cert.PrepKernelIdeal.τ).loc Cert.PrepKernelIdeal.main_arg4)) (m ((c.tc : Thread Cert.PrepKernelIdeal.nD Cert.PrepKernelIdeal.τ).loc Cert.PrepKernelIdeal.main_arg5)) (m ((c.tc : Thread Cert.PrepKernelIdeal.nD Cert.PrepKernelIdeal.τ).loc Cert.PrepKernelIdeal.main_arg6)) (m ((c.tc : Thread Cert.PrepKernelIdeal.nD Cert.PrepKernelIdeal.τ).loc Cert.PrepKernelIdeal.main_arg7)) (m ((c.tc : Thread Cert.PrepKernelIdeal.nD Cert.PrepKernelIdeal.τ).loc Cert.PrepKernelIdeal.main_arg8)) (m ((c.tc : Thread Cert.PrepKernelIdeal.nD Cert.PrepKernelIdeal.τ).loc Cert.PrepKernelIdeal.main_arg9))).2.2.2.2.1 = (fun _ => 1#1)
    ∧ (Cert.Pre_prep_finite.fn (F := Ideal) (m ((c.tc : Thread Cert.PrepKernelIdeal.nD Cert.PrepKernelIdeal.τ).loc Cert.PrepKernelIdeal.main_arg0)) (m ((c.tc : Thread Cert.PrepKernelIdeal.nD Cert.PrepKernelIdeal.τ).loc Cert.PrepKernelIdeal.main_arg1)) (m ((c.tc : Thread Cert.PrepKernelIdeal.nD Cert.PrepKernelIdeal.τ).loc Cert.PrepKernelIdeal.main_arg2)) (m ((c.tc : Thread Cert.PrepKernelIdeal.nD Cert.PrepKernelIdeal.τ).loc Cert.PrepKernelIdeal.main_arg3)) (m ((c.tc : Thread Cert.PrepKernelIdeal.nD Cert.PrepKernelIdeal.τ).loc Cert.PrepKernelIdeal.main_arg4)) (m ((c.tc : Thread Cert.PrepKernelIdeal.nD Cert.PrepKernelIdeal.τ).loc Cert.PrepKernelIdeal.main_arg5)) (m ((c.tc : Thread Cert.PrepKernelIdeal.nD Cert.PrepKernelIdeal.τ).loc Cert.PrepKernelIdeal.main_arg6)) (m ((c.tc : Thread Cert.PrepKernelIdeal.nD Cert.PrepKernelIdeal.τ).loc Cert.PrepKernelIdeal.main_arg7)) (m ((c.tc : Thread Cert.PrepKernelIdeal.nD Cert.PrepKernelIdeal.τ).loc Cert.PrepKernelIdeal.main_arg8)) (m ((c.tc : Thread Cert.PrepKernelIdeal.nD Cert.PrepKernelIdeal.τ).loc Cert.PrepKernelIdeal.main_arg9))).2.2.2.2.2.1 = (fun _ => 1#1)
    ∧ (Cert.Pre_prep_finite.fn (F := Ideal) (m ((c.tc : Thread Cert.PrepKernelIdeal.nD Cert.PrepKernelIdeal.τ).loc Cert.PrepKernelIdeal.main_arg0)) (m ((c.tc : Thread Cert.PrepKernelIdeal.nD Cert.PrepKernelIdeal.τ).loc Cert.PrepKernelIdeal.main_arg1)) (m ((c.tc : Thread Cert.PrepKernelIdeal.nD Cert.PrepKernelIdeal.τ).loc Cert.PrepKernelIdeal.main_arg2)) (m ((c.tc : Thread Cert.PrepKernelIdeal.nD Cert.PrepKernelIdeal.τ).loc Cert.PrepKernelIdeal.main_arg3)) (m ((c.tc : Thread Cert.PrepKernelIdeal.nD Cert.PrepKernelIdeal.τ).loc Cert.PrepKernelIdeal.main_arg4)) (m ((c.tc : Thread Cert.PrepKernelIdeal.nD Cert.PrepKernelIdeal.τ).loc Cert.PrepKernelIdeal.main_arg5)) (m ((c.tc : Thread Cert.PrepKernelIdeal.nD Cert.PrepKernelIdeal.τ).loc Cert.PrepKernelIdeal.main_arg6)) (m ((c.tc : Thread Cert.PrepKernelIdeal.nD Cert.PrepKernelIdeal.τ).loc Cert.PrepKernelIdeal.main_arg7)) (m ((c.tc : Thread Cert.PrepKernelIdeal.nD Cert.PrepKernelIdeal.τ).loc Cert.PrepKernelIdeal.main_arg8)) (m ((c.tc : Thread Cert.PrepKernelIdeal.nD Cert.PrepKernelIdeal.τ).loc Cert.PrepKernelIdeal.main_arg9))).2.2.2.2.2.2.1 = (fun _ => 1#1)
    ∧ (Cert.Pre_prep_finite.fn (F := Ideal) (m ((c.tc : Thread Cert.PrepKernelIdeal.nD Cert.PrepKernelIdeal.τ).loc Cert.PrepKernelIdeal.main_arg0)) (m ((c.tc : Thread Cert.PrepKernelIdeal.nD Cert.PrepKernelIdeal.τ).loc Cert.PrepKernelIdeal.main_arg1)) (m ((c.tc : Thread Cert.PrepKernelIdeal.nD Cert.PrepKernelIdeal.τ).loc Cert.PrepKernelIdeal.main_arg2)) (m ((c.tc : Thread Cert.PrepKernelIdeal.nD Cert.PrepKernelIdeal.τ).loc Cert.PrepKernelIdeal.main_arg3)) (m ((c.tc : Thread Cert.PrepKernelIdeal.nD Cert.PrepKernelIdeal.τ).loc Cert.PrepKernelIdeal.main_arg4)) (m ((c.tc : Thread Cert.PrepKernelIdeal.nD Cert.PrepKernelIdeal.τ).loc Cert.PrepKernelIdeal.main_arg5)) (m ((c.tc : Thread Cert.PrepKernelIdeal.nD Cert.PrepKernelIdeal.τ).loc Cert.PrepKernelIdeal.main_arg6)) (m ((c.tc : Thread Cert.PrepKernelIdeal.nD Cert.PrepKernelIdeal.τ).loc Cert.PrepKernelIdeal.main_arg7)) (m ((c.tc : Thread Cert.PrepKernelIdeal.nD Cert.PrepKernelIdeal.τ).loc Cert.PrepKernelIdeal.main_arg8)) (m ((c.tc : Thread Cert.PrepKernelIdeal.nD Cert.PrepKernelIdeal.τ).loc Cert.PrepKernelIdeal.main_arg9))).2.2.2.2.2.2.2 = (fun _ => 1#1)

def Pre_PrepReferenceIdeal (m : (ℓ : Loc Cert.PrepReferenceIdeal.nD Cert.PrepReferenceIdeal.τ Cert.PrepReferenceIdeal.sig) → Buf (Elt Ideal) ℓ) : Prop :=
  True

def Pre_PrepReferenceIdeal_prep_finite [hPre_prep_finite : Cert.Pre_prep_finite.Facts] (m : (ℓ : Loc Cert.PrepReferenceIdeal.nD Cert.PrepReferenceIdeal.τ Cert.PrepReferenceIdeal.sig) → Buf (Elt Ideal) ℓ) : Prop :=
  ∀ c : Dev Cert.PrepReferenceIdeal.nD,
    (Cert.Pre_prep_finite.fn (F := Ideal) (m ((c.tc : Thread Cert.PrepReferenceIdeal.nD Cert.PrepReferenceIdeal.τ).loc Cert.PrepReferenceIdeal.main_arg0)) (m ((c.tc : Thread Cert.PrepReferenceIdeal.nD Cert.PrepReferenceIdeal.τ).loc Cert.PrepReferenceIdeal.main_arg1)) (m ((c.tc : Thread Cert.PrepReferenceIdeal.nD Cert.PrepReferenceIdeal.τ).loc Cert.PrepReferenceIdeal.main_arg2)) (m ((c.tc : Thread Cert.PrepReferenceIdeal.nD Cert.PrepReferenceIdeal.τ).loc Cert.PrepReferenceIdeal.main_arg3)) (m ((c.tc : Thread Cert.PrepReferenceIdeal.nD Cert.PrepReferenceIdeal.τ).loc Cert.PrepReferenceIdeal.main_arg4)) (m ((c.tc : Thread Cert.PrepReferenceIdeal.nD Cert.PrepReferenceIdeal.τ).loc Cert.PrepReferenceIdeal.main_arg5)) (m ((c.tc : Thread Cert.PrepReferenceIdeal.nD Cert.PrepReferenceIdeal.τ).loc Cert.PrepReferenceIdeal.main_arg6)) (m ((c.tc : Thread Cert.PrepReferenceIdeal.nD Cert.PrepReferenceIdeal.τ).loc Cert.PrepReferenceIdeal.main_arg7)) (m ((c.tc : Thread Cert.PrepReferenceIdeal.nD Cert.PrepReferenceIdeal.τ).loc Cert.PrepReferenceIdeal.main_arg8)) (m ((c.tc : Thread Cert.PrepReferenceIdeal.nD Cert.PrepReferenceIdeal.τ).loc Cert.PrepReferenceIdeal.main_arg9))).1 = (fun _ => 1#1)
    ∧ (Cert.Pre_prep_finite.fn (F := Ideal) (m ((c.tc : Thread Cert.PrepReferenceIdeal.nD Cert.PrepReferenceIdeal.τ).loc Cert.PrepReferenceIdeal.main_arg0)) (m ((c.tc : Thread Cert.PrepReferenceIdeal.nD Cert.PrepReferenceIdeal.τ).loc Cert.PrepReferenceIdeal.main_arg1)) (m ((c.tc : Thread Cert.PrepReferenceIdeal.nD Cert.PrepReferenceIdeal.τ).loc Cert.PrepReferenceIdeal.main_arg2)) (m ((c.tc : Thread Cert.PrepReferenceIdeal.nD Cert.PrepReferenceIdeal.τ).loc Cert.PrepReferenceIdeal.main_arg3)) (m ((c.tc : Thread Cert.PrepReferenceIdeal.nD Cert.PrepReferenceIdeal.τ).loc Cert.PrepReferenceIdeal.main_arg4)) (m ((c.tc : Thread Cert.PrepReferenceIdeal.nD Cert.PrepReferenceIdeal.τ).loc Cert.PrepReferenceIdeal.main_arg5)) (m ((c.tc : Thread Cert.PrepReferenceIdeal.nD Cert.PrepReferenceIdeal.τ).loc Cert.PrepReferenceIdeal.main_arg6)) (m ((c.tc : Thread Cert.PrepReferenceIdeal.nD Cert.PrepReferenceIdeal.τ).loc Cert.PrepReferenceIdeal.main_arg7)) (m ((c.tc : Thread Cert.PrepReferenceIdeal.nD Cert.PrepReferenceIdeal.τ).loc Cert.PrepReferenceIdeal.main_arg8)) (m ((c.tc : Thread Cert.PrepReferenceIdeal.nD Cert.PrepReferenceIdeal.τ).loc Cert.PrepReferenceIdeal.main_arg9))).2.1 = (fun _ => 1#1)
    ∧ (Cert.Pre_prep_finite.fn (F := Ideal) (m ((c.tc : Thread Cert.PrepReferenceIdeal.nD Cert.PrepReferenceIdeal.τ).loc Cert.PrepReferenceIdeal.main_arg0)) (m ((c.tc : Thread Cert.PrepReferenceIdeal.nD Cert.PrepReferenceIdeal.τ).loc Cert.PrepReferenceIdeal.main_arg1)) (m ((c.tc : Thread Cert.PrepReferenceIdeal.nD Cert.PrepReferenceIdeal.τ).loc Cert.PrepReferenceIdeal.main_arg2)) (m ((c.tc : Thread Cert.PrepReferenceIdeal.nD Cert.PrepReferenceIdeal.τ).loc Cert.PrepReferenceIdeal.main_arg3)) (m ((c.tc : Thread Cert.PrepReferenceIdeal.nD Cert.PrepReferenceIdeal.τ).loc Cert.PrepReferenceIdeal.main_arg4)) (m ((c.tc : Thread Cert.PrepReferenceIdeal.nD Cert.PrepReferenceIdeal.τ).loc Cert.PrepReferenceIdeal.main_arg5)) (m ((c.tc : Thread Cert.PrepReferenceIdeal.nD Cert.PrepReferenceIdeal.τ).loc Cert.PrepReferenceIdeal.main_arg6)) (m ((c.tc : Thread Cert.PrepReferenceIdeal.nD Cert.PrepReferenceIdeal.τ).loc Cert.PrepReferenceIdeal.main_arg7)) (m ((c.tc : Thread Cert.PrepReferenceIdeal.nD Cert.PrepReferenceIdeal.τ).loc Cert.PrepReferenceIdeal.main_arg8)) (m ((c.tc : Thread Cert.PrepReferenceIdeal.nD Cert.PrepReferenceIdeal.τ).loc Cert.PrepReferenceIdeal.main_arg9))).2.2.1 = (fun _ => 1#1)
    ∧ (Cert.Pre_prep_finite.fn (F := Ideal) (m ((c.tc : Thread Cert.PrepReferenceIdeal.nD Cert.PrepReferenceIdeal.τ).loc Cert.PrepReferenceIdeal.main_arg0)) (m ((c.tc : Thread Cert.PrepReferenceIdeal.nD Cert.PrepReferenceIdeal.τ).loc Cert.PrepReferenceIdeal.main_arg1)) (m ((c.tc : Thread Cert.PrepReferenceIdeal.nD Cert.PrepReferenceIdeal.τ).loc Cert.PrepReferenceIdeal.main_arg2)) (m ((c.tc : Thread Cert.PrepReferenceIdeal.nD Cert.PrepReferenceIdeal.τ).loc Cert.PrepReferenceIdeal.main_arg3)) (m ((c.tc : Thread Cert.PrepReferenceIdeal.nD Cert.PrepReferenceIdeal.τ).loc Cert.PrepReferenceIdeal.main_arg4)) (m ((c.tc : Thread Cert.PrepReferenceIdeal.nD Cert.PrepReferenceIdeal.τ).loc Cert.PrepReferenceIdeal.main_arg5)) (m ((c.tc : Thread Cert.PrepReferenceIdeal.nD Cert.PrepReferenceIdeal.τ).loc Cert.PrepReferenceIdeal.main_arg6)) (m ((c.tc : Thread Cert.PrepReferenceIdeal.nD Cert.PrepReferenceIdeal.τ).loc Cert.PrepReferenceIdeal.main_arg7)) (m ((c.tc : Thread Cert.PrepReferenceIdeal.nD Cert.PrepReferenceIdeal.τ).loc Cert.PrepReferenceIdeal.main_arg8)) (m ((c.tc : Thread Cert.PrepReferenceIdeal.nD Cert.PrepReferenceIdeal.τ).loc Cert.PrepReferenceIdeal.main_arg9))).2.2.2.1 = (fun _ => 1#1)
    ∧ (Cert.Pre_prep_finite.fn (F := Ideal) (m ((c.tc : Thread Cert.PrepReferenceIdeal.nD Cert.PrepReferenceIdeal.τ).loc Cert.PrepReferenceIdeal.main_arg0)) (m ((c.tc : Thread Cert.PrepReferenceIdeal.nD Cert.PrepReferenceIdeal.τ).loc Cert.PrepReferenceIdeal.main_arg1)) (m ((c.tc : Thread Cert.PrepReferenceIdeal.nD Cert.PrepReferenceIdeal.τ).loc Cert.PrepReferenceIdeal.main_arg2)) (m ((c.tc : Thread Cert.PrepReferenceIdeal.nD Cert.PrepReferenceIdeal.τ).loc Cert.PrepReferenceIdeal.main_arg3)) (m ((c.tc : Thread Cert.PrepReferenceIdeal.nD Cert.PrepReferenceIdeal.τ).loc Cert.PrepReferenceIdeal.main_arg4)) (m ((c.tc : Thread Cert.PrepReferenceIdeal.nD Cert.PrepReferenceIdeal.τ).loc Cert.PrepReferenceIdeal.main_arg5)) (m ((c.tc : Thread Cert.PrepReferenceIdeal.nD Cert.PrepReferenceIdeal.τ).loc Cert.PrepReferenceIdeal.main_arg6)) (m ((c.tc : Thread Cert.PrepReferenceIdeal.nD Cert.PrepReferenceIdeal.τ).loc Cert.PrepReferenceIdeal.main_arg7)) (m ((c.tc : Thread Cert.PrepReferenceIdeal.nD Cert.PrepReferenceIdeal.τ).loc Cert.PrepReferenceIdeal.main_arg8)) (m ((c.tc : Thread Cert.PrepReferenceIdeal.nD Cert.PrepReferenceIdeal.τ).loc Cert.PrepReferenceIdeal.main_arg9))).2.2.2.2.1 = (fun _ => 1#1)
    ∧ (Cert.Pre_prep_finite.fn (F := Ideal) (m ((c.tc : Thread Cert.PrepReferenceIdeal.nD Cert.PrepReferenceIdeal.τ).loc Cert.PrepReferenceIdeal.main_arg0)) (m ((c.tc : Thread Cert.PrepReferenceIdeal.nD Cert.PrepReferenceIdeal.τ).loc Cert.PrepReferenceIdeal.main_arg1)) (m ((c.tc : Thread Cert.PrepReferenceIdeal.nD Cert.PrepReferenceIdeal.τ).loc Cert.PrepReferenceIdeal.main_arg2)) (m ((c.tc : Thread Cert.PrepReferenceIdeal.nD Cert.PrepReferenceIdeal.τ).loc Cert.PrepReferenceIdeal.main_arg3)) (m ((c.tc : Thread Cert.PrepReferenceIdeal.nD Cert.PrepReferenceIdeal.τ).loc Cert.PrepReferenceIdeal.main_arg4)) (m ((c.tc : Thread Cert.PrepReferenceIdeal.nD Cert.PrepReferenceIdeal.τ).loc Cert.PrepReferenceIdeal.main_arg5)) (m ((c.tc : Thread Cert.PrepReferenceIdeal.nD Cert.PrepReferenceIdeal.τ).loc Cert.PrepReferenceIdeal.main_arg6)) (m ((c.tc : Thread Cert.PrepReferenceIdeal.nD Cert.PrepReferenceIdeal.τ).loc Cert.PrepReferenceIdeal.main_arg7)) (m ((c.tc : Thread Cert.PrepReferenceIdeal.nD Cert.PrepReferenceIdeal.τ).loc Cert.PrepReferenceIdeal.main_arg8)) (m ((c.tc : Thread Cert.PrepReferenceIdeal.nD Cert.PrepReferenceIdeal.τ).loc Cert.PrepReferenceIdeal.main_arg9))).2.2.2.2.2.1 = (fun _ => 1#1)
    ∧ (Cert.Pre_prep_finite.fn (F := Ideal) (m ((c.tc : Thread Cert.PrepReferenceIdeal.nD Cert.PrepReferenceIdeal.τ).loc Cert.PrepReferenceIdeal.main_arg0)) (m ((c.tc : Thread Cert.PrepReferenceIdeal.nD Cert.PrepReferenceIdeal.τ).loc Cert.PrepReferenceIdeal.main_arg1)) (m ((c.tc : Thread Cert.PrepReferenceIdeal.nD Cert.PrepReferenceIdeal.τ).loc Cert.PrepReferenceIdeal.main_arg2)) (m ((c.tc : Thread Cert.PrepReferenceIdeal.nD Cert.PrepReferenceIdeal.τ).loc Cert.PrepReferenceIdeal.main_arg3)) (m ((c.tc : Thread Cert.PrepReferenceIdeal.nD Cert.PrepReferenceIdeal.τ).loc Cert.PrepReferenceIdeal.main_arg4)) (m ((c.tc : Thread Cert.PrepReferenceIdeal.nD Cert.PrepReferenceIdeal.τ).loc Cert.PrepReferenceIdeal.main_arg5)) (m ((c.tc : Thread Cert.PrepReferenceIdeal.nD Cert.PrepReferenceIdeal.τ).loc Cert.PrepReferenceIdeal.main_arg6)) (m ((c.tc : Thread Cert.PrepReferenceIdeal.nD Cert.PrepReferenceIdeal.τ).loc Cert.PrepReferenceIdeal.main_arg7)) (m ((c.tc : Thread Cert.PrepReferenceIdeal.nD Cert.PrepReferenceIdeal.τ).loc Cert.PrepReferenceIdeal.main_arg8)) (m ((c.tc : Thread Cert.PrepReferenceIdeal.nD Cert.PrepReferenceIdeal.τ).loc Cert.PrepReferenceIdeal.main_arg9))).2.2.2.2.2.2.1 = (fun _ => 1#1)
    ∧ (Cert.Pre_prep_finite.fn (F := Ideal) (m ((c.tc : Thread Cert.PrepReferenceIdeal.nD Cert.PrepReferenceIdeal.τ).loc Cert.PrepReferenceIdeal.main_arg0)) (m ((c.tc : Thread Cert.PrepReferenceIdeal.nD Cert.PrepReferenceIdeal.τ).loc Cert.PrepReferenceIdeal.main_arg1)) (m ((c.tc : Thread Cert.PrepReferenceIdeal.nD Cert.PrepReferenceIdeal.τ).loc Cert.PrepReferenceIdeal.main_arg2)) (m ((c.tc : Thread Cert.PrepReferenceIdeal.nD Cert.PrepReferenceIdeal.τ).loc Cert.PrepReferenceIdeal.main_arg3)) (m ((c.tc : Thread Cert.PrepReferenceIdeal.nD Cert.PrepReferenceIdeal.τ).loc Cert.PrepReferenceIdeal.main_arg4)) (m ((c.tc : Thread Cert.PrepReferenceIdeal.nD Cert.PrepReferenceIdeal.τ).loc Cert.PrepReferenceIdeal.main_arg5)) (m ((c.tc : Thread Cert.PrepReferenceIdeal.nD Cert.PrepReferenceIdeal.τ).loc Cert.PrepReferenceIdeal.main_arg6)) (m ((c.tc : Thread Cert.PrepReferenceIdeal.nD Cert.PrepReferenceIdeal.τ).loc Cert.PrepReferenceIdeal.main_arg7)) (m ((c.tc : Thread Cert.PrepReferenceIdeal.nD Cert.PrepReferenceIdeal.τ).loc Cert.PrepReferenceIdeal.main_arg8)) (m ((c.tc : Thread Cert.PrepReferenceIdeal.nD Cert.PrepReferenceIdeal.τ).loc Cert.PrepReferenceIdeal.main_arg9))).2.2.2.2.2.2.2 = (fun _ => 1#1)

def quiescent_ConvKernel [hConvKernel : Cert.ConvKernel.Facts] : Prop :=
  ∀ (m : (ℓ : Loc Cert.ConvKernel.nD Cert.ConvKernel.τ Cert.ConvKernel.sig) → Buf (Elt Bits) ℓ) (g : Dev Cert.ConvKernel.nD → PrngReg), Pre_ConvKernel m →
    θ_run (Cert.ConvKernel.defs (F := Bits)) (onTc (τ := Cert.ConvKernel.τ) (Cert.ConvKernel.main (F := Bits))) ⟨m, fun _ => 0, g⟩ (fun r => (∀ c : Dev Cert.ConvKernel.nD,
      r.2.mem ((c.tc : Thread Cert.ConvKernel.nD Cert.ConvKernel.τ).loc Cert.ConvKernel.main_arg0) = m ((c.tc : Thread Cert.ConvKernel.nD Cert.ConvKernel.τ).loc Cert.ConvKernel.main_arg0)
      ∧ r.2.mem ((c.tc : Thread Cert.ConvKernel.nD Cert.ConvKernel.τ).loc Cert.ConvKernel.main_arg1) = m ((c.tc : Thread Cert.ConvKernel.nD Cert.ConvKernel.τ).loc Cert.ConvKernel.main_arg1)
      ∧ r.2.mem ((c.tc : Thread Cert.ConvKernel.nD Cert.ConvKernel.τ).loc Cert.ConvKernel.main_arg2) = m ((c.tc : Thread Cert.ConvKernel.nD Cert.ConvKernel.τ).loc Cert.ConvKernel.main_arg2))
      ∧ r.2.sem = fun _ => 0)

def quiescent_ConvKernelIdeal [hConvKernelIdeal : Cert.ConvKernelIdeal.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg), Pre_ConvKernelIdeal m →
    θ_run (Cert.ConvKernelIdeal.defs (F := Ideal)) (onTc (τ := Cert.ConvKernelIdeal.τ) (Cert.ConvKernelIdeal.main (F := Ideal))) ⟨m, fun _ => 0, g⟩ (fun r => (∀ c : Dev Cert.ConvKernelIdeal.nD,
      r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
      ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
      ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2))
      ∧ r.2.sem = fun _ => 0)

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1)
      ∧ r.2.mem ((c.tc : Thread Cert.LossKernel.nD Cert.LossKernel.τ).loc Cert.LossKernel.main_arg2) = m ((c.tc : Thread Cert.LossKernel.nD Cert.LossKernel.τ).loc Cert.LossKernel.main_arg2))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ r.2.sem = fun _ => 0)

def quiescent_LossKernelIdeal_pre_loss_finite [hLossKernelIdeal : Cert.LossKernelIdeal.Facts] [hPre_loss_finite : Cert.Pre_loss_finite.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal_loss_finite m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2))
      ∧ r.2.sem = fun _ => 0)

def quiescent_LossReferenceIdeal_pre_loss_finite [hLossReferenceIdeal : Cert.LossReferenceIdeal.Facts] [hPre_loss_finite : Cert.Pre_loss_finite.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal_loss_finite m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2))
      ∧ r.2.sem = fun _ => 0)

def quiescent_UnropeKernel [hUnropeKernel : Cert.UnropeKernel.Facts] : Prop :=
  ∀ (m : (ℓ : Loc Cert.UnropeKernel.nD Cert.UnropeKernel.τ Cert.UnropeKernel.sig) → Buf (Elt Bits) ℓ) (g : Dev Cert.UnropeKernel.nD → PrngReg), Pre_UnropeKernel m →
    θ_run (Cert.UnropeKernel.defs (F := Bits)) (onTc (τ := Cert.UnropeKernel.τ) (Cert.UnropeKernel.main (F := Bits))) ⟨m, fun _ => 0, g⟩ (fun r => (∀ c : Dev Cert.UnropeKernel.nD,
      r.2.mem ((c.tc : Thread Cert.UnropeKernel.nD Cert.UnropeKernel.τ).loc Cert.UnropeKernel.main_arg0) = m ((c.tc : Thread Cert.UnropeKernel.nD Cert.UnropeKernel.τ).loc Cert.UnropeKernel.main_arg0)
      ∧ r.2.mem ((c.tc : Thread Cert.UnropeKernel.nD Cert.UnropeKernel.τ).loc Cert.UnropeKernel.main_arg1) = m ((c.tc : Thread Cert.UnropeKernel.nD Cert.UnropeKernel.τ).loc Cert.UnropeKernel.main_arg1))
      ∧ r.2.sem = fun _ => 0)

def quiescent_UnropeKernelIdeal [hUnropeKernelIdeal : Cert.UnropeKernelIdeal.Facts] : Prop :=
  ∀ (m : (ℓ : Loc Cert.UnropeKernelIdeal.nD Cert.UnropeKernelIdeal.τ Cert.UnropeKernelIdeal.sig) → Buf (Elt Ideal) ℓ) (g : Dev Cert.UnropeKernelIdeal.nD → PrngReg), Pre_UnropeKernelIdeal m →
    θ_run (Cert.UnropeKernelIdeal.defs (F := Ideal)) (onTc (τ := Cert.UnropeKernelIdeal.τ) (Cert.UnropeKernelIdeal.main (F := Ideal))) ⟨m, fun _ => 0, g⟩ (fun r => (∀ c : Dev Cert.UnropeKernelIdeal.nD,
      r.2.mem ((c.tc : Thread Cert.UnropeKernelIdeal.nD Cert.UnropeKernelIdeal.τ).loc Cert.UnropeKernelIdeal.main_arg0) = m ((c.tc : Thread Cert.UnropeKernelIdeal.nD Cert.UnropeKernelIdeal.τ).loc Cert.UnropeKernelIdeal.main_arg0)
      ∧ r.2.mem ((c.tc : Thread Cert.UnropeKernelIdeal.nD Cert.UnropeKernelIdeal.τ).loc Cert.UnropeKernelIdeal.main_arg1) = m ((c.tc : Thread Cert.UnropeKernelIdeal.nD Cert.UnropeKernelIdeal.τ).loc Cert.UnropeKernelIdeal.main_arg1))
      ∧ r.2.sem = fun _ => 0)

def quiescent_UnropeReferenceIdeal [hUnropeReferenceIdeal : Cert.UnropeReferenceIdeal.Facts] : Prop :=
  ∀ (m : (ℓ : Loc Cert.UnropeReferenceIdeal.nD Cert.UnropeReferenceIdeal.τ Cert.UnropeReferenceIdeal.sig) → Buf (Elt Ideal) ℓ) (g : Dev Cert.UnropeReferenceIdeal.nD → PrngReg), Pre_UnropeReferenceIdeal m →
    θ_run (Cert.UnropeReferenceIdeal.defs (F := Ideal)) (onTc (τ := Cert.UnropeReferenceIdeal.τ) (Cert.UnropeReferenceIdeal.main (F := Ideal))) ⟨m, fun _ => 0, g⟩ (fun r => (∀ c : Dev Cert.UnropeReferenceIdeal.nD,
      r.2.mem ((c.tc : Thread Cert.UnropeReferenceIdeal.nD Cert.UnropeReferenceIdeal.τ).loc Cert.UnropeReferenceIdeal.main_arg0) = m ((c.tc : Thread Cert.UnropeReferenceIdeal.nD Cert.UnropeReferenceIdeal.τ).loc Cert.UnropeReferenceIdeal.main_arg0)
      ∧ r.2.mem ((c.tc : Thread Cert.UnropeReferenceIdeal.nD Cert.UnropeReferenceIdeal.τ).loc Cert.UnropeReferenceIdeal.main_arg1) = m ((c.tc : Thread Cert.UnropeReferenceIdeal.nD Cert.UnropeReferenceIdeal.τ).loc Cert.UnropeReferenceIdeal.main_arg1))
      ∧ r.2.sem = fun _ => 0)

def quiescent_GateUpKernel [hGateUpKernel : Cert.GateUpKernel.Facts] : Prop :=
  ∀ (m : (ℓ : Loc Cert.GateUpKernel.nD Cert.GateUpKernel.τ Cert.GateUpKernel.sig) → Buf (Elt Bits) ℓ) (g : Dev Cert.GateUpKernel.nD → PrngReg), Pre_GateUpKernel m →
    θ_run (Cert.GateUpKernel.defs (F := Bits)) (onTc (τ := Cert.GateUpKernel.τ) (Cert.GateUpKernel.main (F := Bits))) ⟨m, fun _ => 0, g⟩ (fun r => (∀ c : Dev Cert.GateUpKernel.nD,
      r.2.mem ((c.tc : Thread Cert.GateUpKernel.nD Cert.GateUpKernel.τ).loc Cert.GateUpKernel.main_arg0) = m ((c.tc : Thread Cert.GateUpKernel.nD Cert.GateUpKernel.τ).loc Cert.GateUpKernel.main_arg0)
      ∧ r.2.mem ((c.tc : Thread Cert.GateUpKernel.nD Cert.GateUpKernel.τ).loc Cert.GateUpKernel.main_arg1) = m ((c.tc : Thread Cert.GateUpKernel.nD Cert.GateUpKernel.τ).loc Cert.GateUpKernel.main_arg1)
      ∧ r.2.mem ((c.tc : Thread Cert.GateUpKernel.nD Cert.GateUpKernel.τ).loc Cert.GateUpKernel.main_arg2) = m ((c.tc : Thread Cert.GateUpKernel.nD Cert.GateUpKernel.τ).loc Cert.GateUpKernel.main_arg2)
      ∧ r.2.mem ((c.tc : Thread Cert.GateUpKernel.nD Cert.GateUpKernel.τ).loc Cert.GateUpKernel.main_arg3) = m ((c.tc : Thread Cert.GateUpKernel.nD Cert.GateUpKernel.τ).loc Cert.GateUpKernel.main_arg3)
      ∧ r.2.mem ((c.tc : Thread Cert.GateUpKernel.nD Cert.GateUpKernel.τ).loc Cert.GateUpKernel.main_arg4) = m ((c.tc : Thread Cert.GateUpKernel.nD Cert.GateUpKernel.τ).loc Cert.GateUpKernel.main_arg4))
      ∧ r.2.sem = fun _ => 0)

def quiescent_GateUpKernelIdeal [hGateUpKernelIdeal : Cert.GateUpKernelIdeal.Facts] : Prop :=
  ∀ (m : (ℓ : Loc Cert.GateUpKernelIdeal.nD Cert.GateUpKernelIdeal.τ Cert.GateUpKernelIdeal.sig) → Buf (Elt Ideal) ℓ) (g : Dev Cert.GateUpKernelIdeal.nD → PrngReg), Pre_GateUpKernelIdeal m →
    θ_run (Cert.GateUpKernelIdeal.defs (F := Ideal)) (onTc (τ := Cert.GateUpKernelIdeal.τ) (Cert.GateUpKernelIdeal.main (F := Ideal))) ⟨m, fun _ => 0, g⟩ (fun r => (∀ c : Dev Cert.GateUpKernelIdeal.nD,
      r.2.mem ((c.tc : Thread Cert.GateUpKernelIdeal.nD Cert.GateUpKernelIdeal.τ).loc Cert.GateUpKernelIdeal.main_arg0) = m ((c.tc : Thread Cert.GateUpKernelIdeal.nD Cert.GateUpKernelIdeal.τ).loc Cert.GateUpKernelIdeal.main_arg0)
      ∧ r.2.mem ((c.tc : Thread Cert.GateUpKernelIdeal.nD Cert.GateUpKernelIdeal.τ).loc Cert.GateUpKernelIdeal.main_arg1) = m ((c.tc : Thread Cert.GateUpKernelIdeal.nD Cert.GateUpKernelIdeal.τ).loc Cert.GateUpKernelIdeal.main_arg1)
      ∧ r.2.mem ((c.tc : Thread Cert.GateUpKernelIdeal.nD Cert.GateUpKernelIdeal.τ).loc Cert.GateUpKernelIdeal.main_arg2) = m ((c.tc : Thread Cert.GateUpKernelIdeal.nD Cert.GateUpKernelIdeal.τ).loc Cert.GateUpKernelIdeal.main_arg2)
      ∧ r.2.mem ((c.tc : Thread Cert.GateUpKernelIdeal.nD Cert.GateUpKernelIdeal.τ).loc Cert.GateUpKernelIdeal.main_arg3) = m ((c.tc : Thread Cert.GateUpKernelIdeal.nD Cert.GateUpKernelIdeal.τ).loc Cert.GateUpKernelIdeal.main_arg3)
      ∧ r.2.mem ((c.tc : Thread Cert.GateUpKernelIdeal.nD Cert.GateUpKernelIdeal.τ).loc Cert.GateUpKernelIdeal.main_arg4) = m ((c.tc : Thread Cert.GateUpKernelIdeal.nD Cert.GateUpKernelIdeal.τ).loc Cert.GateUpKernelIdeal.main_arg4))
      ∧ r.2.sem = fun _ => 0)

def quiescent_GateUpKernelIdeal_pre_dgu_finite [hGateUpKernelIdeal : Cert.GateUpKernelIdeal.Facts] [hPre_dgu_finite : Cert.Pre_dgu_finite.Facts] : Prop :=
  ∀ (m : (ℓ : Loc Cert.GateUpKernelIdeal.nD Cert.GateUpKernelIdeal.τ Cert.GateUpKernelIdeal.sig) → Buf (Elt Ideal) ℓ) (g : Dev Cert.GateUpKernelIdeal.nD → PrngReg), Pre_GateUpKernelIdeal_dgu_finite m →
    θ_run (Cert.GateUpKernelIdeal.defs (F := Ideal)) (onTc (τ := Cert.GateUpKernelIdeal.τ) (Cert.GateUpKernelIdeal.main (F := Ideal))) ⟨m, fun _ => 0, g⟩ (fun r => (∀ c : Dev Cert.GateUpKernelIdeal.nD,
      r.2.mem ((c.tc : Thread Cert.GateUpKernelIdeal.nD Cert.GateUpKernelIdeal.τ).loc Cert.GateUpKernelIdeal.main_arg0) = m ((c.tc : Thread Cert.GateUpKernelIdeal.nD Cert.GateUpKernelIdeal.τ).loc Cert.GateUpKernelIdeal.main_arg0)
      ∧ r.2.mem ((c.tc : Thread Cert.GateUpKernelIdeal.nD Cert.GateUpKernelIdeal.τ).loc Cert.GateUpKernelIdeal.main_arg1) = m ((c.tc : Thread Cert.GateUpKernelIdeal.nD Cert.GateUpKernelIdeal.τ).loc Cert.GateUpKernelIdeal.main_arg1)
      ∧ r.2.mem ((c.tc : Thread Cert.GateUpKernelIdeal.nD Cert.GateUpKernelIdeal.τ).loc Cert.GateUpKernelIdeal.main_arg2) = m ((c.tc : Thread Cert.GateUpKernelIdeal.nD Cert.GateUpKernelIdeal.τ).loc Cert.GateUpKernelIdeal.main_arg2)
      ∧ r.2.mem ((c.tc : Thread Cert.GateUpKernelIdeal.nD Cert.GateUpKernelIdeal.τ).loc Cert.GateUpKernelIdeal.main_arg3) = m ((c.tc : Thread Cert.GateUpKernelIdeal.nD Cert.GateUpKernelIdeal.τ).loc Cert.GateUpKernelIdeal.main_arg3)
      ∧ r.2.mem ((c.tc : Thread Cert.GateUpKernelIdeal.nD Cert.GateUpKernelIdeal.τ).loc Cert.GateUpKernelIdeal.main_arg4) = m ((c.tc : Thread Cert.GateUpKernelIdeal.nD Cert.GateUpKernelIdeal.τ).loc Cert.GateUpKernelIdeal.main_arg4))
      ∧ r.2.sem = fun _ => 0)

def quiescent_GateUpReferenceIdeal [hGateUpReferenceIdeal : Cert.GateUpReferenceIdeal.Facts] : Prop :=
  ∀ (m : (ℓ : Loc Cert.GateUpReferenceIdeal.nD Cert.GateUpReferenceIdeal.τ Cert.GateUpReferenceIdeal.sig) → Buf (Elt Ideal) ℓ) (g : Dev Cert.GateUpReferenceIdeal.nD → PrngReg), Pre_GateUpReferenceIdeal m →
    θ_run (Cert.GateUpReferenceIdeal.defs (F := Ideal)) (onTc (τ := Cert.GateUpReferenceIdeal.τ) (Cert.GateUpReferenceIdeal.main (F := Ideal))) ⟨m, fun _ => 0, g⟩ (fun r => (∀ c : Dev Cert.GateUpReferenceIdeal.nD,
      r.2.mem ((c.tc : Thread Cert.GateUpReferenceIdeal.nD Cert.GateUpReferenceIdeal.τ).loc Cert.GateUpReferenceIdeal.main_arg0) = m ((c.tc : Thread Cert.GateUpReferenceIdeal.nD Cert.GateUpReferenceIdeal.τ).loc Cert.GateUpReferenceIdeal.main_arg0)
      ∧ r.2.mem ((c.tc : Thread Cert.GateUpReferenceIdeal.nD Cert.GateUpReferenceIdeal.τ).loc Cert.GateUpReferenceIdeal.main_arg1) = m ((c.tc : Thread Cert.GateUpReferenceIdeal.nD Cert.GateUpReferenceIdeal.τ).loc Cert.GateUpReferenceIdeal.main_arg1)
      ∧ r.2.mem ((c.tc : Thread Cert.GateUpReferenceIdeal.nD Cert.GateUpReferenceIdeal.τ).loc Cert.GateUpReferenceIdeal.main_arg2) = m ((c.tc : Thread Cert.GateUpReferenceIdeal.nD Cert.GateUpReferenceIdeal.τ).loc Cert.GateUpReferenceIdeal.main_arg2)
      ∧ r.2.mem ((c.tc : Thread Cert.GateUpReferenceIdeal.nD Cert.GateUpReferenceIdeal.τ).loc Cert.GateUpReferenceIdeal.main_arg3) = m ((c.tc : Thread Cert.GateUpReferenceIdeal.nD Cert.GateUpReferenceIdeal.τ).loc Cert.GateUpReferenceIdeal.main_arg3)
      ∧ r.2.mem ((c.tc : Thread Cert.GateUpReferenceIdeal.nD Cert.GateUpReferenceIdeal.τ).loc Cert.GateUpReferenceIdeal.main_arg4) = m ((c.tc : Thread Cert.GateUpReferenceIdeal.nD Cert.GateUpReferenceIdeal.τ).loc Cert.GateUpReferenceIdeal.main_arg4))
      ∧ r.2.sem = fun _ => 0)

def quiescent_GateUpReferenceIdeal_pre_dgu_finite [hGateUpReferenceIdeal : Cert.GateUpReferenceIdeal.Facts] [hPre_dgu_finite : Cert.Pre_dgu_finite.Facts] : Prop :=
  ∀ (m : (ℓ : Loc Cert.GateUpReferenceIdeal.nD Cert.GateUpReferenceIdeal.τ Cert.GateUpReferenceIdeal.sig) → Buf (Elt Ideal) ℓ) (g : Dev Cert.GateUpReferenceIdeal.nD → PrngReg), Pre_GateUpReferenceIdeal_dgu_finite m →
    θ_run (Cert.GateUpReferenceIdeal.defs (F := Ideal)) (onTc (τ := Cert.GateUpReferenceIdeal.τ) (Cert.GateUpReferenceIdeal.main (F := Ideal))) ⟨m, fun _ => 0, g⟩ (fun r => (∀ c : Dev Cert.GateUpReferenceIdeal.nD,
      r.2.mem ((c.tc : Thread Cert.GateUpReferenceIdeal.nD Cert.GateUpReferenceIdeal.τ).loc Cert.GateUpReferenceIdeal.main_arg0) = m ((c.tc : Thread Cert.GateUpReferenceIdeal.nD Cert.GateUpReferenceIdeal.τ).loc Cert.GateUpReferenceIdeal.main_arg0)
      ∧ r.2.mem ((c.tc : Thread Cert.GateUpReferenceIdeal.nD Cert.GateUpReferenceIdeal.τ).loc Cert.GateUpReferenceIdeal.main_arg1) = m ((c.tc : Thread Cert.GateUpReferenceIdeal.nD Cert.GateUpReferenceIdeal.τ).loc Cert.GateUpReferenceIdeal.main_arg1)
      ∧ r.2.mem ((c.tc : Thread Cert.GateUpReferenceIdeal.nD Cert.GateUpReferenceIdeal.τ).loc Cert.GateUpReferenceIdeal.main_arg2) = m ((c.tc : Thread Cert.GateUpReferenceIdeal.nD Cert.GateUpReferenceIdeal.τ).loc Cert.GateUpReferenceIdeal.main_arg2)
      ∧ r.2.mem ((c.tc : Thread Cert.GateUpReferenceIdeal.nD Cert.GateUpReferenceIdeal.τ).loc Cert.GateUpReferenceIdeal.main_arg3) = m ((c.tc : Thread Cert.GateUpReferenceIdeal.nD Cert.GateUpReferenceIdeal.τ).loc Cert.GateUpReferenceIdeal.main_arg3)
      ∧ r.2.mem ((c.tc : Thread Cert.GateUpReferenceIdeal.nD Cert.GateUpReferenceIdeal.τ).loc Cert.GateUpReferenceIdeal.main_arg4) = m ((c.tc : Thread Cert.GateUpReferenceIdeal.nD Cert.GateUpReferenceIdeal.τ).loc Cert.GateUpReferenceIdeal.main_arg4))
      ∧ r.2.sem = fun _ => 0)

def quiescent_ConvDxKernel [hConvDxKernel : Cert.ConvDxKernel.Facts] : Prop :=
  ∀ (m : (ℓ : Loc Cert.ConvDxKernel.nD Cert.ConvDxKernel.τ Cert.ConvDxKernel.sig) → Buf (Elt Bits) ℓ) (g : Dev Cert.ConvDxKernel.nD → PrngReg), Pre_ConvDxKernel m →
    θ_run (Cert.ConvDxKernel.defs (F := Bits)) (onTc (τ := Cert.ConvDxKernel.τ) (Cert.ConvDxKernel.main (F := Bits))) ⟨m, fun _ => 0, g⟩ (fun r => (∀ c : Dev Cert.ConvDxKernel.nD,
      r.2.mem ((c.tc : Thread Cert.ConvDxKernel.nD Cert.ConvDxKernel.τ).loc Cert.ConvDxKernel.main_arg0) = m ((c.tc : Thread Cert.ConvDxKernel.nD Cert.ConvDxKernel.τ).loc Cert.ConvDxKernel.main_arg0)
      ∧ r.2.mem ((c.tc : Thread Cert.ConvDxKernel.nD Cert.ConvDxKernel.τ).loc Cert.ConvDxKernel.main_arg1) = m ((c.tc : Thread Cert.ConvDxKernel.nD Cert.ConvDxKernel.τ).loc Cert.ConvDxKernel.main_arg1)
      ∧ r.2.mem ((c.tc : Thread Cert.ConvDxKernel.nD Cert.ConvDxKernel.τ).loc Cert.ConvDxKernel.main_arg2) = m ((c.tc : Thread Cert.ConvDxKernel.nD Cert.ConvDxKernel.τ).loc Cert.ConvDxKernel.main_arg2)
      ∧ r.2.mem ((c.tc : Thread Cert.ConvDxKernel.nD Cert.ConvDxKernel.τ).loc Cert.ConvDxKernel.main_arg3) = m ((c.tc : Thread Cert.ConvDxKernel.nD Cert.ConvDxKernel.τ).loc Cert.ConvDxKernel.main_arg3)
      ∧ r.2.mem ((c.tc : Thread Cert.ConvDxKernel.nD Cert.ConvDxKernel.τ).loc Cert.ConvDxKernel.main_arg4) = m ((c.tc : Thread Cert.ConvDxKernel.nD Cert.ConvDxKernel.τ).loc Cert.ConvDxKernel.main_arg4))
      ∧ r.2.sem = fun _ => 0)

def quiescent_ConvDxKernelIdeal [hConvDxKernelIdeal : Cert.ConvDxKernelIdeal.Facts] : Prop :=
  ∀ (m : (ℓ : Loc Cert.ConvDxKernelIdeal.nD Cert.ConvDxKernelIdeal.τ Cert.ConvDxKernelIdeal.sig) → Buf (Elt Ideal) ℓ) (g : Dev Cert.ConvDxKernelIdeal.nD → PrngReg), Pre_ConvDxKernelIdeal m →
    θ_run (Cert.ConvDxKernelIdeal.defs (F := Ideal)) (onTc (τ := Cert.ConvDxKernelIdeal.τ) (Cert.ConvDxKernelIdeal.main (F := Ideal))) ⟨m, fun _ => 0, g⟩ (fun r => (∀ c : Dev Cert.ConvDxKernelIdeal.nD,
      r.2.mem ((c.tc : Thread Cert.ConvDxKernelIdeal.nD Cert.ConvDxKernelIdeal.τ).loc Cert.ConvDxKernelIdeal.main_arg0) = m ((c.tc : Thread Cert.ConvDxKernelIdeal.nD Cert.ConvDxKernelIdeal.τ).loc Cert.ConvDxKernelIdeal.main_arg0)
      ∧ r.2.mem ((c.tc : Thread Cert.ConvDxKernelIdeal.nD Cert.ConvDxKernelIdeal.τ).loc Cert.ConvDxKernelIdeal.main_arg1) = m ((c.tc : Thread Cert.ConvDxKernelIdeal.nD Cert.ConvDxKernelIdeal.τ).loc Cert.ConvDxKernelIdeal.main_arg1)
      ∧ r.2.mem ((c.tc : Thread Cert.ConvDxKernelIdeal.nD Cert.ConvDxKernelIdeal.τ).loc Cert.ConvDxKernelIdeal.main_arg2) = m ((c.tc : Thread Cert.ConvDxKernelIdeal.nD Cert.ConvDxKernelIdeal.τ).loc Cert.ConvDxKernelIdeal.main_arg2)
      ∧ r.2.mem ((c.tc : Thread Cert.ConvDxKernelIdeal.nD Cert.ConvDxKernelIdeal.τ).loc Cert.ConvDxKernelIdeal.main_arg3) = m ((c.tc : Thread Cert.ConvDxKernelIdeal.nD Cert.ConvDxKernelIdeal.τ).loc Cert.ConvDxKernelIdeal.main_arg3)
      ∧ r.2.mem ((c.tc : Thread Cert.ConvDxKernelIdeal.nD Cert.ConvDxKernelIdeal.τ).loc Cert.ConvDxKernelIdeal.main_arg4) = m ((c.tc : Thread Cert.ConvDxKernelIdeal.nD Cert.ConvDxKernelIdeal.τ).loc Cert.ConvDxKernelIdeal.main_arg4))
      ∧ r.2.sem = fun _ => 0)

def quiescent_ConvDxKernelIdeal_pre_convdx_finite [hConvDxKernelIdeal : Cert.ConvDxKernelIdeal.Facts] [hPre_convdx_finite : Cert.Pre_convdx_finite.Facts] : Prop :=
  ∀ (m : (ℓ : Loc Cert.ConvDxKernelIdeal.nD Cert.ConvDxKernelIdeal.τ Cert.ConvDxKernelIdeal.sig) → Buf (Elt Ideal) ℓ) (g : Dev Cert.ConvDxKernelIdeal.nD → PrngReg), Pre_ConvDxKernelIdeal_convdx_finite m →
    θ_run (Cert.ConvDxKernelIdeal.defs (F := Ideal)) (onTc (τ := Cert.ConvDxKernelIdeal.τ) (Cert.ConvDxKernelIdeal.main (F := Ideal))) ⟨m, fun _ => 0, g⟩ (fun r => (∀ c : Dev Cert.ConvDxKernelIdeal.nD,
      r.2.mem ((c.tc : Thread Cert.ConvDxKernelIdeal.nD Cert.ConvDxKernelIdeal.τ).loc Cert.ConvDxKernelIdeal.main_arg0) = m ((c.tc : Thread Cert.ConvDxKernelIdeal.nD Cert.ConvDxKernelIdeal.τ).loc Cert.ConvDxKernelIdeal.main_arg0)
      ∧ r.2.mem ((c.tc : Thread Cert.ConvDxKernelIdeal.nD Cert.ConvDxKernelIdeal.τ).loc Cert.ConvDxKernelIdeal.main_arg1) = m ((c.tc : Thread Cert.ConvDxKernelIdeal.nD Cert.ConvDxKernelIdeal.τ).loc Cert.ConvDxKernelIdeal.main_arg1)
      ∧ r.2.mem ((c.tc : Thread Cert.ConvDxKernelIdeal.nD Cert.ConvDxKernelIdeal.τ).loc Cert.ConvDxKernelIdeal.main_arg2) = m ((c.tc : Thread Cert.ConvDxKernelIdeal.nD Cert.ConvDxKernelIdeal.τ).loc Cert.ConvDxKernelIdeal.main_arg2)
      ∧ r.2.mem ((c.tc : Thread Cert.ConvDxKernelIdeal.nD Cert.ConvDxKernelIdeal.τ).loc Cert.ConvDxKernelIdeal.main_arg3) = m ((c.tc : Thread Cert.ConvDxKernelIdeal.nD Cert.ConvDxKernelIdeal.τ).loc Cert.ConvDxKernelIdeal.main_arg3)
      ∧ r.2.mem ((c.tc : Thread Cert.ConvDxKernelIdeal.nD Cert.ConvDxKernelIdeal.τ).loc Cert.ConvDxKernelIdeal.main_arg4) = m ((c.tc : Thread Cert.ConvDxKernelIdeal.nD Cert.ConvDxKernelIdeal.τ).loc Cert.ConvDxKernelIdeal.main_arg4))
      ∧ r.2.sem = fun _ => 0)

def quiescent_ConvDxReferenceIdeal [hConvDxReferenceIdeal : Cert.ConvDxReferenceIdeal.Facts] : Prop :=
  ∀ (m : (ℓ : Loc Cert.ConvDxReferenceIdeal.nD Cert.ConvDxReferenceIdeal.τ Cert.ConvDxReferenceIdeal.sig) → Buf (Elt Ideal) ℓ) (g : Dev Cert.ConvDxReferenceIdeal.nD → PrngReg), Pre_ConvDxReferenceIdeal m →
    θ_run (Cert.ConvDxReferenceIdeal.defs (F := Ideal)) (onTc (τ := Cert.ConvDxReferenceIdeal.τ) (Cert.ConvDxReferenceIdeal.main (F := Ideal))) ⟨m, fun _ => 0, g⟩ (fun r => (∀ c : Dev Cert.ConvDxReferenceIdeal.nD,
      r.2.mem ((c.tc : Thread Cert.ConvDxReferenceIdeal.nD Cert.ConvDxReferenceIdeal.τ).loc Cert.ConvDxReferenceIdeal.main_arg0) = m ((c.tc : Thread Cert.ConvDxReferenceIdeal.nD Cert.ConvDxReferenceIdeal.τ).loc Cert.ConvDxReferenceIdeal.main_arg0)
      ∧ r.2.mem ((c.tc : Thread Cert.ConvDxReferenceIdeal.nD Cert.ConvDxReferenceIdeal.τ).loc Cert.ConvDxReferenceIdeal.main_arg1) = m ((c.tc : Thread Cert.ConvDxReferenceIdeal.nD Cert.ConvDxReferenceIdeal.τ).loc Cert.ConvDxReferenceIdeal.main_arg1)
      ∧ r.2.mem ((c.tc : Thread Cert.ConvDxReferenceIdeal.nD Cert.ConvDxReferenceIdeal.τ).loc Cert.ConvDxReferenceIdeal.main_arg2) = m ((c.tc : Thread Cert.ConvDxReferenceIdeal.nD Cert.ConvDxReferenceIdeal.τ).loc Cert.ConvDxReferenceIdeal.main_arg2)
      ∧ r.2.mem ((c.tc : Thread Cert.ConvDxReferenceIdeal.nD Cert.ConvDxReferenceIdeal.τ).loc Cert.ConvDxReferenceIdeal.main_arg3) = m ((c.tc : Thread Cert.ConvDxReferenceIdeal.nD Cert.ConvDxReferenceIdeal.τ).loc Cert.ConvDxReferenceIdeal.main_arg3)
      ∧ r.2.mem ((c.tc : Thread Cert.ConvDxReferenceIdeal.nD Cert.ConvDxReferenceIdeal.τ).loc Cert.ConvDxReferenceIdeal.main_arg4) = m ((c.tc : Thread Cert.ConvDxReferenceIdeal.nD Cert.ConvDxReferenceIdeal.τ).loc Cert.ConvDxReferenceIdeal.main_arg4))
      ∧ r.2.sem = fun _ => 0)

def quiescent_ConvDxReferenceIdeal_pre_convdx_finite [hConvDxReferenceIdeal : Cert.ConvDxReferenceIdeal.Facts] [hPre_convdx_finite : Cert.Pre_convdx_finite.Facts] : Prop :=
  ∀ (m : (ℓ : Loc Cert.ConvDxReferenceIdeal.nD Cert.ConvDxReferenceIdeal.τ Cert.ConvDxReferenceIdeal.sig) → Buf (Elt Ideal) ℓ) (g : Dev Cert.ConvDxReferenceIdeal.nD → PrngReg), Pre_ConvDxReferenceIdeal_convdx_finite m →
    θ_run (Cert.ConvDxReferenceIdeal.defs (F := Ideal)) (onTc (τ := Cert.ConvDxReferenceIdeal.τ) (Cert.ConvDxReferenceIdeal.main (F := Ideal))) ⟨m, fun _ => 0, g⟩ (fun r => (∀ c : Dev Cert.ConvDxReferenceIdeal.nD,
      r.2.mem ((c.tc : Thread Cert.ConvDxReferenceIdeal.nD Cert.ConvDxReferenceIdeal.τ).loc Cert.ConvDxReferenceIdeal.main_arg0) = m ((c.tc : Thread Cert.ConvDxReferenceIdeal.nD Cert.ConvDxReferenceIdeal.τ).loc Cert.ConvDxReferenceIdeal.main_arg0)
      ∧ r.2.mem ((c.tc : Thread Cert.ConvDxReferenceIdeal.nD Cert.ConvDxReferenceIdeal.τ).loc Cert.ConvDxReferenceIdeal.main_arg1) = m ((c.tc : Thread Cert.ConvDxReferenceIdeal.nD Cert.ConvDxReferenceIdeal.τ).loc Cert.ConvDxReferenceIdeal.main_arg1)
      ∧ r.2.mem ((c.tc : Thread Cert.ConvDxReferenceIdeal.nD Cert.ConvDxReferenceIdeal.τ).loc Cert.ConvDxReferenceIdeal.main_arg2) = m ((c.tc : Thread Cert.ConvDxReferenceIdeal.nD Cert.ConvDxReferenceIdeal.τ).loc Cert.ConvDxReferenceIdeal.main_arg2)
      ∧ r.2.mem ((c.tc : Thread Cert.ConvDxReferenceIdeal.nD Cert.ConvDxReferenceIdeal.τ).loc Cert.ConvDxReferenceIdeal.main_arg3) = m ((c.tc : Thread Cert.ConvDxReferenceIdeal.nD Cert.ConvDxReferenceIdeal.τ).loc Cert.ConvDxReferenceIdeal.main_arg3)
      ∧ r.2.mem ((c.tc : Thread Cert.ConvDxReferenceIdeal.nD Cert.ConvDxReferenceIdeal.τ).loc Cert.ConvDxReferenceIdeal.main_arg4) = m ((c.tc : Thread Cert.ConvDxReferenceIdeal.nD Cert.ConvDxReferenceIdeal.τ).loc Cert.ConvDxReferenceIdeal.main_arg4))
      ∧ r.2.sem = fun _ => 0)

def quiescent_EvenDxKernel [hEvenDxKernel : Cert.EvenDxKernel.Facts] : Prop :=
  ∀ (m : (ℓ : Loc Cert.EvenDxKernel.nD Cert.EvenDxKernel.τ Cert.EvenDxKernel.sig) → Buf (Elt Bits) ℓ) (g : Dev Cert.EvenDxKernel.nD → PrngReg), Pre_EvenDxKernel m →
    θ_run (Cert.EvenDxKernel.defs (F := Bits)) (onTc (τ := Cert.EvenDxKernel.τ) (Cert.EvenDxKernel.main (F := Bits))) ⟨m, fun _ => 0, g⟩ (fun r => (∀ c : Dev Cert.EvenDxKernel.nD,
      r.2.mem ((c.tc : Thread Cert.EvenDxKernel.nD Cert.EvenDxKernel.τ).loc Cert.EvenDxKernel.main_arg0) = m ((c.tc : Thread Cert.EvenDxKernel.nD Cert.EvenDxKernel.τ).loc Cert.EvenDxKernel.main_arg0)
      ∧ r.2.mem ((c.tc : Thread Cert.EvenDxKernel.nD Cert.EvenDxKernel.τ).loc Cert.EvenDxKernel.main_arg1) = m ((c.tc : Thread Cert.EvenDxKernel.nD Cert.EvenDxKernel.τ).loc Cert.EvenDxKernel.main_arg1)
      ∧ r.2.mem ((c.tc : Thread Cert.EvenDxKernel.nD Cert.EvenDxKernel.τ).loc Cert.EvenDxKernel.main_arg2) = m ((c.tc : Thread Cert.EvenDxKernel.nD Cert.EvenDxKernel.τ).loc Cert.EvenDxKernel.main_arg2)
      ∧ r.2.mem ((c.tc : Thread Cert.EvenDxKernel.nD Cert.EvenDxKernel.τ).loc Cert.EvenDxKernel.main_arg3) = m ((c.tc : Thread Cert.EvenDxKernel.nD Cert.EvenDxKernel.τ).loc Cert.EvenDxKernel.main_arg3)
      ∧ r.2.mem ((c.tc : Thread Cert.EvenDxKernel.nD Cert.EvenDxKernel.τ).loc Cert.EvenDxKernel.main_arg4) = m ((c.tc : Thread Cert.EvenDxKernel.nD Cert.EvenDxKernel.τ).loc Cert.EvenDxKernel.main_arg4))
      ∧ r.2.sem = fun _ => 0)

def quiescent_EvenDxKernelIdeal [hEvenDxKernelIdeal : Cert.EvenDxKernelIdeal.Facts] : Prop :=
  ∀ (m : (ℓ : Loc Cert.EvenDxKernelIdeal.nD Cert.EvenDxKernelIdeal.τ Cert.EvenDxKernelIdeal.sig) → Buf (Elt Ideal) ℓ) (g : Dev Cert.EvenDxKernelIdeal.nD → PrngReg), Pre_EvenDxKernelIdeal m →
    θ_run (Cert.EvenDxKernelIdeal.defs (F := Ideal)) (onTc (τ := Cert.EvenDxKernelIdeal.τ) (Cert.EvenDxKernelIdeal.main (F := Ideal))) ⟨m, fun _ => 0, g⟩ (fun r => (∀ c : Dev Cert.EvenDxKernelIdeal.nD,
      r.2.mem ((c.tc : Thread Cert.EvenDxKernelIdeal.nD Cert.EvenDxKernelIdeal.τ).loc Cert.EvenDxKernelIdeal.main_arg0) = m ((c.tc : Thread Cert.EvenDxKernelIdeal.nD Cert.EvenDxKernelIdeal.τ).loc Cert.EvenDxKernelIdeal.main_arg0)
      ∧ r.2.mem ((c.tc : Thread Cert.EvenDxKernelIdeal.nD Cert.EvenDxKernelIdeal.τ).loc Cert.EvenDxKernelIdeal.main_arg1) = m ((c.tc : Thread Cert.EvenDxKernelIdeal.nD Cert.EvenDxKernelIdeal.τ).loc Cert.EvenDxKernelIdeal.main_arg1)
      ∧ r.2.mem ((c.tc : Thread Cert.EvenDxKernelIdeal.nD Cert.EvenDxKernelIdeal.τ).loc Cert.EvenDxKernelIdeal.main_arg2) = m ((c.tc : Thread Cert.EvenDxKernelIdeal.nD Cert.EvenDxKernelIdeal.τ).loc Cert.EvenDxKernelIdeal.main_arg2)
      ∧ r.2.mem ((c.tc : Thread Cert.EvenDxKernelIdeal.nD Cert.EvenDxKernelIdeal.τ).loc Cert.EvenDxKernelIdeal.main_arg3) = m ((c.tc : Thread Cert.EvenDxKernelIdeal.nD Cert.EvenDxKernelIdeal.τ).loc Cert.EvenDxKernelIdeal.main_arg3)
      ∧ r.2.mem ((c.tc : Thread Cert.EvenDxKernelIdeal.nD Cert.EvenDxKernelIdeal.τ).loc Cert.EvenDxKernelIdeal.main_arg4) = m ((c.tc : Thread Cert.EvenDxKernelIdeal.nD Cert.EvenDxKernelIdeal.τ).loc Cert.EvenDxKernelIdeal.main_arg4))
      ∧ r.2.sem = fun _ => 0)

def quiescent_EvenDxKernelIdeal_pre_evendx_finite [hEvenDxKernelIdeal : Cert.EvenDxKernelIdeal.Facts] [hPre_evendx_finite : Cert.Pre_evendx_finite.Facts] : Prop :=
  ∀ (m : (ℓ : Loc Cert.EvenDxKernelIdeal.nD Cert.EvenDxKernelIdeal.τ Cert.EvenDxKernelIdeal.sig) → Buf (Elt Ideal) ℓ) (g : Dev Cert.EvenDxKernelIdeal.nD → PrngReg), Pre_EvenDxKernelIdeal_evendx_finite m →
    θ_run (Cert.EvenDxKernelIdeal.defs (F := Ideal)) (onTc (τ := Cert.EvenDxKernelIdeal.τ) (Cert.EvenDxKernelIdeal.main (F := Ideal))) ⟨m, fun _ => 0, g⟩ (fun r => (∀ c : Dev Cert.EvenDxKernelIdeal.nD,
      r.2.mem ((c.tc : Thread Cert.EvenDxKernelIdeal.nD Cert.EvenDxKernelIdeal.τ).loc Cert.EvenDxKernelIdeal.main_arg0) = m ((c.tc : Thread Cert.EvenDxKernelIdeal.nD Cert.EvenDxKernelIdeal.τ).loc Cert.EvenDxKernelIdeal.main_arg0)
      ∧ r.2.mem ((c.tc : Thread Cert.EvenDxKernelIdeal.nD Cert.EvenDxKernelIdeal.τ).loc Cert.EvenDxKernelIdeal.main_arg1) = m ((c.tc : Thread Cert.EvenDxKernelIdeal.nD Cert.EvenDxKernelIdeal.τ).loc Cert.EvenDxKernelIdeal.main_arg1)
      ∧ r.2.mem ((c.tc : Thread Cert.EvenDxKernelIdeal.nD Cert.EvenDxKernelIdeal.τ).loc Cert.EvenDxKernelIdeal.main_arg2) = m ((c.tc : Thread Cert.EvenDxKernelIdeal.nD Cert.EvenDxKernelIdeal.τ).loc Cert.EvenDxKernelIdeal.main_arg2)
      ∧ r.2.mem ((c.tc : Thread Cert.EvenDxKernelIdeal.nD Cert.EvenDxKernelIdeal.τ).loc Cert.EvenDxKernelIdeal.main_arg3) = m ((c.tc : Thread Cert.EvenDxKernelIdeal.nD Cert.EvenDxKernelIdeal.τ).loc Cert.EvenDxKernelIdeal.main_arg3)
      ∧ r.2.mem ((c.tc : Thread Cert.EvenDxKernelIdeal.nD Cert.EvenDxKernelIdeal.τ).loc Cert.EvenDxKernelIdeal.main_arg4) = m ((c.tc : Thread Cert.EvenDxKernelIdeal.nD Cert.EvenDxKernelIdeal.τ).loc Cert.EvenDxKernelIdeal.main_arg4))
      ∧ r.2.sem = fun _ => 0)

def quiescent_EvenDxReferenceIdeal [hEvenDxReferenceIdeal : Cert.EvenDxReferenceIdeal.Facts] : Prop :=
  ∀ (m : (ℓ : Loc Cert.EvenDxReferenceIdeal.nD Cert.EvenDxReferenceIdeal.τ Cert.EvenDxReferenceIdeal.sig) → Buf (Elt Ideal) ℓ) (g : Dev Cert.EvenDxReferenceIdeal.nD → PrngReg), Pre_EvenDxReferenceIdeal m →
    θ_run (Cert.EvenDxReferenceIdeal.defs (F := Ideal)) (onTc (τ := Cert.EvenDxReferenceIdeal.τ) (Cert.EvenDxReferenceIdeal.main (F := Ideal))) ⟨m, fun _ => 0, g⟩ (fun r => (∀ c : Dev Cert.EvenDxReferenceIdeal.nD,
      r.2.mem ((c.tc : Thread Cert.EvenDxReferenceIdeal.nD Cert.EvenDxReferenceIdeal.τ).loc Cert.EvenDxReferenceIdeal.main_arg0) = m ((c.tc : Thread Cert.EvenDxReferenceIdeal.nD Cert.EvenDxReferenceIdeal.τ).loc Cert.EvenDxReferenceIdeal.main_arg0)
      ∧ r.2.mem ((c.tc : Thread Cert.EvenDxReferenceIdeal.nD Cert.EvenDxReferenceIdeal.τ).loc Cert.EvenDxReferenceIdeal.main_arg1) = m ((c.tc : Thread Cert.EvenDxReferenceIdeal.nD Cert.EvenDxReferenceIdeal.τ).loc Cert.EvenDxReferenceIdeal.main_arg1)
      ∧ r.2.mem ((c.tc : Thread Cert.EvenDxReferenceIdeal.nD Cert.EvenDxReferenceIdeal.τ).loc Cert.EvenDxReferenceIdeal.main_arg2) = m ((c.tc : Thread Cert.EvenDxReferenceIdeal.nD Cert.EvenDxReferenceIdeal.τ).loc Cert.EvenDxReferenceIdeal.main_arg2)
      ∧ r.2.mem ((c.tc : Thread Cert.EvenDxReferenceIdeal.nD Cert.EvenDxReferenceIdeal.τ).loc Cert.EvenDxReferenceIdeal.main_arg3) = m ((c.tc : Thread Cert.EvenDxReferenceIdeal.nD Cert.EvenDxReferenceIdeal.τ).loc Cert.EvenDxReferenceIdeal.main_arg3)
      ∧ r.2.mem ((c.tc : Thread Cert.EvenDxReferenceIdeal.nD Cert.EvenDxReferenceIdeal.τ).loc Cert.EvenDxReferenceIdeal.main_arg4) = m ((c.tc : Thread Cert.EvenDxReferenceIdeal.nD Cert.EvenDxReferenceIdeal.τ).loc Cert.EvenDxReferenceIdeal.main_arg4))
      ∧ r.2.sem = fun _ => 0)

def quiescent_EvenDxReferenceIdeal_pre_evendx_finite [hEvenDxReferenceIdeal : Cert.EvenDxReferenceIdeal.Facts] [hPre_evendx_finite : Cert.Pre_evendx_finite.Facts] : Prop :=
  ∀ (m : (ℓ : Loc Cert.EvenDxReferenceIdeal.nD Cert.EvenDxReferenceIdeal.τ Cert.EvenDxReferenceIdeal.sig) → Buf (Elt Ideal) ℓ) (g : Dev Cert.EvenDxReferenceIdeal.nD → PrngReg), Pre_EvenDxReferenceIdeal_evendx_finite m →
    θ_run (Cert.EvenDxReferenceIdeal.defs (F := Ideal)) (onTc (τ := Cert.EvenDxReferenceIdeal.τ) (Cert.EvenDxReferenceIdeal.main (F := Ideal))) ⟨m, fun _ => 0, g⟩ (fun r => (∀ c : Dev Cert.EvenDxReferenceIdeal.nD,
      r.2.mem ((c.tc : Thread Cert.EvenDxReferenceIdeal.nD Cert.EvenDxReferenceIdeal.τ).loc Cert.EvenDxReferenceIdeal.main_arg0) = m ((c.tc : Thread Cert.EvenDxReferenceIdeal.nD Cert.EvenDxReferenceIdeal.τ).loc Cert.EvenDxReferenceIdeal.main_arg0)
      ∧ r.2.mem ((c.tc : Thread Cert.EvenDxReferenceIdeal.nD Cert.EvenDxReferenceIdeal.τ).loc Cert.EvenDxReferenceIdeal.main_arg1) = m ((c.tc : Thread Cert.EvenDxReferenceIdeal.nD Cert.EvenDxReferenceIdeal.τ).loc Cert.EvenDxReferenceIdeal.main_arg1)
      ∧ r.2.mem ((c.tc : Thread Cert.EvenDxReferenceIdeal.nD Cert.EvenDxReferenceIdeal.τ).loc Cert.EvenDxReferenceIdeal.main_arg2) = m ((c.tc : Thread Cert.EvenDxReferenceIdeal.nD Cert.EvenDxReferenceIdeal.τ).loc Cert.EvenDxReferenceIdeal.main_arg2)
      ∧ r.2.mem ((c.tc : Thread Cert.EvenDxReferenceIdeal.nD Cert.EvenDxReferenceIdeal.τ).loc Cert.EvenDxReferenceIdeal.main_arg3) = m ((c.tc : Thread Cert.EvenDxReferenceIdeal.nD Cert.EvenDxReferenceIdeal.τ).loc Cert.EvenDxReferenceIdeal.main_arg3)
      ∧ r.2.mem ((c.tc : Thread Cert.EvenDxReferenceIdeal.nD Cert.EvenDxReferenceIdeal.τ).loc Cert.EvenDxReferenceIdeal.main_arg4) = m ((c.tc : Thread Cert.EvenDxReferenceIdeal.nD Cert.EvenDxReferenceIdeal.τ).loc Cert.EvenDxReferenceIdeal.main_arg4))
      ∧ r.2.sem = fun _ => 0)

def quiescent_FfnDxKernel [hFfnDxKernel : Cert.FfnDxKernel.Facts] : Prop :=
  ∀ (m : (ℓ : Loc Cert.FfnDxKernel.nD Cert.FfnDxKernel.τ Cert.FfnDxKernel.sig) → Buf (Elt Bits) ℓ) (g : Dev Cert.FfnDxKernel.nD → PrngReg), Pre_FfnDxKernel m →
    θ_run (Cert.FfnDxKernel.defs (F := Bits)) (onTc (τ := Cert.FfnDxKernel.τ) (Cert.FfnDxKernel.main (F := Bits))) ⟨m, fun _ => 0, g⟩ (fun r => (∀ c : Dev Cert.FfnDxKernel.nD,
      r.2.mem ((c.tc : Thread Cert.FfnDxKernel.nD Cert.FfnDxKernel.τ).loc Cert.FfnDxKernel.main_arg0) = m ((c.tc : Thread Cert.FfnDxKernel.nD Cert.FfnDxKernel.τ).loc Cert.FfnDxKernel.main_arg0)
      ∧ r.2.mem ((c.tc : Thread Cert.FfnDxKernel.nD Cert.FfnDxKernel.τ).loc Cert.FfnDxKernel.main_arg1) = m ((c.tc : Thread Cert.FfnDxKernel.nD Cert.FfnDxKernel.τ).loc Cert.FfnDxKernel.main_arg1)
      ∧ r.2.mem ((c.tc : Thread Cert.FfnDxKernel.nD Cert.FfnDxKernel.τ).loc Cert.FfnDxKernel.main_arg2) = m ((c.tc : Thread Cert.FfnDxKernel.nD Cert.FfnDxKernel.τ).loc Cert.FfnDxKernel.main_arg2)
      ∧ r.2.mem ((c.tc : Thread Cert.FfnDxKernel.nD Cert.FfnDxKernel.τ).loc Cert.FfnDxKernel.main_arg3) = m ((c.tc : Thread Cert.FfnDxKernel.nD Cert.FfnDxKernel.τ).loc Cert.FfnDxKernel.main_arg3)
      ∧ r.2.mem ((c.tc : Thread Cert.FfnDxKernel.nD Cert.FfnDxKernel.τ).loc Cert.FfnDxKernel.main_arg4) = m ((c.tc : Thread Cert.FfnDxKernel.nD Cert.FfnDxKernel.τ).loc Cert.FfnDxKernel.main_arg4)
      ∧ r.2.mem ((c.tc : Thread Cert.FfnDxKernel.nD Cert.FfnDxKernel.τ).loc Cert.FfnDxKernel.main_arg5) = m ((c.tc : Thread Cert.FfnDxKernel.nD Cert.FfnDxKernel.τ).loc Cert.FfnDxKernel.main_arg5)
      ∧ r.2.mem ((c.tc : Thread Cert.FfnDxKernel.nD Cert.FfnDxKernel.τ).loc Cert.FfnDxKernel.main_arg6) = m ((c.tc : Thread Cert.FfnDxKernel.nD Cert.FfnDxKernel.τ).loc Cert.FfnDxKernel.main_arg6))
      ∧ r.2.sem = fun _ => 0)

def quiescent_FfnDxKernelIdeal [hFfnDxKernelIdeal : Cert.FfnDxKernelIdeal.Facts] : Prop :=
  ∀ (m : (ℓ : Loc Cert.FfnDxKernelIdeal.nD Cert.FfnDxKernelIdeal.τ Cert.FfnDxKernelIdeal.sig) → Buf (Elt Ideal) ℓ) (g : Dev Cert.FfnDxKernelIdeal.nD → PrngReg), Pre_FfnDxKernelIdeal m →
    θ_run (Cert.FfnDxKernelIdeal.defs (F := Ideal)) (onTc (τ := Cert.FfnDxKernelIdeal.τ) (Cert.FfnDxKernelIdeal.main (F := Ideal))) ⟨m, fun _ => 0, g⟩ (fun r => (∀ c : Dev Cert.FfnDxKernelIdeal.nD,
      r.2.mem ((c.tc : Thread Cert.FfnDxKernelIdeal.nD Cert.FfnDxKernelIdeal.τ).loc Cert.FfnDxKernelIdeal.main_arg0) = m ((c.tc : Thread Cert.FfnDxKernelIdeal.nD Cert.FfnDxKernelIdeal.τ).loc Cert.FfnDxKernelIdeal.main_arg0)
      ∧ r.2.mem ((c.tc : Thread Cert.FfnDxKernelIdeal.nD Cert.FfnDxKernelIdeal.τ).loc Cert.FfnDxKernelIdeal.main_arg1) = m ((c.tc : Thread Cert.FfnDxKernelIdeal.nD Cert.FfnDxKernelIdeal.τ).loc Cert.FfnDxKernelIdeal.main_arg1)
      ∧ r.2.mem ((c.tc : Thread Cert.FfnDxKernelIdeal.nD Cert.FfnDxKernelIdeal.τ).loc Cert.FfnDxKernelIdeal.main_arg2) = m ((c.tc : Thread Cert.FfnDxKernelIdeal.nD Cert.FfnDxKernelIdeal.τ).loc Cert.FfnDxKernelIdeal.main_arg2)
      ∧ r.2.mem ((c.tc : Thread Cert.FfnDxKernelIdeal.nD Cert.FfnDxKernelIdeal.τ).loc Cert.FfnDxKernelIdeal.main_arg3) = m ((c.tc : Thread Cert.FfnDxKernelIdeal.nD Cert.FfnDxKernelIdeal.τ).loc Cert.FfnDxKernelIdeal.main_arg3)
      ∧ r.2.mem ((c.tc : Thread Cert.FfnDxKernelIdeal.nD Cert.FfnDxKernelIdeal.τ).loc Cert.FfnDxKernelIdeal.main_arg4) = m ((c.tc : Thread Cert.FfnDxKernelIdeal.nD Cert.FfnDxKernelIdeal.τ).loc Cert.FfnDxKernelIdeal.main_arg4)
      ∧ r.2.mem ((c.tc : Thread Cert.FfnDxKernelIdeal.nD Cert.FfnDxKernelIdeal.τ).loc Cert.FfnDxKernelIdeal.main_arg5) = m ((c.tc : Thread Cert.FfnDxKernelIdeal.nD Cert.FfnDxKernelIdeal.τ).loc Cert.FfnDxKernelIdeal.main_arg5)
      ∧ r.2.mem ((c.tc : Thread Cert.FfnDxKernelIdeal.nD Cert.FfnDxKernelIdeal.τ).loc Cert.FfnDxKernelIdeal.main_arg6) = m ((c.tc : Thread Cert.FfnDxKernelIdeal.nD Cert.FfnDxKernelIdeal.τ).loc Cert.FfnDxKernelIdeal.main_arg6))
      ∧ r.2.sem = fun _ => 0)

def quiescent_FfnDxKernelIdeal_pre_ffndx_finite [hFfnDxKernelIdeal : Cert.FfnDxKernelIdeal.Facts] [hPre_ffndx_finite : Cert.Pre_ffndx_finite.Facts] : Prop :=
  ∀ (m : (ℓ : Loc Cert.FfnDxKernelIdeal.nD Cert.FfnDxKernelIdeal.τ Cert.FfnDxKernelIdeal.sig) → Buf (Elt Ideal) ℓ) (g : Dev Cert.FfnDxKernelIdeal.nD → PrngReg), Pre_FfnDxKernelIdeal_ffndx_finite m →
    θ_run (Cert.FfnDxKernelIdeal.defs (F := Ideal)) (onTc (τ := Cert.FfnDxKernelIdeal.τ) (Cert.FfnDxKernelIdeal.main (F := Ideal))) ⟨m, fun _ => 0, g⟩ (fun r => (∀ c : Dev Cert.FfnDxKernelIdeal.nD,
      r.2.mem ((c.tc : Thread Cert.FfnDxKernelIdeal.nD Cert.FfnDxKernelIdeal.τ).loc Cert.FfnDxKernelIdeal.main_arg0) = m ((c.tc : Thread Cert.FfnDxKernelIdeal.nD Cert.FfnDxKernelIdeal.τ).loc Cert.FfnDxKernelIdeal.main_arg0)
      ∧ r.2.mem ((c.tc : Thread Cert.FfnDxKernelIdeal.nD Cert.FfnDxKernelIdeal.τ).loc Cert.FfnDxKernelIdeal.main_arg1) = m ((c.tc : Thread Cert.FfnDxKernelIdeal.nD Cert.FfnDxKernelIdeal.τ).loc Cert.FfnDxKernelIdeal.main_arg1)
      ∧ r.2.mem ((c.tc : Thread Cert.FfnDxKernelIdeal.nD Cert.FfnDxKernelIdeal.τ).loc Cert.FfnDxKernelIdeal.main_arg2) = m ((c.tc : Thread Cert.FfnDxKernelIdeal.nD Cert.FfnDxKernelIdeal.τ).loc Cert.FfnDxKernelIdeal.main_arg2)
      ∧ r.2.mem ((c.tc : Thread Cert.FfnDxKernelIdeal.nD Cert.FfnDxKernelIdeal.τ).loc Cert.FfnDxKernelIdeal.main_arg3) = m ((c.tc : Thread Cert.FfnDxKernelIdeal.nD Cert.FfnDxKernelIdeal.τ).loc Cert.FfnDxKernelIdeal.main_arg3)
      ∧ r.2.mem ((c.tc : Thread Cert.FfnDxKernelIdeal.nD Cert.FfnDxKernelIdeal.τ).loc Cert.FfnDxKernelIdeal.main_arg4) = m ((c.tc : Thread Cert.FfnDxKernelIdeal.nD Cert.FfnDxKernelIdeal.τ).loc Cert.FfnDxKernelIdeal.main_arg4)
      ∧ r.2.mem ((c.tc : Thread Cert.FfnDxKernelIdeal.nD Cert.FfnDxKernelIdeal.τ).loc Cert.FfnDxKernelIdeal.main_arg5) = m ((c.tc : Thread Cert.FfnDxKernelIdeal.nD Cert.FfnDxKernelIdeal.τ).loc Cert.FfnDxKernelIdeal.main_arg5)
      ∧ r.2.mem ((c.tc : Thread Cert.FfnDxKernelIdeal.nD Cert.FfnDxKernelIdeal.τ).loc Cert.FfnDxKernelIdeal.main_arg6) = m ((c.tc : Thread Cert.FfnDxKernelIdeal.nD Cert.FfnDxKernelIdeal.τ).loc Cert.FfnDxKernelIdeal.main_arg6))
      ∧ r.2.sem = fun _ => 0)

def quiescent_FfnDxReferenceIdeal [hFfnDxReferenceIdeal : Cert.FfnDxReferenceIdeal.Facts] : Prop :=
  ∀ (m : (ℓ : Loc Cert.FfnDxReferenceIdeal.nD Cert.FfnDxReferenceIdeal.τ Cert.FfnDxReferenceIdeal.sig) → Buf (Elt Ideal) ℓ) (g : Dev Cert.FfnDxReferenceIdeal.nD → PrngReg), Pre_FfnDxReferenceIdeal m →
    θ_run (Cert.FfnDxReferenceIdeal.defs (F := Ideal)) (onTc (τ := Cert.FfnDxReferenceIdeal.τ) (Cert.FfnDxReferenceIdeal.main (F := Ideal))) ⟨m, fun _ => 0, g⟩ (fun r => (∀ c : Dev Cert.FfnDxReferenceIdeal.nD,
      r.2.mem ((c.tc : Thread Cert.FfnDxReferenceIdeal.nD Cert.FfnDxReferenceIdeal.τ).loc Cert.FfnDxReferenceIdeal.main_arg0) = m ((c.tc : Thread Cert.FfnDxReferenceIdeal.nD Cert.FfnDxReferenceIdeal.τ).loc Cert.FfnDxReferenceIdeal.main_arg0)
      ∧ r.2.mem ((c.tc : Thread Cert.FfnDxReferenceIdeal.nD Cert.FfnDxReferenceIdeal.τ).loc Cert.FfnDxReferenceIdeal.main_arg1) = m ((c.tc : Thread Cert.FfnDxReferenceIdeal.nD Cert.FfnDxReferenceIdeal.τ).loc Cert.FfnDxReferenceIdeal.main_arg1)
      ∧ r.2.mem ((c.tc : Thread Cert.FfnDxReferenceIdeal.nD Cert.FfnDxReferenceIdeal.τ).loc Cert.FfnDxReferenceIdeal.main_arg2) = m ((c.tc : Thread Cert.FfnDxReferenceIdeal.nD Cert.FfnDxReferenceIdeal.τ).loc Cert.FfnDxReferenceIdeal.main_arg2)
      ∧ r.2.mem ((c.tc : Thread Cert.FfnDxReferenceIdeal.nD Cert.FfnDxReferenceIdeal.τ).loc Cert.FfnDxReferenceIdeal.main_arg3) = m ((c.tc : Thread Cert.FfnDxReferenceIdeal.nD Cert.FfnDxReferenceIdeal.τ).loc Cert.FfnDxReferenceIdeal.main_arg3)
      ∧ r.2.mem ((c.tc : Thread Cert.FfnDxReferenceIdeal.nD Cert.FfnDxReferenceIdeal.τ).loc Cert.FfnDxReferenceIdeal.main_arg4) = m ((c.tc : Thread Cert.FfnDxReferenceIdeal.nD Cert.FfnDxReferenceIdeal.τ).loc Cert.FfnDxReferenceIdeal.main_arg4)
      ∧ r.2.mem ((c.tc : Thread Cert.FfnDxReferenceIdeal.nD Cert.FfnDxReferenceIdeal.τ).loc Cert.FfnDxReferenceIdeal.main_arg5) = m ((c.tc : Thread Cert.FfnDxReferenceIdeal.nD Cert.FfnDxReferenceIdeal.τ).loc Cert.FfnDxReferenceIdeal.main_arg5)
      ∧ r.2.mem ((c.tc : Thread Cert.FfnDxReferenceIdeal.nD Cert.FfnDxReferenceIdeal.τ).loc Cert.FfnDxReferenceIdeal.main_arg6) = m ((c.tc : Thread Cert.FfnDxReferenceIdeal.nD Cert.FfnDxReferenceIdeal.τ).loc Cert.FfnDxReferenceIdeal.main_arg6))
      ∧ r.2.sem = fun _ => 0)

def quiescent_FfnDxReferenceIdeal_pre_ffndx_finite [hFfnDxReferenceIdeal : Cert.FfnDxReferenceIdeal.Facts] [hPre_ffndx_finite : Cert.Pre_ffndx_finite.Facts] : Prop :=
  ∀ (m : (ℓ : Loc Cert.FfnDxReferenceIdeal.nD Cert.FfnDxReferenceIdeal.τ Cert.FfnDxReferenceIdeal.sig) → Buf (Elt Ideal) ℓ) (g : Dev Cert.FfnDxReferenceIdeal.nD → PrngReg), Pre_FfnDxReferenceIdeal_ffndx_finite m →
    θ_run (Cert.FfnDxReferenceIdeal.defs (F := Ideal)) (onTc (τ := Cert.FfnDxReferenceIdeal.τ) (Cert.FfnDxReferenceIdeal.main (F := Ideal))) ⟨m, fun _ => 0, g⟩ (fun r => (∀ c : Dev Cert.FfnDxReferenceIdeal.nD,
      r.2.mem ((c.tc : Thread Cert.FfnDxReferenceIdeal.nD Cert.FfnDxReferenceIdeal.τ).loc Cert.FfnDxReferenceIdeal.main_arg0) = m ((c.tc : Thread Cert.FfnDxReferenceIdeal.nD Cert.FfnDxReferenceIdeal.τ).loc Cert.FfnDxReferenceIdeal.main_arg0)
      ∧ r.2.mem ((c.tc : Thread Cert.FfnDxReferenceIdeal.nD Cert.FfnDxReferenceIdeal.τ).loc Cert.FfnDxReferenceIdeal.main_arg1) = m ((c.tc : Thread Cert.FfnDxReferenceIdeal.nD Cert.FfnDxReferenceIdeal.τ).loc Cert.FfnDxReferenceIdeal.main_arg1)
      ∧ r.2.mem ((c.tc : Thread Cert.FfnDxReferenceIdeal.nD Cert.FfnDxReferenceIdeal.τ).loc Cert.FfnDxReferenceIdeal.main_arg2) = m ((c.tc : Thread Cert.FfnDxReferenceIdeal.nD Cert.FfnDxReferenceIdeal.τ).loc Cert.FfnDxReferenceIdeal.main_arg2)
      ∧ r.2.mem ((c.tc : Thread Cert.FfnDxReferenceIdeal.nD Cert.FfnDxReferenceIdeal.τ).loc Cert.FfnDxReferenceIdeal.main_arg3) = m ((c.tc : Thread Cert.FfnDxReferenceIdeal.nD Cert.FfnDxReferenceIdeal.τ).loc Cert.FfnDxReferenceIdeal.main_arg3)
      ∧ r.2.mem ((c.tc : Thread Cert.FfnDxReferenceIdeal.nD Cert.FfnDxReferenceIdeal.τ).loc Cert.FfnDxReferenceIdeal.main_arg4) = m ((c.tc : Thread Cert.FfnDxReferenceIdeal.nD Cert.FfnDxReferenceIdeal.τ).loc Cert.FfnDxReferenceIdeal.main_arg4)
      ∧ r.2.mem ((c.tc : Thread Cert.FfnDxReferenceIdeal.nD Cert.FfnDxReferenceIdeal.τ).loc Cert.FfnDxReferenceIdeal.main_arg5) = m ((c.tc : Thread Cert.FfnDxReferenceIdeal.nD Cert.FfnDxReferenceIdeal.τ).loc Cert.FfnDxReferenceIdeal.main_arg5)
      ∧ r.2.mem ((c.tc : Thread Cert.FfnDxReferenceIdeal.nD Cert.FfnDxReferenceIdeal.τ).loc Cert.FfnDxReferenceIdeal.main_arg6) = m ((c.tc : Thread Cert.FfnDxReferenceIdeal.nD Cert.FfnDxReferenceIdeal.τ).loc Cert.FfnDxReferenceIdeal.main_arg6))
      ∧ r.2.sem = fun _ => 0)

def quiescent_AttnKernel [hAttnKernel : Cert.AttnKernel.Facts] : Prop :=
  ∀ (m : (ℓ : Loc Cert.AttnKernel.nD Cert.AttnKernel.τ Cert.AttnKernel.sig) → Buf (Elt Bits) ℓ) (g : Dev Cert.AttnKernel.nD → PrngReg), Pre_AttnKernel m →
    θ_run (Cert.AttnKernel.defs (F := Bits)) (onTc (τ := Cert.AttnKernel.τ) (Cert.AttnKernel.main (F := Bits))) ⟨m, fun _ => 0, g⟩ (fun r => (∀ c : Dev Cert.AttnKernel.nD,
      r.2.mem ((c.tc : Thread Cert.AttnKernel.nD Cert.AttnKernel.τ).loc Cert.AttnKernel.main_arg0) = m ((c.tc : Thread Cert.AttnKernel.nD Cert.AttnKernel.τ).loc Cert.AttnKernel.main_arg0)
      ∧ r.2.mem ((c.tc : Thread Cert.AttnKernel.nD Cert.AttnKernel.τ).loc Cert.AttnKernel.main_arg1) = m ((c.tc : Thread Cert.AttnKernel.nD Cert.AttnKernel.τ).loc Cert.AttnKernel.main_arg1)
      ∧ r.2.mem ((c.tc : Thread Cert.AttnKernel.nD Cert.AttnKernel.τ).loc Cert.AttnKernel.main_arg2) = m ((c.tc : Thread Cert.AttnKernel.nD Cert.AttnKernel.τ).loc Cert.AttnKernel.main_arg2)
      ∧ r.2.mem ((c.tc : Thread Cert.AttnKernel.nD Cert.AttnKernel.τ).loc Cert.AttnKernel.main_arg3) = m ((c.tc : Thread Cert.AttnKernel.nD Cert.AttnKernel.τ).loc Cert.AttnKernel.main_arg3)
      ∧ r.2.mem ((c.tc : Thread Cert.AttnKernel.nD Cert.AttnKernel.τ).loc Cert.AttnKernel.main_arg4) = m ((c.tc : Thread Cert.AttnKernel.nD Cert.AttnKernel.τ).loc Cert.AttnKernel.main_arg4)
      ∧ r.2.mem ((c.tc : Thread Cert.AttnKernel.nD Cert.AttnKernel.τ).loc Cert.AttnKernel.main_arg5) = m ((c.tc : Thread Cert.AttnKernel.nD Cert.AttnKernel.τ).loc Cert.AttnKernel.main_arg5))
      ∧ r.2.sem = fun _ => 0)

def quiescent_AttnKernelIdeal [hAttnKernelIdeal : Cert.AttnKernelIdeal.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
      ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3)
      ∧ r.2.mem ((c.tc : Thread Cert.AttnKernelIdeal.nD Cert.AttnKernelIdeal.τ).loc Cert.AttnKernelIdeal.main_arg4) = m ((c.tc : Thread Cert.AttnKernelIdeal.nD Cert.AttnKernelIdeal.τ).loc Cert.AttnKernelIdeal.main_arg4)
      ∧ r.2.mem ((c.tc : Thread Cert.AttnKernelIdeal.nD Cert.AttnKernelIdeal.τ).loc Cert.AttnKernelIdeal.main_arg5) = m ((c.tc : Thread Cert.AttnKernelIdeal.nD Cert.AttnKernelIdeal.τ).loc Cert.AttnKernelIdeal.main_arg5))
      ∧ r.2.sem = fun _ => 0)

def quiescent_AttnKernelIdeal_pre_attn_finite [hAttnKernelIdeal : Cert.AttnKernelIdeal.Facts] [hPre_attn_finite : Cert.Pre_attn_finite.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal_attn_finite m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
      ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3)
      ∧ r.2.mem ((c.tc : Thread Cert.AttnKernelIdeal.nD Cert.AttnKernelIdeal.τ).loc Cert.AttnKernelIdeal.main_arg4) = m ((c.tc : Thread Cert.AttnKernelIdeal.nD Cert.AttnKernelIdeal.τ).loc Cert.AttnKernelIdeal.main_arg4)
      ∧ r.2.mem ((c.tc : Thread Cert.AttnKernelIdeal.nD Cert.AttnKernelIdeal.τ).loc Cert.AttnKernelIdeal.main_arg5) = m ((c.tc : Thread Cert.AttnKernelIdeal.nD Cert.AttnKernelIdeal.τ).loc Cert.AttnKernelIdeal.main_arg5))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3)
      ∧ r.2.mem ((c.tc : Thread Cert.AttnReferenceIdeal.nD Cert.AttnReferenceIdeal.τ).loc Cert.AttnReferenceIdeal.main_arg4) = m ((c.tc : Thread Cert.AttnReferenceIdeal.nD Cert.AttnReferenceIdeal.τ).loc Cert.AttnReferenceIdeal.main_arg4)
      ∧ r.2.mem ((c.tc : Thread Cert.AttnReferenceIdeal.nD Cert.AttnReferenceIdeal.τ).loc Cert.AttnReferenceIdeal.main_arg5) = m ((c.tc : Thread Cert.AttnReferenceIdeal.nD Cert.AttnReferenceIdeal.τ).loc Cert.AttnReferenceIdeal.main_arg5))
      ∧ r.2.sem = fun _ => 0)

def quiescent_AttnReferenceIdeal_pre_attn_finite [hAttnReferenceIdeal : Cert.AttnReferenceIdeal.Facts] [hPre_attn_finite : Cert.Pre_attn_finite.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal_attn_finite m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3)
      ∧ r.2.mem ((c.tc : Thread Cert.AttnReferenceIdeal.nD Cert.AttnReferenceIdeal.τ).loc Cert.AttnReferenceIdeal.main_arg4) = m ((c.tc : Thread Cert.AttnReferenceIdeal.nD Cert.AttnReferenceIdeal.τ).loc Cert.AttnReferenceIdeal.main_arg4)
      ∧ r.2.mem ((c.tc : Thread Cert.AttnReferenceIdeal.nD Cert.AttnReferenceIdeal.τ).loc Cert.AttnReferenceIdeal.main_arg5) = m ((c.tc : Thread Cert.AttnReferenceIdeal.nD Cert.AttnReferenceIdeal.τ).loc Cert.AttnReferenceIdeal.main_arg5))
      ∧ r.2.sem = fun _ => 0)

def quiescent_SguKernel [hSguKernel : Cert.SguKernel.Facts] : Prop :=
  ∀ (m : (ℓ : Loc Cert.SguKernel.nD Cert.SguKernel.τ Cert.SguKernel.sig) → Buf (Elt Bits) ℓ) (g : Dev Cert.SguKernel.nD → PrngReg), Pre_SguKernel m →
    θ_run (Cert.SguKernel.defs (F := Bits)) (onTc (τ := Cert.SguKernel.τ) (Cert.SguKernel.main (F := Bits))) ⟨m, fun _ => 0, g⟩ (fun r => (∀ c : Dev Cert.SguKernel.nD,
      r.2.mem ((c.tc : Thread Cert.SguKernel.nD Cert.SguKernel.τ).loc Cert.SguKernel.main_arg0) = m ((c.tc : Thread Cert.SguKernel.nD Cert.SguKernel.τ).loc Cert.SguKernel.main_arg0)
      ∧ r.2.mem ((c.tc : Thread Cert.SguKernel.nD Cert.SguKernel.τ).loc Cert.SguKernel.main_arg1) = m ((c.tc : Thread Cert.SguKernel.nD Cert.SguKernel.τ).loc Cert.SguKernel.main_arg1)
      ∧ r.2.mem ((c.tc : Thread Cert.SguKernel.nD Cert.SguKernel.τ).loc Cert.SguKernel.main_arg2) = m ((c.tc : Thread Cert.SguKernel.nD Cert.SguKernel.τ).loc Cert.SguKernel.main_arg2)
      ∧ r.2.mem ((c.tc : Thread Cert.SguKernel.nD Cert.SguKernel.τ).loc Cert.SguKernel.main_arg3) = m ((c.tc : Thread Cert.SguKernel.nD Cert.SguKernel.τ).loc Cert.SguKernel.main_arg3)
      ∧ r.2.mem ((c.tc : Thread Cert.SguKernel.nD Cert.SguKernel.τ).loc Cert.SguKernel.main_arg4) = m ((c.tc : Thread Cert.SguKernel.nD Cert.SguKernel.τ).loc Cert.SguKernel.main_arg4))
      ∧ r.2.sem = fun _ => 0)

def quiescent_SguKernelIdeal [hSguKernelIdeal : Cert.SguKernelIdeal.Facts] : Prop :=
  ∀ (m : (ℓ : Loc Cert.SguKernelIdeal.nD Cert.SguKernelIdeal.τ Cert.SguKernelIdeal.sig) → Buf (Elt Ideal) ℓ) (g : Dev Cert.SguKernelIdeal.nD → PrngReg), Pre_SguKernelIdeal m →
    θ_run (Cert.SguKernelIdeal.defs (F := Ideal)) (onTc (τ := Cert.SguKernelIdeal.τ) (Cert.SguKernelIdeal.main (F := Ideal))) ⟨m, fun _ => 0, g⟩ (fun r => (∀ c : Dev Cert.SguKernelIdeal.nD,
      r.2.mem ((c.tc : Thread Cert.SguKernelIdeal.nD Cert.SguKernelIdeal.τ).loc Cert.SguKernelIdeal.main_arg0) = m ((c.tc : Thread Cert.SguKernelIdeal.nD Cert.SguKernelIdeal.τ).loc Cert.SguKernelIdeal.main_arg0)
      ∧ r.2.mem ((c.tc : Thread Cert.SguKernelIdeal.nD Cert.SguKernelIdeal.τ).loc Cert.SguKernelIdeal.main_arg1) = m ((c.tc : Thread Cert.SguKernelIdeal.nD Cert.SguKernelIdeal.τ).loc Cert.SguKernelIdeal.main_arg1)
      ∧ r.2.mem ((c.tc : Thread Cert.SguKernelIdeal.nD Cert.SguKernelIdeal.τ).loc Cert.SguKernelIdeal.main_arg2) = m ((c.tc : Thread Cert.SguKernelIdeal.nD Cert.SguKernelIdeal.τ).loc Cert.SguKernelIdeal.main_arg2)
      ∧ r.2.mem ((c.tc : Thread Cert.SguKernelIdeal.nD Cert.SguKernelIdeal.τ).loc Cert.SguKernelIdeal.main_arg3) = m ((c.tc : Thread Cert.SguKernelIdeal.nD Cert.SguKernelIdeal.τ).loc Cert.SguKernelIdeal.main_arg3)
      ∧ r.2.mem ((c.tc : Thread Cert.SguKernelIdeal.nD Cert.SguKernelIdeal.τ).loc Cert.SguKernelIdeal.main_arg4) = m ((c.tc : Thread Cert.SguKernelIdeal.nD Cert.SguKernelIdeal.τ).loc Cert.SguKernelIdeal.main_arg4))
      ∧ r.2.sem = fun _ => 0)

def quiescent_SguReferenceIdeal [hSguReferenceIdeal : Cert.SguReferenceIdeal.Facts] : Prop :=
  ∀ (m : (ℓ : Loc Cert.SguReferenceIdeal.nD Cert.SguReferenceIdeal.τ Cert.SguReferenceIdeal.sig) → Buf (Elt Ideal) ℓ) (g : Dev Cert.SguReferenceIdeal.nD → PrngReg), Pre_SguReferenceIdeal m →
    θ_run (Cert.SguReferenceIdeal.defs (F := Ideal)) (onTc (τ := Cert.SguReferenceIdeal.τ) (Cert.SguReferenceIdeal.main (F := Ideal))) ⟨m, fun _ => 0, g⟩ (fun r => (∀ c : Dev Cert.SguReferenceIdeal.nD,
      r.2.mem ((c.tc : Thread Cert.SguReferenceIdeal.nD Cert.SguReferenceIdeal.τ).loc Cert.SguReferenceIdeal.main_arg0) = m ((c.tc : Thread Cert.SguReferenceIdeal.nD Cert.SguReferenceIdeal.τ).loc Cert.SguReferenceIdeal.main_arg0)
      ∧ r.2.mem ((c.tc : Thread Cert.SguReferenceIdeal.nD Cert.SguReferenceIdeal.τ).loc Cert.SguReferenceIdeal.main_arg1) = m ((c.tc : Thread Cert.SguReferenceIdeal.nD Cert.SguReferenceIdeal.τ).loc Cert.SguReferenceIdeal.main_arg1)
      ∧ r.2.mem ((c.tc : Thread Cert.SguReferenceIdeal.nD Cert.SguReferenceIdeal.τ).loc Cert.SguReferenceIdeal.main_arg2) = m ((c.tc : Thread Cert.SguReferenceIdeal.nD Cert.SguReferenceIdeal.τ).loc Cert.SguReferenceIdeal.main_arg2)
      ∧ r.2.mem ((c.tc : Thread Cert.SguReferenceIdeal.nD Cert.SguReferenceIdeal.τ).loc Cert.SguReferenceIdeal.main_arg3) = m ((c.tc : Thread Cert.SguReferenceIdeal.nD Cert.SguReferenceIdeal.τ).loc Cert.SguReferenceIdeal.main_arg3)
      ∧ r.2.mem ((c.tc : Thread Cert.SguReferenceIdeal.nD Cert.SguReferenceIdeal.τ).loc Cert.SguReferenceIdeal.main_arg4) = m ((c.tc : Thread Cert.SguReferenceIdeal.nD Cert.SguReferenceIdeal.τ).loc Cert.SguReferenceIdeal.main_arg4))
      ∧ r.2.sem = fun _ => 0)

def quiescent_PrepKernel [hPrepKernel : Cert.PrepKernel.Facts] : Prop :=
  ∀ (m : (ℓ : Loc Cert.PrepKernel.nD Cert.PrepKernel.τ Cert.PrepKernel.sig) → Buf (Elt Bits) ℓ) (g : Dev Cert.PrepKernel.nD → PrngReg), Pre_PrepKernel m →
    θ_run (Cert.PrepKernel.defs (F := Bits)) (onTc (τ := Cert.PrepKernel.τ) (Cert.PrepKernel.main (F := Bits))) ⟨m, fun _ => 0, g⟩ (fun r => (∀ c : Dev Cert.PrepKernel.nD,
      r.2.mem ((c.tc : Thread Cert.PrepKernel.nD Cert.PrepKernel.τ).loc Cert.PrepKernel.main_arg0) = m ((c.tc : Thread Cert.PrepKernel.nD Cert.PrepKernel.τ).loc Cert.PrepKernel.main_arg0)
      ∧ r.2.mem ((c.tc : Thread Cert.PrepKernel.nD Cert.PrepKernel.τ).loc Cert.PrepKernel.main_arg1) = m ((c.tc : Thread Cert.PrepKernel.nD Cert.PrepKernel.τ).loc Cert.PrepKernel.main_arg1)
      ∧ r.2.mem ((c.tc : Thread Cert.PrepKernel.nD Cert.PrepKernel.τ).loc Cert.PrepKernel.main_arg2) = m ((c.tc : Thread Cert.PrepKernel.nD Cert.PrepKernel.τ).loc Cert.PrepKernel.main_arg2)
      ∧ r.2.mem ((c.tc : Thread Cert.PrepKernel.nD Cert.PrepKernel.τ).loc Cert.PrepKernel.main_arg3) = m ((c.tc : Thread Cert.PrepKernel.nD Cert.PrepKernel.τ).loc Cert.PrepKernel.main_arg3)
      ∧ r.2.mem ((c.tc : Thread Cert.PrepKernel.nD Cert.PrepKernel.τ).loc Cert.PrepKernel.main_arg4) = m ((c.tc : Thread Cert.PrepKernel.nD Cert.PrepKernel.τ).loc Cert.PrepKernel.main_arg4)
      ∧ r.2.mem ((c.tc : Thread Cert.PrepKernel.nD Cert.PrepKernel.τ).loc Cert.PrepKernel.main_arg5) = m ((c.tc : Thread Cert.PrepKernel.nD Cert.PrepKernel.τ).loc Cert.PrepKernel.main_arg5)
      ∧ r.2.mem ((c.tc : Thread Cert.PrepKernel.nD Cert.PrepKernel.τ).loc Cert.PrepKernel.main_arg6) = m ((c.tc : Thread Cert.PrepKernel.nD Cert.PrepKernel.τ).loc Cert.PrepKernel.main_arg6)
      ∧ r.2.mem ((c.tc : Thread Cert.PrepKernel.nD Cert.PrepKernel.τ).loc Cert.PrepKernel.main_arg7) = m ((c.tc : Thread Cert.PrepKernel.nD Cert.PrepKernel.τ).loc Cert.PrepKernel.main_arg7)
      ∧ r.2.mem ((c.tc : Thread Cert.PrepKernel.nD Cert.PrepKernel.τ).loc Cert.PrepKernel.main_arg8) = m ((c.tc : Thread Cert.PrepKernel.nD Cert.PrepKernel.τ).loc Cert.PrepKernel.main_arg8)
      ∧ r.2.mem ((c.tc : Thread Cert.PrepKernel.nD Cert.PrepKernel.τ).loc Cert.PrepKernel.main_arg9) = m ((c.tc : Thread Cert.PrepKernel.nD Cert.PrepKernel.τ).loc Cert.PrepKernel.main_arg9))
      ∧ r.2.sem = fun _ => 0)

def quiescent_PrepKernelIdeal [hPrepKernelIdeal : Cert.PrepKernelIdeal.Facts] : Prop :=
  ∀ (m : (ℓ : Loc Cert.PrepKernelIdeal.nD Cert.PrepKernelIdeal.τ Cert.PrepKernelIdeal.sig) → Buf (Elt Ideal) ℓ) (g : Dev Cert.PrepKernelIdeal.nD → PrngReg), Pre_PrepKernelIdeal m →
    θ_run (Cert.PrepKernelIdeal.defs (F := Ideal)) (onTc (τ := Cert.PrepKernelIdeal.τ) (Cert.PrepKernelIdeal.main (F := Ideal))) ⟨m, fun _ => 0, g⟩ (fun r => (∀ c : Dev Cert.PrepKernelIdeal.nD,
      r.2.mem ((c.tc : Thread Cert.PrepKernelIdeal.nD Cert.PrepKernelIdeal.τ).loc Cert.PrepKernelIdeal.main_arg0) = m ((c.tc : Thread Cert.PrepKernelIdeal.nD Cert.PrepKernelIdeal.τ).loc Cert.PrepKernelIdeal.main_arg0)
      ∧ r.2.mem ((c.tc : Thread Cert.PrepKernelIdeal.nD Cert.PrepKernelIdeal.τ).loc Cert.PrepKernelIdeal.main_arg1) = m ((c.tc : Thread Cert.PrepKernelIdeal.nD Cert.PrepKernelIdeal.τ).loc Cert.PrepKernelIdeal.main_arg1)
      ∧ r.2.mem ((c.tc : Thread Cert.PrepKernelIdeal.nD Cert.PrepKernelIdeal.τ).loc Cert.PrepKernelIdeal.main_arg2) = m ((c.tc : Thread Cert.PrepKernelIdeal.nD Cert.PrepKernelIdeal.τ).loc Cert.PrepKernelIdeal.main_arg2)
      ∧ r.2.mem ((c.tc : Thread Cert.PrepKernelIdeal.nD Cert.PrepKernelIdeal.τ).loc Cert.PrepKernelIdeal.main_arg3) = m ((c.tc : Thread Cert.PrepKernelIdeal.nD Cert.PrepKernelIdeal.τ).loc Cert.PrepKernelIdeal.main_arg3)
      ∧ r.2.mem ((c.tc : Thread Cert.PrepKernelIdeal.nD Cert.PrepKernelIdeal.τ).loc Cert.PrepKernelIdeal.main_arg4) = m ((c.tc : Thread Cert.PrepKernelIdeal.nD Cert.PrepKernelIdeal.τ).loc Cert.PrepKernelIdeal.main_arg4)
      ∧ r.2.mem ((c.tc : Thread Cert.PrepKernelIdeal.nD Cert.PrepKernelIdeal.τ).loc Cert.PrepKernelIdeal.main_arg5) = m ((c.tc : Thread Cert.PrepKernelIdeal.nD Cert.PrepKernelIdeal.τ).loc Cert.PrepKernelIdeal.main_arg5)
      ∧ r.2.mem ((c.tc : Thread Cert.PrepKernelIdeal.nD Cert.PrepKernelIdeal.τ).loc Cert.PrepKernelIdeal.main_arg6) = m ((c.tc : Thread Cert.PrepKernelIdeal.nD Cert.PrepKernelIdeal.τ).loc Cert.PrepKernelIdeal.main_arg6)
      ∧ r.2.mem ((c.tc : Thread Cert.PrepKernelIdeal.nD Cert.PrepKernelIdeal.τ).loc Cert.PrepKernelIdeal.main_arg7) = m ((c.tc : Thread Cert.PrepKernelIdeal.nD Cert.PrepKernelIdeal.τ).loc Cert.PrepKernelIdeal.main_arg7)
      ∧ r.2.mem ((c.tc : Thread Cert.PrepKernelIdeal.nD Cert.PrepKernelIdeal.τ).loc Cert.PrepKernelIdeal.main_arg8) = m ((c.tc : Thread Cert.PrepKernelIdeal.nD Cert.PrepKernelIdeal.τ).loc Cert.PrepKernelIdeal.main_arg8)
      ∧ r.2.mem ((c.tc : Thread Cert.PrepKernelIdeal.nD Cert.PrepKernelIdeal.τ).loc Cert.PrepKernelIdeal.main_arg9) = m ((c.tc : Thread Cert.PrepKernelIdeal.nD Cert.PrepKernelIdeal.τ).loc Cert.PrepKernelIdeal.main_arg9))
      ∧ r.2.sem = fun _ => 0)

def quiescent_PrepKernelIdeal_pre_prep_finite [hPrepKernelIdeal : Cert.PrepKernelIdeal.Facts] [hPre_prep_finite : Cert.Pre_prep_finite.Facts] : Prop :=
  ∀ (m : (ℓ : Loc Cert.PrepKernelIdeal.nD Cert.PrepKernelIdeal.τ Cert.PrepKernelIdeal.sig) → Buf (Elt Ideal) ℓ) (g : Dev Cert.PrepKernelIdeal.nD → PrngReg), Pre_PrepKernelIdeal_prep_finite m →
    θ_run (Cert.PrepKernelIdeal.defs (F := Ideal)) (onTc (τ := Cert.PrepKernelIdeal.τ) (Cert.PrepKernelIdeal.main (F := Ideal))) ⟨m, fun _ => 0, g⟩ (fun r => (∀ c : Dev Cert.PrepKernelIdeal.nD,
      r.2.mem ((c.tc : Thread Cert.PrepKernelIdeal.nD Cert.PrepKernelIdeal.τ).loc Cert.PrepKernelIdeal.main_arg0) = m ((c.tc : Thread Cert.PrepKernelIdeal.nD Cert.PrepKernelIdeal.τ).loc Cert.PrepKernelIdeal.main_arg0)
      ∧ r.2.mem ((c.tc : Thread Cert.PrepKernelIdeal.nD Cert.PrepKernelIdeal.τ).loc Cert.PrepKernelIdeal.main_arg1) = m ((c.tc : Thread Cert.PrepKernelIdeal.nD Cert.PrepKernelIdeal.τ).loc Cert.PrepKernelIdeal.main_arg1)
      ∧ r.2.mem ((c.tc : Thread Cert.PrepKernelIdeal.nD Cert.PrepKernelIdeal.τ).loc Cert.PrepKernelIdeal.main_arg2) = m ((c.tc : Thread Cert.PrepKernelIdeal.nD Cert.PrepKernelIdeal.τ).loc Cert.PrepKernelIdeal.main_arg2)
      ∧ r.2.mem ((c.tc : Thread Cert.PrepKernelIdeal.nD Cert.PrepKernelIdeal.τ).loc Cert.PrepKernelIdeal.main_arg3) = m ((c.tc : Thread Cert.PrepKernelIdeal.nD Cert.PrepKernelIdeal.τ).loc Cert.PrepKernelIdeal.main_arg3)
      ∧ r.2.mem ((c.tc : Thread Cert.PrepKernelIdeal.nD Cert.PrepKernelIdeal.τ).loc Cert.PrepKernelIdeal.main_arg4) = m ((c.tc : Thread Cert.PrepKernelIdeal.nD Cert.PrepKernelIdeal.τ).loc Cert.PrepKernelIdeal.main_arg4)
      ∧ r.2.mem ((c.tc : Thread Cert.PrepKernelIdeal.nD Cert.PrepKernelIdeal.τ).loc Cert.PrepKernelIdeal.main_arg5) = m ((c.tc : Thread Cert.PrepKernelIdeal.nD Cert.PrepKernelIdeal.τ).loc Cert.PrepKernelIdeal.main_arg5)
      ∧ r.2.mem ((c.tc : Thread Cert.PrepKernelIdeal.nD Cert.PrepKernelIdeal.τ).loc Cert.PrepKernelIdeal.main_arg6) = m ((c.tc : Thread Cert.PrepKernelIdeal.nD Cert.PrepKernelIdeal.τ).loc Cert.PrepKernelIdeal.main_arg6)
      ∧ r.2.mem ((c.tc : Thread Cert.PrepKernelIdeal.nD Cert.PrepKernelIdeal.τ).loc Cert.PrepKernelIdeal.main_arg7) = m ((c.tc : Thread Cert.PrepKernelIdeal.nD Cert.PrepKernelIdeal.τ).loc Cert.PrepKernelIdeal.main_arg7)
      ∧ r.2.mem ((c.tc : Thread Cert.PrepKernelIdeal.nD Cert.PrepKernelIdeal.τ).loc Cert.PrepKernelIdeal.main_arg8) = m ((c.tc : Thread Cert.PrepKernelIdeal.nD Cert.PrepKernelIdeal.τ).loc Cert.PrepKernelIdeal.main_arg8)
      ∧ r.2.mem ((c.tc : Thread Cert.PrepKernelIdeal.nD Cert.PrepKernelIdeal.τ).loc Cert.PrepKernelIdeal.main_arg9) = m ((c.tc : Thread Cert.PrepKernelIdeal.nD Cert.PrepKernelIdeal.τ).loc Cert.PrepKernelIdeal.main_arg9))
      ∧ r.2.sem = fun _ => 0)

def quiescent_PrepReferenceIdeal [hPrepReferenceIdeal : Cert.PrepReferenceIdeal.Facts] : Prop :=
  ∀ (m : (ℓ : Loc Cert.PrepReferenceIdeal.nD Cert.PrepReferenceIdeal.τ Cert.PrepReferenceIdeal.sig) → Buf (Elt Ideal) ℓ) (g : Dev Cert.PrepReferenceIdeal.nD → PrngReg), Pre_PrepReferenceIdeal m →
    θ_run (Cert.PrepReferenceIdeal.defs (F := Ideal)) (onTc (τ := Cert.PrepReferenceIdeal.τ) (Cert.PrepReferenceIdeal.main (F := Ideal))) ⟨m, fun _ => 0, g⟩ (fun r => (∀ c : Dev Cert.PrepReferenceIdeal.nD,
      r.2.mem ((c.tc : Thread Cert.PrepReferenceIdeal.nD Cert.PrepReferenceIdeal.τ).loc Cert.PrepReferenceIdeal.main_arg0) = m ((c.tc : Thread Cert.PrepReferenceIdeal.nD Cert.PrepReferenceIdeal.τ).loc Cert.PrepReferenceIdeal.main_arg0)
      ∧ r.2.mem ((c.tc : Thread Cert.PrepReferenceIdeal.nD Cert.PrepReferenceIdeal.τ).loc Cert.PrepReferenceIdeal.main_arg1) = m ((c.tc : Thread Cert.PrepReferenceIdeal.nD Cert.PrepReferenceIdeal.τ).loc Cert.PrepReferenceIdeal.main_arg1)
      ∧ r.2.mem ((c.tc : Thread Cert.PrepReferenceIdeal.nD Cert.PrepReferenceIdeal.τ).loc Cert.PrepReferenceIdeal.main_arg2) = m ((c.tc : Thread Cert.PrepReferenceIdeal.nD Cert.PrepReferenceIdeal.τ).loc Cert.PrepReferenceIdeal.main_arg2)
      ∧ r.2.mem ((c.tc : Thread Cert.PrepReferenceIdeal.nD Cert.PrepReferenceIdeal.τ).loc Cert.PrepReferenceIdeal.main_arg3) = m ((c.tc : Thread Cert.PrepReferenceIdeal.nD Cert.PrepReferenceIdeal.τ).loc Cert.PrepReferenceIdeal.main_arg3)
      ∧ r.2.mem ((c.tc : Thread Cert.PrepReferenceIdeal.nD Cert.PrepReferenceIdeal.τ).loc Cert.PrepReferenceIdeal.main_arg4) = m ((c.tc : Thread Cert.PrepReferenceIdeal.nD Cert.PrepReferenceIdeal.τ).loc Cert.PrepReferenceIdeal.main_arg4)
      ∧ r.2.mem ((c.tc : Thread Cert.PrepReferenceIdeal.nD Cert.PrepReferenceIdeal.τ).loc Cert.PrepReferenceIdeal.main_arg5) = m ((c.tc : Thread Cert.PrepReferenceIdeal.nD Cert.PrepReferenceIdeal.τ).loc Cert.PrepReferenceIdeal.main_arg5)
      ∧ r.2.mem ((c.tc : Thread Cert.PrepReferenceIdeal.nD Cert.PrepReferenceIdeal.τ).loc Cert.PrepReferenceIdeal.main_arg6) = m ((c.tc : Thread Cert.PrepReferenceIdeal.nD Cert.PrepReferenceIdeal.τ).loc Cert.PrepReferenceIdeal.main_arg6)
      ∧ r.2.mem ((c.tc : Thread Cert.PrepReferenceIdeal.nD Cert.PrepReferenceIdeal.τ).loc Cert.PrepReferenceIdeal.main_arg7) = m ((c.tc : Thread Cert.PrepReferenceIdeal.nD Cert.PrepReferenceIdeal.τ).loc Cert.PrepReferenceIdeal.main_arg7)
      ∧ r.2.mem ((c.tc : Thread Cert.PrepReferenceIdeal.nD Cert.PrepReferenceIdeal.τ).loc Cert.PrepReferenceIdeal.main_arg8) = m ((c.tc : Thread Cert.PrepReferenceIdeal.nD Cert.PrepReferenceIdeal.τ).loc Cert.PrepReferenceIdeal.main_arg8)
      ∧ r.2.mem ((c.tc : Thread Cert.PrepReferenceIdeal.nD Cert.PrepReferenceIdeal.τ).loc Cert.PrepReferenceIdeal.main_arg9) = m ((c.tc : Thread Cert.PrepReferenceIdeal.nD Cert.PrepReferenceIdeal.τ).loc Cert.PrepReferenceIdeal.main_arg9))
      ∧ r.2.sem = fun _ => 0)

def quiescent_PrepReferenceIdeal_pre_prep_finite [hPrepReferenceIdeal : Cert.PrepReferenceIdeal.Facts] [hPre_prep_finite : Cert.Pre_prep_finite.Facts] : Prop :=
  ∀ (m : (ℓ : Loc Cert.PrepReferenceIdeal.nD Cert.PrepReferenceIdeal.τ Cert.PrepReferenceIdeal.sig) → Buf (Elt Ideal) ℓ) (g : Dev Cert.PrepReferenceIdeal.nD → PrngReg), Pre_PrepReferenceIdeal_prep_finite m →
    θ_run (Cert.PrepReferenceIdeal.defs (F := Ideal)) (onTc (τ := Cert.PrepReferenceIdeal.τ) (Cert.PrepReferenceIdeal.main (F := Ideal))) ⟨m, fun _ => 0, g⟩ (fun r => (∀ c : Dev Cert.PrepReferenceIdeal.nD,
      r.2.mem ((c.tc : Thread Cert.PrepReferenceIdeal.nD Cert.PrepReferenceIdeal.τ).loc Cert.PrepReferenceIdeal.main_arg0) = m ((c.tc : Thread Cert.PrepReferenceIdeal.nD Cert.PrepReferenceIdeal.τ).loc Cert.PrepReferenceIdeal.main_arg0)
      ∧ r.2.mem ((c.tc : Thread Cert.PrepReferenceIdeal.nD Cert.PrepReferenceIdeal.τ).loc Cert.PrepReferenceIdeal.main_arg1) = m ((c.tc : Thread Cert.PrepReferenceIdeal.nD Cert.PrepReferenceIdeal.τ).loc Cert.PrepReferenceIdeal.main_arg1)
      ∧ r.2.mem ((c.tc : Thread Cert.PrepReferenceIdeal.nD Cert.PrepReferenceIdeal.τ).loc Cert.PrepReferenceIdeal.main_arg2) = m ((c.tc : Thread Cert.PrepReferenceIdeal.nD Cert.PrepReferenceIdeal.τ).loc Cert.PrepReferenceIdeal.main_arg2)
      ∧ r.2.mem ((c.tc : Thread Cert.PrepReferenceIdeal.nD Cert.PrepReferenceIdeal.τ).loc Cert.PrepReferenceIdeal.main_arg3) = m ((c.tc : Thread Cert.PrepReferenceIdeal.nD Cert.PrepReferenceIdeal.τ).loc Cert.PrepReferenceIdeal.main_arg3)
      ∧ r.2.mem ((c.tc : Thread Cert.PrepReferenceIdeal.nD Cert.PrepReferenceIdeal.τ).loc Cert.PrepReferenceIdeal.main_arg4) = m ((c.tc : Thread Cert.PrepReferenceIdeal.nD Cert.PrepReferenceIdeal.τ).loc Cert.PrepReferenceIdeal.main_arg4)
      ∧ r.2.mem ((c.tc : Thread Cert.PrepReferenceIdeal.nD Cert.PrepReferenceIdeal.τ).loc Cert.PrepReferenceIdeal.main_arg5) = m ((c.tc : Thread Cert.PrepReferenceIdeal.nD Cert.PrepReferenceIdeal.τ).loc Cert.PrepReferenceIdeal.main_arg5)
      ∧ r.2.mem ((c.tc : Thread Cert.PrepReferenceIdeal.nD Cert.PrepReferenceIdeal.τ).loc Cert.PrepReferenceIdeal.main_arg6) = m ((c.tc : Thread Cert.PrepReferenceIdeal.nD Cert.PrepReferenceIdeal.τ).loc Cert.PrepReferenceIdeal.main_arg6)
      ∧ r.2.mem ((c.tc : Thread Cert.PrepReferenceIdeal.nD Cert.PrepReferenceIdeal.τ).loc Cert.PrepReferenceIdeal.main_arg7) = m ((c.tc : Thread Cert.PrepReferenceIdeal.nD Cert.PrepReferenceIdeal.τ).loc Cert.PrepReferenceIdeal.main_arg7)
      ∧ r.2.mem ((c.tc : Thread Cert.PrepReferenceIdeal.nD Cert.PrepReferenceIdeal.τ).loc Cert.PrepReferenceIdeal.main_arg8) = m ((c.tc : Thread Cert.PrepReferenceIdeal.nD Cert.PrepReferenceIdeal.τ).loc Cert.PrepReferenceIdeal.main_arg8)
      ∧ r.2.mem ((c.tc : Thread Cert.PrepReferenceIdeal.nD Cert.PrepReferenceIdeal.τ).loc Cert.PrepReferenceIdeal.main_arg9) = m ((c.tc : Thread Cert.PrepReferenceIdeal.nD Cert.PrepReferenceIdeal.τ).loc Cert.PrepReferenceIdeal.main_arg9))
      ∧ r.2.sem = fun _ => 0)

def preserves_ConvKernel_ConvKernelIdeal : Prop :=
  True

def algebraic_ConvKernelIdeal_ConvReferenceIdeal [hConvKernelIdeal : Cert.ConvKernelIdeal.Facts] [hConvReferenceIdeal : Cert.ConvReferenceIdeal.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvKernelIdeal m →
    (∀ c : Dev Cert.ConvKernelIdeal.nD,
      m' ((c.tc : Thread Cert.ConvReferenceIdeal.nD Cert.ConvReferenceIdeal.τ).loc Cert.ConvReferenceIdeal.main_arg0) = m ((c.tc : Thread Cert.ConvKernelIdeal.nD Cert.ConvKernelIdeal.τ).loc Cert.ConvKernelIdeal.main_arg0)
      ∧ m' ((c.tc : Thread Cert.ConvReferenceIdeal.nD Cert.ConvReferenceIdeal.τ).loc Cert.ConvReferenceIdeal.main_arg1) = m ((c.tc : Thread Cert.ConvKernelIdeal.nD Cert.ConvKernelIdeal.τ).loc Cert.ConvKernelIdeal.main_arg1)
      ∧ m' ((c.tc : Thread Cert.ConvReferenceIdeal.nD Cert.ConvReferenceIdeal.τ).loc Cert.ConvReferenceIdeal.main_arg2) = m ((c.tc : Thread Cert.ConvKernelIdeal.nD Cert.ConvKernelIdeal.τ).loc Cert.ConvKernelIdeal.main_arg2)) →
    ∃ (v0 : (c : Dev Cert.ConvKernelIdeal.nD) → Buf (Elt Ideal) ((c.tc : Thread Cert.ConvKernelIdeal.nD Cert.ConvKernelIdeal.τ).loc Cert.ConvKernelIdeal.main_v0_0)) (v1 : (c : Dev Cert.ConvKernelIdeal.nD) → Buf (Elt Ideal) ((c.tc : Thread Cert.ConvKernelIdeal.nD Cert.ConvKernelIdeal.τ).loc Cert.ConvKernelIdeal.main_v0_1)),
      θ_run (Cert.ConvKernelIdeal.defs (F := Ideal)) (onTc (τ := Cert.ConvKernelIdeal.τ) (Cert.ConvKernelIdeal.main (F := Ideal))) ⟨m, fun _ => 0, g⟩ (fun r => ∀ c : Dev Cert.ConvKernelIdeal.nD,
          r.2.mem ((c.tc : Thread Cert.ConvKernelIdeal.nD Cert.ConvKernelIdeal.τ).loc Cert.ConvKernelIdeal.main_v0_0) = v0 c
          ∧ r.2.mem ((c.tc : Thread Cert.ConvKernelIdeal.nD Cert.ConvKernelIdeal.τ).loc Cert.ConvKernelIdeal.main_v0_1) = v1 c
          ∧ r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
          ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
          ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v57) = v0 c
          ∧ r.2.mem ((c.tc : Thread Cert.ConvReferenceIdeal.nD Cert.ConvReferenceIdeal.τ).loc Cert.ConvReferenceIdeal.main_v53) = v1 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2))

def preserves_LossKernel_LossKernelIdeal : Prop :=
  True

def algebraic_LossKernelIdeal_LossReferenceIdeal_pre_loss_finite [hLossKernelIdeal : Cert.LossKernelIdeal.Facts] [hLossReferenceIdeal : Cert.LossReferenceIdeal.Facts] [hPre_loss_finite : Cert.Pre_loss_finite.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal_loss_finite m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)
      ∧ m' ((c.tc : Thread Cert.LossReferenceIdeal.nD Cert.LossReferenceIdeal.τ).loc Cert.LossReferenceIdeal.main_arg2) = m ((c.tc : Thread Cert.LossKernelIdeal.nD Cert.LossKernelIdeal.τ).loc Cert.LossKernelIdeal.main_arg2)) →
    ∃ (v0 : (c : Dev Cert.LossKernelIdeal.nD) → Buf (Elt Ideal) ((c.tc : Thread Cert.LossKernelIdeal.nD Cert.LossKernelIdeal.τ).loc Cert.LossKernelIdeal.main_v1_3)) (v1 : (c : Dev Cert.LossKernelIdeal.nD) → Buf (Elt Ideal) ((c.tc : Thread Cert.LossKernelIdeal.nD Cert.LossKernelIdeal.τ).loc Cert.LossKernelIdeal.main_v1_0)) (v2 : (c : Dev Cert.LossKernelIdeal.nD) → Buf (Elt Ideal) ((c.tc : Thread Cert.LossKernelIdeal.nD Cert.LossKernelIdeal.τ).loc Cert.LossKernelIdeal.main_v1_1)) (v3 : (c : Dev Cert.LossKernelIdeal.nD) → Buf (Elt Ideal) ((c.tc : Thread Cert.LossKernelIdeal.nD Cert.LossKernelIdeal.τ).loc Cert.LossKernelIdeal.main_v1_2)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v1_3) = v0 c
          ∧ r.2.mem ((c.tc : Thread Cert.LossKernelIdeal.nD Cert.LossKernelIdeal.τ).loc Cert.LossKernelIdeal.main_v1_0) = v1 c
          ∧ r.2.mem ((c.tc : Thread Cert.LossKernelIdeal.nD Cert.LossKernelIdeal.τ).loc Cert.LossKernelIdeal.main_v1_1) = v2 c
          ∧ r.2.mem ((c.tc : Thread Cert.LossKernelIdeal.nD Cert.LossKernelIdeal.τ).loc Cert.LossKernelIdeal.main_v1_2) = v3 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
          ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v51) = v0 c
          ∧ r.2.mem ((c.tc : Thread Cert.LossReferenceIdeal.nD Cert.LossReferenceIdeal.τ).loc Cert.LossReferenceIdeal.main_v50) = v1 c
          ∧ r.2.mem ((c.tc : Thread Cert.LossReferenceIdeal.nD Cert.LossReferenceIdeal.τ).loc Cert.LossReferenceIdeal.main_v52) = v2 c
          ∧ r.2.mem ((c.tc : Thread Cert.LossReferenceIdeal.nD Cert.LossReferenceIdeal.τ).loc Cert.LossReferenceIdeal.main_v53) = v3 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2))

def preserves_UnropeKernel_UnropeKernelIdeal : Prop :=
  True

def algebraic_UnropeKernelIdeal_UnropeReferenceIdeal [hUnropeKernelIdeal : Cert.UnropeKernelIdeal.Facts] [hUnropeReferenceIdeal : Cert.UnropeReferenceIdeal.Facts] : Prop :=
  ∀ (m : (ℓ : Loc Cert.UnropeKernelIdeal.nD Cert.UnropeKernelIdeal.τ Cert.UnropeKernelIdeal.sig) → Buf (Elt Ideal) ℓ) (g : Dev Cert.UnropeKernelIdeal.nD → PrngReg)
    (m' : (ℓ : Loc Cert.UnropeReferenceIdeal.nD Cert.UnropeReferenceIdeal.τ Cert.UnropeReferenceIdeal.sig) → Buf (Elt Ideal) ℓ) (g' : Dev Cert.UnropeReferenceIdeal.nD → PrngReg), Pre_UnropeKernelIdeal m →
    (∀ c : Dev Cert.UnropeKernelIdeal.nD,
      m' ((c.tc : Thread Cert.UnropeReferenceIdeal.nD Cert.UnropeReferenceIdeal.τ).loc Cert.UnropeReferenceIdeal.main_arg0) = m ((c.tc : Thread Cert.UnropeKernelIdeal.nD Cert.UnropeKernelIdeal.τ).loc Cert.UnropeKernelIdeal.main_arg0)
      ∧ m' ((c.tc : Thread Cert.UnropeReferenceIdeal.nD Cert.UnropeReferenceIdeal.τ).loc Cert.UnropeReferenceIdeal.main_arg1) = m ((c.tc : Thread Cert.UnropeKernelIdeal.nD Cert.UnropeKernelIdeal.τ).loc Cert.UnropeKernelIdeal.main_arg1)) →
    ∃ (v0 : (c : Dev Cert.UnropeKernelIdeal.nD) → Buf (Elt Ideal) ((c.tc : Thread Cert.UnropeKernelIdeal.nD Cert.UnropeKernelIdeal.τ).loc Cert.UnropeKernelIdeal.main_v31)),
      θ_run (Cert.UnropeKernelIdeal.defs (F := Ideal)) (onTc (τ := Cert.UnropeKernelIdeal.τ) (Cert.UnropeKernelIdeal.main (F := Ideal))) ⟨m, fun _ => 0, g⟩ (fun r => ∀ c : Dev Cert.UnropeKernelIdeal.nD,
          r.2.mem ((c.tc : Thread Cert.UnropeKernelIdeal.nD Cert.UnropeKernelIdeal.τ).loc Cert.UnropeKernelIdeal.main_v31) = v0 c
          ∧ r.2.mem ((c.tc : Thread Cert.UnropeKernelIdeal.nD Cert.UnropeKernelIdeal.τ).loc Cert.UnropeKernelIdeal.main_arg0) = m ((c.tc : Thread Cert.UnropeKernelIdeal.nD Cert.UnropeKernelIdeal.τ).loc Cert.UnropeKernelIdeal.main_arg0)
          ∧ r.2.mem ((c.tc : Thread Cert.UnropeKernelIdeal.nD Cert.UnropeKernelIdeal.τ).loc Cert.UnropeKernelIdeal.main_arg1) = m ((c.tc : Thread Cert.UnropeKernelIdeal.nD Cert.UnropeKernelIdeal.τ).loc Cert.UnropeKernelIdeal.main_arg1))
      ∧ θ_run (Cert.UnropeReferenceIdeal.defs (F := Ideal)) (onTc (τ := Cert.UnropeReferenceIdeal.τ) (Cert.UnropeReferenceIdeal.main (F := Ideal))) ⟨m', fun _ => 0, g'⟩ (fun r => ∀ c : Dev Cert.UnropeReferenceIdeal.nD,
          r.2.mem ((c.tc : Thread Cert.UnropeReferenceIdeal.nD Cert.UnropeReferenceIdeal.τ).loc Cert.UnropeReferenceIdeal.main_v62) = v0 c
          ∧ r.2.mem ((c.tc : Thread Cert.UnropeReferenceIdeal.nD Cert.UnropeReferenceIdeal.τ).loc Cert.UnropeReferenceIdeal.main_arg0) = m' ((c.tc : Thread Cert.UnropeReferenceIdeal.nD Cert.UnropeReferenceIdeal.τ).loc Cert.UnropeReferenceIdeal.main_arg0)
          ∧ r.2.mem ((c.tc : Thread Cert.UnropeReferenceIdeal.nD Cert.UnropeReferenceIdeal.τ).loc Cert.UnropeReferenceIdeal.main_arg1) = m' ((c.tc : Thread Cert.UnropeReferenceIdeal.nD Cert.UnropeReferenceIdeal.τ).loc Cert.UnropeReferenceIdeal.main_arg1))

def preserves_GateUpKernel_GateUpKernelIdeal : Prop :=
  True

def algebraic_GateUpKernelIdeal_GateUpReferenceIdeal_pre_dgu_finite [hGateUpKernelIdeal : Cert.GateUpKernelIdeal.Facts] [hGateUpReferenceIdeal : Cert.GateUpReferenceIdeal.Facts] [hPre_dgu_finite : Cert.Pre_dgu_finite.Facts] : Prop :=
  ∀ (m : (ℓ : Loc Cert.GateUpKernelIdeal.nD Cert.GateUpKernelIdeal.τ Cert.GateUpKernelIdeal.sig) → Buf (Elt Ideal) ℓ) (g : Dev Cert.GateUpKernelIdeal.nD → PrngReg)
    (m' : (ℓ : Loc Cert.GateUpReferenceIdeal.nD Cert.GateUpReferenceIdeal.τ Cert.GateUpReferenceIdeal.sig) → Buf (Elt Ideal) ℓ) (g' : Dev Cert.GateUpReferenceIdeal.nD → PrngReg), Pre_GateUpKernelIdeal_dgu_finite m →
    (∀ c : Dev Cert.GateUpKernelIdeal.nD,
      m' ((c.tc : Thread Cert.GateUpReferenceIdeal.nD Cert.GateUpReferenceIdeal.τ).loc Cert.GateUpReferenceIdeal.main_arg0) = m ((c.tc : Thread Cert.GateUpKernelIdeal.nD Cert.GateUpKernelIdeal.τ).loc Cert.GateUpKernelIdeal.main_arg0)
      ∧ m' ((c.tc : Thread Cert.GateUpReferenceIdeal.nD Cert.GateUpReferenceIdeal.τ).loc Cert.GateUpReferenceIdeal.main_arg1) = m ((c.tc : Thread Cert.GateUpKernelIdeal.nD Cert.GateUpKernelIdeal.τ).loc Cert.GateUpKernelIdeal.main_arg1)
      ∧ m' ((c.tc : Thread Cert.GateUpReferenceIdeal.nD Cert.GateUpReferenceIdeal.τ).loc Cert.GateUpReferenceIdeal.main_arg2) = m ((c.tc : Thread Cert.GateUpKernelIdeal.nD Cert.GateUpKernelIdeal.τ).loc Cert.GateUpKernelIdeal.main_arg2)
      ∧ m' ((c.tc : Thread Cert.GateUpReferenceIdeal.nD Cert.GateUpReferenceIdeal.τ).loc Cert.GateUpReferenceIdeal.main_arg3) = m ((c.tc : Thread Cert.GateUpKernelIdeal.nD Cert.GateUpKernelIdeal.τ).loc Cert.GateUpKernelIdeal.main_arg3)
      ∧ m' ((c.tc : Thread Cert.GateUpReferenceIdeal.nD Cert.GateUpReferenceIdeal.τ).loc Cert.GateUpReferenceIdeal.main_arg4) = m ((c.tc : Thread Cert.GateUpKernelIdeal.nD Cert.GateUpKernelIdeal.τ).loc Cert.GateUpKernelIdeal.main_arg4)) →
    ∃ (v0 : (c : Dev Cert.GateUpKernelIdeal.nD) → Buf (Elt Ideal) ((c.tc : Thread Cert.GateUpKernelIdeal.nD Cert.GateUpKernelIdeal.τ).loc Cert.GateUpKernelIdeal.main_v13)) (v1 : (c : Dev Cert.GateUpKernelIdeal.nD) → Buf (Elt Ideal) ((c.tc : Thread Cert.GateUpKernelIdeal.nD Cert.GateUpKernelIdeal.τ).loc Cert.GateUpKernelIdeal.main_v15)),
      θ_run (Cert.GateUpKernelIdeal.defs (F := Ideal)) (onTc (τ := Cert.GateUpKernelIdeal.τ) (Cert.GateUpKernelIdeal.main (F := Ideal))) ⟨m, fun _ => 0, g⟩ (fun r => ∀ c : Dev Cert.GateUpKernelIdeal.nD,
          r.2.mem ((c.tc : Thread Cert.GateUpKernelIdeal.nD Cert.GateUpKernelIdeal.τ).loc Cert.GateUpKernelIdeal.main_v13) = v0 c
          ∧ r.2.mem ((c.tc : Thread Cert.GateUpKernelIdeal.nD Cert.GateUpKernelIdeal.τ).loc Cert.GateUpKernelIdeal.main_v15) = v1 c
          ∧ r.2.mem ((c.tc : Thread Cert.GateUpKernelIdeal.nD Cert.GateUpKernelIdeal.τ).loc Cert.GateUpKernelIdeal.main_arg0) = m ((c.tc : Thread Cert.GateUpKernelIdeal.nD Cert.GateUpKernelIdeal.τ).loc Cert.GateUpKernelIdeal.main_arg0)
          ∧ r.2.mem ((c.tc : Thread Cert.GateUpKernelIdeal.nD Cert.GateUpKernelIdeal.τ).loc Cert.GateUpKernelIdeal.main_arg1) = m ((c.tc : Thread Cert.GateUpKernelIdeal.nD Cert.GateUpKernelIdeal.τ).loc Cert.GateUpKernelIdeal.main_arg1)
          ∧ r.2.mem ((c.tc : Thread Cert.GateUpKernelIdeal.nD Cert.GateUpKernelIdeal.τ).loc Cert.GateUpKernelIdeal.main_arg2) = m ((c.tc : Thread Cert.GateUpKernelIdeal.nD Cert.GateUpKernelIdeal.τ).loc Cert.GateUpKernelIdeal.main_arg2)
          ∧ r.2.mem ((c.tc : Thread Cert.GateUpKernelIdeal.nD Cert.GateUpKernelIdeal.τ).loc Cert.GateUpKernelIdeal.main_arg3) = m ((c.tc : Thread Cert.GateUpKernelIdeal.nD Cert.GateUpKernelIdeal.τ).loc Cert.GateUpKernelIdeal.main_arg3)
          ∧ r.2.mem ((c.tc : Thread Cert.GateUpKernelIdeal.nD Cert.GateUpKernelIdeal.τ).loc Cert.GateUpKernelIdeal.main_arg4) = m ((c.tc : Thread Cert.GateUpKernelIdeal.nD Cert.GateUpKernelIdeal.τ).loc Cert.GateUpKernelIdeal.main_arg4))
      ∧ θ_run (Cert.GateUpReferenceIdeal.defs (F := Ideal)) (onTc (τ := Cert.GateUpReferenceIdeal.τ) (Cert.GateUpReferenceIdeal.main (F := Ideal))) ⟨m', fun _ => 0, g'⟩ (fun r => ∀ c : Dev Cert.GateUpReferenceIdeal.nD,
          r.2.mem ((c.tc : Thread Cert.GateUpReferenceIdeal.nD Cert.GateUpReferenceIdeal.τ).loc Cert.GateUpReferenceIdeal.main_v13) = v0 c
          ∧ r.2.mem ((c.tc : Thread Cert.GateUpReferenceIdeal.nD Cert.GateUpReferenceIdeal.τ).loc Cert.GateUpReferenceIdeal.main_v14) = v1 c
          ∧ r.2.mem ((c.tc : Thread Cert.GateUpReferenceIdeal.nD Cert.GateUpReferenceIdeal.τ).loc Cert.GateUpReferenceIdeal.main_arg0) = m' ((c.tc : Thread Cert.GateUpReferenceIdeal.nD Cert.GateUpReferenceIdeal.τ).loc Cert.GateUpReferenceIdeal.main_arg0)
          ∧ r.2.mem ((c.tc : Thread Cert.GateUpReferenceIdeal.nD Cert.GateUpReferenceIdeal.τ).loc Cert.GateUpReferenceIdeal.main_arg1) = m' ((c.tc : Thread Cert.GateUpReferenceIdeal.nD Cert.GateUpReferenceIdeal.τ).loc Cert.GateUpReferenceIdeal.main_arg1)
          ∧ r.2.mem ((c.tc : Thread Cert.GateUpReferenceIdeal.nD Cert.GateUpReferenceIdeal.τ).loc Cert.GateUpReferenceIdeal.main_arg2) = m' ((c.tc : Thread Cert.GateUpReferenceIdeal.nD Cert.GateUpReferenceIdeal.τ).loc Cert.GateUpReferenceIdeal.main_arg2)
          ∧ r.2.mem ((c.tc : Thread Cert.GateUpReferenceIdeal.nD Cert.GateUpReferenceIdeal.τ).loc Cert.GateUpReferenceIdeal.main_arg3) = m' ((c.tc : Thread Cert.GateUpReferenceIdeal.nD Cert.GateUpReferenceIdeal.τ).loc Cert.GateUpReferenceIdeal.main_arg3)
          ∧ r.2.mem ((c.tc : Thread Cert.GateUpReferenceIdeal.nD Cert.GateUpReferenceIdeal.τ).loc Cert.GateUpReferenceIdeal.main_arg4) = m' ((c.tc : Thread Cert.GateUpReferenceIdeal.nD Cert.GateUpReferenceIdeal.τ).loc Cert.GateUpReferenceIdeal.main_arg4))

def preserves_ConvDxKernel_ConvDxKernelIdeal : Prop :=
  True

def algebraic_ConvDxKernelIdeal_ConvDxReferenceIdeal_pre_convdx_finite [hConvDxKernelIdeal : Cert.ConvDxKernelIdeal.Facts] [hConvDxReferenceIdeal : Cert.ConvDxReferenceIdeal.Facts] [hPre_convdx_finite : Cert.Pre_convdx_finite.Facts] : Prop :=
  ∀ (m : (ℓ : Loc Cert.ConvDxKernelIdeal.nD Cert.ConvDxKernelIdeal.τ Cert.ConvDxKernelIdeal.sig) → Buf (Elt Ideal) ℓ) (g : Dev Cert.ConvDxKernelIdeal.nD → PrngReg)
    (m' : (ℓ : Loc Cert.ConvDxReferenceIdeal.nD Cert.ConvDxReferenceIdeal.τ Cert.ConvDxReferenceIdeal.sig) → Buf (Elt Ideal) ℓ) (g' : Dev Cert.ConvDxReferenceIdeal.nD → PrngReg), Pre_ConvDxKernelIdeal_convdx_finite m →
    (∀ c : Dev Cert.ConvDxKernelIdeal.nD,
      m' ((c.tc : Thread Cert.ConvDxReferenceIdeal.nD Cert.ConvDxReferenceIdeal.τ).loc Cert.ConvDxReferenceIdeal.main_arg0) = m ((c.tc : Thread Cert.ConvDxKernelIdeal.nD Cert.ConvDxKernelIdeal.τ).loc Cert.ConvDxKernelIdeal.main_arg0)
      ∧ m' ((c.tc : Thread Cert.ConvDxReferenceIdeal.nD Cert.ConvDxReferenceIdeal.τ).loc Cert.ConvDxReferenceIdeal.main_arg1) = m ((c.tc : Thread Cert.ConvDxKernelIdeal.nD Cert.ConvDxKernelIdeal.τ).loc Cert.ConvDxKernelIdeal.main_arg1)
      ∧ m' ((c.tc : Thread Cert.ConvDxReferenceIdeal.nD Cert.ConvDxReferenceIdeal.τ).loc Cert.ConvDxReferenceIdeal.main_arg2) = m ((c.tc : Thread Cert.ConvDxKernelIdeal.nD Cert.ConvDxKernelIdeal.τ).loc Cert.ConvDxKernelIdeal.main_arg2)
      ∧ m' ((c.tc : Thread Cert.ConvDxReferenceIdeal.nD Cert.ConvDxReferenceIdeal.τ).loc Cert.ConvDxReferenceIdeal.main_arg3) = m ((c.tc : Thread Cert.ConvDxKernelIdeal.nD Cert.ConvDxKernelIdeal.τ).loc Cert.ConvDxKernelIdeal.main_arg3)
      ∧ m' ((c.tc : Thread Cert.ConvDxReferenceIdeal.nD Cert.ConvDxReferenceIdeal.τ).loc Cert.ConvDxReferenceIdeal.main_arg4) = m ((c.tc : Thread Cert.ConvDxKernelIdeal.nD Cert.ConvDxKernelIdeal.τ).loc Cert.ConvDxKernelIdeal.main_arg4)) →
    ∃ (v0 : (c : Dev Cert.ConvDxKernelIdeal.nD) → Buf (Elt Ideal) ((c.tc : Thread Cert.ConvDxKernelIdeal.nD Cert.ConvDxKernelIdeal.τ).loc Cert.ConvDxKernelIdeal.main_v3_0)) (v1 : (c : Dev Cert.ConvDxKernelIdeal.nD) → Buf (Elt Ideal) ((c.tc : Thread Cert.ConvDxKernelIdeal.nD Cert.ConvDxKernelIdeal.τ).loc Cert.ConvDxKernelIdeal.main_v3_1)) (v2 : (c : Dev Cert.ConvDxKernelIdeal.nD) → Buf (Elt Ideal) ((c.tc : Thread Cert.ConvDxKernelIdeal.nD Cert.ConvDxKernelIdeal.τ).loc Cert.ConvDxKernelIdeal.main_v3_2)),
      θ_run (Cert.ConvDxKernelIdeal.defs (F := Ideal)) (onTc (τ := Cert.ConvDxKernelIdeal.τ) (Cert.ConvDxKernelIdeal.main (F := Ideal))) ⟨m, fun _ => 0, g⟩ (fun r => ∀ c : Dev Cert.ConvDxKernelIdeal.nD,
          r.2.mem ((c.tc : Thread Cert.ConvDxKernelIdeal.nD Cert.ConvDxKernelIdeal.τ).loc Cert.ConvDxKernelIdeal.main_v3_0) = v0 c
          ∧ r.2.mem ((c.tc : Thread Cert.ConvDxKernelIdeal.nD Cert.ConvDxKernelIdeal.τ).loc Cert.ConvDxKernelIdeal.main_v3_1) = v1 c
          ∧ r.2.mem ((c.tc : Thread Cert.ConvDxKernelIdeal.nD Cert.ConvDxKernelIdeal.τ).loc Cert.ConvDxKernelIdeal.main_v3_2) = v2 c
          ∧ r.2.mem ((c.tc : Thread Cert.ConvDxKernelIdeal.nD Cert.ConvDxKernelIdeal.τ).loc Cert.ConvDxKernelIdeal.main_arg0) = m ((c.tc : Thread Cert.ConvDxKernelIdeal.nD Cert.ConvDxKernelIdeal.τ).loc Cert.ConvDxKernelIdeal.main_arg0)
          ∧ r.2.mem ((c.tc : Thread Cert.ConvDxKernelIdeal.nD Cert.ConvDxKernelIdeal.τ).loc Cert.ConvDxKernelIdeal.main_arg1) = m ((c.tc : Thread Cert.ConvDxKernelIdeal.nD Cert.ConvDxKernelIdeal.τ).loc Cert.ConvDxKernelIdeal.main_arg1)
          ∧ r.2.mem ((c.tc : Thread Cert.ConvDxKernelIdeal.nD Cert.ConvDxKernelIdeal.τ).loc Cert.ConvDxKernelIdeal.main_arg2) = m ((c.tc : Thread Cert.ConvDxKernelIdeal.nD Cert.ConvDxKernelIdeal.τ).loc Cert.ConvDxKernelIdeal.main_arg2)
          ∧ r.2.mem ((c.tc : Thread Cert.ConvDxKernelIdeal.nD Cert.ConvDxKernelIdeal.τ).loc Cert.ConvDxKernelIdeal.main_arg3) = m ((c.tc : Thread Cert.ConvDxKernelIdeal.nD Cert.ConvDxKernelIdeal.τ).loc Cert.ConvDxKernelIdeal.main_arg3)
          ∧ r.2.mem ((c.tc : Thread Cert.ConvDxKernelIdeal.nD Cert.ConvDxKernelIdeal.τ).loc Cert.ConvDxKernelIdeal.main_arg4) = m ((c.tc : Thread Cert.ConvDxKernelIdeal.nD Cert.ConvDxKernelIdeal.τ).loc Cert.ConvDxKernelIdeal.main_arg4))
      ∧ θ_run (Cert.ConvDxReferenceIdeal.defs (F := Ideal)) (onTc (τ := Cert.ConvDxReferenceIdeal.τ) (Cert.ConvDxReferenceIdeal.main (F := Ideal))) ⟨m', fun _ => 0, g'⟩ (fun r => ∀ c : Dev Cert.ConvDxReferenceIdeal.nD,
          r.2.mem ((c.tc : Thread Cert.ConvDxReferenceIdeal.nD Cert.ConvDxReferenceIdeal.τ).loc Cert.ConvDxReferenceIdeal.main_v38) = v0 c
          ∧ r.2.mem ((c.tc : Thread Cert.ConvDxReferenceIdeal.nD Cert.ConvDxReferenceIdeal.τ).loc Cert.ConvDxReferenceIdeal.main_v39) = v1 c
          ∧ r.2.mem ((c.tc : Thread Cert.ConvDxReferenceIdeal.nD Cert.ConvDxReferenceIdeal.τ).loc Cert.ConvDxReferenceIdeal.main_v40) = v2 c
          ∧ r.2.mem ((c.tc : Thread Cert.ConvDxReferenceIdeal.nD Cert.ConvDxReferenceIdeal.τ).loc Cert.ConvDxReferenceIdeal.main_arg0) = m' ((c.tc : Thread Cert.ConvDxReferenceIdeal.nD Cert.ConvDxReferenceIdeal.τ).loc Cert.ConvDxReferenceIdeal.main_arg0)
          ∧ r.2.mem ((c.tc : Thread Cert.ConvDxReferenceIdeal.nD Cert.ConvDxReferenceIdeal.τ).loc Cert.ConvDxReferenceIdeal.main_arg1) = m' ((c.tc : Thread Cert.ConvDxReferenceIdeal.nD Cert.ConvDxReferenceIdeal.τ).loc Cert.ConvDxReferenceIdeal.main_arg1)
          ∧ r.2.mem ((c.tc : Thread Cert.ConvDxReferenceIdeal.nD Cert.ConvDxReferenceIdeal.τ).loc Cert.ConvDxReferenceIdeal.main_arg2) = m' ((c.tc : Thread Cert.ConvDxReferenceIdeal.nD Cert.ConvDxReferenceIdeal.τ).loc Cert.ConvDxReferenceIdeal.main_arg2)
          ∧ r.2.mem ((c.tc : Thread Cert.ConvDxReferenceIdeal.nD Cert.ConvDxReferenceIdeal.τ).loc Cert.ConvDxReferenceIdeal.main_arg3) = m' ((c.tc : Thread Cert.ConvDxReferenceIdeal.nD Cert.ConvDxReferenceIdeal.τ).loc Cert.ConvDxReferenceIdeal.main_arg3)
          ∧ r.2.mem ((c.tc : Thread Cert.ConvDxReferenceIdeal.nD Cert.ConvDxReferenceIdeal.τ).loc Cert.ConvDxReferenceIdeal.main_arg4) = m' ((c.tc : Thread Cert.ConvDxReferenceIdeal.nD Cert.ConvDxReferenceIdeal.τ).loc Cert.ConvDxReferenceIdeal.main_arg4))

def preserves_EvenDxKernel_EvenDxKernelIdeal : Prop :=
  True

def algebraic_EvenDxKernelIdeal_EvenDxReferenceIdeal_pre_evendx_finite [hEvenDxKernelIdeal : Cert.EvenDxKernelIdeal.Facts] [hEvenDxReferenceIdeal : Cert.EvenDxReferenceIdeal.Facts] [hPre_evendx_finite : Cert.Pre_evendx_finite.Facts] : Prop :=
  ∀ (m : (ℓ : Loc Cert.EvenDxKernelIdeal.nD Cert.EvenDxKernelIdeal.τ Cert.EvenDxKernelIdeal.sig) → Buf (Elt Ideal) ℓ) (g : Dev Cert.EvenDxKernelIdeal.nD → PrngReg)
    (m' : (ℓ : Loc Cert.EvenDxReferenceIdeal.nD Cert.EvenDxReferenceIdeal.τ Cert.EvenDxReferenceIdeal.sig) → Buf (Elt Ideal) ℓ) (g' : Dev Cert.EvenDxReferenceIdeal.nD → PrngReg), Pre_EvenDxKernelIdeal_evendx_finite m →
    (∀ c : Dev Cert.EvenDxKernelIdeal.nD,
      m' ((c.tc : Thread Cert.EvenDxReferenceIdeal.nD Cert.EvenDxReferenceIdeal.τ).loc Cert.EvenDxReferenceIdeal.main_arg0) = m ((c.tc : Thread Cert.EvenDxKernelIdeal.nD Cert.EvenDxKernelIdeal.τ).loc Cert.EvenDxKernelIdeal.main_arg0)
      ∧ m' ((c.tc : Thread Cert.EvenDxReferenceIdeal.nD Cert.EvenDxReferenceIdeal.τ).loc Cert.EvenDxReferenceIdeal.main_arg1) = m ((c.tc : Thread Cert.EvenDxKernelIdeal.nD Cert.EvenDxKernelIdeal.τ).loc Cert.EvenDxKernelIdeal.main_arg1)
      ∧ m' ((c.tc : Thread Cert.EvenDxReferenceIdeal.nD Cert.EvenDxReferenceIdeal.τ).loc Cert.EvenDxReferenceIdeal.main_arg2) = m ((c.tc : Thread Cert.EvenDxKernelIdeal.nD Cert.EvenDxKernelIdeal.τ).loc Cert.EvenDxKernelIdeal.main_arg2)
      ∧ m' ((c.tc : Thread Cert.EvenDxReferenceIdeal.nD Cert.EvenDxReferenceIdeal.τ).loc Cert.EvenDxReferenceIdeal.main_arg3) = m ((c.tc : Thread Cert.EvenDxKernelIdeal.nD Cert.EvenDxKernelIdeal.τ).loc Cert.EvenDxKernelIdeal.main_arg3)
      ∧ m' ((c.tc : Thread Cert.EvenDxReferenceIdeal.nD Cert.EvenDxReferenceIdeal.τ).loc Cert.EvenDxReferenceIdeal.main_arg4) = m ((c.tc : Thread Cert.EvenDxKernelIdeal.nD Cert.EvenDxKernelIdeal.τ).loc Cert.EvenDxKernelIdeal.main_arg4)) →
    ∃ (v0 : (c : Dev Cert.EvenDxKernelIdeal.nD) → Buf (Elt Ideal) ((c.tc : Thread Cert.EvenDxKernelIdeal.nD Cert.EvenDxKernelIdeal.τ).loc Cert.EvenDxKernelIdeal.main_v12_0)) (v1 : (c : Dev Cert.EvenDxKernelIdeal.nD) → Buf (Elt Ideal) ((c.tc : Thread Cert.EvenDxKernelIdeal.nD Cert.EvenDxKernelIdeal.τ).loc Cert.EvenDxKernelIdeal.main_v12_1)) (v2 : (c : Dev Cert.EvenDxKernelIdeal.nD) → Buf (Elt Ideal) ((c.tc : Thread Cert.EvenDxKernelIdeal.nD Cert.EvenDxKernelIdeal.τ).loc Cert.EvenDxKernelIdeal.main_v12_2)),
      θ_run (Cert.EvenDxKernelIdeal.defs (F := Ideal)) (onTc (τ := Cert.EvenDxKernelIdeal.τ) (Cert.EvenDxKernelIdeal.main (F := Ideal))) ⟨m, fun _ => 0, g⟩ (fun r => ∀ c : Dev Cert.EvenDxKernelIdeal.nD,
          r.2.mem ((c.tc : Thread Cert.EvenDxKernelIdeal.nD Cert.EvenDxKernelIdeal.τ).loc Cert.EvenDxKernelIdeal.main_v12_0) = v0 c
          ∧ r.2.mem ((c.tc : Thread Cert.EvenDxKernelIdeal.nD Cert.EvenDxKernelIdeal.τ).loc Cert.EvenDxKernelIdeal.main_v12_1) = v1 c
          ∧ r.2.mem ((c.tc : Thread Cert.EvenDxKernelIdeal.nD Cert.EvenDxKernelIdeal.τ).loc Cert.EvenDxKernelIdeal.main_v12_2) = v2 c
          ∧ r.2.mem ((c.tc : Thread Cert.EvenDxKernelIdeal.nD Cert.EvenDxKernelIdeal.τ).loc Cert.EvenDxKernelIdeal.main_arg0) = m ((c.tc : Thread Cert.EvenDxKernelIdeal.nD Cert.EvenDxKernelIdeal.τ).loc Cert.EvenDxKernelIdeal.main_arg0)
          ∧ r.2.mem ((c.tc : Thread Cert.EvenDxKernelIdeal.nD Cert.EvenDxKernelIdeal.τ).loc Cert.EvenDxKernelIdeal.main_arg1) = m ((c.tc : Thread Cert.EvenDxKernelIdeal.nD Cert.EvenDxKernelIdeal.τ).loc Cert.EvenDxKernelIdeal.main_arg1)
          ∧ r.2.mem ((c.tc : Thread Cert.EvenDxKernelIdeal.nD Cert.EvenDxKernelIdeal.τ).loc Cert.EvenDxKernelIdeal.main_arg2) = m ((c.tc : Thread Cert.EvenDxKernelIdeal.nD Cert.EvenDxKernelIdeal.τ).loc Cert.EvenDxKernelIdeal.main_arg2)
          ∧ r.2.mem ((c.tc : Thread Cert.EvenDxKernelIdeal.nD Cert.EvenDxKernelIdeal.τ).loc Cert.EvenDxKernelIdeal.main_arg3) = m ((c.tc : Thread Cert.EvenDxKernelIdeal.nD Cert.EvenDxKernelIdeal.τ).loc Cert.EvenDxKernelIdeal.main_arg3)
          ∧ r.2.mem ((c.tc : Thread Cert.EvenDxKernelIdeal.nD Cert.EvenDxKernelIdeal.τ).loc Cert.EvenDxKernelIdeal.main_arg4) = m ((c.tc : Thread Cert.EvenDxKernelIdeal.nD Cert.EvenDxKernelIdeal.τ).loc Cert.EvenDxKernelIdeal.main_arg4))
      ∧ θ_run (Cert.EvenDxReferenceIdeal.defs (F := Ideal)) (onTc (τ := Cert.EvenDxReferenceIdeal.τ) (Cert.EvenDxReferenceIdeal.main (F := Ideal))) ⟨m', fun _ => 0, g'⟩ (fun r => ∀ c : Dev Cert.EvenDxReferenceIdeal.nD,
          r.2.mem ((c.tc : Thread Cert.EvenDxReferenceIdeal.nD Cert.EvenDxReferenceIdeal.τ).loc Cert.EvenDxReferenceIdeal.main_v38) = v0 c
          ∧ r.2.mem ((c.tc : Thread Cert.EvenDxReferenceIdeal.nD Cert.EvenDxReferenceIdeal.τ).loc Cert.EvenDxReferenceIdeal.main_v39) = v1 c
          ∧ r.2.mem ((c.tc : Thread Cert.EvenDxReferenceIdeal.nD Cert.EvenDxReferenceIdeal.τ).loc Cert.EvenDxReferenceIdeal.main_v40) = v2 c
          ∧ r.2.mem ((c.tc : Thread Cert.EvenDxReferenceIdeal.nD Cert.EvenDxReferenceIdeal.τ).loc Cert.EvenDxReferenceIdeal.main_arg0) = m' ((c.tc : Thread Cert.EvenDxReferenceIdeal.nD Cert.EvenDxReferenceIdeal.τ).loc Cert.EvenDxReferenceIdeal.main_arg0)
          ∧ r.2.mem ((c.tc : Thread Cert.EvenDxReferenceIdeal.nD Cert.EvenDxReferenceIdeal.τ).loc Cert.EvenDxReferenceIdeal.main_arg1) = m' ((c.tc : Thread Cert.EvenDxReferenceIdeal.nD Cert.EvenDxReferenceIdeal.τ).loc Cert.EvenDxReferenceIdeal.main_arg1)
          ∧ r.2.mem ((c.tc : Thread Cert.EvenDxReferenceIdeal.nD Cert.EvenDxReferenceIdeal.τ).loc Cert.EvenDxReferenceIdeal.main_arg2) = m' ((c.tc : Thread Cert.EvenDxReferenceIdeal.nD Cert.EvenDxReferenceIdeal.τ).loc Cert.EvenDxReferenceIdeal.main_arg2)
          ∧ r.2.mem ((c.tc : Thread Cert.EvenDxReferenceIdeal.nD Cert.EvenDxReferenceIdeal.τ).loc Cert.EvenDxReferenceIdeal.main_arg3) = m' ((c.tc : Thread Cert.EvenDxReferenceIdeal.nD Cert.EvenDxReferenceIdeal.τ).loc Cert.EvenDxReferenceIdeal.main_arg3)
          ∧ r.2.mem ((c.tc : Thread Cert.EvenDxReferenceIdeal.nD Cert.EvenDxReferenceIdeal.τ).loc Cert.EvenDxReferenceIdeal.main_arg4) = m' ((c.tc : Thread Cert.EvenDxReferenceIdeal.nD Cert.EvenDxReferenceIdeal.τ).loc Cert.EvenDxReferenceIdeal.main_arg4))

def preserves_FfnDxKernel_FfnDxKernelIdeal : Prop :=
  True

def algebraic_FfnDxKernelIdeal_FfnDxReferenceIdeal_pre_ffndx_finite [hFfnDxKernelIdeal : Cert.FfnDxKernelIdeal.Facts] [hFfnDxReferenceIdeal : Cert.FfnDxReferenceIdeal.Facts] [hPre_ffndx_finite : Cert.Pre_ffndx_finite.Facts] : Prop :=
  ∀ (m : (ℓ : Loc Cert.FfnDxKernelIdeal.nD Cert.FfnDxKernelIdeal.τ Cert.FfnDxKernelIdeal.sig) → Buf (Elt Ideal) ℓ) (g : Dev Cert.FfnDxKernelIdeal.nD → PrngReg)
    (m' : (ℓ : Loc Cert.FfnDxReferenceIdeal.nD Cert.FfnDxReferenceIdeal.τ Cert.FfnDxReferenceIdeal.sig) → Buf (Elt Ideal) ℓ) (g' : Dev Cert.FfnDxReferenceIdeal.nD → PrngReg), Pre_FfnDxKernelIdeal_ffndx_finite m →
    (∀ c : Dev Cert.FfnDxKernelIdeal.nD,
      m' ((c.tc : Thread Cert.FfnDxReferenceIdeal.nD Cert.FfnDxReferenceIdeal.τ).loc Cert.FfnDxReferenceIdeal.main_arg0) = m ((c.tc : Thread Cert.FfnDxKernelIdeal.nD Cert.FfnDxKernelIdeal.τ).loc Cert.FfnDxKernelIdeal.main_arg0)
      ∧ m' ((c.tc : Thread Cert.FfnDxReferenceIdeal.nD Cert.FfnDxReferenceIdeal.τ).loc Cert.FfnDxReferenceIdeal.main_arg1) = m ((c.tc : Thread Cert.FfnDxKernelIdeal.nD Cert.FfnDxKernelIdeal.τ).loc Cert.FfnDxKernelIdeal.main_arg1)
      ∧ m' ((c.tc : Thread Cert.FfnDxReferenceIdeal.nD Cert.FfnDxReferenceIdeal.τ).loc Cert.FfnDxReferenceIdeal.main_arg2) = m ((c.tc : Thread Cert.FfnDxKernelIdeal.nD Cert.FfnDxKernelIdeal.τ).loc Cert.FfnDxKernelIdeal.main_arg2)
      ∧ m' ((c.tc : Thread Cert.FfnDxReferenceIdeal.nD Cert.FfnDxReferenceIdeal.τ).loc Cert.FfnDxReferenceIdeal.main_arg3) = m ((c.tc : Thread Cert.FfnDxKernelIdeal.nD Cert.FfnDxKernelIdeal.τ).loc Cert.FfnDxKernelIdeal.main_arg3)
      ∧ m' ((c.tc : Thread Cert.FfnDxReferenceIdeal.nD Cert.FfnDxReferenceIdeal.τ).loc Cert.FfnDxReferenceIdeal.main_arg4) = m ((c.tc : Thread Cert.FfnDxKernelIdeal.nD Cert.FfnDxKernelIdeal.τ).loc Cert.FfnDxKernelIdeal.main_arg4)
      ∧ m' ((c.tc : Thread Cert.FfnDxReferenceIdeal.nD Cert.FfnDxReferenceIdeal.τ).loc Cert.FfnDxReferenceIdeal.main_arg5) = m ((c.tc : Thread Cert.FfnDxKernelIdeal.nD Cert.FfnDxKernelIdeal.τ).loc Cert.FfnDxKernelIdeal.main_arg5)
      ∧ m' ((c.tc : Thread Cert.FfnDxReferenceIdeal.nD Cert.FfnDxReferenceIdeal.τ).loc Cert.FfnDxReferenceIdeal.main_arg6) = m ((c.tc : Thread Cert.FfnDxKernelIdeal.nD Cert.FfnDxKernelIdeal.τ).loc Cert.FfnDxKernelIdeal.main_arg6)) →
    ∃ (v0 : (c : Dev Cert.FfnDxKernelIdeal.nD) → Buf (Elt Ideal) ((c.tc : Thread Cert.FfnDxKernelIdeal.nD Cert.FfnDxKernelIdeal.τ).loc Cert.FfnDxKernelIdeal.main_v13_0)) (v1 : (c : Dev Cert.FfnDxKernelIdeal.nD) → Buf (Elt Ideal) ((c.tc : Thread Cert.FfnDxKernelIdeal.nD Cert.FfnDxKernelIdeal.τ).loc Cert.FfnDxKernelIdeal.main_v13_1)) (v2 : (c : Dev Cert.FfnDxKernelIdeal.nD) → Buf (Elt Ideal) ((c.tc : Thread Cert.FfnDxKernelIdeal.nD Cert.FfnDxKernelIdeal.τ).loc Cert.FfnDxKernelIdeal.main_v13_2)),
      θ_run (Cert.FfnDxKernelIdeal.defs (F := Ideal)) (onTc (τ := Cert.FfnDxKernelIdeal.τ) (Cert.FfnDxKernelIdeal.main (F := Ideal))) ⟨m, fun _ => 0, g⟩ (fun r => ∀ c : Dev Cert.FfnDxKernelIdeal.nD,
          r.2.mem ((c.tc : Thread Cert.FfnDxKernelIdeal.nD Cert.FfnDxKernelIdeal.τ).loc Cert.FfnDxKernelIdeal.main_v13_0) = v0 c
          ∧ r.2.mem ((c.tc : Thread Cert.FfnDxKernelIdeal.nD Cert.FfnDxKernelIdeal.τ).loc Cert.FfnDxKernelIdeal.main_v13_1) = v1 c
          ∧ r.2.mem ((c.tc : Thread Cert.FfnDxKernelIdeal.nD Cert.FfnDxKernelIdeal.τ).loc Cert.FfnDxKernelIdeal.main_v13_2) = v2 c
          ∧ r.2.mem ((c.tc : Thread Cert.FfnDxKernelIdeal.nD Cert.FfnDxKernelIdeal.τ).loc Cert.FfnDxKernelIdeal.main_arg0) = m ((c.tc : Thread Cert.FfnDxKernelIdeal.nD Cert.FfnDxKernelIdeal.τ).loc Cert.FfnDxKernelIdeal.main_arg0)
          ∧ r.2.mem ((c.tc : Thread Cert.FfnDxKernelIdeal.nD Cert.FfnDxKernelIdeal.τ).loc Cert.FfnDxKernelIdeal.main_arg1) = m ((c.tc : Thread Cert.FfnDxKernelIdeal.nD Cert.FfnDxKernelIdeal.τ).loc Cert.FfnDxKernelIdeal.main_arg1)
          ∧ r.2.mem ((c.tc : Thread Cert.FfnDxKernelIdeal.nD Cert.FfnDxKernelIdeal.τ).loc Cert.FfnDxKernelIdeal.main_arg2) = m ((c.tc : Thread Cert.FfnDxKernelIdeal.nD Cert.FfnDxKernelIdeal.τ).loc Cert.FfnDxKernelIdeal.main_arg2)
          ∧ r.2.mem ((c.tc : Thread Cert.FfnDxKernelIdeal.nD Cert.FfnDxKernelIdeal.τ).loc Cert.FfnDxKernelIdeal.main_arg3) = m ((c.tc : Thread Cert.FfnDxKernelIdeal.nD Cert.FfnDxKernelIdeal.τ).loc Cert.FfnDxKernelIdeal.main_arg3)
          ∧ r.2.mem ((c.tc : Thread Cert.FfnDxKernelIdeal.nD Cert.FfnDxKernelIdeal.τ).loc Cert.FfnDxKernelIdeal.main_arg4) = m ((c.tc : Thread Cert.FfnDxKernelIdeal.nD Cert.FfnDxKernelIdeal.τ).loc Cert.FfnDxKernelIdeal.main_arg4)
          ∧ r.2.mem ((c.tc : Thread Cert.FfnDxKernelIdeal.nD Cert.FfnDxKernelIdeal.τ).loc Cert.FfnDxKernelIdeal.main_arg5) = m ((c.tc : Thread Cert.FfnDxKernelIdeal.nD Cert.FfnDxKernelIdeal.τ).loc Cert.FfnDxKernelIdeal.main_arg5)
          ∧ r.2.mem ((c.tc : Thread Cert.FfnDxKernelIdeal.nD Cert.FfnDxKernelIdeal.τ).loc Cert.FfnDxKernelIdeal.main_arg6) = m ((c.tc : Thread Cert.FfnDxKernelIdeal.nD Cert.FfnDxKernelIdeal.τ).loc Cert.FfnDxKernelIdeal.main_arg6))
      ∧ θ_run (Cert.FfnDxReferenceIdeal.defs (F := Ideal)) (onTc (τ := Cert.FfnDxReferenceIdeal.τ) (Cert.FfnDxReferenceIdeal.main (F := Ideal))) ⟨m', fun _ => 0, g'⟩ (fun r => ∀ c : Dev Cert.FfnDxReferenceIdeal.nD,
          r.2.mem ((c.tc : Thread Cert.FfnDxReferenceIdeal.nD Cert.FfnDxReferenceIdeal.τ).loc Cert.FfnDxReferenceIdeal.main_v41) = v0 c
          ∧ r.2.mem ((c.tc : Thread Cert.FfnDxReferenceIdeal.nD Cert.FfnDxReferenceIdeal.τ).loc Cert.FfnDxReferenceIdeal.main_v42) = v1 c
          ∧ r.2.mem ((c.tc : Thread Cert.FfnDxReferenceIdeal.nD Cert.FfnDxReferenceIdeal.τ).loc Cert.FfnDxReferenceIdeal.main_v43) = v2 c
          ∧ r.2.mem ((c.tc : Thread Cert.FfnDxReferenceIdeal.nD Cert.FfnDxReferenceIdeal.τ).loc Cert.FfnDxReferenceIdeal.main_arg0) = m' ((c.tc : Thread Cert.FfnDxReferenceIdeal.nD Cert.FfnDxReferenceIdeal.τ).loc Cert.FfnDxReferenceIdeal.main_arg0)
          ∧ r.2.mem ((c.tc : Thread Cert.FfnDxReferenceIdeal.nD Cert.FfnDxReferenceIdeal.τ).loc Cert.FfnDxReferenceIdeal.main_arg1) = m' ((c.tc : Thread Cert.FfnDxReferenceIdeal.nD Cert.FfnDxReferenceIdeal.τ).loc Cert.FfnDxReferenceIdeal.main_arg1)
          ∧ r.2.mem ((c.tc : Thread Cert.FfnDxReferenceIdeal.nD Cert.FfnDxReferenceIdeal.τ).loc Cert.FfnDxReferenceIdeal.main_arg2) = m' ((c.tc : Thread Cert.FfnDxReferenceIdeal.nD Cert.FfnDxReferenceIdeal.τ).loc Cert.FfnDxReferenceIdeal.main_arg2)
          ∧ r.2.mem ((c.tc : Thread Cert.FfnDxReferenceIdeal.nD Cert.FfnDxReferenceIdeal.τ).loc Cert.FfnDxReferenceIdeal.main_arg3) = m' ((c.tc : Thread Cert.FfnDxReferenceIdeal.nD Cert.FfnDxReferenceIdeal.τ).loc Cert.FfnDxReferenceIdeal.main_arg3)
          ∧ r.2.mem ((c.tc : Thread Cert.FfnDxReferenceIdeal.nD Cert.FfnDxReferenceIdeal.τ).loc Cert.FfnDxReferenceIdeal.main_arg4) = m' ((c.tc : Thread Cert.FfnDxReferenceIdeal.nD Cert.FfnDxReferenceIdeal.τ).loc Cert.FfnDxReferenceIdeal.main_arg4)
          ∧ r.2.mem ((c.tc : Thread Cert.FfnDxReferenceIdeal.nD Cert.FfnDxReferenceIdeal.τ).loc Cert.FfnDxReferenceIdeal.main_arg5) = m' ((c.tc : Thread Cert.FfnDxReferenceIdeal.nD Cert.FfnDxReferenceIdeal.τ).loc Cert.FfnDxReferenceIdeal.main_arg5)
          ∧ r.2.mem ((c.tc : Thread Cert.FfnDxReferenceIdeal.nD Cert.FfnDxReferenceIdeal.τ).loc Cert.FfnDxReferenceIdeal.main_arg6) = m' ((c.tc : Thread Cert.FfnDxReferenceIdeal.nD Cert.FfnDxReferenceIdeal.τ).loc Cert.FfnDxReferenceIdeal.main_arg6))

def preserves_AttnKernel_AttnKernelIdeal : Prop :=
  IdealRules.named_const.Statement Cert.AttnKernelIdeal.κ "mask" .f32 0xF149F2CA#32 ⊥

def algebraic_AttnKernelIdeal_AttnReferenceIdeal_pre_attn_finite [hAttnKernelIdeal : Cert.AttnKernelIdeal.Facts] [hAttnReferenceIdeal : Cert.AttnReferenceIdeal.Facts] [hPre_attn_finite : Cert.Pre_attn_finite.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnKernelIdeal_attn_finite m →
    (∀ c : Dev Cert.AttnKernelIdeal.nD,
      m' ((c.tc : Thread Cert.AttnReferenceIdeal.nD Cert.AttnReferenceIdeal.τ).loc Cert.AttnReferenceIdeal.main_arg0) = m ((c.tc : Thread Cert.AttnKernelIdeal.nD Cert.AttnKernelIdeal.τ).loc Cert.AttnKernelIdeal.main_arg0)
      ∧ m' ((c.tc : Thread Cert.AttnReferenceIdeal.nD Cert.AttnReferenceIdeal.τ).loc Cert.AttnReferenceIdeal.main_arg1) = m ((c.tc : Thread Cert.AttnKernelIdeal.nD Cert.AttnKernelIdeal.τ).loc Cert.AttnKernelIdeal.main_arg1)
      ∧ m' ((c.tc : Thread Cert.AttnReferenceIdeal.nD Cert.AttnReferenceIdeal.τ).loc Cert.AttnReferenceIdeal.main_arg2) = m ((c.tc : Thread Cert.AttnKernelIdeal.nD Cert.AttnKernelIdeal.τ).loc Cert.AttnKernelIdeal.main_arg2)
      ∧ m' ((c.tc : Thread Cert.AttnReferenceIdeal.nD Cert.AttnReferenceIdeal.τ).loc Cert.AttnReferenceIdeal.main_arg3) = m ((c.tc : Thread Cert.AttnKernelIdeal.nD Cert.AttnKernelIdeal.τ).loc Cert.AttnKernelIdeal.main_arg3)
      ∧ m' ((c.tc : Thread Cert.AttnReferenceIdeal.nD Cert.AttnReferenceIdeal.τ).loc Cert.AttnReferenceIdeal.main_arg4) = m ((c.tc : Thread Cert.AttnKernelIdeal.nD Cert.AttnKernelIdeal.τ).loc Cert.AttnKernelIdeal.main_arg4)
      ∧ m' ((c.tc : Thread Cert.AttnReferenceIdeal.nD Cert.AttnReferenceIdeal.τ).loc Cert.AttnReferenceIdeal.main_arg5) = m ((c.tc : Thread Cert.AttnKernelIdeal.nD Cert.AttnKernelIdeal.τ).loc Cert.AttnKernelIdeal.main_arg5)) →
    ∃ (v0 : (c : Dev Cert.AttnKernelIdeal.nD) → Buf (Elt Ideal) ((c.tc : Thread Cert.AttnKernelIdeal.nD Cert.AttnKernelIdeal.τ).loc Cert.AttnKernelIdeal.main_v31)) (v1 : (c : Dev Cert.AttnKernelIdeal.nD) → Buf (Elt Ideal) ((c.tc : Thread Cert.AttnKernelIdeal.nD Cert.AttnKernelIdeal.τ).loc Cert.AttnKernelIdeal.main_v32)) (v2 : (c : Dev Cert.AttnKernelIdeal.nD) → Buf (Elt Ideal) ((c.tc : Thread Cert.AttnKernelIdeal.nD Cert.AttnKernelIdeal.τ).loc Cert.AttnKernelIdeal.main_v33)) (v3 : (c : Dev Cert.AttnKernelIdeal.nD) → Buf (Elt Ideal) ((c.tc : Thread Cert.AttnKernelIdeal.nD Cert.AttnKernelIdeal.τ).loc Cert.AttnKernelIdeal.main_v36)),
      θ_run (Cert.AttnKernelIdeal.defs (F := Ideal)) (onTc (τ := Cert.AttnKernelIdeal.τ) (Cert.AttnKernelIdeal.main (F := Ideal))) ⟨m, fun _ => 0, g⟩ (fun r => ∀ c : Dev Cert.AttnKernelIdeal.nD,
          r.2.mem ((c.tc : Thread Cert.AttnKernelIdeal.nD Cert.AttnKernelIdeal.τ).loc Cert.AttnKernelIdeal.main_v31) = v0 c
          ∧ r.2.mem ((c.tc : Thread Cert.AttnKernelIdeal.nD Cert.AttnKernelIdeal.τ).loc Cert.AttnKernelIdeal.main_v32) = v1 c
          ∧ r.2.mem ((c.tc : Thread Cert.AttnKernelIdeal.nD Cert.AttnKernelIdeal.τ).loc Cert.AttnKernelIdeal.main_v33) = v2 c
          ∧ r.2.mem ((c.tc : Thread Cert.AttnKernelIdeal.nD Cert.AttnKernelIdeal.τ).loc Cert.AttnKernelIdeal.main_v36) = v3 c
          ∧ r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
          ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
          ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
          ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3)
          ∧ r.2.mem ((c.tc : Thread Cert.AttnKernelIdeal.nD Cert.AttnKernelIdeal.τ).loc Cert.AttnKernelIdeal.main_arg4) = m ((c.tc : Thread Cert.AttnKernelIdeal.nD Cert.AttnKernelIdeal.τ).loc Cert.AttnKernelIdeal.main_arg4)
          ∧ r.2.mem ((c.tc : Thread Cert.AttnKernelIdeal.nD Cert.AttnKernelIdeal.τ).loc Cert.AttnKernelIdeal.main_arg5) = m ((c.tc : Thread Cert.AttnKernelIdeal.nD Cert.AttnKernelIdeal.τ).loc Cert.AttnKernelIdeal.main_arg5))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v68) = v0 c
          ∧ r.2.mem ((c.tc : Thread Cert.AttnReferenceIdeal.nD Cert.AttnReferenceIdeal.τ).loc Cert.AttnReferenceIdeal.main_v69) = v1 c
          ∧ r.2.mem ((c.tc : Thread Cert.AttnReferenceIdeal.nD Cert.AttnReferenceIdeal.τ).loc Cert.AttnReferenceIdeal.main_v70) = v2 c
          ∧ r.2.mem ((c.tc : Thread Cert.AttnReferenceIdeal.nD Cert.AttnReferenceIdeal.τ).loc Cert.AttnReferenceIdeal.main_v71) = v3 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1)
          ∧ r.2.mem ((c.tc : Thread Cert.AttnReferenceIdeal.nD Cert.AttnReferenceIdeal.τ).loc Cert.AttnReferenceIdeal.main_arg2) = m' ((c.tc : Thread Cert.AttnReferenceIdeal.nD Cert.AttnReferenceIdeal.τ).loc Cert.AttnReferenceIdeal.main_arg2)
          ∧ r.2.mem ((c.tc : Thread Cert.AttnReferenceIdeal.nD Cert.AttnReferenceIdeal.τ).loc Cert.AttnReferenceIdeal.main_arg3) = m' ((c.tc : Thread Cert.AttnReferenceIdeal.nD Cert.AttnReferenceIdeal.τ).loc Cert.AttnReferenceIdeal.main_arg3)
          ∧ r.2.mem ((c.tc : Thread Cert.AttnReferenceIdeal.nD Cert.AttnReferenceIdeal.τ).loc Cert.AttnReferenceIdeal.main_arg4) = m' ((c.tc : Thread Cert.AttnReferenceIdeal.nD Cert.AttnReferenceIdeal.τ).loc Cert.AttnReferenceIdeal.main_arg4)
          ∧ r.2.mem ((c.tc : Thread Cert.AttnReferenceIdeal.nD Cert.AttnReferenceIdeal.τ).loc Cert.AttnReferenceIdeal.main_arg5) = m' ((c.tc : Thread Cert.AttnReferenceIdeal.nD Cert.AttnReferenceIdeal.τ).loc Cert.AttnReferenceIdeal.main_arg5))

def preserves_SguKernel_SguKernelIdeal : Prop :=
  True

def algebraic_SguKernelIdeal_SguReferenceIdeal [hSguKernelIdeal : Cert.SguKernelIdeal.Facts] [hSguReferenceIdeal : Cert.SguReferenceIdeal.Facts] : Prop :=
  ∀ (m : (ℓ : Loc Cert.SguKernelIdeal.nD Cert.SguKernelIdeal.τ Cert.SguKernelIdeal.sig) → Buf (Elt Ideal) ℓ) (g : Dev Cert.SguKernelIdeal.nD → PrngReg)
    (m' : (ℓ : Loc Cert.SguReferenceIdeal.nD Cert.SguReferenceIdeal.τ Cert.SguReferenceIdeal.sig) → Buf (Elt Ideal) ℓ) (g' : Dev Cert.SguReferenceIdeal.nD → PrngReg), Pre_SguKernelIdeal m →
    (∀ c : Dev Cert.SguKernelIdeal.nD,
      m' ((c.tc : Thread Cert.SguReferenceIdeal.nD Cert.SguReferenceIdeal.τ).loc Cert.SguReferenceIdeal.main_arg0) = m ((c.tc : Thread Cert.SguKernelIdeal.nD Cert.SguKernelIdeal.τ).loc Cert.SguKernelIdeal.main_arg0)
      ∧ m' ((c.tc : Thread Cert.SguReferenceIdeal.nD Cert.SguReferenceIdeal.τ).loc Cert.SguReferenceIdeal.main_arg1) = m ((c.tc : Thread Cert.SguKernelIdeal.nD Cert.SguKernelIdeal.τ).loc Cert.SguKernelIdeal.main_arg1)
      ∧ m' ((c.tc : Thread Cert.SguReferenceIdeal.nD Cert.SguReferenceIdeal.τ).loc Cert.SguReferenceIdeal.main_arg2) = m ((c.tc : Thread Cert.SguKernelIdeal.nD Cert.SguKernelIdeal.τ).loc Cert.SguKernelIdeal.main_arg2)
      ∧ m' ((c.tc : Thread Cert.SguReferenceIdeal.nD Cert.SguReferenceIdeal.τ).loc Cert.SguReferenceIdeal.main_arg3) = m ((c.tc : Thread Cert.SguKernelIdeal.nD Cert.SguKernelIdeal.τ).loc Cert.SguKernelIdeal.main_arg3)
      ∧ m' ((c.tc : Thread Cert.SguReferenceIdeal.nD Cert.SguReferenceIdeal.τ).loc Cert.SguReferenceIdeal.main_arg4) = m ((c.tc : Thread Cert.SguKernelIdeal.nD Cert.SguKernelIdeal.τ).loc Cert.SguKernelIdeal.main_arg4)) →
    ∃ (v0 : (c : Dev Cert.SguKernelIdeal.nD) → Buf (Elt Ideal) ((c.tc : Thread Cert.SguKernelIdeal.nD Cert.SguKernelIdeal.τ).loc Cert.SguKernelIdeal.main_v18_0)) (v1 : (c : Dev Cert.SguKernelIdeal.nD) → Buf (Elt Ideal) ((c.tc : Thread Cert.SguKernelIdeal.nD Cert.SguKernelIdeal.τ).loc Cert.SguKernelIdeal.main_v18_1)) (v2 : (c : Dev Cert.SguKernelIdeal.nD) → Buf (Elt Ideal) ((c.tc : Thread Cert.SguKernelIdeal.nD Cert.SguKernelIdeal.τ).loc Cert.SguKernelIdeal.main_v18_2)),
      θ_run (Cert.SguKernelIdeal.defs (F := Ideal)) (onTc (τ := Cert.SguKernelIdeal.τ) (Cert.SguKernelIdeal.main (F := Ideal))) ⟨m, fun _ => 0, g⟩ (fun r => ∀ c : Dev Cert.SguKernelIdeal.nD,
          r.2.mem ((c.tc : Thread Cert.SguKernelIdeal.nD Cert.SguKernelIdeal.τ).loc Cert.SguKernelIdeal.main_v18_0) = v0 c
          ∧ r.2.mem ((c.tc : Thread Cert.SguKernelIdeal.nD Cert.SguKernelIdeal.τ).loc Cert.SguKernelIdeal.main_v18_1) = v1 c
          ∧ r.2.mem ((c.tc : Thread Cert.SguKernelIdeal.nD Cert.SguKernelIdeal.τ).loc Cert.SguKernelIdeal.main_v18_2) = v2 c
          ∧ r.2.mem ((c.tc : Thread Cert.SguKernelIdeal.nD Cert.SguKernelIdeal.τ).loc Cert.SguKernelIdeal.main_arg0) = m ((c.tc : Thread Cert.SguKernelIdeal.nD Cert.SguKernelIdeal.τ).loc Cert.SguKernelIdeal.main_arg0)
          ∧ r.2.mem ((c.tc : Thread Cert.SguKernelIdeal.nD Cert.SguKernelIdeal.τ).loc Cert.SguKernelIdeal.main_arg1) = m ((c.tc : Thread Cert.SguKernelIdeal.nD Cert.SguKernelIdeal.τ).loc Cert.SguKernelIdeal.main_arg1)
          ∧ r.2.mem ((c.tc : Thread Cert.SguKernelIdeal.nD Cert.SguKernelIdeal.τ).loc Cert.SguKernelIdeal.main_arg2) = m ((c.tc : Thread Cert.SguKernelIdeal.nD Cert.SguKernelIdeal.τ).loc Cert.SguKernelIdeal.main_arg2)
          ∧ r.2.mem ((c.tc : Thread Cert.SguKernelIdeal.nD Cert.SguKernelIdeal.τ).loc Cert.SguKernelIdeal.main_arg3) = m ((c.tc : Thread Cert.SguKernelIdeal.nD Cert.SguKernelIdeal.τ).loc Cert.SguKernelIdeal.main_arg3)
          ∧ r.2.mem ((c.tc : Thread Cert.SguKernelIdeal.nD Cert.SguKernelIdeal.τ).loc Cert.SguKernelIdeal.main_arg4) = m ((c.tc : Thread Cert.SguKernelIdeal.nD Cert.SguKernelIdeal.τ).loc Cert.SguKernelIdeal.main_arg4))
      ∧ θ_run (Cert.SguReferenceIdeal.defs (F := Ideal)) (onTc (τ := Cert.SguReferenceIdeal.τ) (Cert.SguReferenceIdeal.main (F := Ideal))) ⟨m', fun _ => 0, g'⟩ (fun r => ∀ c : Dev Cert.SguReferenceIdeal.nD,
          r.2.mem ((c.tc : Thread Cert.SguReferenceIdeal.nD Cert.SguReferenceIdeal.τ).loc Cert.SguReferenceIdeal.main_v28) = v0 c
          ∧ r.2.mem ((c.tc : Thread Cert.SguReferenceIdeal.nD Cert.SguReferenceIdeal.τ).loc Cert.SguReferenceIdeal.main_v29) = v1 c
          ∧ r.2.mem ((c.tc : Thread Cert.SguReferenceIdeal.nD Cert.SguReferenceIdeal.τ).loc Cert.SguReferenceIdeal.main_v26) = v2 c
          ∧ r.2.mem ((c.tc : Thread Cert.SguReferenceIdeal.nD Cert.SguReferenceIdeal.τ).loc Cert.SguReferenceIdeal.main_arg0) = m' ((c.tc : Thread Cert.SguReferenceIdeal.nD Cert.SguReferenceIdeal.τ).loc Cert.SguReferenceIdeal.main_arg0)
          ∧ r.2.mem ((c.tc : Thread Cert.SguReferenceIdeal.nD Cert.SguReferenceIdeal.τ).loc Cert.SguReferenceIdeal.main_arg1) = m' ((c.tc : Thread Cert.SguReferenceIdeal.nD Cert.SguReferenceIdeal.τ).loc Cert.SguReferenceIdeal.main_arg1)
          ∧ r.2.mem ((c.tc : Thread Cert.SguReferenceIdeal.nD Cert.SguReferenceIdeal.τ).loc Cert.SguReferenceIdeal.main_arg2) = m' ((c.tc : Thread Cert.SguReferenceIdeal.nD Cert.SguReferenceIdeal.τ).loc Cert.SguReferenceIdeal.main_arg2)
          ∧ r.2.mem ((c.tc : Thread Cert.SguReferenceIdeal.nD Cert.SguReferenceIdeal.τ).loc Cert.SguReferenceIdeal.main_arg3) = m' ((c.tc : Thread Cert.SguReferenceIdeal.nD Cert.SguReferenceIdeal.τ).loc Cert.SguReferenceIdeal.main_arg3)
          ∧ r.2.mem ((c.tc : Thread Cert.SguReferenceIdeal.nD Cert.SguReferenceIdeal.τ).loc Cert.SguReferenceIdeal.main_arg4) = m' ((c.tc : Thread Cert.SguReferenceIdeal.nD Cert.SguReferenceIdeal.τ).loc Cert.SguReferenceIdeal.main_arg4))

def preserves_PrepKernel_PrepKernelIdeal : Prop :=
  True

def algebraic_PrepKernelIdeal_PrepReferenceIdeal_pre_prep_finite [hPrepKernelIdeal : Cert.PrepKernelIdeal.Facts] [hPrepReferenceIdeal : Cert.PrepReferenceIdeal.Facts] [hPre_prep_finite : Cert.Pre_prep_finite.Facts] : Prop :=
  ∀ (m : (ℓ : Loc Cert.PrepKernelIdeal.nD Cert.PrepKernelIdeal.τ Cert.PrepKernelIdeal.sig) → Buf (Elt Ideal) ℓ) (g : Dev Cert.PrepKernelIdeal.nD → PrngReg)
    (m' : (ℓ : Loc Cert.PrepReferenceIdeal.nD Cert.PrepReferenceIdeal.τ Cert.PrepReferenceIdeal.sig) → Buf (Elt Ideal) ℓ) (g' : Dev Cert.PrepReferenceIdeal.nD → PrngReg), Pre_PrepKernelIdeal_prep_finite m →
    (∀ c : Dev Cert.PrepKernelIdeal.nD,
      m' ((c.tc : Thread Cert.PrepReferenceIdeal.nD Cert.PrepReferenceIdeal.τ).loc Cert.PrepReferenceIdeal.main_arg0) = m ((c.tc : Thread Cert.PrepKernelIdeal.nD Cert.PrepKernelIdeal.τ).loc Cert.PrepKernelIdeal.main_arg0)
      ∧ m' ((c.tc : Thread Cert.PrepReferenceIdeal.nD Cert.PrepReferenceIdeal.τ).loc Cert.PrepReferenceIdeal.main_arg1) = m ((c.tc : Thread Cert.PrepKernelIdeal.nD Cert.PrepKernelIdeal.τ).loc Cert.PrepKernelIdeal.main_arg1)
      ∧ m' ((c.tc : Thread Cert.PrepReferenceIdeal.nD Cert.PrepReferenceIdeal.τ).loc Cert.PrepReferenceIdeal.main_arg2) = m ((c.tc : Thread Cert.PrepKernelIdeal.nD Cert.PrepKernelIdeal.τ).loc Cert.PrepKernelIdeal.main_arg2)
      ∧ m' ((c.tc : Thread Cert.PrepReferenceIdeal.nD Cert.PrepReferenceIdeal.τ).loc Cert.PrepReferenceIdeal.main_arg3) = m ((c.tc : Thread Cert.PrepKernelIdeal.nD Cert.PrepKernelIdeal.τ).loc Cert.PrepKernelIdeal.main_arg3)
      ∧ m' ((c.tc : Thread Cert.PrepReferenceIdeal.nD Cert.PrepReferenceIdeal.τ).loc Cert.PrepReferenceIdeal.main_arg4) = m ((c.tc : Thread Cert.PrepKernelIdeal.nD Cert.PrepKernelIdeal.τ).loc Cert.PrepKernelIdeal.main_arg4)
      ∧ m' ((c.tc : Thread Cert.PrepReferenceIdeal.nD Cert.PrepReferenceIdeal.τ).loc Cert.PrepReferenceIdeal.main_arg5) = m ((c.tc : Thread Cert.PrepKernelIdeal.nD Cert.PrepKernelIdeal.τ).loc Cert.PrepKernelIdeal.main_arg5)
      ∧ m' ((c.tc : Thread Cert.PrepReferenceIdeal.nD Cert.PrepReferenceIdeal.τ).loc Cert.PrepReferenceIdeal.main_arg6) = m ((c.tc : Thread Cert.PrepKernelIdeal.nD Cert.PrepKernelIdeal.τ).loc Cert.PrepKernelIdeal.main_arg6)
      ∧ m' ((c.tc : Thread Cert.PrepReferenceIdeal.nD Cert.PrepReferenceIdeal.τ).loc Cert.PrepReferenceIdeal.main_arg7) = m ((c.tc : Thread Cert.PrepKernelIdeal.nD Cert.PrepKernelIdeal.τ).loc Cert.PrepKernelIdeal.main_arg7)
      ∧ m' ((c.tc : Thread Cert.PrepReferenceIdeal.nD Cert.PrepReferenceIdeal.τ).loc Cert.PrepReferenceIdeal.main_arg8) = m ((c.tc : Thread Cert.PrepKernelIdeal.nD Cert.PrepKernelIdeal.τ).loc Cert.PrepKernelIdeal.main_arg8)
      ∧ m' ((c.tc : Thread Cert.PrepReferenceIdeal.nD Cert.PrepReferenceIdeal.τ).loc Cert.PrepReferenceIdeal.main_arg9) = m ((c.tc : Thread Cert.PrepKernelIdeal.nD Cert.PrepKernelIdeal.τ).loc Cert.PrepKernelIdeal.main_arg9)) →
    ∃ (v0 : (c : Dev Cert.PrepKernelIdeal.nD) → Buf (Elt Ideal) ((c.tc : Thread Cert.PrepKernelIdeal.nD Cert.PrepKernelIdeal.τ).loc Cert.PrepKernelIdeal.main_v51)) (v1 : (c : Dev Cert.PrepKernelIdeal.nD) → Buf (Elt Ideal) ((c.tc : Thread Cert.PrepKernelIdeal.nD Cert.PrepKernelIdeal.τ).loc Cert.PrepKernelIdeal.main_v52)) (v2 : (c : Dev Cert.PrepKernelIdeal.nD) → Buf (Elt Ideal) ((c.tc : Thread Cert.PrepKernelIdeal.nD Cert.PrepKernelIdeal.τ).loc Cert.PrepKernelIdeal.main_v53)) (v3 : (c : Dev Cert.PrepKernelIdeal.nD) → Buf (Elt Ideal) ((c.tc : Thread Cert.PrepKernelIdeal.nD Cert.PrepKernelIdeal.τ).loc Cert.PrepKernelIdeal.main_v54)),
      θ_run (Cert.PrepKernelIdeal.defs (F := Ideal)) (onTc (τ := Cert.PrepKernelIdeal.τ) (Cert.PrepKernelIdeal.main (F := Ideal))) ⟨m, fun _ => 0, g⟩ (fun r => ∀ c : Dev Cert.PrepKernelIdeal.nD,
          r.2.mem ((c.tc : Thread Cert.PrepKernelIdeal.nD Cert.PrepKernelIdeal.τ).loc Cert.PrepKernelIdeal.main_v51) = v0 c
          ∧ r.2.mem ((c.tc : Thread Cert.PrepKernelIdeal.nD Cert.PrepKernelIdeal.τ).loc Cert.PrepKernelIdeal.main_v52) = v1 c
          ∧ r.2.mem ((c.tc : Thread Cert.PrepKernelIdeal.nD Cert.PrepKernelIdeal.τ).loc Cert.PrepKernelIdeal.main_v53) = v2 c
          ∧ r.2.mem ((c.tc : Thread Cert.PrepKernelIdeal.nD Cert.PrepKernelIdeal.τ).loc Cert.PrepKernelIdeal.main_v54) = v3 c
          ∧ r.2.mem ((c.tc : Thread Cert.PrepKernelIdeal.nD Cert.PrepKernelIdeal.τ).loc Cert.PrepKernelIdeal.main_arg0) = m ((c.tc : Thread Cert.PrepKernelIdeal.nD Cert.PrepKernelIdeal.τ).loc Cert.PrepKernelIdeal.main_arg0)
          ∧ r.2.mem ((c.tc : Thread Cert.PrepKernelIdeal.nD Cert.PrepKernelIdeal.τ).loc Cert.PrepKernelIdeal.main_arg1) = m ((c.tc : Thread Cert.PrepKernelIdeal.nD Cert.PrepKernelIdeal.τ).loc Cert.PrepKernelIdeal.main_arg1)
          ∧ r.2.mem ((c.tc : Thread Cert.PrepKernelIdeal.nD Cert.PrepKernelIdeal.τ).loc Cert.PrepKernelIdeal.main_arg2) = m ((c.tc : Thread Cert.PrepKernelIdeal.nD Cert.PrepKernelIdeal.τ).loc Cert.PrepKernelIdeal.main_arg2)
          ∧ r.2.mem ((c.tc : Thread Cert.PrepKernelIdeal.nD Cert.PrepKernelIdeal.τ).loc Cert.PrepKernelIdeal.main_arg3) = m ((c.tc : Thread Cert.PrepKernelIdeal.nD Cert.PrepKernelIdeal.τ).loc Cert.PrepKernelIdeal.main_arg3)
          ∧ r.2.mem ((c.tc : Thread Cert.PrepKernelIdeal.nD Cert.PrepKernelIdeal.τ).loc Cert.PrepKernelIdeal.main_arg4) = m ((c.tc : Thread Cert.PrepKernelIdeal.nD Cert.PrepKernelIdeal.τ).loc Cert.PrepKernelIdeal.main_arg4)
          ∧ r.2.mem ((c.tc : Thread Cert.PrepKernelIdeal.nD Cert.PrepKernelIdeal.τ).loc Cert.PrepKernelIdeal.main_arg5) = m ((c.tc : Thread Cert.PrepKernelIdeal.nD Cert.PrepKernelIdeal.τ).loc Cert.PrepKernelIdeal.main_arg5)
          ∧ r.2.mem ((c.tc : Thread Cert.PrepKernelIdeal.nD Cert.PrepKernelIdeal.τ).loc Cert.PrepKernelIdeal.main_arg6) = m ((c.tc : Thread Cert.PrepKernelIdeal.nD Cert.PrepKernelIdeal.τ).loc Cert.PrepKernelIdeal.main_arg6)
          ∧ r.2.mem ((c.tc : Thread Cert.PrepKernelIdeal.nD Cert.PrepKernelIdeal.τ).loc Cert.PrepKernelIdeal.main_arg7) = m ((c.tc : Thread Cert.PrepKernelIdeal.nD Cert.PrepKernelIdeal.τ).loc Cert.PrepKernelIdeal.main_arg7)
          ∧ r.2.mem ((c.tc : Thread Cert.PrepKernelIdeal.nD Cert.PrepKernelIdeal.τ).loc Cert.PrepKernelIdeal.main_arg8) = m ((c.tc : Thread Cert.PrepKernelIdeal.nD Cert.PrepKernelIdeal.τ).loc Cert.PrepKernelIdeal.main_arg8)
          ∧ r.2.mem ((c.tc : Thread Cert.PrepKernelIdeal.nD Cert.PrepKernelIdeal.τ).loc Cert.PrepKernelIdeal.main_arg9) = m ((c.tc : Thread Cert.PrepKernelIdeal.nD Cert.PrepKernelIdeal.τ).loc Cert.PrepKernelIdeal.main_arg9))
      ∧ θ_run (Cert.PrepReferenceIdeal.defs (F := Ideal)) (onTc (τ := Cert.PrepReferenceIdeal.τ) (Cert.PrepReferenceIdeal.main (F := Ideal))) ⟨m', fun _ => 0, g'⟩ (fun r => ∀ c : Dev Cert.PrepReferenceIdeal.nD,
          r.2.mem ((c.tc : Thread Cert.PrepReferenceIdeal.nD Cert.PrepReferenceIdeal.τ).loc Cert.PrepReferenceIdeal.main_v181) = v0 c
          ∧ r.2.mem ((c.tc : Thread Cert.PrepReferenceIdeal.nD Cert.PrepReferenceIdeal.τ).loc Cert.PrepReferenceIdeal.main_v139) = v1 c
          ∧ r.2.mem ((c.tc : Thread Cert.PrepReferenceIdeal.nD Cert.PrepReferenceIdeal.τ).loc Cert.PrepReferenceIdeal.main_v119) = v2 c
          ∧ r.2.mem ((c.tc : Thread Cert.PrepReferenceIdeal.nD Cert.PrepReferenceIdeal.τ).loc Cert.PrepReferenceIdeal.main_v99) = v3 c
          ∧ r.2.mem ((c.tc : Thread Cert.PrepReferenceIdeal.nD Cert.PrepReferenceIdeal.τ).loc Cert.PrepReferenceIdeal.main_arg0) = m' ((c.tc : Thread Cert.PrepReferenceIdeal.nD Cert.PrepReferenceIdeal.τ).loc Cert.PrepReferenceIdeal.main_arg0)
          ∧ r.2.mem ((c.tc : Thread Cert.PrepReferenceIdeal.nD Cert.PrepReferenceIdeal.τ).loc Cert.PrepReferenceIdeal.main_arg1) = m' ((c.tc : Thread Cert.PrepReferenceIdeal.nD Cert.PrepReferenceIdeal.τ).loc Cert.PrepReferenceIdeal.main_arg1)
          ∧ r.2.mem ((c.tc : Thread Cert.PrepReferenceIdeal.nD Cert.PrepReferenceIdeal.τ).loc Cert.PrepReferenceIdeal.main_arg2) = m' ((c.tc : Thread Cert.PrepReferenceIdeal.nD Cert.PrepReferenceIdeal.τ).loc Cert.PrepReferenceIdeal.main_arg2)
          ∧ r.2.mem ((c.tc : Thread Cert.PrepReferenceIdeal.nD Cert.PrepReferenceIdeal.τ).loc Cert.PrepReferenceIdeal.main_arg3) = m' ((c.tc : Thread Cert.PrepReferenceIdeal.nD Cert.PrepReferenceIdeal.τ).loc Cert.PrepReferenceIdeal.main_arg3)
          ∧ r.2.mem ((c.tc : Thread Cert.PrepReferenceIdeal.nD Cert.PrepReferenceIdeal.τ).loc Cert.PrepReferenceIdeal.main_arg4) = m' ((c.tc : Thread Cert.PrepReferenceIdeal.nD Cert.PrepReferenceIdeal.τ).loc Cert.PrepReferenceIdeal.main_arg4)
          ∧ r.2.mem ((c.tc : Thread Cert.PrepReferenceIdeal.nD Cert.PrepReferenceIdeal.τ).loc Cert.PrepReferenceIdeal.main_arg5) = m' ((c.tc : Thread Cert.PrepReferenceIdeal.nD Cert.PrepReferenceIdeal.τ).loc Cert.PrepReferenceIdeal.main_arg5)
          ∧ r.2.mem ((c.tc : Thread Cert.PrepReferenceIdeal.nD Cert.PrepReferenceIdeal.τ).loc Cert.PrepReferenceIdeal.main_arg6) = m' ((c.tc : Thread Cert.PrepReferenceIdeal.nD Cert.PrepReferenceIdeal.τ).loc Cert.PrepReferenceIdeal.main_arg6)
          ∧ r.2.mem ((c.tc : Thread Cert.PrepReferenceIdeal.nD Cert.PrepReferenceIdeal.τ).loc Cert.PrepReferenceIdeal.main_arg7) = m' ((c.tc : Thread Cert.PrepReferenceIdeal.nD Cert.PrepReferenceIdeal.τ).loc Cert.PrepReferenceIdeal.main_arg7)
          ∧ r.2.mem ((c.tc : Thread Cert.PrepReferenceIdeal.nD Cert.PrepReferenceIdeal.τ).loc Cert.PrepReferenceIdeal.main_arg8) = m' ((c.tc : Thread Cert.PrepReferenceIdeal.nD Cert.PrepReferenceIdeal.τ).loc Cert.PrepReferenceIdeal.main_arg8)
          ∧ r.2.mem ((c.tc : Thread Cert.PrepReferenceIdeal.nD Cert.PrepReferenceIdeal.τ).loc Cert.PrepReferenceIdeal.main_arg9) = m' ((c.tc : Thread Cert.PrepReferenceIdeal.nD Cert.PrepReferenceIdeal.τ).loc Cert.PrepReferenceIdeal.main_arg9))

def Claim : Prop :=
  ∃ (hConvKernel : Cert.ConvKernel.Facts) (hConvKernelIdeal : Cert.ConvKernelIdeal.Facts) (hConvReferenceIdeal : Cert.ConvReferenceIdeal.Facts) (hLossKernel : Cert.LossKernel.Facts) (hLossKernelIdeal : Cert.LossKernelIdeal.Facts) (hLossReferenceIdeal : Cert.LossReferenceIdeal.Facts) (hUnropeKernel : Cert.UnropeKernel.Facts) (hUnropeKernelIdeal : Cert.UnropeKernelIdeal.Facts) (hUnropeReferenceIdeal : Cert.UnropeReferenceIdeal.Facts) (hGateUpKernel : Cert.GateUpKernel.Facts) (hGateUpKernelIdeal : Cert.GateUpKernelIdeal.Facts) (hGateUpReferenceIdeal : Cert.GateUpReferenceIdeal.Facts) (hConvDxKernel : Cert.ConvDxKernel.Facts) (hConvDxKernelIdeal : Cert.ConvDxKernelIdeal.Facts) (hConvDxReferenceIdeal : Cert.ConvDxReferenceIdeal.Facts) (hEvenDxKernel : Cert.EvenDxKernel.Facts) (hEvenDxKernelIdeal : Cert.EvenDxKernelIdeal.Facts) (hEvenDxReferenceIdeal : Cert.EvenDxReferenceIdeal.Facts) (hFfnDxKernel : Cert.FfnDxKernel.Facts) (hFfnDxKernelIdeal : Cert.FfnDxKernelIdeal.Facts) (hFfnDxReferenceIdeal : Cert.FfnDxReferenceIdeal.Facts) (hAttnKernel : Cert.AttnKernel.Facts) (hAttnKernelIdeal : Cert.AttnKernelIdeal.Facts) (hAttnReferenceIdeal : Cert.AttnReferenceIdeal.Facts) (hSguKernel : Cert.SguKernel.Facts) (hSguKernelIdeal : Cert.SguKernelIdeal.Facts) (hSguReferenceIdeal : Cert.SguReferenceIdeal.Facts) (hPrepKernel : Cert.PrepKernel.Facts) (hPrepKernelIdeal : Cert.PrepKernelIdeal.Facts) (hPrepReferenceIdeal : Cert.PrepReferenceIdeal.Facts) (hPre_loss_finite : Cert.Pre_loss_finite.Facts) (hPre_dgu_finite : Cert.Pre_dgu_finite.Facts) (hPre_convdx_finite : Cert.Pre_convdx_finite.Facts) (hPre_evendx_finite : Cert.Pre_evendx_finite.Facts) (hPre_ffndx_finite : Cert.Pre_ffndx_finite.Facts) (hPre_attn_finite : Cert.Pre_attn_finite.Facts) (hPre_prep_finite : Cert.Pre_prep_finite.Facts),
    quiescent_ConvKernel (hConvKernel := hConvKernel)
    ∧ quiescent_ConvKernelIdeal (hConvKernelIdeal := hConvKernelIdeal)
    ∧ quiescent_ConvReferenceIdeal (hConvReferenceIdeal := hConvReferenceIdeal)
    ∧ quiescent_LossKernel (hLossKernel := hLossKernel)
    ∧ quiescent_LossKernelIdeal (hLossKernelIdeal := hLossKernelIdeal)
    ∧ quiescent_LossKernelIdeal_pre_loss_finite (hLossKernelIdeal := hLossKernelIdeal) (hPre_loss_finite := hPre_loss_finite)
    ∧ quiescent_LossReferenceIdeal (hLossReferenceIdeal := hLossReferenceIdeal)
    ∧ quiescent_LossReferenceIdeal_pre_loss_finite (hLossReferenceIdeal := hLossReferenceIdeal) (hPre_loss_finite := hPre_loss_finite)
    ∧ quiescent_UnropeKernel (hUnropeKernel := hUnropeKernel)
    ∧ quiescent_UnropeKernelIdeal (hUnropeKernelIdeal := hUnropeKernelIdeal)
    ∧ quiescent_UnropeReferenceIdeal (hUnropeReferenceIdeal := hUnropeReferenceIdeal)
    ∧ quiescent_GateUpKernel (hGateUpKernel := hGateUpKernel)
    ∧ quiescent_GateUpKernelIdeal (hGateUpKernelIdeal := hGateUpKernelIdeal)
    ∧ quiescent_GateUpKernelIdeal_pre_dgu_finite (hGateUpKernelIdeal := hGateUpKernelIdeal) (hPre_dgu_finite := hPre_dgu_finite)
    ∧ quiescent_GateUpReferenceIdeal (hGateUpReferenceIdeal := hGateUpReferenceIdeal)
    ∧ quiescent_GateUpReferenceIdeal_pre_dgu_finite (hGateUpReferenceIdeal := hGateUpReferenceIdeal) (hPre_dgu_finite := hPre_dgu_finite)
    ∧ quiescent_ConvDxKernel (hConvDxKernel := hConvDxKernel)
    ∧ quiescent_ConvDxKernelIdeal (hConvDxKernelIdeal := hConvDxKernelIdeal)
    ∧ quiescent_ConvDxKernelIdeal_pre_convdx_finite (hConvDxKernelIdeal := hConvDxKernelIdeal) (hPre_convdx_finite := hPre_convdx_finite)
    ∧ quiescent_ConvDxReferenceIdeal (hConvDxReferenceIdeal := hConvDxReferenceIdeal)
    ∧ quiescent_ConvDxReferenceIdeal_pre_convdx_finite (hConvDxReferenceIdeal := hConvDxReferenceIdeal) (hPre_convdx_finite := hPre_convdx_finite)
    ∧ quiescent_EvenDxKernel (hEvenDxKernel := hEvenDxKernel)
    ∧ quiescent_EvenDxKernelIdeal (hEvenDxKernelIdeal := hEvenDxKernelIdeal)
    ∧ quiescent_EvenDxKernelIdeal_pre_evendx_finite (hEvenDxKernelIdeal := hEvenDxKernelIdeal) (hPre_evendx_finite := hPre_evendx_finite)
    ∧ quiescent_EvenDxReferenceIdeal (hEvenDxReferenceIdeal := hEvenDxReferenceIdeal)
    ∧ quiescent_EvenDxReferenceIdeal_pre_evendx_finite (hEvenDxReferenceIdeal := hEvenDxReferenceIdeal) (hPre_evendx_finite := hPre_evendx_finite)
    ∧ quiescent_FfnDxKernel (hFfnDxKernel := hFfnDxKernel)
    ∧ quiescent_FfnDxKernelIdeal (hFfnDxKernelIdeal := hFfnDxKernelIdeal)
    ∧ quiescent_FfnDxKernelIdeal_pre_ffndx_finite (hFfnDxKernelIdeal := hFfnDxKernelIdeal) (hPre_ffndx_finite := hPre_ffndx_finite)
    ∧ quiescent_FfnDxReferenceIdeal (hFfnDxReferenceIdeal := hFfnDxReferenceIdeal)
    ∧ quiescent_FfnDxReferenceIdeal_pre_ffndx_finite (hFfnDxReferenceIdeal := hFfnDxReferenceIdeal) (hPre_ffndx_finite := hPre_ffndx_finite)
    ∧ quiescent_AttnKernel (hAttnKernel := hAttnKernel)
    ∧ quiescent_AttnKernelIdeal (hAttnKernelIdeal := hAttnKernelIdeal)
    ∧ quiescent_AttnKernelIdeal_pre_attn_finite (hAttnKernelIdeal := hAttnKernelIdeal) (hPre_attn_finite := hPre_attn_finite)
    ∧ quiescent_AttnReferenceIdeal (hAttnReferenceIdeal := hAttnReferenceIdeal)
    ∧ quiescent_AttnReferenceIdeal_pre_attn_finite (hAttnReferenceIdeal := hAttnReferenceIdeal) (hPre_attn_finite := hPre_attn_finite)
    ∧ quiescent_SguKernel (hSguKernel := hSguKernel)
    ∧ quiescent_SguKernelIdeal (hSguKernelIdeal := hSguKernelIdeal)
    ∧ quiescent_SguReferenceIdeal (hSguReferenceIdeal := hSguReferenceIdeal)
    ∧ quiescent_PrepKernel (hPrepKernel := hPrepKernel)
    ∧ quiescent_PrepKernelIdeal (hPrepKernelIdeal := hPrepKernelIdeal)
    ∧ quiescent_PrepKernelIdeal_pre_prep_finite (hPrepKernelIdeal := hPrepKernelIdeal) (hPre_prep_finite := hPre_prep_finite)
    ∧ quiescent_PrepReferenceIdeal (hPrepReferenceIdeal := hPrepReferenceIdeal)
    ∧ quiescent_PrepReferenceIdeal_pre_prep_finite (hPrepReferenceIdeal := hPrepReferenceIdeal) (hPre_prep_finite := hPre_prep_finite)
    ∧ preserves_ConvKernel_ConvKernelIdeal
    ∧ algebraic_ConvKernelIdeal_ConvReferenceIdeal (hConvKernelIdeal := hConvKernelIdeal) (hConvReferenceIdeal := hConvReferenceIdeal)
    ∧ preserves_LossKernel_LossKernelIdeal
    ∧ algebraic_LossKernelIdeal_LossReferenceIdeal_pre_loss_finite (hLossKernelIdeal := hLossKernelIdeal) (hLossReferenceIdeal := hLossReferenceIdeal) (hPre_loss_finite := hPre_loss_finite)
    ∧ preserves_UnropeKernel_UnropeKernelIdeal
    ∧ algebraic_UnropeKernelIdeal_UnropeReferenceIdeal (hUnropeKernelIdeal := hUnropeKernelIdeal) (hUnropeReferenceIdeal := hUnropeReferenceIdeal)
    ∧ preserves_GateUpKernel_GateUpKernelIdeal
    ∧ algebraic_GateUpKernelIdeal_GateUpReferenceIdeal_pre_dgu_finite (hGateUpKernelIdeal := hGateUpKernelIdeal) (hGateUpReferenceIdeal := hGateUpReferenceIdeal) (hPre_dgu_finite := hPre_dgu_finite)
    ∧ preserves_ConvDxKernel_ConvDxKernelIdeal
    ∧ algebraic_ConvDxKernelIdeal_ConvDxReferenceIdeal_pre_convdx_finite (hConvDxKernelIdeal := hConvDxKernelIdeal) (hConvDxReferenceIdeal := hConvDxReferenceIdeal) (hPre_convdx_finite := hPre_convdx_finite)
    ∧ preserves_EvenDxKernel_EvenDxKernelIdeal
    ∧ algebraic_EvenDxKernelIdeal_EvenDxReferenceIdeal_pre_evendx_finite (hEvenDxKernelIdeal := hEvenDxKernelIdeal) (hEvenDxReferenceIdeal := hEvenDxReferenceIdeal) (hPre_evendx_finite := hPre_evendx_finite)
    ∧ preserves_FfnDxKernel_FfnDxKernelIdeal
    ∧ algebraic_FfnDxKernelIdeal_FfnDxReferenceIdeal_pre_ffndx_finite (hFfnDxKernelIdeal := hFfnDxKernelIdeal) (hFfnDxReferenceIdeal := hFfnDxReferenceIdeal) (hPre_ffndx_finite := hPre_ffndx_finite)
    ∧ preserves_AttnKernel_AttnKernelIdeal
    ∧ algebraic_AttnKernelIdeal_AttnReferenceIdeal_pre_attn_finite (hAttnKernelIdeal := hAttnKernelIdeal) (hAttnReferenceIdeal := hAttnReferenceIdeal) (hPre_attn_finite := hPre_attn_finite)
    ∧ preserves_SguKernel_SguKernelIdeal
    ∧ algebraic_SguKernelIdeal_SguReferenceIdeal (hSguKernelIdeal := hSguKernelIdeal) (hSguReferenceIdeal := hSguReferenceIdeal)
    ∧ preserves_PrepKernel_PrepKernelIdeal
    ∧ algebraic_PrepKernelIdeal_PrepReferenceIdeal_pre_prep_finite (hPrepKernelIdeal := hPrepKernelIdeal) (hPrepReferenceIdeal := hPrepReferenceIdeal) (hPre_prep_finite := hPre_prep_finite)
-- ==== Pre_attn_finite.lean ====
abbrev S16384x8x64 : Shape := ⟨3, ![16384, 8, 64]⟩
abbrev S16384x8x32 : Shape := ⟨3, ![16384, 8, 32]⟩
abbrev S16384x32 : Shape := ⟨2, ![16384, 32]⟩
abbrev S16384x512 : Shape := ⟨2, ![16384, 512]⟩
abbrev S_ : Shape := ⟨0, ![]⟩

class Facts : Prop where
  bcast_S_S16384x8x64 : S_.BroadcastsInDim S16384x8x64 (![] : Fin 0 → Fin S16384x8x64.rank)
  bcast_S_S16384x8x32 : S_.BroadcastsInDim S16384x8x32 (![] : Fin 0 → Fin S16384x8x32.rank)
  bcast_S_S16384x32 : S_.BroadcastsInDim S16384x32 (![] : Fin 0 → Fin S16384x32.rank)
  bcast_S_S16384x512 : S_.BroadcastsInDim S16384x512 (![] : Fin 0 → Fin S16384x512.rank)

variable [Facts]

def fn {F : FTy → Type} [FloatOps F] (main_arg0 : FVec F S16384x8x64 .f32) (main_arg1 : FVec F S16384x8x32 .f32) (main_arg2 : FVec F S16384x8x64 .f32) (main_arg3 : FVec F S16384x32 .f32) (main_arg4 : FVec F S16384x8x64 .f32) (main_arg5 : FVec F S16384x512 .f32) : IVec S16384x8x64 1 × IVec S16384x8x32 1 × IVec S16384x8x64 1 × IVec S16384x32 1 × IVec S16384x8x64 1 × IVec S16384x512 1 :=
  let main_v0 : FVec F S16384x8x64 .f32 := Host.absf main_arg0
  let main_cst : FVec F S_ .f32 := constant S_ .f32 0x7F800000#32
  let main_v1 : FVec F S16384x8x64 .f32 := broadcastInDim S16384x8x64 ![] bcast_S_S16384x8x64 main_cst
  let main_v2 : IVec S16384x8x64 1 := cmpf .olt main_v0 main_v1
  let main_v3 : FVec F S16384x8x32 .f32 := Host.absf main_arg1
  let main_cst_0 : FVec F S_ .f32 := constant S_ .f32 0x7F800000#32
  let main_v4 : FVec F S16384x8x32 .f32 := broadcastInDim S16384x8x32 ![] bcast_S_S16384x8x32 main_cst_0
  let main_v5 : IVec S16384x8x32 1 := cmpf .olt main_v3 main_v4
  let main_v6 : FVec F S16384x8x64 .f32 := Host.absf main_arg2
  let main_cst_1 : FVec F S_ .f32 := constant S_ .f32 0x7F800000#32
  let main_v7 : FVec F S16384x8x64 .f32 := broadcastInDim S16384x8x64 ![] bcast_S_S16384x8x64 main_cst_1
  let main_v8 : IVec S16384x8x64 1 := cmpf .olt main_v6 main_v7
  let main_v9 : FVec F S16384x32 .f32 := Host.absf main_arg3
  let main_cst_2 : FVec F S_ .f32 := constant S_ .f32 0x7F800000#32
  let main_v10 : FVec F S16384x32 .f32 := broadcastInDim S16384x32 ![] bcast_S_S16384x32 main_cst_2
  let main_v11 : IVec S16384x32 1 := cmpf .olt main_v9 main_v10
  let main_v12 : FVec F S16384x8x64 .f32 := Host.absf main_arg4
  let main_cst_3 : FVec F S_ .f32 := constant S_ .f32 0x7F800000#32
  let main_v13 : FVec F S16384x8x64 .f32 := broadcastInDim S16384x8x64 ![] bcast_S_S16384x8x64 main_cst_3
  let main_v14 : IVec S16384x8x64 1 := cmpf .olt main_v12 main_v13
  let main_v15 : FVec F S16384x512 .f32 := Host.absf main_arg5
  let main_cst_4 : FVec F S_ .f32 := constant S_ .f32 0x7F800000#32
  let main_v16 : FVec F S16384x512 .f32 := broadcastInDim S16384x512 ![] bcast_S_S16384x512 main_cst_4
  let main_v17 : IVec S16384x512 1 := cmpf .olt main_v15 main_v16
  (main_v2, main_v5, main_v8, main_v11, main_v14, main_v17)
-- ==== Pre_convdx_finite.lean ====
abbrev S16384x1024 : Shape := ⟨2, ![16384, 1024]⟩
abbrev S1024 : Shape := ⟨1, ![1024]⟩
abbrev S1024x3072 : Shape := ⟨2, ![1024, 3072]⟩
abbrev S16384x3072 : Shape := ⟨2, ![16384, 3072]⟩
abbrev S_ : Shape := ⟨0, ![]⟩

class Facts : Prop where
  bcast_S_S16384x1024 : S_.BroadcastsInDim S16384x1024 (![] : Fin 0 → Fin S16384x1024.rank)
  bcast_S_S1024 : S_.BroadcastsInDim S1024 (![] : Fin 0 → Fin S1024.rank)
  bcast_S_S1024x3072 : S_.BroadcastsInDim S1024x3072 (![] : Fin 0 → Fin S1024x3072.rank)
  bcast_S_S16384x3072 : S_.BroadcastsInDim S16384x3072 (![] : Fin 0 → Fin S16384x3072.rank)

variable [Facts]

def fn {F : FTy → Type} [FloatOps F] (main_arg0 : FVec F S16384x1024 .f32) (main_arg1 : FVec F S1024 .f32) (main_arg2 : FVec F S1024x3072 .f32) (main_arg3 : FVec F S16384x1024 .f32) (main_arg4 : FVec F S16384x3072 .f32) : IVec S16384x1024 1 × IVec S1024 1 × IVec S1024x3072 1 × IVec S16384x1024 1 × IVec S16384x3072 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x3072 .f32 := Host.absf main_arg2
  let main_cst_1 : FVec F S_ .f32 := constant S_ .f32 0x7F800000#32
  let main_v7 : FVec F S1024x3072 .f32 := broadcastInDim S1024x3072 ![] bcast_S_S1024x3072 main_cst_1
  let main_v8 : IVec S1024x3072 1 := cmpf .olt main_v6 main_v7
  let main_v9 : FVec F S16384x1024 .f32 := Host.absf main_arg3
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_v12 : FVec F S16384x3072 .f32 := Host.absf main_arg4
  let main_cst_3 : FVec F S_ .f32 := constant S_ .f32 0x7F800000#32
  let main_v13 : FVec F S16384x3072 .f32 := broadcastInDim S16384x3072 ![] bcast_S_S16384x3072 main_cst_3
  let main_v14 : IVec S16384x3072 1 := cmpf .olt main_v12 main_v13
  (main_v2, main_v5, main_v8, main_v11, main_v14)
-- ==== Pre_dgu_finite.lean ====
abbrev S16384x1024 : Shape := ⟨2, ![16384, 1024]⟩
abbrev S1024x2816 : Shape := ⟨2, ![1024, 2816]⟩
abbrev S2816x1024 : Shape := ⟨2, ![2816, 1024]⟩
abbrev S_ : Shape := ⟨0, ![]⟩

class Facts : Prop where
  bcast_S_S16384x1024 : S_.BroadcastsInDim S16384x1024 (![] : Fin 0 → Fin S16384x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn {F : FTy → Type} [FloatOps F] (main_arg0 : FVec F S16384x1024 .f32) (main_arg1 : FVec F S1024x2816 .f32) (main_arg2 : FVec F S1024x2816 .f32) (main_arg3 : FVec F S2816x1024 .f32) (main_arg4 : FVec F S16384x1024 .f32) : IVec S16384x1024 1 × IVec S1024x2816 1 × IVec S1024x2816 1 × IVec S2816x1024 1 × IVec S16384x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S1024x2816 .f32 := Host.absf main_arg1
  let main_cst_0 : FVec F S_ .f32 := constant S_ .f32 0x7F800000#32
  let main_v4 : FVec F S1024x2816 .f32 := broadcastInDim S1024x2816 ![] bcast_S_S1024x2816 main_cst_0
  let main_v5 : IVec S1024x2816 1 := cmpf .olt main_v3 main_v4
  let main_v6 : FVec F S1024x2816 .f32 := Host.absf main_arg2
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S2816x1024 .f32 := Host.absf main_arg3
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_v12 : FVec F S16384x1024 .f32 := Host.absf main_arg4
  let main_cst_3 : FVec F S_ .f32 := constant S_ .f32 0x7F800000#32
  let main_v13 : FVec F S16384x1024 .f32 := broadcastInDim S16384x1024 ![] bcast_S_S16384x1024 main_cst_3
  let main_v14 : IVec S16384x1024 1 := cmpf .olt main_v12 main_v13
  (main_v2, main_v5, main_v8, main_v11, main_v14)
-- ==== Pre_evendx_finite.lean ====
abbrev S16384x1024 : Shape := ⟨2, ![16384, 1024]⟩
abbrev S1024 : Shape := ⟨1, ![1024]⟩
abbrev S1024x1696 : Shape := ⟨2, ![1024, 1696]⟩
abbrev S16384x1696 : Shape := ⟨2, ![16384, 1696]⟩
abbrev S_ : Shape := ⟨0, ![]⟩

class Facts : Prop where
  bcast_S_S16384x1024 : S_.BroadcastsInDim S16384x1024 (![] : Fin 0 → Fin S16384x1024.rank)
  bcast_S_S1024 : S_.BroadcastsInDim S1024 (![] : Fin 0 → Fin S1024.rank)
  bcast_S_S1024x1696 : S_.BroadcastsInDim S1024x1696 (![] : Fin 0 → Fin S1024x1696.rank)
  bcast_S_S16384x1696 : S_.BroadcastsInDim S16384x1696 (![] : Fin 0 → Fin S16384x1696.rank)

variable [Facts]

def fn {F : FTy → Type} [FloatOps F] (main_arg0 : FVec F S16384x1024 .f32) (main_arg1 : FVec F S1024 .f32) (main_arg2 : FVec F S1024x1696 .f32) (main_arg3 : FVec F S16384x1024 .f32) (main_arg4 : FVec F S16384x1696 .f32) : IVec S16384x1024 1 × IVec S1024 1 × IVec S1024x1696 1 × IVec S16384x1024 1 × IVec S16384x1696 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x1696 .f32 := Host.absf main_arg2
  let main_cst_1 : FVec F S_ .f32 := constant S_ .f32 0x7F800000#32
  let main_v7 : FVec F S1024x1696 .f32 := broadcastInDim S1024x1696 ![] bcast_S_S1024x1696 main_cst_1
  let main_v8 : IVec S1024x1696 1 := cmpf .olt main_v6 main_v7
  let main_v9 : FVec F S16384x1024 .f32 := Host.absf main_arg3
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_v12 : FVec F S16384x1696 .f32 := Host.absf main_arg4
  let main_cst_3 : FVec F S_ .f32 := constant S_ .f32 0x7F800000#32
  let main_v13 : FVec F S16384x1696 .f32 := broadcastInDim S16384x1696 ![] bcast_S_S16384x1696 main_cst_3
  let main_v14 : IVec S16384x1696 1 := cmpf .olt main_v12 main_v13
  (main_v2, main_v5, main_v8, main_v11, main_v14)
-- ==== Pre_ffndx_finite.lean ====
abbrev S16384x1024 : Shape := ⟨2, ![16384, 1024]⟩
abbrev S1024 : Shape := ⟨1, ![1024]⟩
abbrev S1024x2816 : Shape := ⟨2, ![1024, 2816]⟩
abbrev S16384x2816 : Shape := ⟨2, ![16384, 2816]⟩
abbrev S_ : Shape := ⟨0, ![]⟩

class Facts : Prop where
  bcast_S_S16384x1024 : S_.BroadcastsInDim S16384x1024 (![] : Fin 0 → Fin S16384x1024.rank)
  bcast_S_S1024 : S_.BroadcastsInDim S1024 (![] : Fin 0 → Fin S1024.rank)
  bcast_S_S1024x2816 : S_.BroadcastsInDim S1024x2816 (![] : Fin 0 → Fin S1024x2816.rank)
  bcast_S_S16384x2816 : S_.BroadcastsInDim S16384x2816 (![] : Fin 0 → Fin S16384x2816.rank)

variable [Facts]

def fn_part1 {F : FTy → Type} [FloatOps F] (main_arg6 : FVec F S16384x2816 .f32) (main_v2 : IVec S16384x1024 1) (main_v5 : IVec S1024 1) (main_v8 : IVec S1024x2816 1) (main_v11 : IVec S1024x2816 1) (main_v14 : IVec S16384x1024 1) (main_v17 : IVec S16384x2816 1) : IVec S16384x1024 1 × IVec S1024 1 × IVec S1024x2816 1 × IVec S1024x2816 1 × IVec S16384x1024 1 × IVec S16384x2816 1 × IVec S16384x2816 1 :=
  let main_v18 : FVec F S16384x2816 .f32 := Host.absf main_arg6
  let main_cst_5 : FVec F S_ .f32 := constant S_ .f32 0x7F800000#32
  let main_v19 : FVec F S16384x2816 .f32 := broadcastInDim S16384x2816 ![] bcast_S_S16384x2816 main_cst_5
  let main_v20 : IVec S16384x2816 1 := cmpf .olt main_v18 main_v19
  (main_v2, main_v5, main_v8, main_v11, main_v14, main_v17, main_v20)

def fn {F : FTy → Type} [FloatOps F] (main_arg0 : FVec F S16384x1024 .f32) (main_arg1 : FVec F S1024 .f32) (main_arg2 : FVec F S1024x2816 .f32) (main_arg3 : FVec F S1024x2816 .f32) (main_arg4 : FVec F S16384x1024 .f32) (main_arg5 : FVec F S16384x2816 .f32) (main_arg6 : FVec F S16384x2816 .f32) : IVec S16384x1024 1 × IVec S1024 1 × IVec S1024x2816 1 × IVec S1024x2816 1 × IVec S16384x1024 1 × IVec S16384x2816 1 × IVec S16384x2816 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x2816 .f32 := Host.absf main_arg2
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S16384x1024 .f32 := Host.absf main_arg4
  let main_cst_3 : FVec F S_ .f32 := constant S_ .f32 0x7F800000#32
  let main_v13 : FVec F S16384x1024 .f32 := broadcastInDim S16384x1024 ![] bcast_S_S16384x1024 main_cst_3
  let main_v14 : IVec S16384x1024 1 := cmpf .olt main_v12 main_v13
  let main_v15 : FVec F S16384x2816 .f32 := Host.absf main_arg5
  let main_cst_4 : FVec F S_ .f32 := constant S_ .f32 0x7F800000#32
  let main_v16 : FVec F S16384x2816 .f32 := broadcastInDim S16384x2816 ![] bcast_S_S16384x2816 main_cst_4
  let main_v17 : IVec S16384x2816 1 := cmpf .olt main_v15 main_v16
  fn_part1 (F := F) main_arg6 main_v2 main_v5 main_v8 main_v11 main_v14 main_v17
-- ==== Pre_loss_finite.lean ====
abbrev S16384x1024 : Shape := ⟨2, ![16384, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  bcast_S_S1024 : S_.BroadcastsInDim S1024 (![] : Fin 0 → Fin S1024.rank)

variable [Facts]

def fn {F : FTy → Type} [FloatOps F] (main_arg0 : FVec F S16384x1024 .f32) (main_arg1 : FVec F S1024 .f32) (main_arg2 : FVec F S16384x1024 .f32) : IVec S16384x1024 1 × IVec S1024 1 × IVec S16384x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S16384x1024 .f32 := Host.absf main_arg2
  let main_cst_1 : FVec F S_ .f32 := constant S_ .f32 0x7F800000#32
  let main_v7 : FVec F S16384x1024 .f32 := broadcastInDim S16384x1024 ![] bcast_S_S16384x1024 main_cst_1
  let main_v8 : IVec S16384x1024 1 := cmpf .olt main_v6 main_v7
  (main_v2, main_v5, main_v8)
-- ==== Pre_prep_finite.lean ====
abbrev S16384x1696 : Shape := ⟨2, ![16384, 1696]⟩
abbrev S16384 : Shape := ⟨1, ![16384]⟩
abbrev S384 : Shape := ⟨1, ![384]⟩
abbrev S256 : Shape := ⟨1, ![256]⟩
abbrev S512 : Shape := ⟨1, ![512]⟩
abbrev S16384x384 : Shape := ⟨2, ![16384, 384]⟩
abbrev S16384x256 : Shape := ⟨2, ![16384, 256]⟩
abbrev S16384x8x96 : Shape := ⟨3, ![16384, 8, 96]⟩
abbrev S16384x512 : Shape := ⟨2, ![16384, 512]⟩
abbrev S_ : Shape := ⟨0, ![]⟩

class Facts : Prop where
  bcast_S_S16384x1696 : S_.BroadcastsInDim S16384x1696 (![] : Fin 0 → Fin S16384x1696.rank)
  bcast_S_S384 : S_.BroadcastsInDim S384 (![] : Fin 0 → Fin S384.rank)
  bcast_S_S256 : S_.BroadcastsInDim S256 (![] : Fin 0 → Fin S256.rank)
  bcast_S_S512 : S_.BroadcastsInDim S512 (![] : Fin 0 → Fin S512.rank)
  bcast_S_S16384x384 : S_.BroadcastsInDim S16384x384 (![] : Fin 0 → Fin S16384x384.rank)
  bcast_S_S16384x256 : S_.BroadcastsInDim S16384x256 (![] : Fin 0 → Fin S16384x256.rank)
  bcast_S_S16384x512 : S_.BroadcastsInDim S16384x512 (![] : Fin 0 → Fin S16384x512.rank)

variable [Facts]

def fn_part1 {F : FTy → Type} [FloatOps F] (main_arg8 : FVec F S16384x512 .f32) (main_arg9 : FVec F S16384x512 .f32) (main_v2 : IVec S16384x1696 1) (main_v5 : IVec S384 1) (main_v8 : IVec S256 1) (main_v11 : IVec S512 1) (main_v14 : IVec S16384x384 1) (main_v17 : IVec S16384x256 1) : IVec S16384x1696 1 × IVec S384 1 × IVec S256 1 × IVec S512 1 × IVec S16384x384 1 × IVec S16384x256 1 × IVec S16384x512 1 × IVec S16384x512 1 :=
  let main_v18 : FVec F S16384x512 .f32 := Host.absf main_arg8
  let main_cst_5 : FVec F S_ .f32 := constant S_ .f32 0x7F800000#32
  let main_v19 : FVec F S16384x512 .f32 := broadcastInDim S16384x512 ![] bcast_S_S16384x512 main_cst_5
  let main_v20 : IVec S16384x512 1 := cmpf .olt main_v18 main_v19
  let main_v21 : FVec F S16384x512 .f32 := Host.absf main_arg9
  let main_cst_6 : FVec F S_ .f32 := constant S_ .f32 0x7F800000#32
  let main_v22 : FVec F S16384x512 .f32 := broadcastInDim S16384x512 ![] bcast_S_S16384x512 main_cst_6
  let main_v23 : IVec S16384x512 1 := cmpf .olt main_v21 main_v22
  (main_v2, main_v5, main_v8, main_v11, main_v14, main_v17, main_v20, main_v23)

def fn {F : FTy → Type} [FloatOps F] (main_arg0 : FVec F S16384x1696 .f32) (main_arg1 : IVec S16384 32) (main_arg2 : FVec F S384 .f32) (main_arg3 : FVec F S256 .f32) (main_arg4 : FVec F S512 .f32) (main_arg5 : FVec F S16384x384 .f32) (main_arg6 : FVec F S16384x256 .f32) (main_arg7 : FVec F S16384x8x96 .f32) (main_arg8 : FVec F S16384x512 .f32) (main_arg9 : FVec F S16384x512 .f32) : IVec S16384x1696 1 × IVec S384 1 × IVec S256 1 × IVec S512 1 × IVec S16384x384 1 × IVec S16384x256 1 × IVec S16384x512 1 × IVec S16384x512 1 :=
  let main_v0 : FVec F S16384x1696 .f32 := Host.absf main_arg0
  let main_cst : FVec F S_ .f32 := constant S_ .f32 0x7F800000#32
  let main_v1 : FVec F S16384x1696 .f32 := broadcastInDim S16384x1696 ![] bcast_S_S16384x1696 main_cst
  let main_v2 : IVec S16384x1696 1 := cmpf .olt main_v0 main_v1
  let main_v3 : FVec F S384 .f32 := Host.absf main_arg2
  let main_cst_0 : FVec F S_ .f32 := constant S_ .f32 0x7F800000#32
  let main_v4 : FVec F S384 .f32 := broadcastInDim S384 ![] bcast_S_S384 main_cst_0
  let main_v5 : IVec S384 1 := cmpf .olt main_v3 main_v4
  let main_v6 : FVec F S256 .f32 := Host.absf main_arg3
  let main_cst_1 : FVec F S_ .f32 := constant S_ .f32 0x7F800000#32
  let main_v7 : FVec F S256 .f32 := broadcastInDim S256 ![] bcast_S_S256 main_cst_1
  let main_v8 : IVec S256 1 := cmpf .olt main_v6 main_v7
  let main_v9 : FVec F S512 .f32 := Host.absf main_arg4
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_v12 : FVec F S16384x384 .f32 := Host.absf main_arg5
  let main_cst_3 : FVec F S_ .f32 := constant S_ .f32 0x7F800000#32
  let main_v13 : FVec F S16384x384 .f32 := broadcastInDim S16384x384 ![] bcast_S_S16384x384 main_cst_3
  let main_v14 : IVec S16384x384 1 := cmpf .olt main_v12 main_v13
  let main_v15 : FVec F S16384x256 .f32 := Host.absf main_arg6
  let main_cst_4 : FVec F S_ .f32 := constant S_ .f32 0x7F800000#32
  let main_v16 : FVec F S16384x256 .f32 := broadcastInDim S16384x256 ![] bcast_S_S16384x256 main_cst_4
  let main_v17 : IVec S16384x256 1 := cmpf .olt main_v15 main_v16
  fn_part1 (F := F) main_arg8 main_arg9 main_v2 main_v5 main_v8 main_v11 main_v14 main_v17
-- ==== ConvKernel.lean ====
abbrev S16384x3072 : Shape := ⟨2, ![16384, 3072]⟩
abbrev S3x1024 : Shape := ⟨2, ![3, 1024]⟩
abbrev S16384x1024 : Shape := ⟨2, ![16384, 1024]⟩
abbrev S256x3072 : Shape := ⟨2, ![256, 3072]⟩
abbrev S8x1024 : Shape := ⟨2, ![8, 1024]⟩
abbrev S256x1024 : Shape := ⟨2, ![256, 1024]⟩
abbrev S1x1024 : Shape := ⟨2, ![1, 1024]⟩
abbrev S1024 : Shape := ⟨1, ![1024]⟩

abbrev nBuf : Space → Nat
  | .hbm => 5
  | .vmem => 16
  | .smem => 0
  | _ => 0

abbrev bufTy : (tb : Table) → Fin (tcTables nBuf tb) → BufTy
  | .hbm, ⟨0, _⟩ => ⟨S16384x3072, .f32⟩
  | .hbm, ⟨1, _⟩ => ⟨S3x1024, .f32⟩
  | .hbm, ⟨2, _⟩ => ⟨S16384x1024, .f32⟩
  | .hbm, ⟨3, _⟩ => ⟨S16384x3072, .bf16⟩
  | .hbm, ⟨4, _⟩ => ⟨S3x1024, .f32⟩
  | .local _ .vmem, ⟨0, _⟩ => ⟨S256x3072, .f32⟩
  | .local _ .vmem, ⟨1, _⟩ => ⟨S256x3072, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S256x1024, .f32⟩
  | .local _ .vmem, ⟨9, _⟩ => ⟨S256x1024, .f32⟩
  | .local _ .vmem, ⟨10, _⟩ => ⟨S8x1024, .f32⟩
  | .local _ .vmem, ⟨11, _⟩ => ⟨S8x1024, .f32⟩
  | .local _ .vmem, ⟨12, _⟩ => ⟨S3x1024, .f32⟩
  | .local _ .vmem, ⟨13, _⟩ => ⟨S256x3072, .bf16⟩
  | .local _ .vmem, ⟨14, _⟩ => ⟨S256x3072, .bf16⟩
  | .local _ .vmem, ⟨15, _⟩ => ⟨S3x1024, .f32⟩
  | _, _ => ⟨S16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32_33 : BitVec 32 := 0#32
  let v100 : BitVec 1 := Scalar.cmpi .eq arg0 c0_i32_33
  let v101 : BitVec 32 := Scalar.extui v100
  let c0_i32_34 : BitVec 32 := 0#32
  let v102 : BitVec 1 := Scalar.cmpi .ne v101 c0_i32_34
  v102

def k0_cond2 (i : grid0.Coords) : BitVec 1 :=
  let arg0 : BitVec 32 := BitVec.ofNat 32 (i 0).val
  let c0_i32_35 : BitVec 32 := 0#32
  let v103 : BitVec 1 := Scalar.cmpi .ne arg0 c0_i32_35
  let v104 : BitVec 32 := Scalar.extui v103
  let c0_i32_36 : BitVec 32 := 0#32
  let v105 : BitVec 1 := Scalar.cmpi .ne v104 c0_i32_36
  v105

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_2 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S3x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ConvReferenceIdeal.lean ====
abbrev S16384x3072 : Shape := ⟨2, ![16384, 3072]⟩
abbrev S3x1024 : Shape := ⟨2, ![3, 1024]⟩
abbrev S16384x1024 : Shape := ⟨2, ![16384, 1024]⟩
abbrev S1x1024 : Shape := ⟨2, ![1, 1024]⟩
abbrev S_ : Shape := ⟨0, ![]⟩
abbrev S2x1024 : Shape := ⟨2, ![2, 1024]⟩
abbrev S16382x1024 : Shape := ⟨2, ![16382, 1024]⟩
abbrev S16383x1024 : Shape := ⟨2, ![16383, 1024]⟩
abbrev S1024 : Shape := ⟨1, ![1024]⟩

abbrev nBuf : Space → Nat
  | .hbm => 73
  | .vmem => 0
  | .smem => 0
  | _ => 0

abbrev bufTy : (tb : Table) → Fin (tcTables nBuf tb) → BufTy
  | .hbm, ⟨0, _⟩ => ⟨S16384x3072, .f32⟩
  | .hbm, ⟨1, _⟩ => ⟨S3x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S1x1024, .f32⟩
  | .hbm, ⟨8, _⟩ => ⟨S_, .f32⟩
  | .hbm, ⟨9, _⟩ => ⟨S2x1024, .f32⟩
  | .hbm, ⟨10, _⟩ => ⟨S16382x1024, .f32⟩
  | .hbm, ⟨11, _⟩ => ⟨S16384x1024, .f32⟩
  | .hbm, ⟨12, _⟩ => ⟨S_, .f32⟩
  | .hbm, ⟨13, _⟩ => ⟨S2x1024, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S_, .f32⟩
  | .hbm, ⟨18, _⟩ => ⟨S1x1024, .f32⟩
  | .hbm, ⟨19, _⟩ => ⟨S16383x1024, .f32⟩
  | .hbm, ⟨20, _⟩ => ⟨S16384x1024, .f32⟩
  | .hbm, ⟨21, _⟩ => ⟨S_, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S_, .f32⟩
  | .hbm, ⟨40, _⟩ => ⟨S3x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S1x1024, .f32⟩
  | .hbm, ⟨48, _⟩ => ⟨S16383x1024, .f32⟩
  | .hbm, ⟨49, _⟩ => ⟨S_, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S3x1024, .f32⟩
  | .hbm, ⟨54, _⟩ => ⟨S3x1024, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S2x1024, .f32⟩
  | .hbm, ⟨62, _⟩ => ⟨S16382x1024, .f32⟩
  | .hbm, ⟨63, _⟩ => ⟨S_, .f32⟩
  | .hbm, ⟨64, _⟩ => ⟨S16384x1024, .f32⟩
  | .hbm, ⟨65, _⟩ => ⟨S16384x1024, .f32⟩
  | .hbm, ⟨66, _⟩ => ⟨S_, .f32⟩
  | .hbm, ⟨67, _⟩ => ⟨S3x1024, .f32⟩
  | .hbm, ⟨68, _⟩ => ⟨S3x1024, .f32⟩
  | .hbm, ⟨69, _⟩ => ⟨S16384x1024, .f32⟩
  | .hbm, ⟨70, _⟩ => ⟨S16384x1024, .f32⟩
  | .hbm, ⟨71, _⟩ => ⟨S16384x3072, .f32⟩
  | .hbm, ⟨72, _⟩ => ⟨S16384x3072, .bf16⟩
  | _, _ => ⟨S16384x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_v30 : Ref sig .tc := ⟨.hbm, 38, rfl⟩
abbrev main_cst_4 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_5 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_6 : Ref sig .tc := ⟨.hbm, 49, rfl⟩
abbrev main_v39 : Ref sig .tc := ⟨.hbm, 50, rfl⟩
abbrev main_v40 : Ref sig .tc := ⟨.hbm, 51, rfl⟩
abbrev main_cst_7 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_8 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_9 : Ref sig .tc := ⟨.hbm, 63, rfl⟩
abbrev main_v50 : Ref sig .tc := ⟨.hbm, 64, rfl⟩
abbrev main_v51 : Ref sig .tc := ⟨.hbm, 65, rfl⟩
abbrev main_cst_10 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩

abbrev nD : Nat := 1
abbrev τ : Topo := Topo.v7x

variable {F : FTy → Type} [FloatOps F]
-- ==== LossKernel.lean ====
abbrev S16384x1024 : Shape := ⟨2, ![16384, 1024]⟩
abbrev S1024 : Shape := ⟨1, ![1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 8
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S1x1024, .f32⟩
  | .hbm, ⟨4, _⟩ => ⟨S16384x1024, .f32⟩
  | .hbm, ⟨5, _⟩ => ⟨S16384x1024, .bf16⟩
  | .hbm, ⟨6, _⟩ => ⟨S1x1024, .f32⟩
  | .hbm, ⟨7, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S1x1024, .f32⟩
  | .local _ .vmem, ⟨10, _⟩ => ⟨S1x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v58 : BitVec 1 := Scalar.cmpi .eq arg0 c0_i32
  let v59 : BitVec 32 := Scalar.extui v58
  let c0_i32_22 : BitVec 32 := 0#32
  let v60 : BitVec 1 := Scalar.cmpi .ne v59 c0_i32_22
  v60

def k0_cond2 (i : grid0.Coords) : BitVec 1 :=
  let arg0 : BitVec 32 := BitVec.ofNat 32 (i 0).val
  let c0_i32_23 : BitVec 32 := 0#32
  let v61 : BitVec 1 := Scalar.cmpi .ne arg0 c0_i32_23
  let v62 : BitVec 32 := Scalar.extui v61
  let c0_i32_24 : BitVec 32 := 0#32
  let v63 : BitVec 1 := Scalar.cmpi .ne v62 c0_i32_24
  v63

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossReferenceIdeal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384, .f32⟩
  | .hbm, ⟨30, _⟩ => ⟨S_, .f32⟩
  | .hbm, ⟨31, _⟩ => ⟨S16384, .f32⟩
  | .hbm, ⟨32, _⟩ => ⟨S16384, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S16384, .f32⟩
  | .hbm, ⟨41, _⟩ => ⟨S_, .f32⟩
  | .hbm, ⟨42, _⟩ => ⟨S16384, .f32⟩
  | .hbm, ⟨43, _⟩ => ⟨S16384, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S1024, .f32⟩
  | .hbm, ⟨54, _⟩ => ⟨S16384x1024, .f32⟩
  | .hbm, ⟨55, _⟩ => ⟨S_, .f32⟩
  | .hbm, ⟨56, _⟩ => ⟨S16384, .f32⟩
  | .hbm, ⟨57, _⟩ => ⟨S16384x1, .f32⟩
  | .hbm, ⟨58, _⟩ => ⟨S16384x1024, .f32⟩
  | .hbm, ⟨59, _⟩ => ⟨S16384x1024, .f32⟩
  | .hbm, ⟨60, _⟩ => ⟨S16384x1, .f32⟩
  | .hbm, ⟨61, _⟩ => ⟨S_, .f32⟩
  | .hbm, ⟨62, _⟩ => ⟨S16384x1, .f32⟩
  | .hbm, ⟨63, _⟩ => ⟨S16384x1, .f32⟩
  | .hbm, ⟨64, _⟩ => ⟨S_, .f32⟩
  | .hbm, ⟨65, _⟩ => ⟨S16384, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S16384x1024, .f32⟩
  | .hbm, ⟨71, _⟩ => ⟨S1x128, .f32⟩
  | .hbm, ⟨72, _⟩ => ⟨S16384x1024, .bf16⟩
  | .hbm, ⟨73, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== UnropeKernel.lean ====
abbrev S16384 : Shape := ⟨1, ![16384]⟩
abbrev S16384x8x96 : Shape := ⟨3, ![16384, 8, 96]⟩
abbrev S16 : Shape := ⟨1, ![16]⟩
abbrev S_ : Shape := ⟨0, ![]⟩
abbrev S64 : Shape := ⟨1, ![64]⟩
abbrev S32 : Shape := ⟨1, ![32]⟩
abbrev S128 : Shape := ⟨1, ![128]⟩
abbrev S1x128 : Shape := ⟨2, ![1, 128]⟩
abbrev S48 : Shape := ⟨1, ![48]⟩
abbrev S80 : Shape := ⟨1, ![80]⟩
abbrev S16384x1 : Shape := ⟨2, ![16384, 1]⟩
abbrev S16384x128 : Shape := ⟨2, ![16384, 128]⟩
abbrev S512x1 : Shape := ⟨2, ![512, 1]⟩
abbrev S512x128 : Shape := ⟨2, ![512, 128]⟩
abbrev S16384x8x128 : Shape := ⟨3, ![16384, 8, 128]⟩
abbrev S16384x1024 : Shape := ⟨2, ![16384, 1024]⟩
abbrev S256x1024 : Shape := ⟨2, ![256, 1024]⟩
abbrev S256x128 : Shape := ⟨2, ![256, 128]⟩
abbrev S16384x768 : Shape := ⟨2, ![16384, 768]⟩

abbrev nBuf : Space → Nat
  | .hbm => 49
  | .vmem => 21
  | .smem => 0
  | _ => 0

abbrev bufTy : (tb : Table) → Fin (tcTables nBuf tb) → BufTy
  | .hbm, ⟨0, _⟩ => ⟨S16384, .i32⟩
  | .hbm, ⟨1, _⟩ => ⟨S16384x8x96, .f32⟩
  | .hbm, ⟨2, _⟩ => ⟨S16, .f32⟩
  | .hbm, ⟨3, _⟩ => ⟨S_, .f32⟩
  | .hbm, ⟨4, _⟩ => ⟨S16, .f32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S_, .f32⟩
  | .hbm, ⟨19, _⟩ => ⟨S64, .f32⟩
  | .hbm, ⟨20, _⟩ => ⟨S_, .f32⟩
  | .hbm, ⟨21, _⟩ => ⟨S32, .f32⟩
  | .hbm, ⟨22, _⟩ => ⟨S128, .f32⟩
  | .hbm, ⟨23, _⟩ => ⟨S1x128, .f32⟩
  | .hbm, ⟨24, _⟩ => ⟨S_, .f32⟩
  | .hbm, ⟨25, _⟩ => ⟨S64, .f32⟩
  | .hbm, ⟨26, _⟩ => ⟨S16, .f32⟩
  | .hbm, ⟨27, _⟩ => ⟨S_, .f32⟩
  | .hbm, ⟨28, _⟩ => ⟨S48, .f32⟩
  | .hbm, ⟨29, _⟩ => ⟨S128, .f32⟩
  | .hbm, ⟨30, _⟩ => ⟨S1x128, .f32⟩
  | .hbm, ⟨31, _⟩ => ⟨S_, .f32⟩
  | .hbm, ⟨32, _⟩ => ⟨S80, .f32⟩
  | .hbm, ⟨33, _⟩ => ⟨S_, .f32⟩
  | .hbm, ⟨34, _⟩ => ⟨S32, .f32⟩
  | .hbm, ⟨35, _⟩ => ⟨S128, .f32⟩
  | .hbm, ⟨36, _⟩ => ⟨S1x128, .f32⟩
  | .hbm, ⟨37, _⟩ => ⟨S16384x1, .i32⟩
  | .hbm, ⟨38, _⟩ => ⟨S16384x128, .f32⟩
  | .hbm, ⟨39, _⟩ => ⟨S16384x128, .f32⟩
  | .hbm, ⟨40, _⟩ => ⟨S16384x128, .f32⟩
  | .hbm, ⟨41, _⟩ => ⟨S_, .i32⟩
  | .hbm, ⟨42, _⟩ => ⟨S_, .f32⟩
  | .hbm, ⟨43, _⟩ => ⟨S16384x8x128, .f32⟩
  | .hbm, ⟨44, _⟩ => ⟨S16384x1024, .f32⟩
  | .hbm, ⟨45, _⟩ => ⟨S16384x1024, .bf16⟩
  | .hbm, ⟨46, _⟩ => ⟨S16384x8x128, .bf16⟩
  | .hbm, ⟨47, _⟩ => ⟨S16384x8x96, .bf16⟩
  | .hbm, ⟨48, _⟩ => ⟨S16384x768, .bf16⟩
  | .local _ .vmem, ⟨0, _⟩ => ⟨S512x1, .i32⟩
  | .local _ .vmem, ⟨1, _⟩ => ⟨S512x1, .i32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S256x1024, .f32⟩
  | .local _ .vmem, ⟨12, _⟩ => ⟨S256x1024, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x1024, .bf16⟩
  | .local _ .vmem, ⟨20, _⟩ => ⟨S256x1024, .bf16⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_cst_4 : Ref sig .tc := ⟨.hbm, 18, rfl⟩
abbrev main_v11 : Ref sig .tc := ⟨.hbm, 19, rfl⟩
abbrev main_cst_5 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_6 : Ref sig .tc := ⟨.hbm, 24, rfl⟩
abbrev main_v15 : Ref sig .tc := ⟨.hbm, 25, rfl⟩
abbrev main_v16 : Ref sig .tc := ⟨.hbm, 26, rfl⟩
abbrev main_cst_7 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_8 : Ref sig .tc := ⟨.hbm, 31, rfl⟩
abbrev main_v20 : Ref sig .tc := ⟨.hbm, 32, rfl⟩
abbrev main_cst_9 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25_0 : Ref sig .tc := ⟨.hbm, 38, rfl⟩
abbrev main_v25_1 : Ref sig .tc := ⟨.hbm, 39, rfl⟩
abbrev main_v25_2 : Ref sig .tc := ⟨.hbm, 40, rfl⟩
abbrev main_c : Ref sig .tc := ⟨.hbm, 41, rfl⟩
abbrev main_call0_v0 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== UnropeReferenceIdeal.lean ====
abbrev S16384 : Shape := ⟨1, ![16384]⟩
abbrev S16384x8x96 : Shape := ⟨3, ![16384, 8, 96]⟩
abbrev S_ : Shape := ⟨0, ![]⟩
abbrev S16384x768 : Shape := ⟨2, ![16384, 768]⟩
abbrev S16 : Shape := ⟨1, ![16]⟩
abbrev S16384x1 : Shape := ⟨2, ![16384, 1]⟩
abbrev S1x16 : Shape := ⟨2, ![1, 16]⟩
abbrev S16384x16 : Shape := ⟨2, ![16384, 16]⟩
abbrev S16384x8x32 : Shape := ⟨3, ![16384, 8, 32]⟩
abbrev S16384x1x16 : Shape := ⟨3, ![16384, 1, 16]⟩
abbrev S16384x8x16 : Shape := ⟨3, ![16384, 8, 16]⟩
abbrev S16384x8x64 : Shape := ⟨3, ![16384, 8, 64]⟩

abbrev nBuf : Space → Nat
  | .hbm => 74
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384x8x96, .f32⟩
  | .hbm, ⟨2, _⟩ => ⟨S_, .f32⟩
  | .hbm, ⟨3, _⟩ => ⟨S16384x768, .f32⟩
  | .hbm, ⟨4, _⟩ => ⟨S16, .f32⟩
  | .hbm, ⟨5, _⟩ => ⟨S_, .f32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S16384, .f32⟩
  | .hbm, ⟨19, _⟩ => ⟨S16384x1, .f32⟩
  | .hbm, ⟨20, _⟩ => ⟨S1x16, .f32⟩
  | .hbm, ⟨21, _⟩ => ⟨S16384x16, .f32⟩
  | .hbm, ⟨22, _⟩ => ⟨S16384x16, .f32⟩
  | .hbm, ⟨23, _⟩ => ⟨S16384x16, .f32⟩
  | .hbm, ⟨24, _⟩ => ⟨S16384x16, .f32⟩
  | .hbm, ⟨25, _⟩ => ⟨S16384x16, .f32⟩
  | .hbm, ⟨26, _⟩ => ⟨S16384x8x96, .f32⟩
  | .hbm, ⟨27, _⟩ => ⟨S16384x8x32, .f32⟩
  | .hbm, ⟨28, _⟩ => ⟨S16384x1x16, .f32⟩
  | .hbm, ⟨29, _⟩ => ⟨S16384x1x16, .f32⟩
  | .hbm, ⟨30, _⟩ => ⟨S16384x8x16, .f32⟩
  | .hbm, ⟨31, _⟩ => ⟨S16384x8x16, .f32⟩
  | .hbm, ⟨32, _⟩ => ⟨S16384x8x16, .f32⟩
  | .hbm, ⟨33, _⟩ => ⟨S16384x8x16, .f32⟩
  | .hbm, ⟨34, _⟩ => ⟨S16384x8x16, .f32⟩
  | .hbm, ⟨35, _⟩ => ⟨S16384x8x16, .f32⟩
  | .hbm, ⟨36, _⟩ => ⟨S16384x8x16, .f32⟩
  | .hbm, ⟨37, _⟩ => ⟨S16384x8x16, .f32⟩
  | .hbm, ⟨38, _⟩ => ⟨S16384x8x16, .f32⟩
  | .hbm, ⟨39, _⟩ => ⟨S16384x8x16, .f32⟩
  | .hbm, ⟨40, _⟩ => ⟨S16384x8x16, .f32⟩
  | .hbm, ⟨41, _⟩ => ⟨S16384x8x16, .f32⟩
  | .hbm, ⟨42, _⟩ => ⟨S16384x8x32, .f32⟩
  | .hbm, ⟨43, _⟩ => ⟨S16384x8x64, .f32⟩
  | .hbm, ⟨44, _⟩ => ⟨S16384x8x96, .f32⟩
  | .hbm, ⟨45, _⟩ => ⟨S_, .f32⟩
  | .hbm, ⟨46, _⟩ => ⟨S16384x8x96, .f32⟩
  | .hbm, ⟨47, _⟩ => ⟨S16384x8x96, .f32⟩
  | .hbm, ⟨48, _⟩ => ⟨S_, .f32⟩
  | .hbm, ⟨49, _⟩ => ⟨S16384x8x96, .f32⟩
  | .hbm, ⟨50, _⟩ => ⟨S16384x8x96, .f32⟩
  | .hbm, ⟨51, _⟩ => ⟨S16384x8x64, .f32⟩
  | .hbm, ⟨52, _⟩ => ⟨S16384x8x32, .f32⟩
  | .hbm, ⟨53, _⟩ => ⟨S_, .f32⟩
  | .hbm, ⟨54, _⟩ => ⟨S16384x8x96, .f32⟩
  | .hbm, ⟨55, _⟩ => ⟨S16384x8x16, .f32⟩
  | .hbm, ⟨56, _⟩ => ⟨S16384x8x16, .f32⟩
  | .hbm, ⟨57, _⟩ => ⟨S16384x8x16, .f32⟩
  | .hbm, ⟨58, _⟩ => ⟨S16384x8x16, .f32⟩
  | .hbm, ⟨59, _⟩ => ⟨S16384x8x16, .f32⟩
  | .hbm, ⟨60, _⟩ => ⟨S16384x8x16, .f32⟩
  | .hbm, ⟨61, _⟩ => ⟨S16384x8x16, .f32⟩
  | .hbm, ⟨62, _⟩ => ⟨S16384x8x16, .f32⟩
  | .hbm, ⟨63, _⟩ => ⟨S16384x8x16, .f32⟩
  | .hbm, ⟨64, _⟩ => ⟨S16384x8x16, .f32⟩
  | .hbm, ⟨65, _⟩ => ⟨S16384x8x16, .f32⟩
  | .hbm, ⟨66, _⟩ => ⟨S16384x8x16, .f32⟩
  | .hbm, ⟨67, _⟩ => ⟨S16384x8x16, .f32⟩
  | .hbm, ⟨68, _⟩ => ⟨S16384x8x32, .f32⟩
  | .hbm, ⟨69, _⟩ => ⟨S_, .f32⟩
  | .hbm, ⟨70, _⟩ => ⟨S16384x8x96, .f32⟩
  | .hbm, ⟨71, _⟩ => ⟨S16384x8x96, .f32⟩
  | .hbm, ⟨72, _⟩ => ⟨S16384x768, .f32⟩
  | .hbm, ⟨73, _⟩ => ⟨S16384x768, .bf16⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_4 : Ref sig .tc := ⟨.hbm, 45, rfl⟩
abbrev main_v38 : Ref sig .tc := ⟨.hbm, 46, rfl⟩
abbrev main_v39 : Ref sig .tc := ⟨.hbm, 47, rfl⟩
abbrev main_cst_5 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_cst_6 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_cst_7 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩

abbrev nD : Nat := 1
abbrev τ : Topo := Topo.v7x

variable {F : FTy → Type} [FloatOps F]
-- ==== GateUpKernel.lean ====
abbrev S16384x1024 : Shape := ⟨2, ![16384, 1024]⟩
abbrev S1024x2816 : Shape := ⟨2, ![1024, 2816]⟩
abbrev S2816x1024 : Shape := ⟨2, ![2816, 1024]⟩
abbrev S1024x4x704 : Shape := ⟨3, ![1024, 4, 704]⟩
abbrev S4x1024x704 : Shape := ⟨3, ![4, 1024, 704]⟩
abbrev S4x2048x704 : Shape := ⟨3, ![4, 2048, 704]⟩
abbrev S4x704x1024 : Shape := ⟨3, ![4, 704, 1024]⟩
abbrev S4x16384x704 : Shape := ⟨3, ![4, 16384, 704]⟩
abbrev S1024x1024 : Shape := ⟨2, ![1024, 1024]⟩
abbrev S1x1024x704 : Shape := ⟨3, ![1, 1024, 704]⟩
abbrev S1024x704 : Shape := ⟨2, ![1024, 704]⟩
abbrev S1x704x1024 : Shape := ⟨3, ![1, 704, 1024]⟩
abbrev S704x1024 : Shape := ⟨2, ![704, 1024]⟩
abbrev S16384x4x704 : Shape := ⟨3, ![16384, 4, 704]⟩
abbrev S16384x2816 : Shape := ⟨2, ![16384, 2816]⟩

abbrev nBuf : Space → Nat
  | .hbm => 24
  | .vmem => 24
  | .smem => 0
  | _ => 0

abbrev bufTy : (tb : Table) → Fin (tcTables nBuf tb) → BufTy
  | .hbm, ⟨0, _⟩ => ⟨S16384x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S16384x1024, .f32⟩
  | .hbm, ⟨5, _⟩ => ⟨S1024x4x704, .f32⟩
  | .hbm, ⟨6, _⟩ => ⟨S4x1024x704, .f32⟩
  | .hbm, ⟨7, _⟩ => ⟨S1024x4x704, .f32⟩
  | .hbm, ⟨8, _⟩ => ⟨S4x1024x704, .f32⟩
  | .hbm, ⟨9, _⟩ => ⟨S4x2048x704, .f32⟩
  | .hbm, ⟨10, _⟩ => ⟨S4x2048x704, .bf16⟩
  | .hbm, ⟨11, _⟩ => ⟨S4x704x1024, .f32⟩
  | .hbm, ⟨12, _⟩ => ⟨S4x704x1024, .bf16⟩
  | .hbm, ⟨13, _⟩ => ⟨S16384x1024, .bf16⟩
  | .hbm, ⟨14, _⟩ => ⟨S4x16384x704, .bf16⟩
  | .hbm, ⟨15, _⟩ => ⟨S4x16384x704, .bf16⟩
  | .hbm, ⟨16, _⟩ => ⟨S4x16384x704, .bf16⟩
  | .hbm, ⟨17, _⟩ => ⟨S16384x1024, .bf16⟩
  | .hbm, ⟨18, _⟩ => ⟨S4x16384x704, .bf16⟩
  | .hbm, ⟨19, _⟩ => ⟨S4x16384x704, .bf16⟩
  | .hbm, ⟨20, _⟩ => ⟨S16384x4x704, .bf16⟩
  | .hbm, ⟨21, _⟩ => ⟨S16384x2816, .bf16⟩
  | .hbm, ⟨22, _⟩ => ⟨S16384x4x704, .bf16⟩
  | .hbm, ⟨23, _⟩ => ⟨S16384x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | .local _ .vmem, ⟨12, _⟩ => ⟨S1024x1024, .bf16⟩
  | .local _ .vmem, ⟨13, _⟩ => ⟨S1024x1024, .bf16⟩
  | .local _ .vmem, ⟨14, _⟩ => ⟨S1x704x1024, .bf16⟩
  | .local _ .vmem, ⟨15, _⟩ => ⟨S1x704x1024, .bf16⟩
  | .local _ .vmem, ⟨16, _⟩ => ⟨S1x1024x704, .bf16⟩
  | .local _ .vmem, ⟨17, _⟩ => ⟨S1x1024x704, .bf16⟩
  | .local _ .vmem, ⟨18, _⟩ => ⟨S1x1024x704, .bf16⟩
  | .local _ .vmem, ⟨19, _⟩ => ⟨S1x1024x704, .bf16⟩
  | .local _ .vmem, ⟨20, _⟩ => ⟨S1x1024x704, .bf16⟩
  | .local _ .vmem, ⟨21, _⟩ => ⟨S1x1024x704, .bf16⟩
  | .local _ .vmem, ⟨22, _⟩ => ⟨S1x1024x704, .bf16⟩
  | .local _ .vmem, ⟨23, _⟩ => ⟨S1x1024x704, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg0.toNat, c1_i32.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![4, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1x704x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024x704 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1024x704 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1024x704 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1024x704 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== GateUpReferenceIdeal.lean ====
abbrev S16384x1024 : Shape := ⟨2, ![16384, 1024]⟩
abbrev S1024x2816 : Shape := ⟨2, ![1024, 2816]⟩
abbrev S2816x1024 : Shape := ⟨2, ![2816, 1024]⟩
abbrev S16384x2816 : Shape := ⟨2, ![16384, 2816]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S16384x1024, .f32⟩
  | .hbm, ⟨5, _⟩ => ⟨S16384x2816, .f32⟩
  | .hbm, ⟨6, _⟩ => ⟨S16384x2816, .f32⟩
  | .hbm, ⟨7, _⟩ => ⟨S16384x2816, .f32⟩
  | .hbm, ⟨8, _⟩ => ⟨S16384x2816, .f32⟩
  | .hbm, ⟨9, _⟩ => ⟨S_, .f32⟩
  | .hbm, ⟨10, _⟩ => ⟨S16384x2816, .f32⟩
  | .hbm, ⟨11, _⟩ => ⟨S16384x2816, .f32⟩
  | .hbm, ⟨12, _⟩ => ⟨S_, .f32⟩
  | .hbm, ⟨13, _⟩ => ⟨S16384x2816, .f32⟩
  | .hbm, ⟨14, _⟩ => ⟨S16384x2816, .f32⟩
  | .hbm, ⟨15, _⟩ => ⟨S_, .f32⟩
  | .hbm, ⟨16, _⟩ => ⟨S16384x2816, .f32⟩
  | .hbm, ⟨17, _⟩ => ⟨S16384x2816, .f32⟩
  | .hbm, ⟨18, _⟩ => ⟨S16384x2816, .f32⟩
  | .hbm, ⟨19, _⟩ => ⟨S16384x2816, .f32⟩
  | .hbm, ⟨20, _⟩ => ⟨S16384x2816, .f32⟩
  | .hbm, ⟨21, _⟩ => ⟨S16384x1024, .f32⟩
  | .hbm, ⟨22, _⟩ => ⟨S_, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S16384x2816, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x2816, .f32⟩
  | .hbm, ⟨35, _⟩ => ⟨S16384x2816, .bf16⟩
  | .hbm, ⟨36, _⟩ => ⟨S16384x2816, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩

abbrev nD : Nat := 1
abbrev τ : Topo := Topo.v7x

variable {F : FTy → Type} [FloatOps F]
-- ==== ConvDxKernel.lean ====
abbrev S16384x1024 : Shape := ⟨2, ![16384, 1024]⟩
abbrev S1024 : Shape := ⟨1, ![1024]⟩
abbrev S1024x3072 : Shape := ⟨2, ![1024, 3072]⟩
abbrev S16384x3072 : Shape := ⟨2, ![16384, 3072]⟩
abbrev S1x1024 : Shape := ⟨2, ![1, 1024]⟩
abbrev S512x3072 : Shape := ⟨2, ![512, 3072]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3072, .f32⟩
  | .hbm, ⟨3, _⟩ => ⟨S16384x1024, .f32⟩
  | .hbm, ⟨4, _⟩ => ⟨S16384x3072, .f32⟩
  | .hbm, ⟨5, _⟩ => ⟨S16384x3072, .bf16⟩
  | .hbm, ⟨6, _⟩ => ⟨S1024x3072, .bf16⟩
  | .hbm, ⟨7, _⟩ => ⟨S1x1024, .f32⟩
  | .hbm, ⟨8, _⟩ => ⟨S16384x1024, .f32⟩
  | .hbm, ⟨9, _⟩ => ⟨S16384x1024, .bf16⟩
  | .hbm, ⟨10, _⟩ => ⟨S1x1024, .f32⟩
  | .local _ .vmem, ⟨0, _⟩ => ⟨S512x3072, .bf16⟩
  | .local _ .vmem, ⟨1, _⟩ => ⟨S512x3072, .bf16⟩
  | .local _ .vmem, ⟨2, _⟩ => ⟨S1024x3072, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨3, ![1, 32, 1], ![false, false, false]⟩

def k0_cond1 (i : grid0.Coords) : BitVec 1 :=
  let arg1 : BitVec 32 := BitVec.ofNat 32 (i 1).val
  let c0_i32 : BitVec 32 := 0#32
  let v38 : BitVec 1 := Scalar.cmpi .eq arg1 c0_i32
  let v39 : BitVec 32 := Scalar.extui v38
  let c0_i32_19 : BitVec 32 := 0#32
  let v40 : BitVec 1 := Scalar.cmpi .ne v39 c0_i32_19
  v40

def k0_cond2 (i : grid0.Coords) : BitVec 1 :=
  let arg1 : BitVec 32 := BitVec.ofNat 32 (i 1).val
  let c0_i32_20 : BitVec 32 := 0#32
  let v41 : BitVec 1 := Scalar.cmpi .ne arg1 c0_i32_20
  let v42 : BitVec 32 := Scalar.extui v41
  let c0_i32_21 : BitVec 32 := 0#32
  let v43 : BitVec 1 := Scalar.cmpi .ne v42 c0_i32_21
  v43

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false, false]
-- ==== ConvDxReferenceIdeal.lean ====
abbrev S16384x1024 : Shape := ⟨2, ![16384, 1024]⟩
abbrev S1024 : Shape := ⟨1, ![1024]⟩
abbrev S1024x3072 : Shape := ⟨2, ![1024, 3072]⟩
abbrev S16384x3072 : Shape := ⟨2, ![16384, 3072]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3072, .f32⟩
  | .hbm, ⟨3, _⟩ => ⟨S16384x1024, .f32⟩
  | .hbm, ⟨4, _⟩ => ⟨S16384x3072, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x3072, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S1024, .f32⟩
  | .hbm, ⟨35, _⟩ => ⟨S16384x1024, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S_, .f32⟩
  | .hbm, ⟨47, _⟩ => ⟨S16384, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .bf16⟩
  | .hbm, ⟨54, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== EvenDxKernel.lean ====
abbrev S16384x1024 : Shape := ⟨2, ![16384, 1024]⟩
abbrev S1024 : Shape := ⟨1, ![1024]⟩
abbrev S1024x1696 : Shape := ⟨2, ![1024, 1696]⟩
abbrev S16384x1696 : Shape := ⟨2, ![16384, 1696]⟩
abbrev S16384x640 : Shape := ⟨2, ![16384, 640]⟩
abbrev S16384x32 : Shape := ⟨2, ![16384, 32]⟩
abbrev S_ : Shape := ⟨0, ![]⟩
abbrev S16384x128 : Shape := ⟨2, ![16384, 128]⟩
abbrev S16384x1792 : Shape := ⟨2, ![16384, 1792]⟩
abbrev S1024x640 : Shape := ⟨2, ![1024, 640]⟩
abbrev S1024x32 : Shape := ⟨2, ![1024, 32]⟩
abbrev S1024x128 : Shape := ⟨2, ![1024, 128]⟩
abbrev S1024x1024 : Shape := ⟨2, ![1024, 1024]⟩
abbrev S1024x1792 : Shape := ⟨2, ![1024, 1792]⟩
abbrev S1x1024 : Shape := ⟨2, ![1, 1024]⟩
abbrev S512x1792 : Shape := ⟨2, ![512, 1792]⟩
abbrev S512x1024 : Shape := ⟨2, ![512, 1024]⟩
abbrev S512 : Shape := ⟨1, ![512]⟩
abbrev S512x1 : Shape := ⟨2, ![512, 1]⟩

abbrev nBuf : Space → Nat
  | .hbm => 24
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1696, .f32⟩
  | .hbm, ⟨3, _⟩ => ⟨S16384x1024, .f32⟩
  | .hbm, ⟨4, _⟩ => ⟨S16384x1696, .f32⟩
  | .hbm, ⟨5, _⟩ => ⟨S16384x640, .f32⟩
  | .hbm, ⟨6, _⟩ => ⟨S16384x32, .f32⟩
  | .hbm, ⟨7, _⟩ => ⟨S_, .i32⟩
  | .hbm, ⟨8, _⟩ => ⟨S_, .f32⟩
  | .hbm, ⟨9, _⟩ => ⟨S16384x128, .f32⟩
  | .hbm, ⟨10, _⟩ => ⟨S16384x1024, .f32⟩
  | .hbm, ⟨11, _⟩ => ⟨S16384x1792, .f32⟩
  | .hbm, ⟨12, _⟩ => ⟨S16384x1792, .bf16⟩
  | .hbm, ⟨13, _⟩ => ⟨S1024x640, .f32⟩
  | .hbm, ⟨14, _⟩ => ⟨S1024x32, .f32⟩
  | .hbm, ⟨15, _⟩ => ⟨S_, .i32⟩
  | .hbm, ⟨16, _⟩ => ⟨S_, .f32⟩
  | .hbm, ⟨17, _⟩ => ⟨S1024x128, .f32⟩
  | .hbm, ⟨18, _⟩ => ⟨S1024x1024, .f32⟩
  | .hbm, ⟨19, _⟩ => ⟨S1024x1792, .f32⟩
  | .hbm, ⟨20, _⟩ => ⟨S1x1024, .f32⟩
  | .hbm, ⟨21, _⟩ => ⟨S16384x1024, .f32⟩
  | .hbm, ⟨22, _⟩ => ⟨S16384x1024, .bf16⟩
  | .hbm, ⟨23, _⟩ => ⟨S1x1024, .f32⟩
  | .local _ .vmem, ⟨0, _⟩ => ⟨S512x1792, .bf16⟩
  | .local _ .vmem, ⟨1, _⟩ => ⟨S512x1792, .bf16⟩
  | .local _ .vmem, ⟨2, _⟩ => ⟨S1024x1792, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_call1_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v12_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨3, ![1, 32, 1], ![false, false, false]⟩

def k0_cond1 (i : grid0.Coords) : BitVec 1 :=
  let arg1 : BitVec 32 := BitVec.ofNat 32 (i 1).val
  let c0_i32 : BitVec 32 := 0#32
  let v39 : BitVec 1 := Scalar.cmpi .eq arg1 c0_i32
  let v40 : BitVec 32 := Scalar.extui v39
  let c0_i32_19 : BitVec 32 := 0#32
  let v41 : BitVec 1 := Scalar.cmpi .ne v40 c0_i32_19
  v41

def k0_cond2 (i : grid0.Coords) : BitVec 1 :=
  let arg1 : BitVec 32 := BitVec.ofNat 32 (i 1).val
  let c0_i32_20 : BitVec 32 := 0#32
  let v42 : BitVec 1 := Scalar.cmpi .ne arg1 c0_i32_20
  let v43 : BitVec 32 := Scalar.extui v42
  let c0_i32_21 : BitVec 32 := 0#32
  let v44 : BitVec 1 := Scalar.cmpi .ne v43 c0_i32_21
  v44

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S512x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1792 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false, false]
-- ==== EvenDxReferenceIdeal.lean ====
abbrev S16384x1024 : Shape := ⟨2, ![16384, 1024]⟩
abbrev S1024 : Shape := ⟨1, ![1024]⟩
abbrev S1024x1696 : Shape := ⟨2, ![1024, 1696]⟩
abbrev S16384x1696 : Shape := ⟨2, ![16384, 1696]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1696, .f32⟩
  | .hbm, ⟨3, _⟩ => ⟨S16384x1024, .f32⟩
  | .hbm, ⟨4, _⟩ => ⟨S16384x1696, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x1696, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S1024, .f32⟩
  | .hbm, ⟨35, _⟩ => ⟨S16384x1024, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S_, .f32⟩
  | .hbm, ⟨47, _⟩ => ⟨S16384, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .bf16⟩
  | .hbm, ⟨54, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== FfnDxKernel.lean ====
abbrev S16384x1024 : Shape := ⟨2, ![16384, 1024]⟩
abbrev S1024 : Shape := ⟨1, ![1024]⟩
abbrev S1024x2816 : Shape := ⟨2, ![1024, 2816]⟩
abbrev S16384x2816 : Shape := ⟨2, ![16384, 2816]⟩
abbrev S16384x4x704 : Shape := ⟨3, ![16384, 4, 704]⟩
abbrev S4x16384x704 : Shape := ⟨3, ![4, 16384, 704]⟩
abbrev S1024x4x704 : Shape := ⟨3, ![1024, 4, 704]⟩
abbrev S4x1024x704 : Shape := ⟨3, ![4, 1024, 704]⟩
abbrev S1x1024 : Shape := ⟨2, ![1, 1024]⟩
abbrev S4x512x704 : Shape := ⟨3, ![4, 512, 704]⟩
abbrev S512x1024 : Shape := ⟨2, ![512, 1024]⟩
abbrev S2 : Shape := ⟨1, ![2]⟩
abbrev S1 : Shape := ⟨1, ![1]⟩
abbrev S_ : Shape := ⟨0, ![]⟩
abbrev S1x512x704 : Shape := ⟨3, ![1, 512, 704]⟩
abbrev S512x704 : Shape := ⟨2, ![512, 704]⟩
abbrev S1x1024x704 : Shape := ⟨3, ![1, 1024, 704]⟩
abbrev S1024x704 : Shape := ⟨2, ![1024, 704]⟩
abbrev S512 : Shape := ⟨1, ![512]⟩
abbrev S512x1 : Shape := ⟨2, ![512, 1]⟩

abbrev nBuf : Space → Nat
  | .hbm => 23
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S16384x1024, .f32⟩
  | .hbm, ⟨5, _⟩ => ⟨S16384x2816, .f32⟩
  | .hbm, ⟨6, _⟩ => ⟨S16384x2816, .f32⟩
  | .hbm, ⟨7, _⟩ => ⟨S16384x4x704, .f32⟩
  | .hbm, ⟨8, _⟩ => ⟨S4x16384x704, .f32⟩
  | .hbm, ⟨9, _⟩ => ⟨S4x16384x704, .bf16⟩
  | .hbm, ⟨10, _⟩ => ⟨S16384x4x704, .f32⟩
  | .hbm, ⟨11, _⟩ => ⟨S4x16384x704, .f32⟩
  | .hbm, ⟨12, _⟩ => ⟨S4x16384x704, .bf16⟩
  | .hbm, ⟨13, _⟩ => ⟨S1024x4x704, .f32⟩
  | .hbm, ⟨14, _⟩ => ⟨S4x1024x704, .f32⟩
  | .hbm, ⟨15, _⟩ => ⟨S4x1024x704, .bf16⟩
  | .hbm, ⟨16, _⟩ => ⟨S1024x4x704, .f32⟩
  | .hbm, ⟨17, _⟩ => ⟨S4x1024x704, .f32⟩
  | .hbm, ⟨18, _⟩ => ⟨S4x1024x704, .bf16⟩
  | .hbm, ⟨19, _⟩ => ⟨S1x1024, .f32⟩
  | .hbm, ⟨20, _⟩ => ⟨S16384x1024, .f32⟩
  | .hbm, ⟨21, _⟩ => ⟨S16384x1024, .bf16⟩
  | .hbm, ⟨22, _⟩ => ⟨S1x1024, .f32⟩
  | .local _ .vmem, ⟨0, _⟩ => ⟨S4x512x704, .bf16⟩
  | .local _ .vmem, ⟨1, _⟩ => ⟨S4x512x704, .bf16⟩
  | .local _ .vmem, ⟨2, _⟩ => ⟨S4x512x704, .bf16⟩
  | .local _ .vmem, ⟨3, _⟩ => ⟨S4x512x704, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | .local _ .vmem, ⟨14, _⟩ => ⟨S4x1024x704, .bf16⟩
  | .local _ .vmem, ⟨15, _⟩ => ⟨S4x1024x704, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev main_v13_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c0_i32_68 : BitVec 32 := 0#32
  let v83 : BitVec 1 := Scalar.cmpi .eq arg0 c0_i32_68
  let v84 : BitVec 32 := Scalar.extui v83
  let c0_i32_69 : BitVec 32 := 0#32
  let v85 : BitVec 1 := Scalar.cmpi .ne v84 c0_i32_69
  v85

def k0_cond3 (i : grid0.Coords) : BitVec 1 :=
  let arg0 : BitVec 32 := BitVec.ofNat 32 (i 0).val
  let c0_i32_70 : BitVec 32 := 0#32
  let v86 : BitVec 1 := Scalar.cmpi .ne arg0 c0_i32_70
  let v87 : BitVec 32 := Scalar.extui v86
  let c0_i32_71 : BitVec 32 := 0#32
  let v88 : BitVec 1 := Scalar.cmpi .ne v87 c0_i32_71
  v88

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== FfnDxReferenceIdeal.lean ====
abbrev S16384x1024 : Shape := ⟨2, ![16384, 1024]⟩
abbrev S1024 : Shape := ⟨1, ![1024]⟩
abbrev S1024x2816 : Shape := ⟨2, ![1024, 2816]⟩
abbrev S16384x2816 : Shape := ⟨2, ![16384, 2816]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 60
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S16384x1024, .f32⟩
  | .hbm, ⟨5, _⟩ => ⟨S16384x2816, .f32⟩
  | .hbm, ⟨6, _⟩ => ⟨S16384x2816, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S16384x2816, .f32⟩
  | .hbm, ⟨28, _⟩ => ⟨S16384x2816, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S16384x1024, .f32⟩
  | .hbm, ⟨37, _⟩ => ⟨S16384x1024, .f32⟩
  | .hbm, ⟨38, _⟩ => ⟨S_, .f32⟩
  | .hbm, ⟨39, _⟩ => ⟨S1024, .f32⟩
  | .hbm, ⟨40, _⟩ => ⟨S16384x1024, .f32⟩
  | .hbm, ⟨41, _⟩ => ⟨S_, .f32⟩
  | .hbm, ⟨42, _⟩ => ⟨S16384, .f32⟩
  | .hbm, ⟨43, _⟩ => ⟨S16384x1, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S_, .f32⟩
  | .hbm, ⟨52, _⟩ => ⟨S16384, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1024, .bf16⟩
  | .hbm, ⟨59, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩

abbrev nD : Nat := 1
abbrev τ : Topo := Topo.v7x

variable {F : FTy → Type} [FloatOps F]
-- ==== AttnKernel.lean ====
abbrev S16384x8x64 : Shape := ⟨3, ![16384, 8, 64]⟩
abbrev S16384x8x32 : Shape := ⟨3, ![16384, 8, 32]⟩
abbrev S16384x32 : Shape := ⟨2, ![16384, 32]⟩
abbrev S16384x512 : Shape := ⟨2, ![16384, 512]⟩
abbrev S16384x8x96 : Shape := ⟨3, ![16384, 8, 96]⟩
abbrev S_ : Shape := ⟨0, ![]⟩
abbrev S16384x8x128 : Shape := ⟨3, ![16384, 8, 128]⟩
abbrev S16384x1024 : Shape := ⟨2, ![16384, 1024]⟩
abbrev S16384x1x32 : Shape := ⟨3, ![16384, 1, 32]⟩
abbrev S16384x8x1 : Shape := ⟨3, ![16384, 8, 1]⟩
abbrev S16384x8x65 : Shape := ⟨3, ![16384, 8, 65]⟩
abbrev S8x32x8x512 : Shape := ⟨4, ![8, 32, 8, 512]⟩
abbrev S512x128 : Shape := ⟨2, ![512, 128]⟩
abbrev S16384x128 : Shape := ⟨2, ![16384, 128]⟩
abbrev S1x1x8x512 : Shape := ⟨4, ![1, 1, 8, 512]⟩
abbrev S512x512 : Shape := ⟨2, ![512, 512]⟩
abbrev S512x1 : Shape := ⟨2, ![512, 1]⟩
abbrev S512 : Shape := ⟨1, ![512]⟩
abbrev S128x512 : Shape := ⟨2, ![128, 512]⟩
abbrev S8x512 : Shape := ⟨2, ![8, 512]⟩
abbrev S16384x1536 : Shape := ⟨2, ![16384, 1536]⟩
abbrev S2048x128 : Shape := ⟨2, ![2048, 128]⟩
abbrev S1x4x8x512 : Shape := ⟨4, ![1, 4, 8, 512]⟩
abbrev S1x32x8x512 : Shape := ⟨4, ![1, 32, 8, 512]⟩
abbrev S1x1x1x512 : Shape := ⟨4, ![1, 1, 1, 512]⟩
abbrev S1x512 : Shape := ⟨2, ![1, 512]⟩

abbrev nBuf : Space → Nat
  | .hbm => 58
  | .vmem => 44
  | .smem => 0
  | _ => 0

abbrev bufTy : (tb : Table) → Fin (tcTables nBuf tb) → BufTy
  | .hbm, ⟨0, _⟩ => ⟨S16384x8x64, .f32⟩
  | .hbm, ⟨1, _⟩ => ⟨S16384x8x32, .f32⟩
  | .hbm, ⟨2, _⟩ => ⟨S16384x8x64, .f32⟩
  | .hbm, ⟨3, _⟩ => ⟨S16384x32, .f32⟩
  | .hbm, ⟨4, _⟩ => ⟨S16384x8x64, .f32⟩
  | .hbm, ⟨5, _⟩ => ⟨S16384x512, .f32⟩
  | .hbm, ⟨6, _⟩ => ⟨S16384x8x96, .f32⟩
  | .hbm, ⟨7, _⟩ => ⟨S_, .f32⟩
  | .hbm, ⟨8, _⟩ => ⟨S16384x8x96, .f32⟩
  | .hbm, ⟨9, _⟩ => ⟨S16384x8x96, .f32⟩
  | .hbm, ⟨10, _⟩ => ⟨S_, .i32⟩
  | .hbm, ⟨11, _⟩ => ⟨S_, .f32⟩
  | .hbm, ⟨12, _⟩ => ⟨S16384x8x128, .f32⟩
  | .hbm, ⟨13, _⟩ => ⟨S16384x1024, .f32⟩
  | .hbm, ⟨14, _⟩ => ⟨S16384x1024, .bf16⟩
  | .hbm, ⟨15, _⟩ => ⟨S16384x1x32, .f32⟩
  | .hbm, ⟨16, _⟩ => ⟨S16384x8x32, .f32⟩
  | .hbm, ⟨17, _⟩ => ⟨S16384x8x96, .f32⟩
  | .hbm, ⟨18, _⟩ => ⟨S_, .i32⟩
  | .hbm, ⟨19, _⟩ => ⟨S_, .f32⟩
  | .hbm, ⟨20, _⟩ => ⟨S16384x8x128, .f32⟩
  | .hbm, ⟨21, _⟩ => ⟨S16384x1024, .f32⟩
  | .hbm, ⟨22, _⟩ => ⟨S16384x1024, .bf16⟩
  | .hbm, ⟨23, _⟩ => ⟨S_, .f32⟩
  | .hbm, ⟨24, _⟩ => ⟨S16384x8x1, .f32⟩
  | .hbm, ⟨25, _⟩ => ⟨S16384x8x65, .f32⟩
  | .hbm, ⟨26, _⟩ => ⟨S_, .i32⟩
  | .hbm, ⟨27, _⟩ => ⟨S_, .f32⟩
  | .hbm, ⟨28, _⟩ => ⟨S16384x8x128, .f32⟩
  | .hbm, ⟨29, _⟩ => ⟨S16384x1024, .f32⟩
  | .hbm, ⟨30, _⟩ => ⟨S16384x1024, .bf16⟩
  | .hbm, ⟨31, _⟩ => ⟨S16384x1024, .bf16⟩
  | .hbm, ⟨32, _⟩ => ⟨S8x32x8x512, .f32⟩
  | .hbm, ⟨33, _⟩ => ⟨S16384x8x64, .f32⟩
  | .hbm, ⟨34, _⟩ => ⟨S_, .i32⟩
  | .hbm, ⟨35, _⟩ => ⟨S_, .f32⟩
  | .hbm, ⟨36, _⟩ => ⟨S16384x8x128, .f32⟩
  | .hbm, ⟨37, _⟩ => ⟨S16384x1024, .f32⟩
  | .hbm, ⟨38, _⟩ => ⟨S_, .f32⟩
  | .hbm, ⟨39, _⟩ => ⟨S16384x512, .f32⟩
  | .hbm, ⟨40, _⟩ => ⟨S16384x1536, .f32⟩
  | .hbm, ⟨41, _⟩ => ⟨S16384x1536, .bf16⟩
  | .hbm, ⟨42, _⟩ => ⟨S8x32x8x512, .f32⟩
  | .hbm, ⟨43, _⟩ => ⟨S16384x1024, .f32⟩
  | .hbm, ⟨44, _⟩ => ⟨S16384x1024, .bf16⟩
  | .hbm, ⟨45, _⟩ => ⟨S16384x1024, .bf16⟩
  | .hbm, ⟨46, _⟩ => ⟨S16384x8x128, .f32⟩
  | .hbm, ⟨47, _⟩ => ⟨S_, .f32⟩
  | .hbm, ⟨48, _⟩ => ⟨S16384x8x128, .f32⟩
  | .hbm, ⟨49, _⟩ => ⟨S16384x8x128, .f32⟩
  | .hbm, ⟨50, _⟩ => ⟨S16384x8x128, .bf16⟩
  | .hbm, ⟨51, _⟩ => ⟨S16384x8x128, .bf16⟩
  | .hbm, ⟨52, _⟩ => ⟨S16384x8x96, .f32⟩
  | .hbm, ⟨53, _⟩ => ⟨S16384x8x96, .bf16⟩
  | .hbm, ⟨54, _⟩ => ⟨S16384x8x64, .bf16⟩
  | .hbm, ⟨55, _⟩ => ⟨S16384x8x128, .bf16⟩
  | .hbm, ⟨56, _⟩ => ⟨S16384x8x64, .bf16⟩
  | .hbm, ⟨57, _⟩ => ⟨S16384x512, .bf16⟩
  | .local _ .vmem, ⟨0, _⟩ => ⟨S512x128, .bf16⟩
  | .local _ .vmem, ⟨1, _⟩ => ⟨S512x128, .bf16⟩
  | .local _ .vmem, ⟨2, _⟩ => ⟨S16384x128, .bf16⟩
  | .local _ .vmem, ⟨3, _⟩ => ⟨S16384x128, .bf16⟩
  | .local _ .vmem, ⟨4, _⟩ => ⟨S16384x128, .bf16⟩
  | .local _ .vmem, ⟨5, _⟩ => ⟨S16384x128, .bf16⟩
  | .local _ .vmem, ⟨6, _⟩ => ⟨S512x128, .bf16⟩
  | .local _ .vmem, ⟨7, _⟩ => ⟨S512x128, .bf16⟩
  | .local _ .vmem, ⟨8, _⟩ => ⟨S1x1x8x512, .f32⟩
  | .local _ .vmem, ⟨9, _⟩ => ⟨S1x1x8x512, .f32⟩
  | .local _ .vmem, ⟨10, _⟩ => ⟨S512x512, .f32⟩
  | .local _ .vmem, ⟨11, _⟩ => ⟨S512x512, .f32⟩
  | .local _ .vmem, ⟨12, _⟩ => ⟨S512x1, .f32⟩
  | .local _ .vmem, ⟨13, _⟩ => ⟨S512x128, .f32⟩
  | .local _ .vmem, ⟨14, _⟩ => ⟨S2048x128, .bf16⟩
  | .local _ .vmem, ⟨15, _⟩ => ⟨S2048x128, .bf16⟩
  | .local _ .vmem, ⟨16, _⟩ => ⟨S2048x128, .bf16⟩
  | .local _ .vmem, ⟨17, _⟩ => ⟨S2048x128, .bf16⟩
  | .local _ .vmem, ⟨18, _⟩ => ⟨S1x4x8x512, .f32⟩
  | .local _ .vmem, ⟨19, _⟩ => ⟨S1x4x8x512, .f32⟩
  | .local _ .vmem, ⟨20, _⟩ => ⟨S16384x128, .bf16⟩
  | .local _ .vmem, ⟨21, _⟩ => ⟨S16384x128, .bf16⟩
  | .local _ .vmem, ⟨22, _⟩ => ⟨S16384x128, .bf16⟩
  | .local _ .vmem, ⟨23, _⟩ => ⟨S16384x128, .bf16⟩
  | .local _ .vmem, ⟨24, _⟩ => ⟨S1x32x8x512, .f32⟩
  | .local _ .vmem, ⟨25, _⟩ => ⟨S1x32x8x512, .f32⟩
  | .local _ .vmem, ⟨26, _⟩ => ⟨S1x32x8x512, .f32⟩
  | .local _ .vmem, ⟨27, _⟩ => ⟨S1x32x8x512, .f32⟩
  | .local _ .vmem, ⟨28, _⟩ => ⟨S512x128, .bf16⟩
  | .local _ .vmem, ⟨29, _⟩ => ⟨S512x128, .bf16⟩
  | .local _ .vmem, ⟨30, _⟩ => ⟨S512x128, .bf16⟩
  | .local _ .vmem, ⟨31, _⟩ => ⟨S512x128, .bf16⟩
  | .local _ .vmem, ⟨32, _⟩ => ⟨S16384x128, .f32⟩
  | .local _ .vmem, ⟨33, _⟩ => ⟨S16384x128, .f32⟩
  | .local _ .vmem, ⟨34, _⟩ => ⟨S512x128, .bf16⟩
  | .local _ .vmem, ⟨35, _⟩ => ⟨S512x128, .bf16⟩
  | .local _ .vmem, ⟨36, _⟩ => ⟨S512x128, .bf16⟩
  | .local _ .vmem, ⟨37, _⟩ => ⟨S512x128, .bf16⟩
  | .local _ .vmem, ⟨38, _⟩ => ⟨S512x512, .f32⟩
  | .local _ .vmem, ⟨39, _⟩ => ⟨S512x512, .f32⟩
  | .local _ .vmem, ⟨40, _⟩ => ⟨S512x512, .f32⟩
  | .local _ .vmem, ⟨41, _⟩ => ⟨S512x512, .f32⟩
  | .local _ .vmem, ⟨42, _⟩ => ⟨S512x128, .f32⟩
  | .local _ .vmem, ⟨43, _⟩ => ⟨S512x128, .f32⟩
  | _, _ => ⟨S16384x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_call1_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_call2_v0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17_0 : Ref sig .tc := ⟨.hbm, 31, rfl⟩
abbrev main_v17_1 : Ref sig .tc := ⟨.hbm, 32, rfl⟩
abbrev main_v18 : Ref sig .tc := ⟨.hbm, 33, rfl⟩
abbrev main_c_3 : Ref sig .tc := ⟨.hbm, 34, rfl⟩
abbrev main_call3_v0 : Ref sig .tc := ⟨.hbm, 35, rfl⟩
abbrev main_v19 : Ref sig .tc := ⟨.hbm, 36, rfl⟩
abbrev main_v20 : Ref sig .tc := ⟨.hbm, 37, rfl⟩
abbrev main_cst_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25_0 : Ref sig .tc := ⟨.hbm, 43, rfl⟩
abbrev main_v25_1 : Ref sig .tc := ⟨.hbm, 44, rfl⟩
abbrev main_v25_2 : Ref sig .tc := ⟨.hbm, 45, rfl⟩
abbrev main_v26 : Ref sig .tc := ⟨.hbm, 46, rfl⟩
abbrev main_cst_5 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc2_stg4_0 : Ref sig .tc := ⟨.vmem, 28, rfl⟩
abbrev cc2_stg4_1 : Ref sig .tc := ⟨.vmem, 29, rfl⟩
abbrev cc2_stg5_0 : Ref sig .tc := ⟨.vmem, 30, rfl⟩
abbrev cc2_stg5_1 : Ref sig .tc := ⟨.vmem, 31, rfl⟩
abbrev cc2_stg6_0 : Ref sig .tc := ⟨.vmem, 32, rfl⟩
abbrev cc2_stg6_1 : Ref sig .tc := ⟨.vmem, 33, rfl⟩
abbrev cc2_stg7_0 : Ref sig .tc := ⟨.vmem, 34, rfl⟩
abbrev cc2_stg7_1 : Ref sig .tc := ⟨.vmem, 35, rfl⟩
abbrev cc2_stg8_0 : Ref sig .tc := ⟨.vmem, 36, rfl⟩
abbrev cc2_stg8_1 : Ref sig .tc := ⟨.vmem, 37, rfl⟩
abbrev cc2_scratch0 : Ref sig .tc := ⟨.vmem, 38, rfl⟩
abbrev cc2_scratch1 : Ref sig .tc := ⟨.vmem, 39, rfl⟩
abbrev cc2_scratch2 : Ref sig .tc := ⟨.vmem, 40, rfl⟩
abbrev cc2_scratch3 : Ref sig .tc := ⟨.vmem, 41, rfl⟩
abbrev cc2_scratch4 : Ref sig .tc := ⟨.vmem, 42, rfl⟩
abbrev cc2_scratch5 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem4_1 : DmaSem sig := 25
abbrev cc2_sem5_0 : DmaSem sig := 26
abbrev cc2_sem5_1 : DmaSem sig := 27
abbrev cc2_sem6_0 : DmaSem sig := 28
abbrev cc2_sem6_1 : DmaSem sig := 29
abbrev cc2_sem7_0 : DmaSem sig := 30
abbrev cc2_sem7_1 : DmaSem sig := 31
abbrev cc2_sem8_0 : DmaSem sig := 32
abbrev cc2_sem8_1 : DmaSem sig := 33

abbrev nD : Nat := 1
abbrev τ : Topo := Topo.v7x

variable {F : FTy → Type} [FloatOps F]

abbrev grid0 : Pipeline.Grid := ⟨2, ![8, 32], ![false, false]⟩

def k0_mult1 : BitVec 32 :=
  let c0_i32 : BitVec 32 := 0#32
  c0_i32
@[reducible] def k0_t1_loop (i : grid0.Coords) : Scf.Loop 32 :=
  let c0_i32_16 : BitVec 32 := 0#32
  let arg1 : BitVec 32 := BitVec.ofNat 32 (i 1).val
  let c0_i32_10 : BitVec 32 := 0#32
  let v19 : BitVec 1 := Scalar.cmpi .sgt arg1 c0_i32_10
  let v20 : BitVec 32 := Scalar.extui v19
  let c0_i32_11 : BitVec 32 := 0#32
  let v21 : BitVec 1 := Scalar.cmpi .slt arg1 c0_i32_11
  let v22 : BitVec 32 := Scalar.extui v21
  let v23 : BitVec 32 := Scalar.subi v20 v22
  let c2_i32 : BitVec 32 := 2#32
  let c0_i32_12 : BitVec 32 := 0#32
  let v24 : BitVec 1 := Scalar.cmpi .sgt c2_i32 c0_i32_12
  let v25 : BitVec 32 := Scalar.extui v24
  let c0_i32_13 : BitVec 32 := 0#32
  let v26 : BitVec 1 := Scalar.cmpi .slt c2_i32 c0_i32_13
  let v27 : BitVec 32 := Scalar.extui v26
  let v28 : BitVec 32 := Scalar.subi v25 v27
  let v29 : BitVec 1 := Scalar.cmpi .ne v23 v28
  let v30 : BitVec 32 := Scalar.remsi arg1 c2_i32
  let c0_i32_14 : BitVec 32 := 0#32
  let v31 : BitVec 1 := Scalar.cmpi .ne v30 c0_i32_14
  let v32 : BitVec 1 := Scalar.andi v29 v31
  let v18 : BitVec 32 := Scalar.divsi arg1 c2_i32
  let c1_i32 : BitVec 32 := 1#32
  let v33 : BitVec 32 := Scalar.subi v18 c1_i32
  let v34 : BitVec 32 := Scalar.select v32 v33 v18
  let v35 : BitVec 32 := Scalar.subi v34 c0_i32_16
  let c1_i32_17 : BitVec 32 := 1#32
  let v37 : BitVec 32 := Scalar.divsi v35 c1_i32_17
  let v38 : BitVec 32 := Scalar.muli v37 c1_i32_17
  let v39 : BitVec 32 := Scalar.addi c0_i32_16 v38
  let c1_i32_18 : BitVec 32 := 1#32
  ⟨c0_i32_16, v39, c1_i32_18⟩
def k0_mult2 (i : grid0.Coords) (k0_t1 : Fin (k0_t1_loop i).trips) : BitVec 32 :=
  let c2_i32_35 : BitVec 32 := 2#32
  let c0_i32_16 : BitVec 32 := 0#32
  let c1_i32_18 : BitVec 32 := 1#32
  let arg11 : BitVec 32 := Scf.iv c0_i32_16 c1_i32_18 k0_t1
  let v69 : BitVec 32 := Scalar.muli c2_i32_35 arg11
  let c1_i32_36 : BitVec 32 := 1#32
  let v70 : BitVec 32 := Scalar.addi v69 c1_i32_36
  let c512_i32 : BitVec 32 := 512#32
  let v71 : BitVec 32 := Scalar.muli v70 c512_i32
  v71
def k0_off1 (i : grid0.Coords) (k0_t1 : Fin (k0_t1_loop i).trips) (c1_i32_36 : BitVec 32) : Fin 2 → Nat :=
  let c2_i32_35 : BitVec 32 := 2#32
  let c0_i32_16 : BitVec 32 := 0#32
  let c1_i32_18 : BitVec 32 := 1#32
  let arg11 : BitVec 32 := Scf.iv c0_i32_16 c1_i32_18 k0_t1
  let v69 : BitVec 32 := Scalar.muli c2_i32_35 arg11
  let v70 : BitVec 32 := Scalar.addi v69 c1_i32_36
  let c512_i32 : BitVec 32 := 512#32
  let v71 : BitVec 32 := Scalar.muli v70 c512_i32
  let v72 : BitVec 32 := v71
  let v73 : Index := Scalar.indexCast v72
  let c0_37 : Index := 0#32
  ![v73.toNat, 0]
def k0_mult3 (i : grid0.Coords) (k0_t1 : Fin (k0_t1_loop i).trips) : BitVec 32 :=
  let c2_i32_43 : BitVec 32 := 2#32
  let c0_i32_16 : BitVec 32 := 0#32
  let c1_i32_18 : BitVec 32 := 1#32
  let arg11 : BitVec 32 := Scf.iv c0_i32_16 c1_i32_18 k0_t1
  let v82 : BitVec 32 := Scalar.muli c2_i32_43 arg11
  let c512_i32_44 : BitVec 32 := 512#32
  let v83 : BitVec 32 := Scalar.muli v82 c512_i32_44
  v83
def k0_off2 (i : grid0.Coords) (k0_t1 : Fin (k0_t1_loop i).trips) : Fin 2 → Nat :=
  let c2_i32_43 : BitVec 32 := 2#32
  let c0_i32_16 : BitVec 32 := 0#32
  let c1_i32_18 : BitVec 32 := 1#32
  let arg11 : BitVec 32 := Scf.iv c0_i32_16 c1_i32_18 k0_t1
  let v82 : BitVec 32 := Scalar.muli c2_i32_43 arg11
  let c512_i32_44 : BitVec 32 := 512#32
  let v83 : BitVec 32 := Scalar.muli v82 c512_i32_44
  let v84 : BitVec 32 := v83
  let v85 : Index := Scalar.indexCast v84
  let c0_45 : Index := 0#32
  ![v85.toNat, 0]
def k0_mult4 (i : grid0.Coords) (k0_t1 : Fin (k0_t1_loop i).trips) : BitVec 32 :=
  let c2_i32_58 : BitVec 32 := 2#32
  let c0_i32_16 : BitVec 32 := 0#32
  let c1_i32_18 : BitVec 32 := 1#32
  let arg11 : BitVec 32 := Scf.iv c0_i32_16 c1_i32_18 k0_t1
  let v110 : BitVec 32 := Scalar.muli c2_i32_58 arg11
  let c2_i32_59 : BitVec 32 := 2#32
  let v111 : BitVec 32 := Scalar.addi v110 c2_i32_59
  let c512_i32_60 : BitVec 32 := 512#32
  let v112 : BitVec 32 := Scalar.muli v111 c512_i32_60
  v112
def k0_mult5 (i : grid0.Coords) (k0_t1 : Fin (k0_t1_loop i).trips) : BitVec 32 :=
  let c2_i32_67 : BitVec 32 := 2#32
  let c0_i32_16 : BitVec 32 := 0#32
  let c1_i32_18 : BitVec 32 := 1#32
  let arg11 : BitVec 32 := Scf.iv c0_i32_16 c1_i32_18 k0_t1
  let v123 : BitVec 32 := Scalar.muli c2_i32_67 arg11
  let c1_i32_68 : BitVec 32 := 1#32
  let v124 : BitVec 32 := Scalar.addi v123 c1_i32_68
  let c512_i32_69 : BitVec 32 := 512#32
  let v125 : BitVec 32 := Scalar.muli v124 c512_i32_69
  v125
@[reducible] def k0_t2_loop (i : grid0.Coords) : Scf.Loop 32 :=
  let c0_i32_16 : BitVec 32 := 0#32
  let arg1 : BitVec 32 := BitVec.ofNat 32 (i 1).val
  let c0_i32_10 : BitVec 32 := 0#32
  let v19 : BitVec 1 := Scalar.cmpi .sgt arg1 c0_i32_10
  let v20 : BitVec 32 := Scalar.extui v19
  let c0_i32_11 : BitVec 32 := 0#32
  let v21 : BitVec 1 := Scalar.cmpi .slt arg1 c0_i32_11
  let v22 : BitVec 32 := Scalar.extui v21
  let v23 : BitVec 32 := Scalar.subi v20 v22
  let c2_i32 : BitVec 32 := 2#32
  let c0_i32_12 : BitVec 32 := 0#32
  let v24 : BitVec 1 := Scalar.cmpi .sgt c2_i32 c0_i32_12
  let v25 : BitVec 32 := Scalar.extui v24
  let c0_i32_13 : BitVec 32 := 0#32
  let v26 : BitVec 1 := Scalar.cmpi .slt c2_i32 c0_i32_13
  let v27 : BitVec 32 := Scalar.extui v26
  let v28 : BitVec 32 := Scalar.subi v25 v27
  let v29 : BitVec 1 := Scalar.cmpi .ne v23 v28
  let v30 : BitVec 32 := Scalar.remsi arg1 c2_i32
  let c0_i32_14 : BitVec 32 := 0#32
  let v31 : BitVec 1 := Scalar.cmpi .ne v30 c0_i32_14
  let v32 : BitVec 1 := Scalar.andi v29 v31
  let v18 : BitVec 32 := Scalar.divsi arg1 c2_i32
  let c1_i32 : BitVec 32 := 1#32
  let v33 : BitVec 32 := Scalar.subi v18 c1_i32
  let v34 : BitVec 32 := Scalar.select v32 v33 v18
  let v35 : BitVec 32 := Scalar.subi v34 c0_i32_16
  let c1_i32_17 : BitVec 32 := 1#32
  let v37 : BitVec 32 := Scalar.divsi v35 c1_i32_17
  let v38 : BitVec 32 := Scalar.muli v37 c1_i32_17
  let v39 : BitVec 32 := Scalar.addi c0_i32_16 v38
  let v36 : BitVec 32 := Scalar.addi c0_i32_16 v35
  let c1_i32_19 : BitVec 32 := 1#32
  ⟨v39, v36, c1_i32_19⟩
def k0_mult6 (i : grid0.Coords) (k0_t2 : Fin (k0_t2_loop i).trips) : BitVec 32 :=
  let c2_i32_35 : BitVec 32 := 2#32
  let c0_i32_16 : BitVec 32 := 0#32
  let arg1 : BitVec 32 := BitVec.ofNat 32 (i 1).val
  let c0_i32_10 : BitVec 32 := 0#32
  let v19 : BitVec 1 := Scalar.cmpi .sgt arg1 c0_i32_10
  let v20 : BitVec 32 := Scalar.extui v19
  let c0_i32_11 : BitVec 32 := 0#32
  let v21 : BitVec 1 := Scalar.cmpi .slt arg1 c0_i32_11
  let v22 : BitVec 32 := Scalar.extui v21
  let v23 : BitVec 32 := Scalar.subi v20 v22
  let c2_i32 : BitVec 32 := 2#32
  let c0_i32_12 : BitVec 32 := 0#32
  let v24 : BitVec 1 := Scalar.cmpi .sgt c2_i32 c0_i32_12
  let v25 : BitVec 32 := Scalar.extui v24
  let c0_i32_13 : BitVec 32 := 0#32
  let v26 : BitVec 1 := Scalar.cmpi .slt c2_i32 c0_i32_13
  let v27 : BitVec 32 := Scalar.extui v26
  let v28 : BitVec 32 := Scalar.subi v25 v27
  let v29 : BitVec 1 := Scalar.cmpi .ne v23 v28
  let v30 : BitVec 32 := Scalar.remsi arg1 c2_i32
  let c0_i32_14 : BitVec 32 := 0#32
  let v31 : BitVec 1 := Scalar.cmpi .ne v30 c0_i32_14
  let v32 : BitVec 1 := Scalar.andi v29 v31
  let v18 : BitVec 32 := Scalar.divsi arg1 c2_i32
  let c1_i32 : BitVec 32 := 1#32
  let v33 : BitVec 32 := Scalar.subi v18 c1_i32
  let v34 : BitVec 32 := Scalar.select v32 v33 v18
  let v35 : BitVec 32 := Scalar.subi v34 c0_i32_16
  let c1_i32_17 : BitVec 32 := 1#32
  let v37 : BitVec 32 := Scalar.divsi v35 c1_i32_17
  let v38 : BitVec 32 := Scalar.muli v37 c1_i32_17
  let v39 : BitVec 32 := Scalar.addi c0_i32_16 v38
  let c1_i32_19 : BitVec 32 := 1#32
  let arg11 : BitVec 32 := Scf.iv v39 c1_i32_19 k0_t2
  let v69 : BitVec 32 := Scalar.muli c2_i32_35 arg11
  let c1_i32_36 : BitVec 32 := 1#32
  let v70 : BitVec 32 := Scalar.addi v69 c1_i32_36
  let c512_i32 : BitVec 32 := 512#32
  let v71 : BitVec 32 := Scalar.muli v70 c512_i32
  v71
def k0_off3 (i : grid0.Coords) (k0_t2 : Fin (k0_t2_loop i).trips) (c1_i32_36 : BitVec 32) : Fin 2 → Nat :=
  let c2_i32_35 : BitVec 32 := 2#32
  let c0_i32_16 : BitVec 32 := 0#32
  let arg1 : BitVec 32 := BitVec.ofNat 32 (i 1).val
  let c0_i32_10 : BitVec 32 := 0#32
  let v19 : BitVec 1 := Scalar.cmpi .sgt arg1 c0_i32_10
  let v20 : BitVec 32 := Scalar.extui v19
  let c0_i32_11 : BitVec 32 := 0#32
  let v21 : BitVec 1 := Scalar.cmpi .slt arg1 c0_i32_11
  let v22 : BitVec 32 := Scalar.extui v21
  let v23 : BitVec 32 := Scalar.subi v20 v22
  let c2_i32 : BitVec 32 := 2#32
  let c0_i32_12 : BitVec 32 := 0#32
  let v24 : BitVec 1 := Scalar.cmpi .sgt c2_i32 c0_i32_12
  let v25 : BitVec 32 := Scalar.extui v24
  let c0_i32_13 : BitVec 32 := 0#32
  let v26 : BitVec 1 := Scalar.cmpi .slt c2_i32 c0_i32_13
  let v27 : BitVec 32 := Scalar.extui v26
  let v28 : BitVec 32 := Scalar.subi v25 v27
  let v29 : BitVec 1 := Scalar.cmpi .ne v23 v28
  let v30 : BitVec 32 := Scalar.remsi arg1 c2_i32
  let c0_i32_14 : BitVec 32 := 0#32
  let v31 : BitVec 1 := Scalar.cmpi .ne v30 c0_i32_14
  let v32 : BitVec 1 := Scalar.andi v29 v31
  let v18 : BitVec 32 := Scalar.divsi arg1 c2_i32
  let c1_i32 : BitVec 32 := 1#32
  let v33 : BitVec 32 := Scalar.subi v18 c1_i32
  let v34 : BitVec 32 := Scalar.select v32 v33 v18
  let v35 : BitVec 32 := Scalar.subi v34 c0_i32_16
  let c1_i32_17 : BitVec 32 := 1#32
  let v37 : BitVec 32 := Scalar.divsi v35 c1_i32_17
  let v38 : BitVec 32 := Scalar.muli v37 c1_i32_17
  let v39 : BitVec 32 := Scalar.addi c0_i32_16 v38
  let c1_i32_19 : BitVec 32 := 1#32
  let arg11 : BitVec 32 := Scf.iv v39 c1_i32_19 k0_t2
  let v69 : BitVec 32 := Scalar.muli c2_i32_35 arg11
  let v70 : BitVec 32 := Scalar.addi v69 c1_i32_36
  let c512_i32 : BitVec 32 := 512#32
  let v71 : BitVec 32 := Scalar.muli v70 c512_i32
  let v72 : BitVec 32 := v71
  let v73 : Index := Scalar.indexCast v72
  let c0_37 : Index := 0#32
  ![v73.toNat, 0]
def k0_mult7 (i : grid0.Coords) (k0_t2 : Fin (k0_t2_loop i).trips) : BitVec 32 :=
  let c2_i32_43 : BitVec 32 := 2#32
  let c0_i32_16 : BitVec 32 := 0#32
  let arg1 : BitVec 32 := BitVec.ofNat 32 (i 1).val
  let c0_i32_10 : BitVec 32 := 0#32
  let v19 : BitVec 1 := Scalar.cmpi .sgt arg1 c0_i32_10
  let v20 : BitVec 32 := Scalar.extui v19
  let c0_i32_11 : BitVec 32 := 0#32
  let v21 : BitVec 1 := Scalar.cmpi .slt arg1 c0_i32_11
  let v22 : BitVec 32 := Scalar.extui v21
  let v23 : BitVec 32 := Scalar.subi v20 v22
  let c2_i32 : BitVec 32 := 2#32
  let c0_i32_12 : BitVec 32 := 0#32
  let v24 : BitVec 1 := Scalar.cmpi .sgt c2_i32 c0_i32_12
  let v25 : BitVec 32 := Scalar.extui v24
  let c0_i32_13 : BitVec 32 := 0#32
  let v26 : BitVec 1 := Scalar.cmpi .slt c2_i32 c0_i32_13
  let v27 : BitVec 32 := Scalar.extui v26
  let v28 : BitVec 32 := Scalar.subi v25 v27
  let v29 : BitVec 1 := Scalar.cmpi .ne v23 v28
  let v30 : BitVec 32 := Scalar.remsi arg1 c2_i32
  let c0_i32_14 : BitVec 32 := 0#32
  let v31 : BitVec 1 := Scalar.cmpi .ne v30 c0_i32_14
  let v32 : BitVec 1 := Scalar.andi v29 v31
  let v18 : BitVec 32 := Scalar.divsi arg1 c2_i32
  let c1_i32 : BitVec 32 := 1#32
  let v33 : BitVec 32 := Scalar.subi v18 c1_i32
  let v34 : BitVec 32 := Scalar.select v32 v33 v18
  let v35 : BitVec 32 := Scalar.subi v34 c0_i32_16
  let c1_i32_17 : BitVec 32 := 1#32
  let v37 : BitVec 32 := Scalar.divsi v35 c1_i32_17
  let v38 : BitVec 32 := Scalar.muli v37 c1_i32_17
  let v39 : BitVec 32 := Scalar.addi c0_i32_16 v38
  let c1_i32_19 : BitVec 32 := 1#32
  let arg11 : BitVec 32 := Scf.iv v39 c1_i32_19 k0_t2
  let v82 : BitVec 32 := Scalar.muli c2_i32_43 arg11
  let c512_i32_44 : BitVec 32 := 512#32
  let v83 : BitVec 32 := Scalar.muli v82 c512_i32_44
  v83
def k0_off4 (i : grid0.Coords) (k0_t2 : Fin (k0_t2_loop i).trips) : Fin 2 → Nat :=
  let c2_i32_43 : BitVec 32 := 2#32
  let c0_i32_16 : BitVec 32 := 0#32
  let arg1 : BitVec 32 := BitVec.ofNat 32 (i 1).val
  let c0_i32_10 : BitVec 32 := 0#32
  let v19 : BitVec 1 := Scalar.cmpi .sgt arg1 c0_i32_10
  let v20 : BitVec 32 := Scalar.extui v19
  let c0_i32_11 : BitVec 32 := 0#32
  let v21 : BitVec 1 := Scalar.cmpi .slt arg1 c0_i32_11
  let v22 : BitVec 32 := Scalar.extui v21
  let v23 : BitVec 32 := Scalar.subi v20 v22
  let c2_i32 : BitVec 32 := 2#32
  let c0_i32_12 : BitVec 32 := 0#32
  let v24 : BitVec 1 := Scalar.cmpi .sgt c2_i32 c0_i32_12
  let v25 : BitVec 32 := Scalar.extui v24
  let c0_i32_13 : BitVec 32 := 0#32
  let v26 : BitVec 1 := Scalar.cmpi .slt c2_i32 c0_i32_13
  let v27 : BitVec 32 := Scalar.extui v26
  let v28 : BitVec 32 := Scalar.subi v25 v27
  let v29 : BitVec 1 := Scalar.cmpi .ne v23 v28
  let v30 : BitVec 32 := Scalar.remsi arg1 c2_i32
  let c0_i32_14 : BitVec 32 := 0#32
  let v31 : BitVec 1 := Scalar.cmpi .ne v30 c0_i32_14
  let v32 : BitVec 1 := Scalar.andi v29 v31
  let v18 : BitVec 32 := Scalar.divsi arg1 c2_i32
  let c1_i32 : BitVec 32 := 1#32
  let v33 : BitVec 32 := Scalar.subi v18 c1_i32
  let v34 : BitVec 32 := Scalar.select v32 v33 v18
  let v35 : BitVec 32 := Scalar.subi v34 c0_i32_16
  let c1_i32_17 : BitVec 32 := 1#32
  let v37 : BitVec 32 := Scalar.divsi v35 c1_i32_17
  let v38 : BitVec 32 := Scalar.muli v37 c1_i32_17
  let v39 : BitVec 32 := Scalar.addi c0_i32_16 v38
  let c1_i32_19 : BitVec 32 := 1#32
  let arg11 : BitVec 32 := Scf.iv v39 c1_i32_19 k0_t2
  let v82 : BitVec 32 := Scalar.muli c2_i32_43 arg11
  let c512_i32_44 : BitVec 32 := 512#32
  let v83 : BitVec 32 := Scalar.muli v82 c512_i32_44
  let v84 : BitVec 32 := v83
  let v85 : Index := Scalar.indexCast v84
  let c0_45 : Index := 0#32
  ![v85.toNat, 0]
def k0_mult8 (i : grid0.Coords) (k0_t2 : Fin (k0_t2_loop i).trips) : BitVec 32 :=
  let c2_i32_58 : BitVec 32 := 2#32
  let c0_i32_16 : BitVec 32 := 0#32
  let arg1 : BitVec 32 := BitVec.ofNat 32 (i 1).val
  let c0_i32_10 : BitVec 32 := 0#32
  let v19 : BitVec 1 := Scalar.cmpi .sgt arg1 c0_i32_10
  let v20 : BitVec 32 := Scalar.extui v19
  let c0_i32_11 : BitVec 32 := 0#32
  let v21 : BitVec 1 := Scalar.cmpi .slt arg1 c0_i32_11
  let v22 : BitVec 32 := Scalar.extui v21
  let v23 : BitVec 32 := Scalar.subi v20 v22
  let c2_i32 : BitVec 32 := 2#32
  let c0_i32_12 : BitVec 32 := 0#32
  let v24 : BitVec 1 := Scalar.cmpi .sgt c2_i32 c0_i32_12
  let v25 : BitVec 32 := Scalar.extui v24
  let c0_i32_13 : BitVec 32 := 0#32
  let v26 : BitVec 1 := Scalar.cmpi .slt c2_i32 c0_i32_13
  let v27 : BitVec 32 := Scalar.extui v26
  let v28 : BitVec 32 := Scalar.subi v25 v27
  let v29 : BitVec 1 := Scalar.cmpi .ne v23 v28
  let v30 : BitVec 32 := Scalar.remsi arg1 c2_i32
  let c0_i32_14 : BitVec 32 := 0#32
  let v31 : BitVec 1 := Scalar.cmpi .ne v30 c0_i32_14
  let v32 : BitVec 1 := Scalar.andi v29 v31
  let v18 : BitVec 32 := Scalar.divsi arg1 c2_i32
  let c1_i32 : BitVec 32 := 1#32
  let v33 : BitVec 32 := Scalar.subi v18 c1_i32
  let v34 : BitVec 32 := Scalar.select v32 v33 v18
  let v35 : BitVec 32 := Scalar.subi v34 c0_i32_16
  let c1_i32_17 : BitVec 32 := 1#32
  let v37 : BitVec 32 := Scalar.divsi v35 c1_i32_17
  let v38 : BitVec 32 := Scalar.muli v37 c1_i32_17
  let v39 : BitVec 32 := Scalar.addi c0_i32_16 v38
  let c1_i32_19 : BitVec 32 := 1#32
  let arg11 : BitVec 32 := Scf.iv v39 c1_i32_19 k0_t2
  let v110 : BitVec 32 := Scalar.muli c2_i32_58 arg11
  let c2_i32_59 : BitVec 32 := 2#32
  let v111 : BitVec 32 := Scalar.addi v110 c2_i32_59
  let c512_i32_60 : BitVec 32 := 512#32
  let v112 : BitVec 32 := Scalar.muli v111 c512_i32_60
  v112
def k0_mult9 (i : grid0.Coords) (k0_t2 : Fin (k0_t2_loop i).trips) : BitVec 32 :=
  let c2_i32_67 : BitVec 32 := 2#32
  let c0_i32_16 : BitVec 32 := 0#32
  let arg1 : BitVec 32 := BitVec.ofNat 32 (i 1).val
  let c0_i32_10 : BitVec 32 := 0#32
  let v19 : BitVec 1 := Scalar.cmpi .sgt arg1 c0_i32_10
  let v20 : BitVec 32 := Scalar.extui v19
  let c0_i32_11 : BitVec 32 := 0#32
  let v21 : BitVec 1 := Scalar.cmpi .slt arg1 c0_i32_11
  let v22 : BitVec 32 := Scalar.extui v21
  let v23 : BitVec 32 := Scalar.subi v20 v22
  let c2_i32 : BitVec 32 := 2#32
  let c0_i32_12 : BitVec 32 := 0#32
  let v24 : BitVec 1 := Scalar.cmpi .sgt c2_i32 c0_i32_12
  let v25 : BitVec 32 := Scalar.extui v24
  let c0_i32_13 : BitVec 32 := 0#32
  let v26 : BitVec 1 := Scalar.cmpi .slt c2_i32 c0_i32_13
  let v27 : BitVec 32 := Scalar.extui v26
  let v28 : BitVec 32 := Scalar.subi v25 v27
  let v29 : BitVec 1 := Scalar.cmpi .ne v23 v28
  let v30 : BitVec 32 := Scalar.remsi arg1 c2_i32
  let c0_i32_14 : BitVec 32 := 0#32
  let v31 : BitVec 1 := Scalar.cmpi .ne v30 c0_i32_14
  let v32 : BitVec 1 := Scalar.andi v29 v31
  let v18 : BitVec 32 := Scalar.divsi arg1 c2_i32
  let c1_i32 : BitVec 32 := 1#32
  let v33 : BitVec 32 := Scalar.subi v18 c1_i32
  let v34 : BitVec 32 := Scalar.select v32 v33 v18
  let v35 : BitVec 32 := Scalar.subi v34 c0_i32_16
  let c1_i32_17 : BitVec 32 := 1#32
  let v37 : BitVec 32 := Scalar.divsi v35 c1_i32_17
  let v38 : BitVec 32 := Scalar.muli v37 c1_i32_17
  let v39 : BitVec 32 := Scalar.addi c0_i32_16 v38
  let c1_i32_19 : BitVec 32 := 1#32
  let arg11 : BitVec 32 := Scf.iv v39 c1_i32_19 k0_t2
  let v123 : BitVec 32 := Scalar.muli c2_i32_67 arg11
  let c1_i32_68 : BitVec 32 := 1#32
  let v124 : BitVec 32 := Scalar.addi v123 c1_i32_68
  let c512_i32_69 : BitVec 32 := 512#32
  let v125 : BitVec 32 := Scalar.muli v124 c512_i32_69
  v125
def k0_cond1 (i : grid0.Coords) : BitVec 1 :=
  let c2_i32_20 : BitVec 32 := 2#32
  let arg1 : BitVec 32 := BitVec.ofNat 32 (i 1).val
  let c0_i32_10 : BitVec 32 := 0#32
  let v19 : BitVec 1 := Scalar.cmpi .sgt arg1 c0_i32_10
  let v20 : BitVec 32 := Scalar.extui v19
  let c0_i32_11 : BitVec 32 := 0#32
  let v21 : BitVec 1 := Scalar.cmpi .slt arg1 c0_i32_11
  let v22 : BitVec 32 := Scalar.extui v21
  let v23 : BitVec 32 := Scalar.subi v20 v22
  let c2_i32 : BitVec 32 := 2#32
  let c0_i32_12 : BitVec 32 := 0#32
  let v24 : BitVec 1 := Scalar.cmpi .sgt c2_i32 c0_i32_12
  let v25 : BitVec 32 := Scalar.extui v24
  let c0_i32_13 : BitVec 32 := 0#32
  let v26 : BitVec 1 := Scalar.cmpi .slt c2_i32 c0_i32_13
  let v27 : BitVec 32 := Scalar.extui v26
  let v28 : BitVec 32 := Scalar.subi v25 v27
  let v29 : BitVec 1 := Scalar.cmpi .ne v23 v28
  let v30 : BitVec 32 := Scalar.remsi arg1 c2_i32
  let c0_i32_14 : BitVec 32 := 0#32
  let v31 : BitVec 1 := Scalar.cmpi .ne v30 c0_i32_14
  let v32 : BitVec 1 := Scalar.andi v29 v31
  let v18 : BitVec 32 := Scalar.divsi arg1 c2_i32
  let c1_i32 : BitVec 32 := 1#32
  let v33 : BitVec 32 := Scalar.subi v18 c1_i32
  let v34 : BitVec 32 := Scalar.select v32 v33 v18
  let v40 : BitVec 32 := Scalar.muli c2_i32_20 v34
  let v41 : BitVec 1 := Scalar.cmpi .eq v40 arg1
  let v42 : BitVec 32 := Scalar.extui v41
  let c0_i32_21 : BitVec 32 := 0#32
  let v43 : BitVec 1 := Scalar.cmpi .ne v42 c0_i32_21
  v43

def k0_mult10 (i : grid0.Coords) : BitVec 32 :=
  let arg1 : BitVec 32 := BitVec.ofNat 32 (i 1).val
  let c512_i32 : BitVec 32 := 512#32
  let v69 : BitVec 32 := Scalar.muli arg1 c512_i32
  v69
def k0_off5 (i : grid0.Coords) : Fin 2 → Nat :=
  let arg1 : BitVec 32 := BitVec.ofNat 32 (i 1).val
  let c512_i32 : BitVec 32 := 512#32
  let v69 : BitVec 32 := Scalar.muli arg1 c512_i32
  let v70 : BitVec 32 := v69
  let v71 : Index := Scalar.indexCast v70
  let c0_35 : Index := 0#32
  ![v71.toNat, 0]
def k0_cond2 (i : grid0.Coords) : BitVec 1 :=
  let c2_i32_22 : BitVec 32 := 2#32
  let arg1 : BitVec 32 := BitVec.ofNat 32 (i 1).val
  let c0_i32_10 : BitVec 32 := 0#32
  let v19 : BitVec 1 := Scalar.cmpi .sgt arg1 c0_i32_10
  let v20 : BitVec 32 := Scalar.extui v19
  let c0_i32_11 : BitVec 32 := 0#32
  let v21 : BitVec 1 := Scalar.cmpi .slt arg1 c0_i32_11
  let v22 : BitVec 32 := Scalar.extui v21
  let v23 : BitVec 32 := Scalar.subi v20 v22
  let c2_i32 : BitVec 32 := 2#32
  let c0_i32_12 : BitVec 32 := 0#32
  let v24 : BitVec 1 := Scalar.cmpi .sgt c2_i32 c0_i32_12
  let v25 : BitVec 32 := Scalar.extui v24
  let c0_i32_13 : BitVec 32 := 0#32
  let v26 : BitVec 1 := Scalar.cmpi .slt c2_i32 c0_i32_13
  let v27 : BitVec 32 := Scalar.extui v26
  let v28 : BitVec 32 := Scalar.subi v25 v27
  let v29 : BitVec 1 := Scalar.cmpi .ne v23 v28
  let v30 : BitVec 32 := Scalar.remsi arg1 c2_i32
  let c0_i32_14 : BitVec 32 := 0#32
  let v31 : BitVec 1 := Scalar.cmpi .ne v30 c0_i32_14
  let v32 : BitVec 1 := Scalar.andi v29 v31
  let v18 : BitVec 32 := Scalar.divsi arg1 c2_i32
  let c1_i32 : BitVec 32 := 1#32
  let v33 : BitVec 32 := Scalar.subi v18 c1_i32
  let v34 : BitVec 32 := Scalar.select v32 v33 v18
  let v44 : BitVec 32 := Scalar.muli c2_i32_22 v34
  let v45 : BitVec 1 := Scalar.cmpi .ne v44 arg1
  let v46 : BitVec 32 := Scalar.extui v45
  let c0_i32_23 : BitVec 32 := 0#32
  let v47 : BitVec 1 := Scalar.cmpi .ne v46 c0_i32_23
  v47

def k0_mult11 (i : grid0.Coords) : BitVec 32 :=
  let arg1 : BitVec 32 := BitVec.ofNat 32 (i 1).val
  let c512_i32 : BitVec 32 := 512#32
  let v69 : BitVec 32 := Scalar.muli arg1 c512_i32
  v69
def k0_off6 (i : grid0.Coords) : Fin 2 → Nat :=
  let arg1 : BitVec 32 := BitVec.ofNat 32 (i 1).val
  let c512_i32 : BitVec 32 := 512#32
  let v69 : BitVec 32 := Scalar.muli arg1 c512_i32
  let v70 : BitVec 32 := v69
  let v71 : Index := Scalar.indexCast v70
  let c0_35 : Index := 0#32
  ![v71.toNat, 0]
def k0_mult12 (i : grid0.Coords) : BitVec 32 :=
  let arg1 : BitVec 32 := BitVec.ofNat 32 (i 1).val
  let c1_i32_41 : BitVec 32 := 1#32
  let v80 : BitVec 32 := Scalar.subi arg1 c1_i32_41
  let c512_i32_42 : BitVec 32 := 512#32
  let v81 : BitVec 32 := Scalar.muli v80 c512_i32_42
  v81
def k0_off7 (i : grid0.Coords) : Fin 2 → Nat :=
  let arg1 : BitVec 32 := BitVec.ofNat 32 (i 1).val
  let c1_i32_41 : BitVec 32 := 1#32
  let v80 : BitVec 32 := Scalar.subi arg1 c1_i32_41
  let c512_i32_42 : BitVec 32 := 512#32
  let v81 : BitVec 32 := Scalar.muli v80 c512_i32_42
  let v82 : BitVec 32 := v81
  let v83 : Index := Scalar.indexCast v82
  let c0_43 : Index := 0#32
  ![v83.toNat, 0]
def k0_mult13 (i : grid0.Coords) : BitVec 32 :=
  let arg1 : BitVec 32 := BitVec.ofNat 32 (i 1).val
  let c512_i32_56 : BitVec 32 := 512#32
  let v108 : BitVec 32 := Scalar.muli arg1 c512_i32_56
  v108
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S2048x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x4x8x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![8, 32], ![false, false]⟩

def k2_mult1 (i : grid2.Coords) : BitVec 32 :=
  let arg1 : BitVec 32 := BitVec.ofNat 32 (i 1).val
  let c512_i32 : BitVec 32 := 512#32
  let v13 : BitVec 32 := Scalar.muli arg1 c512_i32
  v13
def k2_off1 (i : grid2.Coords) : Fin 2 → Nat :=
  let arg1 : BitVec 32 := BitVec.ofNat 32 (i 1).val
  let c512_i32 : BitVec 32 := 512#32
  let v13 : BitVec 32 := Scalar.muli arg1 c512_i32
  let v14 : BitVec 32 := v13
  let v15 : Index := Scalar.indexCast v14
  let c0_7 : Index := 0#32
  ![v15.toNat, 0]
def k2_mult2 (i : grid2.Coords) : BitVec 32 :=
  let arg1 : BitVec 32 := BitVec.ofNat 32 (i 1).val
  let c512_i32_13 : BitVec 32 := 512#32
  let v24 : BitVec 32 := Scalar.muli arg1 c512_i32_13
  v24
def k2_mult3 (i : grid2.Coords) : BitVec 32 :=
  let arg1 : BitVec 32 := BitVec.ofNat 32 (i 1).val
  let c1_i32 : BitVec 32 := 1#32
  let v33 : BitVec 32 := Scalar.addi arg1 c1_i32
  let c31_i32 : BitVec 32 := 31#32
  let v34 : BitVec 32 := Scalar.minsi v33 c31_i32
  let c512_i32_20 : BitVec 32 := 512#32
  let v37 : BitVec 32 := Scalar.muli v34 c512_i32_20
  v37
def k2_off2 (i : grid2.Coords) : Fin 2 → Nat :=
  let arg1 : BitVec 32 := BitVec.ofNat 32 (i 1).val
  let c1_i32 : BitVec 32 := 1#32
  let v33 : BitVec 32 := Scalar.addi arg1 c1_i32
  let c31_i32 : BitVec 32 := 31#32
  let v34 : BitVec 32 := Scalar.minsi v33 c31_i32
  let c512_i32_20 : BitVec 32 := 512#32
  let v37 : BitVec 32 := Scalar.muli v34 c512_i32_20
  let v38 : BitVec 32 := v37
  let v39 : Index := Scalar.indexCast v38
  let c0_21 : Index := 0#32
  ![v39.toNat, 0]
def k2_mult4 (i : grid2.Coords) : BitVec 32 :=
  let arg1 : BitVec 32 := BitVec.ofNat 32 (i 1).val
  let c1_i32 : BitVec 32 := 1#32
  let v33 : BitVec 32 := Scalar.addi arg1 c1_i32
  let c31_i32 : BitVec 32 := 31#32
  let v34 : BitVec 32 := Scalar.minsi v33 c31_i32
  let c512_i32_27 : BitVec 32 := 512#32
  let v48 : BitVec 32 := Scalar.muli v34 c512_i32_27
  v48
def k2_mult5 (i : grid2.Coords) : BitVec 32 :=
  let arg1 : BitVec 32 := BitVec.ofNat 32 (i 1).val
  let c512_i32_32 : BitVec 32 := 512#32
  let v57 : BitVec 32 := Scalar.muli arg1 c512_i32_32
  v57
def k2_mult6 (i : grid2.Coords) : BitVec 32 :=
  let arg1 : BitVec 32 := BitVec.ofNat 32 (i 1).val
  let c512_i32_34 : BitVec 32 := 512#32
  let v62 : BitVec 32 := Scalar.muli arg1 c512_i32_34
  v62
def k2_off3 (i : grid2.Coords) : Fin 4 → Nat :=
  let c0_38 : Index := 0#32
  let arg1 : BitVec 32 := BitVec.ofNat 32 (i 1).val
  let v68 : Index := Scalar.indexCast arg1
  let c0_39 : Index := 0#32
  let c0_40 : Index := 0#32
  ![0, v68.toNat, 0, 0]
def k2_mult7 (i : grid2.Coords) : BitVec 32 :=
  let arg1 : BitVec 32 := BitVec.ofNat 32 (i 1).val
  let c512_i32_57 : BitVec 32 := 512#32
  let v101 : BitVec 32 := Scalar.muli arg1 c512_i32_57
  v101
@[reducible] def k2_t1_loop (i : grid2.Coords) : Scf.Loop 32 :=
  let c0_i32_71 : BitVec 32 := 0#32
  let c31_i32_63 : BitVec 32 := 31#32
  let arg1 : BitVec 32 := BitVec.ofNat 32 (i 1).val
  let v112 : BitVec 32 := Scalar.subi c31_i32_63 arg1
  let c0_i32_64 : BitVec 32 := 0#32
  let v114 : BitVec 1 := Scalar.cmpi .sgt v112 c0_i32_64
  let v115 : BitVec 32 := Scalar.extui v114
  let c0_i32_65 : BitVec 32 := 0#32
  let v116 : BitVec 1 := Scalar.cmpi .slt v112 c0_i32_65
  let v117 : BitVec 32 := Scalar.extui v116
  let v118 : BitVec 32 := Scalar.subi v115 v117
  let c2_i32 : BitVec 32 := 2#32
  let c0_i32_66 : BitVec 32 := 0#32
  let v119 : BitVec 1 := Scalar.cmpi .sgt c2_i32 c0_i32_66
  let v120 : BitVec 32 := Scalar.extui v119
  let c0_i32_67 : BitVec 32 := 0#32
  let v121 : BitVec 1 := Scalar.cmpi .slt c2_i32 c0_i32_67
  let v122 : BitVec 32 := Scalar.extui v121
  let v123 : BitVec 32 := Scalar.subi v120 v122
  let v124 : BitVec 1 := Scalar.cmpi .ne v118 v123
  let v125 : BitVec 32 := Scalar.remsi v112 c2_i32
  let c0_i32_68 : BitVec 32 := 0#32
  let v126 : BitVec 1 := Scalar.cmpi .ne v125 c0_i32_68
  let v127 : BitVec 1 := Scalar.andi v124 v126
  let v113 : BitVec 32 := Scalar.divsi v112 c2_i32
  let c1_i32_69 : BitVec 32 := 1#32
  let v128 : BitVec 32 := Scalar.subi v113 c1_i32_69
  let v129 : BitVec 32 := Scalar.select v127 v128 v113
  let v130 : BitVec 32 := Scalar.subi v129 c0_i32_71
  let c1_i32_72 : BitVec 32 := 1#32
  let v132 : BitVec 32 := Scalar.divsi v130 c1_i32_72
  let v133 : BitVec 32 := Scalar.muli v132 c1_i32_72
  let v134 : BitVec 32 := Scalar.addi c0_i32_71 v133
  let c1_i32_73 : BitVec 32 := 1#32
  ⟨c0_i32_71, v134, c1_i32_73⟩
def k2_mult8 (i : grid2.Coords) (k2_t1 : Fin (k2_t1_loop i).trips) : BitVec 32 :=
  let arg1 : BitVec 32 := BitVec.ofNat 32 (i 1).val
  let c1_i32_85 : BitVec 32 := 1#32
  let v145 : BitVec 32 := Scalar.addi arg1 c1_i32_85
  let c2_i32_86 : BitVec 32 := 2#32
  let c0_i32_71 : BitVec 32 := 0#32
  let c1_i32_73 : BitVec 32 := 1#32
  let arg17 : BitVec 32 := Scf.iv c0_i32_71 c1_i32_73 k2_t1
  let v146 : BitVec 32 := Scalar.muli c2_i32_86 arg17
  let v147 : BitVec 32 := Scalar.addi v145 v146
  let c1_i32_87 : BitVec 32 := 1#32
  let v148 : BitVec 32 := Scalar.addi v147 c1_i32_87
  let c512_i32_90 : BitVec 32 := 512#32
  let v151 : BitVec 32 := Scalar.muli v148 c512_i32_90
  v151
def k2_off4 (i : grid2.Coords) (k2_t1 : Fin (k2_t1_loop i).trips) : Fin 2 → Nat :=
  let arg1 : BitVec 32 := BitVec.ofNat 32 (i 1).val
  let c1_i32_85 : BitVec 32 := 1#32
  let v145 : BitVec 32 := Scalar.addi arg1 c1_i32_85
  let c2_i32_86 : BitVec 32 := 2#32
  let c0_i32_71 : BitVec 32 := 0#32
  let c1_i32_73 : BitVec 32 := 1#32
  let arg17 : BitVec 32 := Scf.iv c0_i32_71 c1_i32_73 k2_t1
  let v146 : BitVec 32 := Scalar.muli c2_i32_86 arg17
  let v147 : BitVec 32 := Scalar.addi v145 v146
  let c1_i32_87 : BitVec 32 := 1#32
  let v148 : BitVec 32 := Scalar.addi v147 c1_i32_87
  let c512_i32_90 : BitVec 32 := 512#32
  let v151 : BitVec 32 := Scalar.muli v148 c512_i32_90
  let v152 : BitVec 32 := v151
  let v153 : Index := Scalar.indexCast v152
  let c0_91 : Index := 0#32
  ![v153.toNat, 0]
def k2_mult9 (i : grid2.Coords) (k2_t1 : Fin (k2_t1_loop i).trips) : BitVec 32 :=
  let arg1 : BitVec 32 := BitVec.ofNat 32 (i 1).val
  let c1_i32_85 : BitVec 32 := 1#32
  let v145 : BitVec 32 := Scalar.addi arg1 c1_i32_85
  let c2_i32_86 : BitVec 32 := 2#32
  let c0_i32_71 : BitVec 32 := 0#32
  let c1_i32_73 : BitVec 32 := 1#32
  let arg17 : BitVec 32 := Scf.iv c0_i32_71 c1_i32_73 k2_t1
  let v146 : BitVec 32 := Scalar.muli c2_i32_86 arg17
  let v147 : BitVec 32 := Scalar.addi v145 v146
  let c1_i32_87 : BitVec 32 := 1#32
  let v148 : BitVec 32 := Scalar.addi v147 c1_i32_87
  let c512_i32_97 : BitVec 32 := 512#32
  let v162 : BitVec 32 := Scalar.muli v148 c512_i32_97
  v162
def k2_mult10 (i : grid2.Coords) (k2_t1 : Fin (k2_t1_loop i).trips) : BitVec 32 :=
  let arg1 : BitVec 32 := BitVec.ofNat 32 (i 1).val
  let c1_i32_85 : BitVec 32 := 1#32
  let v145 : BitVec 32 := Scalar.addi arg1 c1_i32_85
  let c2_i32_86 : BitVec 32 := 2#32
  let c0_i32_71 : BitVec 32 := 0#32
  let c1_i32_73 : BitVec 32 := 1#32
  let arg17 : BitVec 32 := Scf.iv c0_i32_71 c1_i32_73 k2_t1
  let v146 : BitVec 32 := Scalar.muli c2_i32_86 arg17
  let v147 : BitVec 32 := Scalar.addi v145 v146
  let c512_i32_102 : BitVec 32 := 512#32
  let v171 : BitVec 32 := Scalar.muli v147 c512_i32_102
  v171
def k2_off5 (i : grid2.Coords) (k2_t1 : Fin (k2_t1_loop i).trips) : Fin 2 → Nat :=
  let arg1 : BitVec 32 := BitVec.ofNat 32 (i 1).val
  let c1_i32_85 : BitVec 32 := 1#32
  let v145 : BitVec 32 := Scalar.addi arg1 c1_i32_85
  let c2_i32_86 : BitVec 32 := 2#32
  let c0_i32_71 : BitVec 32 := 0#32
  let c1_i32_73 : BitVec 32 := 1#32
  let arg17 : BitVec 32 := Scf.iv c0_i32_71 c1_i32_73 k2_t1
  let v146 : BitVec 32 := Scalar.muli c2_i32_86 arg17
  let v147 : BitVec 32 := Scalar.addi v145 v146
  let c512_i32_102 : BitVec 32 := 512#32
  let v171 : BitVec 32 := Scalar.muli v147 c512_i32_102
  let v172 : BitVec 32 := v171
  let v173 : Index := Scalar.indexCast v172
  let c0_103 : Index := 0#32
  ![v173.toNat, 0]
def k2_mult11 (i : grid2.Coords) (k2_t1 : Fin (k2_t1_loop i).trips) : BitVec 32 :=
  let arg1 : BitVec 32 := BitVec.ofNat 32 (i 1).val
  let c1_i32_85 : BitVec 32 := 1#32
  let v145 : BitVec 32 := Scalar.addi arg1 c1_i32_85
  let c2_i32_86 : BitVec 32 := 2#32
  let c0_i32_71 : BitVec 32 := 0#32
  let c1_i32_73 : BitVec 32 := 1#32
  let arg17 : BitVec 32 := Scf.iv c0_i32_71 c1_i32_73 k2_t1
  let v146 : BitVec 32 := Scalar.muli c2_i32_86 arg17
  let v147 : BitVec 32 := Scalar.addi v145 v146
  let c512_i32_104 : BitVec 32 := 512#32
  let v176 : BitVec 32 := Scalar.muli v147 c512_i32_104
  v176
def k2_off6 (i : grid2.Coords) (k2_t1 : Fin (k2_t1_loop i).trips) : Fin 4 → Nat :=
  let c0_108 : Index := 0#32
  let arg1 : BitVec 32 := BitVec.ofNat 32 (i 1).val
  let c1_i32_85 : BitVec 32 := 1#32
  let v145 : BitVec 32 := Scalar.addi arg1 c1_i32_85
  let c2_i32_86 : BitVec 32 := 2#32
  let c0_i32_71 : BitVec 32 := 0#32
  let c1_i32_73 : BitVec 32 := 1#32
  let arg17 : BitVec 32 := Scf.iv c0_i32_71 c1_i32_73 k2_t1
  let v146 : BitVec 32 := Scalar.muli c2_i32_86 arg17
  let v147 : BitVec 32 := Scalar.addi v145 v146
  let v182 : Index := Scalar.indexCast v147
  let c0_109 : Index := 0#32
  let c0_110 : Index := 0#32
  ![0, v182.toNat, 0, 0]
def k2_mult12 (i : grid2.Coords) (k2_t1 : Fin (k2_t1_loop i).trips) : BitVec 32 :=
  let arg1 : BitVec 32 := BitVec.ofNat 32 (i 1).val
  let c1_i32_85 : BitVec 32 := 1#32
  let v145 : BitVec 32 := Scalar.addi arg1 c1_i32_85
  let c2_i32_86 : BitVec 32 := 2#32
  let c0_i32_71 : BitVec 32 := 0#32
  let c1_i32_73 : BitVec 32 := 1#32
  let arg17 : BitVec 32 := Scf.iv c0_i32_71 c1_i32_73 k2_t1
  let v146 : BitVec 32 := Scalar.muli c2_i32_86 arg17
  let v147 : BitVec 32 := Scalar.addi v145 v146
  let c512_i32_126 : BitVec 32 := 512#32
  let v209 : BitVec 32 := Scalar.muli v147 c512_i32_126
  v209
def k2_mult13 (i : grid2.Coords) (k2_t1 : Fin (k2_t1_loop i).trips) : BitVec 32 :=
  let arg1 : BitVec 32 := BitVec.ofNat 32 (i 1).val
  let c1_i32_85 : BitVec 32 := 1#32
  let v145 : BitVec 32 := Scalar.addi arg1 c1_i32_85
  let c2_i32_86 : BitVec 32 := 2#32
  let c0_i32_71 : BitVec 32 := 0#32
  let c1_i32_73 : BitVec 32 := 1#32
  let arg17 : BitVec 32 := Scf.iv c0_i32_71 c1_i32_73 k2_t1
  let v146 : BitVec 32 := Scalar.muli c2_i32_86 arg17
  let v147 : BitVec 32 := Scalar.addi v145 v146
  let c2_i32_132 : BitVec 32 := 2#32
  let v220 : BitVec 32 := Scalar.addi v147 c2_i32_132
  let c31_i32_133 : BitVec 32 := 31#32
  let v221 : BitVec 32 := Scalar.minsi v220 c31_i32_133
  let c512_i32_136 : BitVec 32 := 512#32
  let v224 : BitVec 32 := Scalar.muli v221 c512_i32_136
  v224
def k2_off7 (i : grid2.Coords) (k2_t1 : Fin (k2_t1_loop i).trips) : Fin 2 → Nat :=
  let arg1 : BitVec 32 := BitVec.ofNat 32 (i 1).val
  let c1_i32_85 : BitVec 32 := 1#32
  let v145 : BitVec 32 := Scalar.addi arg1 c1_i32_85
  let c2_i32_86 : BitVec 32 := 2#32
  let c0_i32_71 : BitVec 32 := 0#32
  let c1_i32_73 : BitVec 32 := 1#32
  let arg17 : BitVec 32 := Scf.iv c0_i32_71 c1_i32_73 k2_t1
  let v146 : BitVec 32 := Scalar.muli c2_i32_86 arg17
  let v147 : BitVec 32 := Scalar.addi v145 v146
  let c2_i32_132 : BitVec 32 := 2#32
  let v220 : BitVec 32 := Scalar.addi v147 c2_i32_132
  let c31_i32_133 : BitVec 32 := 31#32
  let v221 : BitVec 32 := Scalar.minsi v220 c31_i32_133
  let c512_i32_136 : BitVec 32 := 512#32
  let v224 : BitVec 32 := Scalar.muli v221 c512_i32_136
  let v225 : BitVec 32 := v224
  let v226 : Index := Scalar.indexCast v225
  let c0_137 : Index := 0#32
  ![v226.toNat, 0]
def k2_mult14 (i : grid2.Coords) (k2_t1 : Fin (k2_t1_loop i).trips) : BitVec 32 :=
  let arg1 : BitVec 32 := BitVec.ofNat 32 (i 1).val
  let c1_i32_85 : BitVec 32 := 1#32
  let v145 : BitVec 32 := Scalar.addi arg1 c1_i32_85
  let c2_i32_86 : BitVec 32 := 2#32
  let c0_i32_71 : BitVec 32 := 0#32
  let c1_i32_73 : BitVec 32 := 1#32
  let arg17 : BitVec 32 := Scf.iv c0_i32_71 c1_i32_73 k2_t1
  let v146 : BitVec 32 := Scalar.muli c2_i32_86 arg17
  let v147 : BitVec 32 := Scalar.addi v145 v146
  let c2_i32_132 : BitVec 32 := 2#32
  let v220 : BitVec 32 := Scalar.addi v147 c2_i32_132
  let c31_i32_133 : BitVec 32 := 31#32
  let v221 : BitVec 32 := Scalar.minsi v220 c31_i32_133
  let c512_i32_143 : BitVec 32 := 512#32
  let v235 : BitVec 32 := Scalar.muli v221 c512_i32_143
  v235
def k2_mult15 (i : grid2.Coords) (k2_t1 : Fin (k2_t1_loop i).trips) : BitVec 32 :=
  let arg1 : BitVec 32 := BitVec.ofNat 32 (i 1).val
  let c1_i32_85 : BitVec 32 := 1#32
  let v145 : BitVec 32 := Scalar.addi arg1 c1_i32_85
  let c2_i32_86 : BitVec 32 := 2#32
  let c0_i32_71 : BitVec 32 := 0#32
  let c1_i32_73 : BitVec 32 := 1#32
  let arg17 : BitVec 32 := Scf.iv c0_i32_71 c1_i32_73 k2_t1
  let v146 : BitVec 32 := Scalar.muli c2_i32_86 arg17
  let v147 : BitVec 32 := Scalar.addi v145 v146
  let c1_i32_148 : BitVec 32 := 1#32
  let v244 : BitVec 32 := Scalar.addi v147 c1_i32_148
  let c512_i32_149 : BitVec 32 := 512#32
  let v245 : BitVec 32 := Scalar.muli v244 c512_i32_149
  v245
def k2_mult16 (i : grid2.Coords) (k2_t1 : Fin (k2_t1_loop i).trips) : BitVec 32 :=
  let arg1 : BitVec 32 := BitVec.ofNat 32 (i 1).val
  let c1_i32_85 : BitVec 32 := 1#32
  let v145 : BitVec 32 := Scalar.addi arg1 c1_i32_85
  let c2_i32_86 : BitVec 32 := 2#32
  let c0_i32_71 : BitVec 32 := 0#32
  let c1_i32_73 : BitVec 32 := 1#32
  let arg17 : BitVec 32 := Scf.iv c0_i32_71 c1_i32_73 k2_t1
  let v146 : BitVec 32 := Scalar.muli c2_i32_86 arg17
  let v147 : BitVec 32 := Scalar.addi v145 v146
  let c1_i32_148 : BitVec 32 := 1#32
  let v244 : BitVec 32 := Scalar.addi v147 c1_i32_148
  let c512_i32_151 : BitVec 32 := 512#32
  let v250 : BitVec 32 := Scalar.muli v244 c512_i32_151
  v250
def k2_off8 (i : grid2.Coords) (k2_t1 : Fin (k2_t1_loop i).trips) : Fin 4 → Nat :=
  let c0_155 : Index := 0#32
  let arg1 : BitVec 32 := BitVec.ofNat 32 (i 1).val
  let c1_i32_85 : BitVec 32 := 1#32
  let v145 : BitVec 32 := Scalar.addi arg1 c1_i32_85
  let c2_i32_86 : BitVec 32 := 2#32
  let c0_i32_71 : BitVec 32 := 0#32
  let c1_i32_73 : BitVec 32 := 1#32
  let arg17 : BitVec 32 := Scf.iv c0_i32_71 c1_i32_73 k2_t1
  let v146 : BitVec 32 := Scalar.muli c2_i32_86 arg17
  let v147 : BitVec 32 := Scalar.addi v145 v146
  let c1_i32_148 : BitVec 32 := 1#32
  let v244 : BitVec 32 := Scalar.addi v147 c1_i32_148
  let v256 : Index := Scalar.indexCast v244
  let c0_156 : Index := 0#32
  let c0_157 : Index := 0#32
  ![0, v256.toNat, 0, 0]
def k2_mult17 (i : grid2.Coords) (k2_t1 : Fin (k2_t1_loop i).trips) : BitVec 32 :=
  let arg1 : BitVec 32 := BitVec.ofNat 32 (i 1).val
  let c1_i32_85 : BitVec 32 := 1#32
  let v145 : BitVec 32 := Scalar.addi arg1 c1_i32_85
  let c2_i32_86 : BitVec 32 := 2#32
  let c0_i32_71 : BitVec 32 := 0#32
  let c1_i32_73 : BitVec 32 := 1#32
  let arg17 : BitVec 32 := Scf.iv c0_i32_71 c1_i32_73 k2_t1
  let v146 : BitVec 32 := Scalar.muli c2_i32_86 arg17
  let v147 : BitVec 32 := Scalar.addi v145 v146
  let c1_i32_148 : BitVec 32 := 1#32
  let v244 : BitVec 32 := Scalar.addi v147 c1_i32_148
  let c512_i32_173 : BitVec 32 := 512#32
  let v283 : BitVec 32 := Scalar.muli v244 c512_i32_173
  v283
@[reducible] def k2_t2_loop (i : grid2.Coords) : Scf.Loop 32 :=
  let c0_i32_71 : BitVec 32 := 0#32
  let c31_i32_63 : BitVec 32 := 31#32
  let arg1 : BitVec 32 := BitVec.ofNat 32 (i 1).val
  let v112 : BitVec 32 := Scalar.subi c31_i32_63 arg1
  let c0_i32_64 : BitVec 32 := 0#32
  let v114 : BitVec 1 := Scalar.cmpi .sgt v112 c0_i32_64
  let v115 : BitVec 32 := Scalar.extui v114
  let c0_i32_65 : BitVec 32 := 0#32
  let v116 : BitVec 1 := Scalar.cmpi .slt v112 c0_i32_65
  let v117 : BitVec 32 := Scalar.extui v116
  let v118 : BitVec 32 := Scalar.subi v115 v117
  let c2_i32 : BitVec 32 := 2#32
  let c0_i32_66 : BitVec 32 := 0#32
  let v119 : BitVec 1 := Scalar.cmpi .sgt c2_i32 c0_i32_66
  let v120 : BitVec 32 := Scalar.extui v119
  let c0_i32_67 : BitVec 32 := 0#32
  let v121 : BitVec 1 := Scalar.cmpi .slt c2_i32 c0_i32_67
  let v122 : BitVec 32 := Scalar.extui v121
  let v123 : BitVec 32 := Scalar.subi v120 v122
  let v124 : BitVec 1 := Scalar.cmpi .ne v118 v123
  let v125 : BitVec 32 := Scalar.remsi v112 c2_i32
  let c0_i32_68 : BitVec 32 := 0#32
  let v126 : BitVec 1 := Scalar.cmpi .ne v125 c0_i32_68
  let v127 : BitVec 1 := Scalar.andi v124 v126
  let v113 : BitVec 32 := Scalar.divsi v112 c2_i32
  let c1_i32_69 : BitVec 32 := 1#32
  let v128 : BitVec 32 := Scalar.subi v113 c1_i32_69
  let v129 : BitVec 32 := Scalar.select v127 v128 v113
  let v130 : BitVec 32 := Scalar.subi v129 c0_i32_71
  let c1_i32_72 : BitVec 32 := 1#32
  let v132 : BitVec 32 := Scalar.divsi v130 c1_i32_72
  let v133 : BitVec 32 := Scalar.muli v132 c1_i32_72
  let v134 : BitVec 32 := Scalar.addi c0_i32_71 v133
  let v131 : BitVec 32 := Scalar.addi c0_i32_71 v130
  let c1_i32_74 : BitVec 32 := 1#32
  ⟨v134, v131, c1_i32_74⟩
def k2_mult18 (i : grid2.Coords) (k2_t2 : Fin (k2_t2_loop i).trips) : BitVec 32 :=
  let arg1 : BitVec 32 := BitVec.ofNat 32 (i 1).val
  let c1_i32_85 : BitVec 32 := 1#32
  let v145 : BitVec 32 := Scalar.addi arg1 c1_i32_85
  let c2_i32_86 : BitVec 32 := 2#32
  let c0_i32_71 : BitVec 32 := 0#32
  let c31_i32_63 : BitVec 32 := 31#32
  let v112 : BitVec 32 := Scalar.subi c31_i32_63 arg1
  let c0_i32_64 : BitVec 32 := 0#32
  let v114 : BitVec 1 := Scalar.cmpi .sgt v112 c0_i32_64
  let v115 : BitVec 32 := Scalar.extui v114
  let c0_i32_65 : BitVec 32 := 0#32
  let v116 : BitVec 1 := Scalar.cmpi .slt v112 c0_i32_65
  let v117 : BitVec 32 := Scalar.extui v116
  let v118 : BitVec 32 := Scalar.subi v115 v117
  let c2_i32 : BitVec 32 := 2#32
  let c0_i32_66 : BitVec 32 := 0#32
  let v119 : BitVec 1 := Scalar.cmpi .sgt c2_i32 c0_i32_66
  let v120 : BitVec 32 := Scalar.extui v119
  let c0_i32_67 : BitVec 32 := 0#32
  let v121 : BitVec 1 := Scalar.cmpi .slt c2_i32 c0_i32_67
  let v122 : BitVec 32 := Scalar.extui v121
  let v123 : BitVec 32 := Scalar.subi v120 v122
  let v124 : BitVec 1 := Scalar.cmpi .ne v118 v123
  let v125 : BitVec 32 := Scalar.remsi v112 c2_i32
  let c0_i32_68 : BitVec 32 := 0#32
  let v126 : BitVec 1 := Scalar.cmpi .ne v125 c0_i32_68
  let v127 : BitVec 1 := Scalar.andi v124 v126
  let v113 : BitVec 32 := Scalar.divsi v112 c2_i32
  let c1_i32_69 : BitVec 32 := 1#32
  let v128 : BitVec 32 := Scalar.subi v113 c1_i32_69
  let v129 : BitVec 32 := Scalar.select v127 v128 v113
  let v130 : BitVec 32 := Scalar.subi v129 c0_i32_71
  let c1_i32_72 : BitVec 32 := 1#32
  let v132 : BitVec 32 := Scalar.divsi v130 c1_i32_72
  let v133 : BitVec 32 := Scalar.muli v132 c1_i32_72
  let v134 : BitVec 32 := Scalar.addi c0_i32_71 v133
  let c1_i32_74 : BitVec 32 := 1#32
  let arg17 : BitVec 32 := Scf.iv v134 c1_i32_74 k2_t2
  let v146 : BitVec 32 := Scalar.muli c2_i32_86 arg17
  let v147 : BitVec 32 := Scalar.addi v145 v146
  let c1_i32_87 : BitVec 32 := 1#32
  let v148 : BitVec 32 := Scalar.addi v147 c1_i32_87
  let c512_i32_90 : BitVec 32 := 512#32
  let v151 : BitVec 32 := Scalar.muli v148 c512_i32_90
  v151
def k2_off9 (i : grid2.Coords) (k2_t2 : Fin (k2_t2_loop i).trips) : Fin 2 → Nat :=
  let arg1 : BitVec 32 := BitVec.ofNat 32 (i 1).val
  let c1_i32_85 : BitVec 32 := 1#32
  let v145 : BitVec 32 := Scalar.addi arg1 c1_i32_85
  let c2_i32_86 : BitVec 32 := 2#32
  let c0_i32_71 : BitVec 32 := 0#32
  let c31_i32_63 : BitVec 32 := 31#32
  let v112 : BitVec 32 := Scalar.subi c31_i32_63 arg1
  let c0_i32_64 : BitVec 32 := 0#32
  let v114 : BitVec 1 := Scalar.cmpi .sgt v112 c0_i32_64
  let v115 : BitVec 32 := Scalar.extui v114
  let c0_i32_65 : BitVec 32 := 0#32
  let v116 : BitVec 1 := Scalar.cmpi .slt v112 c0_i32_65
  let v117 : BitVec 32 := Scalar.extui v116
  let v118 : BitVec 32 := Scalar.subi v115 v117
  let c2_i32 : BitVec 32 := 2#32
  let c0_i32_66 : BitVec 32 := 0#32
  let v119 : BitVec 1 := Scalar.cmpi .sgt c2_i32 c0_i32_66
  let v120 : BitVec 32 := Scalar.extui v119
  let c0_i32_67 : BitVec 32 := 0#32
  let v121 : BitVec 1 := Scalar.cmpi .slt c2_i32 c0_i32_67
  let v122 : BitVec 32 := Scalar.extui v121
  let v123 : BitVec 32 := Scalar.subi v120 v122
  let v124 : BitVec 1 := Scalar.cmpi .ne v118 v123
  let v125 : BitVec 32 := Scalar.remsi v112 c2_i32
  let c0_i32_68 : BitVec 32 := 0#32
  let v126 : BitVec 1 := Scalar.cmpi .ne v125 c0_i32_68
  let v127 : BitVec 1 := Scalar.andi v124 v126
  let v113 : BitVec 32 := Scalar.divsi v112 c2_i32
  let c1_i32_69 : BitVec 32 := 1#32
  let v128 : BitVec 32 := Scalar.subi v113 c1_i32_69
  let v129 : BitVec 32 := Scalar.select v127 v128 v113
  let v130 : BitVec 32 := Scalar.subi v129 c0_i32_71
  let c1_i32_72 : BitVec 32 := 1#32
  let v132 : BitVec 32 := Scalar.divsi v130 c1_i32_72
  let v133 : BitVec 32 := Scalar.muli v132 c1_i32_72
  let v134 : BitVec 32 := Scalar.addi c0_i32_71 v133
  let c1_i32_74 : BitVec 32 := 1#32
  let arg17 : BitVec 32 := Scf.iv v134 c1_i32_74 k2_t2
  let v146 : BitVec 32 := Scalar.muli c2_i32_86 arg17
  let v147 : BitVec 32 := Scalar.addi v145 v146
  let c1_i32_87 : BitVec 32 := 1#32
  let v148 : BitVec 32 := Scalar.addi v147 c1_i32_87
  let c512_i32_90 : BitVec 32 := 512#32
  let v151 : BitVec 32 := Scalar.muli v148 c512_i32_90
  let v152 : BitVec 32 := v151
  let v153 : Index := Scalar.indexCast v152
  let c0_91 : Index := 0#32
  ![v153.toNat, 0]
def k2_mult19 (i : grid2.Coords) (k2_t2 : Fin (k2_t2_loop i).trips) : BitVec 32 :=
  let arg1 : BitVec 32 := BitVec.ofNat 32 (i 1).val
  let c1_i32_85 : BitVec 32 := 1#32
  let v145 : BitVec 32 := Scalar.addi arg1 c1_i32_85
  let c2_i32_86 : BitVec 32 := 2#32
  let c0_i32_71 : BitVec 32 := 0#32
  let c31_i32_63 : BitVec 32 := 31#32
  let v112 : BitVec 32 := Scalar.subi c31_i32_63 arg1
  let c0_i32_64 : BitVec 32 := 0#32
  let v114 : BitVec 1 := Scalar.cmpi .sgt v112 c0_i32_64
  let v115 : BitVec 32 := Scalar.extui v114
  let c0_i32_65 : BitVec 32 := 0#32
  let v116 : BitVec 1 := Scalar.cmpi .slt v112 c0_i32_65
  let v117 : BitVec 32 := Scalar.extui v116
  let v118 : BitVec 32 := Scalar.subi v115 v117
  let c2_i32 : BitVec 32 := 2#32
  let c0_i32_66 : BitVec 32 := 0#32
  let v119 : BitVec 1 := Scalar.cmpi .sgt c2_i32 c0_i32_66
  let v120 : BitVec 32 := Scalar.extui v119
  let c0_i32_67 : BitVec 32 := 0#32
  let v121 : BitVec 1 := Scalar.cmpi .slt c2_i32 c0_i32_67
  let v122 : BitVec 32 := Scalar.extui v121
  let v123 : BitVec 32 := Scalar.subi v120 v122
  let v124 : BitVec 1 := Scalar.cmpi .ne v118 v123
  let v125 : BitVec 32 := Scalar.remsi v112 c2_i32
  let c0_i32_68 : BitVec 32 := 0#32
  let v126 : BitVec 1 := Scalar.cmpi .ne v125 c0_i32_68
  let v127 : BitVec 1 := Scalar.andi v124 v126
  let v113 : BitVec 32 := Scalar.divsi v112 c2_i32
  let c1_i32_69 : BitVec 32 := 1#32
  let v128 : BitVec 32 := Scalar.subi v113 c1_i32_69
  let v129 : BitVec 32 := Scalar.select v127 v128 v113
  let v130 : BitVec 32 := Scalar.subi v129 c0_i32_71
  let c1_i32_72 : BitVec 32 := 1#32
  let v132 : BitVec 32 := Scalar.divsi v130 c1_i32_72
  let v133 : BitVec 32 := Scalar.muli v132 c1_i32_72
  let v134 : BitVec 32 := Scalar.addi c0_i32_71 v133
  let c1_i32_74 : BitVec 32 := 1#32
  let arg17 : BitVec 32 := Scf.iv v134 c1_i32_74 k2_t2
  let v146 : BitVec 32 := Scalar.muli c2_i32_86 arg17
  let v147 : BitVec 32 := Scalar.addi v145 v146
  let c1_i32_87 : BitVec 32 := 1#32
  let v148 : BitVec 32 := Scalar.addi v147 c1_i32_87
  let c512_i32_97 : BitVec 32 := 512#32
  let v162 : BitVec 32 := Scalar.muli v148 c512_i32_97
  v162
def k2_mult20 (i : grid2.Coords) (k2_t2 : Fin (k2_t2_loop i).trips) : BitVec 32 :=
  let arg1 : BitVec 32 := BitVec.ofNat 32 (i 1).val
  let c1_i32_85 : BitVec 32 := 1#32
  let v145 : BitVec 32 := Scalar.addi arg1 c1_i32_85
  let c2_i32_86 : BitVec 32 := 2#32
  let c0_i32_71 : BitVec 32 := 0#32
  let c31_i32_63 : BitVec 32 := 31#32
  let v112 : BitVec 32 := Scalar.subi c31_i32_63 arg1
  let c0_i32_64 : BitVec 32 := 0#32
  let v114 : BitVec 1 := Scalar.cmpi .sgt v112 c0_i32_64
  let v115 : BitVec 32 := Scalar.extui v114
  let c0_i32_65 : BitVec 32 := 0#32
  let v116 : BitVec 1 := Scalar.cmpi .slt v112 c0_i32_65
  let v117 : BitVec 32 := Scalar.extui v116
  let v118 : BitVec 32 := Scalar.subi v115 v117
  let c2_i32 : BitVec 32 := 2#32
  let c0_i32_66 : BitVec 32 := 0#32
  let v119 : BitVec 1 := Scalar.cmpi .sgt c2_i32 c0_i32_66
  let v120 : BitVec 32 := Scalar.extui v119
  let c0_i32_67 : BitVec 32 := 0#32
  let v121 : BitVec 1 := Scalar.cmpi .slt c2_i32 c0_i32_67
  let v122 : BitVec 32 := Scalar.extui v121
  let v123 : BitVec 32 := Scalar.subi v120 v122
  let v124 : BitVec 1 := Scalar.cmpi .ne v118 v123
  let v125 : BitVec 32 := Scalar.remsi v112 c2_i32
  let c0_i32_68 : BitVec 32 := 0#32
  let v126 : BitVec 1 := Scalar.cmpi .ne v125 c0_i32_68
  let v127 : BitVec 1 := Scalar.andi v124 v126
  let v113 : BitVec 32 := Scalar.divsi v112 c2_i32
  let c1_i32_69 : BitVec 32 := 1#32
  let v128 : BitVec 32 := Scalar.subi v113 c1_i32_69
  let v129 : BitVec 32 := Scalar.select v127 v128 v113
  let v130 : BitVec 32 := Scalar.subi v129 c0_i32_71
  let c1_i32_72 : BitVec 32 := 1#32
  let v132 : BitVec 32 := Scalar.divsi v130 c1_i32_72
  let v133 : BitVec 32 := Scalar.muli v132 c1_i32_72
  let v134 : BitVec 32 := Scalar.addi c0_i32_71 v133
  let c1_i32_74 : BitVec 32 := 1#32
  let arg17 : BitVec 32 := Scf.iv v134 c1_i32_74 k2_t2
  let v146 : BitVec 32 := Scalar.muli c2_i32_86 arg17
  let v147 : BitVec 32 := Scalar.addi v145 v146
  let c512_i32_102 : BitVec 32 := 512#32
  let v171 : BitVec 32 := Scalar.muli v147 c512_i32_102
  v171
def k2_off10 (i : grid2.Coords) (k2_t2 : Fin (k2_t2_loop i).trips) : Fin 2 → Nat :=
  let arg1 : BitVec 32 := BitVec.ofNat 32 (i 1).val
  let c1_i32_85 : BitVec 32 := 1#32
  let v145 : BitVec 32 := Scalar.addi arg1 c1_i32_85
  let c2_i32_86 : BitVec 32 := 2#32
  let c0_i32_71 : BitVec 32 := 0#32
  let c31_i32_63 : BitVec 32 := 31#32
  let v112 : BitVec 32 := Scalar.subi c31_i32_63 arg1
  let c0_i32_64 : BitVec 32 := 0#32
  let v114 : BitVec 1 := Scalar.cmpi .sgt v112 c0_i32_64
  let v115 : BitVec 32 := Scalar.extui v114
  let c0_i32_65 : BitVec 32 := 0#32
  let v116 : BitVec 1 := Scalar.cmpi .slt v112 c0_i32_65
  let v117 : BitVec 32 := Scalar.extui v116
  let v118 : BitVec 32 := Scalar.subi v115 v117
  let c2_i32 : BitVec 32 := 2#32
  let c0_i32_66 : BitVec 32 := 0#32
  let v119 : BitVec 1 := Scalar.cmpi .sgt c2_i32 c0_i32_66
  let v120 : BitVec 32 := Scalar.extui v119
  let c0_i32_67 : BitVec 32 := 0#32
  let v121 : BitVec 1 := Scalar.cmpi .slt c2_i32 c0_i32_67
  let v122 : BitVec 32 := Scalar.extui v121
  let v123 : BitVec 32 := Scalar.subi v120 v122
  let v124 : BitVec 1 := Scalar.cmpi .ne v118 v123
  let v125 : BitVec 32 := Scalar.remsi v112 c2_i32
  let c0_i32_68 : BitVec 32 := 0#32
  let v126 : BitVec 1 := Scalar.cmpi .ne v125 c0_i32_68
  let v127 : BitVec 1 := Scalar.andi v124 v126
  let v113 : BitVec 32 := Scalar.divsi v112 c2_i32
  let c1_i32_69 : BitVec 32 := 1#32
  let v128 : BitVec 32 := Scalar.subi v113 c1_i32_69
  let v129 : BitVec 32 := Scalar.select v127 v128 v113
  let v130 : BitVec 32 := Scalar.subi v129 c0_i32_71
  let c1_i32_72 : BitVec 32 := 1#32
  let v132 : BitVec 32 := Scalar.divsi v130 c1_i32_72
  let v133 : BitVec 32 := Scalar.muli v132 c1_i32_72
  let v134 : BitVec 32 := Scalar.addi c0_i32_71 v133
  let c1_i32_74 : BitVec 32 := 1#32
  let arg17 : BitVec 32 := Scf.iv v134 c1_i32_74 k2_t2
  let v146 : BitVec 32 := Scalar.muli c2_i32_86 arg17
  let v147 : BitVec 32 := Scalar.addi v145 v146
  let c512_i32_102 : BitVec 32 := 512#32
  let v171 : BitVec 32 := Scalar.muli v147 c512_i32_102
  let v172 : BitVec 32 := v171
  let v173 : Index := Scalar.indexCast v172
  let c0_103 : Index := 0#32
  ![v173.toNat, 0]
def k2_mult21 (i : grid2.Coords) (k2_t2 : Fin (k2_t2_loop i).trips) : BitVec 32 :=
  let arg1 : BitVec 32 := BitVec.ofNat 32 (i 1).val
  let c1_i32_85 : BitVec 32 := 1#32
  let v145 : BitVec 32 := Scalar.addi arg1 c1_i32_85
  let c2_i32_86 : BitVec 32 := 2#32
  let c0_i32_71 : BitVec 32 := 0#32
  let c31_i32_63 : BitVec 32 := 31#32
  let v112 : BitVec 32 := Scalar.subi c31_i32_63 arg1
  let c0_i32_64 : BitVec 32 := 0#32
  let v114 : BitVec 1 := Scalar.cmpi .sgt v112 c0_i32_64
  let v115 : BitVec 32 := Scalar.extui v114
  let c0_i32_65 : BitVec 32 := 0#32
  let v116 : BitVec 1 := Scalar.cmpi .slt v112 c0_i32_65
  let v117 : BitVec 32 := Scalar.extui v116
  let v118 : BitVec 32 := Scalar.subi v115 v117
  let c2_i32 : BitVec 32 := 2#32
  let c0_i32_66 : BitVec 32 := 0#32
  let v119 : BitVec 1 := Scalar.cmpi .sgt c2_i32 c0_i32_66
  let v120 : BitVec 32 := Scalar.extui v119
  let c0_i32_67 : BitVec 32 := 0#32
  let v121 : BitVec 1 := Scalar.cmpi .slt c2_i32 c0_i32_67
  let v122 : BitVec 32 := Scalar.extui v121
  let v123 : BitVec 32 := Scalar.subi v120 v122
  let v124 : BitVec 1 := Scalar.cmpi .ne v118 v123
  let v125 : BitVec 32 := Scalar.remsi v112 c2_i32
  let c0_i32_68 : BitVec 32 := 0#32
  let v126 : BitVec 1 := Scalar.cmpi .ne v125 c0_i32_68
  let v127 : BitVec 1 := Scalar.andi v124 v126
  let v113 : BitVec 32 := Scalar.divsi v112 c2_i32
  let c1_i32_69 : BitVec 32 := 1#32
  let v128 : BitVec 32 := Scalar.subi v113 c1_i32_69
  let v129 : BitVec 32 := Scalar.select v127 v128 v113
  let v130 : BitVec 32 := Scalar.subi v129 c0_i32_71
  let c1_i32_72 : BitVec 32 := 1#32
  let v132 : BitVec 32 := Scalar.divsi v130 c1_i32_72
  let v133 : BitVec 32 := Scalar.muli v132 c1_i32_72
  let v134 : BitVec 32 := Scalar.addi c0_i32_71 v133
  let c1_i32_74 : BitVec 32 := 1#32
  let arg17 : BitVec 32 := Scf.iv v134 c1_i32_74 k2_t2
  let v146 : BitVec 32 := Scalar.muli c2_i32_86 arg17
  let v147 : BitVec 32 := Scalar.addi v145 v146
  let c512_i32_104 : BitVec 32 := 512#32
  let v176 : BitVec 32 := Scalar.muli v147 c512_i32_104
  v176
def k2_off11 (i : grid2.Coords) (k2_t2 : Fin (k2_t2_loop i).trips) : Fin 4 → Nat :=
  let c0_108 : Index := 0#32
  let arg1 : BitVec 32 := BitVec.ofNat 32 (i 1).val
  let c1_i32_85 : BitVec 32 := 1#32
  let v145 : BitVec 32 := Scalar.addi arg1 c1_i32_85
  let c2_i32_86 : BitVec 32 := 2#32
  let c0_i32_71 : BitVec 32 := 0#32
  let c31_i32_63 : BitVec 32 := 31#32
  let v112 : BitVec 32 := Scalar.subi c31_i32_63 arg1
  let c0_i32_64 : BitVec 32 := 0#32
  let v114 : BitVec 1 := Scalar.cmpi .sgt v112 c0_i32_64
  let v115 : BitVec 32 := Scalar.extui v114
  let c0_i32_65 : BitVec 32 := 0#32
  let v116 : BitVec 1 := Scalar.cmpi .slt v112 c0_i32_65
  let v117 : BitVec 32 := Scalar.extui v116
  let v118 : BitVec 32 := Scalar.subi v115 v117
  let c2_i32 : BitVec 32 := 2#32
  let c0_i32_66 : BitVec 32 := 0#32
  let v119 : BitVec 1 := Scalar.cmpi .sgt c2_i32 c0_i32_66
  let v120 : BitVec 32 := Scalar.extui v119
  let c0_i32_67 : BitVec 32 := 0#32
  let v121 : BitVec 1 := Scalar.cmpi .slt c2_i32 c0_i32_67
  let v122 : BitVec 32 := Scalar.extui v121
  let v123 : BitVec 32 := Scalar.subi v120 v122
  let v124 : BitVec 1 := Scalar.cmpi .ne v118 v123
  let v125 : BitVec 32 := Scalar.remsi v112 c2_i32
  let c0_i32_68 : BitVec 32 := 0#32
  let v126 : BitVec 1 := Scalar.cmpi .ne v125 c0_i32_68
  let v127 : BitVec 1 := Scalar.andi v124 v126
  let v113 : BitVec 32 := Scalar.divsi v112 c2_i32
  let c1_i32_69 : BitVec 32 := 1#32
  let v128 : BitVec 32 := Scalar.subi v113 c1_i32_69
  let v129 : BitVec 32 := Scalar.select v127 v128 v113
  let v130 : BitVec 32 := Scalar.subi v129 c0_i32_71
  let c1_i32_72 : BitVec 32 := 1#32
  let v132 : BitVec 32 := Scalar.divsi v130 c1_i32_72
  let v133 : BitVec 32 := Scalar.muli v132 c1_i32_72
  let v134 : BitVec 32 := Scalar.addi c0_i32_71 v133
  let c1_i32_74 : BitVec 32 := 1#32
  let arg17 : BitVec 32 := Scf.iv v134 c1_i32_74 k2_t2
  let v146 : BitVec 32 := Scalar.muli c2_i32_86 arg17
  let v147 : BitVec 32 := Scalar.addi v145 v146
  let v182 : Index := Scalar.indexCast v147
  let c0_109 : Index := 0#32
  let c0_110 : Index := 0#32
  ![0, v182.toNat, 0, 0]
def k2_mult22 (i : grid2.Coords) (k2_t2 : Fin (k2_t2_loop i).trips) : BitVec 32 :=
  let arg1 : BitVec 32 := BitVec.ofNat 32 (i 1).val
  let c1_i32_85 : BitVec 32 := 1#32
  let v145 : BitVec 32 := Scalar.addi arg1 c1_i32_85
  let c2_i32_86 : BitVec 32 := 2#32
  let c0_i32_71 : BitVec 32 := 0#32
  let c31_i32_63 : BitVec 32 := 31#32
  let v112 : BitVec 32 := Scalar.subi c31_i32_63 arg1
  let c0_i32_64 : BitVec 32 := 0#32
  let v114 : BitVec 1 := Scalar.cmpi .sgt v112 c0_i32_64
  let v115 : BitVec 32 := Scalar.extui v114
  let c0_i32_65 : BitVec 32 := 0#32
  let v116 : BitVec 1 := Scalar.cmpi .slt v112 c0_i32_65
  let v117 : BitVec 32 := Scalar.extui v116
  let v118 : BitVec 32 := Scalar.subi v115 v117
  let c2_i32 : BitVec 32 := 2#32
  let c0_i32_66 : BitVec 32 := 0#32
  let v119 : BitVec 1 := Scalar.cmpi .sgt c2_i32 c0_i32_66
  let v120 : BitVec 32 := Scalar.extui v119
  let c0_i32_67 : BitVec 32 := 0#32
  let v121 : BitVec 1 := Scalar.cmpi .slt c2_i32 c0_i32_67
  let v122 : BitVec 32 := Scalar.extui v121
  let v123 : BitVec 32 := Scalar.subi v120 v122
  let v124 : BitVec 1 := Scalar.cmpi .ne v118 v123
  let v125 : BitVec 32 := Scalar.remsi v112 c2_i32
  let c0_i32_68 : BitVec 32 := 0#32
  let v126 : BitVec 1 := Scalar.cmpi .ne v125 c0_i32_68
  let v127 : BitVec 1 := Scalar.andi v124 v126
  let v113 : BitVec 32 := Scalar.divsi v112 c2_i32
  let c1_i32_69 : BitVec 32 := 1#32
  let v128 : BitVec 32 := Scalar.subi v113 c1_i32_69
  let v129 : BitVec 32 := Scalar.select v127 v128 v113
  let v130 : BitVec 32 := Scalar.subi v129 c0_i32_71
  let c1_i32_72 : BitVec 32 := 1#32
  let v132 : BitVec 32 := Scalar.divsi v130 c1_i32_72
  let v133 : BitVec 32 := Scalar.muli v132 c1_i32_72
  let v134 : BitVec 32 := Scalar.addi c0_i32_71 v133
  let c1_i32_74 : BitVec 32 := 1#32
  let arg17 : BitVec 32 := Scf.iv v134 c1_i32_74 k2_t2
  let v146 : BitVec 32 := Scalar.muli c2_i32_86 arg17
  let v147 : BitVec 32 := Scalar.addi v145 v146
  let c512_i32_126 : BitVec 32 := 512#32
  let v209 : BitVec 32 := Scalar.muli v147 c512_i32_126
  v209
def k2_mult23 (i : grid2.Coords) (k2_t2 : Fin (k2_t2_loop i).trips) : BitVec 32 :=
  let arg1 : BitVec 32 := BitVec.ofNat 32 (i 1).val
  let c1_i32_85 : BitVec 32 := 1#32
  let v145 : BitVec 32 := Scalar.addi arg1 c1_i32_85
  let c2_i32_86 : BitVec 32 := 2#32
  let c0_i32_71 : BitVec 32 := 0#32
  let c31_i32_63 : BitVec 32 := 31#32
  let v112 : BitVec 32 := Scalar.subi c31_i32_63 arg1
  let c0_i32_64 : BitVec 32 := 0#32
  let v114 : BitVec 1 := Scalar.cmpi .sgt v112 c0_i32_64
  let v115 : BitVec 32 := Scalar.extui v114
  let c0_i32_65 : BitVec 32 := 0#32
  let v116 : BitVec 1 := Scalar.cmpi .slt v112 c0_i32_65
  let v117 : BitVec 32 := Scalar.extui v116
  let v118 : BitVec 32 := Scalar.subi v115 v117
  let c2_i32 : BitVec 32 := 2#32
  let c0_i32_66 : BitVec 32 := 0#32
  let v119 : BitVec 1 := Scalar.cmpi .sgt c2_i32 c0_i32_66
  let v120 : BitVec 32 := Scalar.extui v119
  let c0_i32_67 : BitVec 32 := 0#32
  let v121 : BitVec 1 := Scalar.cmpi .slt c2_i32 c0_i32_67
  let v122 : BitVec 32 := Scalar.extui v121
  let v123 : BitVec 32 := Scalar.subi v120 v122
  let v124 : BitVec 1 := Scalar.cmpi .ne v118 v123
  let v125 : BitVec 32 := Scalar.remsi v112 c2_i32
  let c0_i32_68 : BitVec 32 := 0#32
  let v126 : BitVec 1 := Scalar.cmpi .ne v125 c0_i32_68
  let v127 : BitVec 1 := Scalar.andi v124 v126
  let v113 : BitVec 32 := Scalar.divsi v112 c2_i32
  let c1_i32_69 : BitVec 32 := 1#32
  let v128 : BitVec 32 := Scalar.subi v113 c1_i32_69
  let v129 : BitVec 32 := Scalar.select v127 v128 v113
  let v130 : BitVec 32 := Scalar.subi v129 c0_i32_71
  let c1_i32_72 : BitVec 32 := 1#32
  let v132 : BitVec 32 := Scalar.divsi v130 c1_i32_72
  let v133 : BitVec 32 := Scalar.muli v132 c1_i32_72
  let v134 : BitVec 32 := Scalar.addi c0_i32_71 v133
  let c1_i32_74 : BitVec 32 := 1#32
  let arg17 : BitVec 32 := Scf.iv v134 c1_i32_74 k2_t2
  let v146 : BitVec 32 := Scalar.muli c2_i32_86 arg17
  let v147 : BitVec 32 := Scalar.addi v145 v146
  let c2_i32_132 : BitVec 32 := 2#32
  let v220 : BitVec 32 := Scalar.addi v147 c2_i32_132
  let c31_i32_133 : BitVec 32 := 31#32
  let v221 : BitVec 32 := Scalar.minsi v220 c31_i32_133
  let c512_i32_136 : BitVec 32 := 512#32
  let v224 : BitVec 32 := Scalar.muli v221 c512_i32_136
  v224
def k2_off12 (i : grid2.Coords) (k2_t2 : Fin (k2_t2_loop i).trips) : Fin 2 → Nat :=
  let arg1 : BitVec 32 := BitVec.ofNat 32 (i 1).val
  let c1_i32_85 : BitVec 32 := 1#32
  let v145 : BitVec 32 := Scalar.addi arg1 c1_i32_85
  let c2_i32_86 : BitVec 32 := 2#32
  let c0_i32_71 : BitVec 32 := 0#32
  let c31_i32_63 : BitVec 32 := 31#32
  let v112 : BitVec 32 := Scalar.subi c31_i32_63 arg1
  let c0_i32_64 : BitVec 32 := 0#32
  let v114 : BitVec 1 := Scalar.cmpi .sgt v112 c0_i32_64
  let v115 : BitVec 32 := Scalar.extui v114
  let c0_i32_65 : BitVec 32 := 0#32
  let v116 : BitVec 1 := Scalar.cmpi .slt v112 c0_i32_65
  let v117 : BitVec 32 := Scalar.extui v116
  let v118 : BitVec 32 := Scalar.subi v115 v117
  let c2_i32 : BitVec 32 := 2#32
  let c0_i32_66 : BitVec 32 := 0#32
  let v119 : BitVec 1 := Scalar.cmpi .sgt c2_i32 c0_i32_66
  let v120 : BitVec 32 := Scalar.extui v119
  let c0_i32_67 : BitVec 32 := 0#32
  let v121 : BitVec 1 := Scalar.cmpi .slt c2_i32 c0_i32_67
  let v122 : BitVec 32 := Scalar.extui v121
  let v123 : BitVec 32 := Scalar.subi v120 v122
  let v124 : BitVec 1 := Scalar.cmpi .ne v118 v123
  let v125 : BitVec 32 := Scalar.remsi v112 c2_i32
  let c0_i32_68 : BitVec 32 := 0#32
  let v126 : BitVec 1 := Scalar.cmpi .ne v125 c0_i32_68
  let v127 : BitVec 1 := Scalar.andi v124 v126
  let v113 : BitVec 32 := Scalar.divsi v112 c2_i32
  let c1_i32_69 : BitVec 32 := 1#32
  let v128 : BitVec 32 := Scalar.subi v113 c1_i32_69
  let v129 : BitVec 32 := Scalar.select v127 v128 v113
  let v130 : BitVec 32 := Scalar.subi v129 c0_i32_71
  let c1_i32_72 : BitVec 32 := 1#32
  let v132 : BitVec 32 := Scalar.divsi v130 c1_i32_72
  let v133 : BitVec 32 := Scalar.muli v132 c1_i32_72
  let v134 : BitVec 32 := Scalar.addi c0_i32_71 v133
  let c1_i32_74 : BitVec 32 := 1#32
  let arg17 : BitVec 32 := Scf.iv v134 c1_i32_74 k2_t2
  let v146 : BitVec 32 := Scalar.muli c2_i32_86 arg17
  let v147 : BitVec 32 := Scalar.addi v145 v146
  let c2_i32_132 : BitVec 32 := 2#32
  let v220 : BitVec 32 := Scalar.addi v147 c2_i32_132
  let c31_i32_133 : BitVec 32 := 31#32
  let v221 : BitVec 32 := Scalar.minsi v220 c31_i32_133
  let c512_i32_136 : BitVec 32 := 512#32
  let v224 : BitVec 32 := Scalar.muli v221 c512_i32_136
  let v225 : BitVec 32 := v224
  let v226 : Index := Scalar.indexCast v225
  let c0_137 : Index := 0#32
  ![v226.toNat, 0]
def k2_mult24 (i : grid2.Coords) (k2_t2 : Fin (k2_t2_loop i).trips) : BitVec 32 :=
  let arg1 : BitVec 32 := BitVec.ofNat 32 (i 1).val
  let c1_i32_85 : BitVec 32 := 1#32
  let v145 : BitVec 32 := Scalar.addi arg1 c1_i32_85
  let c2_i32_86 : BitVec 32 := 2#32
  let c0_i32_71 : BitVec 32 := 0#32
  let c31_i32_63 : BitVec 32 := 31#32
  let v112 : BitVec 32 := Scalar.subi c31_i32_63 arg1
  let c0_i32_64 : BitVec 32 := 0#32
  let v114 : BitVec 1 := Scalar.cmpi .sgt v112 c0_i32_64
  let v115 : BitVec 32 := Scalar.extui v114
  let c0_i32_65 : BitVec 32 := 0#32
  let v116 : BitVec 1 := Scalar.cmpi .slt v112 c0_i32_65
  let v117 : BitVec 32 := Scalar.extui v116
  let v118 : BitVec 32 := Scalar.subi v115 v117
  let c2_i32 : BitVec 32 := 2#32
  let c0_i32_66 : BitVec 32 := 0#32
  let v119 : BitVec 1 := Scalar.cmpi .sgt c2_i32 c0_i32_66
  let v120 : BitVec 32 := Scalar.extui v119
  let c0_i32_67 : BitVec 32 := 0#32
  let v121 : BitVec 1 := Scalar.cmpi .slt c2_i32 c0_i32_67
  let v122 : BitVec 32 := Scalar.extui v121
  let v123 : BitVec 32 := Scalar.subi v120 v122
  let v124 : BitVec 1 := Scalar.cmpi .ne v118 v123
  let v125 : BitVec 32 := Scalar.remsi v112 c2_i32
  let c0_i32_68 : BitVec 32 := 0#32
  let v126 : BitVec 1 := Scalar.cmpi .ne v125 c0_i32_68
  let v127 : BitVec 1 := Scalar.andi v124 v126
  let v113 : BitVec 32 := Scalar.divsi v112 c2_i32
  let c1_i32_69 : BitVec 32 := 1#32
  let v128 : BitVec 32 := Scalar.subi v113 c1_i32_69
  let v129 : BitVec 32 := Scalar.select v127 v128 v113
  let v130 : BitVec 32 := Scalar.subi v129 c0_i32_71
  let c1_i32_72 : BitVec 32 := 1#32
  let v132 : BitVec 32 := Scalar.divsi v130 c1_i32_72
  let v133 : BitVec 32 := Scalar.muli v132 c1_i32_72
  let v134 : BitVec 32 := Scalar.addi c0_i32_71 v133
  let c1_i32_74 : BitVec 32 := 1#32
  let arg17 : BitVec 32 := Scf.iv v134 c1_i32_74 k2_t2
  let v146 : BitVec 32 := Scalar.muli c2_i32_86 arg17
  let v147 : BitVec 32 := Scalar.addi v145 v146
  let c2_i32_132 : BitVec 32 := 2#32
  let v220 : BitVec 32 := Scalar.addi v147 c2_i32_132
  let c31_i32_133 : BitVec 32 := 31#32
  let v221 : BitVec 32 := Scalar.minsi v220 c31_i32_133
  let c512_i32_143 : BitVec 32 := 512#32
  let v235 : BitVec 32 := Scalar.muli v221 c512_i32_143
  v235
def k2_mult25 (i : grid2.Coords) (k2_t2 : Fin (k2_t2_loop i).trips) : BitVec 32 :=
  let arg1 : BitVec 32 := BitVec.ofNat 32 (i 1).val
  let c1_i32_85 : BitVec 32 := 1#32
  let v145 : BitVec 32 := Scalar.addi arg1 c1_i32_85
  let c2_i32_86 : BitVec 32 := 2#32
  let c0_i32_71 : BitVec 32 := 0#32
  let c31_i32_63 : BitVec 32 := 31#32
  let v112 : BitVec 32 := Scalar.subi c31_i32_63 arg1
  let c0_i32_64 : BitVec 32 := 0#32
  let v114 : BitVec 1 := Scalar.cmpi .sgt v112 c0_i32_64
  let v115 : BitVec 32 := Scalar.extui v114
  let c0_i32_65 : BitVec 32 := 0#32
  let v116 : BitVec 1 := Scalar.cmpi .slt v112 c0_i32_65
  let v117 : BitVec 32 := Scalar.extui v116
  let v118 : BitVec 32 := Scalar.subi v115 v117
  let c2_i32 : BitVec 32 := 2#32
  let c0_i32_66 : BitVec 32 := 0#32
  let v119 : BitVec 1 := Scalar.cmpi .sgt c2_i32 c0_i32_66
  let v120 : BitVec 32 := Scalar.extui v119
  let c0_i32_67 : BitVec 32 := 0#32
  let v121 : BitVec 1 := Scalar.cmpi .slt c2_i32 c0_i32_67
  let v122 : BitVec 32 := Scalar.extui v121
  let v123 : BitVec 32 := Scalar.subi v120 v122
  let v124 : BitVec 1 := Scalar.cmpi .ne v118 v123
  let v125 : BitVec 32 := Scalar.remsi v112 c2_i32
  let c0_i32_68 : BitVec 32 := 0#32
  let v126 : BitVec 1 := Scalar.cmpi .ne v125 c0_i32_68
  let v127 : BitVec 1 := Scalar.andi v124 v126
  let v113 : BitVec 32 := Scalar.divsi v112 c2_i32
  let c1_i32_69 : BitVec 32 := 1#32
  let v128 : BitVec 32 := Scalar.subi v113 c1_i32_69
  let v129 : BitVec 32 := Scalar.select v127 v128 v113
  let v130 : BitVec 32 := Scalar.subi v129 c0_i32_71
  let c1_i32_72 : BitVec 32 := 1#32
  let v132 : BitVec 32 := Scalar.divsi v130 c1_i32_72
  let v133 : BitVec 32 := Scalar.muli v132 c1_i32_72
  let v134 : BitVec 32 := Scalar.addi c0_i32_71 v133
  let c1_i32_74 : BitVec 32 := 1#32
  let arg17 : BitVec 32 := Scf.iv v134 c1_i32_74 k2_t2
  let v146 : BitVec 32 := Scalar.muli c2_i32_86 arg17
  let v147 : BitVec 32 := Scalar.addi v145 v146
  let c1_i32_148 : BitVec 32 := 1#32
  let v244 : BitVec 32 := Scalar.addi v147 c1_i32_148
  let c512_i32_149 : BitVec 32 := 512#32
  let v245 : BitVec 32 := Scalar.muli v244 c512_i32_149
  v245
def k2_mult26 (i : grid2.Coords) (k2_t2 : Fin (k2_t2_loop i).trips) : BitVec 32 :=
  let arg1 : BitVec 32 := BitVec.ofNat 32 (i 1).val
  let c1_i32_85 : BitVec 32 := 1#32
  let v145 : BitVec 32 := Scalar.addi arg1 c1_i32_85
  let c2_i32_86 : BitVec 32 := 2#32
  let c0_i32_71 : BitVec 32 := 0#32
  let c31_i32_63 : BitVec 32 := 31#32
  let v112 : BitVec 32 := Scalar.subi c31_i32_63 arg1
  let c0_i32_64 : BitVec 32 := 0#32
  let v114 : BitVec 1 := Scalar.cmpi .sgt v112 c0_i32_64
  let v115 : BitVec 32 := Scalar.extui v114
  let c0_i32_65 : BitVec 32 := 0#32
  let v116 : BitVec 1 := Scalar.cmpi .slt v112 c0_i32_65
  let v117 : BitVec 32 := Scalar.extui v116
  let v118 : BitVec 32 := Scalar.subi v115 v117
  let c2_i32 : BitVec 32 := 2#32
  let c0_i32_66 : BitVec 32 := 0#32
  let v119 : BitVec 1 := Scalar.cmpi .sgt c2_i32 c0_i32_66
  let v120 : BitVec 32 := Scalar.extui v119
  let c0_i32_67 : BitVec 32 := 0#32
  let v121 : BitVec 1 := Scalar.cmpi .slt c2_i32 c0_i32_67
  let v122 : BitVec 32 := Scalar.extui v121
  let v123 : BitVec 32 := Scalar.subi v120 v122
  let v124 : BitVec 1 := Scalar.cmpi .ne v118 v123
  let v125 : BitVec 32 := Scalar.remsi v112 c2_i32
  let c0_i32_68 : BitVec 32 := 0#32
  let v126 : BitVec 1 := Scalar.cmpi .ne v125 c0_i32_68
  let v127 : BitVec 1 := Scalar.andi v124 v126
  let v113 : BitVec 32 := Scalar.divsi v112 c2_i32
  let c1_i32_69 : BitVec 32 := 1#32
  let v128 : BitVec 32 := Scalar.subi v113 c1_i32_69
  let v129 : BitVec 32 := Scalar.select v127 v128 v113
  let v130 : BitVec 32 := Scalar.subi v129 c0_i32_71
  let c1_i32_72 : BitVec 32 := 1#32
  let v132 : BitVec 32 := Scalar.divsi v130 c1_i32_72
  let v133 : BitVec 32 := Scalar.muli v132 c1_i32_72
  let v134 : BitVec 32 := Scalar.addi c0_i32_71 v133
  let c1_i32_74 : BitVec 32 := 1#32
  let arg17 : BitVec 32 := Scf.iv v134 c1_i32_74 k2_t2
  let v146 : BitVec 32 := Scalar.muli c2_i32_86 arg17
  let v147 : BitVec 32 := Scalar.addi v145 v146
  let c1_i32_148 : BitVec 32 := 1#32
  let v244 : BitVec 32 := Scalar.addi v147 c1_i32_148
  let c512_i32_151 : BitVec 32 := 512#32
  let v250 : BitVec 32 := Scalar.muli v244 c512_i32_151
  v250
def k2_off13 (i : grid2.Coords) (k2_t2 : Fin (k2_t2_loop i).trips) : Fin 4 → Nat :=
  let c0_155 : Index := 0#32
  let arg1 : BitVec 32 := BitVec.ofNat 32 (i 1).val
  let c1_i32_85 : BitVec 32 := 1#32
  let v145 : BitVec 32 := Scalar.addi arg1 c1_i32_85
  let c2_i32_86 : BitVec 32 := 2#32
  let c0_i32_71 : BitVec 32 := 0#32
  let c31_i32_63 : BitVec 32 := 31#32
  let v112 : BitVec 32 := Scalar.subi c31_i32_63 arg1
  let c0_i32_64 : BitVec 32 := 0#32
  let v114 : BitVec 1 := Scalar.cmpi .sgt v112 c0_i32_64
  let v115 : BitVec 32 := Scalar.extui v114
  let c0_i32_65 : BitVec 32 := 0#32
  let v116 : BitVec 1 := Scalar.cmpi .slt v112 c0_i32_65
  let v117 : BitVec 32 := Scalar.extui v116
  let v118 : BitVec 32 := Scalar.subi v115 v117
  let c2_i32 : BitVec 32 := 2#32
  let c0_i32_66 : BitVec 32 := 0#32
  let v119 : BitVec 1 := Scalar.cmpi .sgt c2_i32 c0_i32_66
  let v120 : BitVec 32 := Scalar.extui v119
  let c0_i32_67 : BitVec 32 := 0#32
  let v121 : BitVec 1 := Scalar.cmpi .slt c2_i32 c0_i32_67
  let v122 : BitVec 32 := Scalar.extui v121
  let v123 : BitVec 32 := Scalar.subi v120 v122
  let v124 : BitVec 1 := Scalar.cmpi .ne v118 v123
  let v125 : BitVec 32 := Scalar.remsi v112 c2_i32
  let c0_i32_68 : BitVec 32 := 0#32
  let v126 : BitVec 1 := Scalar.cmpi .ne v125 c0_i32_68
  let v127 : BitVec 1 := Scalar.andi v124 v126
  let v113 : BitVec 32 := Scalar.divsi v112 c2_i32
  let c1_i32_69 : BitVec 32 := 1#32
  let v128 : BitVec 32 := Scalar.subi v113 c1_i32_69
  let v129 : BitVec 32 := Scalar.select v127 v128 v113
  let v130 : BitVec 32 := Scalar.subi v129 c0_i32_71
  let c1_i32_72 : BitVec 32 := 1#32
  let v132 : BitVec 32 := Scalar.divsi v130 c1_i32_72
  let v133 : BitVec 32 := Scalar.muli v132 c1_i32_72
  let v134 : BitVec 32 := Scalar.addi c0_i32_71 v133
  let c1_i32_74 : BitVec 32 := 1#32
  let arg17 : BitVec 32 := Scf.iv v134 c1_i32_74 k2_t2
  let v146 : BitVec 32 := Scalar.muli c2_i32_86 arg17
  let v147 : BitVec 32 := Scalar.addi v145 v146
  let c1_i32_148 : BitVec 32 := 1#32
  let v244 : BitVec 32 := Scalar.addi v147 c1_i32_148
  let v256 : Index := Scalar.indexCast v244
  let c0_156 : Index := 0#32
  let c0_157 : Index := 0#32
  ![0, v256.toNat, 0, 0]
def k2_mult27 (i : grid2.Coords) (k2_t2 : Fin (k2_t2_loop i).trips) : BitVec 32 :=
  let arg1 : BitVec 32 := BitVec.ofNat 32 (i 1).val
  let c1_i32_85 : BitVec 32 := 1#32
  let v145 : BitVec 32 := Scalar.addi arg1 c1_i32_85
  let c2_i32_86 : BitVec 32 := 2#32
  let c0_i32_71 : BitVec 32 := 0#32
  let c31_i32_63 : BitVec 32 := 31#32
  let v112 : BitVec 32 := Scalar.subi c31_i32_63 arg1
  let c0_i32_64 : BitVec 32 := 0#32
  let v114 : BitVec 1 := Scalar.cmpi .sgt v112 c0_i32_64
  let v115 : BitVec 32 := Scalar.extui v114
  let c0_i32_65 : BitVec 32 := 0#32
  let v116 : BitVec 1 := Scalar.cmpi .slt v112 c0_i32_65
  let v117 : BitVec 32 := Scalar.extui v116
  let v118 : BitVec 32 := Scalar.subi v115 v117
  let c2_i32 : BitVec 32 := 2#32
  let c0_i32_66 : BitVec 32 := 0#32
  let v119 : BitVec 1 := Scalar.cmpi .sgt c2_i32 c0_i32_66
  let v120 : BitVec 32 := Scalar.extui v119
  let c0_i32_67 : BitVec 32 := 0#32
  let v121 : BitVec 1 := Scalar.cmpi .slt c2_i32 c0_i32_67
  let v122 : BitVec 32 := Scalar.extui v121
  let v123 : BitVec 32 := Scalar.subi v120 v122
  let v124 : BitVec 1 := Scalar.cmpi .ne v118 v123
  let v125 : BitVec 32 := Scalar.remsi v112 c2_i32
  let c0_i32_68 : BitVec 32 := 0#32
  let v126 : BitVec 1 := Scalar.cmpi .ne v125 c0_i32_68
  let v127 : BitVec 1 := Scalar.andi v124 v126
  let v113 : BitVec 32 := Scalar.divsi v112 c2_i32
  let c1_i32_69 : BitVec 32 := 1#32
  let v128 : BitVec 32 := Scalar.subi v113 c1_i32_69
  let v129 : BitVec 32 := Scalar.select v127 v128 v113
  let v130 : BitVec 32 := Scalar.subi v129 c0_i32_71
  let c1_i32_72 : BitVec 32 := 1#32
  let v132 : BitVec 32 := Scalar.divsi v130 c1_i32_72
  let v133 : BitVec 32 := Scalar.muli v132 c1_i32_72
  let v134 : BitVec 32 := Scalar.addi c0_i32_71 v133
  let c1_i32_74 : BitVec 32 := 1#32
  let arg17 : BitVec 32 := Scf.iv v134 c1_i32_74 k2_t2
  let v146 : BitVec 32 := Scalar.muli c2_i32_86 arg17
  let v147 : BitVec 32 := Scalar.addi v145 v146
  let c1_i32_148 : BitVec 32 := 1#32
  let v244 : BitVec 32 := Scalar.addi v147 c1_i32_148
  let c512_i32_173 : BitVec 32 := 512#32
  let v283 : BitVec 32 := Scalar.muli v244 c512_i32_173
  v283
def k2_cond2 (i : grid2.Coords) : BitVec 1 :=
  let c2_i32_75 : BitVec 32 := 2#32
  let c31_i32_63 : BitVec 32 := 31#32
  let arg1 : BitVec 32 := BitVec.ofNat 32 (i 1).val
  let v112 : BitVec 32 := Scalar.subi c31_i32_63 arg1
  let c0_i32_64 : BitVec 32 := 0#32
  let v114 : BitVec 1 := Scalar.cmpi .sgt v112 c0_i32_64
  let v115 : BitVec 32 := Scalar.extui v114
  let c0_i32_65 : BitVec 32 := 0#32
  let v116 : BitVec 1 := Scalar.cmpi .slt v112 c0_i32_65
  let v117 : BitVec 32 := Scalar.extui v116
  let v118 : BitVec 32 := Scalar.subi v115 v117
  let c2_i32 : BitVec 32 := 2#32
  let c0_i32_66 : BitVec 32 := 0#32
  let v119 : BitVec 1 := Scalar.cmpi .sgt c2_i32 c0_i32_66
  let v120 : BitVec 32 := Scalar.extui v119
  let c0_i32_67 : BitVec 32 := 0#32
  let v121 : BitVec 1 := Scalar.cmpi .slt c2_i32 c0_i32_67
  let v122 : BitVec 32 := Scalar.extui v121
  let v123 : BitVec 32 := Scalar.subi v120 v122
  let v124 : BitVec 1 := Scalar.cmpi .ne v118 v123
  let v125 : BitVec 32 := Scalar.remsi v112 c2_i32
  let c0_i32_68 : BitVec 32 := 0#32
  let v126 : BitVec 1 := Scalar.cmpi .ne v125 c0_i32_68
  let v127 : BitVec 1 := Scalar.andi v124 v126
  let v113 : BitVec 32 := Scalar.divsi v112 c2_i32
  let c1_i32_69 : BitVec 32 := 1#32
  let v128 : BitVec 32 := Scalar.subi v113 c1_i32_69
  let v129 : BitVec 32 := Scalar.select v127 v128 v113
  let v135 : BitVec 32 := Scalar.muli c2_i32_75 v129
  let v136 : BitVec 1 := Scalar.cmpi .ne v135 v112
  let v137 : BitVec 32 := Scalar.extui v136
  let c0_i32_76 : BitVec 32 := 0#32
  let v138 : BitVec 1 := Scalar.cmpi .ne v137 c0_i32_76
  v138

def k2_mult28 : BitVec 32 :=
  let c15872_i32 : BitVec 32 := 15872#32
  c15872_i32
def k2_mult29 : BitVec 32 :=
  let c15872_i32_86 : BitVec 32 := 15872#32
  c15872_i32_86
def k2_mult30 : BitVec 32 :=
  let c15872_i32_109 : BitVec 32 := 15872#32
  c15872_i32_109
def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_2 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_3 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S16384x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S16384x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x32x8x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x32x8x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S512x128 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S512x128 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S16384x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

abbrev stage2_7 : Fin 2 → Memref sig .tc .vmem S512x128 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

abbrev stage2_8 : Fin 2 → Memref sig .tc .vmem S512x128 .bf16 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true]
-- ==== AttnKernelIdeal.lean ====
variable {F : FTy → Type} [FloatOps F] [Named F]
def κ : String → Option EReal := fun
  | "mask" => some ⊥
  | _ => none
-- ==== AttnReferenceIdeal.lean ====
abbrev S16384x8x64 : Shape := ⟨3, ![16384, 8, 64]⟩
abbrev S16384x8x32 : Shape := ⟨3, ![16384, 8, 32]⟩
abbrev S16384x32 : Shape := ⟨2, ![16384, 32]⟩
abbrev S16384x512 : Shape := ⟨2, ![16384, 512]⟩
abbrev S16384x8x96 : Shape := ⟨3, ![16384, 8, 96]⟩
abbrev S16384x1x32 : Shape := ⟨3, ![16384, 1, 32]⟩
abbrev S8x16384x16384 : Shape := ⟨3, ![8, 16384, 16384]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S8x16384 : Shape := ⟨2, ![8, 16384]⟩
abbrev S8x16384x1 : Shape := ⟨3, ![8, 16384, 1]⟩
abbrev S8x64x16384 : Shape := ⟨3, ![8, 64, 16384]⟩
abbrev S8x16384x96 : Shape := ⟨3, ![8, 16384, 96]⟩

abbrev nBuf : Space → Nat
  | .hbm => 100
  | .vmem => 0
  | .smem => 0
  | _ => 0

abbrev bufTy : (tb : Table) → Fin (tcTables nBuf tb) → BufTy
  | .hbm, ⟨0, _⟩ => ⟨S16384x8x64, .f32⟩
  | .hbm, ⟨1, _⟩ => ⟨S16384x8x32, .f32⟩
  | .hbm, ⟨2, _⟩ => ⟨S16384x8x64, .f32⟩
  | .hbm, ⟨3, _⟩ => ⟨S16384x32, .f32⟩
  | .hbm, ⟨4, _⟩ => ⟨S16384x8x64, .f32⟩
  | .hbm, ⟨5, _⟩ => ⟨S16384x512, .f32⟩
  | .hbm, ⟨6, _⟩ => ⟨S16384x8x96, .f32⟩
  | .hbm, ⟨7, _⟩ => ⟨S16384x1x32, .f32⟩
  | .hbm, ⟨8, _⟩ => ⟨S16384x8x32, .f32⟩
  | .hbm, ⟨9, _⟩ => ⟨S16384x8x96, .f32⟩
  | .hbm, ⟨10, _⟩ => ⟨S8x16384x16384, .f32⟩
  | .hbm, ⟨11, _⟩ => ⟨S_, .f32⟩
  | .hbm, ⟨12, _⟩ => ⟨S8x16384x16384, .f32⟩
  | .hbm, ⟨13, _⟩ => ⟨S8x16384x16384, .f32⟩
  | .hbm, ⟨14, _⟩ => ⟨S16384, .i32⟩
  | .hbm, ⟨15, _⟩ => ⟨S1x16384, .i32⟩
  | .hbm, ⟨16, _⟩ => ⟨S16384x1, .i32⟩
  | .hbm, ⟨17, _⟩ => ⟨S16384x16384, .i32⟩
  | .hbm, ⟨18, _⟩ => ⟨S16384x16384, .i32⟩
  | .hbm, ⟨19, _⟩ => ⟨S16384x16384, .i1⟩
  | .hbm, ⟨20, _⟩ => ⟨S_, .f32⟩
  | .hbm, ⟨21, _⟩ => ⟨S_, .f32⟩
  | .hbm, ⟨22, _⟩ => ⟨S8x16384x16384, .i1⟩
  | .hbm, ⟨23, _⟩ => ⟨S8x16384x16384, .f32⟩
  | .hbm, ⟨24, _⟩ => ⟨S8x16384x16384, .f32⟩
  | .hbm, ⟨25, _⟩ => ⟨S_, .f32⟩
  | .hbm, ⟨26, _⟩ => ⟨S8x16384x16384, .f32⟩
  | .hbm, ⟨27, _⟩ => ⟨S_, .f32⟩
  | .hbm, ⟨28, _⟩ => ⟨S8x16384, .f32⟩
  | .hbm, ⟨29, _⟩ => ⟨S8x16384x1, .f32⟩
  | .hbm, ⟨30, _⟩ => ⟨S8x16384x16384, .f32⟩
  | .hbm, ⟨31, _⟩ => ⟨S8x16384x16384, .i1⟩
  | .hbm, ⟨32, _⟩ => ⟨S8x16384x16384, .f32⟩
  | .hbm, ⟨33, _⟩ => ⟨S_, .f32⟩
  | .hbm, ⟨34, _⟩ => ⟨S8x16384, .f32⟩
  | .hbm, ⟨35, _⟩ => ⟨S_, .f32⟩
  | .hbm, ⟨36, _⟩ => ⟨S8x16384, .f32⟩
  | .hbm, ⟨37, _⟩ => ⟨S8x16384, .f32⟩
  | .hbm, ⟨38, _⟩ => ⟨S_, .f32⟩
  | .hbm, ⟨39, _⟩ => ⟨S8x16384, .f32⟩
  | .hbm, ⟨40, _⟩ => ⟨S8x16384, .i1⟩
  | .hbm, ⟨41, _⟩ => ⟨S_, .f32⟩
  | .hbm, ⟨42, _⟩ => ⟨S8x16384, .f32⟩
  | .hbm, ⟨43, _⟩ => ⟨S8x16384, .i1⟩
  | .hbm, ⟨44, _⟩ => ⟨S_, .f32⟩
  | .hbm, ⟨45, _⟩ => ⟨S8x16384, .f32⟩
  | .hbm, ⟨46, _⟩ => ⟨S_, .f32⟩
  | .hbm, ⟨47, _⟩ => ⟨S8x16384, .f32⟩
  | .hbm, ⟨48, _⟩ => ⟨S_, .f32⟩
  | .hbm, ⟨49, _⟩ => ⟨S8x16384, .f32⟩
  | .hbm, ⟨50, _⟩ => ⟨S8x16384, .f32⟩
  | .hbm, ⟨51, _⟩ => ⟨S8x16384, .f32⟩
  | .hbm, ⟨52, _⟩ => ⟨S8x16384x1, .f32⟩
  | .hbm, ⟨53, _⟩ => ⟨S8x16384x16384, .f32⟩
  | .hbm, ⟨54, _⟩ => ⟨S8x16384x16384, .f32⟩
  | .hbm, ⟨55, _⟩ => ⟨S8x16384x16384, .f32⟩
  | .hbm, ⟨56, _⟩ => ⟨S_, .f32⟩
  | .hbm, ⟨57, _⟩ => ⟨S8x16384, .f32⟩
  | .hbm, ⟨58, _⟩ => ⟨S8x16384x1, .f32⟩
  | .hbm, ⟨59, _⟩ => ⟨S8x16384x16384, .f32⟩
  | .hbm, ⟨60, _⟩ => ⟨S8x16384x16384, .f32⟩
  | .hbm, ⟨61, _⟩ => ⟨S8x16384x1, .f32⟩
  | .hbm, ⟨62, _⟩ => ⟨S_, .f32⟩
  | .hbm, ⟨63, _⟩ => ⟨S8x16384x1, .f32⟩
  | .hbm, ⟨64, _⟩ => ⟨S8x16384x1, .f32⟩
  | .hbm, ⟨65, _⟩ => ⟨S8x64x16384, .f32⟩
  | .hbm, ⟨66, _⟩ => ⟨S16384x8x64, .f32⟩
  | .hbm, ⟨67, _⟩ => ⟨S16384x512, .f32⟩
  | .hbm, ⟨68, _⟩ => ⟨S16384x8x64, .f32⟩
  | .hbm, ⟨69, _⟩ => ⟨S8x64x16384, .f32⟩
  | .hbm, ⟨70, _⟩ => ⟨S8x16384x16384, .f32⟩
  | .hbm, ⟨71, _⟩ => ⟨S8x64x16384, .f32⟩
  | .hbm, ⟨72, _⟩ => ⟨S16384x8x64, .f32⟩
  | .hbm, ⟨73, _⟩ => ⟨S8x16384x16384, .f32⟩
  | .hbm, ⟨74, _⟩ => ⟨S8x16384x16384, .f32⟩
  | .hbm, ⟨75, _⟩ => ⟨S8x16384x16384, .f32⟩
  | .hbm, ⟨76, _⟩ => ⟨S_, .f32⟩
  | .hbm, ⟨77, _⟩ => ⟨S8x16384, .f32⟩
  | .hbm, ⟨78, _⟩ => ⟨S8x16384x1, .f32⟩
  | .hbm, ⟨79, _⟩ => ⟨S8x16384x1, .f32⟩
  | .hbm, ⟨80, _⟩ => ⟨S8x16384x16384, .f32⟩
  | .hbm, ⟨81, _⟩ => ⟨S8x16384x16384, .f32⟩
  | .hbm, ⟨82, _⟩ => ⟨S_, .f32⟩
  | .hbm, ⟨83, _⟩ => ⟨S8x16384, .f32⟩
  | .hbm, ⟨84, _⟩ => ⟨S8x16384x16384, .f32⟩
  | .hbm, ⟨85, _⟩ => ⟨S8x16384x16384, .f32⟩
  | .hbm, ⟨86, _⟩ => ⟨S8x16384x16384, .f32⟩
  | .hbm, ⟨87, _⟩ => ⟨S_, .f32⟩
  | .hbm, ⟨88, _⟩ => ⟨S8x16384x16384, .f32⟩
  | .hbm, ⟨89, _⟩ => ⟨S8x16384x16384, .f32⟩
  | .hbm, ⟨90, _⟩ => ⟨S_, .f32⟩
  | .hbm, ⟨91, _⟩ => ⟨S8x16384x16384, .f32⟩
  | .hbm, ⟨92, _⟩ => ⟨S8x16384x16384, .f32⟩
  | .hbm, ⟨93, _⟩ => ⟨S8x16384x96, .f32⟩
  | .hbm, ⟨94, _⟩ => ⟨S16384x8x96, .f32⟩
  | .hbm, ⟨95, _⟩ => ⟨S8x16384x96, .f32⟩
  | .hbm, ⟨96, _⟩ => ⟨S16384x8x96, .f32⟩
  | .hbm, ⟨97, _⟩ => ⟨S16384x8x96, .bf16⟩
  | .hbm, ⟨98, _⟩ => ⟨S16384x8x64, .bf16⟩
  | .hbm, ⟨99, _⟩ => ⟨S16384x512, .bf16⟩
  | _, _ => ⟨S16384x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_call0_v0 : Ref sig .tc := ⟨.hbm, 21, rfl⟩
abbrev main_v13_1 : Ref sig .tc := ⟨.hbm, 22, rfl⟩
abbrev main_call0_v2 : Ref sig .tc := ⟨.hbm, 23, rfl⟩
abbrev main_v13_0 : Ref sig .tc := ⟨.hbm, 24, rfl⟩
abbrev main_call0_cst : Ref sig .tc := ⟨.hbm, 25, rfl⟩
abbrev main_v13_2 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_cst_5 : Ref sig .tc := ⟨.hbm, 41, rfl⟩
abbrev main_v24 : Ref sig .tc := ⟨.hbm, 42, rfl⟩
abbrev main_v25 : Ref sig .tc := ⟨.hbm, 43, rfl⟩
abbrev main_cst_6 : Ref sig .tc := ⟨.hbm, 44, rfl⟩
abbrev main_v26 : Ref sig .tc := ⟨.hbm, 45, rfl⟩
abbrev main_cst_7 : Ref sig .tc := ⟨.hbm, 46, rfl⟩
abbrev main_v27 : Ref sig .tc := ⟨.hbm, 47, rfl⟩
abbrev main_cst_8 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_9 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_10 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_call1_cst : Ref sig .tc := ⟨.hbm, 87, rfl⟩
abbrev main_call1_v0 : Ref sig .tc := ⟨.hbm, 88, rfl⟩
abbrev main_v62 : Ref sig .tc := ⟨.hbm, 89, rfl⟩
abbrev main_cst_13 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩

abbrev nD : Nat := 1
abbrev τ : Topo := Topo.v7x

variable {F : FTy → Type} [FloatOps F]
-- ==== SguKernel.lean ====
abbrev S16384x512 : Shape := ⟨2, ![16384, 512]⟩
abbrev S8x128x128 : Shape := ⟨3, ![8, 128, 128]⟩
abbrev S8x128 : Shape := ⟨2, ![8, 128]⟩
abbrev S_ : Shape := ⟨0, ![]⟩
abbrev S128x128 : Shape := ⟨2, ![128, 128]⟩
abbrev S1x128x128 : Shape := ⟨3, ![1, 128, 128]⟩
abbrev S4x256x128 : Shape := ⟨3, ![4, 256, 128]⟩
abbrev S128x8 : Shape := ⟨2, ![128, 8]⟩
abbrev S128x8x64 : Shape := ⟨3, ![128, 8, 64]⟩
abbrev S128x512 : Shape := ⟨2, ![128, 512]⟩
abbrev S16384x1024 : Shape := ⟨2, ![16384, 1024]⟩
abbrev S16384x1536 : Shape := ⟨2, ![16384, 1536]⟩
abbrev S1024x512 : Shape := ⟨2, ![1024, 512]⟩
abbrev S1x256x128 : Shape := ⟨3, ![1, 256, 128]⟩
abbrev S256x128 : Shape := ⟨2, ![256, 128]⟩
abbrev S128 : Shape := ⟨1, ![128]⟩
abbrev S128x1 : Shape := ⟨2, ![128, 1]⟩

abbrev nBuf : Space → Nat
  | .hbm => 37
  | .vmem => 16
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S8x128x128, .f32⟩
  | .hbm, ⟨3, _⟩ => ⟨S8x128, .f32⟩
  | .hbm, ⟨4, _⟩ => ⟨S16384x512, .f32⟩
  | .hbm, ⟨5, _⟩ => ⟨S_, .f32⟩
  | .hbm, ⟨6, _⟩ => ⟨S128x128, .f32⟩
  | .hbm, ⟨7, _⟩ => ⟨S128x128, .i32⟩
  | .hbm, ⟨8, _⟩ => ⟨S_, .i32⟩
  | .hbm, ⟨9, _⟩ => ⟨S128x128, .i32⟩
  | .hbm, ⟨10, _⟩ => ⟨S128x128, .i32⟩
  | .hbm, ⟨11, _⟩ => ⟨S128x128, .i32⟩
  | .hbm, ⟨12, _⟩ => ⟨S128x128, .i1⟩
  | .hbm, ⟨13, _⟩ => ⟨S_, .f32⟩
  | .hbm, ⟨14, _⟩ => ⟨S128x128, .f32⟩
  | .hbm, ⟨15, _⟩ => ⟨S128x128, .f32⟩
  | .hbm, ⟨16, _⟩ => ⟨S1x128x128, .f32⟩
  | .hbm, ⟨17, _⟩ => ⟨S8x128x128, .f32⟩
  | .hbm, ⟨18, _⟩ => ⟨S8x128x128, .f32⟩
  | .hbm, ⟨19, _⟩ => ⟨S4x256x128, .f32⟩
  | .hbm, ⟨20, _⟩ => ⟨S4x256x128, .bf16⟩
  | .hbm, ⟨21, _⟩ => ⟨S8x128x128, .f32⟩
  | .hbm, ⟨22, _⟩ => ⟨S4x256x128, .f32⟩
  | .hbm, ⟨23, _⟩ => ⟨S4x256x128, .bf16⟩
  | .hbm, ⟨24, _⟩ => ⟨S128x8, .f32⟩
  | .hbm, ⟨25, _⟩ => ⟨S128x8x64, .f32⟩
  | .hbm, ⟨26, _⟩ => ⟨S128x512, .f32⟩
  | .hbm, ⟨27, _⟩ => ⟨S_, .f32⟩
  | .hbm, ⟨28, _⟩ => ⟨S16384x1024, .f32⟩
  | .hbm, ⟨29, _⟩ => ⟨S16384x1536, .f32⟩
  | .hbm, ⟨30, _⟩ => ⟨S16384x1536, .bf16⟩
  | .hbm, ⟨31, _⟩ => ⟨S16384x512, .bf16⟩
  | .hbm, ⟨32, _⟩ => ⟨S16384x512, .bf16⟩
  | .hbm, ⟨33, _⟩ => ⟨S16384x512, .bf16⟩
  | .hbm, ⟨34, _⟩ => ⟨S16384x512, .bf16⟩
  | .hbm, ⟨35, _⟩ => ⟨S8x128x128, .f32⟩
  | .hbm, ⟨36, _⟩ => ⟨S128x128, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S4x256x128, .bf16⟩
  | .local _ .vmem, ⟨7, _⟩ => ⟨S4x256x128, .bf16⟩
  | .local _ .vmem, ⟨8, _⟩ => ⟨S128x512, .f32⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S8x128x128, .f32⟩
  | .local _ .vmem, ⟨14, _⟩ => ⟨S128x128, .f32⟩
  | .local _ .vmem, ⟨15, _⟩ => ⟨S128x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_cst : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18_0 : Ref sig .tc := ⟨.hbm, 33, rfl⟩
abbrev main_v18_1 : Ref sig .tc := ⟨.hbm, 34, rfl⟩
abbrev main_v18_2 : Ref sig .tc := ⟨.hbm, 35, rfl⟩
abbrev main_v18_3 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v1262 : BitVec 1 := Scalar.cmpi .eq arg0 c15_i32
  let v1263 : BitVec 32 := Scalar.extui v1262
  let c0_i32_849 : BitVec 32 := 0#32
  let v1264 : BitVec 1 := Scalar.cmpi .ne v1263 c0_i32_849
  v1264

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x256x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== SguReferenceIdeal.lean ====
abbrev S16384x512 : Shape := ⟨2, ![16384, 512]⟩
abbrev S8x128x128 : Shape := ⟨3, ![8, 128, 128]⟩
abbrev S8x128 : Shape := ⟨2, ![8, 128]⟩
abbrev S128x128x8x64 : Shape := ⟨4, ![128, 128, 8, 64]⟩
abbrev S_ : Shape := ⟨0, ![]⟩
abbrev S128x128 : Shape := ⟨2, ![128, 128]⟩
abbrev S1x128x128 : Shape := ⟨3, ![1, 128, 128]⟩
abbrev S8x128x64x128 : Shape := ⟨4, ![8, 128, 64, 128]⟩
abbrev S128x8 : Shape := ⟨2, ![128, 8]⟩
abbrev S1x128x8x1 : Shape := ⟨4, ![1, 128, 8, 1]⟩

abbrev nBuf : Space → Nat
  | .hbm => 46
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S8x128x128, .f32⟩
  | .hbm, ⟨3, _⟩ => ⟨S8x128, .f32⟩
  | .hbm, ⟨4, _⟩ => ⟨S16384x512, .f32⟩
  | .hbm, ⟨5, _⟩ => ⟨S128x128x8x64, .f32⟩
  | .hbm, ⟨6, _⟩ => ⟨S_, .f32⟩
  | .hbm, ⟨7, _⟩ => ⟨S128x128, .f32⟩
  | .hbm, ⟨8, _⟩ => ⟨S128x128, .i32⟩
  | .hbm, ⟨9, _⟩ => ⟨S_, .i32⟩
  | .hbm, ⟨10, _⟩ => ⟨S128x128, .i32⟩
  | .hbm, ⟨11, _⟩ => ⟨S128x128, .i32⟩
  | .hbm, ⟨12, _⟩ => ⟨S128x128, .i32⟩
  | .hbm, ⟨13, _⟩ => ⟨S128x128, .i1⟩
  | .hbm, ⟨14, _⟩ => ⟨S_, .f32⟩
  | .hbm, ⟨15, _⟩ => ⟨S128x128, .f32⟩
  | .hbm, ⟨16, _⟩ => ⟨S128x128, .f32⟩
  | .hbm, ⟨17, _⟩ => ⟨S1x128x128, .f32⟩
  | .hbm, ⟨18, _⟩ => ⟨S8x128x128, .f32⟩
  | .hbm, ⟨19, _⟩ => ⟨S8x128x128, .f32⟩
  | .hbm, ⟨20, _⟩ => ⟨S8x128x64x128, .f32⟩
  | .hbm, ⟨21, _⟩ => ⟨S128x128x8x64, .f32⟩
  | .hbm, ⟨22, _⟩ => ⟨S128x8, .f32⟩
  | .hbm, ⟨23, _⟩ => ⟨S1x128x8x1, .f32⟩
  | .hbm, ⟨24, _⟩ => ⟨S128x128x8x64, .f32⟩
  | .hbm, ⟨25, _⟩ => ⟨S128x128x8x64, .f32⟩
  | .hbm, ⟨26, _⟩ => ⟨S16384x512, .f32⟩
  | .hbm, ⟨27, _⟩ => ⟨S16384x512, .f32⟩
  | .hbm, ⟨28, _⟩ => ⟨S16384x512, .f32⟩
  | .hbm, ⟨29, _⟩ => ⟨S16384x512, .f32⟩
  | .hbm, ⟨30, _⟩ => ⟨S128x128x8x64, .f32⟩
  | .hbm, ⟨31, _⟩ => ⟨S_, .f32⟩
  | .hbm, ⟨32, _⟩ => ⟨S128x8, .f32⟩
  | .hbm, ⟨33, _⟩ => ⟨S1x128x8x1, .f32⟩
  | .hbm, ⟨34, _⟩ => ⟨S_, .f32⟩
  | .hbm, ⟨35, _⟩ => ⟨S128x8, .f32⟩
  | .hbm, ⟨36, _⟩ => ⟨S8x128, .f32⟩
  | .hbm, ⟨37, _⟩ => ⟨S8x128x64x128, .f32⟩
  | .hbm, ⟨38, _⟩ => ⟨S8x128x128, .f32⟩
  | .hbm, ⟨39, _⟩ => ⟨S8x128x64x128, .f32⟩
  | .hbm, ⟨40, _⟩ => ⟨S128x128x8x64, .f32⟩
  | .hbm, ⟨41, _⟩ => ⟨S8x128x128, .f32⟩
  | .hbm, ⟨42, _⟩ => ⟨S8x128x128, .f32⟩
  | .hbm, ⟨43, _⟩ => ⟨S16384x512, .f32⟩
  | .hbm, ⟨44, _⟩ => ⟨S16384x512, .bf16⟩
  | .hbm, ⟨45, _⟩ => ⟨S16384x512, .bf16⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_cst : Ref sig .tc := ⟨.hbm, 14, rfl⟩
abbrev main_call0_v5 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_0 : Ref sig .tc := ⟨.hbm, 31, rfl⟩
abbrev main_v17 : Ref sig .tc := ⟨.hbm, 32, rfl⟩
abbrev main_v18 : Ref sig .tc := ⟨.hbm, 33, rfl⟩
abbrev main_cst_1 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]
-- ==== PrepKernel.lean ====
abbrev S16384x1696 : Shape := ⟨2, ![16384, 1696]⟩
abbrev S16384 : Shape := ⟨1, ![16384]⟩
abbrev S384 : Shape := ⟨1, ![384]⟩
abbrev S256 : Shape := ⟨1, ![256]⟩
abbrev S512 : Shape := ⟨1, ![512]⟩
abbrev S16384x384 : Shape := ⟨2, ![16384, 384]⟩
abbrev S16384x256 : Shape := ⟨2, ![16384, 256]⟩
abbrev S16384x8x96 : Shape := ⟨3, ![16384, 8, 96]⟩
abbrev S16384x512 : Shape := ⟨2, ![16384, 512]⟩
abbrev S16384x32 : Shape := ⟨2, ![16384, 32]⟩
abbrev S_ : Shape := ⟨0, ![]⟩
abbrev S16384x128 : Shape := ⟨2, ![16384, 128]⟩
abbrev S16384x640 : Shape := ⟨2, ![16384, 640]⟩
abbrev S16384x1024 : Shape := ⟨2, ![16384, 1024]⟩
abbrev S16384x1792 : Shape := ⟨2, ![16384, 1792]⟩
abbrev S16384x8x128 : Shape := ⟨3, ![16384, 8, 128]⟩
abbrev S16 : Shape := ⟨1, ![16]⟩
abbrev S64 : Shape := ⟨1, ![64]⟩
abbrev S32 : Shape := ⟨1, ![32]⟩
abbrev S128 : Shape := ⟨1, ![128]⟩
abbrev S1x128 : Shape := ⟨2, ![1, 128]⟩
abbrev S48 : Shape := ⟨1, ![48]⟩
abbrev S80 : Shape := ⟨1, ![80]⟩
abbrev S16384x1 : Shape := ⟨2, ![16384, 1]⟩
abbrev S1x384 : Shape := ⟨2, ![1, 384]⟩
abbrev S1x256 : Shape := ⟨2, ![1, 256]⟩
abbrev S1x512 : Shape := ⟨2, ![1, 512]⟩
abbrev S256x1792 : Shape := ⟨2, ![256, 1792]⟩
abbrev S256x128 : Shape := ⟨2, ![256, 128]⟩
abbrev S256x384 : Shape := ⟨2, ![256, 384]⟩
abbrev S256x256 : Shape := ⟨2, ![256, 256]⟩
abbrev S256x1024 : Shape := ⟨2, ![256, 1024]⟩
abbrev S256x512 : Shape := ⟨2, ![256, 512]⟩
abbrev S256x1 : Shape := ⟨2, ![256, 1]⟩
abbrev S16384x672 : Shape := ⟨2, ![16384, 672]⟩

abbrev nBuf : Space → Nat
  | .hbm => 83
  | .vmem => 26
  | .smem => 0
  | _ => 0

abbrev bufTy : (tb : Table) → Fin (tcTables nBuf tb) → BufTy
  | .hbm, ⟨0, _⟩ => ⟨S16384x1696, .f32⟩
  | .hbm, ⟨1, _⟩ => ⟨S16384, .i32⟩
  | .hbm, ⟨2, _⟩ => ⟨S384, .f32⟩
  | .hbm, ⟨3, _⟩ => ⟨S256, .f32⟩
  | .hbm, ⟨4, _⟩ => ⟨S512, .f32⟩
  | .hbm, ⟨5, _⟩ => ⟨S16384x384, .f32⟩
  | .hbm, ⟨6, _⟩ => ⟨S16384x256, .f32⟩
  | .hbm, ⟨7, _⟩ => ⟨S16384x8x96, .f32⟩
  | .hbm, ⟨8, _⟩ => ⟨S16384x512, .f32⟩
  | .hbm, ⟨9, _⟩ => ⟨S16384x512, .f32⟩
  | .hbm, ⟨10, _⟩ => ⟨S16384x32, .f32⟩
  | .hbm, ⟨11, _⟩ => ⟨S_, .i32⟩
  | .hbm, ⟨12, _⟩ => ⟨S_, .f32⟩
  | .hbm, ⟨13, _⟩ => ⟨S16384x128, .f32⟩
  | .hbm, ⟨14, _⟩ => ⟨S16384x640, .f32⟩
  | .hbm, ⟨15, _⟩ => ⟨S16384x1024, .f32⟩
  | .hbm, ⟨16, _⟩ => ⟨S16384x1792, .f32⟩
  | .hbm, ⟨17, _⟩ => ⟨S_, .i32⟩
  | .hbm, ⟨18, _⟩ => ⟨S_, .f32⟩
  | .hbm, ⟨19, _⟩ => ⟨S16384x8x128, .f32⟩
  | .hbm, ⟨20, _⟩ => ⟨S16384x1024, .f32⟩
  | .hbm, ⟨21, _⟩ => ⟨S16384x1024, .bf16⟩
  | .hbm, ⟨22, _⟩ => ⟨S16, .f32⟩
  | .hbm, ⟨23, _⟩ => ⟨S_, .f32⟩
  | .hbm, ⟨24, _⟩ => ⟨S16, .f32⟩
  | .hbm, ⟨25, _⟩ => ⟨S16, .f32⟩
  | .hbm, ⟨26, _⟩ => ⟨S_, .f32⟩
  | .hbm, ⟨27, _⟩ => ⟨S16, .f32⟩
  | .hbm, ⟨28, _⟩ => ⟨S16, .f32⟩
  | .hbm, ⟨29, _⟩ => ⟨S16, .f32⟩
  | .hbm, ⟨30, _⟩ => ⟨S_, .f32⟩
  | .hbm, ⟨31, _⟩ => ⟨S16, .f32⟩
  | .hbm, ⟨32, _⟩ => ⟨S16, .f32⟩
  | .hbm, ⟨33, _⟩ => ⟨S_, .f32⟩
  | .hbm, ⟨34, _⟩ => ⟨S16, .f32⟩
  | .hbm, ⟨35, _⟩ => ⟨S16, .f32⟩
  | .hbm, ⟨36, _⟩ => ⟨S_, .f32⟩
  | .hbm, ⟨37, _⟩ => ⟨S16, .f32⟩
  | .hbm, ⟨38, _⟩ => ⟨S_, .f32⟩
  | .hbm, ⟨39, _⟩ => ⟨S64, .f32⟩
  | .hbm, ⟨40, _⟩ => ⟨S_, .f32⟩
  | .hbm, ⟨41, _⟩ => ⟨S32, .f32⟩
  | .hbm, ⟨42, _⟩ => ⟨S128, .f32⟩
  | .hbm, ⟨43, _⟩ => ⟨S1x128, .f32⟩
  | .hbm, ⟨44, _⟩ => ⟨S_, .f32⟩
  | .hbm, ⟨45, _⟩ => ⟨S64, .f32⟩
  | .hbm, ⟨46, _⟩ => ⟨S16, .f32⟩
  | .hbm, ⟨47, _⟩ => ⟨S_, .f32⟩
  | .hbm, ⟨48, _⟩ => ⟨S48, .f32⟩
  | .hbm, ⟨49, _⟩ => ⟨S128, .f32⟩
  | .hbm, ⟨50, _⟩ => ⟨S1x128, .f32⟩
  | .hbm, ⟨51, _⟩ => ⟨S_, .f32⟩
  | .hbm, ⟨52, _⟩ => ⟨S80, .f32⟩
  | .hbm, ⟨53, _⟩ => ⟨S_, .f32⟩
  | .hbm, ⟨54, _⟩ => ⟨S32, .f32⟩
  | .hbm, ⟨55, _⟩ => ⟨S128, .f32⟩
  | .hbm, ⟨56, _⟩ => ⟨S1x128, .f32⟩
  | .hbm, ⟨57, _⟩ => ⟨S16384x1, .i32⟩
  | .hbm, ⟨58, _⟩ => ⟨S16384x1, .f32⟩
  | .hbm, ⟨59, _⟩ => ⟨S16384x128, .f32⟩
  | .hbm, ⟨60, _⟩ => ⟨S16384x128, .f32⟩
  | .hbm, ⟨61, _⟩ => ⟨S16384x128, .f32⟩
  | .hbm, ⟨62, _⟩ => ⟨S16384x128, .f32⟩
  | .hbm, ⟨63, _⟩ => ⟨S16384x128, .f32⟩
  | .hbm, ⟨64, _⟩ => ⟨S16384x128, .f32⟩
  | .hbm, ⟨65, _⟩ => ⟨S16384x128, .f32⟩
  | .hbm, ⟨66, _⟩ => ⟨S16384x128, .f32⟩
  | .hbm, ⟨67, _⟩ => ⟨S16384x128, .f32⟩
  | .hbm, ⟨68, _⟩ => ⟨S1x384, .f32⟩
  | .hbm, ⟨69, _⟩ => ⟨S1x256, .f32⟩
  | .hbm, ⟨70, _⟩ => ⟨S1x512, .f32⟩
  | .hbm, ⟨71, _⟩ => ⟨S16384x512, .bf16⟩
  | .hbm, ⟨72, _⟩ => ⟨S16384x512, .bf16⟩
  | .hbm, ⟨73, _⟩ => ⟨S16384x1792, .bf16⟩
  | .hbm, ⟨74, _⟩ => ⟨S1x384, .f32⟩
  | .hbm, ⟨75, _⟩ => ⟨S1x256, .f32⟩
  | .hbm, ⟨76, _⟩ => ⟨S1x512, .f32⟩
  | .hbm, ⟨77, _⟩ => ⟨S16384x640, .bf16⟩
  | .hbm, ⟨78, _⟩ => ⟨S16384x32, .bf16⟩
  | .hbm, ⟨79, _⟩ => ⟨S16384x672, .bf16⟩
  | .hbm, ⟨80, _⟩ => ⟨S384, .f32⟩
  | .hbm, ⟨81, _⟩ => ⟨S256, .f32⟩
  | .hbm, ⟨82, _⟩ => ⟨S512, .f32⟩
  | .local _ .vmem, ⟨0, _⟩ => ⟨S256x1792, .f32⟩
  | .local _ .vmem, ⟨1, _⟩ => ⟨S256x1792, .f32⟩
  | .local _ .vmem, ⟨2, _⟩ => ⟨S1x384, .f32⟩
  | .local _ .vmem, ⟨3, _⟩ => ⟨S1x256, .f32⟩
  | .local _ .vmem, ⟨4, _⟩ => ⟨S1x512, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x384, .f32⟩
  | .local _ .vmem, ⟨12, _⟩ => ⟨S256x384, .f32⟩
  | .local _ .vmem, ⟨13, _⟩ => ⟨S256x256, .f32⟩
  | .local _ .vmem, ⟨14, _⟩ => ⟨S256x256, .f32⟩
  | .local _ .vmem, ⟨15, _⟩ => ⟨S256x1024, .bf16⟩
  | .local _ .vmem, ⟨16, _⟩ => ⟨S256x1024, .bf16⟩
  | .local _ .vmem, ⟨17, _⟩ => ⟨S256x512, .bf16⟩
  | .local _ .vmem, ⟨18, _⟩ => ⟨S256x512, .bf16⟩
  | .local _ .vmem, ⟨19, _⟩ => ⟨S256x512, .bf16⟩
  | .local _ .vmem, ⟨20, _⟩ => ⟨S256x512, .bf16⟩
  | .local _ .vmem, ⟨21, _⟩ => ⟨S256x1792, .bf16⟩
  | .local _ .vmem, ⟨22, _⟩ => ⟨S256x1792, .bf16⟩
  | .local _ .vmem, ⟨23, _⟩ => ⟨S1x384, .f32⟩
  | .local _ .vmem, ⟨24, _⟩ => ⟨S1x256, .f32⟩
  | .local _ .vmem, ⟨25, _⟩ => ⟨S1x512, .f32⟩
  | _, _ => ⟨S16384x1696, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c_0 : Ref sig .tc := ⟨.hbm, 17, rfl⟩
abbrev main_call1_v0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_v16 : Ref sig .tc := ⟨.hbm, 34, rfl⟩
abbrev main_v17 : Ref sig .tc := ⟨.hbm, 35, rfl⟩
abbrev main_cst_4 : Ref sig .tc := ⟨.hbm, 36, rfl⟩
abbrev main_v18 : Ref sig .tc := ⟨.hbm, 37, rfl⟩
abbrev main_cst_5 : Ref sig .tc := ⟨.hbm, 38, rfl⟩
abbrev main_v19 : Ref sig .tc := ⟨.hbm, 39, rfl⟩
abbrev main_cst_6 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_7 : Ref sig .tc := ⟨.hbm, 44, rfl⟩
abbrev main_v23 : Ref sig .tc := ⟨.hbm, 45, rfl⟩
abbrev main_v24 : Ref sig .tc := ⟨.hbm, 46, rfl⟩
abbrev main_cst_8 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_9 : Ref sig .tc := ⟨.hbm, 51, rfl⟩
abbrev main_v28 : Ref sig .tc := ⟨.hbm, 52, rfl⟩
abbrev main_cst_10 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48_0 : Ref sig .tc := ⟨.hbm, 73, rfl⟩
abbrev main_v48_1 : Ref sig .tc := ⟨.hbm, 74, rfl⟩
abbrev main_v48_2 : Ref sig .tc := ⟨.hbm, 75, rfl⟩
abbrev main_v48_3 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem14_0 : DmaSem sig := 24
abbrev cc0_sem15_0 : DmaSem sig := 25

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v199 : BitVec 1 := Scalar.cmpi .eq arg0 c0_i32
  let v200 : BitVec 32 := Scalar.extui v199
  let c0_i32_76 : BitVec 32 := 0#32
  let v201 : BitVec 1 := Scalar.cmpi .ne v200 c0_i32_76
  v201

def k0_cond2 (i : grid0.Coords) : BitVec 1 :=
  let arg0 : BitVec 32 := BitVec.ofNat 32 (i 0).val
  let c0_i32_77 : BitVec 32 := 0#32
  let v202 : BitVec 1 := Scalar.cmpi .ne arg0 c0_i32_77
  let v203 : BitVec 32 := Scalar.extui v202
  let c0_i32_78 : BitVec 32 := 0#32
  let v204 : BitVec 1 := Scalar.cmpi .ne v203 c0_i32_78
  v204

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1792 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x384 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== PrepReferenceIdeal.lean ====
abbrev S16384x1696 : Shape := ⟨2, ![16384, 1696]⟩
abbrev S16384 : Shape := ⟨1, ![16384]⟩
abbrev S384 : Shape := ⟨1, ![384]⟩
abbrev S256 : Shape := ⟨1, ![256]⟩
abbrev S512 : Shape := ⟨1, ![512]⟩
abbrev S16384x384 : Shape := ⟨2, ![16384, 384]⟩
abbrev S16384x256 : Shape := ⟨2, ![16384, 256]⟩
abbrev S16384x8x96 : Shape := ⟨3, ![16384, 8, 96]⟩
abbrev S16384x512 : Shape := ⟨2, ![16384, 512]⟩
abbrev S16 : Shape := ⟨1, ![16]⟩
abbrev S_ : Shape := ⟨0, ![]⟩
abbrev S16384x1 : Shape := ⟨2, ![16384, 1]⟩
abbrev S1x16 : Shape := ⟨2, ![1, 16]⟩
abbrev S16384x16 : Shape := ⟨2, ![16384, 16]⟩
abbrev S16384x32 : Shape := ⟨2, ![16384, 32]⟩
abbrev S16384x1024 : Shape := ⟨2, ![16384, 1024]⟩
abbrev S16384x1x32 : Shape := ⟨3, ![16384, 1, 32]⟩
abbrev S16384x8x32 : Shape := ⟨3, ![16384, 8, 32]⟩
abbrev S1x384 : Shape := ⟨2, ![1, 384]⟩
abbrev S1x256 : Shape := ⟨2, ![1, 256]⟩
abbrev S1x512 : Shape := ⟨2, ![1, 512]⟩
abbrev S16384x672 : Shape := ⟨2, ![16384, 672]⟩

abbrev nBuf : Space → Nat
  | .hbm => 230
  | .vmem => 0
  | .smem => 0
  | _ => 0

abbrev hbmTy0_0 (i : Nat) : BufTy := match i % 128 with
  | 0 => ⟨S16384x1696, .f32⟩
  | 1 => ⟨S16384, .i32⟩
  | 2 => ⟨S384, .f32⟩
  | 3 => ⟨S256, .f32⟩
  | 4 => ⟨S512, .f32⟩
  | 5 => ⟨S16384x384, .f32⟩
  | 6 => ⟨S16384x256, .f32⟩
  | 7 => ⟨S16384x8x96, .f32⟩
  | 8 => ⟨S16384x512, .f32⟩
  | 9 => ⟨S16384x512, .f32⟩
  | 10 => ⟨S16, .f32⟩
  | 11 => ⟨S_, .f32⟩
  | 12 => ⟨S16, .f32⟩
  | 13 => ⟨S16, .f32⟩
  | 14 => ⟨S_, .f32⟩
  | 15 => ⟨S16, .f32⟩
  | 16 => ⟨S16, .f32⟩
  | 17 => ⟨S16, .f32⟩
  | 18 => ⟨S_, .f32⟩
  | 19 => ⟨S16, .f32⟩
  | 20 => ⟨S16, .f32⟩
  | 21 => ⟨S_, .f32⟩
  | 22 => ⟨S16, .f32⟩
  | 23 => ⟨S16, .f32⟩
  | 24 => ⟨S16384, .f32⟩
  | 25 => ⟨S16384x1, .f32⟩
  | 26 => ⟨S1x16, .f32⟩
  | 27 => ⟨S16384x16, .f32⟩
  | 28 => ⟨S16384x16, .f32⟩
  | 29 => ⟨S16384x16, .f32⟩
  | 30 => ⟨S16384x16, .f32⟩
  | 31 => ⟨S16384x16, .f32⟩
  | 32 => ⟨S16384x384, .f32⟩
  | 33 => ⟨S16384x256, .f32⟩
  | 34 => ⟨S16384x32, .f32⟩
  | 35 => ⟨S16384x1024, .f32⟩
  | 36 => ⟨S_, .f32⟩
  | 37 => ⟨S16384x1024, .f32⟩
  | 38 => ⟨S16384x1024, .f32⟩
  | 39 => ⟨S16384x1024, .f32⟩
  | 40 => ⟨S_, .f32⟩
  | 41 => ⟨S16384x1024, .f32⟩
  | 42 => ⟨S16384x1024, .f32⟩
  | 43 => ⟨S16384x1024, .f32⟩
  | 44 => ⟨S16384x1024, .f32⟩
  | 45 => ⟨S16384x1024, .f32⟩
  | 46 => ⟨S16384x1024, .f32⟩
  | 47 => ⟨S16384x1024, .f32⟩
  | 48 => ⟨S16384x512, .f32⟩
  | 49 => ⟨S16384x512, .f32⟩
  | 50 => ⟨S16384x16, .f32⟩
  | 51 => ⟨S16384x16, .f32⟩
  | 52 => ⟨S16384x16, .f32⟩
  | 53 => ⟨S16384x16, .f32⟩
  | 54 => ⟨S16384x16, .f32⟩
  | 55 => ⟨S16384x16, .f32⟩
  | 56 => ⟨S16384x16, .f32⟩
  | 57 => ⟨S16384x16, .f32⟩
  | 58 => ⟨S16384x32, .f32⟩
  | 59 => ⟨S16384x1x32, .f32⟩
  | 60 => ⟨S16384x8x32, .f32⟩
  | 61 => ⟨S16384x384, .f32⟩
  | 62 => ⟨S_, .f32⟩
  | 63 => ⟨S16384, .f32⟩
  | 64 => ⟨S16384x1, .f32⟩
  | 65 => ⟨S_, .f32⟩
  | 66 => ⟨S16384x1, .f32⟩
  | 67 => ⟨S16384x1, .f32⟩
  | 68 => ⟨S_, .f32⟩
  | 69 => ⟨S16384x1, .f32⟩
  | 70 => ⟨S16384x1, .f32⟩
  | 71 => ⟨S16384x1, .f32⟩
  | 72 => ⟨S16384x1, .f32⟩
  | 73 => ⟨S_, .f32⟩
  | 74 => ⟨S16384x1, .f32⟩
  | 75 => ⟨S16384x1, .f32⟩
  | 76 => ⟨S16384x384, .f32⟩
  | 77 => ⟨S16384x384, .f32⟩
  | 78 => ⟨S1x384, .f32⟩
  | 79 => ⟨S16384x384, .f32⟩
  | 80 => ⟨S16384x384, .f32⟩
  | 81 => ⟨S16384x256, .f32⟩
  | 82 => ⟨S_, .f32⟩
  | 83 => ⟨S16384, .f32⟩
  | 84 => ⟨S16384x1, .f32⟩
  | 85 => ⟨S_, .f32⟩
  | 86 => ⟨S16384x1, .f32⟩
  | 87 => ⟨S16384x1, .f32⟩
  | 88 => ⟨S_, .f32⟩
  | 89 => ⟨S16384x1, .f32⟩
  | 90 => ⟨S16384x1, .f32⟩
  | 91 => ⟨S16384x1, .f32⟩
  | 92 => ⟨S16384x1, .f32⟩
  | 93 => ⟨S_, .f32⟩
  | 94 => ⟨S16384x1, .f32⟩
  | 95 => ⟨S16384x1, .f32⟩
  | 96 => ⟨S16384x256, .f32⟩
  | 97 => ⟨S16384x256, .f32⟩
  | 98 => ⟨S1x256, .f32⟩
  | 99 => ⟨S16384x256, .f32⟩
  | 100 => ⟨S16384x256, .f32⟩
  | 101 => ⟨S16384x512, .f32⟩
  | 102 => ⟨S_, .f32⟩
  | 103 => ⟨S16384, .f32⟩
  | 104 => ⟨S16384x1, .f32⟩
  | 105 => ⟨S_, .f32⟩
  | 106 => ⟨S16384x1, .f32⟩
  | 107 => ⟨S16384x1, .f32⟩
  | 108 => ⟨S_, .f32⟩
  | 109 => ⟨S16384x1, .f32⟩
  | 110 => ⟨S16384x1, .f32⟩
  | 111 => ⟨S16384x1, .f32⟩
  | 112 => ⟨S16384x1, .f32⟩
  | 113 => ⟨S_, .f32⟩
  | 114 => ⟨S16384x1, .f32⟩
  | 115 => ⟨S16384x1, .f32⟩
  | 116 => ⟨S16384x512, .f32⟩
  | 117 => ⟨S16384x512, .f32⟩
  | 118 => ⟨S1x512, .f32⟩
  | 119 => ⟨S16384x512, .f32⟩
  | 120 => ⟨S16384x512, .f32⟩
  | 121 => ⟨S16384x8x32, .f32⟩
  | 122 => ⟨S16384x512, .f32⟩
  | 123 => ⟨S_, .f32⟩
  | 124 => ⟨S512, .f32⟩
  | 125 => ⟨S1x512, .f32⟩
  | 126 => ⟨S16384x512, .f32⟩
  | 127 => ⟨S16384x512, .f32⟩
  | _ => ⟨S16384x1696, .f32⟩

abbrev hbmTy0_1 (i : Nat) : BufTy := match i % 128 with
  | 0 => ⟨S_, .f32⟩
  | 1 => ⟨S512, .f32⟩
  | 2 => ⟨S16384x512, .f32⟩
  | 3 => ⟨S_, .f32⟩
  | 4 => ⟨S16384, .f32⟩
  | 5 => ⟨S16384x1, .f32⟩
  | 6 => ⟨S16384x512, .f32⟩
  | 7 => ⟨S16384x512, .f32⟩
  | 8 => ⟨S16384x1, .f32⟩
  | 9 => ⟨S_, .f32⟩
  | 10 => ⟨S16384x1, .f32⟩
  | 11 => ⟨S16384x1, .f32⟩
  | 12 => ⟨S_, .f32⟩
  | 13 => ⟨S16384, .f32⟩
  | 14 => ⟨S16384x512, .f32⟩
  | 15 => ⟨S16384x512, .f32⟩
  | 16 => ⟨S16384x512, .f32⟩
  | 17 => ⟨S16384x512, .f32⟩
  | 18 => ⟨S16384x512, .f32⟩
  | 19 => ⟨S16384x256, .f32⟩
  | 20 => ⟨S_, .f32⟩
  | 21 => ⟨S256, .f32⟩
  | 22 => ⟨S1x256, .f32⟩
  | 23 => ⟨S16384x256, .f32⟩
  | 24 => ⟨S16384x256, .f32⟩
  | 25 => ⟨S_, .f32⟩
  | 26 => ⟨S256, .f32⟩
  | 27 => ⟨S16384x256, .f32⟩
  | 28 => ⟨S_, .f32⟩
  | 29 => ⟨S16384, .f32⟩
  | 30 => ⟨S16384x1, .f32⟩
  | 31 => ⟨S16384x256, .f32⟩
  | 32 => ⟨S16384x256, .f32⟩
  | 33 => ⟨S16384x1, .f32⟩
  | 34 => ⟨S_, .f32⟩
  | 35 => ⟨S16384x1, .f32⟩
  | 36 => ⟨S16384x1, .f32⟩
  | 37 => ⟨S_, .f32⟩
  | 38 => ⟨S16384, .f32⟩
  | 39 => ⟨S16384x256, .f32⟩
  | 40 => ⟨S16384x256, .f32⟩
  | 41 => ⟨S16384x256, .f32⟩
  | 42 => ⟨S16384x256, .f32⟩
  | 43 => ⟨S16384x256, .f32⟩
  | 44 => ⟨S16384x384, .f32⟩
  | 45 => ⟨S_, .f32⟩
  | 46 => ⟨S384, .f32⟩
  | 47 => ⟨S1x384, .f32⟩
  | 48 => ⟨S16384x384, .f32⟩
  | 49 => ⟨S16384x384, .f32⟩
  | 50 => ⟨S_, .f32⟩
  | 51 => ⟨S384, .f32⟩
  | 52 => ⟨S16384x384, .f32⟩
  | 53 => ⟨S_, .f32⟩
  | 54 => ⟨S16384, .f32⟩
  | 55 => ⟨S16384x1, .f32⟩
  | 56 => ⟨S16384x384, .f32⟩
  | 57 => ⟨S16384x384, .f32⟩
  | 58 => ⟨S16384x1, .f32⟩
  | 59 => ⟨S_, .f32⟩
  | 60 => ⟨S16384x1, .f32⟩
  | 61 => ⟨S16384x1, .f32⟩
  | 62 => ⟨S_, .f32⟩
  | 63 => ⟨S16384, .f32⟩
  | 64 => ⟨S16384x384, .f32⟩
  | 65 => ⟨S16384x384, .f32⟩
  | 66 => ⟨S16384x384, .f32⟩
  | 67 => ⟨S16384x384, .f32⟩
  | 68 => ⟨S16384x384, .f32⟩
  | 69 => ⟨S_, .f32⟩
  | 70 => ⟨S16384x32, .f32⟩
  | 71 => ⟨S16384x1x32, .f32⟩
  | 72 => ⟨S_, .f32⟩
  | 73 => ⟨S16384x32, .f32⟩
  | 74 => ⟨S16384x16, .f32⟩
  | 75 => ⟨S16384x16, .f32⟩
  | 76 => ⟨S16384x16, .f32⟩
  | 77 => ⟨S16384x16, .f32⟩
  | 78 => ⟨S16384x16, .f32⟩
  | 79 => ⟨S16384x16, .f32⟩
  | 80 => ⟨S16384x16, .f32⟩
  | 81 => ⟨S16384x16, .f32⟩
  | 82 => ⟨S16384x16, .f32⟩
  | 83 => ⟨S16384x32, .f32⟩
  | 84 => ⟨S16384x1024, .f32⟩
  | 85 => ⟨S16384x1024, .f32⟩
  | 86 => ⟨S16384x1024, .f32⟩
  | 87 => ⟨S_, .f32⟩
  | 88 => ⟨S16384x1024, .f32⟩
  | 89 => ⟨S16384x1024, .f32⟩
  | 90 => ⟨S16384x1024, .f32⟩
  | 91 => ⟨S_, .f32⟩
  | 92 => ⟨S16384x1024, .f32⟩
  | 93 => ⟨S16384x1024, .f32⟩
  | 94 => ⟨S16384x1024, .f32⟩
  | 95 => ⟨S_, .f32⟩
  | 96 => ⟨S16384x1024, .f32⟩
  | 97 => ⟨S16384x1024, .f32⟩
  | 98 => ⟨S16384x1024, .f32⟩
  | 99 => ⟨S16384x1696, .f32⟩
  | 100 => ⟨S16384x672, .f32⟩
  | 101 => ⟨S16384x672, .bf16⟩
  | _ => ⟨S16384x1696, .f32⟩

abbrev hbmTy (i : Nat) : BufTy := match i / 128 with
  | 0 => hbmTy0_0 i
  | 1 => hbmTy0_1 i
  | _ => ⟨S16384x1696, .f32⟩

abbrev bufTy : (tb : Table) → Fin (tcTables nBuf tb) → BufTy
  | .hbm, ⟨i, _⟩ => hbmTy i
  | _, _ => ⟨S16384x1696, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_cst_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_5 : Ref sig .tc := ⟨.hbm, 62, rfl⟩
abbrev main_v46 : Ref sig .tc := ⟨.hbm, 63, rfl⟩
abbrev main_v47 : Ref sig .tc := ⟨.hbm, 64, rfl⟩
abbrev main_cst_6 : Ref sig .tc := ⟨.hbm, 65, rfl⟩
abbrev main_v48 : Ref sig .tc := ⟨.hbm, 66, rfl⟩
abbrev main_v49 : Ref sig .tc := ⟨.hbm, 67, rfl⟩
abbrev main_cst_7 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_8 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_9 : Ref sig .tc := ⟨.hbm, 82, rfl⟩
abbrev main_v62 : Ref sig .tc := ⟨.hbm, 83, rfl⟩
abbrev main_v63 : Ref sig .tc := ⟨.hbm, 84, rfl⟩
abbrev main_cst_10 : Ref sig .tc := ⟨.hbm, 85, rfl⟩
abbrev main_v64 : Ref sig .tc := ⟨.hbm, 86, rfl⟩
abbrev main_v65 : Ref sig .tc := ⟨.hbm, 87, rfl⟩
abbrev main_cst_11 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_12 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_13 : Ref sig .tc := ⟨.hbm, 102, rfl⟩
abbrev main_v78 : Ref sig .tc := ⟨.hbm, 103, rfl⟩
abbrev main_v79 : Ref sig .tc := ⟨.hbm, 104, rfl⟩
abbrev main_cst_14 : Ref sig .tc := ⟨.hbm, 105, rfl⟩
abbrev main_v80 : Ref sig .tc := ⟨.hbm, 106, rfl⟩
abbrev main_v81 : Ref sig .tc := ⟨.hbm, 107, rfl⟩
abbrev main_cst_15 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_cst_16 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_cst_17 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_cst_18 : Ref sig .tc := ⟨.hbm, 128, rfl⟩
abbrev main_v99 : Ref sig .tc := ⟨.hbm, 129, rfl⟩
abbrev main_v100 : Ref sig .tc := ⟨.hbm, 130, rfl⟩
abbrev main_cst_19 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_cst_20 : Ref sig .tc := ⟨.hbm, 137, rfl⟩
abbrev main_v106 : Ref sig .tc := ⟨.hbm, 138, rfl⟩
abbrev main_v107 : Ref sig .tc := ⟨.hbm, 139, rfl⟩
abbrev main_cst_21 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_cst_22 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_cst_23 : Ref sig .tc := ⟨.hbm, 153, rfl⟩
abbrev main_v119 : Ref sig .tc := ⟨.hbm, 154, rfl⟩
abbrev main_v120 : Ref sig .tc := ⟨.hbm, 155, rfl⟩
abbrev main_cst_24 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_cst_25 : Ref sig .tc := ⟨.hbm, 162, rfl⟩
abbrev main_v126 : Ref sig .tc := ⟨.hbm, 163, rfl⟩
abbrev main_v127 : Ref sig .tc := ⟨.hbm, 164, rfl⟩
abbrev main_cst_26 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_cst_27 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_cst_28 : Ref sig .tc := ⟨.hbm, 178, rfl⟩
abbrev main_v139 : Ref sig .tc := ⟨.hbm, 179, rfl⟩
abbrev main_v140 : Ref sig .tc := ⟨.hbm, 180, rfl⟩
abbrev main_cst_29 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_cst_30 : Ref sig .tc := ⟨.hbm, 187, rfl⟩
abbrev main_v146 : Ref sig .tc := ⟨.hbm, 188, rfl⟩
abbrev main_v147 : Ref sig .tc := ⟨.hbm, 189, rfl⟩
abbrev main_cst_31 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_cst_32 : Ref sig .tc := ⟨.hbm, 197, rfl⟩
abbrev main_v154 : Ref sig .tc := ⟨.hbm, 198, rfl⟩
abbrev main_v155 : Ref sig .tc := ⟨.hbm, 199, rfl⟩
abbrev main_cst_33 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_cst_34 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_cst_35 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_cst_36 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩

abbrev nD : Nat := 1
abbrev τ : Topo := Topo.v7x

variable {F : FTy → Type} [FloatOps F]
-- ==== Proof.Tools.Arrays.lean ====
module

public import Idealize.ShloMosaic.Lib.Pointwise
public import Idealize.ShloMosaic.PureOps.Ideal.Laws

/-! Arrays of rank two read by natural numbers.

A kernel's block sits somewhere in its array, a shifted row may lie outside of it: both are simplest said when an array
can be read at any pair of natural numbers, with zero outside. -/

@[expose] public section

set_option maxRecDepth 16384

noncomputable section

namespace Cert.Tools

open Idealize.ShloMosaic

/-- Element `(r, l)` of an array of rank two, zero outside of it. -/
def at2 {R C : ℕ} (v : (⟨2, ![R, C]⟩ : Shape).Idx → EReal) (r l : ℕ) : EReal :=
  if h : r < R ∧ l < C then v (ix2 ⟨r, h.1⟩ ⟨l, h.2⟩) else 0

theorem at2_ix {R C : ℕ} (v : (⟨2, ![R, C]⟩ : Shape).Idx → EReal) (r : Fin R) (l : Fin C) :
    at2 v r.val l.val = v (ix2 r l) := by
  unfold at2; rw [dif_pos ⟨r.isLt, l.isLt⟩]

theorem at2_idx {R C : ℕ} (v : (⟨2, ![R, C]⟩ : Shape).Idx → EReal) (i : (⟨2, ![R, C]⟩ : Shape).Idx) :
    v i = at2 v (i 0).val (i 1).val := by
  have h : i = ix2 (i 0) (i 1) := eq_ix2 i
  rw [h]; exact (at2_ix v (i 0) (i 1)).symm

theorem at2_out {R C : ℕ} (v : (⟨2, ![R, C]⟩ : Shape).Idx → EReal) {r : ℕ} (l : ℕ) (h : R ≤ r) : at2 v r l = 0 := by
  unfold at2; rw [dif_neg fun h' => absurd h'.1 (Nat.not_lt.mpr h)]

/-- An array read where both coordinates are known. -/
theorem at2_at {R C : ℕ} (v : (⟨2, ![R, C]⟩ : Shape).Idx → EReal) (i : (⟨2, ![R, C]⟩ : Shape).Idx) (r l : ℕ)
    (hr : (i 0).val = r) (hl : (i 1).val = l) : v i = at2 v r l := by rw [at2_idx v i, hr, hl]

/-- Two indices of rank three with the same coordinates are equal. -/
theorem ext3 {A B C : ℕ} {i j : (⟨3, ![A, B, C]⟩ : Shape).Idx} (h0 : (i 0).val = (j 0).val) (h1 : (i 1).val = (j 1).val) (h2 : (i 2).val = (j 2).val) : i = j := by
  funext a
  fin_cases a
  · exact Fin.ext h0
  · exact Fin.ext h1
  · exact Fin.ext h2

/-- Two indices with equal coordinates. -/
theorem ext2 {R C : ℕ} {i j : (⟨2, ![R, C]⟩ : Shape).Idx} (h0 : (i 0).val = (j 0).val) (h1 : (i 1).val = (j 1).val) : i = j := by
  funext a; apply Fin.ext; fin_cases a
  · exact h0
  · exact h1

theorem zero2 : (![0, 0] : Fin 2 → ℕ) = fun _ => 0 := by funext a; fin_cases a <;> rfl

/-- Two blocks added. -/
def plus {s : Shape} (a b : Vec Ideal s .f32) : Vec Ideal s .f32 := fun y => (a y + b y : EReal)

/-- An element lies in a rectangle of unit strides when each coordinate does. -/
theorem mem_unit2 {R C o0 o1 s0 s1 : ℕ} {inb} (r : Fin R) (l : Fin C) (h0 : o0 ≤ r.val ∧ r.val < o0 + s0)
    (h1 : o1 ≤ l.val ∧ l.val < o1 + s1) :
    (ix2 r l : (⟨2, ![R, C]⟩ : Shape).Idx) ∈ (Rect.unit (s := ⟨2, ![R, C]⟩) ![o0, o1] ![s0, s1] inb).set :=
  Rect.mem_set_unit.mpr fun a => match a with
    | ⟨0, _⟩ => h0
    | ⟨1, _⟩ => h1

/-- A sum over tiles of equal length is the sum over the whole range. -/
theorem sum_tiles {M : Type*} [AddCommMonoid M] (n b : ℕ) (g : ℕ → M) :
    ∑ t ∈ Finset.range n, ∑ r : Fin b, g (t * b + r.val) = ∑ j ∈ Finset.range (n * b), g j := by
  induction n with
  | zero => simp
  | succ n ih => rw [Finset.sum_range_succ, ih, Nat.succ_mul, Finset.sum_range_add, Finset.sum_range fun x => g (n * b + x)]

/-- A choice by an equation between two small numbers held as 32-bit words. -/
theorem select_eq {α : Type} {a b : ℕ} (ha : a < 2147483648) (hb : b < 2147483648) (x y : α) :
    Scalar.select (IntOp.cmpi CmpIPredicate.eq (BitVec.ofNat 32 a) (BitVec.ofNat 32 b)) x y = if a = b then x else y := by
  have h : (BitVec.ofNat 32 a = BitVec.ofNat 32 b) ↔ a = b := by
    constructor
    · intro h; have := congrArg BitVec.toNat h
      rwa [BitVec.toNat_ofNat, BitVec.toNat_ofNat, Nat.mod_eq_of_lt (by omega), Nat.mod_eq_of_lt (by omega)] at this
    · rintro rfl; rfl
  by_cases hab : a = b
  · subst hab; simp [Scalar.select, IntOp.cmpi]
  · have h' : (BitVec.ofNat 32 a == BitVec.ofNat 32 b) = false := beq_eq_false_iff_ne.mpr (mt h.mp hab)
    simp [Scalar.select, IntOp.cmpi, hab, h']

/-- A choice by an order between two small numbers held as 32-bit words. -/
theorem select_slt {α : Type} {a b : ℕ} (ha : a < 2147483648) (hb : b < 2147483648) (x y : α) :
    Scalar.select (Scalar.cmpi CmpIPredicate.slt (BitVec.ofNat 32 a) (BitVec.ofNat 32 b)) x y = if a < b then x else y := by
  have h : (BitVec.ofNat 32 a).slt (BitVec.ofNat 32 b) = decide (a < b) := by
    have ht : ∀ {n : ℕ}, n < 2147483648 → (BitVec.ofNat 32 n).toInt = (n : ℤ) := fun {n} hn => by
      have hm : (BitVec.ofNat 32 n).toNat = n := by rw [BitVec.toNat_ofNat, Nat.mod_eq_of_lt (by omega)]
      rw [BitVec.toInt_eq_toNat_of_lt (by rw [hm]; omega), hm]
    rw [BitVec.slt_eq_decide, ht ha, ht hb]
    simp
  by_cases hab : a < b
  · simp [Scalar.select, Scalar.cmpi, IntOp.cmpi, h, hab]
  · simp [Scalar.select, Scalar.cmpi, IntOp.cmpi, h, hab]

/-- The same with the two numbers in the other order. -/
theorem select_sgt {α : Type} {a b : ℕ} (ha : a < 2147483648) (hb : b < 2147483648) (x y : α) :
    Scalar.select (Scalar.cmpi CmpIPredicate.sgt (BitVec.ofNat 32 a) (BitVec.ofNat 32 b)) x y = if b < a then x else y :=
  select_slt hb ha x y

end Cert.Tools

end
-- ==== Proof.Conv.Block.lean ====
module

public import proofs.«01_k».proof.Proof.Gen.ConvKernelIdeal.Frame
public import proofs.«01_k».proof.Proof.Tools.Arrays

/-! The short convolution's backward kernel, one block of 256 rows at a time.

`P` is the projection (gate, `c`, `z` side by side), `D` the cotangent of the mixed product, `W` the three taps. The
lemmas say what each value that the body computes is at an element, in terms of the whole arrays, once the blocks hold
rows `256 t …` of them and the two halo blocks the eight rows before and after. -/

@[expose] public section

set_option maxRecDepth 16384

noncomputable section

namespace Cert.Conv

open Cert.ConvKernelIdeal Cert.ConvKernelIdeal.Gen Cert.Tools
open Idealize.ShloMosaic Idealize.ShloMosaic.TcCoe Idealize.SL.Sem

/-- The value that the convolution runs over: `c · z`. -/
def cz (P : S16384x3072.Idx → EReal) (r l : ℕ) : EReal := at2 P r (1024 + l) * at2 P r (2048 + l)

/-- The cotangent of the convolution's result: `do · gate`. -/
def dy (P : S16384x3072.Idx → EReal) (D : S16384x1024.Idx → EReal) (r l : ℕ) : EReal := at2 D r l * at2 P r l

/-- A column moved down by `k` rows, zeros coming in. -/
def down (k : ℕ) (f : ℕ → EReal) (r : ℕ) : EReal := if r < k then 0 else f (r - k)

/-- The convolution's result. -/
def conv (P : S16384x3072.Idx → EReal) (W : S3x1024.Idx → EReal) (r l : ℕ) : EReal :=
  at2 W 0 l * down 2 (cz P · l) r + at2 W 1 l * down 1 (cz P · l) r + at2 W 2 l * cz P r l

/-- The cotangent of `c · z`. -/
def dcz (P : S16384x3072.Idx → EReal) (W : S3x1024.Idx → EReal) (D : S16384x1024.Idx → EReal) (r l : ℕ) : EReal :=
  at2 W 2 l * dy P D r l + at2 W 1 l * dy P D (r + 1) l + at2 W 0 l * dy P D (r + 2) l

theorem dy_out (P : S16384x3072.Idx → EReal) (D : S16384x1024.Idx → EReal) {r : ℕ} (l : ℕ) (h : 16384 ≤ r) :
    dy P D r l = 0 := by
  unfold dy; rw [at2_out D l h, zero_mul]

/-- The gate, `c` and `z` thirds of the projection block, as loaded. -/
abbrev gateOf (x0 : Vec Ideal S256x3072 .f32) := View.ld x0 (Rect.unit ![0, 0] ![256, 1024] inb_S256x3072_S256x1024_0_0)
abbrev cOf (x0 : Vec Ideal S256x3072 .f32) := View.ld x0 (Rect.unit ![0, 1024] ![256, 1024] inb_S256x3072_S256x1024_0_1024)
abbrev zOf (x0 : Vec Ideal S256x3072 .f32) := View.ld x0 (Rect.unit ![0, 2048] ![256, 1024] inb_S256x3072_S256x1024_0_2048)
abbrev whole8 (x : Vec Ideal S8x1024 .f32) := View.ld x (Rect.unit ![0, 0] ![8, 1024] inb_S8x1024_S8x1024_0_0)
abbrev wholeD (x : Vec Ideal S256x1024 .f32) := View.ld x (Rect.unit ![0, 0] ![256, 1024] inb_S256x1024_S256x1024_0_0)

/-- Row `k` of the taps, as loaded. -/
abbrev tap0 (x6 : Vec Ideal S3x1024 .f32) := View.ld x6 (Rect.unit ![0, 0] ![1, 1024] inb_S3x1024_S1x1024_0_0)
abbrev tap1 (x6 : Vec Ideal S3x1024 .f32) := View.ld x6 (Rect.unit ![1, 0] ![1, 1024] inb_S3x1024_S1x1024_1_0)
abbrev tap2 (x6 : Vec Ideal S3x1024 .f32) := View.ld x6 (Rect.unit ![2, 0] ![1, 1024] inb_S3x1024_S1x1024_2_0)

/-- The taps' gradient that one block gives. -/
def tapSum (P : S16384x3072.Idx → EReal) (D : S16384x1024.Idx → EReal) (t : ℕ) (k l : ℕ) : EReal :=
  ∑ r : Fin 256, dy P D (t * 256 + r) l * down (2 - k) (cz P · l) (t * 256 + r)

/-- The projection's gradient. -/
def gradAt (P : S16384x3072.Idx → EReal) (W : S3x1024.Idx → EReal) (D : S16384x1024.Idx → EReal) (r l : ℕ) : EReal :=
  if l < 1024 then at2 D r l * conv P W r l
  else if l < 2048 then dcz P W D r (l - 1024) * at2 P r (l + 1024)
  else dcz P W D r (l - 2048) * at2 P r (l - 1024)

/-- The taps' gradient. -/
def gradTap (P : S16384x3072.Idx → EReal) (D : S16384x1024.Idx → EReal) (k l : ℕ) : EReal :=
  ∑ r ∈ Finset.range 16384, dy P D r l * down (2 - k) (cz P · l) r

theorem gradAt_gate (P : S16384x3072.Idx → EReal) (W : S3x1024.Idx → EReal) (D : S16384x1024.Idx → EReal) {r l r' l' : ℕ} (hl : l < 1024) (hr : r' = r) (h : l' = l) :
    at2 D r l * conv P W r l = gradAt P W D r' l' := by
  subst hr h; unfold gradAt; rw [if_pos hl]

theorem gradAt_c (P : S16384x3072.Idx → EReal) (W : S3x1024.Idx → EReal) (D : S16384x1024.Idx → EReal) {r l r' l' : ℕ} (hl : l < 1024) (hr : r' = r) (h : l' = 1024 + l) :
    dcz P W D r l * at2 P r (2048 + l) = gradAt P W D r' l' := by
  subst hr h; unfold gradAt
  rw [if_neg (by omega), if_pos (by omega), show 1024 + l - 1024 = l by omega, show 1024 + l + 1024 = 2048 + l by omega]

theorem gradAt_z (P : S16384x3072.Idx → EReal) (W : S3x1024.Idx → EReal) (D : S16384x1024.Idx → EReal) {r l r' l' : ℕ} (hr : r' = r) (h : l' = 2048 + l) :
    dcz P W D r l * at2 P r (1024 + l) = gradAt P W D r' l' := by
  subst hr h; unfold gradAt
  rw [if_neg (by omega), if_neg (by omega), show 2048 + l - 2048 = l by omega, show 2048 + l - 1024 = 1024 + l by omega]

section

variable (t : ℕ) (P : S16384x3072.Idx → EReal) (W : S3x1024.Idx → EReal) (D : S16384x1024.Idx → EReal)
variable (x0 : Vec Ideal S256x3072 .f32) (x1 x2 x3 : Vec Ideal S8x1024 .f32) (x4 : Vec Ideal S256x1024 .f32)
  (x5 : Vec Ideal S8x1024 .f32) (x6 : Vec Ideal S3x1024 .f32)

/-- What the seven input blocks hold at grid point `t`. -/
structure Blocks : Prop where
  lt : t < 64
  p : ∀ (r : Fin 256) (l : Fin 3072), x0 (ix2 r l) = at2 P (t * 256 + r) l
  cPrev : ∀ (r : Fin 8) (l : Fin 1024), x1 (ix2 r l) = at2 P ((t * 32 - 1) * 8 + r) (1024 + l)
  zPrev : ∀ (r : Fin 8) (l : Fin 1024), x2 (ix2 r l) = at2 P ((t * 32 - 1) * 8 + r) (2048 + l)
  bNext : ∀ (r : Fin 8) (l : Fin 1024), x3 (ix2 r l) = at2 P (min ((t + 1) * 32) 2047 * 8 + r) l
  d : ∀ (r : Fin 256) (l : Fin 1024), x4 (ix2 r l) = at2 D (t * 256 + r) l
  dNext : ∀ (r : Fin 8) (l : Fin 1024), x5 (ix2 r l) = at2 D (min ((t + 1) * 32) 2047 * 8 + r) l
  w : ∀ (k : Fin 3) (l : Fin 1024), x6 (ix2 k l) = at2 W k l

variable {t P W D x0 x1 x2 x3 x4 x5 x6} (h : Blocks t P W D x0 x1 x2 x3 x4 x5 x6)
include h

theorem cz_block (r : Fin 256) (l : Fin 1024) : k0_pay5 (cOf x0) (zOf x0) (ix2 r l) = cz P (t * 256 + r) l := by
  pointwise [k0_pay5, cOf, zOf]
  rw [h.p, h.p]; rfl

theorem dy_block (r : Fin 256) (l : Fin 1024) : k0_pay10 (gateOf x0) (wholeD x4) (ix2 r l) = dy P D (t * 256 + r) l := by
  pointwise [k0_pay10, gateOf, wholeD]
  rw [h.p, h.d]; simp [dy]

theorem halo_block (i : grid0.Coords) (hi : (i 0).val = t) (k : Fin 8) (l : Fin 1024) :
    k0_pay6 i (whole8 x1) (whole8 x2) (ix2 k l) = if 0 < t then cz P (t * 256 - 8 + k) l else 0 := by
  pointwise [k0_pay6, whole8]
  have := h.lt
  rw [hi, select_sgt (by omega) (by omega)]
  split
  · rw [h.cPrev, h.zPrev, show (t * 32 - 1) * 8 + k.val = t * 256 - 8 + k.val by omega]; rfl
  · rfl

theorem down1_block (i : grid0.Coords) (hi : (i 0).val = t) (r : Fin 256) (l : Fin 1024) :
    k0_pay7 i (cOf x0) (zOf x0) (whole8 x1) (whole8 x2) (ix2 r l) = down 1 (cz P · l) (t * 256 + r) := by
  have hr := r.isLt
  have := h.lt
  have e : k0_pay7 i (cOf x0) (zOf x0) (whole8 x1) (whole8 x2) (ix2 r l)
      = Scalar.select (IntOp.cmpi CmpIPredicate.eq (BitVec.ofNat 32 r) 0#32) (k0_pay6 i (whole8 x1) (whole8 x2) (ix2 7 l))
        (k0_pay5 (cOf x0) (zOf x0) (ix2 ⟨(r + 256 - 1) % 256, Nat.mod_lt _ (by decide)⟩ l)) := by
    pointwise [k0_pay7]
  rw [e, halo_block h i hi, cz_block h, select_eq (by omega) (by omega)]
  unfold down
  split
  · rename_i h0; rw [h0]
    by_cases ht : 0 < t
    · rw [if_pos ht, if_neg (by omega)]; congr 1; show t * 256 - 8 + 7 = _; omega
    · rw [if_neg ht, if_pos (by omega)]
  · rw [if_neg (by omega)]; congr 1; show t * 256 + (r.val + 256 - 1) % 256 = _; omega

theorem down2_block (i : grid0.Coords) (hi : (i 0).val = t) (r : Fin 256) (l : Fin 1024) :
    k0_pay8 i (cOf x0) (zOf x0) (whole8 x1) (whole8 x2) (ix2 r l) = down 2 (cz P · l) (t * 256 + r) := by
  have hr := r.isLt
  have := h.lt
  have e : k0_pay8 i (cOf x0) (zOf x0) (whole8 x1) (whole8 x2) (ix2 r l)
      = Scalar.select (IntOp.cmpi CmpIPredicate.eq (BitVec.ofNat 32 r) 1#32) (k0_pay6 i (whole8 x1) (whole8 x2) (ix2 7 l))
        (Scalar.select (IntOp.cmpi CmpIPredicate.eq (BitVec.ofNat 32 r) 0#32) (k0_pay6 i (whole8 x1) (whole8 x2) (ix2 6 l))
          (k0_pay5 (cOf x0) (zOf x0) (ix2 ⟨(r + 256 - 2) % 256, Nat.mod_lt _ (by decide)⟩ l))) := by
    pointwise [k0_pay8]
  rw [e, halo_block h i hi, halo_block h i hi, cz_block h, select_eq (by omega) (by omega), select_eq (by omega) (by omega)]
  unfold down
  split
  · rename_i h0; rw [h0]
    by_cases ht : 0 < t
    · rw [if_pos ht, if_neg (by omega)]; congr 1; show t * 256 - 8 + 7 = _; omega
    · rw [if_neg ht, if_pos (by omega)]
  · split
    · rename_i h0; rw [h0]
      by_cases ht : 0 < t
      · rw [if_pos ht, if_neg (by omega)]; congr 1; show t * 256 - 8 + 6 = _; omega
      · rw [if_neg ht, if_pos (by omega)]
    · rw [if_neg (by omega)]; congr 1; show t * 256 + (r.val + 256 - 2) % 256 = _; omega

/-- The first rows of `do · gate` after the block, zero after the last one. -/
theorem next_block (k : Fin 8) (l : Fin 1024) :
    (if t < 63 then x5 (ix2 k l) * x3 (ix2 k l) else 0) = dy P D (t * 256 + 256 + k) l := by
  have := h.lt
  split
  · rw [h.dNext, h.bNext, show min ((t + 1) * 32) 2047 * 8 + k.val = t * 256 + 256 + k.val by omega]; rfl
  · rw [dy_out P D l (by omega)]

theorem dcz_block (i : grid0.Coords) (hi : (i 0).val = t) (r : Fin 256) (l : Fin 1024) :
    k0_pay11 (BitVec.ofNat 32 (i 0).val) (gateOf x0) (tap0 x6) (tap1 x6) (tap2 x6) (wholeD x4) (whole8 x5) (whole8 x3) (ix2 r l)
      = dcz P W D (t * 256 + r) l := by
  have hr := r.isLt
  have ht := h.lt
  have hd := dy_block h
  have hn := next_block h
  have e : k0_pay11 (BitVec.ofNat 32 (i 0).val) (gateOf x0) (tap0 x6) (tap1 x6) (tap2 x6) (wholeD x4) (whole8 x5) (whole8 x3) (ix2 r l)
      = x6 (ix2 2 l) * k0_pay10 (gateOf x0) (wholeD x4) (ix2 r l)
        + x6 (ix2 1 l) * Scalar.select (IntOp.cmpi CmpIPredicate.eq (BitVec.ofNat 32 r) 255#32)
            (Scalar.select (Scalar.cmpi CmpIPredicate.slt (BitVec.ofNat 32 (i 0).val) 63#32) (x5 (ix2 0 l) * x3 (ix2 0 l)) 0)
            (k0_pay10 (gateOf x0) (wholeD x4) (ix2 ⟨(r + 256 - 255) % 256, Nat.mod_lt _ (by decide)⟩ l))
        + x6 (ix2 0 l) * Scalar.select (IntOp.cmpi CmpIPredicate.eq (BitVec.ofNat 32 r) 255#32)
            (Scalar.select (Scalar.cmpi CmpIPredicate.slt (BitVec.ofNat 32 (i 0).val) 63#32) (x5 (ix2 1 l) * x3 (ix2 1 l)) 0)
            (Scalar.select (IntOp.cmpi CmpIPredicate.eq (BitVec.ofNat 32 r) 254#32)
              (Scalar.select (Scalar.cmpi CmpIPredicate.slt (BitVec.ofNat 32 (i 0).val) 63#32) (x5 (ix2 0 l) * x3 (ix2 0 l)) 0)
              (k0_pay10 (gateOf x0) (wholeD x4) (ix2 ⟨(r + 256 - 254) % 256, Nat.mod_lt _ (by decide)⟩ l))) := by
    pointwise [k0_pay11, k0_pay10, tap0, tap1, tap2, gateOf, wholeD, whole8]
  rw [e, hi]
  rw [select_slt (by omega) (by omega), select_slt (by omega) (by omega), hn, hn, hd, hd, hd, h.w, h.w, h.w]
  rw [select_eq (by omega) (by omega), select_eq (by omega) (by omega), select_eq (by omega) (by omega)]
  unfold dcz
  congr 2
  · congr 1
    split
    · congr 1; show t * 256 + 256 + 0 = _; omega
    · congr 1; show t * 256 + (r.val + 256 - 255) % 256 = _; omega
  · split
    · congr 1; show t * 256 + 256 + 1 = _; omega
    · split
      · congr 1; show t * 256 + 256 + 0 = _; omega
      · congr 1; show t * 256 + (r.val + 256 - 254) % 256 = _; omega

theorem gate_third (i : grid0.Coords) (hi : (i 0).val = t) (r : Fin 256) (l : Fin 1024) :
    k0_pay12 (k0_pay5 (cOf x0) (zOf x0)) (k0_pay7 i (cOf x0) (zOf x0) (whole8 x1) (whole8 x2))
      (k0_pay8 i (cOf x0) (zOf x0) (whole8 x1) (whole8 x2)) (tap0 x6) (tap1 x6) (k0_pay9 (tap2 x6)) (wholeD x4) (ix2 r l)
      = at2 D (t * 256 + r) l * conv P W (t * 256 + r) l := by
  have e : ∀ v3 v17 v31, k0_pay12 v3 v17 v31 (tap0 x6) (tap1 x6) (k0_pay9 (tap2 x6)) (wholeD x4) (ix2 r l)
      = x4 (ix2 r l) * (x6 (ix2 0 l) * v31 (ix2 r l) + x6 (ix2 1 l) * v17 (ix2 r l) + x6 (ix2 2 l) * v3 (ix2 r l)) := by
    intro v3 v17 v31
    pointwise [k0_pay12, k0_pay9, tap0, tap1, tap2, wholeD]
    rw [add_comm, add_comm (x6 (ix2 2 l) * _), add_assoc]
  rw [e, cz_block h, down1_block h i hi, down2_block h i hi, h.d, h.w, h.w, h.w]; rfl

theorem taps_block (i : grid0.Coords) (hi : (i 0).val = t) (k : Fin 3) (l : Fin 1024) :
    k0_pay3 (k0_pay5 (cOf x0) (zOf x0)) (k0_pay7 i (cOf x0) (zOf x0) (whole8 x1) (whole8 x2))
      (k0_pay8 i (cOf x0) (zOf x0) (whole8 x1) (whole8 x2)) (k0_pay10 (gateOf x0) (wholeD x4)) (ix2 k l)
      = tapSum P D t k l := by
  have e : ∀ v3 v17 v31 v44 : FVec Ideal S256x1024 .f32, k0_pay3 v3 v17 v31 v44 (ix2 k l)
      = if k.val < 1 then ∑ x : Fin 256, v44 (ix2 x l) * v31 (ix2 x l)
        else if k.val - 1 < 1 then ∑ x : Fin 256, v44 (ix2 x l) * v17 (ix2 x l) else ∑ x : Fin 256, v44 (ix2 x l) * v3 (ix2 x l) := by
    intro v3 v17 v31 v44
    pointwise [k0_pay3]
    rfl
  rw [e]
  unfold tapSum
  fin_vals k with hk
  · simp only [hk, if_pos (show (0 : ℕ) < 1 by decide)]
    exact Finset.sum_congr rfl fun x _ => by rw [dy_block h, down2_block h i hi]
  · simp only [hk, if_neg (show ¬(1 : ℕ) < 1 by decide), if_pos (show 1 - 1 < 1 by decide)]
    exact Finset.sum_congr rfl fun x _ => by rw [dy_block h, down1_block h i hi]
  · simp only [hk, if_neg (show ¬(2 : ℕ) < 1 by decide), if_neg (show ¬2 - 1 < 1 by decide)]
    exact Finset.sum_congr rfl fun x _ => by rw [dy_block h, cz_block h]; simp [down]

end

end Cert.Conv

end
-- ==== Proof.Conv.Arrays.lean ====
module

public import proofs.«01_k».proof.Proof.Gen.ConvKernelIdeal.Value
public import proofs.«01_k».proof.Proof.Conv.Block

/-! The short convolution's backward kernel: what it leaves in its two result arrays, as functions of its arguments.

The projection's gradient is written once, 256 rows at a grid point. The taps' gradient stays in place through the
grid: the first point writes its part, each later one adds its own. -/

@[expose] public section

set_option maxRecDepth 16384

noncomputable section

namespace Cert.Conv

open Cert.ConvKernelIdeal Cert.ConvKernelIdeal.Gen Cert.ConvKernelIdeal.Value Cert.Tools
open Idealize.ShloMosaic Idealize.ShloMosaic.TcCoe Idealize.SL.Sem
open Idealize.ShloMosaic.Pipeline (Dat)

section

/-- The block of the projection's gradient: three stores side by side. -/
def outP (i : grid0.Coords) (x0 : Vec Ideal S256x3072 .f32) (x1 x2 x3 : Vec Ideal S8x1024 .f32) (x4 : Vec Ideal S256x1024 .f32)
    (x5 : Vec Ideal S8x1024 .f32) (x6 : Vec Ideal S3x1024 .f32) : Vec Ideal S256x3072 .bf16 :=
  View.canon
    [⟨Rect.unit ![0, 2048] ![256, 1024] inb_S256x3072_S256x1024_0_2048,
      k0_pay2 (cOf x0) (k0_pay11 (BitVec.ofNat 32 (i 0).val) (gateOf x0) (tap0 x6) (tap1 x6) (tap2 x6) (wholeD x4) (whole8 x5) (whole8 x3))⟩,
    ⟨Rect.unit ![0, 1024] ![256, 1024] inb_S256x3072_S256x1024_0_1024,
      k0_pay1 (zOf x0) (k0_pay11 (BitVec.ofNat 32 (i 0).val) (gateOf x0) (tap0 x6) (tap1 x6) (tap2 x6) (wholeD x4) (whole8 x5) (whole8 x3))⟩,
    ⟨Rect.unit ![0, 0] ![256, 1024] inb_S256x3072_S256x1024_0_0,
      k0_pay12 (k0_pay5 (cOf x0) (zOf x0)) (k0_pay7 i (cOf x0) (zOf x0) (whole8 x1) (whole8 x2))
        (k0_pay8 i (cOf x0) (zOf x0) (whole8 x1) (whole8 x2)) (tap0 x6) (tap1 x6) (k0_pay9 (tap2 x6)) (wholeD x4)⟩]

/-- The part of the taps' gradient that one block gives. -/
def outW (i : grid0.Coords) (x0 : Vec Ideal S256x3072 .f32) (x1 x2 : Vec Ideal S8x1024 .f32) (x4 : Vec Ideal S256x1024 .f32) : Vec Ideal S3x1024 .f32 :=
  k0_pay3 (k0_pay5 (cOf x0) (zOf x0)) (k0_pay7 i (cOf x0) (zOf x0) (whole8 x1) (whole8 x2))
    (k0_pay8 i (cOf x0) (zOf x0) (whole8 x1) (whole8 x2)) (k0_pay10 (gateOf x0) (wholeD x4))

theorem outP_first (c : Dev nD) (i : grid0.Coords) (arg1 : Memref sig .tc .vmem S256x3072 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S8x1024 .f32) (harg4 : arg4.IsWhole) (arg5 : Memref sig .tc .vmem S256x1024 .f32) (harg5 : arg5.IsWhole) (arg6 : Memref sig .tc .vmem S8x1024 .f32) (harg6 : arg6.IsWhole) (arg7 : Memref sig .tc .vmem S3x1024 .f32) (harg7 : arg7.IsWhole) (arg8 : Memref sig .tc .vmem S256x3072 .bf16) (harg8 : arg8.IsWhole) (arg9 : Memref sig .tc .vmem S3x1024 .f32) (harg9 : arg9.IsWhole) (hc0 : cond0_0 i) (hc1 : ¬cond0_1 i)
    (x0 : Vec Ideal S256x3072 .f32) (x1 : Vec Ideal S8x1024 .f32) (x2 : Vec Ideal S8x1024 .f32) (x3 : Vec Ideal S8x1024 .f32) (x4 : Vec Ideal S256x1024 .f32) (x5 : Vec Ideal S8x1024 .f32) (x6 : Vec Ideal S3x1024 .f32) :
    out0_A_7 c i arg1 harg1 arg2 harg2 arg3 harg3 arg4 harg4 arg5 harg5 arg6 harg6 arg7 harg7 arg8 harg8 arg9 harg9 hc0 hc1 x0 x1 x2 x3 x4 x5 x6 = outP i x0 x1 x2 x3 x4 x5 x6 := by
  unfold out0_A_7
  rw [View.read_writes_eq_canon _ _ _ (cover0_A_7 c i arg1 harg1 arg2 harg2 arg3 harg3 arg4 harg4 arg5 harg5 arg6 harg6 arg7 harg7 arg8 harg8 arg9 harg9 hc0 hc1 x0 x1 x2 x3 x4 x5 x6)]
  unfold kernelRun0_A; dsimp only; sl_unfold_words
  simp only [View.readAt_eq_ld, harg1.read_unread, harg2.read_unread, harg3.read_unread, harg4.read_unread, harg5.read_unread, harg6.read_unread, harg7.read_unread, harg8.read_unread, harg9.read_unread]
  rfl

theorem outP_later (c : Dev nD) (i : grid0.Coords) (arg1 : Memref sig .tc .vmem S256x3072 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S8x1024 .f32) (harg4 : arg4.IsWhole) (arg5 : Memref sig .tc .vmem S256x1024 .f32) (harg5 : arg5.IsWhole) (arg6 : Memref sig .tc .vmem S8x1024 .f32) (harg6 : arg6.IsWhole) (arg7 : Memref sig .tc .vmem S3x1024 .f32) (harg7 : arg7.IsWhole) (arg8 : Memref sig .tc .vmem S256x3072 .bf16) (harg8 : arg8.IsWhole) (arg9 : Memref sig .tc .vmem S3x1024 .f32) (harg9 : arg9.IsWhole) (hc0 : ¬cond0_0 i) (hc1 : cond0_1 i)
    (x0 : Vec Ideal S256x3072 .f32) (x1 : Vec Ideal S8x1024 .f32) (x2 : Vec Ideal S8x1024 .f32) (x3 : Vec Ideal S8x1024 .f32) (x4 : Vec Ideal S256x1024 .f32) (x5 : Vec Ideal S8x1024 .f32) (x6 : Vec Ideal S3x1024 .f32) (xo8 : Vec Ideal S3x1024 .f32) :
    out0_B_7 c i arg1 harg1 arg2 harg2 arg3 harg3 arg4 harg4 arg5 harg5 arg6 harg6 arg7 harg7 arg8 harg8 arg9 harg9 hc0 hc1 x0 x1 x2 x3 x4 x5 x6 xo8 = outP i x0 x1 x2 x3 x4 x5 x6 := by
  unfold out0_B_7
  rw [View.read_writes_eq_canon _ _ _ (cover0_B_7 c i arg1 harg1 arg2 harg2 arg3 harg3 arg4 harg4 arg5 harg5 arg6 harg6 arg7 harg7 arg8 harg8 arg9 harg9 hc0 hc1 x0 x1 x2 x3 x4 x5 x6 xo8)]
  unfold kernelRun0_B; dsimp only; sl_unfold_words
  simp only [View.readAt_eq_ld, harg1.read_unread, harg2.read_unread, harg3.read_unread, harg4.read_unread, harg5.read_unread, harg6.read_unread, harg7.read_unread, harg8.read_unread, harg9.read_unread]
  rfl

/-- The sum of two blocks of the taps' gradient. -/
def plus (a b : Vec Ideal S3x1024 .f32) : Vec Ideal S3x1024 .f32 := fun y => (a y + b y : EReal)

theorem zero2 : (![0, 0] : Fin 2 → ℕ) = fun _ => 0 := by funext a; fin_cases a <;> rfl

theorem outW_first (c : Dev nD) (i : grid0.Coords) (arg1 : Memref sig .tc .vmem S256x3072 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S8x1024 .f32) (harg4 : arg4.IsWhole) (arg5 : Memref sig .tc .vmem S256x1024 .f32) (harg5 : arg5.IsWhole) (arg6 : Memref sig .tc .vmem S8x1024 .f32) (harg6 : arg6.IsWhole) (arg7 : Memref sig .tc .vmem S3x1024 .f32) (harg7 : arg7.IsWhole) (arg8 : Memref sig .tc .vmem S256x3072 .bf16) (harg8 : arg8.IsWhole) (arg9 : Memref sig .tc .vmem S3x1024 .f32) (harg9 : arg9.IsWhole) (hc0 : cond0_0 i) (hc1 : ¬cond0_1 i)
    (x0 : Vec Ideal S256x3072 .f32) (x1 : Vec Ideal S8x1024 .f32) (x2 : Vec Ideal S8x1024 .f32) (x3 : Vec Ideal S8x1024 .f32) (x4 : Vec Ideal S256x1024 .f32) (x5 : Vec Ideal S8x1024 .f32) (x6 : Vec Ideal S3x1024 .f32) :
    out0_A_8 c i arg1 harg1 arg2 harg2 arg3 harg3 arg4 harg4 arg5 harg5 arg6 harg6 arg7 harg7 arg8 harg8 arg9 harg9 hc0 hc1 x0 x1 x2 x3 x4 x5 x6 = outW i x0 x1 x2 x4 := by
  unfold out0_A_8
  rw [View.read_writes_eq_canon _ _ _ (cover0_A_8 c i arg1 harg1 arg2 harg2 arg3 harg3 arg4 harg4 arg5 harg5 arg6 harg6 arg7 harg7 arg8 harg8 arg9 harg9 hc0 hc1 x0 x1 x2 x3 x4 x5 x6)]
  unfold kernelRun0_A; dsimp only; sl_unfold_words
  simp only [View.readAt_eq_ld, harg1.read_unread, harg2.read_unread, harg3.read_unread, harg4.read_unread, harg5.read_unread, harg6.read_unread, harg7.read_unread, harg8.read_unread, harg9.read_unread]
  rw [View.canon_unit_zero zero2]; rfl

theorem outW_later (c : Dev nD) (i : grid0.Coords) (arg1 : Memref sig .tc .vmem S256x3072 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S8x1024 .f32) (harg4 : arg4.IsWhole) (arg5 : Memref sig .tc .vmem S256x1024 .f32) (harg5 : arg5.IsWhole) (arg6 : Memref sig .tc .vmem S8x1024 .f32) (harg6 : arg6.IsWhole) (arg7 : Memref sig .tc .vmem S3x1024 .f32) (harg7 : arg7.IsWhole) (arg8 : Memref sig .tc .vmem S256x3072 .bf16) (harg8 : arg8.IsWhole) (arg9 : Memref sig .tc .vmem S3x1024 .f32) (harg9 : arg9.IsWhole) (hc0 : ¬cond0_0 i) (hc1 : cond0_1 i)
    (x0 : Vec Ideal S256x3072 .f32) (x1 : Vec Ideal S8x1024 .f32) (x2 : Vec Ideal S8x1024 .f32) (x3 : Vec Ideal S8x1024 .f32) (x4 : Vec Ideal S256x1024 .f32) (x5 : Vec Ideal S8x1024 .f32) (x6 : Vec Ideal S3x1024 .f32) (xo8 : Vec Ideal S3x1024 .f32) :
    out0_B_8 c i arg1 harg1 arg2 harg2 arg3 harg3 arg4 harg4 arg5 harg5 arg6 harg6 arg7 harg7 arg8 harg8 arg9 harg9 hc0 hc1 x0 x1 x2 x3 x4 x5 x6 xo8 = plus xo8 (outW i x0 x1 x2 x4) := by
  unfold out0_B_8
  rw [View.read_writes_eq_canon _ _ _ (cover0_B_8 c i arg1 harg1 arg2 harg2 arg3 harg3 arg4 harg4 arg5 harg5 arg6 harg6 arg7 harg7 arg8 harg8 arg9 harg9 hc0 hc1 x0 x1 x2 x3 x4 x5 x6 xo8)]
  unfold kernelRun0_B; dsimp only; sl_unfold_words
  simp only [View.readAt_eq_ld, harg1.read_unread, harg2.read_unread, harg3.read_unread, harg4.read_unread, harg5.read_unread, harg6.read_unread, harg7.read_unread, harg8.read_unread, harg9.read_unread]
  rw [View.canon_unit_zero zero2]; unfold k0_pay4
  simp only [View.ld_unit_zero (S := S3x1024) zero2, shapeCast_self]; rfl

end

section

variable (m : (ℓ : Loc nD τ sig) → Buf (Elt Ideal) ℓ) (c : Dev nD)

/-- The three arguments as the launch holds them. -/
abbrev argP : S16384x3072.Idx → EReal := m ((c : Thread nD τ).loc main_arg0)
abbrev argW : S3x1024.Idx → EReal := m ((c : Thread nD τ).loc main_arg1)
abbrev argD : S16384x1024.Idx → EReal := m ((c : Thread nD τ).loc main_arg2)

theorem index_in : ∀ t : Fin grid0.N,
    (win0_0.index t 0 = t.val ∧ win0_0.index t 1 = 0) ∧ (win0_1.index t 0 = t.val * 32 - 1 ∧ win0_1.index t 1 = 1)
    ∧ (win0_2.index t 0 = t.val * 32 - 1 ∧ win0_2.index t 1 = 2) ∧ (win0_3.index t 0 = min ((t.val + 1) * 32) 2047 ∧ win0_3.index t 1 = 0)
    ∧ (win0_4.index t 0 = t.val ∧ win0_4.index t 1 = 0) ∧ (win0_5.index t 0 = min ((t.val + 1) * 32) 2047 ∧ win0_5.index t 1 = 0)
    ∧ (win0_6.index t 0 = 0 ∧ win0_6.index t 1 = 0) ∧ (win0_7.index t 0 = t.val ∧ win0_7.index t 1 = 0)
    ∧ (win0_8.index t 0 = 0 ∧ win0_8.index t 1 = 0) ∧ ((grid0.coords t 0).val = t.val) := by decide +kernel

/-- The input blocks at grid point `t` hold the rows that the block lemmas ask for. -/
theorem blocks (t : Fin cfg0.N) :
    Blocks t.val (argP m c) (argW m c) (argD m c) (iblk m c 0 t) (iblk m c 1 t) (iblk m c 2 t) (iblk m c 3 t) (iblk m c 4 t)
      (iblk m c 5 t) (iblk m c 6 t) := by
  obtain ⟨⟨a0, b0⟩, ⟨a1, b1⟩, ⟨a2, b2⟩, ⟨a3, b3⟩, ⟨a4, b4⟩, ⟨a5, b5⟩, ⟨a6, b6⟩, -⟩ := index_in t
  have key : ∀ {R C : ℕ} (v : (⟨2, ![R, C]⟩ : Shape).Idx → EReal) (i : (⟨2, ![R, C]⟩ : Shape).Idx) (r l : ℕ),
      (i 0).val = r → (i 1).val = l → v i = at2 v r l := fun v i r l hr hl => by rw [at2_idx v i, hr, hl]
  refine ⟨t.isLt, fun r l => ?_, fun r l => ?_, fun r l => ?_, fun r l => ?_, fun r l => ?_, fun r l => ?_, fun r l => ?_⟩
  · exact key (argP m c) ((win0_0.rect t).emb (ix2 r l)) _ _ ((win0_0.rect_emb_val t (ix2 r l) 0).trans (by rw [a0]; rfl))
      ((win0_0.rect_emb_val t (ix2 r l) 1).trans (by rw [b0]; exact Nat.zero_add _))
  · exact key (argP m c) ((win0_1.rect t).emb (ix2 r l)) _ _ ((win0_1.rect_emb_val t (ix2 r l) 0).trans (by rw [a1]; rfl))
      ((win0_1.rect_emb_val t (ix2 r l) 1).trans (by rw [b1]; rfl))
  · exact key (argP m c) ((win0_2.rect t).emb (ix2 r l)) _ _ ((win0_2.rect_emb_val t (ix2 r l) 0).trans (by rw [a2]; rfl))
      ((win0_2.rect_emb_val t (ix2 r l) 1).trans (by rw [b2]; rfl))
  · exact key (argP m c) ((win0_3.rect t).emb (ix2 r l)) _ _ ((win0_3.rect_emb_val t (ix2 r l) 0).trans (by rw [a3]; rfl))
      ((win0_3.rect_emb_val t (ix2 r l) 1).trans (by rw [b3]; exact Nat.zero_add _))
  · exact key (argD m c) ((win0_4.rect t).emb (ix2 r l)) _ _ ((win0_4.rect_emb_val t (ix2 r l) 0).trans (by rw [a4]; rfl))
      ((win0_4.rect_emb_val t (ix2 r l) 1).trans (by rw [b4]; exact Nat.zero_add _))
  · exact key (argD m c) ((win0_5.rect t).emb (ix2 r l)) _ _ ((win0_5.rect_emb_val t (ix2 r l) 0).trans (by rw [a5]; rfl))
      ((win0_5.rect_emb_val t (ix2 r l) 1).trans (by rw [b5]; exact Nat.zero_add _))
  · exact key (argW m c) ((win0_6.rect t).emb (ix2 r l)) _ _ ((win0_6.rect_emb_val t (ix2 r l) 0).trans (by rw [a6]; exact Nat.zero_add _))
      ((win0_6.rect_emb_val t (ix2 r l) 1).trans (by rw [b6]; exact Nat.zero_add _))

theorem coord (t : Fin cfg0.N) : (grid0.coords t 0).val = t.val := (index_in t).2.2.2.2.2.2.2.2.2

/-- The projection's gradient as an array. -/
def gradP : S16384x3072.Idx → EReal := fun i => gradAt (argP m c) (argW m c) (argD m c) (i 0).val (i 1).val

/-- The block of the projection's gradient at an element. -/
theorem outP_apply (t : Fin cfg0.N) (r : Fin 256) (l : Fin 3072) (i : S16384x3072.Idx) (h0 : (i 0).val = t.val * 256 + r.val) (h1 : (i 1).val = l.val) :
    outP (grid0.coords t) (iblk m c 0 t) (iblk m c 1 t) (iblk m c 2 t) (iblk m c 3 t) (iblk m c 4 t) (iblk m c 5 t) (iblk m c 6 t) (ix2 r l)
      = gradP m c i := by
  have hb := blocks m c t
  have hi := coord t
  have hN : t.val < 64 := t.isLt
  unfold outP
  refine (View.canon_apply_of_pieces (Val := Elt Ideal) (e := .bf16) (S := S256x3072)
    (fun y => gradAt (argP m c) (argW m c) (argD m c) (t.val * 256 + (y 0).val) (y 1).val) _ ?_ (ix2 r l) ?_).trans
    (by unfold gradP; rw [h0, h1]; rfl)
  · simp only [List.mem_cons, List.not_mem_nil, or_false, forall_eq_or_imp, forall_eq]
    refine ⟨fun x => ?_, fun x => ?_, fun x => ?_⟩
    all_goals
      obtain ⟨a, b, rfl⟩ : ∃ (a : Fin 256) (b : Fin 1024), x = ix2 a b := ⟨x 0, x 1, eq_ix2 x⟩
    · have e : ∀ v1 v2 : FVec Ideal S256x1024 .f32, k0_pay2 v1 v2 (ix2 a b) = v2 (ix2 a b) * v1 (ix2 a b) := fun v1 v2 => by pointwise [k0_pay2]
      have e' : cOf (iblk m c 0 t) (ix2 a b) = iblk m c 0 t (ix2 a (⟨1024 + b.val, by omega⟩ : Fin 3072)) := by pointwise [cOf]
      refine (e _ _).trans ?_
      rw [dcz_block hb _ hi, e', hb.p]
      refine gradAt_z _ _ _ ?_ ?_
      · show t.val * 256 + (0 + 1 * a.val) = _; omega
      · show 2048 + 1 * b.val = _; omega
    · have e : ∀ v1 v2 : FVec Ideal S256x1024 .f32, k0_pay1 v1 v2 (ix2 a b) = v2 (ix2 a b) * v1 (ix2 a b) := fun v1 v2 => by pointwise [k0_pay1]
      have e' : zOf (iblk m c 0 t) (ix2 a b) = iblk m c 0 t (ix2 a (⟨2048 + b.val, by omega⟩ : Fin 3072)) := by pointwise [zOf]
      refine (e _ _).trans ?_
      rw [dcz_block hb _ hi, e', hb.p]
      refine gradAt_c _ _ _ b.isLt ?_ ?_
      · show t.val * 256 + (0 + 1 * a.val) = _; omega
      · show 1024 + 1 * b.val = _; omega
    · rw [gate_third hb _ hi]
      refine gradAt_gate _ _ _ b.isLt ?_ ?_
      · show t.val * 256 + (0 + 1 * a.val) = _; omega
      · show 0 + 1 * b.val = _; omega
  · have hl := l.isLt
    by_cases h1' : l.val < 1024
    · exact ⟨_, List.mem_cons_of_mem _ (List.mem_cons_of_mem _ List.mem_cons_self), mem_unit2 (inb := inb_S256x3072_S256x1024_0_0) r l (by omega) (by omega)⟩
    · by_cases h2' : l.val < 2048
      · exact ⟨_, List.mem_cons_of_mem _ List.mem_cons_self, mem_unit2 (inb := inb_S256x3072_S256x1024_0_1024) r l (by omega) (by omega)⟩
      · exact ⟨_, List.mem_cons_self, mem_unit2 (inb := inb_S256x3072_S256x1024_0_2048) r l (by omega) (by omega)⟩

theorem outs_first (t : Fin cfg0.N) (ht : t.val = 0) :
    outsAt0 m c t.val t.isLt = (outP (grid0.coords t) (iblk m c 0 t) (iblk m c 1 t) (iblk m c 2 t) (iblk m c 3 t) (iblk m c 4 t) (iblk m c 5 t) (iblk m c 6 t),
      outW (grid0.coords t) (iblk m c 0 t) (iblk m c 1 t) (iblk m c 2 t) (iblk m c 4 t)) := by
  rw [outsAt0_A m c t (by omega) (by omega), outP_first, outW_first]

theorem outs_later (t : Fin cfg0.N) (ht : 1 ≤ t.val) :
    outsAt0 m c t.val t.isLt = (outP (grid0.coords t) (iblk m c 0 t) (iblk m c 1 t) (iblk m c 2 t) (iblk m c 3 t) (iblk m c 4 t) (iblk m c 5 t) (iblk m c 6 t),
      plus (outsAt0 m c (t.val - 1) (Nat.lt_of_le_of_lt (Nat.sub_le _ _) t.isLt)).2
        (outW (grid0.coords t) (iblk m c 0 t) (iblk m c 1 t) (iblk m c 2 t) (iblk m c 4 t))) := by
  have hN : t.val < 64 := t.isLt
  rw [outsAt0_B m c t (by omega) ht, outP_later, outW_later]

theorem outs_P (t : Fin cfg0.N) :
    (outsAt0 m c t.val t.isLt).1 = outP (grid0.coords t) (iblk m c 0 t) (iblk m c 1 t) (iblk m c 2 t) (iblk m c 3 t) (iblk m c 4 t) (iblk m c 5 t) (iblk m c 6 t) := by
  rcases Nat.eq_zero_or_pos t.val with h | h
  · rw [outs_first m c t h]
  · rw [outs_later m c t h]

/-- The taps' gradient after `n + 1` points: the sum of their parts. -/
theorem outs_W (n : ℕ) (hn : n < cfg0.N) (k : Fin 3) (l : Fin 1024) :
    (outsAt0 m c n hn).2 (ix2 k l) = ∑ t ∈ Finset.range (n + 1), tapSum (argP m c) (argD m c) t k l := by
  induction n with
  | zero =>
    have e : outsAt0 m c 0 hn = _ := outs_first m c ⟨0, hn⟩ rfl
    rw [e, Finset.sum_range_one]
    exact taps_block (blocks m c ⟨0, hn⟩) _ (coord ⟨0, hn⟩) k l
  | succ n ih =>
    have e : outsAt0 m c (n + 1) hn = _ := outs_later m c ⟨n + 1, hn⟩ (Nat.succ_pos n)
    have hs := taps_block (blocks m c ⟨n + 1, hn⟩) _ (coord ⟨n + 1, hn⟩) k l
    rw [e, Finset.sum_range_succ, ← ih (Nat.lt_of_succ_lt hn), ← hs]
    rfl

/-- The projection's gradient array after the run. -/
theorem final_P : (dats m 0 c).arrAt 7 cfg0.N = gradP m c := by
  refine (dats m 0 c).arrAt_eq_of_cover 7 (gradP m c) (fun t _ => ?_) (fun i => ?_)
  · rw [flushed7, outs_P]
    funext y
    obtain ⟨r, l, rfl⟩ : ∃ (r : Fin 256) (l : Fin 3072), y = ix2 r l := ⟨y 0, y 1, eq_ix2 y⟩
    obtain ⟨a7, b7⟩ := (index_in t).2.2.2.2.2.2.2.1
    exact outP_apply m c t r l ((win0_7.rect t).emb (ix2 r l)) ((win0_7.rect_emb_val t (ix2 r l) 0).trans (by rw [a7]; rfl))
      ((win0_7.rect_emb_val t (ix2 r l) 1).trans (by rw [b7]; exact Nat.zero_add _))
  · obtain ⟨r, l, rfl⟩ : ∃ (r : Fin 16384) (l : Fin 3072), i = ix2 r l := ⟨i 0, i 1, eq_ix2 i⟩
    have hr := r.isLt
    have ht : r.val / 256 < 64 := by omega
    obtain ⟨a7, b7⟩ := (index_in ⟨r.val / 256, ht⟩).2.2.2.2.2.2.2.1
    have e : ix2 r l = ((cfg0.win 7).blk ⟨r.val / 256, ht⟩).view.emb (ix2 (⟨r.val % 256, Nat.mod_lt _ (by decide)⟩ : Fin 256) l) := by
      funext a; apply Fin.ext; fin_cases a
      · refine Eq.trans ?_ (win0_7.rect_emb_val ⟨r.val / 256, ht⟩ (ix2 (⟨r.val % 256, Nat.mod_lt _ (by decide)⟩ : Fin 256) l) 0).symm
        rw [a7]; show r.val = r.val / 256 * 256 + r.val % 256; omega
      · refine Eq.trans ?_ (win0_7.rect_emb_val ⟨r.val / 256, ht⟩ (ix2 (⟨r.val % 256, Nat.mod_lt _ (by decide)⟩ : Fin 256) l) 1).symm
        rw [b7]; exact (Nat.zero_add _).symm
    exact ⟨⟨r.val / 256, ht⟩, flush0_7 _, e ▸ View.emb_mem_set _ _⟩

/-- The taps' gradient as an array. -/
def gradW : S3x1024.Idx → EReal := fun i => gradTap (argP m c) (argD m c) (i 0).val (i 1).val

/-- The sum over all points is the sum over all rows. -/
theorem outs_last (t : Fin cfg0.N) (h : t.val = 63) (k : Fin 3) (l : Fin 1024) :
    (outsAt0 m c t.val t.isLt).2 (ix2 k l) = gradW m c (ix2 k l) := by
  rw [outs_W m c t.val t.isLt k l, show t.val + 1 = 64 by omega]
  exact sum_tiles 64 256 fun r => dy (argP m c) (argD m c) r l.val * down (2 - k.val) (cz (argP m c) · l.val) r

attribute [local irreducible] gradW

/-- The taps' gradient array after the run. -/
theorem final_W : (dats m 0 c).arrAt 8 cfg0.N = gradW m c := by
  have h63 : 63 < cfg0.N := by decide
  have emb : ∀ (t : Fin cfg0.N) (k : Fin 3) (l : Fin 1024), (ix2 k l : S3x1024.Idx) = ((cfg0.win 8).blk t).view.emb (ix2 k l) := fun t k l => by
    obtain ⟨a8, b8⟩ := (index_in t).2.2.2.2.2.2.2.2.1
    funext a; apply Fin.ext; fin_cases a
    · exact ((win0_8.rect_emb_val t (ix2 k l) 0).trans (by rw [a8]; exact Nat.zero_add _)).symm
    · exact ((win0_8.rect_emb_val t (ix2 k l) 1).trans (by rw [b8]; exact Nat.zero_add _)).symm
  refine (dats m 0 c).arrAt_eq_of_cover 8 (gradW m c) (fun t ht => ?_) (fun i => ?_)
  · have h := (flush0_8 t).mp ht
    have hN : t.val < 64 := t.isLt
    rw [flushed8]
    funext y
    obtain ⟨k, l, rfl⟩ : ∃ (k : Fin 3) (l : Fin 1024), y = ix2 k l := ⟨y 0, y 1, eq_ix2 y⟩
    have hs := outs_last m c t (by omega) k l
    refine hs.trans ?_
    exact congrArg (gradW m c) (emb t k l)
  · obtain ⟨k, l, rfl⟩ : ∃ (k : Fin 3) (l : Fin 1024), i = ix2 k l := ⟨i 0, i 1, eq_ix2 i⟩
    exact ⟨⟨63, h63⟩, (flush0_8 _).mpr rfl, (emb ⟨63, h63⟩ k l) ▸ View.emb_mem_set _ _⟩

end

end Cert.Conv

end
-- ==== Proof.Conv.Reference.lean ====
module

public import proofs.«01_k».proof.Proof.Gen.ConvReferenceIdeal.Read
public import proofs.«01_k».proof.Proof.Conv.Block

/-! The reference of the short convolution's backward call: the derivative of `gate · (w₀ · cz₋₂ + w₁ · cz₋₁ + w₂ · cz)` as it
is printed, read at an element and brought to the same functions of the arguments as the kernel's arrays. -/

@[expose] public section

set_option maxRecDepth 16384

noncomputable section

namespace Cert.Conv

open Cert.ConvReferenceIdeal Cert.ConvReferenceIdeal.Gen Cert.ConvReferenceIdeal.Read Cert.Tools
open Idealize.ShloMosaic Idealize.ShloMosaic.TcCoe Idealize.SL.Sem

variable (P : S16384x3072.Idx → EReal) (W : S3x1024.Idx → EReal) (D : S16384x1024.Idx → EReal)

theorem reference_P (r : Fin 16384) (l : Fin 3072) : val_main_v57 (F := Ideal) P W D (ix2 r l) = gradAt P W D r.val l.val := by
  pointwise [val_main_v0, val_main_v1, val_main_v2, val_main_v3, val_main_v4, val_main_cst, val_main_v5, val_main_v6, val_main_v7, val_main_cst_0, val_main_v8, val_main_v9, val_main_v10, val_main_v11, val_main_cst_1, val_main_v12, val_main_v13, val_main_v14, val_main_cst_2, val_main_v15, val_main_v16, val_main_v17, val_main_v18, val_main_v19, val_main_v20, val_main_v21, val_main_v22, val_main_v23, val_main_v24, val_main_v25, val_main_v26, val_main_v27, val_main_v28, val_main_cst_3, val_main_v29, val_main_v30, val_main_cst_4, val_main_v31, val_main_v32, val_main_v33, val_main_v34, val_main_cst_5, val_main_v35, val_main_v36, val_main_v37, val_main_v38, val_main_cst_6, val_main_v39, val_main_v40, val_main_cst_7, val_main_v41, val_main_v42, val_main_v43, val_main_v44, val_main_v45, val_main_cst_8, val_main_v46, val_main_v47, val_main_v48, val_main_v49, val_main_cst_9, val_main_v50, val_main_v51, val_main_cst_10, val_main_v52, val_main_v53, val_main_v54, val_main_v55, val_main_v56, val_main_v57]
  simp only [← at2_ix]
  have hr := r.isLt
  have hl := l.isLt
  unfold gradAt conv down cz dcz
  have step : ∀ (k l' : ℕ) (c : Prop) [Decidable c], (c ↔ r.val + k < 16384) → ∀ w : EReal,
      (if c then w * (at2 P (k + r.val) l' * at2 D (k + r.val) l') else 0) = w * dy P D (r.val + k) l' := by
    intro k l' c _ hc w
    by_cases h : c
    · rw [if_pos h, Nat.add_comm k, mul_comm (at2 P _ _)]; rfl
    · rw [if_neg h, dy_out P D l' (by have := mt hc.mpr h; omega), mul_zero]
  by_cases h1 : l.val < 1024
  · simp only [h1, dite_true, if_true]
    simp
  · by_cases h2 : l.val < 2048
    · have h3 : l.val - 1024 < 1024 := by omega
      simp only [h1, h2, h3, and_true, dite_true, dite_false, if_true, if_false, dite_eq_ite]
      rw [step 1 _ _ (by omega), step 2 _ _ (by omega), mul_comm (at2 P _ _) (at2 D _ _),
        show 2048 + (l.val - 1024) = l.val + 1024 by omega]
      rfl
    · have h3 : ¬l.val - 1024 < 1024 := by omega
      have h4 : l.val - 1024 - 1024 < 1024 := by omega
      simp only [h1, h2, h3, h4, and_true, dite_true, dite_false, if_false, dite_eq_ite]
      rw [step 1 _ _ (by omega), step 2 _ _ (by omega), mul_comm (at2 P _ _) (at2 D _ _), mul_comm (at2 P _ _),
        show 1024 + (l.val - 1024 - 1024) = l.val - 1024 by omega, show l.val - 1024 - 1024 = l.val - 2048 by omega]
      rfl

theorem reference_W (k : Fin 3) (l : Fin 1024) : val_main_v53 (F := Ideal) P D (ix2 k l) = gradTap P D k.val l.val := by
  pointwise [val_main_v0, val_main_v1, val_main_v2, val_main_v3, val_main_v4, val_main_cst, val_main_v5, val_main_v6, val_main_v7, val_main_cst_0, val_main_v8, val_main_v9, val_main_v10, val_main_v11, val_main_cst_1, val_main_v12, val_main_v13, val_main_v14, val_main_cst_2, val_main_v15, val_main_v16, val_main_v17, val_main_v18, val_main_v19, val_main_v20, val_main_v21, val_main_v22, val_main_v23, val_main_v24, val_main_v25, val_main_v26, val_main_v27, val_main_v28, val_main_cst_3, val_main_v29, val_main_v30, val_main_cst_4, val_main_v31, val_main_v32, val_main_v33, val_main_v34, val_main_cst_5, val_main_v35, val_main_v36, val_main_v37, val_main_v38, val_main_cst_6, val_main_v39, val_main_v40, val_main_cst_7, val_main_v41, val_main_v42, val_main_v43, val_main_v44, val_main_v45, val_main_cst_8, val_main_v46, val_main_v47, val_main_v48, val_main_v49, val_main_cst_9, val_main_v50, val_main_v51, val_main_cst_10, val_main_v52, val_main_v53, val_main_v54, val_main_v55, val_main_v56, val_main_v57]
  simp only [← at2_ix]
  have hd : ∀ r l : ℕ, at2 P r l * at2 D r l = dy P D r l := fun r l => mul_comm _ _
  have hc : ∀ r : ℕ, at2 P r (1024 + l) * at2 P r (2048 + l) = cz P r l := fun r => rfl
  simp only [hd, hc, mul_zero, Finset.sum_const_zero, zero_add]
  unfold gradTap down
  have hk := k.isLt
  obtain h | h | h : k.val = 0 ∨ k.val = 1 ∨ k.val = 2 := by omega
  · simp only [h]
    rw [show 16384 = 16382 + 1 + 1 from rfl, Finset.sum_range_succ', Finset.sum_range_succ', Finset.sum_range]
    simp [Nat.add_comm 2]
  · simp only [h]
    rw [show 16384 = 16383 + 1 from rfl, Finset.sum_range_succ', Finset.sum_range]
    simp [Nat.add_comm 1]
  · simp only [h]
    rw [Finset.sum_range]
    simp

end Cert.Conv

end
-- ==== Proof.Conv.Claims.lean ====
module

public import proofs.«01_k».proof.Defs
public import proofs.«01_k».proof.Proof.Conv.Arrays
public import proofs.«01_k».proof.Proof.Conv.Reference
public import proofs.«01_k».proof.Proof.Gen.ConvKernel.Frame

/-! The claims about the short convolution's backward call. -/

@[expose] public section

set_option maxRecDepth 16384

noncomputable section

namespace Cert.Conv

open Idealize.ShloMosaic Idealize.ShloMosaic.TcCoe Idealize.SL.Sem

theorem frame_kernel : Cert.quiescent_ConvKernel := fun m ρ _ => Cert.ConvKernel.Gen.frame m ρ

theorem frame_kernelIdeal : Cert.quiescent_ConvKernelIdeal := fun m ρ _ => Cert.ConvKernelIdeal.Gen.frame m ρ

theorem frame_reference : Cert.quiescent_ConvReferenceIdeal := fun m ρ _ =>
  (θ_run _ _ _).mono (fun r h => ⟨fun c => (h c).2.2, sem_eq_zero_of_no_sems (sig := Cert.ConvReferenceIdeal.sig) (by decide) r.2⟩) (Cert.ConvReferenceIdeal.Value.run m ρ)

theorem algebraic : Cert.algebraic_ConvKernelIdeal_ConvReferenceIdeal := fun m ρ m' ρ' _ hm =>
  ⟨fun c => gradP m c, fun c => gradW m c,
    (θ_run _ _ _).mono (fun r h c => ⟨(h c).1.trans (final_P m c), (h c).2.1.trans (final_W m c), (h c).2.2⟩)
      (Cert.ConvKernelIdeal.Value.run_blocks m ρ),
    (θ_run _ _ _).mono (fun r h c => by
        obtain ⟨hP, hW, hD⟩ := hm c
        refine ⟨(h c).1.trans ?_, (h c).2.1.trans ?_, (h c).2.2⟩
        · rw [Cert.ConvReferenceIdeal.Read.val_main_v57_eq, hP, hW, hD]
          funext i
          obtain ⟨r, l, rfl⟩ : ∃ (r : Fin 16384) (l : Fin 3072), i = ix2 r l := ⟨i 0, i 1, eq_ix2 i⟩
          exact reference_P _ _ _ r l
        · rw [Cert.ConvReferenceIdeal.Read.val_main_v53_eq, hP, hD]
          funext i
          obtain ⟨k, l, rfl⟩ : ∃ (k : Fin 3) (l : Fin 1024), i = ix2 k l := ⟨i 0, i 1, eq_ix2 i⟩
          exact reference_W _ _ k l)
      (Cert.ConvReferenceIdeal.Value.run m' ρ')⟩

end Cert.Conv

end
-- ==== Proof.Tools.Real.lean ====
module

public import proofs.«01_k».proof.Proof.Tools.Arrays

/-! Finite extended reals and the normalisation by the root of the mean square.

A claim that holds of finite arguments only is proved over the real numbers: `real2` and `real1` read an array of finite
elements as real numbers, and the lemmas on `rstd` and `normBack` say over the real numbers that the two ways of writing
the gradient of the normalisation agree. -/

@[expose] public section

set_option maxRecDepth 16384

noncomputable section

namespace Cert.Tools

open Idealize.ShloMosaic

/-- Every element of an array is a real number. -/
def Finite {s : Shape} (v : s.Idx → EReal) : Prop := ∀ i, v i = ((v i).toReal : EReal)

theorem bits_inf : (Ideal.ofBits .f32 0x7F800000#32 : EReal) = ⊤ := by simp [Ideal.ofBits, Ideal.ieee]

/-- An array whose absolute values are below infinity has real elements. -/
theorem finite_of_lt {s : Shape} (v c : FVec Ideal s .f32) (hc : ∀ i, c i = Ideal.ofBits .f32 0x7F800000#32)
    (h : cmpf .olt (Host.absf v) c = fun _ => 1#1) : Finite (s := s) v := by
  intro i
  have h' : FloatOps.absf (v i : Ideal .f32) < (c i : EReal) := by
    by_contra hn
    have h1 : BitVec.ofBool (decide (FloatOps.absf (v i : Ideal .f32) < (c i : EReal))) = 1#1 := congrFun h i
    rw [decide_eq_false hn] at h1
    exact absurd h1 (by decide)
  rw [hc, bits_inf] at h'
  have h2 : v i ≠ ⊤ := by rintro e; rw [e] at h'; exact lt_irrefl _ h'
  have h3 : v i ≠ ⊥ := by rintro e; rw [e] at h'; exact lt_irrefl _ h'
  exact (EReal.coe_toReal h2 h3).symm

/-- Element `(r, l)` of an array of rank two as a real number. -/
def real2 {R C : ℕ} (v : (⟨2, ![R, C]⟩ : Shape).Idx → EReal) (r l : ℕ) : ℝ := (at2 v r l).toReal

theorem at2_real {R C : ℕ} {v : (⟨2, ![R, C]⟩ : Shape).Idx → EReal} (h : Finite v) (r l : ℕ) : at2 v r l = (real2 v r l : EReal) := by
  unfold real2 at2
  split
  · exact h _
  · simp

/-- Element `l` of an array of rank one as a real number. -/
def real1 {R : ℕ} (v : (⟨1, ![R]⟩ : Shape).Idx → EReal) (l : ℕ) : ℝ := if h : l < R then (v (ix1 ⟨l, h⟩)).toReal else 0

theorem at1_real {R : ℕ} {v : (⟨1, ![R]⟩ : Shape).Idx → EReal} (h : Finite v) (l : Fin R) : v (ix1 l) = (real1 v l : EReal) := by
  unfold real1; rw [dif_pos l.isLt]; exact h _

theorem ix_real {R C : ℕ} {v : (⟨2, ![R, C]⟩ : Shape).Idx → EReal} (h : Finite v) (r : Fin R) (l : Fin C) :
    v (ix2 r l) = (real2 v r l : EReal) := (at2_ix v r l).symm.trans (at2_real h r l)

/-- A sum of real numbers, taken in the extended reals. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The bit of room above zero that the mean square is given: the value of the rounded constant `1e-6`. -/
def eps : ℝ := 8796093 / 8796093022208

theorem bits_eps : (Ideal.ofBits .f32 0x358637BD#32 : EReal) = (eps : EReal) := by
  unfold eps
  simp [Ideal.ofBits, Ideal.ieee]
  rw [← EReal.coe_mul]; norm_num

theorem bits_1024 : (Ideal.ofBits .f32 0x44800000#32 : EReal) = ((1024 : ℝ) : EReal) := by
  simp [Ideal.ofBits, Ideal.ieee]
  rw [← EReal.coe_mul]; norm_num
theorem bits_inv1024 : (Ideal.ofBits .f32 0x3A800000#32 : EReal) = ((1 / 1024 : ℝ) : EReal) := by
  simp [Ideal.ofBits, Ideal.ieee]
  rw [← EReal.coe_mul]; norm_num

theorem bits_half : (Ideal.ofBits .f32 0x3F000000#32 : EReal) = ((1 / 2 : ℝ) : EReal) := by
  simp [Ideal.ofBits, Ideal.ieee]
  rw [← EReal.coe_mul]; norm_num

theorem bits_neg_half : (Ideal.ofBits .f32 0xBF000000#32 : EReal) = ((-(1 / 2) : ℝ) : EReal) := by
  simp [Ideal.ofBits, Ideal.ieee]
  rw [← EReal.coe_mul]; norm_num

theorem bits_two : (Ideal.ofBits .f32 0x40000000#32 : EReal) = ((2 : ℝ) : EReal) := by
  simp [Ideal.ofBits, Ideal.ieee]
  rw [← EReal.coe_mul]; norm_num

theorem bits_one : (Ideal.ofBits .f32 0x3F800000#32 : EReal) = ((1 : ℝ) : EReal) := by
  simp [Ideal.ofBits, Ideal.ieee]
  rw [← EReal.coe_mul]; norm_num

theorem div_1024 (a : ℝ) : Ideal.div (a : EReal) ((1024 : ℝ) : EReal) = ((a / 1024 : ℝ) : EReal) := by
  rw [Ideal.div_coe (by norm_num), ← EReal.coe_mul, mul_one_div]

/-- The reciprocal root of a row's mean square. -/
def rstd (x : ℕ → ℝ) : ℝ := (√((∑ k : Fin 1024, x k * x k) / 1024 + eps))⁻¹

/-- The gradient of the normalisation, by `x`, at the cotangent `d` of the normalised row. -/
def normBack (x d : ℕ → ℝ) (l : ℕ) : ℝ := rstd x * (d l - x l * rstd x * ((∑ k : Fin 1024, d k * (x k * rstd x)) / 1024))

theorem room_pos (x : ℕ → ℝ) : 0 < (∑ k : Fin 1024, x k * x k) / 1024 + eps :=
  add_pos_of_nonneg_of_pos (div_nonneg (Finset.sum_nonneg fun k _ => mul_self_nonneg _) (by norm_num)) (by unfold eps; norm_num)

theorem rsqrt_room (x : ℕ → ℝ) : Ideal.rsqrt (((∑ k : Fin 1024, x k * x k) / 1024 + eps : ℝ) : EReal) = (rstd x : EReal) := by
  rw [Ideal.rsqrt_coe, if_neg (not_lt.mpr (room_pos x).le), if_neg (room_pos x).ne']; rfl

theorem div_room (a : ℝ) (x : ℕ → ℝ) :
    Ideal.div (a : EReal) (((∑ k : Fin 1024, x k * x k) / 1024 + eps : ℝ) : EReal) = ((a / ((∑ k : Fin 1024, x k * x k) / 1024 + eps) : ℝ) : EReal) := by
  rw [Ideal.div_coe (room_pos x).ne', ← EReal.coe_mul, mul_one_div]

/-- The gradient as the derivative of each factor gives it. -/
theorem normBack_eq (x d : ℕ → ℝ) (l : ℕ) :
    d l * rstd x + x l * ((∑ k : Fin 1024, x k * d k) * (-(1 / 2) * (rstd x / ((∑ k : Fin 1024, x k * x k) / 1024 + eps))) / 1024)
      + (∑ k : Fin 1024, x k * d k) * (-(1 / 2) * (rstd x / ((∑ k : Fin 1024, x k * x k) / 1024 + eps))) / 1024 * x l = normBack x d l := by
  have h : rstd x * rstd x = ((∑ k : Fin 1024, x k * x k) / 1024 + eps)⁻¹ := by
    unfold rstd; rw [← mul_inv, Real.mul_self_sqrt (room_pos x).le]
  have hs : ∑ k : Fin 1024, d k * (x k * rstd x) = (∑ k : Fin 1024, x k * d k) * rstd x := by
    rw [Finset.sum_mul]; exact Finset.sum_congr rfl fun k _ => by ring
  unfold normBack
  rw [hs, div_eq_mul_inv (rstd x), ← h]
  ring

end Cert.Tools

end
-- ==== Proof.Loss.Block.lean ====
module

public import proofs.«01_k».proof.Proof.Gen.LossKernelIdeal.Frame
public import proofs.«01_k».proof.Proof.Tools.Real

/-! The loss kernel, one block of 512 rows at a time.

`X` is the activation, `G` the norm's gain, `T` the target, all real. -/

@[expose] public section

set_option maxRecDepth 16384

noncomputable section

namespace Cert.Loss

open Cert.LossKernelIdeal Cert.LossKernelIdeal.Gen Cert.Tools
open Idealize.ShloMosaic Idealize.ShloMosaic.TcCoe Idealize.SL.Sem

/-- The error: the normalised row times the gain, less the target. -/
def err (X : ℕ → ℕ → ℝ) (G : ℕ → ℝ) (T : ℕ → ℕ → ℝ) (r l : ℕ) : ℝ := X r l * rstd (X r) * G l - T r l

/-- The cotangent of the normalised row times the gain. -/
def dy (X : ℕ → ℕ → ℝ) (G : ℕ → ℝ) (T : ℕ → ℕ → ℝ) (r l : ℕ) : ℝ := err X G T r l * (1 / 1024)

/-- The gradient by the activation. -/
def dx (X : ℕ → ℕ → ℝ) (G : ℕ → ℝ) (T : ℕ → ℕ → ℝ) (r l : ℕ) : ℝ := normBack (X r) (fun k => G k * dy X G T r k) l

/-- What one row adds to the gradient by the gain. -/
def dg (X : ℕ → ℕ → ℝ) (G : ℕ → ℝ) (T : ℕ → ℕ → ℝ) (r l : ℕ) : ℝ := dy X G T r l * (X r l * rstd (X r))

/-- The squares of one row's errors, added. -/
def sq (X : ℕ → ℕ → ℝ) (G : ℕ → ℝ) (T : ℕ → ℕ → ℝ) (r : ℕ) : ℝ := ∑ k : Fin 1024, err X G T r k * err X G T r k

/-- What the three input blocks at point `t` hold. -/
structure Blocks (t : ℕ) (X : ℕ → ℕ → ℝ) (G : ℕ → ℝ) (T : ℕ → ℕ → ℝ) (x0 x1 : Vec Ideal S512x1024 .f32) (x2 : Vec Ideal S1x1024 .f32) : Prop where
  x : ∀ (r : Fin 512) (l : Fin 1024), x0 (ix2 r l) = (X (t * 512 + r) l : EReal)
  t : ∀ (r : Fin 512) (l : Fin 1024), x1 (ix2 r l) = (T (t * 512 + r) l : EReal)
  g : ∀ (k : Fin 1) (l : Fin 1024), x2 (ix2 k l) = (G l : EReal)

section

variable {t : ℕ} {X : ℕ → ℕ → ℝ} {G : ℕ → ℝ} {T : ℕ → ℕ → ℝ} {x0 x1 : Vec Ideal S512x1024 .f32} {x2 : Vec Ideal S1x1024 .f32}
  (h : Blocks t X G T x0 x1 x2)
include h

theorem err_block (r : Fin 512) (l : Fin 1024) : k0_pay7 x0 x2 x1 (ix2 r l) = (err X G T (t * 512 + r) l : EReal) := by
  pointwise [k0_pay7, k0_pay6]
  simp only [h.x, h.t, h.g, bits_eps, bits_1024, bits_inv1024, ← EReal.coe_mul, coe_sum, div_1024, ← EReal.coe_add, rsqrt_room, ← EReal.coe_sub]
  rfl

theorem dx_block (r : Fin 512) (l : Fin 1024) : k0_pay11 x0 x2 x1 (ix2 r l) = (dx X G T (t * 512 + r) l : EReal) := by
  pointwise [k0_pay11, k0_pay6, k0_pay10, k0_pay8, k0_pay9]
  simp only [err_block h, h.x, h.t, h.g, bits_eps, bits_1024, bits_inv1024, ← EReal.coe_mul, coe_sum, div_1024, ← EReal.coe_add, rsqrt_room, ← EReal.coe_sub]
  rfl

theorem dg_block (r : Fin 512) (l : Fin 1024) : k0_pay12 x0 x2 x1 (ix2 r l) = (dg X G T (t * 512 + r) l : EReal) := by
  pointwise [k0_pay12, k0_pay6, k0_pay10, k0_pay8, k0_pay9]
  simp only [err_block h, h.x, h.t, h.g, bits_eps, bits_1024, bits_inv1024, ← EReal.coe_mul, coe_sum, div_1024, ← EReal.coe_add, rsqrt_room, ← EReal.coe_sub]
  rfl

/-- The block's part of the gradient by the gain. -/
theorem dg_sum (k : Fin 1) (l : Fin 1024) :
    k0_pay2 (k0_pay12 x0 x2 x1) (ix2 k l) = ((∑ r : Fin 512, dg X G T (t * 512 + r) l : ℝ) : EReal) := by
  pointwise [k0_pay2]
  simp only [dg_block h, coe_sum]

/-- The block's part of the loss. -/
theorem loss_sum (k : Fin 1) (l : Fin 128) :
    k0_pay3 (k0_pay7 x0 x2 x1) (ix2 k l) = ((1 / 2 * (∑ r : Fin 512, sq X G T (t * 512 + r)) * (1 / 1024) : ℝ) : EReal) := by
  pointwise [k0_pay3]
  simp only [err_block h, bits_half, bits_inv1024, ← EReal.coe_mul, coe_sum]
  rfl

end

end Cert.Loss

end
-- ==== Proof.Loss.Arrays.lean ====
module

public import proofs.«01_k».proof.Proof.Gen.LossKernelIdeal.Value
public import proofs.«01_k».proof.Proof.Loss.Block

/-! The loss kernel: what it leaves in its four result arrays at finite arguments.

The gradient by the activation is written once, 512 rows at a grid point, in both formats. The gain's gradient and the
loss stay in place through the grid: the first point writes its part, each later one adds its own. -/

@[expose] public section

set_option maxRecDepth 16384

noncomputable section

namespace Cert.Loss

open Cert.LossKernelIdeal Cert.LossKernelIdeal.Gen Cert.LossKernelIdeal.Value Cert.Tools
open Idealize.ShloMosaic Idealize.ShloMosaic.TcCoe Idealize.SL.Sem
open Idealize.ShloMosaic.Pipeline (Dat)

variable (m : (ℓ : Loc nD τ sig) → Buf (Elt Ideal) ℓ) (c : Dev nD)

/-- The three arguments as the launch holds them. -/
abbrev argX : S16384x1024.Idx → EReal := m ((c : Thread nD τ).loc main_arg0)
abbrev argG : S1024.Idx → EReal := m ((c : Thread nD τ).loc main_arg1)
abbrev argT : S16384x1024.Idx → EReal := m ((c : Thread nD τ).loc main_arg2)

/-- What the body leaves in its four output blocks at a point where no part was added before. -/
abbrev parts (x0 x1 : Vec Ideal S512x1024 .f32) (x2 : Vec Ideal S1x1024 .f32) :
    Vec Ideal S512x1024 .f32 × Vec Ideal S512x1024 .bf16 × Vec Ideal S1x1024 .f32 × Vec Ideal S1x128 .f32 :=
  (k0_pay11 x0 x2 x1, k0_pay1 (k0_pay11 x0 x2 x1), k0_pay2 (k0_pay12 x0 x2 x1), k0_pay3 (k0_pay7 x0 x2 x1))

theorem outs_first (t : Fin cfg0.N) (ht : t.val = 0) :
    outsAt0 m c t.val t.isLt = parts (iblk m c 0 t) (iblk m c 1 t) (iblk m c 2 t) := by
  rw [outsAt0_A m c t (by omega) (by omega)]
  unfold out0_A_3 out0_A_4 out0_A_5 out0_A_6
  rw [View.read_writes_eq_canon _ _ _ (fun y => cover0_A_3 (y := y) ..), View.read_writes_eq_canon _ _ _ (fun y => cover0_A_4 (y := y) ..),
    View.read_writes_eq_canon _ _ _ (fun y => cover0_A_5 (y := y) ..), View.read_writes_eq_canon _ _ _ (fun y => cover0_A_6 (y := y) ..)]
  unfold kernelRun0_A; dsimp only; sl_unfold_words
  simp only [View.readAt_eq_ld, (hs0_0 t).read_unread, (hs0_1 t).read_unread, (hs0_2 t).read_unread,
    View.ld_unit_zero (S := S512x1024) zero2, View.ld_unit_zero (S := S1x1024) zero2]
  unfold parts
  refine Prod.ext ?_ (Prod.ext ?_ (Prod.ext ?_ ?_)) <;> dsimp only <;> rw [View.canon_unit_zero zero2]

theorem outs_later (t : Fin cfg0.N) (ht : 1 ≤ t.val) (o) (ho : o = outsAt0 m c (t.val - 1) (Nat.lt_of_le_of_lt (Nat.sub_le _ _) t.isLt)) (p)
    (hp : p = parts (iblk m c 0 t) (iblk m c 1 t) (iblk m c 2 t)) :
    outsAt0 m c t.val t.isLt = (p.1, p.2.1, plus o.2.2.1 p.2.2.1, plus o.2.2.2 p.2.2.2) := by
  have hN : t.val < 32 := t.isLt
  subst ho hp
  rw [outsAt0_B m c t (by omega) ht]
  unfold out0_B_3 out0_B_4 out0_B_5 out0_B_6
  rw [View.read_writes_eq_canon _ _ _ (fun y => cover0_B_3 (y := y) ..), View.read_writes_eq_canon _ _ _ (fun y => cover0_B_4 (y := y) ..),
    View.read_writes_eq_canon _ _ _ (fun y => cover0_B_5 (y := y) ..), View.read_writes_eq_canon _ _ _ (fun y => cover0_B_6 (y := y) ..)]
  unfold kernelRun0_B; dsimp only; sl_unfold_words
  simp only [View.readAt_eq_ld, (hs0_0 t).read_unread, (hs0_1 t).read_unread, (hs0_2 t).read_unread, (hs0_5 t).read_unread, (hs0_6 t).read_unread,
    View.ld_unit_zero (S := S512x1024) zero2, View.ld_unit_zero (S := S1x1024) zero2, View.ld_unit_zero (S := S1x128) zero2]
  unfold k0_pay4 k0_pay5
  refine Prod.ext ?_ (Prod.ext ?_ (Prod.ext ?_ ?_)) <;> dsimp only <;> rw [View.canon_unit_zero zero2]
  · rw [shapeCast_self]; rfl
  · rw [shapeCast_self]; rfl

theorem index_in : ∀ t : Fin grid0.N,
    (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = t.val ∧ win0_3.index t 1 = 0)
    ∧ (win0_4.index t 0 = t.val ∧ win0_4.index t 1 = 0) ∧ (win0_5.index t 0 = 0 ∧ win0_5.index t 1 = 0)
    ∧ (win0_6.index t 0 = 0 ∧ win0_6.index t 1 = 0) := by decide +kernel

/-- The gain's row, as the region's third operand holds it. -/
theorem gain_row (t : Fin cfg0.N) (k : Fin 1) (l : Fin 1024) : iblk m c 2 t (ix2 k l) = argG m c (ix1 l) := by
  obtain ⟨-, -, ⟨a2, b2⟩, -⟩ := index_in t
  have e : (win0_2.rect t).emb (ix2 k l) = (ix2 k l : S1x1024.Idx) := by
    funext a; apply Fin.ext; fin_cases a
    · exact (win0_2.rect_emb_val t (ix2 k l) 0).trans (by rw [a2]; exact Nat.zero_add _)
    · exact (win0_2.rect_emb_val t (ix2 k l) 1).trans (by rw [b2]; exact Nat.zero_add _)
  have h : V m c main_v0 (ix2 k l) = argG m c (ix1 l) := by
    entry_read
    pointwise [argG]
  exact (congrArg (V m c main_v0) e).trans h

variable (fX : Finite (argX m c)) (fG : Finite (argG m c)) (fT : Finite (argT m c))

/-- The gain's reals. -/
abbrev gain : ℕ → ℝ := real1 (argG m c)

include fX fG fT in
/-- The input blocks at grid point `t` hold the rows that the block lemmas ask for. -/
theorem blocks (t : Fin cfg0.N) :
    Blocks t.val (real2 (argX m c)) (gain m c) (real2 (argT m c)) (iblk m c 0 t) (iblk m c 1 t) (iblk m c 2 t) := by
  obtain ⟨⟨a0, b0⟩, ⟨a1, b1⟩, -⟩ := index_in t
  have hN : t.val < 32 := t.isLt
  refine ⟨fun r l => ?_, fun r l => ?_, fun k l => ?_⟩
  · exact (at2_at (argX m c) ((win0_0.rect t).emb (ix2 r l)) _ _ ((win0_0.rect_emb_val t (ix2 r l) 0).trans (by rw [a0]; rfl))
      ((win0_0.rect_emb_val t (ix2 r l) 1).trans (by rw [b0]; exact Nat.zero_add _))).trans (at2_real fX _ _)
  · exact (at2_at (argT m c) ((win0_1.rect t).emb (ix2 r l)) _ _ ((win0_1.rect_emb_val t (ix2 r l) 0).trans (by rw [a1]; rfl))
      ((win0_1.rect_emb_val t (ix2 r l) 1).trans (by rw [b1]; exact Nat.zero_add _))).trans (at2_real fT _ _)
  · exact (gain_row m c t k l).trans (at1_real fG l)

theorem outs_dx (t : Fin cfg0.N) :
    (outsAt0 m c t.val t.isLt).1 = (parts (iblk m c 0 t) (iblk m c 1 t) (iblk m c 2 t)).1
    ∧ (outsAt0 m c t.val t.isLt).2.1 = (parts (iblk m c 0 t) (iblk m c 1 t) (iblk m c 2 t)).2.1 := by
  rcases Nat.eq_zero_or_pos t.val with h | h
  · rw [outs_first m c t h]; exact ⟨rfl, rfl⟩
  · rw [outs_later m c t h _ rfl _ rfl]; exact ⟨rfl, rfl⟩

include fX fG fT in
/-- The gain's gradient and the loss after `n + 1` points: the sums of their parts. -/
theorem outs_sums (n : ℕ) (hn : n < cfg0.N) :
    (∀ (k : Fin 1) (l : Fin 1024), (outsAt0 m c n hn).2.2.1 (ix2 k l)
      = ((∑ t ∈ Finset.range (n + 1), ∑ r : Fin 512, dg (real2 (argX m c)) (gain m c) (real2 (argT m c)) (t * 512 + r) l : ℝ) : EReal))
    ∧ ∀ (k : Fin 1) (l : Fin 128), (outsAt0 m c n hn).2.2.2 (ix2 k l)
      = ((1 / 2 * (∑ t ∈ Finset.range (n + 1), ∑ r : Fin 512, sq (real2 (argX m c)) (gain m c) (real2 (argT m c)) (t * 512 + r)) * (1 / 1024) : ℝ) : EReal) := by
  induction n with
  | zero =>
    have e : outsAt0 m c 0 hn = _ := outs_first m c ⟨0, hn⟩ rfl
    have b := blocks m c fX fG fT ⟨0, hn⟩
    rw [e]
    refine ⟨fun k l => ?_, fun k l => ?_⟩ <;> rw [Finset.sum_range_one]
    · exact dg_sum b k l
    · exact loss_sum b k l
  | succ n ih =>
    have e : outsAt0 m c (n + 1) hn = _ := outs_later m c ⟨n + 1, hn⟩ (Nat.succ_pos n) _ rfl _ rfl
    have b := blocks m c fX fG fT ⟨n + 1, hn⟩
    obtain ⟨i1, i2⟩ := ih (Nat.lt_of_succ_lt hn)
    rw [e]
    refine ⟨fun k l => ?_, fun k l => ?_⟩ <;> rw [Finset.sum_range_succ]
    · rw [EReal.coe_add, ← i1 k l, ← dg_sum b k l]; rfl
    · rw [mul_add, add_mul, EReal.coe_add, ← i2 k l, ← loss_sum b k l]; rfl

/-- The four results as arrays. -/
def resX : S16384x1024.Idx → EReal := fun i => (dx (real2 (argX m c)) (gain m c) (real2 (argT m c)) (i 0).val (i 1).val : EReal)
def resG : S1x1024.Idx → EReal := fun i => ((∑ r : Fin 16384, dg (real2 (argX m c)) (gain m c) (real2 (argT m c)) r (i 1).val : ℝ) : EReal)
def resL : S1x128.Idx → EReal := fun _ => ((1 / 2 * (∑ r : Fin 16384, sq (real2 (argX m c)) (gain m c) (real2 (argT m c)) r) * (1 / 1024) : ℝ) : EReal)

include fX fG fT in
theorem part_dx (t : Fin cfg0.N) (r : Fin 512) (l : Fin 1024) (i : S16384x1024.Idx) (h0 : (i 0).val = t.val * 512 + r.val) (h1 : (i 1).val = l.val) :
    k0_pay11 (iblk m c 0 t) (iblk m c 2 t) (iblk m c 1 t) (ix2 r l) = resX m c i := by
  rw [dx_block (blocks m c fX fG fT t)]
  unfold resX; rw [h0, h1]

attribute [local irreducible] resX resG resL

include fX fG fT in
/-- The activation's gradient array after the run. -/
theorem final_3 : (dats m 0 c).arrAt 3 cfg0.N = resX m c := by
  refine (dats m 0 c).arrAt_eq_of_cover 3 (resX m c) (fun t _ => ?_) (fun i => ?_)
  · rw [flushed3, (outs_dx m c t).1]
    funext y
    obtain ⟨r, l, rfl⟩ : ∃ (r : Fin 512) (l : Fin 1024), y = ix2 r l := ⟨y 0, y 1, eq_ix2 y⟩
    obtain ⟨a, b⟩ := (index_in t).2.2.2.1
    exact part_dx m c fX fG fT t r l ((win0_3.rect t).emb (ix2 r l)) ((win0_3.rect_emb_val t (ix2 r l) 0).trans (by rw [a]; rfl))
      ((win0_3.rect_emb_val t (ix2 r l) 1).trans (by rw [b]; exact Nat.zero_add _))
  · obtain ⟨r, l, rfl⟩ : ∃ (r : Fin 16384) (l : Fin 1024), i = ix2 r l := ⟨i 0, i 1, eq_ix2 i⟩
    have ht : r.val / 512 < 32 := by have hr := r.isLt; omega
    obtain ⟨a, b⟩ := (index_in ⟨r.val / 512, ht⟩).2.2.2.1
    have e : ix2 r l = ((cfg0.win 3).blk ⟨r.val / 512, ht⟩).view.emb (ix2 (⟨r.val % 512, Nat.mod_lt _ (by decide)⟩ : Fin 512) l) :=
      ext2 ((Nat.div_add_mod' r.val 512).symm.trans ((win0_3.rect_emb_val _ _ 0).trans (by rw [a]; rfl)).symm)
        ((win0_3.rect_emb_val _ _ 1).trans (by rw [b]; exact Nat.zero_add _)).symm
    exact ⟨⟨r.val / 512, ht⟩, flush0_3 _, e ▸ View.emb_mem_set _ _⟩

include fX fG fT in
/-- The same in the short format. -/
theorem final_4 : (dats m 0 c).arrAt 4 cfg0.N = resX m c := by
  refine (dats m 0 c).arrAt_eq_of_cover 4 (resX m c) (fun t _ => ?_) (fun i => ?_)
  · rw [flushed4, (outs_dx m c t).2]
    funext y
    obtain ⟨r, l, rfl⟩ : ∃ (r : Fin 512) (l : Fin 1024), y = ix2 r l := ⟨y 0, y 1, eq_ix2 y⟩
    obtain ⟨a, b⟩ := (index_in t).2.2.2.2.1
    exact part_dx m c fX fG fT t r l ((win0_4.rect t).emb (ix2 r l)) ((win0_4.rect_emb_val t (ix2 r l) 0).trans (by rw [a]; rfl))
      ((win0_4.rect_emb_val t (ix2 r l) 1).trans (by rw [b]; exact Nat.zero_add _))
  · obtain ⟨r, l, rfl⟩ : ∃ (r : Fin 16384) (l : Fin 1024), i = ix2 r l := ⟨i 0, i 1, eq_ix2 i⟩
    have ht : r.val / 512 < 32 := by have hr := r.isLt; omega
    obtain ⟨a, b⟩ := (index_in ⟨r.val / 512, ht⟩).2.2.2.2.1
    have e : ix2 r l = ((cfg0.win 4).blk ⟨r.val / 512, ht⟩).view.emb (ix2 (⟨r.val % 512, Nat.mod_lt _ (by decide)⟩ : Fin 512) l) :=
      ext2 ((Nat.div_add_mod' r.val 512).symm.trans ((win0_4.rect_emb_val _ _ 0).trans (by rw [a]; rfl)).symm)
        ((win0_4.rect_emb_val _ _ 1).trans (by rw [b]; exact Nat.zero_add _)).symm
    exact ⟨⟨r.val / 512, ht⟩, flush0_4 _, e ▸ View.emb_mem_set _ _⟩

include fX fG fT in
/-- At the last point both sums are complete. -/
theorem outs_last (t : Fin cfg0.N) (h : t.val = 31) :
    (∀ (k : Fin 1) (l : Fin 1024), (outsAt0 m c t.val t.isLt).2.2.1 (ix2 k l) = resG m c (ix2 k l))
    ∧ ∀ (k : Fin 1) (l : Fin 128), (outsAt0 m c t.val t.isLt).2.2.2 (ix2 k l) = resL m c (ix2 k l) := by
  obtain ⟨h1, h2⟩ := outs_sums m c fX fG fT t.val t.isLt
  refine ⟨fun k l => ?_, fun k l => ?_⟩
  · rw [h1, show t.val + 1 = 32 by omega, sum_tiles 32 512 fun r => dg (real2 (argX m c)) (gain m c) (real2 (argT m c)) r l, ← Fin.sum_univ_eq_sum_range]
    unfold resG; rfl
  · rw [h2, show t.val + 1 = 32 by omega, sum_tiles 32 512 fun r => sq (real2 (argX m c)) (gain m c) (real2 (argT m c)) r, ← Fin.sum_univ_eq_sum_range]
    unfold resL; rfl

include fX fG fT in
/-- The gain's gradient array after the run. -/
theorem final_5 : (dats m 0 c).arrAt 5 cfg0.N = resG m c := by
  have emb : ∀ (t : Fin cfg0.N) (k : Fin 1) (l : Fin 1024), (ix2 k l : S1x1024.Idx) = ((cfg0.win 5).blk t).view.emb (ix2 k l) := fun t k l => by
    obtain ⟨a, b⟩ := (index_in t).2.2.2.2.2.1
    exact ext2 ((win0_5.rect_emb_val t (ix2 k l) 0).trans (by rw [a]; exact Nat.zero_add _)).symm
      ((win0_5.rect_emb_val t (ix2 k l) 1).trans (by rw [b]; exact Nat.zero_add _)).symm
  refine (dats m 0 c).arrAt_eq_of_cover 5 (resG m c) (fun t ht => ?_) (fun i => ?_)
  · have h := (flush0_5 t).mp ht
    have hN : t.val < 32 := t.isLt
    rw [flushed5]
    funext y
    obtain ⟨k, l, rfl⟩ : ∃ (k : Fin 1) (l : Fin 1024), y = ix2 k l := ⟨y 0, y 1, eq_ix2 y⟩
    exact ((outs_last m c fX fG fT t (by omega)).1 k l).trans (congrArg (resG m c) (emb t k l))
  · obtain ⟨k, l, rfl⟩ : ∃ (k : Fin 1) (l : Fin 1024), i = ix2 k l := ⟨i 0, i 1, eq_ix2 i⟩
    exact ⟨⟨31, by decide⟩, (flush0_5 _).mpr rfl, (emb ⟨31, by decide⟩ k l) ▸ View.emb_mem_set _ _⟩

include fX fG fT in
/-- The loss's row after the run. -/
theorem final_6 : (dats m 0 c).arrAt 6 cfg0.N = resL m c := by
  have emb : ∀ (t : Fin cfg0.N) (k : Fin 1) (l : Fin 128), (ix2 k l : S1x128.Idx) = ((cfg0.win 6).blk t).view.emb (ix2 k l) := fun t k l => by
    obtain ⟨a, b⟩ := (index_in t).2.2.2.2.2.2
    exact ext2 ((win0_6.rect_emb_val t (ix2 k l) 0).trans (by rw [a]; exact Nat.zero_add _)).symm
      ((win0_6.rect_emb_val t (ix2 k l) 1).trans (by rw [b]; exact Nat.zero_add _)).symm
  refine (dats m 0 c).arrAt_eq_of_cover 6 (resL m c) (fun t ht => ?_) (fun i => ?_)
  · have h := (flush0_6 t).mp ht
    have hN : t.val < 32 := t.isLt
    rw [flushed6]
    funext y
    obtain ⟨k, l, rfl⟩ : ∃ (k : Fin 1) (l : Fin 128), y = ix2 k l := ⟨y 0, y 1, eq_ix2 y⟩
    exact ((outs_last m c fX fG fT t (by omega)).2 k l).trans (congrArg (resL m c) (emb t k l))
  · obtain ⟨k, l, rfl⟩ : ∃ (k : Fin 1) (l : Fin 128), i = ix2 k l := ⟨i 0, i 1, eq_ix2 i⟩
    exact ⟨⟨31, by decide⟩, (flush0_6 _).mpr rfl, (emb ⟨31, by decide⟩ k l) ▸ View.emb_mem_set _ _⟩

end Cert.Loss

end
-- ==== Proof.Loss.Reference.lean ====
module

public import proofs.«01_k».proof.Proof.Gen.LossReferenceIdeal.Read
public import proofs.«01_k».proof.Proof.Loss.Block

/-! The loss's reference: its four results at an element, at finite arguments. -/

@[expose] public section

set_option maxRecDepth 16384

noncomputable section

namespace Cert.Loss

open Cert.LossReferenceIdeal Cert.LossReferenceIdeal.Read Cert.Tools
open Idealize.ShloMosaic

section

variable {X : ℕ → ℕ → ℝ} {G : ℕ → ℝ} {T : ℕ → ℕ → ℝ}
  {x0 x2 : (⟨S16384x1024, .f32⟩ : BufTy).Contents (Elt Ideal)} {x1 : (⟨S1024, .f32⟩ : BufTy).Contents (Elt Ideal)}
  (hx : ∀ (r : Fin 16384) (l : Fin 1024), x0 (ix2 r l) = (X r l : EReal)) (hg : ∀ l : Fin 1024, x1 (ix1 l) = (G l : EReal))
  (ht : ∀ (r : Fin 16384) (l : Fin 1024), x2 (ix2 r l) = (T r l : EReal))
include hx hg ht

theorem err_ref (r : Fin 16384) (l : Fin 1024) : val_main_v16 x0 x1 x2 (ix2 r l) = (err X G T r l : EReal) := by
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_cst_3, val_main_v18, val_main_v19, val_main_cst_4, val_main_v20, val_main_cst_5, val_main_v21, val_main_v22, val_main_cst_6, val_main_v23, val_main_cst_7, val_main_v24, val_main_cst_8, val_main_cst_9, val_main_v25, val_main_v26, val_main_cst_10, val_main_v27, val_main_v28, val_main_v29, val_main_v30, val_main_v31, val_main_cst_11, val_main_v32, val_main_v33, val_main_v34, val_main_v35, val_main_cst_12, val_main_v36, val_main_v37, val_main_cst_13, val_main_v38, val_main_v39, val_main_v40, val_main_v41, val_main_v42, val_main_cst_14, val_main_v43, val_main_v44, val_main_cst_15, val_main_v45, val_main_v46, val_main_v47, val_main_v48, val_main_v49, val_main_v50, val_main_v51, val_main_v52, val_main_v53]
  simp only [hx, ht, hg, bits_eps, bits_1024, ← EReal.coe_mul, coe_sum, div_1024, ← EReal.coe_add, rsqrt_room, ← EReal.coe_sub]
  rfl

theorem dx_ref (r : Fin 16384) (l : Fin 1024) : val_main_v50 x0 x1 x2 (ix2 r l) = (dx X G T r l : EReal) := by
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_cst_3, val_main_v18, val_main_v19, val_main_cst_4, val_main_v20, val_main_cst_5, val_main_v21, val_main_v22, val_main_cst_6, val_main_v23, val_main_cst_7, val_main_v24, val_main_cst_8, val_main_cst_9, val_main_v25, val_main_v26, val_main_cst_10, val_main_v27, val_main_v28, val_main_v29, val_main_v30, val_main_v31, val_main_cst_11, val_main_v32, val_main_v33, val_main_v34, val_main_v35, val_main_cst_12, val_main_v36, val_main_v37, val_main_cst_13, val_main_v38, val_main_v39, val_main_v40, val_main_v41, val_main_v42, val_main_cst_14, val_main_v43, val_main_v44, val_main_cst_15, val_main_v45, val_main_v46, val_main_v47, val_main_v48, val_main_v49, val_main_v50, val_main_v51, val_main_v52, val_main_v53]
  simp only [hx, ht, hg, bits_eps, bits_1024, bits_half, bits_neg_half, bits_two, ← EReal.coe_mul, coe_sum, div_1024, ← EReal.coe_add, rsqrt_room, div_room, ← EReal.coe_sub, Finset.univ_unique, Finset.sum_singleton]
  have h : ∀ k : ℕ, 1 / 2 / 1024 * (2 * (X r k * rstd (X r) * G k - T r k)) * G k = G k * dy X G T r k := fun k => by
    unfold dy err; ring
  simp only [h]
  exact congrArg _ (normBack_eq (X r) (fun k => G k * dy X G T r k) l)

theorem dg_ref (k : Fin 1) (l : Fin 1024) : val_main_v53 x0 x1 x2 (ix2 k l) = ((∑ r : Fin 16384, dg X G T r l : ℝ) : EReal) := by
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_cst_3, val_main_v18, val_main_v19, val_main_cst_4, val_main_v20, val_main_cst_5, val_main_v21, val_main_v22, val_main_cst_6, val_main_v23, val_main_cst_7, val_main_v24, val_main_cst_8, val_main_cst_9, val_main_v25, val_main_v26, val_main_cst_10, val_main_v27, val_main_v28, val_main_v29, val_main_v30, val_main_v31, val_main_cst_11, val_main_v32, val_main_v33, val_main_v34, val_main_v35, val_main_cst_12, val_main_v36, val_main_v37, val_main_cst_13, val_main_v38, val_main_v39, val_main_v40, val_main_v41, val_main_v42, val_main_cst_14, val_main_v43, val_main_v44, val_main_cst_15, val_main_v45, val_main_v46, val_main_v47, val_main_v48, val_main_v49, val_main_v50, val_main_v51, val_main_v52, val_main_v53]
  simp only [hx, ht, hg, bits_eps, bits_1024, bits_half, bits_neg_half, bits_two, ← EReal.coe_mul, coe_sum, div_1024, ← EReal.coe_add, rsqrt_room, div_room, ← EReal.coe_sub, Finset.univ_unique, Finset.sum_singleton]
  refine congrArg _ (Finset.sum_congr rfl fun r _ => ?_)
  unfold dg dy err; ring

theorem loss_ref (k : Fin 1) (l : Fin 128) :
    val_main_v51 x0 x1 x2 (ix2 k l) = ((1 / 2 * (∑ r : Fin 16384, sq X G T r) * (1 / 1024) : ℝ) : EReal) := by
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_cst_3, val_main_v18, val_main_v19, val_main_cst_4, val_main_v20, val_main_cst_5, val_main_v21, val_main_v22, val_main_cst_6, val_main_v23, val_main_cst_7, val_main_v24, val_main_cst_8, val_main_cst_9, val_main_v25, val_main_v26, val_main_cst_10, val_main_v27, val_main_v28, val_main_v29, val_main_v30, val_main_v31, val_main_cst_11, val_main_v32, val_main_v33, val_main_v34, val_main_v35, val_main_cst_12, val_main_v36, val_main_v37, val_main_cst_13, val_main_v38, val_main_v39, val_main_v40, val_main_v41, val_main_v42, val_main_cst_14, val_main_v43, val_main_v44, val_main_cst_15, val_main_v45, val_main_v46, val_main_v47, val_main_v48, val_main_v49, val_main_v50, val_main_v51, val_main_v52, val_main_v53]
  simp only [hx, ht, hg, bits_eps, bits_1024, bits_half, bits_neg_half, bits_two, ← EReal.coe_mul, coe_sum, div_1024, ← EReal.coe_add, rsqrt_room, div_room, ← EReal.coe_sub, Finset.univ_unique, Finset.sum_singleton]
  rw [← Finset.sum_div, ← mul_div_assoc, div_eq_mul_one_div]
  rfl

end

end Cert.Loss

end
-- ==== Proof.Loss.Claims.lean ====
module

public import proofs.«01_k».proof.Defs
public import proofs.«01_k».proof.Proof.Loss.Arrays
public import proofs.«01_k».proof.Proof.Loss.Reference
public import proofs.«01_k».proof.Proof.Gen.LossKernel.Frame
public import proofs.«01_k».proof.Proof.Gen.Pre_loss_finite

/-! The claims about the loss's call. -/

@[expose] public section

set_option maxRecDepth 16384

noncomputable section

namespace Cert.Loss

open Idealize.ShloMosaic Idealize.ShloMosaic.TcCoe Idealize.SL.Sem Cert.Tools

theorem frame_kernel : Cert.quiescent_LossKernel := fun m ρ _ => Cert.LossKernel.Gen.frame m ρ

theorem frame_kernelIdeal : Cert.quiescent_LossKernelIdeal := fun m ρ _ => Cert.LossKernelIdeal.Gen.frame m ρ

theorem frame_kernelIdeal_finite : Cert.quiescent_LossKernelIdeal_pre_loss_finite := fun m ρ _ => Cert.LossKernelIdeal.Gen.frame m ρ

theorem frame_reference : Cert.quiescent_LossReferenceIdeal := fun m ρ _ =>
  (θ_run _ _ _).mono (fun r h => ⟨fun c => (h c).2.2.2.2, sem_eq_zero_of_no_sems (sig := Cert.LossReferenceIdeal.sig) (by decide) r.2⟩) (Cert.LossReferenceIdeal.Value.run m ρ)

theorem frame_reference_finite : Cert.quiescent_LossReferenceIdeal_pre_loss_finite := fun m ρ _ => frame_reference m ρ trivial

/-- The precondition says of each argument that it is finite. -/
theorem finite_args (m : (ℓ : Loc Cert.LossKernelIdeal.nD Cert.LossKernelIdeal.τ Cert.LossKernelIdeal.sig) → Buf (Elt Ideal) ℓ)
    (hp : Cert.Pre_LossKernelIdeal_loss_finite m) (c : Dev Cert.LossKernelIdeal.nD) :
    Finite (argX m c) ∧ Finite (argG m c) ∧ Finite (argT m c) :=
  ⟨finite_of_lt _ _ (fun _ => rfl) (hp c).1, finite_of_lt _ _ (fun _ => rfl) (hp c).2.1, finite_of_lt _ _ (fun _ => rfl) (hp c).2.2⟩

theorem algebraic : Cert.algebraic_LossKernelIdeal_LossReferenceIdeal_pre_loss_finite := fun m ρ m' ρ' hp hm =>
  ⟨fun c => resL m c, fun c => resX m c, fun c => resX m c, fun c => resG m c,
    (θ_run _ _ _).mono (fun r h c => by
        obtain ⟨fX, fG, fT⟩ := finite_args m hp c
        exact ⟨(h c).2.2.2.1.trans (final_6 m c fX fG fT), (h c).1.trans (final_3 m c fX fG fT), (h c).2.1.trans (final_4 m c fX fG fT),
          (h c).2.2.1.trans (final_5 m c fX fG fT), (h c).2.2.2.2⟩)
      (Cert.LossKernelIdeal.Value.run_blocks m ρ),
    (θ_run _ _ _).mono (fun r h c => by
        obtain ⟨fX, fG, fT⟩ := finite_args m hp c
        obtain ⟨hX, hG, hT⟩ := hm c
        refine ⟨(h c).1.trans ?_, (h c).2.1.trans ?_, (h c).2.2.1.trans ?_, (h c).2.2.2.1.trans ?_, (h c).2.2.2.2⟩
        · rw [Cert.LossReferenceIdeal.Read.val_main_v51_eq, hX, hG, hT]
          funext i
          obtain ⟨k, l, rfl⟩ : ∃ (k : Fin 1) (l : Fin 128), i = ix2 k l := ⟨i 0, i 1, eq_ix2 i⟩
          exact loss_ref (ix_real fX) (at1_real fG) (ix_real fT) k l
        · rw [Cert.LossReferenceIdeal.Read.val_main_v50_eq, hX, hG, hT]
          funext i
          obtain ⟨k, l, rfl⟩ : ∃ (k : Fin 16384) (l : Fin 1024), i = ix2 k l := ⟨i 0, i 1, eq_ix2 i⟩
          exact dx_ref (ix_real fX) (at1_real fG) (ix_real fT) k l
        · rw [Cert.LossReferenceIdeal.Read.val_main_v52_eq, hX, hG, hT]
          funext i
          obtain ⟨k, l, rfl⟩ : ∃ (k : Fin 16384) (l : Fin 1024), i = ix2 k l := ⟨i 0, i 1, eq_ix2 i⟩
          exact dx_ref (ix_real fX) (at1_real fG) (ix_real fT) k l
        · rw [Cert.LossReferenceIdeal.Read.val_main_v53_eq, hX, hG, hT]
          funext i
          obtain ⟨k, l, rfl⟩ : ∃ (k : Fin 1) (l : Fin 1024), i = ix2 k l := ⟨i 0, i 1, eq_ix2 i⟩
          exact dg_ref (ix_real fX) (at1_real fG) (ix_real fT) k l)
      (Cert.LossReferenceIdeal.Value.run m' ρ')⟩

end Cert.Loss

end
-- ==== Proof.Unrope.Run.lean ====
module

public import proofs.«01_k».proof.Proof.Gen.UnropeKernelIdeal.Frame

/-! The unrotation of the queries' gradient: what a run leaves in every buffer outside the kernels' own, and so in the result. -/

@[expose] public section

set_option maxRecDepth 16384

noncomputable section

namespace Cert.Unrope

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation cellOf)
open Cert.UnropeKernelIdeal Cert.UnropeKernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends with the buffers outside the kernels' own at the contents that the stretches of @main leave. -/
theorem run : θ_run defs (onTc (τ := τ) (main (F := F))) ⟨m, fun _ => 0, ρ⟩ (fun r =>
      ∀ c : Dev nD, ∀ b ∈ Pipeline.ucRefs τ sig, r.2.mem (((c : Thread nD τ)).1, b) = W7 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => h)

/-- The same, of the result and the arguments. -/
theorem run_main : θ_run defs (onTc (τ := τ) (main (F := F))) ⟨m, fun _ => 0, ρ⟩ (fun r => ∀ c : Dev nD,
      r.2.mem ((c.tc : Thread nD τ).loc main_v31) = W7 m ρ c (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun _ h c =>
    ⟨h c _ (mem_uc main_v31 (by decide)), (h c _ (mem_uc main_arg0 (by decide))).trans (W7_main_arg0 m ρ c),
     (h c _ (mem_uc main_arg1 (by decide))).trans (W7_main_arg1 m ρ c)⟩) (run m ρ)

end Cert.Unrope

end
-- ==== Proof.Unrope.Block.lean ====
module

public import proofs.«01_k».proof.Proof.Gen.UnropeKernelIdeal.Skeleton
public import proofs.«01_k».proof.Proof.Tools.Arrays
public import proofs.«01_k».proof.Proof.Tools.Real
public import Idealize.ShloMosaic.Lib.StableHlo.ReadAt

/-! The two blocks of the unrotation: the rotation's tables and the rotation itself, at an element. Nothing is assumed finite: the factors
that the tables put to zero make a product zero whatever the other factor is. -/

@[expose] public section

set_option maxRecDepth 16384

noncomputable section

namespace Cert.Unrope

open Cert.UnropeKernelIdeal Cert.UnropeKernelIdeal.Gen Cert.Tools
open Idealize.ShloMosaic Idealize.ShloMosaic.TcCoe

/-- The factor of the scores, one over the square root of 96 as rounded. -/
def scale : EReal := Ideal.ofBits .f32 0x3DD105EC#32

/-- One head's row `x` turned back, by rows of the tables of the cosine and of the two signed sines. -/
def turn (x c a b : ℕ → EReal) (l : ℕ) : EReal :=
  (x l * c l + x ((l + 112) % 128) * a ((l + 112) % 128) + x ((l + 16) % 128) * b ((l + 16) % 128)) * scale

theorem cos_at (v0 : Vec Ideal S512x1 .i32) (v3 : Vec Ideal S1x128 .f32) (r : Fin 512) (l : Fin 128) :
    (k0_pay3 v0 v3 (ix2 r l) : EReal) = Ideal.cos (FloatOps.sitofp (F := Ideal) .f32 (v0 (ix2 r 0)) * v3 (ix2 0 l)) := by
  pointwise [k0_pay3, k0_pay1]

theorem sin_left (v0 : Vec Ideal S512x1 .i32) (v3 v4 : Vec Ideal S1x128 .f32) (r : Fin 512) (l : Fin 128) :
    (k0_pay4 v0 v3 v4 (ix2 r l) : EReal) = Ideal.sin (FloatOps.sitofp (F := Ideal) .f32 (v0 (ix2 r 0)) * v3 (ix2 0 l)) * v4 (ix2 0 l) := by
  pointwise [k0_pay4, k0_pay2, k0_pay1]

theorem sin_right (v0 : Vec Ideal S512x1 .i32) (v3 v4 : Vec Ideal S1x128 .f32) (r : Fin 512) (l : Fin 128) :
    (k0_pay5 v0 v3 v4 (ix2 r l) : EReal) = Ideal.sin (FloatOps.sitofp (F := Ideal) .f32 (v0 (ix2 r 0)) * v3 (ix2 0 l)) * v4 (ix2 0 l) := by
  pointwise [k0_pay5, k0_pay2, k0_pay1]

theorem turn_at {x c a b : Vec Ideal S256x128 .f32} {X C A B : ℕ → EReal} (r : Fin 256) (hx : ∀ l : Fin 128, (x (ix2 r l) : EReal) = X l)
    (hc : ∀ l : Fin 128, (c (ix2 r l) : EReal) = C l) (ha : ∀ l : Fin 128, (a (ix2 r l) : EReal) = A l)
    (hb : ∀ l : Fin 128, (b (ix2 r l) : EReal) = B l) (l : Fin 128) : (k1_pay2 x c a b (ix2 r l) : EReal) = turn X C A B l := by
  pointwise [k1_pay2]
  simp only [hx, hc, ha, hb]
  rfl

/-! The body's other seven stores are of the same function. -/

theorem turn_second (x c a b : Vec Ideal S256x128 .f32) : k1_pay4 (k1_pay3 x c a b) (Scalar.ofBits .f32 0x3DD105EC#32) = k1_pay2 x c a b := rfl
theorem turn_third (x c a b : Vec Ideal S256x128 .f32) : k1_pay5 x c a b = k1_pay2 x c a b := rfl
theorem turn_fourth (x c a b : Vec Ideal S256x128 .f32) : k1_pay10 (k1_pay6 x) (k1_pay7 b) (k1_pay8 x c) (k1_pay9 x a) = k1_pay2 x c a b := rfl
theorem turn_fifth (x c a b : Vec Ideal S256x128 .f32) : k1_pay11 x c a b = k1_pay2 x c a b := rfl
theorem turn_sixth (x c a b : Vec Ideal S256x128 .f32) : k1_pay15 (k1_pay12 x) (k1_pay13 c) (k1_pay14 a) b = k1_pay2 x c a b := rfl
theorem turn_seventh (x c a b : Vec Ideal S256x128 .f32) : k1_pay16 x c a b = k1_pay2 x c a b := rfl
theorem turn_eighth (x c a b : Vec Ideal S256x128 .f32) : k1_pay1 (k1_pay17 x) (k1_pay18 c) a b = k1_pay2 x c a b := rfl

end Cert.Unrope

end
-- ==== Proof.Unrope.Arrays.lean ====
module

public import proofs.«01_k».proof.Proof.Unrope.Run
public import proofs.«01_k».proof.Proof.Unrope.Block
public import proofs.«01_k».proof.Proof.Gen.UnropeKernelIdeal.Points
public import Idealize.ShloMosaic.Lib.Pipeline.ValueKit.Tiles

/-! The three tables that the first call leaves, and the array that the second leaves. -/

@[expose] public section

set_option maxRecDepth 16384

noncomputable section

namespace Cert.Unrope

open Cert.UnropeKernelIdeal Cert.UnropeKernelIdeal.Gen Cert.Tools
open Idealize.ShloMosaic Idealize.ShloMosaic.TcCoe Idealize.SL.Sem
open Idealize.ShloMosaic.Pipeline (Dat)

/-- An array of rank two by its element function. -/
def arr {R C : ℕ} (f : ℕ → ℕ → EReal) : (⟨2, ![R, C]⟩ : Shape).Idx → EReal := fun i => f (i 0).val (i 1).val

theorem index0 : ∀ t : Fin grid0.N, (win0_0.index t 0 = t.val ∧ win0_0.index t 1 = 0)
    ∧ (win0_1.index t 0 = 0 ∧ win0_1.index t 1 = 0) ∧ (win0_2.index t 0 = 0 ∧ win0_2.index t 1 = 0) ∧ (win0_3.index t 0 = 0 ∧ win0_3.index t 1 = 0)
    ∧ (win0_4.index t 0 = t.val ∧ win0_4.index t 1 = 0) ∧ (win0_5.index t 0 = t.val ∧ win0_5.index t 1 = 0)
    ∧ (win0_6.index t 0 = t.val ∧ win0_6.index t 1 = 0) := by decide +kernel

theorem index1 : ∀ t : Fin grid1.N, (win1_0.index t 0 = t.val ∧ win1_0.index t 1 = 0) ∧ (win1_1.index t 0 = t.val ∧ win1_1.index t 1 = 0)
    ∧ (win1_2.index t 0 = t.val ∧ win1_2.index t 1 = 0) ∧ (win1_3.index t 0 = t.val ∧ win1_3.index t 1 = 0)
    ∧ (win1_4.index t 0 = t.val ∧ win1_4.index t 1 = 0) := by decide +kernel

section

variable (V : (c : Dev nD) → (b : Ref sig .tc) → Buf (Elt Ideal) ((c : Thread nD τ).loc b)) (c : Dev nD)
variable {P F A B : ℕ → EReal} (hP : ∀ r : Fin 16384, (FloatOps.sitofp (F := Ideal) .f32 (V c main_v24 (ix2 r 0)) : EReal) = P r)
  (hF : ∀ l : Fin 128, (V c main_v14 (ix2 0 l) : EReal) = F l) (hA : ∀ l : Fin 128, (V c main_v19 (ix2 0 l) : EReal) = A l)
  (hB : ∀ l : Fin 128, (V c main_v23 (ix2 0 l) : EReal) = B l)

include hP in
theorem pos0 (t : Fin cfg0.N) (r : Fin 512) : (FloatOps.sitofp (F := Ideal) .f32 (iblk0 V c 0 t (ix2 r 0)) : EReal) = P (t.val * 512 + r) := by
  have ht : t.val < 32 := t.isLt
  obtain ⟨⟨a0, a1⟩, -⟩ := index0 t
  have e : (win0_0.rect t).emb (ix2 r 0) = (ix2 (⟨t.val * 512 + r, by omega⟩ : Fin 16384) 0 : S16384x1.Idx) :=
    ext2 ((win0_0.rect_emb_val t (ix2 r 0) 0).trans (by rw [a0]; rfl)) ((win0_0.rect_emb_val t (ix2 r 0) 1).trans (by rw [a1]; rfl))
  exact (congrArg (fun j => (FloatOps.sitofp (F := Ideal) .f32 (V c main_v24 j) : EReal)) e).trans (hP _)

include hF in
theorem freq0 (t : Fin cfg0.N) (l : Fin 128) : (iblk0 V c 1 t (ix2 0 l) : EReal) = F l := by
  obtain ⟨-, ⟨a0, a1⟩, -⟩ := index0 t
  exact (congrArg (V c main_v14) (ext2 ((win0_1.rect_emb_val t (ix2 0 l) 0).trans (by rw [a0]; rfl)) ((win0_1.rect_emb_val t (ix2 0 l) 1).trans (by rw [a1]; exact Nat.zero_add _)) :
    (win0_1.rect t).emb (ix2 0 l) = (ix2 0 l : S1x128.Idx))).trans (hF l)

include hA in
theorem left0 (t : Fin cfg0.N) (l : Fin 128) : (iblk0 V c 2 t (ix2 0 l) : EReal) = A l := by
  obtain ⟨-, -, ⟨a0, a1⟩, -⟩ := index0 t
  exact (congrArg (V c main_v19) (ext2 ((win0_2.rect_emb_val t (ix2 0 l) 0).trans (by rw [a0]; rfl)) ((win0_2.rect_emb_val t (ix2 0 l) 1).trans (by rw [a1]; exact Nat.zero_add _)) :
    (win0_2.rect t).emb (ix2 0 l) = (ix2 0 l : S1x128.Idx))).trans (hA l)

include hB in
theorem right0 (t : Fin cfg0.N) (l : Fin 128) : (iblk0 V c 3 t (ix2 0 l) : EReal) = B l := by
  obtain ⟨-, -, -, ⟨a0, a1⟩, -⟩ := index0 t
  exact (congrArg (V c main_v23) (ext2 ((win0_3.rect_emb_val t (ix2 0 l) 0).trans (by rw [a0]; rfl)) ((win0_3.rect_emb_val t (ix2 0 l) 1).trans (by rw [a1]; exact Nat.zero_add _)) :
    (win0_3.rect t).emb (ix2 0 l) = (ix2 0 l : S1x128.Idx))).trans (hB l)

/-- Where a block of the tables sits. -/
theorem table_emb {i0 i1 t : ℕ} {e : S16384x128.Idx} {r : Fin 512} {l : Fin 128} (a0 : i0 = t) (a1 : i1 = 0) (h0 : (e 0).val = i0 * 512 + r.val)
    (h1 : (e 1).val = i1 * 128 + l.val) : (e 0).val = t * 512 + r.val ∧ (e 1).val = l.val := by
  subst a0 a1
  exact ⟨h0, by omega⟩

theorem covered (i : S16384x128.Idx) : ∃ (t : ℕ) (r : Fin 512) (l : Fin 128), t < 32 ∧ (i 0).val = t * 512 + r.val ∧ (i 1).val = l.val := by
  have h0 : (i 0).val < 16384 := (i 0).isLt
  exact ⟨(i 0).val / 512, ⟨(i 0).val % 512, Nat.mod_lt _ (by decide)⟩, i 1, by omega, (Nat.div_add_mod' _ _).symm, rfl⟩

include hP hF in
theorem final_cos : (dat0 V c).arrAt 4 cfg0.N = arr fun r l => Ideal.cos (P r * F l) := by
  have emb : ∀ (t : Fin cfg0.N) (r : Fin 512) (l : Fin 128), _ := fun t r l =>
    table_emb (r := r) (l := l) (index0 t).2.2.2.2.1.1 (index0 t).2.2.2.2.1.2 (win0_4.rect_emb_val t (ix2 r l) 0) (win0_4.rect_emb_val t (ix2 r l) 1)
  refine (dat0 V c).arrAt_eq_of_cover 4 _ (fun t _ => ?_) (fun i => ?_)
  · show (cfg0.win 4).cut (grid0.coords t) ((dat0 V c).after 4 t) = _
    rw [after0_4]
    unfold out0_4
    rw [View.canon_unit_zero zero2, View.ld_unit_zero (S := S512x1) zero2, View.ld_unit_zero (S := S1x128) zero2]
    funext y
    obtain ⟨r, l, rfl⟩ : ∃ (r : Fin 512) (l : Fin 128), y = ix2 r l := ⟨y 0, y 1, eq_ix2 y⟩
    obtain ⟨e0, e1⟩ := emb t r l
    refine (cos_at _ _ r l).trans ?_
    rw [pos0 V c hP, freq0 V c hF]
    show _ = Ideal.cos (P ((win0_4.rect t).emb (ix2 r l) 0).val * F ((win0_4.rect t).emb (ix2 r l) 1).val)
    rw [e0, e1]
  · obtain ⟨t, r, l, ht, h0, h1⟩ := covered i
    obtain ⟨e0, e1⟩ := emb ⟨t, ht⟩ r l
    have e : i = ((cfg0.win 4).blk ⟨t, ht⟩).view.emb (ix2 r l) := ext2 (h0.trans e0.symm) (h1.trans e1.symm)
    exact ⟨⟨t, ht⟩, flush0_4 _, e ▸ View.emb_mem_set _ _⟩

include hP hF hA in
theorem final_left : (dat0 V c).arrAt 5 cfg0.N = arr fun r l => Ideal.sin (P r * F l) * A l := by
  have emb : ∀ (t : Fin cfg0.N) (r : Fin 512) (l : Fin 128), _ := fun t r l =>
    table_emb (r := r) (l := l) (index0 t).2.2.2.2.2.1.1 (index0 t).2.2.2.2.2.1.2 (win0_5.rect_emb_val t (ix2 r l) 0) (win0_5.rect_emb_val t (ix2 r l) 1)
  refine (dat0 V c).arrAt_eq_of_cover 5 _ (fun t _ => ?_) (fun i => ?_)
  · show (cfg0.win 5).cut (grid0.coords t) ((dat0 V c).after 5 t) = _
    rw [after0_5]
    unfold out0_5
    rw [View.canon_unit_zero zero2, View.ld_unit_zero (S := S512x1) zero2, View.ld_unit_zero (S := S1x128) zero2, View.ld_unit_zero (S := S1x128) zero2]
    funext y
    obtain ⟨r, l, rfl⟩ : ∃ (r : Fin 512) (l : Fin 128), y = ix2 r l := ⟨y 0, y 1, eq_ix2 y⟩
    obtain ⟨e0, e1⟩ := emb t r l
    refine (sin_left _ _ _ r l).trans ?_
    rw [pos0 V c hP, freq0 V c hF, left0 V c hA]
    show _ = Ideal.sin (P ((win0_5.rect t).emb (ix2 r l) 0).val * F ((win0_5.rect t).emb (ix2 r l) 1).val) * A ((win0_5.rect t).emb (ix2 r l) 1).val
    rw [e0, e1]
  · obtain ⟨t, r, l, ht, h0, h1⟩ := covered i
    obtain ⟨e0, e1⟩ := emb ⟨t, ht⟩ r l
    have e : i = ((cfg0.win 5).blk ⟨t, ht⟩).view.emb (ix2 r l) := ext2 (h0.trans e0.symm) (h1.trans e1.symm)
    exact ⟨⟨t, ht⟩, flush0_5 _, e ▸ View.emb_mem_set _ _⟩

include hP hF hB in
theorem final_right : (dat0 V c).arrAt 6 cfg0.N = arr fun r l => Ideal.sin (P r * F l) * B l := by
  have emb : ∀ (t : Fin cfg0.N) (r : Fin 512) (l : Fin 128), _ := fun t r l =>
    table_emb (r := r) (l := l) (index0 t).2.2.2.2.2.2.1 (index0 t).2.2.2.2.2.2.2 (win0_6.rect_emb_val t (ix2 r l) 0) (win0_6.rect_emb_val t (ix2 r l) 1)
  refine (dat0 V c).arrAt_eq_of_cover 6 _ (fun t _ => ?_) (fun i => ?_)
  · show (cfg0.win 6).cut (grid0.coords t) ((dat0 V c).after 6 t) = _
    rw [after0_6]
    unfold out0_6
    rw [View.canon_unit_zero zero2, View.ld_unit_zero (S := S512x1) zero2, View.ld_unit_zero (S := S1x128) zero2, View.ld_unit_zero (S := S1x128) zero2]
    funext y
    obtain ⟨r, l, rfl⟩ : ∃ (r : Fin 512) (l : Fin 128), y = ix2 r l := ⟨y 0, y 1, eq_ix2 y⟩
    obtain ⟨e0, e1⟩ := emb t r l
    refine (sin_right _ _ _ r l).trans ?_
    rw [pos0 V c hP, freq0 V c hF, right0 V c hB]
    show _ = Ideal.sin (P ((win0_6.rect t).emb (ix2 r l) 0).val * F ((win0_6.rect t).emb (ix2 r l) 1).val) * B ((win0_6.rect t).emb (ix2 r l) 1).val
    rw [e0, e1]
  · obtain ⟨t, r, l, ht, h0, h1⟩ := covered i
    obtain ⟨e0, e1⟩ := emb ⟨t, ht⟩ r l
    have e : i = ((cfg0.win 6).blk ⟨t, ht⟩).view.emb (ix2 r l) := ext2 (h0.trans e0.symm) (h1.trans e1.symm)
    exact ⟨⟨t, ht⟩, flush0_6 _, e ▸ View.emb_mem_set _ _⟩

end

/-! ## The rotation -/

section

variable {x : Vec Ideal S256x1024 .f32} {u v w : Vec Ideal S256x128 .f32} {X C A B : ℕ → ℕ → EReal}
  (hx : ∀ (r : Fin 256) (k : Fin 1024), (x (ix2 r k) : EReal) = X r k) (hu : ∀ (r : Fin 256) (l : Fin 128), (u (ix2 r l) : EReal) = C r l)
  (hv : ∀ (r : Fin 256) (l : Fin 128), (v (ix2 r l) : EReal) = A r l) (hw : ∀ (r : Fin 256) (l : Fin 128), (w (ix2 r l) : EReal) = B r l)

/-- One row of all heads turned back. -/
def turned (X C A B : ℕ → ℕ → EReal) (r k : ℕ) : EReal := turn (fun l => X r (128 * (k / 128) + l)) (C r) (A r) (B r) (k % 128)

include hx hu hv hw in
theorem tile_turn (h : ℕ) (hh : h < 8) {off : Fin 2 → ℕ} (h0 : off 0 = 0) (h1 : off 1 = 128 * h) (inb)
    (p : Vec Ideal S256x128 .bf16)
    (hp : p = k1_pay2 (View.ld x (Rect.unit (s := S256x1024) off S256x128.size inb)) (View.ld u r1_1) (View.ld v r1_1) (View.ld w r1_1))
    (r : Fin 256) (k : Fin 1024) :
    View.TileAt (Val := Elt Ideal) (e := .bf16) (S := S256x1024) (ix2 r k) off S256x128.size p (turned X C A B r k : Elt Ideal .bf16) := by
  intro y hy
  obtain ⟨r', l, rfl⟩ : ∃ (r' : Fin 256) (l : Fin 128), y = ix2 r' l := ⟨y 0, y 1, eq_ix2 y⟩
  have e0 : r.val = off 0 + r'.val := hy 0
  have e1 : k.val = off 1 + l.val := hy 1
  obtain rfl : r' = r := Fin.ext (by omega)
  have hk : k.val / 128 = h := by have := l.isLt; omega
  have hl : k.val % 128 = l.val := by have := l.isLt; omega
  rw [hp]
  unfold turned
  rw [hk, hl]
  refine turn_at r' (fun l => ?_) (fun l => ?_) (fun l => ?_) (fun l => ?_) l
  · refine (congrArg x (ext2 ?_ ?_ : _ = (ix2 r' (⟨128 * h + l.val, by omega⟩ : Fin 1024) : S256x1024.Idx))).trans (hx _ _)
    · show off 0 + 1 * r'.val = r'.val; omega
    · show off 1 + 1 * l.val = 128 * h + l.val; omega
  · rw [show View.ld u r1_1 = u from View.ld_unit_zero (S := S256x128) zero2 _ _]; exact hu _ _
  · rw [show View.ld v r1_1 = v from View.ld_unit_zero (S := S256x128) zero2 _ _]; exact hv _ _
  · rw [show View.ld w r1_1 = w from View.ld_unit_zero (S := S256x128) zero2 _ _]; exact hw _ _

include hx hu hv hw in
theorem block_turned (r : Fin 256) (k : Fin 1024) : (out1_4 x u v w (ix2 r k) : EReal) = turned X C A B r k := by
  unfold out1_4
  refine View.canon_eq_of_allAt _ _ _ (cover1_4 _ _ _ _ _ _ _ _ _) ?_
  refine View.allAt_cons_unit _ _ _ _ _ (tile_turn hx hu hv hw 7 (by omega) rfl rfl _ _ (turn_eighth _ _ _ _) r k) ?_
  refine View.allAt_cons_unit _ _ _ _ _ (tile_turn hx hu hv hw 6 (by omega) rfl rfl _ _ (turn_seventh _ _ _ _) r k) ?_
  refine View.allAt_cons_unit _ _ _ _ _ (tile_turn hx hu hv hw 5 (by omega) rfl rfl _ _ (turn_sixth _ _ _ _) r k) ?_
  refine View.allAt_cons_unit _ _ _ _ _ (tile_turn hx hu hv hw 4 (by omega) rfl rfl _ _ (turn_fifth _ _ _ _) r k) ?_
  refine View.allAt_cons_unit _ _ _ _ _ (tile_turn hx hu hv hw 3 (by omega) rfl rfl _ _ (turn_fourth _ _ _ _) r k) ?_
  refine View.allAt_cons_unit _ _ _ _ _ (tile_turn hx hu hv hw 2 (by omega) rfl rfl _ _ (turn_third _ _ _ _) r k) ?_
  refine View.allAt_cons_unit _ _ _ _ _ (tile_turn hx hu hv hw 1 (by omega) rfl rfl _ _ (turn_second _ _ _ _) r k) ?_
  refine View.allAt_cons_unit _ _ _ _ _ (tile_turn hx hu hv hw 0 (by omega) rfl rfl _ _ rfl r k) ?_
  exact View.allAt_nil _ _

end

section

variable (V : (c : Dev nD) → (b : Ref sig .tc) → Buf (Elt Ideal) ((c : Thread nD τ).loc b)) (c : Dev nD)
variable {X C A B : ℕ → ℕ → EReal} (hX : ∀ (r : Fin 16384) (k : Fin 1024), (V c main_v27 (ix2 r k) : EReal) = X r k)
  (hC : ∀ (r : Fin 16384) (l : Fin 128), (V c main_v25_0 (ix2 r l) : EReal) = C r l)
  (hA : ∀ (r : Fin 16384) (l : Fin 128), (V c main_v25_1 (ix2 r l) : EReal) = A r l)
  (hB : ∀ (r : Fin 16384) (l : Fin 128), (V c main_v25_2 (ix2 r l) : EReal) = B r l)

include hX hC hA hB in
theorem final_turned : (dat1 V c).arrAt 4 cfg1.N = arr (turned X C A B) := by
  have emb : ∀ (t : Fin cfg1.N) (r : Fin 256) (k : Fin 1024), ((cfg1.win 4).blk t).view.emb (ix2 r k)
      = (ix2 (⟨t.val * 256 + r.val, by have : t.val < 64 := t.isLt; omega⟩ : Fin 16384) k : S16384x1024.Idx) := fun t r k => by
    obtain ⟨a0, a1⟩ := (index1 t).2.2.2.2
    exact ext2 ((win1_4.rect_emb_val t (ix2 r k) 0).trans (by rw [a0]; rfl)) ((win1_4.rect_emb_val t (ix2 r k) 1).trans (by rw [a1]; exact Nat.zero_add _))
  have row : ∀ (t : Fin cfg1.N) (r : Fin 256), t.val * 256 + r.val < 16384 := fun t r => by have : t.val < 64 := t.isLt; omega
  refine (dat1 V c).arrAt_eq_of_cover 4 _ (fun t _ => ?_) (fun i => ?_)
  · show (cfg1.win 4).cut (grid1.coords t) ((dat1 V c).after 4 t) = _
    rw [after1_4]
    funext y
    obtain ⟨r, k, rfl⟩ : ∃ (r : Fin 256) (k : Fin 1024), y = ix2 r k := ⟨y 0, y 1, eq_ix2 y⟩
    obtain ⟨⟨a0, a1⟩, ⟨b0, b1⟩, ⟨c0, c1⟩, ⟨d0, d1⟩, -⟩ := index1 t
    refine (block_turned (X := fun r k => X (t.val * 256 + r) k) (C := fun r k => C (t.val * 256 + r) k) (A := fun r k => A (t.val * 256 + r) k)
      (B := fun r k => B (t.val * 256 + r) k) (fun r k => ?_) (fun r l => ?_) (fun r l => ?_) (fun r l => ?_) r k).trans ?_
    · exact (congrArg (V c main_v27) (ext2 ((win1_0.rect_emb_val t (ix2 r k) 0).trans (by rw [a0]; rfl)) ((win1_0.rect_emb_val t (ix2 r k) 1).trans (by rw [a1]; exact Nat.zero_add _)) :
        (win1_0.rect t).emb (ix2 r k) = (ix2 (⟨t.val * 256 + r.val, row t r⟩ : Fin 16384) k : S16384x1024.Idx))).trans (hX _ _)
    · exact (congrArg (V c main_v25_0) (ext2 ((win1_1.rect_emb_val t (ix2 r l) 0).trans (by rw [b0]; rfl)) ((win1_1.rect_emb_val t (ix2 r l) 1).trans (by rw [b1]; exact Nat.zero_add _)) :
        (win1_1.rect t).emb (ix2 r l) = (ix2 (⟨t.val * 256 + r.val, row t r⟩ : Fin 16384) l : S16384x128.Idx))).trans (hC _ _)
    · exact (congrArg (V c main_v25_1) (ext2 ((win1_2.rect_emb_val t (ix2 r l) 0).trans (by rw [c0]; rfl)) ((win1_2.rect_emb_val t (ix2 r l) 1).trans (by rw [c1]; exact Nat.zero_add _)) :
        (win1_2.rect t).emb (ix2 r l) = (ix2 (⟨t.val * 256 + r.val, row t r⟩ : Fin 16384) l : S16384x128.Idx))).trans (hA _ _)
    · exact (congrArg (V c main_v25_2) (ext2 ((win1_3.rect_emb_val t (ix2 r l) 0).trans (by rw [d0]; rfl)) ((win1_3.rect_emb_val t (ix2 r l) 1).trans (by rw [d1]; exact Nat.zero_add _)) :
        (win1_3.rect t).emb (ix2 r l) = (ix2 (⟨t.val * 256 + r.val, row t r⟩ : Fin 16384) l : S16384x128.Idx))).trans (hB _ _)
    · exact (congrArg (arr (turned X C A B)) (emb t r k)).symm
  · obtain ⟨r, k, rfl⟩ : ∃ (r : Fin 16384) (k : Fin 1024), i = ix2 r k := ⟨i 0, i 1, eq_ix2 i⟩
    have hr := r.isLt
    have ht : r.val / 256 < 64 := by omega
    have e : ix2 r k = ((cfg1.win 4).blk ⟨r.val / 256, ht⟩).view.emb (ix2 (⟨r.val % 256, Nat.mod_lt _ (by decide)⟩ : Fin 256) k) :=
      Eq.trans (congrArg (fun q : Fin 16384 => (ix2 q k : S16384x1024.Idx)) (Fin.ext (Nat.div_add_mod' r.val 256).symm)) (emb ⟨r.val / 256, ht⟩ ⟨r.val % 256, Nat.mod_lt _ (by decide)⟩ k).symm
    exact ⟨⟨r.val / 256, ht⟩, flush1_4 _, e ▸ View.emb_mem_set _ _⟩

end

end Cert.Unrope

end
-- ==== Proof.Unrope.Final.lean ====
module

public import proofs.«01_k».proof.Proof.Unrope.Arrays

/-! The unrotated gradient as the run leaves it. -/

@[expose] public section

set_option maxRecDepth 16384

noncomputable section

namespace Cert.Unrope

open Cert.UnropeKernelIdeal Cert.UnropeKernelIdeal.Gen Cert.Tools
open Idealize.ShloMosaic Idealize.ShloMosaic.TcCoe Idealize.ShloMosaic.Tactic Idealize.SL.Sem

/-- The sixteen frequencies, as both programs compute them. -/
def freqs : S16.Idx → EReal :=
  Host.powf (F := Ideal) (φ := .f32) (broadcastInDim S16 ![] bcast_S_S16 (constant (F := Ideal) S_ .f32 0x461C4000#32))
    (Host.divf (F := Ideal) (φ := .f32) (Host.negf (F := Ideal) (φ := .f32) (addf (F := Ideal) (φ := .f32) (broadcastInDim S16 ![] bcast_S_S16 (constant (F := Ideal) S_ .f32 0x00000000#32))
      (mulf (F := Ideal) (φ := .f32) (broadcastInDim S16 ![] bcast_S_S16 (constant (F := Ideal) S_ .f32 0x40000000#32)) (sitofp (F := Ideal) .f32 (iotaInDim S16 32 0)))))
      (broadcastInDim S16 ![] bcast_S_S16 (constant (F := Ideal) S_ .f32 0x42000000#32)))

def zeros (n : ℕ) (h : S_.BroadcastsInDim (⟨1, ![n]⟩ : Shape) ![]) : (⟨1, ![n]⟩ : Shape).Idx → EReal := broadcastInDim (α := EReal) ⟨1, ![n]⟩ ![] h (constant (F := Ideal) S_ .f32 0x00000000#32)
def ones : S16.Idx → EReal := broadcastInDim (α := EReal) S16 ![] bcast_S_S16 (constant (F := Ideal) S_ .f32 0x3F800000#32)

/-- The row of frequencies over the head's columns. -/
def packF (f : S16.Idx → EReal) : S1x128.Idx → EReal :=
  shapeCast S1x128 (concatenate S128 0 [⟨S64, zeros 64 bcast_S_S64⟩, ⟨S16, f⟩, ⟨S16, f⟩, ⟨S32, zeros 32 bcast_S_S32⟩] concatenates_S64_S16_S16_S32_S128_d0) shapeCasts_S128_S1x128

/-- The rows of the sine's signs. -/
def packA : S1x128.Idx → EReal :=
  shapeCast S1x128 (concatenate S128 0 [⟨S64, zeros 64 bcast_S_S64⟩, ⟨S16, Host.negf (F := Ideal) (φ := .f32) ones⟩, ⟨S48, zeros 48 bcast_S_S48⟩] concatenates_S64_S16_S48_S128_d0) shapeCasts_S128_S1x128
def packB : S1x128.Idx → EReal :=
  shapeCast S1x128 (concatenate S128 0 [⟨S80, zeros 80 bcast_S_S80⟩, ⟨S16, ones⟩, ⟨S32, zeros 32 bcast_S_S32⟩] concatenates_S80_S16_S32_S128_d0) shapeCasts_S128_S1x128

def packX (q : S16384x8x96.Idx → EReal) : S16384x1024.Idx → EReal :=
  shapeCast S16384x1024 (pad S16384x8x128 ![0, 0, 0] ![0, 0, 32] ![0, 0, 0] q (sitofp (F := Ideal) .f32 (constantI S_ 32 0#32)) pads_S16384x8x96_S16384x8x128_000_000_0320 h_S_)
    shapeCasts_S16384x8x128_S16384x1024

/-- The heads' first 96 columns. -/
def unpack (a : S16384x1024.Idx → EReal) : S16384x768.Idx → EReal :=
  shapeCast S16384x768 (extractStridedSlice S16384x8x96 ![0, 0, 0] (shapeCast S16384x8x128 a shapeCasts_S16384x1024_S16384x8x128) slices_S16384x8x128_S16384x8x96_0_0_0)
    shapeCasts_S16384x8x96_S16384x768

variable (m : (ℓ : Loc nD τ sig) → Buf (Elt Ideal) ℓ) (ρ : Dev nD → PrngReg) (c : Dev nD)

abbrev argP : S16384.Idx → BitVec 32 := m ((c : Thread nD τ).loc main_arg0)
abbrev argQ : S16384x8x96.Idx → EReal := m ((c : Thread nD τ).loc main_arg1)

theorem W1_freq : W1 m ρ c (Proc.devRef .tc main_v14) = packF freqs := by
  simp only [W1, hostOps0]; after_reads_simp; rfl

theorem W1_left : W1 m ρ c (Proc.devRef .tc main_v19) = packA := by
  simp only [W1, hostOps0]; after_reads_simp; rfl

theorem W1_right : W1 m ρ c (Proc.devRef .tc main_v23) = packB := by
  simp only [W1, hostOps0]; after_reads_simp; rfl

theorem W1_pos : W1 m ρ c (Proc.devRef .tc main_v24) = shapeCast S16384x1 (argP m c) shapeCasts_S16384_S16384x1 := by
  simp only [W1, hostOps0]; after_reads_simp; rfl

theorem W4_pad : W5 m ρ c (Proc.devRef .tc main_v27) = packX (argQ m c) := by
  simp only [W5, W4, W3, hostOps1, hostOps1_1, hostOps1_2]; after_reads_simp
  (try simp -implicitDefEqProofs only [StableHlo.TRef.toBuf, StableHlo.TRef.ofBuf, cast_cast, cast_eq])
  exact congrArg packX (W2_args m ρ c main_arg1 (by decide))

theorem W7_out : W7 m ρ c (Proc.devRef .tc main_v31) = unpack (W6 m ρ c (Proc.devRef .tc main_v28)) := by
  simp only [W7, hostOps2]; after_reads_simp; rfl

/-! The rows at an element. -/

/-- Frequency `j`. -/
def freq (j : ℕ) : EReal := if h : j < 16 then freqs (ix1 ⟨j, h⟩) else 0
theorem freq_at {j : ℕ} (h : j < 16) : freqs (ix1 ⟨j, h⟩) = freq j := by unfold freq; rw [dif_pos h]

def rowF (l : ℕ) : EReal := if l < 64 then 0 else if l < 80 then freq (l - 64) else if l < 96 then freq (l - 80) else 0
def rowA (l : ℕ) : EReal := if l < 64 then 0 else if l < 80 then -1 else 0
def rowB (l : ℕ) : EReal := if l < 80 then 0 else if l < 96 then 1 else 0

theorem packF_at (l : Fin 128) : packF freqs (ix2 0 l) = rowF l := by
  pointwise [packF, zeros]
  unfold rowF
  by_cases h1 : l.val < 64
  · rw [dif_pos h1, if_pos h1]
  rw [dif_neg h1, if_neg h1]
  by_cases h2 : l.val < 80
  · rw [dif_pos (show l.val - 64 < 16 by omega), if_pos h2, freq_at]
  rw [dif_neg (show ¬ l.val - 64 < 16 by omega), if_neg h2]
  by_cases h3 : l.val < 96
  · rw [dif_pos (show l.val - 64 - 16 < 16 by omega), if_pos h3, freq_at]
    exact congrArg freq (by omega)
  · rw [dif_neg (show ¬ l.val - 64 - 16 < 16 by omega), if_neg h3]

theorem packA_at (l : Fin 128) : packA (ix2 0 l) = rowA l := by
  pointwise [packA, zeros, ones]
  unfold rowA
  by_cases h1 : l.val < 64
  · rw [dif_pos h1, if_pos h1]
  rw [dif_neg h1, if_neg h1]
  by_cases h2 : l.val < 80
  · rw [dif_pos (show l.val - 64 < 16 by omega), if_pos h2]
  · rw [dif_neg (show ¬ l.val - 64 < 16 by omega), if_neg h2]

theorem packB_at (l : Fin 128) : packB (ix2 0 l) = rowB l := by
  pointwise [packB, zeros, ones]
  unfold rowB
  by_cases h1 : l.val < 80
  · rw [dif_pos h1, if_pos h1]
  rw [dif_neg h1, if_neg h1]
  by_cases h2 : l.val < 96
  · rw [dif_pos (show l.val - 80 < 16 by omega), if_pos h2]
  · rw [dif_neg (show ¬ l.val - 80 < 16 by omega), if_neg h2]

/-- Column `l` of head `h` in row `r` of the gradient, zero outside of it. -/
def entry (q : S16384x8x96.Idx → EReal) (r h l : ℕ) : EReal := if hh : r < 16384 ∧ h < 8 ∧ l < 96 then q (ix3 ⟨r, hh.1⟩ ⟨h, hh.2.1⟩ ⟨l, hh.2.2⟩) else 0

theorem packX_at (q : S16384x8x96.Idx → EReal) (r : Fin 16384) (k : Fin 1024) : packX q (ix2 r k) = entry q r (k.val / 128) (k.val % 128) := by
  pointwise [packX]
  unfold entry
  by_cases h : k.val / 128 < 8 ∧ k.val % 128 < 96
  · rw [dif_pos h, dif_pos ⟨r.isLt, h⟩]
  · rw [dif_neg h, dif_neg fun hh => h hh.2]
    simp [FloatOps.sitofp]

theorem unpack_at (f : ℕ → ℕ → EReal) (r : Fin 16384) (k : Fin 768) : unpack (arr f) (ix2 r k) = f r (k.val / 96 * 128 + k.val % 96) := by
  pointwise [unpack]
  rfl

/-! ## One row of one head -/

/-- The row `x` of a head turned back by the position `p`, as the mathematics has it. -/
def back (p : EReal) (x : ℕ → EReal) (l : ℕ) : EReal :=
  if l < 64 then x l * scale
  else if l < 80 then (x l * Ideal.cos (p * freq (l - 64)) + x (l + 16) * Ideal.sin (p * freq (l - 64))) * scale
  else (x l * Ideal.cos (p * freq (l - 80)) + -(x (l - 16) * Ideal.sin (p * freq (l - 80)))) * scale

theorem turn_back (p : EReal) (x : ℕ → EReal) {l : ℕ} (hl : l < 96) :
    turn x (fun l => Ideal.cos (p * rowF l)) (fun l => Ideal.sin (p * rowF l) * rowA l) (fun l => Ideal.sin (p * rowF l) * rowB l) l = back p x l := by
  unfold turn back
  dsimp only
  by_cases h1 : l < 64
  · have e : rowF l = 0 := by unfold rowF; rw [if_pos h1]
    have a : rowA ((l + 112) % 128) = 0 := by unfold rowA; split_ifs <;> first | rfl | omega
    have b : rowB ((l + 16) % 128) = 0 := by unfold rowB; split_ifs <;> first | rfl | omega
    have o : Ideal.cos 0 = 1 := by rw [← EReal.coe_zero, Ideal.cos_coe, Real.cos_zero]; rfl
    rw [e, a, b, if_pos h1, mul_zero, mul_zero, mul_zero, mul_zero, mul_zero, o, mul_one, add_zero, add_zero]
  rw [if_neg h1]
  by_cases h2 : l < 80
  · have e : rowF l = freq (l - 64) := by unfold rowF; rw [if_neg h1, if_pos h2]
    have a : rowA ((l + 112) % 128) = 0 := by unfold rowA; split_ifs <;> first | rfl | omega
    have s : (l + 16) % 128 = l + 16 := by omega
    have e' : rowF (l + 16) = freq (l - 64) := by
      unfold rowF; rw [if_neg (by omega), if_neg (by omega), if_pos (by omega)]; exact congrArg freq (by omega)
    have b : rowB (l + 16) = 1 := by unfold rowB; rw [if_neg (by omega), if_pos (by omega)]
    rw [a, s, e, e', b, if_pos h2, mul_zero, mul_zero, mul_one, add_zero]
  · have e : rowF l = freq (l - 80) := by unfold rowF; rw [if_neg h1, if_neg h2, if_pos hl]
    have b : rowB ((l + 16) % 128) = 0 := by unfold rowB; split_ifs <;> first | rfl | omega
    have s : (l + 112) % 128 = l - 16 := by omega
    have e' : rowF (l - 16) = freq (l - 80) := by
      unfold rowF; rw [if_neg (by omega), if_pos (by omega)]; exact congrArg freq (by omega)
    have a : rowA (l - 16) = -1 := by unfold rowA; rw [if_neg (by omega), if_pos (by omega)]
    rw [b, s, e, e', a, if_neg h2, mul_zero, mul_zero, add_zero, mul_neg, mul_one, mul_neg]

/-! ## The result -/

/-- A position as a real number. -/
def posOf (p : S16384.Idx → BitVec 32) (r : ℕ) : EReal := if h : r < 16384 then FloatOps.sitofp (F := Ideal) .f32 (p (ix1 ⟨r, h⟩)) else 0

def res (p : S16384.Idx → BitVec 32) (q : S16384x8x96.Idx → EReal) : S16384x768.Idx → EReal := fun i =>
  back (posOf p (i 0).val) (entry q (i 0).val ((i 1).val / 96)) ((i 1).val % 96)

theorem entry_pos (r : Fin 16384) : (FloatOps.sitofp (F := Ideal) .f32 (V1 m ρ c main_v24 (ix2 r 0)) : EReal) = posOf (argP m c) r := by
  have h : V1 m ρ c main_v24 (ix2 r 0) = argP m c (ix1 r) := by
    refine (congrFun (W1_pos m ρ c) _).trans ?_
    generalize argP m c = p
    pointwise []
  rw [h]
  unfold posOf
  rw [dif_pos r.isLt]

theorem entry_freq (l : Fin 128) : (V1 m ρ c main_v14 (ix2 0 l) : EReal) = rowF l := (congrFun (W1_freq m ρ c) _).trans (packF_at l)
theorem entry_left (l : Fin 128) : (V1 m ρ c main_v19 (ix2 0 l) : EReal) = rowA l := (congrFun (W1_left m ρ c) _).trans (packA_at l)
theorem entry_right (l : Fin 128) : (V1 m ρ c main_v23 (ix2 0 l) : EReal) = rowB l := (congrFun (W1_right m ρ c) _).trans (packB_at l)

theorem kept (r : Ref sig .tc) (h5 : r ∉ hostOps1_2_W) (h4 : r ∉ hostOps1_1_W) (h3 : r ∉ hostOps1_W) :
    W5 m ρ c (Proc.devRef .tc r) = W2 m ρ c (Proc.devRef .tc r) :=
  (W5_of m ρ c r h5).trans ((W4_of m ρ c r h4).trans (W3_of m ρ c r h3))

theorem later_cos (r : Fin 16384) (l : Fin 128) : (V5 m ρ c main_v25_0 (ix2 r l) : EReal) = Ideal.cos (posOf (argP m c) r * rowF l) := by
  show (W5 m ρ c (Proc.devRef .tc main_v25_0) (ix2 r l) : EReal) = _
  rw [kept m ρ c main_v25_0 (by decide) (by decide) (by decide), W2_arr m ρ c 4, final_cos (V1 m ρ) c (entry_pos m ρ c) (entry_freq m ρ c)]
  rfl

theorem later_left (r : Fin 16384) (l : Fin 128) : (V5 m ρ c main_v25_1 (ix2 r l) : EReal) = Ideal.sin (posOf (argP m c) r * rowF l) * rowA l := by
  show (W5 m ρ c (Proc.devRef .tc main_v25_1) (ix2 r l) : EReal) = _
  rw [kept m ρ c main_v25_1 (by decide) (by decide) (by decide), W2_arr m ρ c 5, final_left (V1 m ρ) c (entry_pos m ρ c) (entry_freq m ρ c) (entry_left m ρ c)]
  rfl

theorem later_right (r : Fin 16384) (l : Fin 128) : (V5 m ρ c main_v25_2 (ix2 r l) : EReal) = Ideal.sin (posOf (argP m c) r * rowF l) * rowB l := by
  show (W5 m ρ c (Proc.devRef .tc main_v25_2) (ix2 r l) : EReal) = _
  rw [kept m ρ c main_v25_2 (by decide) (by decide) (by decide), W2_arr m ρ c 6, final_right (V1 m ρ) c (entry_pos m ρ c) (entry_freq m ρ c) (entry_right m ρ c)]
  rfl

theorem later_rows (r : Fin 16384) (k : Fin 1024) : (V5 m ρ c main_v27 (ix2 r k) : EReal) = entry (argQ m c) r (k.val / 128) (k.val % 128) :=
  (congrFun (W4_pad m ρ c) _).trans (packX_at _ r k)

theorem final_31 : W7 m ρ c (Proc.devRef .tc main_v31) = res (argP m c) (argQ m c) := by
  rw [W7_out, W6_arr m ρ c 4, final_turned (V5 m ρ) c (X := fun r k => entry (argQ m c) r (k / 128) (k % 128))
    (C := fun r l => Ideal.cos (posOf (argP m c) r * rowF l)) (A := fun r l => Ideal.sin (posOf (argP m c) r * rowF l) * rowA l)
    (B := fun r l => Ideal.sin (posOf (argP m c) r * rowF l) * rowB l) (later_rows m ρ c) (later_cos m ρ c) (later_left m ρ c) (later_right m ρ c)]
  funext i
  obtain ⟨r, k, rfl⟩ : ∃ (r : Fin 16384) (k : Fin 768), i = ix2 r k := ⟨i 0, i 1, eq_ix2 i⟩
  refine (unpack_at _ r k).trans ?_
  have hk : k.val % 96 < 96 := Nat.mod_lt _ (by decide)
  have e1 : (k.val / 96 * 128 + k.val % 96) / 128 = k.val / 96 := by omega
  have e2 : (k.val / 96 * 128 + k.val % 96) % 128 = k.val % 96 := by omega
  unfold turned
  rw [e1, e2]
  refine Eq.trans ?_ (turn_back (posOf (argP m c) r) (entry (argQ m c) r (k.val / 96)) hk)
  unfold turn
  have s : ∀ l, l < 128 → entry (argQ m c) r ((128 * (k.val / 96) + l) / 128) ((128 * (k.val / 96) + l) % 128) = entry (argQ m c) r (k.val / 96) l := fun l hl => by
    rw [show (128 * (k.val / 96) + l) / 128 = k.val / 96 by omega, show (128 * (k.val / 96) + l) % 128 = l by omega]
  dsimp only
  rw [s _ (by omega), s _ (by omega), s _ (by omega)]
  rfl

end Cert.Unrope

end
-- ==== Proof.Unrope.Reference.lean ====
module

public import proofs.«01_k».proof.Proof.Gen.UnropeReferenceIdeal.Read
public import proofs.«01_k».proof.Proof.Unrope.Final

/-! The reference of the unrotation at an element. -/

@[expose] public section

set_option maxRecDepth 16384

noncomputable section

namespace Cert.Unrope

open Cert.UnropeReferenceIdeal Cert.UnropeReferenceIdeal.Read Cert.Tools
open Idealize.ShloMosaic

theorem freqs_ref : (val_main_v10 (F := Ideal) : S16.Idx → EReal) = freqs := rfl

/-- The scale is a positive real, so it may be taken into a sum. -/
theorem scale_distrib (a b : EReal) : (a + b) * scale = a * scale + b * scale := by
  have h : scale = ((13698540 / 134217728 : ℝ) : EReal) := by
    unfold scale
    simp [Ideal.ofBits, Ideal.ieee]
    rw [← EReal.coe_mul]; norm_num
  rw [h]
  exact EReal.right_distrib_of_nonneg_of_ne_top (EReal.coe_nonneg.mpr (by norm_num)) (EReal.coe_ne_top _) a b

section

variable (p : (⟨S16384, .i32⟩ : BufTy).Contents (Elt Ideal)) (q : (⟨S16384x8x96, .f32⟩ : BufTy).Contents (Elt Ideal)) (r : Fin 16384) (h : Fin 8)

theorem angle_ref (j : Fin 16) : (val_main_v16 (F := Ideal) p (ix2 r j) : EReal) = posOf p r * freq j := by
  pointwise [val_main_v16, val_main_v15, val_main_v14, val_main_v13, val_main_v12, val_main_v11]
  rw [freqs_ref, freq_at]
  unfold posOf
  rw [dif_pos r.isLt]

theorem cos_ref (j : Fin 16) : (val_main_v21 (F := Ideal) p (ix3 r 0 j) : EReal) = Ideal.cos (posOf p r * freq j) := by
  pointwise [val_main_v21, val_main_v17]
  rw [angle_ref]

theorem sin_ref (j : Fin 16) : (val_main_v22 (F := Ideal) p (ix3 r 0 j) : EReal) = Ideal.sin (posOf p r * freq j) := by
  pointwise [val_main_v22, val_main_v18]
  rw [angle_ref]

theorem scaled_ref (l : ℕ) (hl : l < 96) : (val_main_v41 (F := Ideal) q (ix3 r h ⟨l, hl⟩) : EReal) = entry q r h l * scale := by
  pointwise [val_main_v41, val_main_v40, val_main_cst_5]
  unfold entry
  rw [dif_pos ⟨r.isLt, h.isLt, hl⟩]
  rfl

theorem first_ref (j : Fin 16) : (val_main_v57 (F := Ideal) p q (ix3 r h j) : EReal)
    = (entry q r h (64 + j) * Ideal.cos (posOf p r * freq j) + entry q r h (64 + (16 + j)) * Ideal.sin (posOf p r * freq j)) * scale := by
  pointwise [val_main_v57, val_main_v56, val_main_v55, val_main_v50, val_main_v49, val_main_v45, val_main_v46, val_main_v43]
  rw [scaled_ref, scaled_ref, cos_ref, sin_ref, scale_distrib, add_comm]
  exact congrArg₂ _ (mul_right_comm _ _ _) (mul_right_comm _ _ _)

theorem second_ref (j : Fin 16) : (val_main_v54 (F := Ideal) p q (ix3 r h j) : EReal)
    = (entry q r h (64 + (16 + j)) * Ideal.cos (posOf p r * freq j) + -(entry q r h (64 + j) * Ideal.sin (posOf p r * freq j))) * scale := by
  pointwise [val_main_v54, val_main_v53, val_main_v52, val_main_v51, val_main_v48, val_main_v47, val_main_v45, val_main_v46, val_main_v43]
  rw [scaled_ref, scaled_ref, cos_ref, sin_ref, scale_distrib, neg_mul, neg_mul]
  exact congrArg₂ _ (mul_right_comm _ _ _) (congrArg _ (mul_right_comm _ _ _))

theorem plain_ref (l : ℕ) (hl : l < 96) (h1 : l < 64) : (val_main_v60 (F := Ideal) p q (ix3 r h ⟨l, hl⟩) : EReal) = entry q r h l * scale := by
  pointwise [val_main_v60, val_main_v59, val_main_v58, val_main_v44, val_main_v42, val_main_cst_6, val_main_cst_7]
  have h2 : ¬ (64 ≤ l ∧ l - 64 < 32) := by omega
  simp only [h1, h2, dite_true, dite_false, add_zero]
  exact scaled_ref q r h l hl

theorem first_out (l : ℕ) (hl : l < 96) (h1 : 64 ≤ l) (h3 : l < 80) : (val_main_v60 (F := Ideal) p q (ix3 r h ⟨l, hl⟩) : EReal)
    = (entry q r h l * Ideal.cos (posOf p r * freq (l - 64)) + entry q r h (l + 16) * Ideal.sin (posOf p r * freq (l - 64))) * scale := by
  pointwise [val_main_v60, val_main_v59, val_main_v58, val_main_v44, val_main_v42, val_main_cst_6, val_main_cst_7]
  have h2 : 64 ≤ l ∧ l - 64 < 32 := by omega
  have h4 : ¬ l < 64 := by omega
  have h5 : l - 64 < 16 := by omega
  simp only [h2, h4, h5, and_self, dite_true, dite_false, zero_add]
  rw [first_ref]
  dsimp only
  rw [show 64 + (l - 64) = l by omega, show 64 + (16 + (l - 64)) = l + 16 by omega]

theorem second_out (l : ℕ) (hl : l < 96) (h1 : 80 ≤ l) : (val_main_v60 (F := Ideal) p q (ix3 r h ⟨l, hl⟩) : EReal)
    = (entry q r h l * Ideal.cos (posOf p r * freq (l - 80)) + -(entry q r h (l - 16) * Ideal.sin (posOf p r * freq (l - 80)))) * scale := by
  pointwise [val_main_v60, val_main_v59, val_main_v58, val_main_v44, val_main_v42, val_main_cst_6, val_main_cst_7]
  have h2 : 64 ≤ l ∧ l - 64 < 32 := by omega
  have h4 : ¬ l < 64 := by omega
  have h5 : ¬ l - 64 < 16 := by omega
  simp only [h2, h4, h5, and_self, dite_true, dite_false, zero_add]
  rw [second_ref]
  dsimp only
  rw [show 64 + (16 + (l - 64 - 16)) = l by omega, show 64 + (l - 64 - 16) = l - 16 by omega, show l - 64 - 16 = l - 80 by omega]

theorem out_ref (k : Fin 768) : (val_main_v62 (F := Ideal) p q (ix2 r k) : EReal) = res p q (ix2 r k) := by
  pointwise [val_main_v62, val_main_v61]
  have hk := k.isLt
  show _ = back (posOf p r) (entry q r (k.val / 96)) (k.val % 96)
  unfold back
  by_cases h1 : k.val % 96 < 64
  · rw [if_pos h1]
    exact plain_ref p q r ⟨k.val / 96, by omega⟩ _ _ h1
  rw [if_neg h1]
  by_cases h2 : k.val % 96 < 80
  · rw [if_pos h2]
    exact first_out p q r ⟨k.val / 96, by omega⟩ _ _ (by omega) h2
  · rw [if_neg h2]
    exact second_out p q r ⟨k.val / 96, by omega⟩ _ _ (by omega)

end

end Cert.Unrope

end
-- ==== Proof.Unrope.Claims.lean ====
module

public import proofs.«01_k».proof.Defs
public import proofs.«01_k».proof.Proof.Unrope.Reference
public import proofs.«01_k».proof.Proof.Gen.UnropeKernel.Frame

/-! The claims about the unrotation of the queries' gradient. -/

@[expose] public section

set_option maxRecDepth 16384

noncomputable section

namespace Cert.Unrope

open Idealize.ShloMosaic Idealize.ShloMosaic.TcCoe Idealize.SL.Sem

theorem frame_kernel : Cert.quiescent_UnropeKernel := fun m ρ _ => Cert.UnropeKernel.Gen.frame m ρ

theorem frame_kernelIdeal : Cert.quiescent_UnropeKernelIdeal := fun m ρ _ => Cert.UnropeKernelIdeal.Gen.frame m ρ

theorem frame_reference : Cert.quiescent_UnropeReferenceIdeal := fun m ρ _ =>
  (θ_run _ _ _).mono (fun r h => ⟨fun c => (h c).2, sem_eq_zero_of_no_sems (sig := Cert.UnropeReferenceIdeal.sig) (by decide) r.2⟩) (Cert.UnropeReferenceIdeal.Value.run m ρ)

theorem algebraic : Cert.algebraic_UnropeKernelIdeal_UnropeReferenceIdeal := fun m ρ m' ρ' _ hm =>
  ⟨fun c => res (argP m c) (argQ m c),
    (θ_run _ _ _).mono (fun r h c => ⟨(h c).1.trans (final_31 m ρ c), (h c).2⟩) (run_main m ρ),
    (θ_run _ _ _).mono (fun r h c => by
        obtain ⟨h0, h1⟩ := hm c
        refine ⟨(h c).1.trans ?_, (h c).2⟩
        rw [Cert.UnropeReferenceIdeal.Read.val_main_v62_eq, h0, h1]
        funext i
        obtain ⟨k, l, rfl⟩ : ∃ (k : Fin 16384) (l : Fin 768), i = ix2 k l := ⟨i 0, i 1, eq_ix2 i⟩
        exact out_ref _ _ k l)
      (Cert.UnropeReferenceIdeal.Value.run m' ρ')⟩

end Cert.Unrope

end
-- ==== Proof.GateUp.Run.lean ====
module

public import proofs.«01_k».proof.Proof.Gen.GateUpKernelIdeal.Frame

/-! The gate's gradient: what a run leaves in every buffer outside the kernels' own, and so in the results. -/

@[expose] public section

set_option maxRecDepth 16384

noncomputable section

namespace Cert.GateUp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation cellOf)
open Cert.GateUpKernelIdeal Cert.GateUpKernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends with the buffers outside the kernels' own at the contents that the stretches of @main leave. -/
theorem run : θ_run defs (onTc (τ := τ) (main (F := F))) ⟨m, fun _ => 0, ρ⟩ (fun r =>
      ∀ c : Dev nD, ∀ b ∈ Pipeline.ucRefs τ sig, r.2.mem (((c : Thread nD τ)).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => h)

/-- The same, of the results and the arguments. -/
theorem run_main : θ_run defs (onTc (τ := τ) (main (F := F))) ⟨m, fun _ => 0, ρ⟩ (fun r => ∀ c : Dev nD,
      r.2.mem ((c.tc : Thread nD τ).loc main_v13) = W5 m ρ c (Proc.devRef .tc main_v13)
      ∧ r.2.mem ((c.tc : Thread nD τ).loc main_v15) = W5 m ρ c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run _ _ _).mono (fun _ h c =>
    ⟨h c _ (mem_uc main_v13 (by decide)), h c _ (mem_uc main_v15 (by decide)), (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c)⟩) (run m ρ)

end Cert.GateUp

end
-- ==== Proof.GateUp.Block.lean ====
module

public import proofs.«01_k».proof.Proof.Gen.GateUpKernelIdeal.Skeleton
public import proofs.«01_k».proof.Proof.Tools.Real

/-! The gate and its gradient, one block of 1024 rows and 704 columns at a time. -/

@[expose] public section

set_option maxRecDepth 16384

noncomputable section

namespace Cert.GateUp

open Cert.GateUpKernelIdeal Cert.GateUpKernelIdeal.Gen Cert.Tools
open Idealize.ShloMosaic Idealize.ShloMosaic.TcCoe Idealize.SL.Sem

/-- The logistic function. -/
def logistic (a : ℝ) : ℝ := 1 / (1 + Real.exp (-a))

theorem logistic_eq (a : ℝ) : Ideal.div ((1 : ℝ) : EReal) ((1 + Real.exp (-a) : ℝ) : EReal) = (logistic a : EReal) := by
  rw [Ideal.div_coe (by positivity), ← EReal.coe_mul, one_mul]; rfl

/-- The derivative of `a * logistic a * u` by `a`, and by `u`. -/
def byGate (a u : ℝ) : ℝ := u * (logistic a * (1 + a * (1 - logistic a)))
def byUp (a : ℝ) : ℝ := a * logistic a

/-- Row `r` of one matrix times column `l` of another. -/
def product (n : ℕ) (X W : ℕ → ℕ → ℝ) (r l : ℕ) : ℝ := ∑ k : Fin n, X r k * W k l

section

variable {X G U : ℕ → ℕ → ℝ} {x0 : Vec Ideal S1024x1024 .bf16} {x1 x2 : Vec Ideal S1x1024x704 .bf16} {p q : ℕ}
  (hX : ∀ (r : Fin 1024) (k : Fin 1024), (x0 (ix2 r k) : EReal) = (X (p + r) k : EReal))
  (hG : ∀ (z : Fin 1) (k : Fin 1024) (j : Fin 704), (x1 (ix3 z k j) : EReal) = (G k (q + j) : EReal))
  (hU : ∀ (z : Fin 1) (k : Fin 1024) (j : Fin 704), (x2 (ix3 z k j) : EReal) = (U k (q + j) : EReal))

include hX hG in
theorem gate_block (r : Fin 1024) (j : Fin 704) : (k0_pay3 x0 x1 (ix2 r j) : EReal) = (product 1024 X G (p + r) (q + j) : EReal) := by
  pointwise [k0_pay3, k0_pay2]
  simp only [hX, hG, ← EReal.coe_mul, coe_sum]
  rfl

include hX hG in
theorem logistic_block (r : Fin 1024) (j : Fin 704) : (k0_pay5 x0 x1 (ix2 r j) : EReal) = (logistic (product 1024 X G (p + r) (q + j)) : EReal) := by
  pointwise [k0_pay5]
  rw [gate_block hX hG]
  simp only [zero_sub, ← EReal.coe_neg, Ideal.exp_coe, bits_one, ← EReal.coe_add, ← EReal.coe_one, logistic_eq]

include hX hU in
theorem up_block (r : Fin 1024) (j : Fin 704) : (k0_pay4 x0 x2 (ix2 r j) : EReal) = (product 1024 X U (p + r) (q + j) : EReal) := by
  pointwise [k0_pay4, k0_pay2]
  simp only [hX, hU, ← EReal.coe_mul, coe_sum]
  rfl

include hX hG hU in
/-- The block that the forward call keeps for the gradient by the gate. -/
theorem kept_gate (z : Fin 1) (r : Fin 1024) (j : Fin 704) :
    (k0_pay7 x0 x1 x2 (ix3 z r j) : EReal) = (byGate (product 1024 X G (p + r) (q + j)) (product 1024 X U (p + r) (q + j)) : EReal) := by
  pointwise [k0_pay7]
  simp only [gate_block hX hG, logistic_block hX hG, up_block hX hU, bits_one, ← EReal.coe_one, ← EReal.coe_mul, ← EReal.coe_add, ← EReal.coe_sub]
  rfl

include hX hG in
/-- The block that it keeps for the gradient by the other factor. -/
theorem kept_up (z : Fin 1) (r : Fin 1024) (j : Fin 704) :
    (k0_pay8 x0 x1 (ix3 z r j) : EReal) = (byUp (product 1024 X G (p + r) (q + j)) : EReal) := by
  pointwise [k0_pay8, k0_pay6]
  simp only [gate_block hX hG, logistic_block hX hG, ← EReal.coe_mul]
  rfl

end

section

variable {D W : ℕ → ℕ → ℝ} {x0 : Vec Ideal S1024x1024 .bf16} {x1 : Vec Ideal S1x704x1024 .bf16} {x2 : Vec Ideal S1x1024x704 .bf16} {p q : ℕ}
  (hD : ∀ (r : Fin 1024) (k : Fin 1024), (x0 (ix2 r k) : EReal) = (D (p + r) k : EReal))
  (hW : ∀ (z : Fin 1) (j : Fin 704) (k : Fin 1024), (x1 (ix3 z j k) : EReal) = (W k (q + j) : EReal))

include hD hW in
theorem down_block (r : Fin 1024) (j : Fin 704) : (k1_pay1 x0 x1 (ix2 r j) : EReal) = ((1 / 2 * product 1024 D W (p + r) (q + j) : ℝ) : EReal) := by
  pointwise [k1_pay1]
  simp only [hD, hW, bits_half, ← EReal.coe_mul, coe_sum]
  rfl

variable {K : ℕ → ℕ → ℝ} (hK : ∀ (z : Fin 1) (r : Fin 1024) (j : Fin 704), (x2 (ix3 z r j) : EReal) = (K (p + r) (q + j) : EReal))

include hD hW hK in
theorem gate_grad (z : Fin 1) (r : Fin 1024) (j : Fin 704) :
    (k1_pay2 x0 x1 x2 (ix3 z r j) : EReal) = ((1 / 2 * product 1024 D W (p + r) (q + j) * K (p + r) (q + j) : ℝ) : EReal) := by
  pointwise [k1_pay2]
  simp only [down_block hD hW, hK, ← EReal.coe_mul]

include hD hW hK in
theorem up_grad (z : Fin 1) (r : Fin 1024) (j : Fin 704) :
    (k1_pay3 x0 x1 x2 (ix3 z r j) : EReal) = ((1 / 2 * product 1024 D W (p + r) (q + j) * K (p + r) (q + j) : ℝ) : EReal) := by
  pointwise [k1_pay3]
  simp only [down_block hD hW, hK, ← EReal.coe_mul]

end

end Cert.GateUp

end
-- ==== Proof.GateUp.Arrays.lean ====
module

public import proofs.«01_k».proof.Proof.GateUp.Run
public import proofs.«01_k».proof.Proof.GateUp.Block
public import proofs.«01_k».proof.Proof.Gen.GateUpKernelIdeal.Points

/-! The arrays that the gate's forward call keeps and those that its backward call leaves, at finite arguments.

Both calls go through four blocks of 704 columns and, within each, through sixteen blocks of 1024 rows. -/

@[expose] public section

set_option maxRecDepth 16384

noncomputable section

namespace Cert.GateUp

open Cert.GateUpKernelIdeal Cert.GateUpKernelIdeal.Gen Cert.Tools
open Idealize.ShloMosaic Idealize.ShloMosaic.TcCoe Idealize.SL.Sem
open Idealize.ShloMosaic.Pipeline (Dat)

/-- An array whose four planes are the column blocks of the matrix `f`. -/
def Cols {n : ℕ} (A : (⟨3, ![4, n, 704]⟩ : Shape).Idx → EReal) (f : ℕ → ℕ → ℝ) : Prop :=
  ∀ (b : Fin 4) (r : Fin n) (j : Fin 704), A (ix3 b r j) = (f r (b.val * 704 + j) : EReal)

theorem Cols.at {n : ℕ} {A : (⟨3, ![4, n, 704]⟩ : Shape).Idx → EReal} {f : ℕ → ℕ → ℝ} (h : Cols A f) (i : (⟨3, ![4, n, 704]⟩ : Shape).Idx)
    {b r j : ℕ} (h0 : (i 0).val = b) (h1 : (i 1).val = r) (h2 : (i 2).val = j) : A i = (f r (b * 704 + j) : EReal) := by
  have e : i = ix3 (i 0) (i 1) (i 2) := eq_ix3 i
  exact (congrArg A e).trans ((h (i 0) (i 1) (i 2)).trans (by rw [h0, h1, h2]))

/-- The array with the column blocks of `f`. -/
def planes (f : ℕ → ℕ → ℝ) : S4x16384x704.Idx → EReal := fun i => (f (i 1).val ((i 0).val * 704 + (i 2).val) : EReal)
theorem planes_cols (f : ℕ → ℕ → ℝ) : Cols (planes f) f := fun _ _ _ => rfl

theorem index0 : ∀ t : Fin grid0.N, (win0_0.index t 0 = t.val % 16 ∧ win0_0.index t 1 = 0)
    ∧ (win0_1.index t 0 = t.val / 16 ∧ win0_1.index t 1 = 0 ∧ win0_1.index t 2 = 0) ∧ (win0_2.index t 0 = t.val / 16 ∧ win0_2.index t 1 = 1 ∧ win0_2.index t 2 = 0)
    ∧ (win0_3.index t 0 = t.val / 16 ∧ win0_3.index t 1 = t.val % 16 ∧ win0_3.index t 2 = 0)
    ∧ (win0_4.index t 0 = t.val / 16 ∧ win0_4.index t 1 = t.val % 16 ∧ win0_4.index t 2 = 0) := by decide +kernel

theorem index1 : ∀ t : Fin grid1.N, (win1_0.index t 0 = t.val % 16 ∧ win1_0.index t 1 = 0)
    ∧ (win1_1.index t 0 = t.val / 16 ∧ win1_1.index t 1 = 0 ∧ win1_1.index t 2 = 0)
    ∧ (win1_2.index t 0 = t.val / 16 ∧ win1_2.index t 1 = t.val % 16 ∧ win1_2.index t 2 = 0)
    ∧ (win1_3.index t 0 = t.val / 16 ∧ win1_3.index t 1 = t.val % 16 ∧ win1_3.index t 2 = 0)
    ∧ (win1_4.index t 0 = t.val / 16 ∧ win1_4.index t 1 = t.val % 16 ∧ win1_4.index t 2 = 0)
    ∧ (win1_5.index t 0 = t.val / 16 ∧ win1_5.index t 1 = t.val % 16 ∧ win1_5.index t 2 = 0) := by decide +kernel

theorem zero3 : (![0, 0, 0] : Fin 3 → ℕ) = fun _ => 0 := by funext a; fin_cases a <;> rfl

/-- Where a block of 1024 rows and 704 columns of the planes sits. -/
theorem block_emb {i0 i1 i2 b k : ℕ} {e : S4x16384x704.Idx} {y : S1x1024x704.Idx} (a0 : i0 = b) (a1 : i1 = k) (a2 : i2 = 0)
    (h0 : (e 0).val = i0 * 1 + (y 0).val) (h1 : (e 1).val = i1 * 1024 + (y 1).val) (h2 : (e 2).val = i2 * 704 + (y 2).val) :
    (e 0).val = b ∧ (e 1).val = k * 1024 + (y 1).val ∧ (e 2).val = (y 2).val := by
  have hy : (y 0).val < 1 := (y 0).isLt
  subst a0 a1 a2
  exact ⟨by omega, h1, by omega⟩

section

variable (V : (c : Dev nD) → (b : Ref sig .tc) → Buf (Elt Ideal) ((c : Thread nD τ).loc b)) (c : Dev nD)
variable {X G U : ℕ → ℕ → ℝ} (hX : ∀ (r : Fin 16384) (k : Fin 1024), (V c main_v8 (ix2 r k) : EReal) = (X r k : EReal))
  (hW : Cols (n := 2048) (V c main_v5) fun k l => if k < 1024 then G k l else U (k - 1024) l)

include hX in
theorem rows0 (t : Fin cfg0.N) (r : Fin 1024) (k : Fin 1024) : (iblk0 V c 0 t (ix2 r k) : EReal) = (X (t.val % 16 * 1024 + r) k : EReal) := by
  obtain ⟨⟨a0, a1⟩, -⟩ := index0 t
  have e : (win0_0.rect t).emb (ix2 r k) = (ix2 (⟨t.val % 16 * 1024 + r, by omega⟩ : Fin 16384) k : S16384x1024.Idx) :=
    ext2 ((win0_0.rect_emb_val t (ix2 r k) 0).trans (by rw [a0]; rfl)) ((win0_0.rect_emb_val t (ix2 r k) 1).trans (by rw [a1]; exact Nat.zero_add _))
  exact (congrArg (V c main_v8) e).trans (hX _ _)

include hW in
theorem gate0 (t : Fin cfg0.N) (z : Fin 1) (k : Fin 1024) (j : Fin 704) : (iblk0 V c 1 t (ix3 z k j) : EReal) = (G k (t.val / 16 * 704 + j) : EReal) := by
  obtain ⟨-, ⟨a0, a1, a2⟩, -⟩ := index0 t
  refine (hW.at ((win0_1.rect t).emb (ix3 z k j)) (b := t.val / 16) (r := k) (j := j) ((win0_1.rect_emb_val t (ix3 z k j) 0).trans ?_)
    ((win0_1.rect_emb_val t (ix3 z k j) 1).trans ?_) ((win0_1.rect_emb_val t (ix3 z k j) 2).trans ?_)).trans (by rw [if_pos k.isLt])
  · rw [a0]; show t.val / 16 * 1 + z.val = _; omega
  · rw [a1]; exact Nat.zero_add _
  · rw [a2]; exact Nat.zero_add _

include hW in
theorem up0 (t : Fin cfg0.N) (z : Fin 1) (k : Fin 1024) (j : Fin 704) : (iblk0 V c 2 t (ix3 z k j) : EReal) = (U k (t.val / 16 * 704 + j) : EReal) := by
  obtain ⟨-, -, ⟨a0, a1, a2⟩, -⟩ := index0 t
  refine (hW.at ((win0_2.rect t).emb (ix3 z k j)) (b := t.val / 16) (r := 1024 + k) (j := j) ((win0_2.rect_emb_val t (ix3 z k j) 0).trans ?_)
    ((win0_2.rect_emb_val t (ix3 z k j) 1).trans ?_) ((win0_2.rect_emb_val t (ix3 z k j) 2).trans ?_)).trans
    (by rw [if_neg (by omega), Nat.add_sub_cancel_left])
  · rw [a0]; show t.val / 16 * 1 + z.val = _; omega
  · rw [a1]; rfl
  · rw [a2]; exact Nat.zero_add _

theorem covered (i : S4x16384x704.Idx) : ∃ (t : ℕ) (b : Fin 4) (r : Fin 16384) (j : Fin 704), i = ix3 b r j ∧ t < 64 ∧ t / 16 = b.val ∧ t % 16 = r.val / 1024 := by
  obtain ⟨b, r, j, rfl⟩ : ∃ (b : Fin 4) (r : Fin 16384) (j : Fin 704), i = ix3 b r j := ⟨i 0, i 1, i 2, eq_ix3 i⟩
  have hb := b.isLt
  have hr := r.isLt
  exact ⟨16 * b.val + r.val / 1024, b, r, j, rfl, by omega, by omega, by omega⟩

include hX hW in
/-- What is kept for the gradient by the gate. -/
theorem final_kept_gate : (dat0 V c).arrAt 3 cfg0.N = planes fun r l => byGate (product 1024 X G r l) (product 1024 X U r l) := by
  have emb : ∀ (t : Fin cfg0.N) (y : S1x1024x704.Idx), _ := fun t y =>
    block_emb (y := y) (index0 t).2.2.2.1.1 (index0 t).2.2.2.1.2.1 (index0 t).2.2.2.1.2.2 (win0_3.rect_emb_val t y 0) (win0_3.rect_emb_val t y 1) (win0_3.rect_emb_val t y 2)
  refine (dat0 V c).arrAt_eq_of_cover 3 _ (fun t _ => ?_) (fun i => ?_)
  · show (cfg0.win 3).cut (grid0.coords t) ((dat0 V c).after 3 t) = _
    rw [after0_3]
    unfold out0_3
    rw [View.canon_unit_zero zero3, View.ld_unit_zero (S := S1024x1024) zero2, View.ld_unit_zero (S := S1x1024x704) zero3, View.ld_unit_zero (S := S1x1024x704) zero3]
    funext y
    obtain ⟨z, r, j, rfl⟩ : ∃ (z : Fin 1) (r : Fin 1024) (j : Fin 704), y = ix3 z r j := ⟨y 0, y 1, y 2, eq_ix3 y⟩
    obtain ⟨e0, e1, e2⟩ := emb t (ix3 z r j)
    exact (kept_gate (rows0 V c hX t) (gate0 V c hW t) (up0 V c hW t) z r j).trans ((planes_cols (fun r l => byGate (product 1024 X G r l) (product 1024 X U r l))).at ((win0_3.rect t).emb (ix3 z r j)) e0 e1 e2).symm
  · obtain ⟨t, b, r, j, rfl, ht, hb, hr⟩ := covered i
    obtain ⟨e0, e1, e2⟩ := emb ⟨t, ht⟩ (ix3 (0 : Fin 1) (⟨r.val % 1024, Nat.mod_lt _ (by decide)⟩ : Fin 1024) j)
    have e : ix3 b r j = ((cfg0.win 3).blk ⟨t, ht⟩).view.emb (ix3 (0 : Fin 1) (⟨r.val % 1024, Nat.mod_lt _ (by decide)⟩ : Fin 1024) j) :=
      ext3 (e0.trans hb).symm (e1.trans (by dsimp only; rw [hr]; exact Nat.div_add_mod' _ _)).symm e2.symm
    exact ⟨⟨t, ht⟩, flush0_3 _, e ▸ View.emb_mem_set _ _⟩

include hX hW in
/-- What is kept for the gradient by the other factor. -/
theorem final_kept_up : (dat0 V c).arrAt 4 cfg0.N = planes fun r l => byUp (product 1024 X G r l) := by
  have emb : ∀ (t : Fin cfg0.N) (y : S1x1024x704.Idx), _ := fun t y =>
    block_emb (y := y) (index0 t).2.2.2.2.1 (index0 t).2.2.2.2.2.1 (index0 t).2.2.2.2.2.2 (win0_4.rect_emb_val t y 0) (win0_4.rect_emb_val t y 1) (win0_4.rect_emb_val t y 2)
  refine (dat0 V c).arrAt_eq_of_cover 4 _ (fun t _ => ?_) (fun i => ?_)
  · show (cfg0.win 4).cut (grid0.coords t) ((dat0 V c).after 4 t) = _
    rw [after0_4]
    unfold out0_4
    rw [View.canon_unit_zero zero3, View.ld_unit_zero (S := S1024x1024) zero2, View.ld_unit_zero (S := S1x1024x704) zero3]
    funext y
    obtain ⟨z, r, j, rfl⟩ : ∃ (z : Fin 1) (r : Fin 1024) (j : Fin 704), y = ix3 z r j := ⟨y 0, y 1, y 2, eq_ix3 y⟩
    obtain ⟨e0, e1, e2⟩ := emb t (ix3 z r j)
    exact (kept_up (rows0 V c hX t) (gate0 V c hW t) z r j).trans ((planes_cols (fun r l => byUp (product 1024 X G r l))).at ((win0_4.rect t).emb (ix3 z r j)) e0 e1 e2).symm
  · obtain ⟨t, b, r, j, rfl, ht, hb, hr⟩ := covered i
    obtain ⟨e0, e1, e2⟩ := emb ⟨t, ht⟩ (ix3 (0 : Fin 1) (⟨r.val % 1024, Nat.mod_lt _ (by decide)⟩ : Fin 1024) j)
    have e : ix3 b r j = ((cfg0.win 4).blk ⟨t, ht⟩).view.emb (ix3 (0 : Fin 1) (⟨r.val % 1024, Nat.mod_lt _ (by decide)⟩ : Fin 1024) j) :=
      ext3 (e0.trans hb).symm (e1.trans (by dsimp only; rw [hr]; exact Nat.div_add_mod' _ _)).symm e2.symm
    exact ⟨⟨t, ht⟩, flush0_4 _, e ▸ View.emb_mem_set _ _⟩

end

section

variable (V : (c : Dev nD) → (b : Ref sig .tc) → Buf (Elt Ideal) ((c : Thread nD τ).loc b)) (c : Dev nD)
variable {D W : ℕ → ℕ → ℝ} (hD : ∀ (r : Fin 16384) (k : Fin 1024), (V c main_v10 (ix2 r k) : EReal) = (D r k : EReal))
  (hW : ∀ (b : Fin 4) (j : Fin 704) (k : Fin 1024), (V c main_v7 (ix3 b j k) : EReal) = (W k (b.val * 704 + j) : EReal))

include hD in
theorem rows1 (t : Fin cfg1.N) (r : Fin 1024) (k : Fin 1024) : (iblk1 V c 0 t (ix2 r k) : EReal) = (D (t.val % 16 * 1024 + r) k : EReal) := by
  obtain ⟨⟨a0, a1⟩, -⟩ := index1 t
  have e : (win1_0.rect t).emb (ix2 r k) = (ix2 (⟨t.val % 16 * 1024 + r, by omega⟩ : Fin 16384) k : S16384x1024.Idx) :=
    ext2 ((win1_0.rect_emb_val t (ix2 r k) 0).trans (by rw [a0]; rfl)) ((win1_0.rect_emb_val t (ix2 r k) 1).trans (by rw [a1]; exact Nat.zero_add _))
  exact (congrArg (V c main_v10) e).trans (hD _ _)

include hW in
theorem down1 (t : Fin cfg1.N) (z : Fin 1) (j : Fin 704) (k : Fin 1024) : (iblk1 V c 1 t (ix3 z j k) : EReal) = (W k (t.val / 16 * 704 + j) : EReal) := by
  obtain ⟨-, ⟨a0, a1, a2⟩, -⟩ := index1 t
  have ht : t.val < 64 := t.isLt
  have e : (win1_1.rect t).emb (ix3 z j k) = (ix3 (⟨t.val / 16, by omega⟩ : Fin 4) j k : S4x704x1024.Idx) :=
    ext3 ((win1_1.rect_emb_val t (ix3 z j k) 0).trans (by rw [a0]; show t.val / 16 * 1 + z.val = t.val / 16; omega))
      ((win1_1.rect_emb_val t (ix3 z j k) 1).trans (by rw [a1]; exact Nat.zero_add _)) ((win1_1.rect_emb_val t (ix3 z j k) 2).trans (by rw [a2]; exact Nat.zero_add _))
  exact (congrArg (V c main_v7) e).trans (hW _ _ _)

variable {K : ℕ → ℕ → ℝ}

theorem kept1_gate (hK : Cols (n := 16384) (V c main_v9_0) K) (t : Fin cfg1.N) (z : Fin 1) (r : Fin 1024) (j : Fin 704) :
    (iblk1 V c 2 t (ix3 z r j) : EReal) = (K (t.val % 16 * 1024 + r) (t.val / 16 * 704 + j) : EReal) := by
  obtain ⟨e0, e1, e2⟩ := block_emb (y := ix3 z r j) (index1 t).2.2.1.1 (index1 t).2.2.1.2.1 (index1 t).2.2.1.2.2
    (win1_2.rect_emb_val t (ix3 z r j) 0) (win1_2.rect_emb_val t (ix3 z r j) 1) (win1_2.rect_emb_val t (ix3 z r j) 2)
  exact hK.at ((win1_2.rect t).emb (ix3 z r j)) e0 e1 e2

theorem kept1_up (hK : Cols (n := 16384) (V c main_v9_1) K) (t : Fin cfg1.N) (z : Fin 1) (r : Fin 1024) (j : Fin 704) :
    (iblk1 V c 3 t (ix3 z r j) : EReal) = (K (t.val % 16 * 1024 + r) (t.val / 16 * 704 + j) : EReal) := by
  obtain ⟨e0, e1, e2⟩ := block_emb (y := ix3 z r j) (index1 t).2.2.2.1.1 (index1 t).2.2.2.1.2.1 (index1 t).2.2.2.1.2.2
    (win1_3.rect_emb_val t (ix3 z r j) 0) (win1_3.rect_emb_val t (ix3 z r j) 1) (win1_3.rect_emb_val t (ix3 z r j) 2)
  exact hK.at ((win1_3.rect t).emb (ix3 z r j)) e0 e1 e2

include hD hW in
/-- The gate's gradient array after the run. -/
theorem final_da (hK : Cols (n := 16384) (V c main_v9_0) K) : (dat1 V c).arrAt 4 cfg1.N = planes fun r l => 1 / 2 * product 1024 D W r l * K r l := by
  have emb : ∀ (t : Fin cfg1.N) (y : S1x1024x704.Idx), _ := fun t y =>
    block_emb (y := y) (index1 t).2.2.2.2.1.1 (index1 t).2.2.2.2.1.2.1 (index1 t).2.2.2.2.1.2.2 (win1_4.rect_emb_val t y 0) (win1_4.rect_emb_val t y 1) (win1_4.rect_emb_val t y 2)
  refine (dat1 V c).arrAt_eq_of_cover 4 _ (fun t _ => ?_) (fun i => ?_)
  · show (cfg1.win 4).cut (grid1.coords t) ((dat1 V c).after 4 t) = _
    rw [after1_4]
    unfold out1_4
    rw [View.canon_unit_zero zero3, View.ld_unit_zero (S := S1024x1024) zero2, View.ld_unit_zero (S := S1x704x1024) zero3, View.ld_unit_zero (S := S1x1024x704) zero3]
    funext y
    obtain ⟨z, r, j, rfl⟩ : ∃ (z : Fin 1) (r : Fin 1024) (j : Fin 704), y = ix3 z r j := ⟨y 0, y 1, y 2, eq_ix3 y⟩
    obtain ⟨e0, e1, e2⟩ := emb t (ix3 z r j)
    exact (gate_grad (rows1 V c hD t) (down1 V c hW t) (kept1_gate V c hK t) z r j).trans ((planes_cols (fun r l => 1 / 2 * product 1024 D W r l * K r l)).at ((win1_4.rect t).emb (ix3 z r j)) e0 e1 e2).symm
  · obtain ⟨t, b, r, j, rfl, ht, hb, hr⟩ := covered i
    obtain ⟨e0, e1, e2⟩ := emb ⟨t, ht⟩ (ix3 (0 : Fin 1) (⟨r.val % 1024, Nat.mod_lt _ (by decide)⟩ : Fin 1024) j)
    have e : ix3 b r j = ((cfg1.win 4).blk ⟨t, ht⟩).view.emb (ix3 (0 : Fin 1) (⟨r.val % 1024, Nat.mod_lt _ (by decide)⟩ : Fin 1024) j) :=
      ext3 (e0.trans hb).symm (e1.trans (by dsimp only; rw [hr]; exact Nat.div_add_mod' _ _)).symm e2.symm
    exact ⟨⟨t, ht⟩, flush1_4 _, e ▸ View.emb_mem_set _ _⟩

include hD hW in
/-- The other factor's gradient array after the run. -/
theorem final_du (hK : Cols (n := 16384) (V c main_v9_1) K) : (dat1 V c).arrAt 5 cfg1.N = planes fun r l => 1 / 2 * product 1024 D W r l * K r l := by
  have emb : ∀ (t : Fin cfg1.N) (y : S1x1024x704.Idx), _ := fun t y =>
    block_emb (y := y) (index1 t).2.2.2.2.2.1 (index1 t).2.2.2.2.2.2.1 (index1 t).2.2.2.2.2.2.2 (win1_5.rect_emb_val t y 0) (win1_5.rect_emb_val t y 1) (win1_5.rect_emb_val t y 2)
  refine (dat1 V c).arrAt_eq_of_cover 5 _ (fun t _ => ?_) (fun i => ?_)
  · show (cfg1.win 5).cut (grid1.coords t) ((dat1 V c).after 5 t) = _
    rw [after1_5]
    unfold out1_5
    rw [View.canon_unit_zero zero3, View.ld_unit_zero (S := S1024x1024) zero2, View.ld_unit_zero (S := S1x704x1024) zero3, View.ld_unit_zero (S := S1x1024x704) zero3]
    funext y
    obtain ⟨z, r, j, rfl⟩ : ∃ (z : Fin 1) (r : Fin 1024) (j : Fin 704), y = ix3 z r j := ⟨y 0, y 1, y 2, eq_ix3 y⟩
    obtain ⟨e0, e1, e2⟩ := emb t (ix3 z r j)
    exact (up_grad (rows1 V c hD t) (down1 V c hW t) (kept1_up V c hK t) z r j).trans ((planes_cols (fun r l => 1 / 2 * product 1024 D W r l * K r l)).at ((win1_5.rect t).emb (ix3 z r j)) e0 e1 e2).symm
  · obtain ⟨t, b, r, j, rfl, ht, hb, hr⟩ := covered i
    obtain ⟨e0, e1, e2⟩ := emb ⟨t, ht⟩ (ix3 (0 : Fin 1) (⟨r.val % 1024, Nat.mod_lt _ (by decide)⟩ : Fin 1024) j)
    have e : ix3 b r j = ((cfg1.win 5).blk ⟨t, ht⟩).view.emb (ix3 (0 : Fin 1) (⟨r.val % 1024, Nat.mod_lt _ (by decide)⟩ : Fin 1024) j) :=
      ext3 (e0.trans hb).symm (e1.trans (by dsimp only; rw [hr]; exact Nat.div_add_mod' _ _)).symm e2.symm
    exact ⟨⟨t, ht⟩, flush1_5 _, e ▸ View.emb_mem_set _ _⟩

end

end Cert.GateUp

end
-- ==== Proof.GateUp.Final.lean ====
module

public import proofs.«01_k».proof.Proof.GateUp.Arrays
public import Idealize.ShloMosaic.Lib.StableHlo.ReadAt

/-! The gate's two gradients as the run leaves them, at finite arguments. -/

@[expose] public section

set_option maxRecDepth 16384

noncomputable section

namespace Cert.GateUp

open Cert.GateUpKernelIdeal Cert.GateUpKernelIdeal.Gen Cert.Tools
open Idealize.ShloMosaic Idealize.ShloMosaic.TcCoe Idealize.ShloMosaic.Tactic Idealize.SL.Sem

/-- The two weights' column blocks, one over the other. -/
def packW (a b : S1024x2816.Idx → EReal) : S4x2048x704.Idx → EReal :=
  truncf (F := Ideal) .bf16 (concatenate S4x2048x704 1
    [⟨S4x1024x704, transpose S4x1024x704 [1, 0, 2] (shapeCast S1024x4x704 a shapeCasts_S1024x2816_S1024x4x704) transposes_S1024x4x704_S4x1024x704_1_0_2⟩,
      ⟨S4x1024x704, transpose S4x1024x704 [1, 0, 2] (shapeCast S1024x4x704 b shapeCasts_S1024x2816_S1024x4x704) transposes_S1024x4x704_S4x1024x704_1_0_2⟩]
    concatenates_S4x1024x704_S4x1024x704_S4x2048x704_d1) bitsLt_bf16_f32

/-- The last weight's row blocks. -/
def packD (a : S2816x1024.Idx → EReal) : S4x704x1024.Idx → EReal :=
  truncf (F := Ideal) .bf16 (shapeCast S4x704x1024 a shapeCasts_S2816x1024_S4x704x1024) bitsLt_bf16_f32

/-- The planes as one matrix. -/
def unpack (a : S4x16384x704.Idx → EReal) : S16384x2816.Idx → EReal :=
  shapeCast S16384x2816 (transpose S16384x4x704 [1, 0, 2] a transposes_S4x16384x704_S16384x4x704_1_0_2) shapeCasts_S16384x4x704_S16384x2816

variable (m : (ℓ : Loc nD τ sig) → Buf (Elt Ideal) ℓ) (ρ : Dev nD → PrngReg) (c : Dev nD)

abbrev argH : S16384x1024.Idx → EReal := m ((c : Thread nD τ).loc main_arg0)
abbrev argG : S1024x2816.Idx → EReal := m ((c : Thread nD τ).loc main_arg1)
abbrev argU : S1024x2816.Idx → EReal := m ((c : Thread nD τ).loc main_arg2)
abbrev argW : S2816x1024.Idx → EReal := m ((c : Thread nD τ).loc main_arg3)
abbrev argD : S16384x1024.Idx → EReal := m ((c : Thread nD τ).loc main_arg4)

theorem W1_weights : W1 m ρ c (Proc.devRef .tc main_v5) = packW (argG m c) (argU m c) := by
  simp only [W1, hostOps0]; after_reads_simp; rfl

theorem W1_down : W1 m ρ c (Proc.devRef .tc main_v7) = packD (argW m c) := by
  simp only [W1, hostOps0]; after_reads_simp; rfl

theorem W1_rows : W1 m ρ c (Proc.devRef .tc main_v8) = argH m c := by
  simp only [W1, hostOps0]; after_reads_simp; rfl

theorem W3_cot : W3 m ρ c (Proc.devRef .tc main_v10) = argD m c := by
  simp only [W3, hostOps1]; after_reads_simp
  exact congrArg (fun v : S16384x1024.Idx → EReal => truncf (F := Ideal) .bf16 v bitsLt_bf16_f32) (W2_args m ρ c main_arg4 (by decide))

theorem W5_da : W5 m ρ c (Proc.devRef .tc main_v13) = unpack (W4 m ρ c (Proc.devRef .tc main_v11_0)) := by
  simp only [W5, hostOps2]; after_reads_simp; rfl

theorem W5_du : W5 m ρ c (Proc.devRef .tc main_v15) = unpack (W4 m ρ c (Proc.devRef .tc main_v11_1)) := by
  simp only [W5, hostOps2]; after_reads_simp; rfl

theorem packW_cols {a b : S1024x2816.Idx → EReal} (fa : Finite a) (fb : Finite b) :
    Cols (n := 2048) (packW a b) fun k l => if k < 1024 then real2 a k l else real2 b (k - 1024) l := by
  intro z k j
  pointwise [packW]
  by_cases h : k.val < 1024
  · refine (dif_pos h).trans ?_
    rw [if_pos h]
    exact (at2_at a _ _ _ rfl rfl).trans (at2_real fa _ _)
  · refine (dif_neg h).trans ?_
    rw [if_neg h]
    exact (at2_at b _ _ _ rfl rfl).trans (at2_real fb _ _)

theorem packD_at {a : S2816x1024.Idx → EReal} (fa : Finite a) (b : Fin 4) (j : Fin 704) (k : Fin 1024) :
    packD a (ix3 b j k) = (real2 a (b.val * 704 + j) k : EReal) := by
  pointwise [packD]
  exact (at2_at a _ _ _ rfl rfl).trans (at2_real fa _ _)

theorem unpack_planes (f : ℕ → ℕ → ℝ) (r : Fin 16384) (l : Fin 2816) : unpack (planes f) (ix2 r l) = (f r l : EReal) := by
  pointwise [unpack]
  exact ((planes_cols f).at _ rfl rfl rfl).trans (congrArg (fun q : ℕ => ((f r q : ℝ) : EReal)) (Nat.div_add_mod' l.val 704))

/-- The arguments' finiteness. -/
structure Real : Prop where
  h : Finite (argH m c)
  g : Finite (argG m c)
  u : Finite (argU m c)
  w : Finite (argW m c)
  d : Finite (argD m c)

/-- The two factors before the gate, and the cotangent of the gate's product. -/
def gateOf : ℕ → ℕ → ℝ := product 1024 (real2 (argH m c)) (real2 (argG m c))
def upOf : ℕ → ℕ → ℝ := product 1024 (real2 (argH m c)) (real2 (argU m c))
def cotOf (r l : ℕ) : ℝ := ∑ k : Fin 1024, real2 (argD m c) r k * real2 (argW m c) l k

/-- The results. -/
def resA : S16384x2816.Idx → EReal := fun i =>
  ((1 / 2 * cotOf m c (i 0).val (i 1).val * byGate (gateOf m c (i 0).val (i 1).val) (upOf m c (i 0).val (i 1).val) : ℝ) : EReal)
def resU : S16384x2816.Idx → EReal := fun i => ((1 / 2 * cotOf m c (i 0).val (i 1).val * byUp (gateOf m c (i 0).val (i 1).val) : ℝ) : EReal)

variable {m c} (f : Real m c)
include f

theorem entry_rows (r : Fin 16384) (k : Fin 1024) : (V1 m ρ c main_v8 (ix2 r k) : EReal) = (real2 (argH m c) r k : EReal) :=
  (congrFun (W1_rows m ρ c) _).trans (ix_real f.h r k)

theorem entry_weights : Cols (n := 2048) (V1 m ρ c main_v5) fun k l => if k < 1024 then real2 (argG m c) k l else real2 (argU m c) (k - 1024) l := by
  show Cols (n := 2048) (W1 m ρ c (Proc.devRef .tc main_v5)) _
  rw [W1_weights]; exact packW_cols f.g f.u

theorem later_rows (r : Fin 16384) (k : Fin 1024) : (V3 m ρ c main_v10 (ix2 r k) : EReal) = (real2 (argD m c) r k : EReal) :=
  (congrFun (W3_cot m ρ c) _).trans (ix_real f.d r k)

theorem later_weights (b : Fin 4) (j : Fin 704) (k : Fin 1024) : (V3 m ρ c main_v7 (ix3 b j k) : EReal) = ((fun k l => real2 (argW m c) l k) k.val (b.val * 704 + j) : EReal) := by
  show (W3 m ρ c (Proc.devRef .tc main_v7) (ix3 b j k) : EReal) = _
  rw [W3_of m ρ c main_v7 (by decide), W2_of m ρ c main_v7 (by decide), W1_down]
  exact packD_at f.w b j k

theorem kept_a : Cols (n := 16384) (V3 m ρ c main_v9_0) fun r l => byGate (gateOf m c r l) (upOf m c r l) := by
  show Cols (n := 16384) (W3 m ρ c (Proc.devRef .tc main_v9_0)) _
  rw [W3_of m ρ c main_v9_0 (by decide), W2_arr m ρ c 3, final_kept_gate (V1 m ρ) c (entry_rows ρ f) (entry_weights ρ f)]
  exact planes_cols _

theorem kept_u : Cols (n := 16384) (V3 m ρ c main_v9_1) fun r l => byUp (gateOf m c r l) := by
  show Cols (n := 16384) (W3 m ρ c (Proc.devRef .tc main_v9_1)) _
  rw [W3_of m ρ c main_v9_1 (by decide), W2_arr m ρ c 4, final_kept_up (V1 m ρ) c (entry_rows ρ f) (entry_weights ρ f)]
  exact planes_cols _

theorem final_13 : W5 m ρ c (Proc.devRef .tc main_v13) = resA m c := by
  rw [W5_da, W4_arr m ρ c 4, final_da (V3 m ρ) c (W := fun k l => real2 (argW m c) l k) (later_rows ρ f) (later_weights ρ f) (kept_a ρ f)]
  funext i
  obtain ⟨r, l, rfl⟩ : ∃ (r : Fin 16384) (l : Fin 2816), i = ix2 r l := ⟨i 0, i 1, eq_ix2 i⟩
  exact unpack_planes _ r l

theorem final_15 : W5 m ρ c (Proc.devRef .tc main_v15) = resU m c := by
  rw [W5_du, W4_arr m ρ c 5, final_du (V3 m ρ) c (W := fun k l => real2 (argW m c) l k) (later_rows ρ f) (later_weights ρ f) (kept_u ρ f)]
  funext i
  obtain ⟨r, l, rfl⟩ : ∃ (r : Fin 16384) (l : Fin 2816), i = ix2 r l := ⟨i 0, i 1, eq_ix2 i⟩
  exact unpack_planes _ r l

end Cert.GateUp

end
-- ==== Proof.GateUp.Reference.lean ====
module

public import proofs.«01_k».proof.Proof.Gen.GateUpReferenceIdeal.Read
public import proofs.«01_k».proof.Proof.GateUp.Block

/-! The reference of the gate's gradient at an element, at finite arguments. -/

@[expose] public section

set_option maxRecDepth 16384

noncomputable section

namespace Cert.GateUp

open Cert.GateUpReferenceIdeal Cert.GateUpReferenceIdeal.Read Cert.Tools
open Idealize.ShloMosaic

section

variable {x0 x4 : (⟨S16384x1024, .f32⟩ : BufTy).Contents (Elt Ideal)} {x1 x2 : (⟨S1024x2816, .f32⟩ : BufTy).Contents (Elt Ideal)}
  {x3 : (⟨S2816x1024, .f32⟩ : BufTy).Contents (Elt Ideal)} {H G U W D : ℕ → ℕ → ℝ}
  (h0 : ∀ (r : Fin 16384) (k : Fin 1024), x0 (ix2 r k) = (H r k : EReal)) (h1 : ∀ (k : Fin 1024) (l : Fin 2816), x1 (ix2 k l) = (G k l : EReal))
  (h2 : ∀ (k : Fin 1024) (l : Fin 2816), x2 (ix2 k l) = (U k l : EReal)) (h3 : ∀ (l : Fin 2816) (k : Fin 1024), x3 (ix2 l k) = (W l k : EReal))
  (h4 : ∀ (r : Fin 16384) (k : Fin 1024), x4 (ix2 r k) = (D r k : EReal)) (r : Fin 16384) (l : Fin 2816)

include h0 h1 in
theorem gate_ref : (val_main_v0 (F := Ideal) x0 x1 (ix2 r l) : EReal) = (product 1024 H G r l : EReal) := by
  pointwise [val_main_v0]
  simp only [h0, h1, ← EReal.coe_mul, coe_sum]
  rfl

include h0 h2 in
theorem up_ref : (val_main_v1 (F := Ideal) x0 x2 (ix2 r l) : EReal) = (product 1024 H U r l : EReal) := by
  pointwise [val_main_v1]
  simp only [h0, h2, ← EReal.coe_mul, coe_sum]
  rfl

include h0 h1 in
theorem logistic_ref : (val_main_v2_2 (F := Ideal) x0 x1 (ix2 r l) : EReal) = (logistic (product 1024 H G r l) : EReal) := by
  pointwise [val_main_v2_2, val_main_call0_v4, val_main_call0_cst_0, val_main_call0_v3, val_main_call0_v2, val_main_call0_cst, val_main_call0_v1, val_main_call0_v0]
  simp only [gate_ref h0 h1, ← EReal.coe_neg, Ideal.exp_coe, bits_one, ← EReal.coe_one, ← EReal.coe_add, logistic_eq]

include h3 h4 in
theorem cot_ref : (val_main_v9 (F := Ideal) x3 x4 (ix2 r l) : EReal) = ((1 / 2 * ∑ k : Fin 1024, D r k * W l k : ℝ) : EReal) := by
  pointwise [val_main_v9, val_main_v8, val_main_v7, val_main_cst_0]
  simp only [h3, h4, bits_half, ← EReal.coe_mul, coe_sum]
  refine congrArg Real.toEReal ?_
  rw [Finset.mul_sum]
  exact Finset.sum_congr rfl fun k _ => mul_assoc _ _ _

include h0 h1 h3 h4 in
theorem du_ref : (val_main_v14 (F := Ideal) x0 x1 x3 x4 (ix2 r l) : EReal)
    = ((1 / 2 * (∑ k : Fin 1024, D r k * W l k) * byUp (product 1024 H G r l) : ℝ) : EReal) := by
  pointwise [val_main_v14, val_main_v10, val_main_v2_0]
  simp only [gate_ref h0 h1, logistic_ref h0 h1, cot_ref h3 h4, ← EReal.coe_mul]
  refine congrArg Real.toEReal ?_
  unfold byUp; ring

include h0 h1 h2 h3 h4 in
theorem da_ref : (val_main_v13 (F := Ideal) x0 x1 x2 x3 x4 (ix2 r l) : EReal)
    = ((1 / 2 * (∑ k : Fin 1024, D r k * W l k) * byGate (product 1024 H G r l) (product 1024 H U r l) : ℝ) : EReal) := by
  pointwise [val_main_v13, val_main_v12, val_main_call1_v2, val_main_call1_v1, val_main_call1_v0, val_main_v11, val_main_v2_1, val_main_call0_v7, val_main_call0_v6, val_main_call0_cst_1]
  simp only [gate_ref h0 h1, up_ref h0 h2, logistic_ref h0 h1, cot_ref h3 h4, bits_one, ← EReal.coe_one, ← EReal.coe_sub, ← EReal.coe_mul, ← EReal.coe_add]
  refine congrArg Real.toEReal ?_
  unfold byGate; ring

end

end Cert.GateUp

end
-- ==== Proof.GateUp.Claims.lean ====
module

public import proofs.«01_k».proof.Defs
public import proofs.«01_k».proof.Proof.GateUp.Final
public import proofs.«01_k».proof.Proof.GateUp.Reference
public import proofs.«01_k».proof.Proof.Gen.GateUpKernel.Frame
public import proofs.«01_k».proof.Proof.Gen.Pre_dgu_finite

/-! The claims about the gate's gradient. -/

@[expose] public section

set_option maxRecDepth 16384

noncomputable section

namespace Cert.GateUp

open Idealize.ShloMosaic Idealize.ShloMosaic.TcCoe Idealize.SL.Sem Cert.Tools

theorem frame_kernel : Cert.quiescent_GateUpKernel := fun m ρ _ => Cert.GateUpKernel.Gen.frame m ρ

theorem frame_kernelIdeal : Cert.quiescent_GateUpKernelIdeal := fun m ρ _ => Cert.GateUpKernelIdeal.Gen.frame m ρ

theorem frame_kernelIdeal_finite : Cert.quiescent_GateUpKernelIdeal_pre_dgu_finite := fun m ρ _ => Cert.GateUpKernelIdeal.Gen.frame m ρ

theorem frame_reference : Cert.quiescent_GateUpReferenceIdeal := fun m ρ _ =>
  (θ_run _ _ _).mono (fun r h => ⟨fun c => (h c).2.2, sem_eq_zero_of_no_sems (sig := Cert.GateUpReferenceIdeal.sig) (by decide) r.2⟩) (Cert.GateUpReferenceIdeal.Value.run m ρ)

theorem frame_reference_finite : Cert.quiescent_GateUpReferenceIdeal_pre_dgu_finite := fun m ρ _ => frame_reference m ρ trivial

variable (m : (ℓ : Loc Cert.GateUpKernelIdeal.nD Cert.GateUpKernelIdeal.τ Cert.GateUpKernelIdeal.sig) → Buf (Elt Ideal) ℓ)

/-- The precondition says of each argument that it is finite. -/
theorem finite_args (hp : Cert.Pre_GateUpKernelIdeal_dgu_finite m) (c : Dev Cert.GateUpKernelIdeal.nD) : Real m c :=
  ⟨finite_of_lt _ _ (fun _ => rfl) (hp c).1, finite_of_lt _ _ (fun _ => rfl) (hp c).2.1, finite_of_lt _ _ (fun _ => rfl) (hp c).2.2.1,
    finite_of_lt _ _ (fun _ => rfl) (hp c).2.2.2.1, finite_of_lt _ _ (fun _ => rfl) (hp c).2.2.2.2⟩

theorem algebraic : Cert.algebraic_GateUpKernelIdeal_GateUpReferenceIdeal_pre_dgu_finite := fun m ρ m' ρ' hp hm =>
  ⟨fun c => resA m c, fun c => resU m c,
    (θ_run _ _ _).mono (fun r h c =>
        ⟨(h c).1.trans (final_13 ρ (finite_args m hp c)), (h c).2.1.trans (final_15 ρ (finite_args m hp c)), (h c).2.2⟩) (run_main m ρ),
    (θ_run _ _ _).mono (fun r h c => by
        have f := finite_args m hp c
        obtain ⟨h0, h1, h2, h3, h4⟩ := hm c
        refine ⟨(h c).1.trans ?_, (h c).2.1.trans ?_, (h c).2.2⟩
        · rw [Cert.GateUpReferenceIdeal.Read.val_main_v13_eq, h0, h1, h2, h3, h4]
          funext i
          obtain ⟨k, l, rfl⟩ : ∃ (k : Fin 16384) (l : Fin 2816), i = ix2 k l := ⟨i 0, i 1, eq_ix2 i⟩
          exact da_ref (ix_real f.h) (ix_real f.g) (ix_real f.u) (ix_real f.w) (ix_real f.d) k l
        · rw [Cert.GateUpReferenceIdeal.Read.val_main_v14_eq, h0, h1, h3, h4]
          funext i
          obtain ⟨k, l, rfl⟩ : ∃ (k : Fin 16384) (l : Fin 2816), i = ix2 k l := ⟨i 0, i 1, eq_ix2 i⟩
          exact du_ref (ix_real f.h) (ix_real f.g) (ix_real f.w) (ix_real f.d) k l)
      (Cert.GateUpReferenceIdeal.Value.run m' ρ')⟩

end Cert.GateUp

end
-- ==== Proof.Tools.NormGrad.lean ====
module

public import proofs.«01_k».proof.Proof.Tools.Real

/-! The gradient of a row normalisation that feeds a product, over the real numbers.

`X` is the activation, `G` the gain, `DH` the cotangent of the normalised row times the gain, `D` the cotangent that
reaches the activation by the residual. -/

@[expose] public section

noncomputable section

namespace Cert.Tools

/-- The gradient by the activation. -/
def gradX (X : ℕ → ℕ → ℝ) (G : ℕ → ℝ) (DH D : ℕ → ℕ → ℝ) (r l : ℕ) : ℝ := D r l + normBack (X r) (fun k => G k * DH r k) l

/-- What one row adds to the gradient by the gain. -/
def gradG (X DH : ℕ → ℕ → ℝ) (r l : ℕ) : ℝ := DH r l * (X r l * rstd (X r))

end Cert.Tools

end
-- ==== Proof.ConvDx.Block.lean ====
module

public import proofs.«01_k».proof.Proof.Gen.ConvDxKernelIdeal.Frame
public import proofs.«01_k».proof.Proof.Tools.NormGrad

/-! The gradient of the short convolution's input projection and of the norm before it, one block of 512 rows at a time. -/

@[expose] public section

set_option maxRecDepth 16384

noncomputable section

namespace Cert.ConvDx

open Cert.ConvDxKernelIdeal Cert.ConvDxKernelIdeal.Gen Cert.Tools
open Idealize.ShloMosaic Idealize.ShloMosaic.TcCoe Idealize.SL.Sem

/-- The block of the product that gives the cotangent of the normalised rows. -/
theorem product (x0 : Vec Ideal S512x3072 .bf16) (x1 : Vec Ideal S1024x3072 .bf16) (r : Fin 512) (l : Fin 1024) :
    k0_pay3 x0 x1 (ix2 r l) = ∑ k : Fin 3072, (x0 (ix2 r k) : EReal) * x1 (ix2 l k) := by
  pointwise [k0_pay3]

/-- What the blocks at point `t` hold. -/
structure Blocks (t : ℕ) (X : ℕ → ℕ → ℝ) (G : ℕ → ℝ) (DH D : ℕ → ℕ → ℝ) (x0 : Vec Ideal S512x3072 .bf16) (x1 : Vec Ideal S1024x3072 .bf16)
    (x2 x3 : Vec Ideal S512x1024 .f32) (x4 : Vec Ideal S1x1024 .f32) : Prop where
  dh : ∀ (r : Fin 512) (l : Fin 1024), k0_pay3 x0 x1 (ix2 r l) = (DH (t * 512 + r) l : EReal)
  x : ∀ (r : Fin 512) (l : Fin 1024), x2 (ix2 r l) = (X (t * 512 + r) l : EReal)
  d : ∀ (r : Fin 512) (l : Fin 1024), x3 (ix2 r l) = (D (t * 512 + r) l : EReal)
  g : ∀ (k : Fin 1) (l : Fin 1024), x4 (ix2 k l) = (G l : EReal)

section

variable {t : ℕ} {X : ℕ → ℕ → ℝ} {G : ℕ → ℝ} {DH D : ℕ → ℕ → ℝ} {x0 : Vec Ideal S512x3072 .bf16} {x1 : Vec Ideal S1024x3072 .bf16}
  {x2 x3 : Vec Ideal S512x1024 .f32} {x4 : Vec Ideal S1x1024 .f32} (h : Blocks t X G DH D x0 x1 x2 x3 x4)
include h

theorem dx_block (r : Fin 512) (l : Fin 1024) : k0_pay7 x0 x1 x2 x3 x4 (ix2 r l) = (gradX X G DH D (t * 512 + r) l : EReal) := by
  pointwise [k0_pay7, k0_pay5, k0_pay4]
  simp only [h.dh, h.x, h.d, h.g, bits_eps, bits_1024, ← EReal.coe_mul, coe_sum, div_1024, ← EReal.coe_add, rsqrt_room, ← EReal.coe_sub]
  rfl

theorem dg_block (r : Fin 512) (l : Fin 1024) : k0_pay6 x0 x1 x2 (ix2 r l) = (gradG X DH (t * 512 + r) l : EReal) := by
  pointwise [k0_pay6, k0_pay5, k0_pay4]
  simp only [h.dh, h.x, bits_eps, bits_1024, ← EReal.coe_mul, coe_sum, div_1024, ← EReal.coe_add, rsqrt_room]
  rfl

/-- The block's part of the gradient by the gain. -/
theorem dg_sum (k : Fin 1) (l : Fin 1024) :
    k0_pay1 (k0_pay6 x0 x1 x2) (ix2 k l) = ((∑ r : Fin 512, gradG X DH (t * 512 + r) l : ℝ) : EReal) := by
  pointwise [k0_pay1]
  simp only [dg_block h, coe_sum]

end

end Cert.ConvDx

end
-- ==== Proof.ConvDx.Arrays.lean ====
module

public import proofs.«01_k».proof.Proof.Gen.ConvDxKernelIdeal.Value
public import proofs.«01_k».proof.Proof.ConvDx.Block

/-! The gradient of the short convolution's input projection and of the norm before it: what the call leaves in its three result arrays at finite arguments.

The gradient by the activation is written once, 512 rows at a grid point, in both formats. The gain's gradient stays in
place through the grid: the first point writes its part, each later one adds its own. -/

@[expose] public section

set_option maxRecDepth 16384

noncomputable section

namespace Cert.ConvDx

open Cert.ConvDxKernelIdeal Cert.ConvDxKernelIdeal.Gen Cert.ConvDxKernelIdeal.Value Cert.Tools
open Idealize.ShloMosaic Idealize.ShloMosaic.TcCoe Idealize.SL.Sem
open Idealize.ShloMosaic.Pipeline (Dat)

variable (m : (ℓ : Loc nD τ sig) → Buf (Elt Ideal) ℓ) (c : Dev nD)

/-- The five arguments as the launch holds them. -/
abbrev argX : S16384x1024.Idx → EReal := m ((c : Thread nD τ).loc main_arg0)
abbrev argG : S1024.Idx → EReal := m ((c : Thread nD τ).loc main_arg1)
abbrev argW : S1024x3072.Idx → EReal := m ((c : Thread nD τ).loc main_arg2)
abbrev argD : S16384x1024.Idx → EReal := m ((c : Thread nD τ).loc main_arg3)
abbrev argP : S16384x3072.Idx → EReal := m ((c : Thread nD τ).loc main_arg4)

/-- What the body leaves in its three output blocks at a point where no part was added before. -/
abbrev parts (x0 : Vec Ideal S512x3072 .bf16) (x1 : Vec Ideal S1024x3072 .bf16) (x2 x3 : Vec Ideal S512x1024 .f32) (x4 : Vec Ideal S1x1024 .f32) :
    Vec Ideal S512x1024 .f32 × Vec Ideal S512x1024 .bf16 × Vec Ideal S1x1024 .f32 :=
  (k0_pay7 x0 x1 x2 x3 x4, k0_pay8 x0 x1 x2 x3 x4, k0_pay1 (k0_pay6 x0 x1 x2))

theorem outs_first (t : Fin cfg0.N) (ht : t.val = 0) :
    outsAt0 m c t.val t.isLt = parts (iblk m c 0 t) (iblk m c 1 t) (iblk m c 2 t) (iblk m c 3 t) (iblk m c 4 t) := by
  rw [outsAt0_A m c t (by omega) (by omega)]
  unfold out0_A_5 out0_A_6 out0_A_7
  rw [View.read_writes_eq_canon _ _ _ (fun y => cover0_A_5 (y := y) ..), View.read_writes_eq_canon _ _ _ (fun y => cover0_A_6 (y := y) ..),
    View.read_writes_eq_canon _ _ _ (fun y => cover0_A_7 (y := y) ..)]
  unfold kernelRun0_A; dsimp only; sl_unfold_words
  simp only [View.readAt_eq_ld, (hs0_0 t).read_unread, (hs0_1 t).read_unread, (hs0_2 t).read_unread, (hs0_3 t).read_unread, (hs0_4 t).read_unread,
    View.ld_unit_zero (S := S512x3072) zero2, View.ld_unit_zero (S := S1024x3072) zero2, View.ld_unit_zero (S := S512x1024) zero2, View.ld_unit_zero (S := S1x1024) zero2]
  unfold parts
  refine Prod.ext ?_ (Prod.ext ?_ ?_) <;> dsimp only <;> rw [View.canon_unit_zero zero2]

theorem outs_later (t : Fin cfg0.N) (ht : 1 ≤ t.val) (o) (ho : o = outsAt0 m c (t.val - 1) (Nat.lt_of_le_of_lt (Nat.sub_le _ _) t.isLt)) (p)
    (hp : p = parts (iblk m c 0 t) (iblk m c 1 t) (iblk m c 2 t) (iblk m c 3 t) (iblk m c 4 t)) :
    outsAt0 m c t.val t.isLt = (p.1, p.2.1, plus o.2.2 p.2.2) := by
  have hN : t.val < 32 := t.isLt
  subst ho hp
  rw [outsAt0_B m c t (by omega) ht]
  unfold out0_B_5 out0_B_6 out0_B_7
  rw [View.read_writes_eq_canon _ _ _ (fun y => cover0_B_5 (y := y) ..), View.read_writes_eq_canon _ _ _ (fun y => cover0_B_6 (y := y) ..),
    View.read_writes_eq_canon _ _ _ (fun y => cover0_B_7 (y := y) ..)]
  unfold kernelRun0_B; dsimp only; sl_unfold_words
  simp only [View.readAt_eq_ld, (hs0_0 t).read_unread, (hs0_1 t).read_unread, (hs0_2 t).read_unread, (hs0_3 t).read_unread, (hs0_4 t).read_unread, (hs0_7 t).read_unread,
    View.ld_unit_zero (S := S512x3072) zero2, View.ld_unit_zero (S := S1024x3072) zero2, View.ld_unit_zero (S := S512x1024) zero2, View.ld_unit_zero (S := S1x1024) zero2]
  unfold k0_pay2
  refine Prod.ext ?_ (Prod.ext ?_ ?_) <;> dsimp only <;> rw [View.canon_unit_zero zero2]
  rw [shapeCast_self]; rfl

theorem index_in : ∀ t : Fin grid0.N,
    (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = t.val ∧ win0_3.index t 1 = 0)
    ∧ (win0_4.index t 0 = 0 ∧ win0_4.index t 1 = 0) ∧ (win0_5.index t 0 = t.val ∧ win0_5.index t 1 = 0)
    ∧ (win0_6.index t 0 = t.val ∧ win0_6.index t 1 = 0) ∧ (win0_7.index t 0 = 0 ∧ win0_7.index t 1 = 0) := by decide +kernel

/-- The gain's row, as the region's fifth operand holds it. -/
theorem gain_row (t : Fin cfg0.N) (k : Fin 1) (l : Fin 1024) : iblk m c 4 t (ix2 k l) = argG m c (ix1 l) := by
  obtain ⟨-, -, -, -, ⟨a, b⟩, -⟩ := index_in t
  have e : (win0_4.rect t).emb (ix2 k l) = (ix2 k l : S1x1024.Idx) :=
    ext2 ((win0_4.rect_emb_val t (ix2 k l) 0).trans (by rw [a]; exact Nat.zero_add _)) ((win0_4.rect_emb_val t (ix2 k l) 1).trans (by rw [b]; exact Nat.zero_add _))
  have h : V m c main_v2 (ix2 k l) = argG m c (ix1 l) := by
    entry_read
    pointwise [argG]
  exact (congrArg (V m c main_v2) e).trans h

/-- The two factors of the product, as the region's first operands hold them. -/
theorem left_rows (t : Fin cfg0.N) (r : Fin 512) (k : Fin 3072) : iblk m c 0 t (ix2 r k) = at2 (argP m c) (t.val * 512 + r) k := by
  obtain ⟨⟨a, b⟩, -⟩ := index_in t
  have h : V m c main_v0 ((win0_0.rect t).emb (ix2 r k)) = argP m c ((win0_0.rect t).emb (ix2 r k)) := by entry_read; rfl
  exact h.trans (at2_at (argP m c) ((win0_0.rect t).emb (ix2 r k)) _ _ ((win0_0.rect_emb_val t (ix2 r k) 0).trans (by rw [a]; rfl))
    ((win0_0.rect_emb_val t (ix2 r k) 1).trans (by rw [b]; exact Nat.zero_add _)))

theorem right_rows (t : Fin cfg0.N) (l : Fin 1024) (k : Fin 3072) : iblk m c 1 t (ix2 l k) = at2 (argW m c) l k := by
  obtain ⟨-, ⟨a, b⟩, -⟩ := index_in t
  have h : V m c main_v1 ((win0_1.rect t).emb (ix2 l k)) = argW m c ((win0_1.rect t).emb (ix2 l k)) := by entry_read; rfl
  exact h.trans (at2_at (argW m c) ((win0_1.rect t).emb (ix2 l k)) _ _ ((win0_1.rect_emb_val t (ix2 l k) 0).trans (by rw [a]; exact Nat.zero_add _))
    ((win0_1.rect_emb_val t (ix2 l k) 1).trans (by rw [b]; exact Nat.zero_add _)))

variable (fX : Finite (argX m c)) (fG : Finite (argG m c)) (fW : Finite (argW m c)) (fD : Finite (argD m c)) (fP : Finite (argP m c))

/-- The arguments' reals, and the cotangent of the normalised rows. -/
abbrev gain : ℕ → ℝ := real1 (argG m c)
abbrev rX : ℕ → ℕ → ℝ := real2 (argX m c)
abbrev rD : ℕ → ℕ → ℝ := real2 (argD m c)
def rDH (r l : ℕ) : ℝ := ∑ k : Fin 3072, real2 (argP m c) r k * real2 (argW m c) l k

include fW fP in
theorem dh (t : Fin cfg0.N) (r : Fin 512) (l : Fin 1024) : k0_pay3 (iblk m c 0 t) (iblk m c 1 t) (ix2 r l) = (rDH m c (t.val * 512 + r) l : EReal) := by
  rw [product]
  simp only [left_rows, right_rows, at2_real fP, at2_real fW, ← EReal.coe_mul, coe_sum]
  rfl

include fX fG fW fD fP in
/-- The input blocks at grid point `t` hold the rows that the block lemmas ask for. -/
theorem blocks (t : Fin cfg0.N) :
    Blocks t.val (rX m c) (gain m c) (rDH m c) (rD m c) (iblk m c 0 t) (iblk m c 1 t) (iblk m c 2 t) (iblk m c 3 t) (iblk m c 4 t) := by
  obtain ⟨-, -, ⟨a2, b2⟩, ⟨a3, b3⟩, -⟩ := index_in t
  refine ⟨fun r l => dh m c fW fP t r l, fun r l => ?_, fun r l => ?_, fun k l => ?_⟩
  · exact (at2_at (argX m c) ((win0_2.rect t).emb (ix2 r l)) _ _ ((win0_2.rect_emb_val t (ix2 r l) 0).trans (by rw [a2]; rfl))
      ((win0_2.rect_emb_val t (ix2 r l) 1).trans (by rw [b2]; exact Nat.zero_add _))).trans (at2_real fX _ _)
  · exact (at2_at (argD m c) ((win0_3.rect t).emb (ix2 r l)) _ _ ((win0_3.rect_emb_val t (ix2 r l) 0).trans (by rw [a3]; rfl))
      ((win0_3.rect_emb_val t (ix2 r l) 1).trans (by rw [b3]; exact Nat.zero_add _))).trans (at2_real fD _ _)
  · exact (gain_row m c t k l).trans (at1_real fG l)

theorem outs_dx (t : Fin cfg0.N) :
    (outsAt0 m c t.val t.isLt).1 = (parts (iblk m c 0 t) (iblk m c 1 t) (iblk m c 2 t) (iblk m c 3 t) (iblk m c 4 t)).1
    ∧ (outsAt0 m c t.val t.isLt).2.1 = (parts (iblk m c 0 t) (iblk m c 1 t) (iblk m c 2 t) (iblk m c 3 t) (iblk m c 4 t)).2.1 := by
  rcases Nat.eq_zero_or_pos t.val with h | h
  · rw [outs_first m c t h]; exact ⟨rfl, rfl⟩
  · rw [outs_later m c t h _ rfl _ rfl]; exact ⟨rfl, rfl⟩

include fX fG fW fD fP in
/-- The gain's gradient after `n + 1` points: the sum of their parts. -/
theorem outs_sum (n : ℕ) (hn : n < cfg0.N) (k : Fin 1) (l : Fin 1024) :
    (outsAt0 m c n hn).2.2 (ix2 k l) = ((∑ t ∈ Finset.range (n + 1), ∑ r : Fin 512, gradG (rX m c) (rDH m c) (t * 512 + r) l : ℝ) : EReal) := by
  induction n with
  | zero =>
    have e : outsAt0 m c 0 hn = _ := outs_first m c ⟨0, hn⟩ rfl
    rw [e, Finset.sum_range_one]
    exact dg_sum (blocks m c fX fG fW fD fP ⟨0, hn⟩) k l
  | succ n ih =>
    have e : outsAt0 m c (n + 1) hn = _ := outs_later m c ⟨n + 1, hn⟩ (Nat.succ_pos n) _ rfl _ rfl
    rw [e, Finset.sum_range_succ, EReal.coe_add, ← ih (Nat.lt_of_succ_lt hn), ← dg_sum (blocks m c fX fG fW fD fP ⟨n + 1, hn⟩) k l]
    rfl

/-- The results as arrays. -/
def resX : S16384x1024.Idx → EReal := fun i => (gradX (rX m c) (gain m c) (rDH m c) (rD m c) (i 0).val (i 1).val : EReal)
def resG : S1x1024.Idx → EReal := fun i => ((∑ r : Fin 16384, gradG (rX m c) (rDH m c) r (i 1).val : ℝ) : EReal)

include fX fG fW fD fP in
theorem part_dx (t : Fin cfg0.N) (r : Fin 512) (l : Fin 1024) (i : S16384x1024.Idx) (h0 : (i 0).val = t.val * 512 + r.val) (h1 : (i 1).val = l.val) :
    k0_pay7 (iblk m c 0 t) (iblk m c 1 t) (iblk m c 2 t) (iblk m c 3 t) (iblk m c 4 t) (ix2 r l) = resX m c i := by
  rw [dx_block (blocks m c fX fG fW fD fP t)]
  unfold resX; rw [h0, h1]

include fX fG fW fD fP in
/-- At the last point the sum is complete. -/
theorem outs_last (t : Fin cfg0.N) (h : t.val = 31) (k : Fin 1) (l : Fin 1024) : (outsAt0 m c t.val t.isLt).2.2 (ix2 k l) = resG m c (ix2 k l) := by
  rw [outs_sum m c fX fG fW fD fP, show t.val + 1 = 32 by omega, sum_tiles 32 512 fun r => gradG (rX m c) (rDH m c) r l, ← Fin.sum_univ_eq_sum_range]
  unfold resG; rfl

attribute [local irreducible] resX resG

include fX fG fW fD fP in
/-- The activation's gradient array after the run. -/
theorem final_5 : (dats m 0 c).arrAt 5 cfg0.N = resX m c := by
  refine (dats m 0 c).arrAt_eq_of_cover 5 (resX m c) (fun t _ => ?_) (fun i => ?_)
  · rw [flushed5, (outs_dx m c t).1]
    funext y
    obtain ⟨r, l, rfl⟩ : ∃ (r : Fin 512) (l : Fin 1024), y = ix2 r l := ⟨y 0, y 1, eq_ix2 y⟩
    obtain ⟨a, b⟩ := (index_in t).2.2.2.2.2.1
    exact part_dx m c fX fG fW fD fP t r l ((win0_5.rect t).emb (ix2 r l)) ((win0_5.rect_emb_val t (ix2 r l) 0).trans (by rw [a]; rfl))
      ((win0_5.rect_emb_val t (ix2 r l) 1).trans (by rw [b]; exact Nat.zero_add _))
  · obtain ⟨r, l, rfl⟩ : ∃ (r : Fin 16384) (l : Fin 1024), i = ix2 r l := ⟨i 0, i 1, eq_ix2 i⟩
    have ht : r.val / 512 < 32 := by have hr := r.isLt; omega
    obtain ⟨a, b⟩ := (index_in ⟨r.val / 512, ht⟩).2.2.2.2.2.1
    have e : ix2 r l = ((cfg0.win 5).blk ⟨r.val / 512, ht⟩).view.emb (ix2 (⟨r.val % 512, Nat.mod_lt _ (by decide)⟩ : Fin 512) l) :=
      ext2 ((Nat.div_add_mod' r.val 512).symm.trans ((win0_5.rect_emb_val _ _ 0).trans (by rw [a]; rfl)).symm)
        ((win0_5.rect_emb_val _ _ 1).trans (by rw [b]; exact Nat.zero_add _)).symm
    exact ⟨⟨r.val / 512, ht⟩, flush0_5 _, e ▸ View.emb_mem_set _ _⟩

include fX fG fW fD fP in
/-- The same in the short format. -/
theorem final_6 : (dats m 0 c).arrAt 6 cfg0.N = resX m c := by
  refine (dats m 0 c).arrAt_eq_of_cover 6 (resX m c) (fun t _ => ?_) (fun i => ?_)
  · rw [flushed6, (outs_dx m c t).2]
    funext y
    obtain ⟨r, l, rfl⟩ : ∃ (r : Fin 512) (l : Fin 1024), y = ix2 r l := ⟨y 0, y 1, eq_ix2 y⟩
    obtain ⟨a, b⟩ := (index_in t).2.2.2.2.2.2.1
    exact part_dx m c fX fG fW fD fP t r l ((win0_6.rect t).emb (ix2 r l)) ((win0_6.rect_emb_val t (ix2 r l) 0).trans (by rw [a]; rfl))
      ((win0_6.rect_emb_val t (ix2 r l) 1).trans (by rw [b]; exact Nat.zero_add _))
  · obtain ⟨r, l, rfl⟩ : ∃ (r : Fin 16384) (l : Fin 1024), i = ix2 r l := ⟨i 0, i 1, eq_ix2 i⟩
    have ht : r.val / 512 < 32 := by have hr := r.isLt; omega
    obtain ⟨a, b⟩ := (index_in ⟨r.val / 512, ht⟩).2.2.2.2.2.2.1
    have e : ix2 r l = ((cfg0.win 6).blk ⟨r.val / 512, ht⟩).view.emb (ix2 (⟨r.val % 512, Nat.mod_lt _ (by decide)⟩ : Fin 512) l) :=
      ext2 ((Nat.div_add_mod' r.val 512).symm.trans ((win0_6.rect_emb_val _ _ 0).trans (by rw [a]; rfl)).symm)
        ((win0_6.rect_emb_val _ _ 1).trans (by rw [b]; exact Nat.zero_add _)).symm
    exact ⟨⟨r.val / 512, ht⟩, flush0_6 _, e ▸ View.emb_mem_set _ _⟩

include fX fG fW fD fP in
/-- The gain's gradient array after the run. -/
theorem final_7 : (dats m 0 c).arrAt 7 cfg0.N = resG m c := by
  have emb : ∀ (t : Fin cfg0.N) (k : Fin 1) (l : Fin 1024), (ix2 k l : S1x1024.Idx) = ((cfg0.win 7).blk t).view.emb (ix2 k l) := fun t k l => by
    obtain ⟨a, b⟩ := (index_in t).2.2.2.2.2.2.2
    exact ext2 ((win0_7.rect_emb_val t (ix2 k l) 0).trans (by rw [a]; exact Nat.zero_add _)).symm
      ((win0_7.rect_emb_val t (ix2 k l) 1).trans (by rw [b]; exact Nat.zero_add _)).symm
  refine (dats m 0 c).arrAt_eq_of_cover 7 (resG m c) (fun t ht => ?_) (fun i => ?_)
  · have h := (flush0_7 t).mp ht
    have hN : t.val < 32 := t.isLt
    rw [flushed7]
    funext y
    obtain ⟨k, l, rfl⟩ : ∃ (k : Fin 1) (l : Fin 1024), y = ix2 k l := ⟨y 0, y 1, eq_ix2 y⟩
    exact (outs_last m c fX fG fW fD fP t (by omega) k l).trans (congrArg (resG m c) (emb t k l))
  · obtain ⟨k, l, rfl⟩ : ∃ (k : Fin 1) (l : Fin 1024), i = ix2 k l := ⟨i 0, i 1, eq_ix2 i⟩
    exact ⟨⟨31, by decide⟩, (flush0_7 _).mpr rfl, (emb ⟨31, by decide⟩ k l) ▸ View.emb_mem_set _ _⟩

end Cert.ConvDx

end
-- ==== Proof.ConvDx.Reference.lean ====
module

public import proofs.«01_k».proof.Proof.Gen.ConvDxReferenceIdeal.Read
public import proofs.«01_k».proof.Proof.Tools.NormGrad

/-! The reference of the call that differentiates the short convolution's input projection and the norm before it: its results at an element, at finite arguments. -/

@[expose] public section

set_option maxRecDepth 16384

noncomputable section

namespace Cert.ConvDx

open Cert.ConvDxReferenceIdeal Cert.ConvDxReferenceIdeal.Read Cert.Tools
open Idealize.ShloMosaic

section

variable {X : ℕ → ℕ → ℝ} {G : ℕ → ℝ} {DH D : ℕ → ℕ → ℝ} {x0 x3 : (⟨S16384x1024, .f32⟩ : BufTy).Contents (Elt Ideal)} {x1 : (⟨S1024, .f32⟩ : BufTy).Contents (Elt Ideal)}
  {x2 : (⟨S1024x3072, .f32⟩ : BufTy).Contents (Elt Ideal)} {x4 : (⟨S16384x3072, .f32⟩ : BufTy).Contents (Elt Ideal)}
  (hx : ∀ (r : Fin 16384) (l : Fin 1024), x0 (ix2 r l) = (X r l : EReal)) (hg : ∀ l : Fin 1024, x1 (ix1 l) = (G l : EReal))
  (hd : ∀ (r : Fin 16384) (l : Fin 1024), x3 (ix2 r l) = (D r l : EReal))
  (hdh : ∀ (r : Fin 16384) (l : Fin 1024), val_main_v17 x2 x4 (ix2 r l) = (DH r l : EReal))
include hx hg hd hdh

theorem dx_ref (r : Fin 16384) (l : Fin 1024) : val_main_v38 x0 x1 x2 x3 x4 (ix2 r l) = (gradX X G DH D r l : EReal) := by
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v18, val_main_cst_3, val_main_v19, val_main_v20, val_main_v21, val_main_v22, val_main_cst_4, val_main_v23, val_main_v24, val_main_cst_5, val_main_v25, val_main_v26, val_main_v27, val_main_v28, val_main_v29, val_main_v30, val_main_cst_6, val_main_v31, val_main_v32, val_main_cst_7, val_main_v33, val_main_v34, val_main_v35, val_main_v36, val_main_v37, val_main_v38, val_main_v40]
  simp only [hx, hg, hd, hdh, bits_eps, bits_1024, bits_neg_half, bits_two, ← EReal.coe_mul, coe_sum, div_1024, ← EReal.coe_add, rsqrt_room, div_room, ← EReal.coe_sub, Finset.univ_unique, Finset.sum_singleton]
  refine congrArg _ ?_
  unfold gradX
  rw [← normBack_eq]
  simp only [mul_comm (DH r _)]
  ring

theorem dg_ref (k : Fin 1) (l : Fin 1024) : val_main_v40 x0 x2 x4 (ix2 k l) = ((∑ r : Fin 16384, gradG X DH r l : ℝ) : EReal) := by
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v18, val_main_cst_3, val_main_v19, val_main_v20, val_main_v21, val_main_v22, val_main_cst_4, val_main_v23, val_main_v24, val_main_cst_5, val_main_v25, val_main_v26, val_main_v27, val_main_v28, val_main_v29, val_main_v30, val_main_cst_6, val_main_v31, val_main_v32, val_main_cst_7, val_main_v33, val_main_v34, val_main_v35, val_main_v36, val_main_v37, val_main_v38, val_main_v40]
  simp only [hx, hg, hd, hdh, bits_eps, bits_1024, bits_neg_half, bits_two, ← EReal.coe_mul, coe_sum, div_1024, ← EReal.coe_add, rsqrt_room, div_room, ← EReal.coe_sub, Finset.univ_unique, Finset.sum_singleton]
  refine congrArg _ (Finset.sum_congr rfl fun r _ => ?_)
  unfold gradG; ring

end

end Cert.ConvDx

end
-- ==== Proof.ConvDx.Claims.lean ====
module

public import proofs.«01_k».proof.Defs
public import proofs.«01_k».proof.Proof.ConvDx.Arrays
public import proofs.«01_k».proof.Proof.ConvDx.Reference
public import proofs.«01_k».proof.Proof.Gen.ConvDxKernel.Frame
public import proofs.«01_k».proof.Proof.Gen.Pre_convdx_finite

/-! The claims about the call that differentiates the short convolution's input projection and the norm before it. -/

@[expose] public section

set_option maxRecDepth 16384

noncomputable section

namespace Cert.ConvDx

open Idealize.ShloMosaic Idealize.ShloMosaic.TcCoe Idealize.SL.Sem Cert.Tools

theorem frame_kernel : Cert.quiescent_ConvDxKernel := fun m ρ _ => Cert.ConvDxKernel.Gen.frame m ρ

theorem frame_kernelIdeal : Cert.quiescent_ConvDxKernelIdeal := fun m ρ _ => Cert.ConvDxKernelIdeal.Gen.frame m ρ

theorem frame_kernelIdeal_finite : Cert.quiescent_ConvDxKernelIdeal_pre_convdx_finite := fun m ρ _ => Cert.ConvDxKernelIdeal.Gen.frame m ρ

theorem frame_reference : Cert.quiescent_ConvDxReferenceIdeal := fun m ρ _ =>
  (θ_run _ _ _).mono (fun r h => ⟨fun c => (h c).2.2.2, sem_eq_zero_of_no_sems (sig := Cert.ConvDxReferenceIdeal.sig) (by decide) r.2⟩) (Cert.ConvDxReferenceIdeal.Value.run m ρ)

theorem frame_reference_finite : Cert.quiescent_ConvDxReferenceIdeal_pre_convdx_finite := fun m ρ _ => frame_reference m ρ trivial

variable (m : (ℓ : Loc Cert.ConvDxKernelIdeal.nD Cert.ConvDxKernelIdeal.τ Cert.ConvDxKernelIdeal.sig) → Buf (Elt Ideal) ℓ)

/-- The precondition says of each argument that it is finite. -/
theorem finite_args (hp : Cert.Pre_ConvDxKernelIdeal_convdx_finite m) (c : Dev Cert.ConvDxKernelIdeal.nD) :
    Finite (argX m c) ∧ Finite (argG m c) ∧ Finite (argW m c) ∧ Finite (argD m c) ∧ Finite (argP m c) :=
  ⟨finite_of_lt _ _ (fun _ => rfl) (hp c).1, finite_of_lt _ _ (fun _ => rfl) (hp c).2.1, finite_of_lt _ _ (fun _ => rfl) (hp c).2.2.1,
    finite_of_lt _ _ (fun _ => rfl) (hp c).2.2.2.1, finite_of_lt _ _ (fun _ => rfl) (hp c).2.2.2.2⟩

/-- The reference's cotangent of the normalised rows. -/
theorem dh_ref (c : Dev Cert.ConvDxKernelIdeal.nD) (fW : Finite (argW m c)) (fP : Finite (argP m c)) (r : Fin 16384) (l : Fin 1024) :
    (Cert.ConvDxReferenceIdeal.Read.val_main_v17 (F := Ideal) (argW m c) (argP m c) (ix2 r l) : EReal) = ((rDH m c r l : ℝ) : EReal) := by
  pointwise [Cert.ConvDxReferenceIdeal.Read.val_main_v17]
  simp only [ix_real fW, ix_real fP, ← EReal.coe_mul, coe_sum]
  rfl

theorem algebraic : Cert.algebraic_ConvDxKernelIdeal_ConvDxReferenceIdeal_pre_convdx_finite := fun m ρ m' ρ' hp hm =>
  ⟨fun c => resX m c, fun c => resX m c, fun c => resG m c,
    (θ_run _ _ _).mono (fun r h c => by
        obtain ⟨fX, fG, fW, fD, fP⟩ := finite_args m hp c
        exact ⟨(h c).1.trans (final_5 m c fX fG fW fD fP), (h c).2.1.trans (final_6 m c fX fG fW fD fP), (h c).2.2.1.trans (final_7 m c fX fG fW fD fP), (h c).2.2.2⟩)
      (Cert.ConvDxKernelIdeal.Value.run_blocks m ρ),
    (θ_run _ _ _).mono (fun r h c => by
        obtain ⟨fX, fG, fW, fD, fP⟩ := finite_args m hp c
        obtain ⟨hX, hG, hW, hD, hP⟩ := hm c
        refine ⟨(h c).1.trans ?_, (h c).2.1.trans ?_, (h c).2.2.1.trans ?_, (h c).2.2.2⟩
        · rw [Cert.ConvDxReferenceIdeal.Read.val_main_v38_eq, hX, hG, hW, hD, hP]
          funext i
          obtain ⟨k, l, rfl⟩ : ∃ (k : Fin 16384) (l : Fin 1024), i = ix2 k l := ⟨i 0, i 1, eq_ix2 i⟩
          exact dx_ref (ix_real fX) (at1_real fG) (ix_real fD) (dh_ref m c fW fP) k l
        · rw [Cert.ConvDxReferenceIdeal.Read.val_main_v39_eq, hX, hG, hW, hD, hP]
          funext i
          obtain ⟨k, l, rfl⟩ : ∃ (k : Fin 16384) (l : Fin 1024), i = ix2 k l := ⟨i 0, i 1, eq_ix2 i⟩
          exact dx_ref (ix_real fX) (at1_real fG) (ix_real fD) (dh_ref m c fW fP) k l
        · rw [Cert.ConvDxReferenceIdeal.Read.val_main_v40_eq, hX, hW, hP]
          funext i
          obtain ⟨k, l, rfl⟩ : ∃ (k : Fin 1) (l : Fin 1024), i = ix2 k l := ⟨i 0, i 1, eq_ix2 i⟩
          exact dg_ref (ix_real fX) (at1_real fG) (ix_real fD) (dh_ref m c fW fP) k l)
      (Cert.ConvDxReferenceIdeal.Value.run m' ρ')⟩

end Cert.ConvDx

end
-- ==== Proof.EvenDx.Block.lean ====
module

public import proofs.«01_k».proof.Proof.Gen.EvenDxKernelIdeal.Frame
public import proofs.«01_k».proof.Proof.Tools.NormGrad

/-! The gradient of the attention layer's input projection and of the norm before it, one block of 512 rows at a time. -/

@[expose] public section

set_option maxRecDepth 16384

noncomputable section

namespace Cert.EvenDx

open Cert.EvenDxKernelIdeal Cert.EvenDxKernelIdeal.Gen Cert.Tools
open Idealize.ShloMosaic Idealize.ShloMosaic.TcCoe Idealize.SL.Sem

/-- The block of the product that gives the cotangent of the normalised rows. -/
theorem product (x0 : Vec Ideal S512x1792 .bf16) (x1 : Vec Ideal S1024x1792 .f32) (r : Fin 512) (l : Fin 1024) :
    k0_pay3 x0 x1 (ix2 r l) = ∑ k : Fin 1792, (x0 (ix2 r k) : EReal) * x1 (ix2 l k) := by
  pointwise [k0_pay3]

/-- What the blocks at point `t` hold. -/
structure Blocks (t : ℕ) (X : ℕ → ℕ → ℝ) (G : ℕ → ℝ) (DH D : ℕ → ℕ → ℝ) (x0 : Vec Ideal S512x1792 .bf16) (x1 : Vec Ideal S1024x1792 .f32)
    (x2 x3 : Vec Ideal S512x1024 .f32) (x4 : Vec Ideal S1x1024 .f32) : Prop where
  dh : ∀ (r : Fin 512) (l : Fin 1024), k0_pay3 x0 x1 (ix2 r l) = (DH (t * 512 + r) l : EReal)
  x : ∀ (r : Fin 512) (l : Fin 1024), x2 (ix2 r l) = (X (t * 512 + r) l : EReal)
  d : ∀ (r : Fin 512) (l : Fin 1024), x3 (ix2 r l) = (D (t * 512 + r) l : EReal)
  g : ∀ (k : Fin 1) (l : Fin 1024), x4 (ix2 k l) = (G l : EReal)

section

variable {t : ℕ} {X : ℕ → ℕ → ℝ} {G : ℕ → ℝ} {DH D : ℕ → ℕ → ℝ} {x0 : Vec Ideal S512x1792 .bf16} {x1 : Vec Ideal S1024x1792 .f32}
  {x2 x3 : Vec Ideal S512x1024 .f32} {x4 : Vec Ideal S1x1024 .f32} (h : Blocks t X G DH D x0 x1 x2 x3 x4)
include h

theorem dx_block (r : Fin 512) (l : Fin 1024) : k0_pay7 x0 x1 x2 x3 x4 (ix2 r l) = (gradX X G DH D (t * 512 + r) l : EReal) := by
  pointwise [k0_pay7, k0_pay5, k0_pay4]
  simp only [h.dh, h.x, h.d, h.g, bits_eps, bits_1024, ← EReal.coe_mul, coe_sum, div_1024, ← EReal.coe_add, rsqrt_room, ← EReal.coe_sub]
  rfl

theorem dg_block (r : Fin 512) (l : Fin 1024) : k0_pay6 x0 x1 x2 (ix2 r l) = (gradG X DH (t * 512 + r) l : EReal) := by
  pointwise [k0_pay6, k0_pay5, k0_pay4]
  simp only [h.dh, h.x, bits_eps, bits_1024, ← EReal.coe_mul, coe_sum, div_1024, ← EReal.coe_add, rsqrt_room]
  rfl

/-- The block's part of the gradient by the gain. -/
theorem dg_sum (k : Fin 1) (l : Fin 1024) :
    k0_pay1 (k0_pay6 x0 x1 x2) (ix2 k l) = ((∑ r : Fin 512, gradG X DH (t * 512 + r) l : ℝ) : EReal) := by
  pointwise [k0_pay1]
  simp only [dg_block h, coe_sum]

end

end Cert.EvenDx

end
-- ==== Proof.Tools.Packed.lean ====
module

public import proofs.«01_k».proof.Proof.Tools.Real

/-! The column order of the attention layer's packed projection.

The 32 rotary columns 640 to 671 stand at 704 to 735 of the packed row, with zeros before and behind them up to a width
of 128; what follows them is moved up by 96. A sum of products of two packed rows is the sum over the plain columns. -/

@[expose] public section

noncomputable section

namespace Cert.Tools

open Idealize.ShloMosaic

/-- A row in the packed column order. -/
def packed (f : ℕ → EReal) (k : ℕ) : EReal :=
  if k < 640 then f k else if k < 704 then 0 else if k < 736 then f (k - 64) else if k < 768 then 0 else f (k - 96)

theorem packed_mul (f g : ℕ → EReal) (k : ℕ) : packed f k * packed g k = packed (fun j => f j * g j) k := by
  unfold packed; split_ifs <;> simp

theorem packed_sum (f : ℕ → EReal) : ∑ k : Fin 1792, packed f k = ∑ j : Fin 1696, f j := by
  have part : ∀ (g : ℕ → EReal) (a b : ℕ), ∑ k ∈ Finset.range (a + b), g k = ∑ k ∈ Finset.range a, g k + ∑ k ∈ Finset.range b, g (a + k) :=
    fun g a b => Finset.sum_range_add g a b
  rw [Fin.sum_univ_eq_sum_range (packed f) 1792, Fin.sum_univ_eq_sum_range f 1696, part _ 768 1024, part _ 736 32, part _ 704 32, part _ 640 64,
    part f 672 1024, part f 640 32]
  have h1 : ∀ k ∈ Finset.range 640, packed f k = f k := fun k hk => by have := Finset.mem_range.mp hk; unfold packed; rw [if_pos this]
  have h2 : ∀ k ∈ Finset.range 64, packed f (640 + k) = 0 := fun k hk => by
    have := Finset.mem_range.mp hk; unfold packed; rw [if_neg (by omega), if_pos (by omega)]
  have h3 : ∀ k ∈ Finset.range 32, packed f (704 + k) = f (640 + k) := fun k hk => by
    have := Finset.mem_range.mp hk; unfold packed
    rw [if_neg (by omega), if_neg (by omega), if_pos (by omega), show 704 + k - 64 = 640 + k by omega]
  have h4 : ∀ k ∈ Finset.range 32, packed f (736 + k) = 0 := fun k hk => by
    have := Finset.mem_range.mp hk; unfold packed; rw [if_neg (by omega), if_neg (by omega), if_neg (by omega), if_pos (by omega)]
  have h5 : ∀ k ∈ Finset.range 1024, packed f (768 + k) = f (672 + k) := fun k hk => by
    unfold packed
    rw [if_neg (by omega), if_neg (by omega), if_neg (by omega), if_neg (by omega), show 768 + k - 96 = 672 + k by omega]
  rw [Finset.sum_congr rfl h1, Finset.sum_congr rfl h2, Finset.sum_congr rfl h3, Finset.sum_congr rfl h4, Finset.sum_congr rfl h5]
  simp

/-- A row whose rotary columns were cut out, padded and put back between the others is in the packed order. -/
theorem packed_read {R : ℕ} (v : (⟨2, ![R, 1696]⟩ : Shape).Idx → EReal) (r : Fin R) (k : Fin 1792) (z : EReal) (hz : z = 0) :
    (if h : k.val < 640 then v (ix2 r (⟨k.val, by omega⟩ : Fin 1696))
      else if h' : k.val - 640 < 128 then
        if h'' : 64 ≤ k.val - 640 ∧ k.val - 640 - 64 < 32 then v (ix2 r (⟨640 + (k.val - 640 - 64), by omega⟩ : Fin 1696)) else z
      else v (ix2 r (⟨672 + (k.val - 640 - 128), by omega⟩ : Fin 1696))) = packed (at2 v r) k := by
  have e : ∀ (a b : ℕ) (ha : a < 1696), a = b → v (ix2 r (⟨a, ha⟩ : Fin 1696)) = at2 v r b := fun a b ha h => by
    subst h; exact (at2_ix v r ⟨a, ha⟩).symm
  unfold packed
  split_ifs <;> first | exact hz | (exact e _ _ _ (by omega)) | omega

end Cert.Tools

end
-- ==== Proof.EvenDx.Arrays.lean ====
module

public import proofs.«01_k».proof.Proof.Gen.EvenDxKernelIdeal.Value
public import proofs.«01_k».proof.Proof.EvenDx.Block
public import proofs.«01_k».proof.Proof.Tools.Packed
public import Idealize.ShloMosaic.Lib.StableHlo.ReadAt

/-! The gradient of the attention layer's input projection and of the norm before it: what the call leaves in its three result arrays at finite arguments.

The gradient by the activation is written once, 512 rows at a grid point, in both formats. The gain's gradient stays in
place through the grid: the first point writes its part, each later one adds its own. -/

@[expose] public section

set_option maxRecDepth 16384

noncomputable section

namespace Cert.EvenDx

open Cert.EvenDxKernelIdeal Cert.EvenDxKernelIdeal.Gen Cert.EvenDxKernelIdeal.Value Cert.Tools
open Idealize.ShloMosaic Idealize.ShloMosaic.TcCoe Idealize.SL.Sem
open Idealize.ShloMosaic.Pipeline (Dat)

variable (m : (ℓ : Loc nD τ sig) → Buf (Elt Ideal) ℓ) (c : Dev nD)

/-- The five arguments as the launch holds them. -/
abbrev argX : S16384x1024.Idx → EReal := m ((c : Thread nD τ).loc main_arg0)
abbrev argG : S1024.Idx → EReal := m ((c : Thread nD τ).loc main_arg1)
abbrev argW : S1024x1696.Idx → EReal := m ((c : Thread nD τ).loc main_arg2)
abbrev argD : S16384x1024.Idx → EReal := m ((c : Thread nD τ).loc main_arg3)
abbrev argP : S16384x1696.Idx → EReal := m ((c : Thread nD τ).loc main_arg4)

/-- What the body leaves in its three output blocks at a point where no part was added before. -/
abbrev parts (x0 : Vec Ideal S512x1792 .bf16) (x1 : Vec Ideal S1024x1792 .f32) (x2 x3 : Vec Ideal S512x1024 .f32) (x4 : Vec Ideal S1x1024 .f32) :
    Vec Ideal S512x1024 .f32 × Vec Ideal S512x1024 .bf16 × Vec Ideal S1x1024 .f32 :=
  (k0_pay7 x0 x1 x2 x3 x4, k0_pay8 x0 x1 x2 x3 x4, k0_pay1 (k0_pay6 x0 x1 x2))

theorem outs_first (t : Fin cfg0.N) (ht : t.val = 0) :
    outsAt0 m c t.val t.isLt = parts (iblk m c 0 t) (iblk m c 1 t) (iblk m c 2 t) (iblk m c 3 t) (iblk m c 4 t) := by
  rw [outsAt0_A m c t (by omega) (by omega)]
  unfold out0_A_5 out0_A_6 out0_A_7
  rw [View.read_writes_eq_canon _ _ _ (fun y => cover0_A_5 (y := y) ..), View.read_writes_eq_canon _ _ _ (fun y => cover0_A_6 (y := y) ..),
    View.read_writes_eq_canon _ _ _ (fun y => cover0_A_7 (y := y) ..)]
  unfold kernelRun0_A; dsimp only; sl_unfold_words
  simp only [View.readAt_eq_ld, (hs0_0 t).read_unread, (hs0_1 t).read_unread, (hs0_2 t).read_unread, (hs0_3 t).read_unread, (hs0_4 t).read_unread,
    View.ld_unit_zero (S := S512x1792) zero2, View.ld_unit_zero (S := S1024x1792) zero2, View.ld_unit_zero (S := S512x1024) zero2, View.ld_unit_zero (S := S1x1024) zero2]
  unfold parts
  refine Prod.ext ?_ (Prod.ext ?_ ?_) <;> dsimp only <;> rw [View.canon_unit_zero zero2]

theorem outs_later (t : Fin cfg0.N) (ht : 1 ≤ t.val) (o) (ho : o = outsAt0 m c (t.val - 1) (Nat.lt_of_le_of_lt (Nat.sub_le _ _) t.isLt)) (p)
    (hp : p = parts (iblk m c 0 t) (iblk m c 1 t) (iblk m c 2 t) (iblk m c 3 t) (iblk m c 4 t)) :
    outsAt0 m c t.val t.isLt = (p.1, p.2.1, plus o.2.2 p.2.2) := by
  have hN : t.val < 32 := t.isLt
  subst ho hp
  rw [outsAt0_B m c t (by omega) ht]
  unfold out0_B_5 out0_B_6 out0_B_7
  rw [View.read_writes_eq_canon _ _ _ (fun y => cover0_B_5 (y := y) ..), View.read_writes_eq_canon _ _ _ (fun y => cover0_B_6 (y := y) ..),
    View.read_writes_eq_canon _ _ _ (fun y => cover0_B_7 (y := y) ..)]
  unfold kernelRun0_B; dsimp only; sl_unfold_words
  simp only [View.readAt_eq_ld, (hs0_0 t).read_unread, (hs0_1 t).read_unread, (hs0_2 t).read_unread, (hs0_3 t).read_unread, (hs0_4 t).read_unread, (hs0_7 t).read_unread,
    View.ld_unit_zero (S := S512x1792) zero2, View.ld_unit_zero (S := S1024x1792) zero2, View.ld_unit_zero (S := S512x1024) zero2, View.ld_unit_zero (S := S1x1024) zero2]
  unfold k0_pay2
  refine Prod.ext ?_ (Prod.ext ?_ ?_) <;> dsimp only <;> rw [View.canon_unit_zero zero2]
  rw [shapeCast_self]; rfl

theorem index_in : ∀ t : Fin grid0.N,
    (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = t.val ∧ win0_3.index t 1 = 0)
    ∧ (win0_4.index t 0 = 0 ∧ win0_4.index t 1 = 0) ∧ (win0_5.index t 0 = t.val ∧ win0_5.index t 1 = 0)
    ∧ (win0_6.index t 0 = t.val ∧ win0_6.index t 1 = 0) ∧ (win0_7.index t 0 = 0 ∧ win0_7.index t 1 = 0) := by decide +kernel

/-- The gain's row, as the region's fifth operand holds it. -/
theorem gain_row (t : Fin cfg0.N) (k : Fin 1) (l : Fin 1024) : iblk m c 4 t (ix2 k l) = argG m c (ix1 l) := by
  obtain ⟨-, -, -, -, ⟨a, b⟩, -⟩ := index_in t
  have e : (win0_4.rect t).emb (ix2 k l) = (ix2 k l : S1x1024.Idx) :=
    ext2 ((win0_4.rect_emb_val t (ix2 k l) 0).trans (by rw [a]; exact Nat.zero_add _)) ((win0_4.rect_emb_val t (ix2 k l) 1).trans (by rw [b]; exact Nat.zero_add _))
  have h : V m c main_v11 (ix2 k l) = argG m c (ix1 l) := by
    simp only [V, hostOps0, hostOps0_1, hostOps0_2, hostOps0_3, hostOps0_4, List.flatten_cons, List.flatten_nil, List.cons_append, List.nil_append]
    after_reads_at

  exact (congrArg (V m c main_v11) e).trans h

/-- The two factors of the product, as the region's first operands hold them. -/
theorem left_rows (t : Fin cfg0.N) (r : Fin 512) (k : Fin 1792) : iblk m c 0 t (ix2 r k) = packed (at2 (argP m c) (t.val * 512 + r)) k := by
  obtain ⟨⟨a, b⟩, -⟩ := index_in t
  have hN : t.val < 32 := t.isLt
  have e : (win0_0.rect t).emb (ix2 r k) = (ix2 (⟨t.val * 512 + r, by omega⟩ : Fin 16384) k : S16384x1792.Idx) :=
    ext2 ((win0_0.rect_emb_val t (ix2 r k) 0).trans (by rw [a]; rfl)) ((win0_0.rect_emb_val t (ix2 r k) 1).trans (by rw [b]; exact Nat.zero_add _))
  have h : ∀ R : Fin 16384, V m c main_v5 (ix2 R k) = packed (at2 (argP m c) R) k := fun R => by
    simp only [V, hostOps0, hostOps0_1, hostOps0_2, hostOps0_3, hostOps0_4, List.flatten_cons, List.flatten_nil, List.cons_append, List.nil_append]
    after_reads_at
    after_reads_at
    exact packed_read (argP m c) R k _ (by simp [FloatOps.sitofp])
  exact (congrArg (V m c main_v5) e).trans (h _)

theorem right_rows (t : Fin cfg0.N) (l : Fin 1024) (k : Fin 1792) : iblk m c 1 t (ix2 l k) = packed (at2 (argW m c) l) k := by
  obtain ⟨-, ⟨a, b⟩, -⟩ := index_in t
  have e : (win0_1.rect t).emb (ix2 l k) = (ix2 l k : S1024x1792.Idx) :=
    ext2 ((win0_1.rect_emb_val t (ix2 l k) 0).trans (by rw [a]; exact Nat.zero_add _)) ((win0_1.rect_emb_val t (ix2 l k) 1).trans (by rw [b]; exact Nat.zero_add _))
  have h : V m c main_v10 (ix2 l k) = packed (at2 (argW m c) l) k := by
    simp only [V, hostOps0, hostOps0_1, hostOps0_2, hostOps0_3, hostOps0_4, List.flatten_cons, List.flatten_nil, List.cons_append, List.nil_append]
    after_reads_at
    after_reads_at
    exact packed_read (argW m c) l k _ (by simp [FloatOps.sitofp])
  exact (congrArg (V m c main_v10) e).trans h

variable (fX : Finite (argX m c)) (fG : Finite (argG m c)) (fW : Finite (argW m c)) (fD : Finite (argD m c)) (fP : Finite (argP m c))

/-- The arguments' reals, and the cotangent of the normalised rows. -/
abbrev gain : ℕ → ℝ := real1 (argG m c)
abbrev rX : ℕ → ℕ → ℝ := real2 (argX m c)
abbrev rD : ℕ → ℕ → ℝ := real2 (argD m c)
def rDH (r l : ℕ) : ℝ := ∑ k : Fin 1696, real2 (argP m c) r k * real2 (argW m c) l k

include fW fP in
theorem dh (t : Fin cfg0.N) (r : Fin 512) (l : Fin 1024) : k0_pay3 (iblk m c 0 t) (iblk m c 1 t) (ix2 r l) = (rDH m c (t.val * 512 + r) l : EReal) := by
  rw [product]
  simp only [left_rows, right_rows, packed_mul]
  rw [packed_sum]
  simp only [at2_real fP, at2_real fW, ← EReal.coe_mul, coe_sum]
  rfl

include fX fG fW fD fP in
/-- The input blocks at grid point `t` hold the rows that the block lemmas ask for. -/
theorem blocks (t : Fin cfg0.N) :
    Blocks t.val (rX m c) (gain m c) (rDH m c) (rD m c) (iblk m c 0 t) (iblk m c 1 t) (iblk m c 2 t) (iblk m c 3 t) (iblk m c 4 t) := by
  obtain ⟨-, -, ⟨a2, b2⟩, ⟨a3, b3⟩, -⟩ := index_in t
  refine ⟨fun r l => dh m c fW fP t r l, fun r l => ?_, fun r l => ?_, fun k l => ?_⟩
  · exact (at2_at (argX m c) ((win0_2.rect t).emb (ix2 r l)) _ _ ((win0_2.rect_emb_val t (ix2 r l) 0).trans (by rw [a2]; rfl))
      ((win0_2.rect_emb_val t (ix2 r l) 1).trans (by rw [b2]; exact Nat.zero_add _))).trans (at2_real fX _ _)
  · exact (at2_at (argD m c) ((win0_3.rect t).emb (ix2 r l)) _ _ ((win0_3.rect_emb_val t (ix2 r l) 0).trans (by rw [a3]; rfl))
      ((win0_3.rect_emb_val t (ix2 r l) 1).trans (by rw [b3]; exact Nat.zero_add _))).trans (at2_real fD _ _)
  · exact (gain_row m c t k l).trans (at1_real fG l)

theorem outs_dx (t : Fin cfg0.N) :
    (outsAt0 m c t.val t.isLt).1 = (parts (iblk m c 0 t) (iblk m c 1 t) (iblk m c 2 t) (iblk m c 3 t) (iblk m c 4 t)).1
    ∧ (outsAt0 m c t.val t.isLt).2.1 = (parts (iblk m c 0 t) (iblk m c 1 t) (iblk m c 2 t) (iblk m c 3 t) (iblk m c 4 t)).2.1 := by
  rcases Nat.eq_zero_or_pos t.val with h | h
  · rw [outs_first m c t h]; exact ⟨rfl, rfl⟩
  · rw [outs_later m c t h _ rfl _ rfl]; exact ⟨rfl, rfl⟩

include fX fG fW fD fP in
/-- The gain's gradient after `n + 1` points: the sum of their parts. -/
theorem outs_sum (n : ℕ) (hn : n < cfg0.N) (k : Fin 1) (l : Fin 1024) :
    (outsAt0 m c n hn).2.2 (ix2 k l) = ((∑ t ∈ Finset.range (n + 1), ∑ r : Fin 512, gradG (rX m c) (rDH m c) (t * 512 + r) l : ℝ) : EReal) := by
  induction n with
  | zero =>
    have e : outsAt0 m c 0 hn = _ := outs_first m c ⟨0, hn⟩ rfl
    rw [e, Finset.sum_range_one]
    exact dg_sum (blocks m c fX fG fW fD fP ⟨0, hn⟩) k l
  | succ n ih =>
    have e : outsAt0 m c (n + 1) hn = _ := outs_later m c ⟨n + 1, hn⟩ (Nat.succ_pos n) _ rfl _ rfl
    rw [e, Finset.sum_range_succ, EReal.coe_add, ← ih (Nat.lt_of_succ_lt hn), ← dg_sum (blocks m c fX fG fW fD fP ⟨n + 1, hn⟩) k l]
    rfl

/-- The results as arrays. -/
def resX : S16384x1024.Idx → EReal := fun i => (gradX (rX m c) (gain m c) (rDH m c) (rD m c) (i 0).val (i 1).val : EReal)
def resG : S1x1024.Idx → EReal := fun i => ((∑ r : Fin 16384, gradG (rX m c) (rDH m c) r (i 1).val : ℝ) : EReal)

include fX fG fW fD fP in
theorem part_dx (t : Fin cfg0.N) (r : Fin 512) (l : Fin 1024) (i : S16384x1024.Idx) (h0 : (i 0).val = t.val * 512 + r.val) (h1 : (i 1).val = l.val) :
    k0_pay7 (iblk m c 0 t) (iblk m c 1 t) (iblk m c 2 t) (iblk m c 3 t) (iblk m c 4 t) (ix2 r l) = resX m c i := by
  rw [dx_block (blocks m c fX fG fW fD fP t)]
  unfold resX; rw [h0, h1]

include fX fG fW fD fP in
/-- At the last point the sum is complete. -/
theorem outs_last (t : Fin cfg0.N) (h : t.val = 31) (k : Fin 1) (l : Fin 1024) : (outsAt0 m c t.val t.isLt).2.2 (ix2 k l) = resG m c (ix2 k l) := by
  rw [outs_sum m c fX fG fW fD fP, show t.val + 1 = 32 by omega, sum_tiles 32 512 fun r => gradG (rX m c) (rDH m c) r l, ← Fin.sum_univ_eq_sum_range]
  unfold resG; rfl

attribute [local irreducible] resX resG

include fX fG fW fD fP in
/-- The activation's gradient array after the run. -/
theorem final_5 : (dats m 0 c).arrAt 5 cfg0.N = resX m c := by
  refine (dats m 0 c).arrAt_eq_of_cover 5 (resX m c) (fun t _ => ?_) (fun i => ?_)
  · rw [flushed5, (outs_dx m c t).1]
    funext y
    obtain ⟨r, l, rfl⟩ : ∃ (r : Fin 512) (l : Fin 1024), y = ix2 r l := ⟨y 0, y 1, eq_ix2 y⟩
    obtain ⟨a, b⟩ := (index_in t).2.2.2.2.2.1
    exact part_dx m c fX fG fW fD fP t r l ((win0_5.rect t).emb (ix2 r l)) ((win0_5.rect_emb_val t (ix2 r l) 0).trans (by rw [a]; rfl))
      ((win0_5.rect_emb_val t (ix2 r l) 1).trans (by rw [b]; exact Nat.zero_add _))
  · obtain ⟨r, l, rfl⟩ : ∃ (r : Fin 16384) (l : Fin 1024), i = ix2 r l := ⟨i 0, i 1, eq_ix2 i⟩
    have ht : r.val / 512 < 32 := by have hr := r.isLt; omega
    obtain ⟨a, b⟩ := (index_in ⟨r.val / 512, ht⟩).2.2.2.2.2.1
    have e : ix2 r l = ((cfg0.win 5).blk ⟨r.val / 512, ht⟩).view.emb (ix2 (⟨r.val % 512, Nat.mod_lt _ (by decide)⟩ : Fin 512) l) :=
      ext2 ((Nat.div_add_mod' r.val 512).symm.trans ((win0_5.rect_emb_val _ _ 0).trans (by rw [a]; rfl)).symm)
        ((win0_5.rect_emb_val _ _ 1).trans (by rw [b]; exact Nat.zero_add _)).symm
    exact ⟨⟨r.val / 512, ht⟩, flush0_5 _, e ▸ View.emb_mem_set _ _⟩

include fX fG fW fD fP in
/-- The same in the short format. -/
theorem final_6 : (dats m 0 c).arrAt 6 cfg0.N = resX m c := by
  refine (dats m 0 c).arrAt_eq_of_cover 6 (resX m c) (fun t _ => ?_) (fun i => ?_)
  · rw [flushed6, (outs_dx m c t).2]
    funext y
    obtain ⟨r, l, rfl⟩ : ∃ (r : Fin 512) (l : Fin 1024), y = ix2 r l := ⟨y 0, y 1, eq_ix2 y⟩
    obtain ⟨a, b⟩ := (index_in t).2.2.2.2.2.2.1
    exact part_dx m c fX fG fW fD fP t r l ((win0_6.rect t).emb (ix2 r l)) ((win0_6.rect_emb_val t (ix2 r l) 0).trans (by rw [a]; rfl))
      ((win0_6.rect_emb_val t (ix2 r l) 1).trans (by rw [b]; exact Nat.zero_add _))
  · obtain ⟨r, l, rfl⟩ : ∃ (r : Fin 16384) (l : Fin 1024), i = ix2 r l := ⟨i 0, i 1, eq_ix2 i⟩
    have ht : r.val / 512 < 32 := by have hr := r.isLt; omega
    obtain ⟨a, b⟩ := (index_in ⟨r.val / 512, ht⟩).2.2.2.2.2.2.1
    have e : ix2 r l = ((cfg0.win 6).blk ⟨r.val / 512, ht⟩).view.emb (ix2 (⟨r.val % 512, Nat.mod_lt _ (by decide)⟩ : Fin 512) l) :=
      ext2 ((Nat.div_add_mod' r.val 512).symm.trans ((win0_6.rect_emb_val _ _ 0).trans (by rw [a]; rfl)).symm)
        ((win0_6.rect_emb_val _ _ 1).trans (by rw [b]; exact Nat.zero_add _)).symm
    exact ⟨⟨r.val / 512, ht⟩, flush0_6 _, e ▸ View.emb_mem_set _ _⟩

include fX fG fW fD fP in
/-- The gain's gradient array after the run. -/
theorem final_7 : (dats m 0 c).arrAt 7 cfg0.N = resG m c := by
  have emb : ∀ (t : Fin cfg0.N) (k : Fin 1) (l : Fin 1024), (ix2 k l : S1x1024.Idx) = ((cfg0.win 7).blk t).view.emb (ix2 k l) := fun t k l => by
    obtain ⟨a, b⟩ := (index_in t).2.2.2.2.2.2.2
    exact ext2 ((win0_7.rect_emb_val t (ix2 k l) 0).trans (by rw [a]; exact Nat.zero_add _)).symm
      ((win0_7.rect_emb_val t (ix2 k l) 1).trans (by rw [b]; exact Nat.zero_add _)).symm
  refine (dats m 0 c).arrAt_eq_of_cover 7 (resG m c) (fun t ht => ?_) (fun i => ?_)
  · have h := (flush0_7 t).mp ht
    have hN : t.val < 32 := t.isLt
    rw [flushed7]
    funext y
    obtain ⟨k, l, rfl⟩ : ∃ (k : Fin 1) (l : Fin 1024), y = ix2 k l := ⟨y 0, y 1, eq_ix2 y⟩
    exact (outs_last m c fX fG fW fD fP t (by omega) k l).trans (congrArg (resG m c) (emb t k l))
  · obtain ⟨k, l, rfl⟩ : ∃ (k : Fin 1) (l : Fin 1024), i = ix2 k l := ⟨i 0, i 1, eq_ix2 i⟩
    exact ⟨⟨31, by decide⟩, (flush0_7 _).mpr rfl, (emb ⟨31, by decide⟩ k l) ▸ View.emb_mem_set _ _⟩

end Cert.EvenDx

end
-- ==== Proof.EvenDx.Reference.lean ====
module

public import proofs.«01_k».proof.Proof.Gen.EvenDxReferenceIdeal.Read
public import proofs.«01_k».proof.Proof.Tools.NormGrad

/-! The reference of the call that differentiates the attention layer's input projection and the norm before it: its results at an element, at finite arguments. -/

@[expose] public section

set_option maxRecDepth 16384

noncomputable section

namespace Cert.EvenDx

open Cert.EvenDxReferenceIdeal Cert.EvenDxReferenceIdeal.Read Cert.Tools
open Idealize.ShloMosaic

section

variable {X : ℕ → ℕ → ℝ} {G : ℕ → ℝ} {DH D : ℕ → ℕ → ℝ} {x0 x3 : (⟨S16384x1024, .f32⟩ : BufTy).Contents (Elt Ideal)} {x1 : (⟨S1024, .f32⟩ : BufTy).Contents (Elt Ideal)}
  {x2 : (⟨S1024x1696, .f32⟩ : BufTy).Contents (Elt Ideal)} {x4 : (⟨S16384x1696, .f32⟩ : BufTy).Contents (Elt Ideal)}
  (hx : ∀ (r : Fin 16384) (l : Fin 1024), x0 (ix2 r l) = (X r l : EReal)) (hg : ∀ l : Fin 1024, x1 (ix1 l) = (G l : EReal))
  (hd : ∀ (r : Fin 16384) (l : Fin 1024), x3 (ix2 r l) = (D r l : EReal))
  (hdh : ∀ (r : Fin 16384) (l : Fin 1024), val_main_v17 x2 x4 (ix2 r l) = (DH r l : EReal))
include hx hg hd hdh

theorem dx_ref (r : Fin 16384) (l : Fin 1024) : val_main_v38 x0 x1 x2 x3 x4 (ix2 r l) = (gradX X G DH D r l : EReal) := by
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v18, val_main_cst_3, val_main_v19, val_main_v20, val_main_v21, val_main_v22, val_main_cst_4, val_main_v23, val_main_v24, val_main_cst_5, val_main_v25, val_main_v26, val_main_v27, val_main_v28, val_main_v29, val_main_v30, val_main_cst_6, val_main_v31, val_main_v32, val_main_cst_7, val_main_v33, val_main_v34, val_main_v35, val_main_v36, val_main_v37, val_main_v38, val_main_v40]
  simp only [hx, hg, hd, hdh, bits_eps, bits_1024, bits_neg_half, bits_two, ← EReal.coe_mul, coe_sum, div_1024, ← EReal.coe_add, rsqrt_room, div_room, ← EReal.coe_sub, Finset.univ_unique, Finset.sum_singleton]
  refine congrArg _ ?_
  unfold gradX
  rw [← normBack_eq]
  simp only [mul_comm (DH r _)]
  ring

theorem dg_ref (k : Fin 1) (l : Fin 1024) : val_main_v40 x0 x2 x4 (ix2 k l) = ((∑ r : Fin 16384, gradG X DH r l : ℝ) : EReal) := by
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v18, val_main_cst_3, val_main_v19, val_main_v20, val_main_v21, val_main_v22, val_main_cst_4, val_main_v23, val_main_v24, val_main_cst_5, val_main_v25, val_main_v26, val_main_v27, val_main_v28, val_main_v29, val_main_v30, val_main_cst_6, val_main_v31, val_main_v32, val_main_cst_7, val_main_v33, val_main_v34, val_main_v35, val_main_v36, val_main_v37, val_main_v38, val_main_v40]
  simp only [hx, hg, hd, hdh, bits_eps, bits_1024, bits_neg_half, bits_two, ← EReal.coe_mul, coe_sum, div_1024, ← EReal.coe_add, rsqrt_room, div_room, ← EReal.coe_sub, Finset.univ_unique, Finset.sum_singleton]
  refine congrArg _ (Finset.sum_congr rfl fun r _ => ?_)
  unfold gradG; ring

end

end Cert.EvenDx

end
-- ==== Proof.EvenDx.Claims.lean ====
module

public import proofs.«01_k».proof.Defs
public import proofs.«01_k».proof.Proof.EvenDx.Arrays
public import proofs.«01_k».proof.Proof.EvenDx.Reference
public import proofs.«01_k».proof.Proof.Gen.EvenDxKernel.Frame
public import proofs.«01_k».proof.Proof.Gen.Pre_evendx_finite

/-! The claims about the call that differentiates the attention layer's packed projection and the norm before it. -/

@[expose] public section

set_option maxRecDepth 16384

noncomputable section

namespace Cert.EvenDx

open Idealize.ShloMosaic Idealize.ShloMosaic.TcCoe Idealize.SL.Sem Cert.Tools

theorem frame_kernel : Cert.quiescent_EvenDxKernel := fun m ρ _ => Cert.EvenDxKernel.Gen.frame m ρ

theorem frame_kernelIdeal : Cert.quiescent_EvenDxKernelIdeal := fun m ρ _ => Cert.EvenDxKernelIdeal.Gen.frame m ρ

theorem frame_kernelIdeal_finite : Cert.quiescent_EvenDxKernelIdeal_pre_evendx_finite := fun m ρ _ => Cert.EvenDxKernelIdeal.Gen.frame m ρ

theorem frame_reference : Cert.quiescent_EvenDxReferenceIdeal := fun m ρ _ =>
  (θ_run _ _ _).mono (fun r h => ⟨fun c => (h c).2.2.2, sem_eq_zero_of_no_sems (sig := Cert.EvenDxReferenceIdeal.sig) (by decide) r.2⟩) (Cert.EvenDxReferenceIdeal.Value.run m ρ)

theorem frame_reference_finite : Cert.quiescent_EvenDxReferenceIdeal_pre_evendx_finite := fun m ρ _ => frame_reference m ρ trivial

variable (m : (ℓ : Loc Cert.EvenDxKernelIdeal.nD Cert.EvenDxKernelIdeal.τ Cert.EvenDxKernelIdeal.sig) → Buf (Elt Ideal) ℓ)

/-- The precondition says of each argument that it is finite. -/
theorem finite_args (hp : Cert.Pre_EvenDxKernelIdeal_evendx_finite m) (c : Dev Cert.EvenDxKernelIdeal.nD) :
    Finite (argX m c) ∧ Finite (argG m c) ∧ Finite (argW m c) ∧ Finite (argD m c) ∧ Finite (argP m c) :=
  ⟨finite_of_lt _ _ (fun _ => rfl) (hp c).1, finite_of_lt _ _ (fun _ => rfl) (hp c).2.1, finite_of_lt _ _ (fun _ => rfl) (hp c).2.2.1,
    finite_of_lt _ _ (fun _ => rfl) (hp c).2.2.2.1, finite_of_lt _ _ (fun _ => rfl) (hp c).2.2.2.2⟩

/-- The reference's cotangent of the normalised rows. -/
theorem dh_ref (c : Dev Cert.EvenDxKernelIdeal.nD) (fW : Finite (argW m c)) (fP : Finite (argP m c)) (r : Fin 16384) (l : Fin 1024) :
    (Cert.EvenDxReferenceIdeal.Read.val_main_v17 (F := Ideal) (argW m c) (argP m c) (ix2 r l) : EReal) = ((rDH m c r l : ℝ) : EReal) := by
  pointwise [Cert.EvenDxReferenceIdeal.Read.val_main_v17]
  simp only [ix_real fW, ix_real fP, ← EReal.coe_mul, coe_sum]
  rfl

theorem algebraic : Cert.algebraic_EvenDxKernelIdeal_EvenDxReferenceIdeal_pre_evendx_finite := fun m ρ m' ρ' hp hm =>
  ⟨fun c => resX m c, fun c => resX m c, fun c => resG m c,
    (θ_run _ _ _).mono (fun r h c => by
        obtain ⟨fX, fG, fW, fD, fP⟩ := finite_args m hp c
        exact ⟨(h c).1.trans (final_5 m c fX fG fW fD fP), (h c).2.1.trans (final_6 m c fX fG fW fD fP), (h c).2.2.1.trans (final_7 m c fX fG fW fD fP), (h c).2.2.2⟩)
      (Cert.EvenDxKernelIdeal.Value.run_blocks m ρ),
    (θ_run _ _ _).mono (fun r h c => by
        obtain ⟨fX, fG, fW, fD, fP⟩ := finite_args m hp c
        obtain ⟨hX, hG, hW, hD, hP⟩ := hm c
        refine ⟨(h c).1.trans ?_, (h c).2.1.trans ?_, (h c).2.2.1.trans ?_, (h c).2.2.2⟩
        · rw [Cert.EvenDxReferenceIdeal.Read.val_main_v38_eq, hX, hG, hW, hD, hP]
          funext i
          obtain ⟨k, l, rfl⟩ : ∃ (k : Fin 16384) (l : Fin 1024), i = ix2 k l := ⟨i 0, i 1, eq_ix2 i⟩
          exact dx_ref (ix_real fX) (at1_real fG) (ix_real fD) (dh_ref m c fW fP) k l
        · rw [Cert.EvenDxReferenceIdeal.Read.val_main_v39_eq, hX, hG, hW, hD, hP]
          funext i
          obtain ⟨k, l, rfl⟩ : ∃ (k : Fin 16384) (l : Fin 1024), i = ix2 k l := ⟨i 0, i 1, eq_ix2 i⟩
          exact dx_ref (ix_real fX) (at1_real fG) (ix_real fD) (dh_ref m c fW fP) k l
        · rw [Cert.EvenDxReferenceIdeal.Read.val_main_v40_eq, hX, hW, hP]
          funext i
          obtain ⟨k, l, rfl⟩ : ∃ (k : Fin 1) (l : Fin 1024), i = ix2 k l := ⟨i 0, i 1, eq_ix2 i⟩
          exact dg_ref (ix_real fX) (at1_real fG) (ix_real fD) (dh_ref m c fW fP) k l)
      (Cert.EvenDxReferenceIdeal.Value.run m' ρ')⟩

end Cert.EvenDx

end
-- ==== Proof.FfnDx.Block.lean ====
module

public import proofs.«01_k».proof.Proof.Gen.FfnDxKernelIdeal.Frame
public import proofs.«01_k».proof.Proof.Tools.NormGrad

/-! The gradient of the gated layer's two input projections and of the norm before it, one block of 512 rows at a time. -/

@[expose] public section

set_option maxRecDepth 16384

noncomputable section

namespace Cert.FfnDx

open Cert.FfnDxKernelIdeal Cert.FfnDxKernelIdeal.Gen Cert.Tools
open Idealize.ShloMosaic Idealize.ShloMosaic.TcCoe Idealize.SL.Sem

/-- The cotangent of the normalised rows: the products with the two weights, summed over the four column blocks. -/
def cot (x0 x1 : Vec Ideal S4x512x704 .bf16) (wg wu : Vec Ideal S4x1024x704 .bf16) : FVec Ideal S512x1024 .f32 :=
  k0_pay8
    (k0_pay7 (View.ld x0 (Rect.unit ![0, 0, 0] ![1, 512, 704] inb_S4x512x704_S1x512x704_0_0_0)) (View.ld wg (Rect.unit ![0, 0, 0] ![1, 1024, 704] inb_S4x1024x704_S1x1024x704_0_0_0))
      (View.ld x1 (Rect.unit ![0, 0, 0] ![1, 512, 704] inb_S4x512x704_S1x512x704_0_0_0)) (View.ld wu (Rect.unit ![0, 0, 0] ![1, 1024, 704] inb_S4x1024x704_S1x1024x704_0_0_0))
      (View.ld x0 (Rect.unit ![1, 0, 0] ![1, 512, 704] inb_S4x512x704_S1x512x704_1_0_0)) (View.ld wg (Rect.unit ![1, 0, 0] ![1, 1024, 704] inb_S4x1024x704_S1x1024x704_1_0_0))
      (View.ld x1 (Rect.unit ![1, 0, 0] ![1, 512, 704] inb_S4x512x704_S1x512x704_1_0_0)) (View.ld wu (Rect.unit ![1, 0, 0] ![1, 1024, 704] inb_S4x1024x704_S1x1024x704_1_0_0)))
    (View.ld x0 (Rect.unit ![2, 0, 0] ![1, 512, 704] inb_S4x512x704_S1x512x704_2_0_0)) (View.ld wg (Rect.unit ![2, 0, 0] ![1, 1024, 704] inb_S4x1024x704_S1x1024x704_2_0_0))
    (View.ld x1 (Rect.unit ![2, 0, 0] ![1, 512, 704] inb_S4x512x704_S1x512x704_2_0_0)) (View.ld wu (Rect.unit ![2, 0, 0] ![1, 1024, 704] inb_S4x1024x704_S1x1024x704_2_0_0))
    (View.ld x0 (Rect.unit ![3, 0, 0] ![1, 512, 704] inb_S4x512x704_S1x512x704_3_0_0)) (View.ld wg (Rect.unit ![3, 0, 0] ![1, 1024, 704] inb_S4x1024x704_S1x1024x704_3_0_0))
    (View.ld x1 (Rect.unit ![3, 0, 0] ![1, 512, 704] inb_S4x512x704_S1x512x704_3_0_0)) (View.ld wu (Rect.unit ![3, 0, 0] ![1, 1024, 704] inb_S4x1024x704_S1x1024x704_3_0_0))

variable (x0 x1 : Vec Ideal S4x512x704 .bf16) (wg wu : Vec Ideal S4x1024x704 .bf16)

/-- One column block's product. -/
def part (x : Vec Ideal S4x512x704 .bf16) (w : Vec Ideal S4x1024x704 .bf16) (r : Fin 512) (l : Fin 1024) (b : Fin 4) : EReal :=
  ∑ k : Fin 704, (x (ix3 b r k) : EReal) * w (ix3 b l k)

theorem cot_at (r : Fin 512) (l : Fin 1024) :
    (cot x0 x1 wg wu (ix2 r l) : EReal) = (part x0 wg r l 0 + part x1 wu r l 0) + (part x0 wg r l 1 + part x1 wu r l 1)
      + (part x0 wg r l 2 + part x1 wu r l 2) + (part x0 wg r l 3 + part x1 wu r l 3) := by
  pointwise [cot, k0_pay8, k0_pay7]
  rfl

/-- What the blocks at point `t` hold. -/
structure Blocks (t : ℕ) (X : ℕ → ℕ → ℝ) (G : ℕ → ℝ) (DH D : ℕ → ℕ → ℝ) (v : FVec Ideal S512x1024 .f32)
    (x2 x3 : Vec Ideal S512x1024 .f32) (x4 : Vec Ideal S1x1024 .f32) : Prop where
  dh : ∀ (r : Fin 512) (l : Fin 1024), v (ix2 r l) = (DH (t * 512 + r) l : EReal)
  x : ∀ (r : Fin 512) (l : Fin 1024), x2 (ix2 r l) = (X (t * 512 + r) l : EReal)
  d : ∀ (r : Fin 512) (l : Fin 1024), x3 (ix2 r l) = (D (t * 512 + r) l : EReal)
  g : ∀ (k : Fin 1) (l : Fin 1024), x4 (ix2 k l) = (G l : EReal)

section

variable {t : ℕ} {X : ℕ → ℕ → ℝ} {G : ℕ → ℝ} {DH D : ℕ → ℕ → ℝ} {v : FVec Ideal S512x1024 .f32}
  {x2 x3 : Vec Ideal S512x1024 .f32} {x4 : Vec Ideal S1x1024 .f32} (h : Blocks t X G DH D v x2 x3 x4)
include h

theorem dx_block (r : Fin 512) (l : Fin 1024) : k0_pay3 v x2 (k0_pay9 x4) (k0_pay10 x2) x3 (ix2 r l) = (gradX X G DH D (t * 512 + r) l : EReal) := by
  pointwise [k0_pay3, k0_pay2, k0_pay1, k0_pay9, k0_pay10]
  simp only [h.dh, h.x, h.d, h.g, bits_eps, bits_1024, ← EReal.coe_mul, coe_sum, div_1024, ← EReal.coe_add, rsqrt_room, ← EReal.coe_sub]
  rfl

/-- The block's part of the gradient by the gain. -/
theorem dg_sum (k : Fin 1) (l : Fin 1024) :
    k0_pay5 v x2 (k0_pay10 x2) (ix2 k l) = ((∑ r : Fin 512, gradG X DH (t * 512 + r) l : ℝ) : EReal) := by
  pointwise [k0_pay5, k0_pay2, k0_pay1, k0_pay10]
  simp only [h.dh, h.x, bits_eps, bits_1024, ← EReal.coe_mul, coe_sum, div_1024, ← EReal.coe_add, rsqrt_room]
  rfl

end

end Cert.FfnDx

end
-- ==== Proof.FfnDx.Arrays.lean ====
module

public import proofs.«01_k».proof.Proof.Gen.FfnDxKernelIdeal.Value
public import Idealize.ShloMosaic.Lib.Pipeline.ValueKit.Geometry
public import proofs.«01_k».proof.Proof.FfnDx.Block

/-! The gradient of the gated layer's two input projections and of the norm before them: what the call leaves in its three result arrays at finite arguments.

The gradient by the activation is written once, 512 rows at a grid point, in both formats. The gain's gradient stays in
place through the grid: the first point writes its part, each later one adds its own. -/

@[expose] public section

set_option maxRecDepth 16384

noncomputable section

namespace Cert.FfnDx

open Cert.FfnDxKernelIdeal Cert.FfnDxKernelIdeal.Gen Cert.FfnDxKernelIdeal.Value Cert.Tools
open Idealize.ShloMosaic Idealize.ShloMosaic.TcCoe Idealize.SL.Sem
open Idealize.ShloMosaic.Pipeline (Dat)

variable (m : (ℓ : Loc nD τ sig) → Buf (Elt Ideal) ℓ) (c : Dev nD)

/-- The seven arguments as the launch holds them. -/
abbrev argX : S16384x1024.Idx → EReal := m ((c : Thread nD τ).loc main_arg0)
abbrev argG : S1024.Idx → EReal := m ((c : Thread nD τ).loc main_arg1)
abbrev argWg : S1024x2816.Idx → EReal := m ((c : Thread nD τ).loc main_arg2)
abbrev argWu : S1024x2816.Idx → EReal := m ((c : Thread nD τ).loc main_arg3)
abbrev argD : S16384x1024.Idx → EReal := m ((c : Thread nD τ).loc main_arg4)
abbrev argDa : S16384x2816.Idx → EReal := m ((c : Thread nD τ).loc main_arg5)
abbrev argDu : S16384x2816.Idx → EReal := m ((c : Thread nD τ).loc main_arg6)

/-- What the body leaves in its three output blocks and in its two copies of the weights at a point where no part was added before. -/
abbrev parts (wg wu : Vec Ideal S4x1024x704 .bf16) (x0 x1 : Vec Ideal S4x512x704 .bf16) (x2 x3 : Vec Ideal S512x1024 .f32) (x4 : Vec Ideal S1x1024 .f32) :
    Vec Ideal S512x1024 .f32 × Vec Ideal S512x1024 .bf16 × Vec Ideal S1x1024 .f32 × Vec Ideal S4x1024x704 .bf16 × Vec Ideal S4x1024x704 .bf16 :=
  (k0_pay3 (cot x0 x1 wg wu) x2 (k0_pay9 x4) (k0_pay10 x2) x3, k0_pay4 (cot x0 x1 wg wu) x2 (k0_pay9 x4) (k0_pay10 x2) x3,
    k0_pay5 (cot x0 x1 wg wu) x2 (k0_pay10 x2), wg, wu)

/-- A whole array copied and read back. -/
theorem copied (w : Vec Ideal S4x1024x704 .bf16) : View.canon (Val := Elt Ideal) [⟨Rect.whole S4x1024x704, w⟩] = w := by
  funext y
  have e := View.canon_cons_emb (Val := Elt Ideal) (Rect.whole S4x1024x704) w [] y
  rw [Rect.emb_whole_apply] at e; exact e

theorem copied_ld (b : Ref sig .tc) (v : View sig .tc b.space S4x1024x704 .bf16) (w : Vec Ideal S4x1024x704 .bf16) (r : Rect S4x1024x704) :
    v.readCov (Val := Elt Ideal) [⟨Rect.whole S4x1024x704, w⟩] r.toLoadRect = View.ld w r := by
  rw [View.readCov_eq_canon', copied]

theorem whole_g (v : Vec Ideal S4x1024x704 .bf16) : ReadAs.same.apply (View.read (Elt Ideal) ((View.whole main_v8).slice
    (Rect.unit ![0, 0, 0] ![4, 1024, 704] inb_S4x1024x704_S4x1024x704_0_0_0)) v) = v := by
  funext y
  refine congrArg v (funext fun a => Fin.ext ((ValueKit.view_emb_slice_whole_unit_val main_v8 ![0, 0, 0] ![4, 1024, 704] inb_S4x1024x704_S4x1024x704_0_0_0 y a).trans ?_))
  fin_cases a <;> exact Nat.zero_add _

theorem whole_u (v : Vec Ideal S4x1024x704 .bf16) : ReadAs.same.apply (View.read (Elt Ideal) ((View.whole main_v11).slice
    (Rect.unit ![0, 0, 0] ![4, 1024, 704] inb_S4x1024x704_S4x1024x704_0_0_0)) v) = v := by
  funext y
  refine congrArg v (funext fun a => Fin.ext ((ValueKit.view_emb_slice_whole_unit_val main_v11 ![0, 0, 0] ![4, 1024, 704] inb_S4x1024x704_S4x1024x704_0_0_0 y a).trans ?_))
  fin_cases a <;> exact Nat.zero_add _

theorem outs_first (t : Fin cfg0.N) (ht : t.val = 0) :
    outsAt0 m c t.val t.isLt = parts (V m c main_v8) (V m c main_v11) (iblk m c 0 t) (iblk m c 1 t) (iblk m c 2 t) (iblk m c 3 t) (iblk m c 4 t) := by
  refine Eq.trans (b := parts (ReadAs.same.apply (View.read (Elt Ideal) ((View.whole main_v8).slice (Rect.unit ![0, 0, 0] ![4, 1024, 704] inb_S4x1024x704_S4x1024x704_0_0_0)) (V m c main_v8)))
    (ReadAs.same.apply (View.read (Elt Ideal) ((View.whole main_v11).slice (Rect.unit ![0, 0, 0] ![4, 1024, 704] inb_S4x1024x704_S4x1024x704_0_0_0)) (V m c main_v11)))
    (iblk m c 0 t) (iblk m c 1 t) (iblk m c 2 t) (iblk m c 3 t) (iblk m c 4 t)) ?_ (congrArg₂ (fun a b => parts a b (iblk m c 0 t) (iblk m c 1 t) (iblk m c 2 t) (iblk m c 3 t) (iblk m c 4 t)) (whole_g _) (whole_u _))
  rw [outsAt0_A m c t (by omega) (by omega) (by omega)]
  unfold out0_A_5 out0_A_6 out0_A_7 sout0_A_0 sout0_A_1 VO0_5 VO0_6 VO0_7 VS0_0 VS0_1
  simp only [View.read_writes_junk_eq_canon]
  unfold kernelRun0_A; dsimp only; sl_unfold_words
  simp only [View.readAt_eq_ld, (hs0_0 t).read_unread, (hs0_1 t).read_unread, (hs0_2 t).read_unread, (hs0_3 t).read_unread, (hs0_4 t).read_unread,
    View.ld_unit_zero (S := S512x1024) zero2, View.ld_unit_zero (S := S1x1024) zero2, copied, copied_ld cc0_scratch0, copied_ld cc0_scratch1]
  unfold parts cot
  refine Prod.ext ?_ (Prod.ext ?_ (Prod.ext ?_ (Prod.ext ?_ ?_))) <;> dsimp only <;> rw [View.canon_unit_zero zero2]

theorem outs_later (t : Fin cfg0.N) (ht : 1 ≤ t.val) (o) (ho : o = outsAt0 m c (t.val - 1) (Nat.lt_of_le_of_lt (Nat.sub_le _ _) t.isLt)) (p)
    (hp : p = parts o.2.2.2.1 o.2.2.2.2 (iblk m c 0 t) (iblk m c 1 t) (iblk m c 2 t) (iblk m c 3 t) (iblk m c 4 t)) :
    outsAt0 m c t.val t.isLt = (p.1, p.2.1, plus o.2.2.1 p.2.2.1, o.2.2.2.1, o.2.2.2.2) := by
  have hN : t.val < 32 := t.isLt
  subst ho hp
  rw [outsAt0_B m c t (by omega) (by omega) ht]
  unfold out0_B_5 out0_B_6 out0_B_7 sout0_B_0 sout0_B_1 VO0_5 VO0_6 VO0_7
  simp only [View.read_writes_junk_eq_canon]
  unfold kernelRun0_B; dsimp only; sl_unfold_words
  simp only [View.readAt_eq_ld, (hs0_0 t).read_unread, (hs0_1 t).read_unread, (hs0_2 t).read_unread, (hs0_3 t).read_unread, (hs0_4 t).read_unread, (hs0_7 t).read_unread,
    (Memref.isWhole_whole cc0_scratch0).read_unread, (Memref.isWhole_whole cc0_scratch1).read_unread,
    View.ld_unit_zero (S := S512x1024) zero2, View.ld_unit_zero (S := S1x1024) zero2]
  unfold k0_pay6 cot
  refine Prod.ext ?_ (Prod.ext ?_ (Prod.ext ?_ ?_)) <;> dsimp only <;> rw [View.canon_unit_zero zero2]
  rw [shapeCast_self]; rfl

theorem index_in : ∀ t : Fin grid0.N,
    (win0_0.index t 0 = 0 ∧ win0_0.index t 1 = t.val ∧ win0_0.index t 2 = 0) ∧ (win0_1.index t 0 = 0 ∧ win0_1.index t 1 = t.val ∧ win0_1.index t 2 = 0)
    ∧ (win0_2.index t 0 = t.val ∧ win0_2.index t 1 = 0) ∧ (win0_3.index t 0 = t.val ∧ win0_3.index t 1 = 0)
    ∧ (win0_4.index t 0 = 0 ∧ win0_4.index t 1 = 0) ∧ (win0_5.index t 0 = t.val ∧ win0_5.index t 1 = 0)
    ∧ (win0_6.index t 0 = t.val ∧ win0_6.index t 1 = 0) ∧ (win0_7.index t 0 = 0 ∧ win0_7.index t 1 = 0) := by decide +kernel

/-- The gain's row, as the region's fifth operand holds it. -/
theorem gain_row (t : Fin cfg0.N) (k : Fin 1) (l : Fin 1024) : iblk m c 4 t (ix2 k l) = argG m c (ix1 l) := by
  obtain ⟨-, -, -, -, ⟨a, b⟩, -⟩ := index_in t
  have e : (win0_4.rect t).emb (ix2 k l) = (ix2 k l : S1x1024.Idx) :=
    ext2 ((win0_4.rect_emb_val t (ix2 k l) 0).trans (by rw [a]; exact Nat.zero_add _)) ((win0_4.rect_emb_val t (ix2 k l) 1).trans (by rw [b]; exact Nat.zero_add _))
  have h : V m c main_v12 (ix2 k l) = argG m c (ix1 l) := by
    entry_read
    pointwise [argG]
  exact (congrArg (V m c main_v12) e).trans h

/-- The four factors of the products, as the region's operands hold them. -/
theorem left_g (t : Fin cfg0.N) (b : Fin 4) (r : Fin 512) (k : Fin 704) : iblk m c 0 t (ix3 b r k) = at2 (argDa m c) (t.val * 512 + r) (b.val * 704 + k.val) := by
  obtain ⟨⟨a0, a1, a2⟩, -⟩ := index_in t
  have hN : t.val < 32 := t.isLt
  have e : (win0_0.rect t).emb (ix3 b r k) = (ix3 b (⟨t.val * 512 + r, by omega⟩ : Fin 16384) k : S4x16384x704.Idx) :=
    ext3 ((win0_0.rect_emb_val t (ix3 b r k) 0).trans (by rw [a0]; exact Nat.zero_add _)) ((win0_0.rect_emb_val t (ix3 b r k) 1).trans (by rw [a1]; rfl))
      ((win0_0.rect_emb_val t (ix3 b r k) 2).trans (by rw [a2]; exact Nat.zero_add _))
  have h : ∀ R : Fin 16384, V m c main_v2 (ix3 b R k) = at2 (argDa m c) R (b.val * 704 + k.val) := fun R => by
    entry_read
    pointwise [argDa]
    exact at2_at _ _ _ _ rfl rfl
  exact (congrArg (V m c main_v2) e).trans (h _)

theorem left_u (t : Fin cfg0.N) (b : Fin 4) (r : Fin 512) (k : Fin 704) : iblk m c 1 t (ix3 b r k) = at2 (argDu m c) (t.val * 512 + r) (b.val * 704 + k.val) := by
  obtain ⟨-, ⟨a0, a1, a2⟩, -⟩ := index_in t
  have hN : t.val < 32 := t.isLt
  have e : (win0_1.rect t).emb (ix3 b r k) = (ix3 b (⟨t.val * 512 + r, by omega⟩ : Fin 16384) k : S4x16384x704.Idx) :=
    ext3 ((win0_1.rect_emb_val t (ix3 b r k) 0).trans (by rw [a0]; exact Nat.zero_add _)) ((win0_1.rect_emb_val t (ix3 b r k) 1).trans (by rw [a1]; rfl))
      ((win0_1.rect_emb_val t (ix3 b r k) 2).trans (by rw [a2]; exact Nat.zero_add _))
  have h : ∀ R : Fin 16384, V m c main_v5 (ix3 b R k) = at2 (argDu m c) R (b.val * 704 + k.val) := fun R => by
    entry_read
    pointwise [argDu]
    exact at2_at _ _ _ _ rfl rfl
  exact (congrArg (V m c main_v5) e).trans (h _)

theorem right_g (b : Fin 4) (l : Fin 1024) (k : Fin 704) : V m c main_v8 (ix3 b l k) = at2 (argWg m c) l (b.val * 704 + k.val) := by
  entry_read
  pointwise [argWg]
  exact at2_at _ _ _ _ rfl rfl

theorem right_u (b : Fin 4) (l : Fin 1024) (k : Fin 704) : V m c main_v11 (ix3 b l k) = at2 (argWu m c) l (b.val * 704 + k.val) := by
  entry_read
  pointwise [argWu]
  exact at2_at _ _ _ _ rfl rfl

variable (fX : Finite (argX m c)) (fG : Finite (argG m c)) (fWg : Finite (argWg m c)) (fWu : Finite (argWu m c)) (fD : Finite (argD m c))
  (fDa : Finite (argDa m c)) (fDu : Finite (argDu m c))

/-- The arguments' reals, and the cotangent of the normalised rows. -/
abbrev gain : ℕ → ℝ := real1 (argG m c)
abbrev rX : ℕ → ℕ → ℝ := real2 (argX m c)
abbrev rD : ℕ → ℕ → ℝ := real2 (argD m c)
def prodU (r l k : ℕ) : ℝ := real2 (argDu m c) r k * real2 (argWu m c) l k
def prodG (r l k : ℕ) : ℝ := real2 (argDa m c) r k * real2 (argWg m c) l k
def rDH (r l : ℕ) : ℝ := ∑ k : Fin 2816, prodU m c r l k + ∑ k : Fin 2816, prodG m c r l k

include fWg fDa in
theorem part_g (t : Fin cfg0.N) (r : Fin 512) (l : Fin 1024) (b : Fin 4) :
    part (iblk m c 0 t) (V m c main_v8) r l b = ((∑ k : Fin 704, prodG m c (t.val * 512 + r) l (b.val * 704 + k.val) : ℝ) : EReal) := by
  unfold part prodG
  refine (Finset.sum_congr rfl fun k _ => congrArg₂ (fun u v : EReal => u * v) (left_g m c t b r k) (right_g m c b l k)).trans ?_
  simp only [at2_real fDa, at2_real fWg, ← EReal.coe_mul, coe_sum]

include fWu fDu in
theorem part_u (t : Fin cfg0.N) (r : Fin 512) (l : Fin 1024) (b : Fin 4) :
    part (iblk m c 1 t) (V m c main_v11) r l b = ((∑ k : Fin 704, prodU m c (t.val * 512 + r) l (b.val * 704 + k.val) : ℝ) : EReal) := by
  unfold part prodU
  refine (Finset.sum_congr rfl fun k _ => congrArg₂ (fun u v : EReal => u * v) (left_u m c t b r k) (right_u m c b l k)).trans ?_
  simp only [at2_real fDu, at2_real fWu, ← EReal.coe_mul, coe_sum]

include fWg fWu fDa fDu in
theorem dh (t : Fin cfg0.N) (r : Fin 512) (l : Fin 1024) :
    (cot (iblk m c 0 t) (iblk m c 1 t) (V m c main_v8) (V m c main_v11) (ix2 r l) : EReal) = ((rDH m c (t.val * 512 + r) l : ℝ) : EReal) := by
  rw [cot_at]
  simp only [part_g m c fWg fDa, part_u m c fWu fDu, ← EReal.coe_add]
  refine congrArg _ ?_
  unfold rDH
  rw [Fin.sum_univ_eq_sum_range (prodU m c (t.val * 512 + r) l) 2816, Fin.sum_univ_eq_sum_range (prodG m c (t.val * 512 + r) l) 2816,
    ← sum_tiles 4 704 (prodU m c (t.val * 512 + r) l), ← sum_tiles 4 704 (prodG m c (t.val * 512 + r) l)]
  simp only [Finset.sum_range_succ, Finset.sum_range_zero]
  dsimp only [Fin.val_zero, Fin.val_one, Fin.val_two]
  norm_num
  ring

include fX fG fWg fWu fD fDa fDu in
/-- The input blocks at grid point `t` hold the rows that the block lemmas ask for. -/
theorem blocks (t : Fin cfg0.N) :
    Blocks t.val (rX m c) (gain m c) (rDH m c) (rD m c) (cot (iblk m c 0 t) (iblk m c 1 t) (V m c main_v8) (V m c main_v11)) (iblk m c 2 t) (iblk m c 3 t) (iblk m c 4 t) := by
  obtain ⟨-, -, ⟨a2, b2⟩, ⟨a3, b3⟩, -⟩ := index_in t
  refine ⟨fun r l => dh m c fWg fWu fDa fDu t r l, fun r l => ?_, fun r l => ?_, fun k l => ?_⟩
  · exact (at2_at (argX m c) ((win0_2.rect t).emb (ix2 r l)) _ _ ((win0_2.rect_emb_val t (ix2 r l) 0).trans (by rw [a2]; rfl))
      ((win0_2.rect_emb_val t (ix2 r l) 1).trans (by rw [b2]; exact Nat.zero_add _))).trans (at2_real fX _ _)
  · exact (at2_at (argD m c) ((win0_3.rect t).emb (ix2 r l)) _ _ ((win0_3.rect_emb_val t (ix2 r l) 0).trans (by rw [a3]; rfl))
      ((win0_3.rect_emb_val t (ix2 r l) 1).trans (by rw [b3]; exact Nat.zero_add _))).trans (at2_real fD _ _)
  · exact (gain_row m c t k l).trans (at1_real fG l)

/-- The weights' copies after a point are the weights. -/
theorem copies (n : ℕ) (hn : n < cfg0.N) : (outsAt0 m c n hn).2.2.2.1 = V m c main_v8 ∧ (outsAt0 m c n hn).2.2.2.2 = V m c main_v11 := by
  induction n with
  | zero =>
    have e : outsAt0 m c 0 hn = _ := outs_first m c ⟨0, hn⟩ rfl
    rw [e]; exact ⟨rfl, rfl⟩
  | succ n ih =>
    have e : outsAt0 m c (n + 1) hn = _ := outs_later m c ⟨n + 1, hn⟩ (Nat.succ_pos n) _ rfl _ rfl
    rw [e]; exact ih (Nat.lt_of_succ_lt hn)

/-- What the body leaves at a point, with the weights in its copies. -/
abbrev partsAt (t : Fin cfg0.N) := parts (V m c main_v8) (V m c main_v11) (iblk m c 0 t) (iblk m c 1 t) (iblk m c 2 t) (iblk m c 3 t) (iblk m c 4 t)

theorem outs_next (t : Fin cfg0.N) (ht : 1 ≤ t.val) (o) (ho : o = outsAt0 m c (t.val - 1) (Nat.lt_of_le_of_lt (Nat.sub_le _ _) t.isLt)) :
    outsAt0 m c t.val t.isLt = ((partsAt m c t).1, (partsAt m c t).2.1, plus o.2.2.1 (partsAt m c t).2.2.1, o.2.2.2.1, o.2.2.2.2) := by
  have h := copies m c (t.val - 1) (Nat.lt_of_le_of_lt (Nat.sub_le _ _) t.isLt)
  rw [← ho] at h
  refine outs_later m c t ht o ho (partsAt m c t) ?_
  rw [h.1, h.2]

theorem outs_dx (t : Fin cfg0.N) :
    (outsAt0 m c t.val t.isLt).1 = (partsAt m c t).1
    ∧ (outsAt0 m c t.val t.isLt).2.1 = (partsAt m c t).2.1 := by
  rcases Nat.eq_zero_or_pos t.val with h | h
  · rw [outs_first m c t h]; exact ⟨rfl, rfl⟩
  · rw [outs_next m c t h _ rfl]; exact ⟨rfl, rfl⟩

include fX fG fWg fWu fD fDa fDu in
/-- The gain's gradient after `n + 1` points: the sum of their parts. -/
theorem outs_sum (n : ℕ) (hn : n < cfg0.N) (k : Fin 1) (l : Fin 1024) :
    (outsAt0 m c n hn).2.2.1 (ix2 k l) = ((∑ t ∈ Finset.range (n + 1), ∑ r : Fin 512, gradG (rX m c) (rDH m c) (t * 512 + r) l : ℝ) : EReal) := by
  induction n with
  | zero =>
    have e : outsAt0 m c 0 hn = _ := outs_first m c ⟨0, hn⟩ rfl
    rw [e, Finset.sum_range_one]
    exact dg_sum (blocks m c fX fG fWg fWu fD fDa fDu ⟨0, hn⟩) k l
  | succ n ih =>
    have e : outsAt0 m c (n + 1) hn = _ := outs_next m c ⟨n + 1, hn⟩ (Nat.succ_pos n) _ rfl
    rw [e, Finset.sum_range_succ, EReal.coe_add, ← ih (Nat.lt_of_succ_lt hn), ← dg_sum (blocks m c fX fG fWg fWu fD fDa fDu ⟨n + 1, hn⟩) k l]
    rfl

/-- The results as arrays. -/
def resX : S16384x1024.Idx → EReal := fun i => (gradX (rX m c) (gain m c) (rDH m c) (rD m c) (i 0).val (i 1).val : EReal)
def resG : S1x1024.Idx → EReal := fun i => ((∑ r : Fin 16384, gradG (rX m c) (rDH m c) r (i 1).val : ℝ) : EReal)

include fX fG fWg fWu fD fDa fDu in
theorem part_dx (t : Fin cfg0.N) (r : Fin 512) (l : Fin 1024) (i : S16384x1024.Idx) (h0 : (i 0).val = t.val * 512 + r.val) (h1 : (i 1).val = l.val) :
    (partsAt m c t).1 (ix2 r l) = resX m c i := by
  refine (dx_block (blocks m c fX fG fWg fWu fD fDa fDu t) r l).trans ?_
  unfold resX; rw [h0, h1]

include fX fG fWg fWu fD fDa fDu in
/-- At the last point the sum is complete. -/
theorem outs_last (t : Fin cfg0.N) (h : t.val = 31) (k : Fin 1) (l : Fin 1024) : (outsAt0 m c t.val t.isLt).2.2.1 (ix2 k l) = resG m c (ix2 k l) := by
  rw [outs_sum m c fX fG fWg fWu fD fDa fDu, show t.val + 1 = 32 by omega, sum_tiles 32 512 fun r => gradG (rX m c) (rDH m c) r l, ← Fin.sum_univ_eq_sum_range]
  unfold resG; rfl

attribute [local irreducible] resX resG

include fX fG fWg fWu fD fDa fDu in
/-- The activation's gradient array after the run. -/
theorem final_5 : (dats m 0 c).arrAt 5 cfg0.N = resX m c := by
  refine (dats m 0 c).arrAt_eq_of_cover 5 (resX m c) (fun t _ => ?_) (fun i => ?_)
  · rw [flushed5, (outs_dx m c t).1]
    funext y
    obtain ⟨r, l, rfl⟩ : ∃ (r : Fin 512) (l : Fin 1024), y = ix2 r l := ⟨y 0, y 1, eq_ix2 y⟩
    obtain ⟨a, b⟩ := (index_in t).2.2.2.2.2.1
    exact part_dx m c fX fG fWg fWu fD fDa fDu t r l ((win0_5.rect t).emb (ix2 r l)) ((win0_5.rect_emb_val t (ix2 r l) 0).trans (by rw [a]; rfl))
      ((win0_5.rect_emb_val t (ix2 r l) 1).trans (by rw [b]; exact Nat.zero_add _))
  · obtain ⟨r, l, rfl⟩ : ∃ (r : Fin 16384) (l : Fin 1024), i = ix2 r l := ⟨i 0, i 1, eq_ix2 i⟩
    have ht : r.val / 512 < 32 := by have hr := r.isLt; omega
    obtain ⟨a, b⟩ := (index_in ⟨r.val / 512, ht⟩).2.2.2.2.2.1
    have e : ix2 r l = ((cfg0.win 5).blk ⟨r.val / 512, ht⟩).view.emb (ix2 (⟨r.val % 512, Nat.mod_lt _ (by decide)⟩ : Fin 512) l) :=
      ext2 ((Nat.div_add_mod' r.val 512).symm.trans ((win0_5.rect_emb_val _ _ 0).trans (by rw [a]; rfl)).symm)
        ((win0_5.rect_emb_val _ _ 1).trans (by rw [b]; exact Nat.zero_add _)).symm
    exact ⟨⟨r.val / 512, ht⟩, flush0_5 _, e ▸ View.emb_mem_set _ _⟩

include fX fG fWg fWu fD fDa fDu in
/-- The same in the short format. -/
theorem final_6 : (dats m 0 c).arrAt 6 cfg0.N = resX m c := by
  refine (dats m 0 c).arrAt_eq_of_cover 6 (resX m c) (fun t _ => ?_) (fun i => ?_)
  · rw [flushed6, (outs_dx m c t).2]
    funext y
    obtain ⟨r, l, rfl⟩ : ∃ (r : Fin 512) (l : Fin 1024), y = ix2 r l := ⟨y 0, y 1, eq_ix2 y⟩
    obtain ⟨a, b⟩ := (index_in t).2.2.2.2.2.2.1
    exact part_dx m c fX fG fWg fWu fD fDa fDu t r l ((win0_6.rect t).emb (ix2 r l)) ((win0_6.rect_emb_val t (ix2 r l) 0).trans (by rw [a]; rfl))
      ((win0_6.rect_emb_val t (ix2 r l) 1).trans (by rw [b]; exact Nat.zero_add _))
  · obtain ⟨r, l, rfl⟩ : ∃ (r : Fin 16384) (l : Fin 1024), i = ix2 r l := ⟨i 0, i 1, eq_ix2 i⟩
    have ht : r.val / 512 < 32 := by have hr := r.isLt; omega
    obtain ⟨a, b⟩ := (index_in ⟨r.val / 512, ht⟩).2.2.2.2.2.2.1
    have e : ix2 r l = ((cfg0.win 6).blk ⟨r.val / 512, ht⟩).view.emb (ix2 (⟨r.val % 512, Nat.mod_lt _ (by decide)⟩ : Fin 512) l) :=
      ext2 ((Nat.div_add_mod' r.val 512).symm.trans ((win0_6.rect_emb_val _ _ 0).trans (by rw [a]; rfl)).symm)
        ((win0_6.rect_emb_val _ _ 1).trans (by rw [b]; exact Nat.zero_add _)).symm
    exact ⟨⟨r.val / 512, ht⟩, flush0_6 _, e ▸ View.emb_mem_set _ _⟩

include fX fG fWg fWu fD fDa fDu in
/-- The gain's gradient array after the run. -/
theorem final_7 : (dats m 0 c).arrAt 7 cfg0.N = resG m c := by
  have emb : ∀ (t : Fin cfg0.N) (k : Fin 1) (l : Fin 1024), (ix2 k l : S1x1024.Idx) = ((cfg0.win 7).blk t).view.emb (ix2 k l) := fun t k l => by
    obtain ⟨a, b⟩ := (index_in t).2.2.2.2.2.2.2
    exact ext2 ((win0_7.rect_emb_val t (ix2 k l) 0).trans (by rw [a]; exact Nat.zero_add _)).symm
      ((win0_7.rect_emb_val t (ix2 k l) 1).trans (by rw [b]; exact Nat.zero_add _)).symm
  refine (dats m 0 c).arrAt_eq_of_cover 7 (resG m c) (fun t ht => ?_) (fun i => ?_)
  · have h := (flush0_7 t).mp ht
    have hN : t.val < 32 := t.isLt
    rw [flushed7]
    funext y
    obtain ⟨k, l, rfl⟩ : ∃ (k : Fin 1) (l : Fin 1024), y = ix2 k l := ⟨y 0, y 1, eq_ix2 y⟩
    exact (outs_last m c fX fG fWg fWu fD fDa fDu t (by omega) k l).trans (congrArg (resG m c) (emb t k l))
  · obtain ⟨k, l, rfl⟩ : ∃ (k : Fin 1) (l : Fin 1024), i = ix2 k l := ⟨i 0, i 1, eq_ix2 i⟩
    exact ⟨⟨31, by decide⟩, (flush0_7 _).mpr rfl, (emb ⟨31, by decide⟩ k l) ▸ View.emb_mem_set _ _⟩

end Cert.FfnDx

end
-- ==== Proof.FfnDx.Reference.lean ====
module

public import proofs.«01_k».proof.Proof.Gen.FfnDxReferenceIdeal.Read
public import proofs.«01_k».proof.Proof.Tools.NormGrad

/-! The reference of the call that differentiates the gated layer's two input projections and the norm before them: its results at an element, at finite arguments. -/

@[expose] public section

set_option maxRecDepth 16384

noncomputable section

namespace Cert.FfnDx

open Cert.FfnDxReferenceIdeal Cert.FfnDxReferenceIdeal.Read Cert.Tools
open Idealize.ShloMosaic

section

variable {X : ℕ → ℕ → ℝ} {G : ℕ → ℝ} {DH D : ℕ → ℕ → ℝ} {x0 x4 : (⟨S16384x1024, .f32⟩ : BufTy).Contents (Elt Ideal)} {x1 : (⟨S1024, .f32⟩ : BufTy).Contents (Elt Ideal)}
  {x2 x3 : (⟨S1024x2816, .f32⟩ : BufTy).Contents (Elt Ideal)} {x5 x6 : (⟨S16384x2816, .f32⟩ : BufTy).Contents (Elt Ideal)}
  (hx : ∀ (r : Fin 16384) (l : Fin 1024), x0 (ix2 r l) = (X r l : EReal)) (hg : ∀ l : Fin 1024, x1 (ix1 l) = (G l : EReal))
  (hd : ∀ (r : Fin 16384) (l : Fin 1024), x4 (ix2 r l) = (D r l : EReal))
  (hdh : ∀ (r : Fin 16384) (l : Fin 1024), val_main_v20 x2 x3 x5 x6 (ix2 r l) = (DH r l : EReal))
include hx hg hd hdh

theorem dx_ref (r : Fin 16384) (l : Fin 1024) : val_main_v41 x0 x1 x2 x3 x4 x5 x6 (ix2 r l) = (gradX X G DH D r l : EReal) := by
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v21, val_main_cst_3, val_main_v22, val_main_v23, val_main_v24, val_main_v25, val_main_cst_4, val_main_v26, val_main_v27, val_main_cst_5, val_main_v28, val_main_v29, val_main_v30, val_main_v31, val_main_v32, val_main_v33, val_main_cst_6, val_main_v34, val_main_v35, val_main_cst_7, val_main_v36, val_main_v37, val_main_v38, val_main_v39, val_main_v40, val_main_v41, val_main_v43]
  simp only [hx, hg, hd, hdh, bits_eps, bits_1024, bits_neg_half, bits_two, ← EReal.coe_mul, coe_sum, div_1024, ← EReal.coe_add, rsqrt_room, div_room, ← EReal.coe_sub, Finset.univ_unique, Finset.sum_singleton]
  refine congrArg _ ?_
  unfold gradX
  rw [← normBack_eq]
  simp only [mul_comm (DH r _)]
  ring

theorem dg_ref (k : Fin 1) (l : Fin 1024) : val_main_v43 x0 x2 x3 x5 x6 (ix2 k l) = ((∑ r : Fin 16384, gradG X DH r l : ℝ) : EReal) := by
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v21, val_main_cst_3, val_main_v22, val_main_v23, val_main_v24, val_main_v25, val_main_cst_4, val_main_v26, val_main_v27, val_main_cst_5, val_main_v28, val_main_v29, val_main_v30, val_main_v31, val_main_v32, val_main_v33, val_main_cst_6, val_main_v34, val_main_v35, val_main_cst_7, val_main_v36, val_main_v37, val_main_v38, val_main_v39, val_main_v40, val_main_v41, val_main_v43]
  simp only [hx, hg, hd, hdh, bits_eps, bits_1024, bits_neg_half, bits_two, ← EReal.coe_mul, coe_sum, div_1024, ← EReal.coe_add, rsqrt_room, div_room, ← EReal.coe_sub, Finset.univ_unique, Finset.sum_singleton]
  refine congrArg _ (Finset.sum_congr rfl fun r _ => ?_)
  unfold gradG; ring

end

end Cert.FfnDx

end
-- ==== Proof.FfnDx.Claims.lean ====
module

public import proofs.«01_k».proof.Defs
public import proofs.«01_k».proof.Proof.FfnDx.Arrays
public import proofs.«01_k».proof.Proof.FfnDx.Reference
public import proofs.«01_k».proof.Proof.Gen.FfnDxKernel.Frame
public import proofs.«01_k».proof.Proof.Gen.Pre_ffndx_finite

/-! The claims about the call that differentiates the gated layer's two input projections and the norm before them. -/

@[expose] public section

set_option maxRecDepth 16384

noncomputable section

namespace Cert.FfnDx

open Idealize.ShloMosaic Idealize.ShloMosaic.TcCoe Idealize.SL.Sem Cert.Tools

theorem frame_kernel : Cert.quiescent_FfnDxKernel := fun m ρ _ => Cert.FfnDxKernel.Gen.frame m ρ

theorem frame_kernelIdeal : Cert.quiescent_FfnDxKernelIdeal := fun m ρ _ => Cert.FfnDxKernelIdeal.Gen.frame m ρ

theorem frame_kernelIdeal_finite : Cert.quiescent_FfnDxKernelIdeal_pre_ffndx_finite := fun m ρ _ => Cert.FfnDxKernelIdeal.Gen.frame m ρ

theorem frame_reference : Cert.quiescent_FfnDxReferenceIdeal := fun m ρ _ =>
  (θ_run _ _ _).mono (fun r h => ⟨fun c => (h c).2.2.2, sem_eq_zero_of_no_sems (sig := Cert.FfnDxReferenceIdeal.sig) (by decide) r.2⟩) (Cert.FfnDxReferenceIdeal.Value.run m ρ)

theorem frame_reference_finite : Cert.quiescent_FfnDxReferenceIdeal_pre_ffndx_finite := fun m ρ _ => frame_reference m ρ trivial

variable (m : (ℓ : Loc Cert.FfnDxKernelIdeal.nD Cert.FfnDxKernelIdeal.τ Cert.FfnDxKernelIdeal.sig) → Buf (Elt Ideal) ℓ)

/-- The precondition says of each argument that it is finite. -/
theorem finite_args (hp : Cert.Pre_FfnDxKernelIdeal_ffndx_finite m) (c : Dev Cert.FfnDxKernelIdeal.nD) :
    Finite (argX m c) ∧ Finite (argG m c) ∧ Finite (argWg m c) ∧ Finite (argWu m c) ∧ Finite (argD m c) ∧ Finite (argDa m c) ∧ Finite (argDu m c) :=
  ⟨finite_of_lt _ _ (fun _ => rfl) (hp c).1, finite_of_lt _ _ (fun _ => rfl) (hp c).2.1, finite_of_lt _ _ (fun _ => rfl) (hp c).2.2.1,
    finite_of_lt _ _ (fun _ => rfl) (hp c).2.2.2.1, finite_of_lt _ _ (fun _ => rfl) (hp c).2.2.2.2.1,
    finite_of_lt _ _ (fun _ => rfl) (hp c).2.2.2.2.2.1, finite_of_lt _ _ (fun _ => rfl) (hp c).2.2.2.2.2.2⟩

/-- The reference's cotangent of the normalised rows. -/
theorem dh_ref (c : Dev Cert.FfnDxKernelIdeal.nD) (fWg : Finite (argWg m c)) (fWu : Finite (argWu m c)) (fDa : Finite (argDa m c)) (fDu : Finite (argDu m c))
    (r : Fin 16384) (l : Fin 1024) :
    (Cert.FfnDxReferenceIdeal.Read.val_main_v20 (F := Ideal) (argWg m c) (argWu m c) (argDa m c) (argDu m c) (ix2 r l) : EReal) = ((rDH m c r l : ℝ) : EReal) := by
  pointwise [Cert.FfnDxReferenceIdeal.Read.val_main_v20, Cert.FfnDxReferenceIdeal.Read.val_main_v19, Cert.FfnDxReferenceIdeal.Read.val_main_v18, Cert.FfnDxReferenceIdeal.Read.val_main_v17, Cert.FfnDxReferenceIdeal.Read.val_main_v16, Cert.FfnDxReferenceIdeal.Read.val_main_v15]
  simp only [ix_real fWg, ix_real fWu, ix_real fDa, ix_real fDu, ← EReal.coe_mul, coe_sum, ← EReal.coe_add]
  rfl

theorem algebraic : Cert.algebraic_FfnDxKernelIdeal_FfnDxReferenceIdeal_pre_ffndx_finite := fun m ρ m' ρ' hp hm =>
  ⟨fun c => resX m c, fun c => resX m c, fun c => resG m c,
    (θ_run _ _ _).mono (fun r h c => by
        obtain ⟨fX, fG, fWg, fWu, fD, fDa, fDu⟩ := finite_args m hp c
        exact ⟨(h c).1.trans (final_5 m c fX fG fWg fWu fD fDa fDu), (h c).2.1.trans (final_6 m c fX fG fWg fWu fD fDa fDu), (h c).2.2.1.trans (final_7 m c fX fG fWg fWu fD fDa fDu), (h c).2.2.2⟩)
      (Cert.FfnDxKernelIdeal.Value.run_blocks m ρ),
    (θ_run _ _ _).mono (fun r h c => by
        obtain ⟨fX, fG, fWg, fWu, fD, fDa, fDu⟩ := finite_args m hp c
        obtain ⟨hX, hG, hWg, hWu, hD, hDa, hDu⟩ := hm c
        refine ⟨(h c).1.trans ?_, (h c).2.1.trans ?_, (h c).2.2.1.trans ?_, (h c).2.2.2⟩
        · rw [Cert.FfnDxReferenceIdeal.Read.val_main_v41_eq, hX, hG, hWg, hWu, hD, hDa, hDu]
          funext i
          obtain ⟨k, l, rfl⟩ : ∃ (k : Fin 16384) (l : Fin 1024), i = ix2 k l := ⟨i 0, i 1, eq_ix2 i⟩
          exact dx_ref (ix_real fX) (at1_real fG) (ix_real fD) (dh_ref m c fWg fWu fDa fDu) k l
        · rw [Cert.FfnDxReferenceIdeal.Read.val_main_v42_eq, hX, hG, hWg, hWu, hD, hDa, hDu]
          funext i
          obtain ⟨k, l, rfl⟩ : ∃ (k : Fin 16384) (l : Fin 1024), i = ix2 k l := ⟨i 0, i 1, eq_ix2 i⟩
          exact dx_ref (ix_real fX) (at1_real fG) (ix_real fD) (dh_ref m c fWg fWu fDa fDu) k l
        · rw [Cert.FfnDxReferenceIdeal.Read.val_main_v43_eq, hX, hWg, hWu, hDa, hDu]
          funext i
          obtain ⟨k, l, rfl⟩ : ∃ (k : Fin 1) (l : Fin 1024), i = ix2 k l := ⟨i 0, i 1, eq_ix2 i⟩
          exact dg_ref (ix_real fX) (at1_real fG) (ix_real fD) (dh_ref m c fWg fWu fDa fDu) k l)
      (Cert.FfnDxReferenceIdeal.Value.run m' ρ')⟩

end Cert.FfnDx

end
-- ==== Proof.Attn.Tiles.lean ====
/- Rows of a head's array, and loads and stores of whole blocks. -/
module

public import proofs.«01_k».proof.Proof.Gen.AttnKernelIdeal.Loops
public import Idealize.ShloMosaic.Lib.VecWindow

@[expose] public section

set_option maxRecDepth 16384

noncomputable section

namespace Cert.AttnKernelIdeal.Tiles

open Idealize.ShloMosaic Idealize.ShloMosaic.TcCoe
open Cert.AttnKernelIdeal.Gen

variable {F : FTy → Type} [FloatOps F]

/-- 512 rows of a head from a row on. -/
abbrev rows {e : EltTy} (X : Vec F S16384x128 e) (off : Fin 2 → ℕ)
    (inb : ∀ a, off a + S512x128.size a ≤ S16384x128.size a) : Vec F S512x128 e :=
  View.ld X (Rect.unit (s := S16384x128) off S512x128.size inb)

/-- One row of 512 sums. -/
abbrev srow (X : Vec F S1x32x8x512 .f32) (off : Fin 4 → ℕ)
    (inb : ∀ a, off a + S1x1x1x512.size a ≤ S1x32x8x512.size a) : Vec F S1x1x1x512 .f32 :=
  View.ld X (Rect.unit (s := S1x32x8x512) off S1x1x1x512.size inb)

/-- A load of a whole block reads the block; a store of a whole block leaves its payload. -/
theorem ld_tile {e : EltTy} (x : Vec F S512x128 e) (inb : ∀ a, (![0, 0] : Fin 2 → ℕ) a + (![512, 128] : Fin 2 → ℕ) a ≤ S512x128.size a) :
    View.ld x (Rect.unit (s := S512x128) ![0, 0] ![512, 128] inb) = x := by
  funext y; exact congrArg x (funext fun a => Fin.ext (by fin_cases a <;> show 0 + 1 * _ = _ <;> omega))

theorem ld_square {e : EltTy} (x : Vec F S512x512 e) (inb : ∀ a, (![0, 0] : Fin 2 → ℕ) a + (![512, 512] : Fin 2 → ℕ) a ≤ S512x512.size a) :
    View.ld x (Rect.unit (s := S512x512) ![0, 0] ![512, 512] inb) = x := by
  funext y; exact congrArg x (funext fun a => Fin.ext (by fin_cases a <;> show 0 + 1 * _ = _ <;> omega))

theorem ld_col {e : EltTy} (x : Vec F S512x1 e) (inb : ∀ a, (![0, 0] : Fin 2 → ℕ) a + (![512, 1] : Fin 2 → ℕ) a ≤ S512x1.size a) :
    View.ld x (Rect.unit (s := S512x1) ![0, 0] ![512, 1] inb) = x := by
  funext y; exact congrArg x (funext fun a => Fin.ext (by fin_cases a <;> show 0 + 1 * _ = _ <;> omega))

variable {e : EltTy} {sp : Space}

theorem st_tile (v : View sig .tc sp S512x128 e) (f : v.ty.Contents (Elt F)) (inb : ∀ a, (![0, 0] : Fin 2 → ℕ) a + (![512, 128] : Fin 2 → ℕ) a ≤ S512x128.size a)
    (w : Vec F S512x128 e) (L : List (View.Piece (Elt F) S512x128 e)) :
    v.read (Elt F) (v.writes (Elt F) f (⟨Rect.unit (s := S512x128) ![0, 0] ![512, 128] inb, w⟩ :: L)) = w :=
  View.read_writes_full v f inb w L

theorem st_square (v : View sig .tc sp S512x512 e) (f : v.ty.Contents (Elt F)) (inb : ∀ a, (![0, 0] : Fin 2 → ℕ) a + (![512, 512] : Fin 2 → ℕ) a ≤ S512x512.size a)
    (w : Vec F S512x512 e) (L : List (View.Piece (Elt F) S512x512 e)) :
    v.read (Elt F) (v.writes (Elt F) f (⟨Rect.unit (s := S512x512) ![0, 0] ![512, 512] inb, w⟩ :: L)) = w :=
  View.read_writes_full v f inb w L

theorem cov_tile (v : View sig .tc sp S512x128 e) (inb inb' : ∀ a, (![0, 0] : Fin 2 → ℕ) a + (![512, 128] : Fin 2 → ℕ) a ≤ S512x128.size a)
    (w : Vec F S512x128 e) (L : List (View.Piece (Elt F) S512x128 e)) :
    v.readCov (⟨Rect.unit (s := S512x128) ![0, 0] ![512, 128] inb, w⟩ :: L) (Rect.unit (s := S512x128) ![0, 0] ![512, 128] inb').toLoadRect = w :=
  View.readCov_full v inb' inb w L

theorem cov_square (v : View sig .tc sp S512x512 e) (inb inb' : ∀ a, (![0, 0] : Fin 2 → ℕ) a + (![512, 512] : Fin 2 → ℕ) a ≤ S512x512.size a)
    (w : Vec F S512x512 e) (L : List (View.Piece (Elt F) S512x512 e)) :
    v.readCov (⟨Rect.unit (s := S512x512) ![0, 0] ![512, 512] inb, w⟩ :: L) (Rect.unit (s := S512x512) ![0, 0] ![512, 512] inb').toLoadRect = w :=
  View.readCov_full v inb' inb w L

theorem st_col (v : View sig .tc sp S512x1 e) (f : v.ty.Contents (Elt F)) (inb : ∀ a, (![0, 0] : Fin 2 → ℕ) a + (![512, 1] : Fin 2 → ℕ) a ≤ S512x1.size a)
    (w : Vec F S512x1 e) (L : List (View.Piece (Elt F) S512x1 e)) :
    v.read (Elt F) (v.writes (Elt F) f (⟨Rect.unit (s := S512x1) ![0, 0] ![512, 1] inb, w⟩ :: L)) = w :=
  View.read_writes_full v f inb w L

theorem cov_col (v : View sig .tc sp S512x1 e) (inb inb' : ∀ a, (![0, 0] : Fin 2 → ℕ) a + (![512, 1] : Fin 2 → ℕ) a ≤ S512x1.size a)
    (w : Vec F S512x1 e) (L : List (View.Piece (Elt F) S512x1 e)) :
    v.readCov (⟨Rect.unit (s := S512x1) ![0, 0] ![512, 1] inb, w⟩ :: L) (Rect.unit (s := S512x1) ![0, 0] ![512, 1] inb').toLoadRect = w :=
  View.readCov_full v inb' inb w L

theorem st_lanes (v : View sig .tc sp S1x1x8x512 e) (f : v.ty.Contents (Elt F)) (inb : ∀ a, (![0, 0, 0, 0] : Fin 4 → ℕ) a + (![1, 1, 8, 512] : Fin 4 → ℕ) a ≤ S1x1x8x512.size a)
    (w : Vec F S1x1x8x512 e) (L : List (View.Piece (Elt F) S1x1x8x512 e)) :
    v.read (Elt F) (v.writes (Elt F) f (⟨Rect.unit (s := S1x1x8x512) ![0, 0, 0, 0] ![1, 1, 8, 512] inb, w⟩ :: L)) = w :=
  View.read_writes_full v f inb w L

end Cert.AttnKernelIdeal.Tiles
-- ==== Proof.Attn.Fwd.lean ====
/- One grid point of the attention's forward kernel: what a trip of its loop does to the score blocks, the running maximum and
   the running sum it keeps, the loop by that function iterated, and the point. -/
module

public import proofs.«01_k».proof.Proof.Attn.Tiles
public import Idealize.ShloMosaic.Lib.LoopRemainder

@[expose] public section

set_option maxRecDepth 16384

noncomputable section

namespace Cert.AttnKernelIdeal.Fwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnKernelIdeal.Gen Cert.AttnKernelIdeal.Tiles

variable {F : FTy → Type} [FloatOps F] [Named F]

local notation "𝕄" => MT nD τ sig Unit (Elt F) ℕ (UR sig nD τ) ℕ

/-- What a grid point reads: its queries, the head's keys and values. -/
structure Blocks (F : FTy → Type) where
  q : Vec F S512x128 .bf16
  k : Vec F S16384x128 .bf16
  v : Vec F S16384x128 .bf16

/-- What a grid point keeps: two score blocks, the running maximum, the running sum (its last columns the weights' own). -/
@[ext] structure St (F : FTy → Type) where
  sa : Vec F S512x512 .f32
  sb : Vec F S512x512 .f32
  m : Vec F S512x1 .f32
  acc : Vec F S512x128 .f32

/-- The first half of a trip: the scores of the next block, and the even block taken up. -/
def tripFst (i : grid0.Coords) (X : Blocks F) (t : Fin (k0_t1_loop i).trips) (s : St F) : St F where
  sa := s.sa
  sb := k0_pay1 (rows X.k (k0_off1 i t 1#32) (k0_off1_inb i t 0)) X.q
  m := k0_pay5 (k0_pay2 s.sa s.m)
  acc := k0_pay4 (k0_pay3 (rows X.v (k0_off2 i t) (k0_off2_inb i t)) s.sa s.m s.acc)

/-- The second half: the scores of the block after it, and the odd block taken up. -/
def tripSnd (i : grid0.Coords) (X : Blocks F) (t : Fin (k0_t1_loop i).trips) (s : St F) : St F where
  sa := k0_pay6 (rows X.k (k0_off1 i t 2#32) (k0_off1_inb i t 1)) X.q
  sb := s.sb
  m := k0_pay28 (k0_pay8 s.sb s.m)
  acc := k0_pay27 (k0_pay7 (rows X.v (k0_off1 i t 1#32) (k0_off1_inb i t 0))) (k0_pay9 s.sb s.m) (k0_pay10 s.sb s.m) s.acc

/-- One trip. -/
def trip (i : grid0.Coords) (X : Blocks F) (t : Fin (k0_t1_loop i).trips) (s : St F) : St F := tripSnd i X t (tripFst i X t s)

/-- The first `n` trips. -/
def trips (i : grid0.Coords) (X : Blocks F) (s : St F) : ℕ → St F
  | 0 => s
  | n + 1 => if h : n < (k0_t1_loop i).trips then trip i X ⟨n, h⟩ (trips i X s n) else trips i X s n

theorem trips_succ (i : grid0.Coords) (X : Blocks F) (s : St F) (k : Fin (k0_t1_loop i).trips) :
    trips i X s (k.val + 1) = trip i X k (trips i X s k.val) := by
  show (if h : k.val < (k0_t1_loop i).trips then trip i X ⟨k.val, h⟩ (trips i X s k.val) else trips i X s k.val) = _
  exact dif_pos k.isLt

section Loop

variable (𝒱 : Variants) (c : Dev nD) (bd : Option 𝒱.V) (i : grid0.Coords)
  (a2 : Memref sig .tc .vmem S512x128 .bf16) (h2 : a2.IsWhole)
  (a3 : Memref sig .tc .vmem S16384x128 .bf16) (h3 : a3.IsWhole)
  (a4 : Memref sig .tc .vmem S16384x128 .bf16) (h4 : a4.IsWhole)
  (a5 : Memref sig .tc .vmem S512x128 .bf16) (h5 : a5.IsWhole)
  (a6 : Memref sig .tc .vmem S1x1x8x512 .f32) (h6 : a6.IsWhole)
  (a7 : Memref sig .tc .vmem S512x512 .f32) (h7 : a7.IsWhole)
  (a8 : Memref sig .tc .vmem S512x512 .f32) (h8 : a8.IsWhole)
  (a9 : Memref sig .tc .vmem S512x1 .f32) (h9 : a9.IsWhole)
  (a10 : Memref sig .tc .vmem S512x128 .f32) (h10 : a10.IsWhole)
  (j : BitVec 32) (v34 : BitVec 32)

/-- What the memrefs read of contents of their buffers. -/
abbrev blocksOf (f2 : BufTy.Contents (Elt F) a2.view.ty) (f3 : BufTy.Contents (Elt F) a3.view.ty) (f4 : BufTy.Contents (Elt F) a4.view.ty) : Blocks F :=
  ⟨a2.view.read (Elt F) f2, a3.view.read (Elt F) f3, a4.view.read (Elt F) f4⟩

abbrev stOf (f7 : BufTy.Contents (Elt F) a7.view.ty) (f8 : BufTy.Contents (Elt F) a8.view.ty) (f9 : BufTy.Contents (Elt F) a9.view.ty) (f10 : BufTy.Contents (Elt F) a10.view.ty) : St F :=
  ⟨a7.view.read (Elt F) f7, a8.view.read (Elt F) f8, a9.view.read (Elt F) f9, a10.view.read (Elt F) f10⟩

set_option maxHeartbeats 6400000 in
/-- One trip of the loop, from any contents: the buffers it stores into read the trip's function of what they read. -/
theorem trip_run (E : Set ℕ) (k : Fin (k0_t1_loop i).trips) (f2 : BufTy.Contents (Elt F) a2.view.ty) (f3 : BufTy.Contents (Elt F) a3.view.ty) (f4 : BufTy.Contents (Elt F) a4.view.ty) (f7 : BufTy.Contents (Elt F) a7.view.ty) (f8 : BufTy.Contents (Elt F) a8.view.ty) (f9 : BufTy.Contents (Elt F) a9.view.ty) (f10 : BufTy.Contents (Elt F) a10.view.ty) :
    (iprop((a2.view.loc (c : Thread nD τ) ↦[a2.view.set]{fullShare} f2) ∗ (a3.view.loc (c : Thread nD τ) ↦[a3.view.set]{fullShare} f3) ∗ (a4.view.loc (c : Thread nD τ) ↦[a4.view.set]{fullShare} f4) ∗ (a7.view.loc (c : Thread nD τ) ↦[a7.view.set]{fullShare} f7) ∗ (a8.view.loc (c : Thread nD τ) ↦[a8.view.set]{fullShare} f8) ∗ (a9.view.loc (c : Thread nD τ) ↦[a9.view.set]{fullShare} f9) ∗ (a10.view.loc (c : Thread nD τ) ↦[a10.view.set]{fullShare} f10)) : sProp 𝕄)
      ⊢ wp frame (wpE (defs₀ (F := F)) 𝒱 (c : Thread nD τ) bd) E
          (k0_t1_body (F := F) i a2 h2 a3 h3 a4 h4 a5 h5 a6 h6 a7 h7 a8 h8 a9 h9 a10 h10 j v34 k PUnit.unit)
          (fun _ => iprop((a2.view.loc (c : Thread nD τ) ↦[a2.view.set]{fullShare} f2) ∗ (a3.view.loc (c : Thread nD τ) ↦[a3.view.set]{fullShare} f3) ∗ (a4.view.loc (c : Thread nD τ) ↦[a4.view.set]{fullShare} f4) ∗ (∃ f, (a7.view.loc (c : Thread nD τ) ↦[a7.view.set]{fullShare} f) ∗ ⌜a7.view.read (Elt F) f = (trip i (blocksOf a2 a3 a4 f2 f3 f4) k (stOf a7 a8 a9 a10 f7 f8 f9 f10)).sa⌝) ∗ (∃ f, (a8.view.loc (c : Thread nD τ) ↦[a8.view.set]{fullShare} f) ∗ ⌜a8.view.read (Elt F) f = (trip i (blocksOf a2 a3 a4 f2 f3 f4) k (stOf a7 a8 a9 a10 f7 f8 f9 f10)).sb⌝) ∗ (∃ f, (a9.view.loc (c : Thread nD τ) ↦[a9.view.set]{fullShare} f) ∗ ⌜a9.view.read (Elt F) f = (trip i (blocksOf a2 a3 a4 f2 f3 f4) k (stOf a7 a8 a9 a10 f7 f8 f9 f10)).m⌝) ∗ (∃ f, (a10.view.loc (c : Thread nD τ) ↦[a10.view.set]{fullShare} f) ∗ ⌜a10.view.read (Elt F) f = (trip i (blocksOf a2 a3 a4 f2 f3 f4) k (stOf a7 a8 a9 a10 f7 f8 f9 f10)).acc⌝))) := by
  unfold k0_t1_body
  iintro ⟨H2, H3, H4, H7, H8, H9, H10⟩
  sl_exec
  sl_step
  isplitl [H2]; · iexact H2
  isplitl [H3]; · iexact H3
  isplitl [H4]; · iexact H4
  isplitl [H7]
  · iexists _; isplitl [H7]; · iexact H7
    ipureintro
    sl_unfold_words
    simp only [st_lanes, st_tile, st_square, st_col, cov_tile, cov_square, cov_col, View.readAt_eq_ld, ld_tile, ld_square, ld_col]
    rfl
  isplitl [H8]
  · iexists _; isplitl [H8]; · iexact H8
    ipureintro
    sl_unfold_words
    simp only [st_lanes, st_tile, st_square, st_col, cov_tile, cov_square, cov_col, View.readAt_eq_ld, ld_tile, ld_square, ld_col]
    rfl
  isplitl [H9]
  · iexists _; isplitl [H9]; · iexact H9
    ipureintro
    sl_unfold_words
    simp only [st_lanes, st_tile, st_square, st_col, cov_tile, cov_square, cov_col, View.readAt_eq_ld, ld_tile, ld_square, ld_col]
    rfl
  iexists _; isplitl [H10]; · iexact H10
  ipureintro
  sl_unfold_words
  simp only [st_lanes, st_tile, st_square, st_col, cov_tile, cov_square, cov_col, View.readAt_eq_ld, ld_tile, ld_square, ld_col]
  rfl

/-- The contents before trip `n`: those at the loop's entry, then those that read the iterated function. -/
def kept (X : Blocks F) (f7 : BufTy.Contents (Elt F) a7.view.ty) (f8 : BufTy.Contents (Elt F) a8.view.ty) (f9 : BufTy.Contents (Elt F) a9.view.ty) (f10 : BufTy.Contents (Elt F) a10.view.ty) : ℕ → BufTy.Contents (Elt F) a7.view.ty × BufTy.Contents (Elt F) a8.view.ty × BufTy.Contents (Elt F) a9.view.ty × BufTy.Contents (Elt F) a10.view.ty
  | 0 => (f7, f8, f9, f10)
  | n + 1 => (h7.unread (trips i X (stOf a7 a8 a9 a10 f7 f8 f9 f10) (n + 1)).sa, h8.unread (trips i X (stOf a7 a8 a9 a10 f7 f8 f9 f10) (n + 1)).sb, h9.unread (trips i X (stOf a7 a8 a9 a10 f7 f8 f9 f10) (n + 1)).m, h10.unread (trips i X (stOf a7 a8 a9 a10 f7 f8 f9 f10) (n + 1)).acc)

theorem kept_read (X : Blocks F) (f7 : BufTy.Contents (Elt F) a7.view.ty) (f8 : BufTy.Contents (Elt F) a8.view.ty) (f9 : BufTy.Contents (Elt F) a9.view.ty) (f10 : BufTy.Contents (Elt F) a10.view.ty) (n : ℕ) :
    stOf a7 a8 a9 a10 (kept i a7 h7 a8 h8 a9 h9 a10 h10 X f7 f8 f9 f10 n).1 (kept i a7 h7 a8 h8 a9 h9 a10 h10 X f7 f8 f9 f10 n).2.1 (kept i a7 h7 a8 h8 a9 h9 a10 h10 X f7 f8 f9 f10 n).2.2.1 (kept i a7 h7 a8 h8 a9 h9 a10 h10 X f7 f8 f9 f10 n).2.2.2 = trips i X (stOf a7 a8 a9 a10 f7 f8 f9 f10) n := by
  cases n with
  | zero => rfl
  | succ n => unfold kept stOf; dsimp only; simp only [h7.read_unread, h8.read_unread, h9.read_unread, h10.read_unread]

set_option warn.classDefReducibility false in
/-- The loop by its invariant: before trip `n` the buffers are as `n` trips of the function leave them. -/
def loopInv (E : Set ℕ) (f2 : BufTy.Contents (Elt F) a2.view.ty) (f3 : BufTy.Contents (Elt F) a3.view.ty) (f4 : BufTy.Contents (Elt F) a4.view.ty) (f7 : BufTy.Contents (Elt F) a7.view.ty) (f8 : BufTy.Contents (Elt F) a8.view.ty) (f9 : BufTy.Contents (Elt F) a9.view.ty) (f10 : BufTy.Contents (Elt F) a10.view.ty) :
    LoopInvTy_k0_t1 (F := F) Unit ℕ (UR sig nD τ) ℕ 𝒱 c bd E i a2 h2 a3 h3 a4 h4 a5 h5 a6 h6 a7 h7 a8 h8 a9 h9 a10 h10 j v34 where
  inv n _ := iprop((a2.view.loc (c : Thread nD τ) ↦[a2.view.set]{fullShare} f2) ∗ (a3.view.loc (c : Thread nD τ) ↦[a3.view.set]{fullShare} f3) ∗ (a4.view.loc (c : Thread nD τ) ↦[a4.view.set]{fullShare} f4) ∗ (∃ f, (a7.view.loc (c : Thread nD τ) ↦[a7.view.set]{fullShare} f) ∗ ⌜f = (kept i a7 h7 a8 h8 a9 h9 a10 h10 (blocksOf a2 a3 a4 f2 f3 f4) f7 f8 f9 f10 n).1⌝) ∗ (∃ f, (a8.view.loc (c : Thread nD τ) ↦[a8.view.set]{fullShare} f) ∗ ⌜f = (kept i a7 h7 a8 h8 a9 h9 a10 h10 (blocksOf a2 a3 a4 f2 f3 f4) f7 f8 f9 f10 n).2.1⌝) ∗ (∃ f, (a9.view.loc (c : Thread nD τ) ↦[a9.view.set]{fullShare} f) ∗ ⌜f = (kept i a7 h7 a8 h8 a9 h9 a10 h10 (blocksOf a2 a3 a4 f2 f3 f4) f7 f8 f9 f10 n).2.2.1⌝) ∗ (∃ f, (a10.view.loc (c : Thread nD τ) ↦[a10.view.set]{fullShare} f) ∗ ⌜f = (kept i a7 h7 a8 h8 a9 h9 a10 h10 (blocksOf a2 a3 a4 f2 f3 f4) f7 f8 f9 f10 n).2.2.2⌝))
  step k acc := by
    iintro ⟨H2, H3, H4, ⟨%g7, H7, %e7⟩, ⟨%g8, H8, %e8⟩, ⟨%g9, H9, %e9⟩, ⟨%g10, H10, %e10⟩⟩
    have hk := kept_read i a7 h7 a8 h8 a9 h9 a10 h10 (blocksOf a2 a3 a4 f2 f3 f4) f7 f8 f9 f10 k.val
    iapply (wp_wand_r Idealize.ShloMosaic.frame (wpE (defs₀ (F := F)) 𝒱 (c : Thread nD τ) bd) E)
    isplitl [H2 H3 H4 H7 H8 H9 H10]
    · iapply (trip_run 𝒱 c bd i a2 h2 a3 h3 a4 h4 a5 h5 a6 h6 a7 h7 a8 h8 a9 h9 a10 h10 j v34 E k f2 f3 f4 g7 g8 g9 g10)
      isplitl [H2]; · iexact H2
      isplitl [H3]; · iexact H3
      isplitl [H4]; · iexact H4
      isplitl [H7]; · iexact H7
      isplitl [H8]; · iexact H8
      isplitl [H9]; · iexact H9
      iexact H10
    · iintro %_ ⟨H2, H3, H4, ⟨%q7, H7, %r7⟩, ⟨%q8, H8, %r8⟩, ⟨%q9, H9, %r9⟩, ⟨%q10, H10, %r10⟩⟩
      rw [e7, e8, e9, e10, hk] at r7 r8 r9 r10
      isplitl [H2]; · iexact H2
      isplitl [H3]; · iexact H3
      isplitl [H4]; · iexact H4
      isplitl [H7]
      · iexists _; isplitl [H7]; · iexact H7
        ipureintro; exact h7.eq_unread (r7.trans (congrArg St.sa (trips_succ i _ _ k).symm))
      isplitl [H8]
      · iexists _; isplitl [H8]; · iexact H8
        ipureintro; exact h8.eq_unread (r8.trans (congrArg St.sb (trips_succ i _ _ k).symm))
      isplitl [H9]
      · iexists _; isplitl [H9]; · iexact H9
        ipureintro; exact h9.eq_unread (r9.trans (congrArg St.m (trips_succ i _ _ k).symm))
      iexists _; isplitl [H10]; · iexact H10
      ipureintro; exact h10.eq_unread (r10.trans (congrArg St.acc (trips_succ i _ _ k).symm))

/-- The loop, then what follows it from the buffers as its trips leave them. -/
theorem loop_then (E : Set ℕ) (f2 : BufTy.Contents (Elt F) a2.view.ty) (f3 : BufTy.Contents (Elt F) a3.view.ty) (f4 : BufTy.Contents (Elt F) a4.view.ty) (f7 : BufTy.Contents (Elt F) a7.view.ty) (f8 : BufTy.Contents (Elt F) a8.view.ty) (f9 : BufTy.Contents (Elt F) a9.view.ty) (f10 : BufTy.Contents (Elt F) a10.view.ty) {β : Type}
    {kk : PUnit → Prog (TpuEff nD τ sig (Elt F) Λ₀ Proc.tc) β} {Q : β → sProp 𝕄} :
    iprop((a2.view.loc (c : Thread nD τ) ↦[a2.view.set]{fullShare} f2) ∗ (a3.view.loc (c : Thread nD τ) ↦[a3.view.set]{fullShare} f3) ∗ (a4.view.loc (c : Thread nD τ) ↦[a4.view.set]{fullShare} f4) ∗ (a7.view.loc (c : Thread nD τ) ↦[a7.view.set]{fullShare} f7) ∗ (a8.view.loc (c : Thread nD τ) ↦[a8.view.set]{fullShare} f8) ∗ (a9.view.loc (c : Thread nD τ) ↦[a9.view.set]{fullShare} f9) ∗ (a10.view.loc (c : Thread nD τ) ↦[a10.view.set]{fullShare} f10)
        ∗ (∀ u, (a2.view.loc (c : Thread nD τ) ↦[a2.view.set]{fullShare} f2) -∗ (a3.view.loc (c : Thread nD τ) ↦[a3.view.set]{fullShare} f3) -∗ (a4.view.loc (c : Thread nD τ) ↦[a4.view.set]{fullShare} f4) -∗ ∀ g7, (a7.view.loc (c : Thread nD τ) ↦[a7.view.set]{fullShare} g7) -∗ ∀ g8, (a8.view.loc (c : Thread nD τ) ↦[a8.view.set]{fullShare} g8) -∗ ∀ g9, (a9.view.loc (c : Thread nD τ) ↦[a9.view.set]{fullShare} g9) -∗ ∀ g10, (a10.view.loc (c : Thread nD τ) ↦[a10.view.set]{fullShare} g10)
          -∗ ⌜stOf a7 a8 a9 a10 g7 g8 g9 g10 = trips i (blocksOf a2 a3 a4 f2 f3 f4) (stOf a7 a8 a9 a10 f7 f8 f9 f10) (k0_t1_loop i).trips⌝
          -∗ wp Idealize.ShloMosaic.frame (wpE (defs₀ (F := F)) 𝒱 (c : Thread nD τ) bd) E (kk u) Q))
      ⊢ wp Idealize.ShloMosaic.frame (wpE (defs₀ (F := F)) 𝒱 (c : Thread nD τ) bd) E
          ((k0_t1_loop i).for (k0_t1_ok i) PUnit.unit (k0_t1_body i a2 h2 a3 h3 a4 h4 a5 h5 a6 h6 a7 h7 a8 h8 a9 h9 a10 h10 j v34) >>= kk) Q := by
  iintro ⟨H2, H3, H4, H7, H8, H9, H10, HK⟩
  iapply (exec_loop Idealize.ShloMosaic.frame (wpE (defs₀ (F := F)) 𝒱 (c : Thread nD τ) bd) E _ _ _ _ _ _
    (loopInv 𝒱 c bd i a2 h2 a3 h3 a4 h4 a5 h5 a6 h6 a7 h7 a8 h8 a9 h9 a10 h10 j v34 E f2 f3 f4 f7 f8 f9 f10)) $$ [H2 H3 H4 H7 H8 H9 H10]
  · unfold loopInv; dsimp only
    isplitl [H2]; · iexact H2
    isplitl [H3]; · iexact H3
    isplitl [H4]; · iexact H4
    isplitl [H7]
    · iexists _; isplitl [H7]; · iexact H7
      ipureintro; rfl
    isplitl [H8]
    · iexists _; isplitl [H8]; · iexact H8
      ipureintro; rfl
    isplitl [H9]
    · iexists _; isplitl [H9]; · iexact H9
      ipureintro; rfl
    iexists _; isplitl [H10]; · iexact H10
    ipureintro; rfl
  · iintro %u HI
    unfold loopInv; dsimp only
    icases HI with ⟨H2, H3, H4, ⟨%g7, H7, %e7⟩, ⟨%g8, H8, %e8⟩, ⟨%g9, H9, %e9⟩, ⟨%g10, H10, %e10⟩⟩
    iapply HK $$ %u H2 H3 H4 %g7 H7 %g8 H8 %g9 H9 %g10 H10
    ipureintro
    have hk := kept_read i a7 h7 a8 h8 a9 h9 a10 h10 (blocksOf a2 a3 a4 f2 f3 f4) f7 f8 f9 f10 (k0_t1_loop i).trips
    rw [← hk]
    simp only [e7, e8, e9, e10]

theorem no_rest : ∀ i : grid0.Coords, (k0_t2_loop i).trips = 0 := by decide +kernel

/-- The loop of what the pairs leave over has no trip. -/
theorem rest_then (E : Set ℕ) (w : BitVec 32) {β : Type} {kk : PUnit → Prog (TpuEff nD τ sig (Elt F) Λ₀ Proc.tc) β} {Q : β → sProp 𝕄} :
    wp Idealize.ShloMosaic.frame (wpE (defs₀ (F := F)) 𝒱 (c : Thread nD τ) bd) E (kk PUnit.unit) Q
      ⊢ wp Idealize.ShloMosaic.frame (wpE (defs₀ (F := F)) 𝒱 (c : Thread nD τ) bd) E
          ((k0_t2_loop i).for (k0_t2_ok i) PUnit.unit (k0_t2_body i a2 h2 a3 h3 a4 h4 a5 h5 a6 h6 a7 h7 a8 h8 a9 h9 a10 h10 j v34 w) >>= kk) Q := by
  iintro H
  iapply (exec_loop Idealize.ShloMosaic.frame (wpE (defs₀ (F := F)) 𝒱 (c : Thread nD τ) bd) E _ _ _ _ _ _
    (LoopInv.ofNoTrips _ _ _ _ _ _ _ _ _ (no_rest i))) $$ []
  · unfold LoopInv.ofNoTrips; dsimp only
    ipureintro; trivial
  · iintro %u Hu
    iexact H

/-- What the point keeps at its loop's entry. -/
def entry (X : Blocks F) (sb : Vec F S512x512 .f32) : St F where
  sa := k0_pay26 (rows X.k ![0, 0] inb_S16384x128_S512x128_0_0) X.q
  sb := sb
  m := k0_pay24
  acc := k0_pay25

/-- The diagonal block where its row block's number is even: masked, then taken up. -/
def lastEven (X : Blocks F) (h : k0_cond1 i = 1#1) (s : St F) : St F where
  sa := s.sa
  sb := s.sb
  m := k0_pay34 s.sa s.m
  acc := k0_pay33 (rows X.v (k0_off5 i) (k0_off5_inb i h)) s.sa s.m s.acc

/-- The last two blocks where its number is odd: the even one, then the diagonal one, masked. -/
def lastOdd (X : Blocks F) (h : k0_cond2 i = 1#1) (s : St F) : St F where
  sa := s.sa
  sb := k0_pay21 (rows X.k (k0_off6 i) (k0_off6_inb i h)) X.q
  m := k0_pay39 (k0_pay21 (rows X.k (k0_off6 i) (k0_off6_inb i h)) X.q) (k0_pay35 (k0_pay22 s.sa s.m))
  acc := k0_pay38 (rows X.v (k0_off6 i) (k0_off6_inb i h)) (k0_pay21 (rows X.k (k0_off6 i) (k0_off6_inb i h)) X.q)
    (k0_pay35 (k0_pay22 s.sa s.m)) (k0_pay23 (rows X.v (k0_off7 i) (k0_off7_inb i h)) s.sa s.m s.acc)

/-- The whole point's state at the end, from the second score block it finds. -/
def point (X : Blocks F) (sb : Vec F S512x512 .f32) : St F :=
  (fun s => if h : k0_cond2 i = 1#1 then lastOdd i X h s else s)
    ((fun s => if h : k0_cond1 i = 1#1 then lastEven i X h s else s) (trips i X (entry X sb) (k0_t1_loop i).trips))

/-- The trips from the loop's entry, whose state is given by its fields. -/
theorem enter (X : Blocks F) (sb : Vec F S512x512 .f32) {s s' : St F} {n : ℕ} (h1 : s.sa = (entry X sb).sa) (h2 : s.sb = (entry X sb).sb)
    (h3 : s.m = (entry X sb).m) (h4 : s.acc = (entry X sb).acc) (h : s' = trips i X s n) : s' = trips i X (entry X sb) n :=
  h.trans (congrArg (fun u => trips i X u n) (St.ext h1 h2 h3 h4))

/-- Leaving a point. -/
theorem leave (Y : St F) (W : Waits sig Unit) (K : PUnit → sProp 𝕄) (f2 : BufTy.Contents (Elt F) a2.view.ty) (f3 : BufTy.Contents (Elt F) a3.view.ty) (f4 : BufTy.Contents (Elt F) a4.view.ty) (f5 : BufTy.Contents (Elt F) a5.view.ty) (f6 : BufTy.Contents (Elt F) a6.view.ty) (f7 : BufTy.Contents (Elt F) a7.view.ty) (f8 : BufTy.Contents (Elt F) a8.view.ty) (f9 : BufTy.Contents (Elt F) a9.view.ty) (f10 : BufTy.Contents (Elt F) a10.view.ty) :
    iprop((a2.view.loc (c : Thread nD τ) ↦[a2.view.set]{fullShare} f2) ∗ (a3.view.loc (c : Thread nD τ) ↦[a3.view.set]{fullShare} f3) ∗ (a4.view.loc (c : Thread nD τ) ↦[a4.view.set]{fullShare} f4) ∗ (a5.view.loc (c : Thread nD τ) ↦[a5.view.set]{fullShare} f5) ∗ (a6.view.loc (c : Thread nD τ) ↦[a6.view.set]{fullShare} f6) ∗ (a7.view.loc (c : Thread nD τ) ↦[a7.view.set]{fullShare} f7) ∗ (a8.view.loc (c : Thread nD τ) ↦[a8.view.set]{fullShare} f8) ∗ (a9.view.loc (c : Thread nD τ) ↦[a9.view.set]{fullShare} f9) ∗ (a10.view.loc (c : Thread nD τ) ↦[a10.view.set]{fullShare} f10) ∗ owes (c : Thread nD τ) 0 W
        ∗ ⌜a5.view.read (Elt F) f5 = k0_pay41 Y.acc⌝ ∗ ⌜a6.view.read (Elt F) f6 = k0_pay42 Y.acc Y.m⌝
        ∗ (iprop(owns (c : Thread nD τ) a2 fullShare (a2.view.read (Elt F) f2) ∗ owns (c : Thread nD τ) a3 fullShare (a3.view.read (Elt F) f3) ∗ owns (c : Thread nD τ) a4 fullShare (a4.view.read (Elt F) f4) ∗ owns (c : Thread nD τ) a5 fullShare (k0_pay41 Y.acc) ∗ owns (c : Thread nD τ) a6 fullShare (k0_pay42 Y.acc Y.m) ∗ (∃ d, owns (c : Thread nD τ) a7 fullShare d) ∗ (∃ d, owns (c : Thread nD τ) a8 fullShare d) ∗ (∃ d, owns (c : Thread nD τ) a9 fullShare d) ∗ (∃ d, owns (c : Thread nD τ) a10 fullShare d) ∗ (∃ W', owes (c : Thread nD τ) 0 W')) -∗ K ⟨⟩))
      ⊢ (K ⟨⟩ : sProp 𝕄) := by
  unfold owns
  iintro ⟨H2, H3, H4, H5, H6, H7, H8, H9, H10, HW, %e5, %e6, Hk⟩
  iapply Hk
  isplitl [H2]
  · iexists f2; isplitr [H2]
    · ipureintro; rfl
    iexact H2
  isplitl [H3]
  · iexists f3; isplitr [H3]
    · ipureintro; rfl
    iexact H3
  isplitl [H4]
  · iexists f4; isplitr [H4]
    · ipureintro; rfl
    iexact H4
  isplitl [H5]
  · iexists f5; isplitr [H5]
    · ipureintro; exact e5
    iexact H5
  isplitl [H6]
  · iexists f6; isplitr [H6]
    · ipureintro; exact e6
    iexact H6
  isplitl [H7]
  · iexists (a7.view.read (Elt F) f7), f7; isplitr [H7]
    · ipureintro; rfl
    iexact H7
  isplitl [H8]
  · iexists (a8.view.read (Elt F) f8), f8; isplitr [H8]
    · ipureintro; rfl
    iexact H8
  isplitl [H9]
  · iexists (a9.view.read (Elt F) f9), f9; isplitr [H9]
    · ipureintro; rfl
    iexact H9
  isplitl [H10]
  · iexists (a10.view.read (Elt F) f10), f10; isplitr [H10]
    · ipureintro; rfl
    iexact H10
  iexists _; iexact HW

set_option maxHeartbeats 12800000 in
/-- One grid point: it leaves the output block and the row of log-sums as `point` says. -/
theorem point_run (X : Blocks F) (sb : Vec F S512x512 .f32) (W : Waits sig Unit) (K : PUnit → sProp 𝕄) :
    iprop(owns (c : Thread nD τ) a2 fullShare X.q ∗ owns (c : Thread nD τ) a3 fullShare X.k ∗ owns (c : Thread nD τ) a4 fullShare X.v ∗ (∃ d, owns (c : Thread nD τ) a5 fullShare d) ∗ (∃ d, owns (c : Thread nD τ) a6 fullShare d) ∗ (∃ d, owns (c : Thread nD τ) a7 fullShare d) ∗ owns (c : Thread nD τ) a8 fullShare sb ∗ (∃ d, owns (c : Thread nD τ) a9 fullShare d) ∗ (∃ d, owns (c : Thread nD τ) a10 fullShare d) ∗ owes (c : Thread nD τ) 0 W
        ∗ (iprop(owns (c : Thread nD τ) a2 fullShare X.q ∗ owns (c : Thread nD τ) a3 fullShare X.k ∗ owns (c : Thread nD τ) a4 fullShare X.v ∗ owns (c : Thread nD τ) a5 fullShare (k0_pay41 (point i X sb).acc) ∗ owns (c : Thread nD τ) a6 fullShare (k0_pay42 (point i X sb).acc (point i X sb).m) ∗ (∃ d, owns (c : Thread nD τ) a7 fullShare d) ∗ (∃ d, owns (c : Thread nD τ) a8 fullShare d) ∗ (∃ d, owns (c : Thread nD τ) a9 fullShare d) ∗ (∃ d, owns (c : Thread nD τ) a10 fullShare d) ∗ (∃ W', owes (c : Thread nD τ) 0 W')) -∗ K ⟨⟩))
      ⊢ wp frame (wpE (defs₀ (F := F)) 𝒱 c bd) Set.univ (cc0_flash_fwd i a2 h2 a3 h3 a4 h4 a5 h5 a6 h6 a7 h7 a8 h8 a9 h9 a10 h10) K := by
  simp only [cc0_flash_fwd_eq_skeleton]; unfold cc0_flash_fwd_skel
  simp only [k0_part6_eq_skeleton]
  unfold owns
  iintro ⟨⟨%f2, %e2, H2⟩, ⟨%f3, %e3, H3⟩, ⟨%f4, %e4, H4⟩, ⟨%d5, %f5, -, H5⟩, ⟨%d6, %f6, -, H6⟩, ⟨%d7, %f7, -, H7⟩, ⟨%f8, %e8, H8⟩, ⟨%d9, %f9, -, H9⟩, ⟨%d10, %f10, -, H10⟩, HW, Hk⟩
  obtain ⟨Xq, Xk, Xv⟩ := X
  dsimp only at e2 e3 e4
  subst e2 e3 e4 e8
  generalize hP : k0_part7 (F := F) i a2 h2 a3 h3 a4 h4 a5 h5 a6 h6 a7 h7 a8 h8 a9 h9 a10 h10 = P
  sl_exec
  subst hP
  simp only [k0_part7_eq_skeleton]; unfold k0_part7_skel
  dsimp only
  simp only [bind_assoc]
  iapply (loop_then 𝒱 c bd i a2 h2 a3 h3 a4 h4 a5 h5 a6 h6 a7 h7 a8 h8 a9 h9 a10 h10 _ _ _ _ _ _ _ _ _ _)
  isplitl [H2]; · iexact H2
  isplitl [H3]; · iexact H3
  isplitl [H4]; · iexact H4
  isplitl [H7]; · iexact H7
  isplitl [H8]; · iexact H8
  isplitl [H9]; · iexact H9
  isplitl [H10]; · iexact H10
  iintro %u H2 H3 H4 %g7 H7 %g8 H8 %g9 H9 %g10 H10 %hg
  iapply (rest_then 𝒱 c bd i a2 h2 a3 h3 a4 h4 a5 h5 a6 h6 a7 h7 a8 h8 a9 h9 a10 h10 _ _ _ _)
  have hg := enter i ⟨View.read (Elt F) a2.view f2, View.read (Elt F) a3.view f3, View.read (Elt F) a4.view f4⟩ (View.read (Elt F) a8.view f8)
    (by sl_unfold_words; simp only [st_lanes, st_tile, st_square, st_col, cov_tile, cov_square, cov_col, View.readAt_eq_ld, ld_tile, ld_square, ld_col]; rfl)
    (by rfl)
    (by sl_unfold_words; simp only [st_lanes, st_tile, st_square, st_col, cov_tile, cov_square, cov_col, View.readAt_eq_ld, ld_tile, ld_square, ld_col]; rfl)
    (by sl_unfold_words; simp only [st_lanes, st_tile, st_square, st_col, cov_tile, cov_square, cov_col, View.readAt_eq_ld, ld_tile, ld_square, ld_col]; rfl) hg
  by_cases hc1 : k0_cond1 i = 1#1 <;> by_cases hc2 : k0_cond2 i = 1#1
  all_goals
    sl_exec (disch := first | sl_exact hc1 | sl_exact hc2)
    sl_step
  all_goals
    iapply (leave c a2 a3 a4 a5 a6 a7 a8 a9 a10 (point i ⟨View.read (Elt F) a2.view f2, View.read (Elt F) a3.view f3, View.read (Elt F) a4.view f4⟩ (View.read (Elt F) a8.view f8)) W K _ _ _ _ _ _ _ _ _)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HW]; · iexact HW
    isplitr
    · ipureintro; unfold point; rw [← hg]; simp only [hc1, hc2, dite_true, dite_false]; sl_unfold_words; simp only [st_lanes, st_tile, st_square, st_col, cov_tile, cov_square, cov_col, View.readAt_eq_ld, ld_tile, ld_square, ld_col]; try rfl
    isplitr
    · ipureintro; unfold point; rw [← hg]; simp only [hc1, hc2, dite_true, dite_false]; sl_unfold_words; simp only [st_lanes, st_tile, st_square, st_col, cov_tile, cov_square, cov_col, View.readAt_eq_ld, ld_tile, ld_square, ld_col]; try rfl
    iexact Hk

end Loop

end Cert.AttnKernelIdeal.Fwd
-- ==== Proof.Attn.Region0.lean ====
module

public import proofs.«01_k».proof.Proof.Attn.Fwd
public import proofs.«01_k».proof.Proof.Gen.AttnKernelIdeal.Points
public import proofs.«01_k».proof.Proof.Gen.AttnKernelIdeal.Launch
public import Idealize.ShloMosaic.Lib.Pipeline.FrameBody
public import Idealize.ShloMosaic.Lib.Pipeline.RegionsLoop
public import Idealize.ShloMosaic.Lib.Pipeline.TableIdle

@[expose] public section

set_option maxRecDepth 16384

noncomputable section

namespace Cert.AttnKernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.AttnKernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- A window's block at a point, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What a point reads. -/
def fwdBlocks (c : Dev nD) (t : Fin cfg0.N) : Fwd.Blocks F := ⟨iblk0 V c 0 t, iblk0 V c 1 t, iblk0 V c 2 t⟩

/-- Two states but for the second score block. -/
def Same (s s' : Fwd.St F) : Prop := s.sa = s'.sa ∧ s.m = s'.m ∧ s.acc = s'.acc

/-- A trip stores the second score block before it reads it. -/
theorem same_trips (i : grid0.Coords) (X : Fwd.Blocks F) {s s' : Fwd.St F} (h : Same s s') : ∀ n, Same (Fwd.trips i X s n) (Fwd.trips i X s' n)
  | 0 => h
  | n + 1 => by
    unfold Fwd.trips
    split_ifs with hn
    · obtain ⟨h1, h2, h3⟩ := same_trips i X h n
      unfold Fwd.trip
      rw [show Fwd.tripFst i X ⟨n, hn⟩ (Fwd.trips i X s n) = Fwd.tripFst i X ⟨n, hn⟩ (Fwd.trips i X s' n) from by
        unfold Fwd.tripFst; rw [h1, h2, h3]]
      exact ⟨rfl, rfl, rfl⟩
    · exact same_trips i X h n

/-- What a point leaves does not depend on the second score block it finds. -/
theorem same_point (i : grid0.Coords) (X : Fwd.Blocks F) (sb sb' : Vec F S512x512 .f32) : Same (Fwd.point i X sb) (Fwd.point i X sb') := by
  have hE {s s' : Fwd.St F} (h : Same s s') : Same (if hc : k0_cond1 i = 1#1 then Fwd.lastEven i X hc s else s) (if hc : k0_cond1 i = 1#1 then Fwd.lastEven i X hc s' else s') := by
    obtain ⟨h1, h2, h3⟩ := h
    split_ifs with hc
    · unfold Fwd.lastEven; rw [h1, h2, h3]; exact ⟨rfl, rfl, rfl⟩
    · exact ⟨h1, h2, h3⟩
  have hO {s s' : Fwd.St F} (h : Same s s') : Same (if hc : k0_cond2 i = 1#1 then Fwd.lastOdd i X hc s else s) (if hc : k0_cond2 i = 1#1 then Fwd.lastOdd i X hc s' else s') := by
    obtain ⟨h1, h2, h3⟩ := h
    split_ifs with hc
    · unfold Fwd.lastOdd; rw [h1, h2, h3]; exact ⟨rfl, rfl, rfl⟩
    · exact ⟨h1, h2, h3⟩
  exact hO (hE (same_trips i X (s := Fwd.entry X sb) (s' := Fwd.entry X sb') ⟨rfl, rfl, rfl⟩ _))

/-- The state a point ends with. -/
def fwdAt (c : Dev nD) (t : Fin cfg0.N) : Fwd.St F :=
  Fwd.point (grid0.coords t) (fwdBlocks V c t) (k0_pay26 (Tiles.rows (fwdBlocks V c t).k ![0, 0] inb_S16384x128_S512x128_0_0) (fwdBlocks V c t).q)

/-- The region's proof data: its arrays as it finds them, each block read left in place, each result as the point leaves it. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay41 (fwdAt V c t).acc
    | ⟨4, _⟩ => k0_pay42 (fwdAt V c t).acc (fwdAt V c t).m
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay41 (fwdAt V c t).acc := by dsimp only [dat0]
theorem after0_4 (c : Dev nD) (t : Fin cfg0.N) : (dat0 V c).after 4 t = k0_pay42 (fwdAt V c t).acc (fwdAt V c t).m := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-- The scoped buffers outside the staging ones, the kernel's own scratch memrefs taken out. -/
theorem scratch0 (c : Dev nD) :
    (Pipeline.scopedRest (Ix := Unit) (Name := ℕ) (U := UR sig nD τ) (Lvl := ℕ) (Val := Elt F) spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d))
          ∗ Pipeline.scopedRestBut (Ix := Unit) (Name := ℕ) (U := UR sig nD τ) (Lvl := ℕ) (Val := Elt F) spec0 c [cc0_scratch0, cc0_scratch1, cc0_scratch2, cc0_scratch3]) := by
  rw [scopedRest0_split]
  have h (b : Ref sig .tc) : (iprop(∃ f : Buf (Elt F) ((c : Thread nD τ).loc b), ((c : Thread nD τ).loc b) ↦{fullShare} f) : sProp 𝕄)
      = iprop(∃ d, owns (c : Thread nD τ) (Memref.whole b) fullShare d) := by
    simp only [owns_whole]
  simp only [h]

/-- What the body is called with at a point, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = Pipeline.ΦA spec0 c from rfl, show (dat0 V c).Φ t.castSucc = Pipeline.ΦA spec0 c from rfl,
    after0_0, after0_1, after0_2, after0_3, after0_4]
  unfold Pipeline.ΦA Dat.owesAt Pipeline.owesWithin
  rw [show (dat0 V c).owed t.castSucc = 0 from rfl, show (dat0 V c).owed t.succ = 0 from rfl, scratch0]
  iintro ⟨⟨⟨⟨HS0, ⟨%sb, HS1⟩, HS2, HS3⟩, Hb⟩, Hg⟩, ⟨%W, -, HW⟩, ⟨%d0, H0⟩, ⟨%d1, H1⟩, ⟨%d2, H2⟩, ⟨%d3, H3⟩, ⟨%d4, H4⟩⟩
  obtain ⟨-, em, ea⟩ := same_point (grid0.coords t) (fwdBlocks V c t) sb
    (k0_pay26 (Tiles.rows (fwdBlocks V c t).k ![0, 0] inb_S16384x128_S512x128_0_0) (fwdBlocks V c t).q)
  iapply (Fwd.point_run Variants.none c none (grid0.coords t) _ _ _ _ _ _ _ _ _ _ _ _ _ _ _ _ _ _ (fwdBlocks V c t) sb W _)
  isplitl [H0]; · iexact H0
  isplitl [H1]; · iexact H1
  isplitl [H2]; · iexact H2
  isplitl [H3]; · iexists _; iexact H3
  isplitl [H4]; · iexists _; iexact H4
  isplitl [HS0]; · iexact HS0
  isplitl [HS1]; · iexact HS1
  isplitl [HS2]; · iexact HS2
  isplitl [HS3]; · iexact HS3
  isplitl [HW]; · iexact HW
  rw [em, ea]
  iintro ⟨H0, H1, H2, H3, H4, HS0, HS1, HS2, HS3, ⟨%W', HW'⟩⟩
  isplitl [HS0 HS1 HS2 HS3 Hb Hg]
  · isplitl [HS0 HS1 HS2 HS3 Hb]
    · isplitl [HS0 HS1 HS2 HS3]
      · isplitl [HS0]; · iexact HS0
        isplitl [HS1]; · iexact HS1
        isplitl [HS2]; · iexact HS2
        iexact HS3
      iexact Hb
    iexact Hg
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  iexact H4

theorem defs₀_row0 (t : Fin cfg0.N) :
    defs₀ (F := F) .tc cfg0.body (cfg0.bodyArgs t (cfg0.slots t)) = bodyAt0 t := by
  unfold defs₀; rw [Defs.onTc_tc]

/-- The region's body obligation. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.AttnKernelIdeal.Attn

end
-- ==== Proof.Attn.Region1.lean ====
module

public import proofs.«01_k».proof.Proof.Gen.AttnKernelIdeal.Loops
public import proofs.«01_k».proof.Proof.Gen.AttnKernelIdeal.Points
public import proofs.«01_k».proof.Proof.Gen.AttnKernelIdeal.Launch
public import Idealize.ShloMosaic.Lib.Pipeline.FrameBody
public import Idealize.ShloMosaic.Lib.Pipeline.RegionsLoop
public import Idealize.ShloMosaic.Lib.Pipeline.TableIdle

@[expose] public section

set_option maxRecDepth 16384

noncomputable section

namespace Cert.AttnKernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.AttnKernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- A window's block at a point, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row sums a point leaves, in its four stores, last first. -/
def sumsOf (x y : Vec F S2048x128 .bf16) : Vec F S1x4x8x512 .f32 :=
  View.canon [
    ⟨Rect.unit (s := S1x4x8x512) ![0, 3, 0, 0] S1x1x8x512.size inb_S1x4x8x512_S1x1x8x512_0_3_0_0, k1_pay2
      (View.ld x (Rect.unit (s := S2048x128) ![1536, 0] S512x128.size inb_S2048x128_S512x128_1536_0)) (View.ld y (Rect.unit (s := S2048x128) ![1536, 0] S512x128.size inb_S2048x128_S512x128_1536_0))⟩,
    ⟨Rect.unit (s := S1x4x8x512) ![0, 2, 0, 0] S1x1x8x512.size inb_S1x4x8x512_S1x1x8x512_0_2_0_0, k1_pay1
      (k1_pay5 (View.ld x (Rect.unit (s := S2048x128) ![1024, 0] S512x128.size inb_S2048x128_S512x128_1024_0))) (View.ld y (Rect.unit (s := S2048x128) ![1024, 0] S512x128.size inb_S2048x128_S512x128_1024_0))⟩,
    ⟨Rect.unit (s := S1x4x8x512) ![0, 1, 0, 0] S1x1x8x512.size inb_S1x4x8x512_S1x1x8x512_0_1_0_0, k1_pay4
      (View.ld x (Rect.unit (s := S2048x128) ![512, 0] S512x128.size inb_S2048x128_S512x128_512_0)) (View.ld y (Rect.unit (s := S2048x128) ![512, 0] S512x128.size inb_S2048x128_S512x128_512_0))⟩,
    ⟨Rect.unit (s := S1x4x8x512) ![0, 0, 0, 0] S1x1x8x512.size inb_S1x4x8x512_S1x1x8x512_0_0_0_0, k1_pay3
      (View.ld x (Rect.unit (s := S2048x128) ![0, 0] S512x128.size inb_S2048x128_S512x128_0_0)) (View.ld y (Rect.unit (s := S2048x128) ![0, 0] S512x128.size inb_S2048x128_S512x128_0_0))⟩]

/-- Four stores of 512 sums in eight copies cover the block. -/
theorem sums_cover (p0 p1 p2 p3 : Vec F S1x1x8x512 .f32) (y : S1x4x8x512.Idx) :
    ∃ pc ∈ ([⟨Rect.unit (s := S1x4x8x512) ![0, 3, 0, 0] S1x1x8x512.size inb_S1x4x8x512_S1x1x8x512_0_3_0_0, p3⟩,
      ⟨Rect.unit (s := S1x4x8x512) ![0, 2, 0, 0] S1x1x8x512.size inb_S1x4x8x512_S1x1x8x512_0_2_0_0, p2⟩,
      ⟨Rect.unit (s := S1x4x8x512) ![0, 1, 0, 0] S1x1x8x512.size inb_S1x4x8x512_S1x1x8x512_0_1_0_0, p1⟩,
      ⟨Rect.unit (s := S1x4x8x512) ![0, 0, 0, 0] S1x1x8x512.size inb_S1x4x8x512_S1x1x8x512_0_0_0_0, p0⟩] : List (View.Piece (Elt F) S1x4x8x512 .f32)), y ∈ pc.1.set :=
  View.cover_of_tiled [⟨Rect.unit (s := S1x4x8x512) ![0, 3, 0, 0] S1x1x8x512.size inb_S1x4x8x512_S1x1x8x512_0_3_0_0, p3⟩,
      ⟨Rect.unit (s := S1x4x8x512) ![0, 2, 0, 0] S1x1x8x512.size inb_S1x4x8x512_S1x1x8x512_0_2_0_0, p2⟩,
      ⟨Rect.unit (s := S1x4x8x512) ![0, 1, 0, 0] S1x1x8x512.size inb_S1x4x8x512_S1x1x8x512_0_1_0_0, p1⟩,
      ⟨Rect.unit (s := S1x4x8x512) ![0, 0, 0, 0] S1x1x8x512.size inb_S1x4x8x512_S1x1x8x512_0_0_0_0, p0⟩] S1x1x8x512.size (by rfl) y

set_option maxHeartbeats 1000000 in
/-- The body on whole memrefs. -/
theorem sums_run (c : Dev nD) (i : grid1.Coords) (a2 : Memref sig .tc .vmem S2048x128 .bf16) (h2 : a2.IsWhole)
    (a3 : Memref sig .tc .vmem S2048x128 .bf16) (h3 : a3.IsWhole) (a4 : Memref sig .tc .vmem S1x4x8x512 .f32) (h4 : a4.IsWhole)
    (x y : Vec F S2048x128 .bf16) (K : PUnit → sProp 𝕄) :
    iprop(owns (c : Thread nD τ) a2 fullShare x ∗ owns (c : Thread nD τ) a3 fullShare y ∗ (∃ d, owns (c : Thread nD τ) a4 fullShare d)
        ∗ (iprop(owns (c : Thread nD τ) a2 fullShare x ∗ owns (c : Thread nD τ) a3 fullShare y ∗ owns (c : Thread nD τ) a4 fullShare (sumsOf x y)) -∗ K ⟨⟩))
      ⊢ wp frame (wpE (defs₀ (F := F)) Variants.none c none) Set.univ (cc1_attn_delta i a2 h2 a3 h3 a4 h4) K := by
  simp only [cc1_attn_delta_eq_skeleton]; unfold cc1_attn_delta_skel
  simp only [k1_part1_eq_skeleton]
  unfold owns
  iintro ⟨⟨%f2, %e2, H2⟩, ⟨%f3, %e3, H3⟩, ⟨%d4, %f4, -, H4⟩, Hk⟩
  subst e2 e3
  sl_exec
  sl_step
  iapply Hk
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (sums_cover _ _ _ _)

/-- The region's proof data: its arrays as it finds them, each block read left in place, each result as the point leaves it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => sumsOf (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = sumsOf (iblk1 V c 0 t) (iblk1 V c 1 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- What the body is called with at a point, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl, after1_0, after1_1, after1_2]
  iintro ⟨HΦ, Ho, ⟨%d0, H0⟩, ⟨%d1, H1⟩, ⟨%d2, H2⟩⟩
  iapply (sums_run c (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row1 (t : Fin cfg1.N) :
    defs₀ (F := F) .tc cfg1.body (cfg1.bodyArgs t (cfg1.slots t)) = bodyAt1 t := by
  unfold defs₀; rw [Defs.onTc_tc]

/-- The region's body obligation. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.AttnKernelIdeal.Attn

end
-- ==== Proof.Attn.Bwd.lean ====
/- One grid point of the attention's backward kernel: what a trip of its loop does to the blocks it keeps, and the loop by
   that function iterated. -/
module

public import proofs.«01_k».proof.Proof.Gen.AttnKernelIdeal.Loops
public import Idealize.ShloMosaic.Lib.VecWindow
public import Idealize.ShloMosaic.Lib.LoopRemainder

@[expose] public section

set_option maxRecDepth 16384

noncomputable section

namespace Cert.AttnKernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnKernelIdeal.Gen

variable {F : FTy → Type} [FloatOps F] [Named F]

local notation "𝕄" => MT nD τ sig Unit (Elt F) ℕ (UR sig nD τ) ℕ

/-- What a grid point reads: the head's query rows and cotangent rows, the two rows of sums, the point's keys and values. -/
structure Blocks (F : FTy → Type) where
  q : Vec F S16384x128 .bf16
  d : Vec F S16384x128 .bf16
  lse : Vec F S1x32x8x512 .f32
  delta : Vec F S1x32x8x512 .f32
  k : Vec F S512x128 .bf16
  v : Vec F S512x128 .bf16

/-- What a grid point keeps: the query gradient of the head, two pairs of score blocks, the two sums. -/
@[ext] structure St (F : FTy → Type) where
  dq : Vec F S16384x128 .f32
  sa : Vec F S512x512 .f32
  da : Vec F S512x512 .f32
  sb : Vec F S512x512 .f32
  db : Vec F S512x512 .f32
  dk : Vec F S512x128 .f32
  dv : Vec F S512x128 .f32

/-- 512 rows of a head from a row on. -/
abbrev rows {e : EltTy} (X : Vec F S16384x128 e) (off : Fin 2 → ℕ)
    (inb : ∀ a, off a + S512x128.size a ≤ S16384x128.size a) : Vec F S512x128 e :=
  View.ld X (Rect.unit (s := S16384x128) off S512x128.size inb)

/-- One row of 512 sums. -/
abbrev srow (X : Vec F S1x32x8x512 .f32) (off : Fin 4 → ℕ)
    (inb : ∀ a, off a + S1x1x1x512.size a ≤ S1x32x8x512.size a) : Vec F S1x1x1x512 .f32 :=
  View.ld X (Rect.unit (s := S1x32x8x512) off S1x1x1x512.size inb)

/-- The first half of a trip: the scores of the block after next, and the sums of the next block. -/
def tripFst (i : grid2.Coords) (X : Blocks F) (t : Fin (k2_t1_loop i).trips) (s : St F) : St F where
  sb := k2_pay3 X.k (rows X.q (k2_off4 i t) (k2_off4_inb i t))
  db := k2_pay4 X.v (rows X.d (k2_off4 i t) (k2_off4_inb i t))
  sa := s.sa
  da := s.da
  dv := k2_pay9 (k2_pay6 (rows X.d (k2_off5 i t) (k2_off5_inb i t))) s.sa (srow X.lse (k2_off6 i t) (k2_off6_inb i t)) s.dv
  dk := k2_pay10 (k2_pay5 (rows X.q (k2_off5 i t) (k2_off5_inb i t))) s.sa (srow X.lse (k2_off6 i t) (k2_off6_inb i t)) s.da
    (srow X.delta (k2_off6 i t) (k2_off6_inb i t)) s.dk
  dq := VecWindow.put s.dq (k2_off5 i t) S512x128.size
    (k2_pay12 (k2_pay8 s.sa (srow X.lse (k2_off6 i t) (k2_off6_inb i t)) s.da (srow X.delta (k2_off6 i t) (k2_off6_inb i t)))
      (k2_pay11 (rows s.dq (k2_off5 i t) (k2_off5_inb i t))) X.k)

/-- The second half. -/
def tripSnd (i : grid2.Coords) (X : Blocks F) (t : Fin (k2_t1_loop i).trips) (s : St F) : St F where
  sa := k2_pay13 X.k (rows X.q (k2_off7 i t) (k2_off7_inb i t))
  da := k2_pay14 X.v (rows X.d (k2_off7 i t) (k2_off7_inb i t))
  sb := s.sb
  db := s.db
  dv := k2_pay18 (rows X.d (k2_off4 i t) (k2_off4_inb i t)) s.sb (srow X.lse (k2_off8 i t) (k2_off8_inb i t)) s.dv
  dk := k2_pay19 (k2_pay15 (rows X.q (k2_off4 i t) (k2_off4_inb i t))) s.sb (srow X.lse (k2_off8 i t) (k2_off8_inb i t)) s.db
    (srow X.delta (k2_off8 i t) (k2_off8_inb i t)) s.dk
  dq := VecWindow.put s.dq (k2_off4 i t) S512x128.size
    (k2_pay56 (k2_pay17 s.sb (srow X.lse (k2_off8 i t) (k2_off8_inb i t)) s.db (srow X.delta (k2_off8 i t) (k2_off8_inb i t)))
      (rows s.dq (k2_off4 i t) (k2_off4_inb i t)) X.k)

/-- One trip. -/
def trip (i : grid2.Coords) (X : Blocks F) (t : Fin (k2_t1_loop i).trips) (s : St F) : St F := tripSnd i X t (tripFst i X t s)

/-- The first `n` trips. -/
def trips (i : grid2.Coords) (X : Blocks F) (s : St F) : ℕ → St F
  | 0 => s
  | n + 1 => if h : n < (k2_t1_loop i).trips then trip i X ⟨n, h⟩ (trips i X s n) else trips i X s n

theorem trips_succ (i : grid2.Coords) (X : Blocks F) (s : St F) (k : Fin (k2_t1_loop i).trips) :
    trips i X s (k.val + 1) = trip i X k (trips i X s k.val) := by
  show (if h : k.val < (k2_t1_loop i).trips then trip i X ⟨k.val, h⟩ (trips i X s k.val) else trips i X s k.val) = _
  exact dif_pos k.isLt

set_option maxHeartbeats 4000000 in
/-- The second row block of a trip, and the first, as numbers. -/
theorem off4_eq : ∀ (i : grid2.Coords) (t : Fin (k2_t1_loop i).trips), k2_off4 i t = ![512 * ((i 1).val + 2 * t.val + 2), 0] := by
  decide +kernel

theorem off5_eq : ∀ (i : grid2.Coords) (t : Fin (k2_t1_loop i).trips), k2_off5 i t = ![512 * ((i 1).val + 2 * t.val + 1), 0] := by
  decide +kernel

instance (i : grid2.Coords) (t : Fin (k2_t1_loop i).trips) : ClosedOff (k2_off4 i t) := ⟨_, off4_eq i t⟩
instance (i : grid2.Coords) (t : Fin (k2_t1_loop i).trips) : ClosedOff (k2_off5 i t) := ⟨_, off5_eq i t⟩

/-- A load of a whole block reads the block; a store of a whole block leaves its payload. -/
theorem ld_tile {e : EltTy} (x : Vec F S512x128 e) (inb : ∀ a, (![0, 0] : Fin 2 → ℕ) a + (![512, 128] : Fin 2 → ℕ) a ≤ S512x128.size a) :
    View.ld x (Rect.unit (s := S512x128) ![0, 0] ![512, 128] inb) = x := by
  funext y; exact congrArg x (funext fun a => Fin.ext (by fin_cases a <;> show 0 + 1 * _ = _ <;> omega))

theorem ld_square {e : EltTy} (x : Vec F S512x512 e) (inb : ∀ a, (![0, 0] : Fin 2 → ℕ) a + (![512, 512] : Fin 2 → ℕ) a ≤ S512x512.size a) :
    View.ld x (Rect.unit (s := S512x512) ![0, 0] ![512, 512] inb) = x := by
  funext y; exact congrArg x (funext fun a => Fin.ext (by fin_cases a <;> show 0 + 1 * _ = _ <;> omega))

variable {e : EltTy} {sp : Space}

theorem st_tile (v : View sig .tc sp S512x128 e) (f : v.ty.Contents (Elt F)) (inb : ∀ a, (![0, 0] : Fin 2 → ℕ) a + (![512, 128] : Fin 2 → ℕ) a ≤ S512x128.size a)
    (w : Vec F S512x128 e) (L : List (View.Piece (Elt F) S512x128 e)) :
    v.read (Elt F) (v.writes (Elt F) f (⟨Rect.unit (s := S512x128) ![0, 0] ![512, 128] inb, w⟩ :: L)) = w :=
  View.read_writes_full v f inb w L

theorem st_square (v : View sig .tc sp S512x512 e) (f : v.ty.Contents (Elt F)) (inb : ∀ a, (![0, 0] : Fin 2 → ℕ) a + (![512, 512] : Fin 2 → ℕ) a ≤ S512x512.size a)
    (w : Vec F S512x512 e) (L : List (View.Piece (Elt F) S512x512 e)) :
    v.read (Elt F) (v.writes (Elt F) f (⟨Rect.unit (s := S512x512) ![0, 0] ![512, 512] inb, w⟩ :: L)) = w :=
  View.read_writes_full v f inb w L

theorem cov_tile (v : View sig .tc sp S512x128 e) (inb inb' : ∀ a, (![0, 0] : Fin 2 → ℕ) a + (![512, 128] : Fin 2 → ℕ) a ≤ S512x128.size a)
    (w : Vec F S512x128 e) (L : List (View.Piece (Elt F) S512x128 e)) :
    v.readCov (⟨Rect.unit (s := S512x128) ![0, 0] ![512, 128] inb, w⟩ :: L) (Rect.unit (s := S512x128) ![0, 0] ![512, 128] inb').toLoadRect = w :=
  View.readCov_full v inb' inb w L

theorem cov_square (v : View sig .tc sp S512x512 e) (inb inb' : ∀ a, (![0, 0] : Fin 2 → ℕ) a + (![512, 512] : Fin 2 → ℕ) a ≤ S512x512.size a)
    (w : Vec F S512x512 e) (L : List (View.Piece (Elt F) S512x512 e)) :
    v.readCov (⟨Rect.unit (s := S512x512) ![0, 0] ![512, 512] inb, w⟩ :: L) (Rect.unit (s := S512x512) ![0, 0] ![512, 512] inb').toLoadRect = w :=
  View.readCov_full v inb' inb w L

/-- The second row block does not meet the first. -/
theorem rows_put (i : grid2.Coords) (t : Fin (k2_t1_loop i).trips) (x : Vec F S16384x128 .f32) (w : Vec F S512x128 .f32) :
    rows (VecWindow.put x (k2_off5 i t) S512x128.size w) (k2_off4 i t) (k2_off4_inb i t) = rows x (k2_off4 i t) (k2_off4_inb i t) :=
  VecWindow.window_put_of_disjoint (s := S16384x128) x (k2_off5 i t) S512x128.size (k2_off4 i t) S512x128.size _ w 0 (Or.inr (by
    rw [off4_eq, off5_eq]; show 512 * _ + 512 ≤ 512 * _; omega))

section Loop

variable (𝒱 : Variants) (c : Dev nD) (bd : Option 𝒱.V) (i : grid2.Coords)
  (a2 : Memref sig .tc .vmem S16384x128 .bf16) (h2 : a2.IsWhole)
  (a3 : Memref sig .tc .vmem S16384x128 .bf16) (h3 : a3.IsWhole)
  (a4 : Memref sig .tc .vmem S1x32x8x512 .f32) (h4 : a4.IsWhole)
  (a5 : Memref sig .tc .vmem S1x32x8x512 .f32) (h5 : a5.IsWhole)
  (a6 : Memref sig .tc .vmem S512x128 .bf16) (h6 : a6.IsWhole)
  (a7 : Memref sig .tc .vmem S512x128 .bf16) (h7 : a7.IsWhole)
  (a8 : Memref sig .tc .vmem S16384x128 .f32) (h8 : a8.IsWhole)
  (a9 : Memref sig .tc .vmem S512x128 .bf16) (h9 : a9.IsWhole)
  (a10 : Memref sig .tc .vmem S512x128 .bf16) (h10 : a10.IsWhole)
  (a11 : Memref sig .tc .vmem S512x512 .f32) (h11 : a11.IsWhole)
  (a12 : Memref sig .tc .vmem S512x512 .f32) (h12 : a12.IsWhole)
  (a13 : Memref sig .tc .vmem S512x512 .f32) (h13 : a13.IsWhole)
  (a14 : Memref sig .tc .vmem S512x512 .f32) (h14 : a14.IsWhole)
  (a15 : Memref sig .tc .vmem S512x128 .f32) (h15 : a15.IsWhole)
  (a16 : Memref sig .tc .vmem S512x128 .f32) (h16 : a16.IsWhole)
  (j : BitVec 32) (v87 : FVec F S512x512 .bf16) (v102 : BitVec 32)

/-- What the memrefs read of contents of their buffers. -/
abbrev blocksOf (f2 : BufTy.Contents (Elt F) a2.view.ty) (f3 : BufTy.Contents (Elt F) a3.view.ty) (f4 : BufTy.Contents (Elt F) a4.view.ty) (f5 : BufTy.Contents (Elt F) a5.view.ty) (f6 : BufTy.Contents (Elt F) a6.view.ty) (f7 : BufTy.Contents (Elt F) a7.view.ty) : Blocks F :=
  ⟨a2.view.read (Elt F) f2, a3.view.read (Elt F) f3, a4.view.read (Elt F) f4, a5.view.read (Elt F) f5, a6.view.read (Elt F) f6, a7.view.read (Elt F) f7⟩

abbrev stOf (f8 : BufTy.Contents (Elt F) a8.view.ty) (f11 : BufTy.Contents (Elt F) a11.view.ty) (f12 : BufTy.Contents (Elt F) a12.view.ty) (f13 : BufTy.Contents (Elt F) a13.view.ty) (f14 : BufTy.Contents (Elt F) a14.view.ty) (f15 : BufTy.Contents (Elt F) a15.view.ty) (f16 : BufTy.Contents (Elt F) a16.view.ty) : St F :=
  ⟨a8.view.read (Elt F) f8, a11.view.read (Elt F) f11, a12.view.read (Elt F) f12, a13.view.read (Elt F) f13, a14.view.read (Elt F) f14, a15.view.read (Elt F) f15, a16.view.read (Elt F) f16⟩

set_option maxHeartbeats 6400000 in
/-- One trip of the loop, from any contents: the buffers it stores into read the trip's function of what they read. -/
theorem trip_run (E : Set ℕ) (k : Fin (k2_t1_loop i).trips) (f2 : BufTy.Contents (Elt F) a2.view.ty) (f3 : BufTy.Contents (Elt F) a3.view.ty) (f4 : BufTy.Contents (Elt F) a4.view.ty) (f5 : BufTy.Contents (Elt F) a5.view.ty) (f6 : BufTy.Contents (Elt F) a6.view.ty) (f7 : BufTy.Contents (Elt F) a7.view.ty) (f8 : BufTy.Contents (Elt F) a8.view.ty) (f11 : BufTy.Contents (Elt F) a11.view.ty) (f12 : BufTy.Contents (Elt F) a12.view.ty) (f13 : BufTy.Contents (Elt F) a13.view.ty) (f14 : BufTy.Contents (Elt F) a14.view.ty) (f15 : BufTy.Contents (Elt F) a15.view.ty) (f16 : BufTy.Contents (Elt F) a16.view.ty) :
    (iprop((a2.view.loc (c : Thread nD τ) ↦[a2.view.set]{fullShare} f2) ∗ (a3.view.loc (c : Thread nD τ) ↦[a3.view.set]{fullShare} f3) ∗ (a4.view.loc (c : Thread nD τ) ↦[a4.view.set]{fullShare} f4) ∗ (a5.view.loc (c : Thread nD τ) ↦[a5.view.set]{fullShare} f5) ∗ (a6.view.loc (c : Thread nD τ) ↦[a6.view.set]{fullShare} f6) ∗ (a7.view.loc (c : Thread nD τ) ↦[a7.view.set]{fullShare} f7) ∗ (a8.view.loc (c : Thread nD τ) ↦[a8.view.set]{fullShare} f8) ∗ (a11.view.loc (c : Thread nD τ) ↦[a11.view.set]{fullShare} f11) ∗ (a12.view.loc (c : Thread nD τ) ↦[a12.view.set]{fullShare} f12) ∗ (a13.view.loc (c : Thread nD τ) ↦[a13.view.set]{fullShare} f13) ∗ (a14.view.loc (c : Thread nD τ) ↦[a14.view.set]{fullShare} f14) ∗ (a15.view.loc (c : Thread nD τ) ↦[a15.view.set]{fullShare} f15) ∗ (a16.view.loc (c : Thread nD τ) ↦[a16.view.set]{fullShare} f16)) : sProp 𝕄)
      ⊢ wp frame (wpE (defs₀ (F := F)) 𝒱 (c : Thread nD τ) bd) E
          (k2_t1_body (F := F) i a2 h2 a3 h3 a4 h4 a5 h5 a6 h6 a7 h7 a8 h8 a9 h9 a10 h10 a11 h11 a12 h12 a13 h13 a14 h14 a15 h15 a16 h16 j v87 v102 k PUnit.unit)
          (fun _ => iprop((a2.view.loc (c : Thread nD τ) ↦[a2.view.set]{fullShare} f2) ∗ (a3.view.loc (c : Thread nD τ) ↦[a3.view.set]{fullShare} f3) ∗ (a4.view.loc (c : Thread nD τ) ↦[a4.view.set]{fullShare} f4) ∗ (a5.view.loc (c : Thread nD τ) ↦[a5.view.set]{fullShare} f5) ∗ (a6.view.loc (c : Thread nD τ) ↦[a6.view.set]{fullShare} f6) ∗ (a7.view.loc (c : Thread nD τ) ↦[a7.view.set]{fullShare} f7) ∗ (∃ f, (a8.view.loc (c : Thread nD τ) ↦[a8.view.set]{fullShare} f) ∗ ⌜a8.view.read (Elt F) f = (trip i (blocksOf a2 a3 a4 a5 a6 a7 f2 f3 f4 f5 f6 f7) k (stOf a8 a11 a12 a13 a14 a15 a16 f8 f11 f12 f13 f14 f15 f16)).dq⌝) ∗ (∃ f, (a11.view.loc (c : Thread nD τ) ↦[a11.view.set]{fullShare} f) ∗ ⌜a11.view.read (Elt F) f = (trip i (blocksOf a2 a3 a4 a5 a6 a7 f2 f3 f4 f5 f6 f7) k (stOf a8 a11 a12 a13 a14 a15 a16 f8 f11 f12 f13 f14 f15 f16)).sa⌝) ∗ (∃ f, (a12.view.loc (c : Thread nD τ) ↦[a12.view.set]{fullShare} f) ∗ ⌜a12.view.read (Elt F) f = (trip i (blocksOf a2 a3 a4 a5 a6 a7 f2 f3 f4 f5 f6 f7) k (stOf a8 a11 a12 a13 a14 a15 a16 f8 f11 f12 f13 f14 f15 f16)).da⌝) ∗ (∃ f, (a13.view.loc (c : Thread nD τ) ↦[a13.view.set]{fullShare} f) ∗ ⌜a13.view.read (Elt F) f = (trip i (blocksOf a2 a3 a4 a5 a6 a7 f2 f3 f4 f5 f6 f7) k (stOf a8 a11 a12 a13 a14 a15 a16 f8 f11 f12 f13 f14 f15 f16)).sb⌝) ∗ (∃ f, (a14.view.loc (c : Thread nD τ) ↦[a14.view.set]{fullShare} f) ∗ ⌜a14.view.read (Elt F) f = (trip i (blocksOf a2 a3 a4 a5 a6 a7 f2 f3 f4 f5 f6 f7) k (stOf a8 a11 a12 a13 a14 a15 a16 f8 f11 f12 f13 f14 f15 f16)).db⌝) ∗ (∃ f, (a15.view.loc (c : Thread nD τ) ↦[a15.view.set]{fullShare} f) ∗ ⌜a15.view.read (Elt F) f = (trip i (blocksOf a2 a3 a4 a5 a6 a7 f2 f3 f4 f5 f6 f7) k (stOf a8 a11 a12 a13 a14 a15 a16 f8 f11 f12 f13 f14 f15 f16)).dk⌝) ∗ (∃ f, (a16.view.loc (c : Thread nD τ) ↦[a16.view.set]{fullShare} f) ∗ ⌜a16.view.read (Elt F) f = (trip i (blocksOf a2 a3 a4 a5 a6 a7 f2 f3 f4 f5 f6 f7) k (stOf a8 a11 a12 a13 a14 a15 a16 f8 f11 f12 f13 f14 f15 f16)).dv⌝))) := by
  unfold k2_t1_body
  iintro ⟨H2, H3, H4, H5, H6, H7, H8, H11, H12, H13, H14, H15, H16⟩
  sl_exec
  sl_step
  isplitl [H2]; · iexact H2
  isplitl [H3]; · iexact H3
  isplitl [H4]; · iexact H4
  isplitl [H5]; · iexact H5
  isplitl [H6]; · iexact H6
  isplitl [H7]; · iexact H7
  isplitl [H8]
  · iexists _; isplitl [H8]; · iexact H8
    ipureintro
    sl_unfold_words
    simp only [st_tile, st_square, cov_tile, cov_square, View.readAt_eq_ld, ld_tile, ld_square]
    refine (View.read_writes_cons_put _ _ _ _ _ rfl).trans ((congrArg (fun x => VecWindow.put x _ _ _) (View.read_writes_cons_put _ _ _ _ _ rfl)).trans ?_)
    unfold trip tripSnd tripFst
    dsimp only
    rw [rows_put]
    rfl

  isplitl [H11]
  · iexists _; isplitl [H11]; · iexact H11
    ipureintro
    sl_unfold_words
    simp only [st_tile, st_square, cov_tile, cov_square, View.readAt_eq_ld, ld_tile, ld_square]
    rfl

  isplitl [H12]
  · iexists _; isplitl [H12]; · iexact H12
    ipureintro
    sl_unfold_words
    simp only [st_tile, st_square, cov_tile, cov_square, View.readAt_eq_ld, ld_tile, ld_square]
    rfl

  isplitl [H13]
  · iexists _; isplitl [H13]; · iexact H13
    ipureintro
    sl_unfold_words
    simp only [st_tile, st_square, cov_tile, cov_square, View.readAt_eq_ld, ld_tile, ld_square]
    rfl

  isplitl [H14]
  · iexists _; isplitl [H14]; · iexact H14
    ipureintro
    sl_unfold_words
    simp only [st_tile, st_square, cov_tile, cov_square, View.readAt_eq_ld, ld_tile, ld_square]
    rfl

  isplitl [H15]
  · iexists _; isplitl [H15]; · iexact H15
    ipureintro
    sl_unfold_words
    simp only [st_tile, st_square, cov_tile, cov_square, View.readAt_eq_ld, ld_tile, ld_square]
    rfl

  iexists _; isplitl [H16]; · iexact H16
  ipureintro
  sl_unfold_words
  simp only [st_tile, st_square, cov_tile, cov_square, View.readAt_eq_ld, ld_tile, ld_square]
  rfl

/-- The contents before trip `n`: those at the loop's entry, then those that read the iterated function. -/
def kept (X : Blocks F) (f8 : BufTy.Contents (Elt F) a8.view.ty) (f11 : BufTy.Contents (Elt F) a11.view.ty) (f12 : BufTy.Contents (Elt F) a12.view.ty) (f13 : BufTy.Contents (Elt F) a13.view.ty) (f14 : BufTy.Contents (Elt F) a14.view.ty) (f15 : BufTy.Contents (Elt F) a15.view.ty) (f16 : BufTy.Contents (Elt F) a16.view.ty) : ℕ → BufTy.Contents (Elt F) a8.view.ty × BufTy.Contents (Elt F) a11.view.ty × BufTy.Contents (Elt F) a12.view.ty × BufTy.Contents (Elt F) a13.view.ty × BufTy.Contents (Elt F) a14.view.ty × BufTy.Contents (Elt F) a15.view.ty × BufTy.Contents (Elt F) a16.view.ty
  | 0 => (f8, f11, f12, f13, f14, f15, f16)
  | n + 1 => (h8.unread (trips i X (stOf a8 a11 a12 a13 a14 a15 a16 f8 f11 f12 f13 f14 f15 f16) (n + 1)).dq, h11.unread (trips i X (stOf a8 a11 a12 a13 a14 a15 a16 f8 f11 f12 f13 f14 f15 f16) (n + 1)).sa, h12.unread (trips i X (stOf a8 a11 a12 a13 a14 a15 a16 f8 f11 f12 f13 f14 f15 f16) (n + 1)).da, h13.unread (trips i X (stOf a8 a11 a12 a13 a14 a15 a16 f8 f11 f12 f13 f14 f15 f16) (n + 1)).sb, h14.unread (trips i X (stOf a8 a11 a12 a13 a14 a15 a16 f8 f11 f12 f13 f14 f15 f16) (n + 1)).db, h15.unread (trips i X (stOf a8 a11 a12 a13 a14 a15 a16 f8 f11 f12 f13 f14 f15 f16) (n + 1)).dk, h16.unread (trips i X (stOf a8 a11 a12 a13 a14 a15 a16 f8 f11 f12 f13 f14 f15 f16) (n + 1)).dv)

theorem kept_read (X : Blocks F) (f8 : BufTy.Contents (Elt F) a8.view.ty) (f11 : BufTy.Contents (Elt F) a11.view.ty) (f12 : BufTy.Contents (Elt F) a12.view.ty) (f13 : BufTy.Contents (Elt F) a13.view.ty) (f14 : BufTy.Contents (Elt F) a14.view.ty) (f15 : BufTy.Contents (Elt F) a15.view.ty) (f16 : BufTy.Contents (Elt F) a16.view.ty) (n : ℕ) :
    stOf a8 a11 a12 a13 a14 a15 a16 (kept i a8 h8 a11 h11 a12 h12 a13 h13 a14 h14 a15 h15 a16 h16 X f8 f11 f12 f13 f14 f15 f16 n).1 (kept i a8 h8 a11 h11 a12 h12 a13 h13 a14 h14 a15 h15 a16 h16 X f8 f11 f12 f13 f14 f15 f16 n).2.1 (kept i a8 h8 a11 h11 a12 h12 a13 h13 a14 h14 a15 h15 a16 h16 X f8 f11 f12 f13 f14 f15 f16 n).2.2.1 (kept i a8 h8 a11 h11 a12 h12 a13 h13 a14 h14 a15 h15 a16 h16 X f8 f11 f12 f13 f14 f15 f16 n).2.2.2.1 (kept i a8 h8 a11 h11 a12 h12 a13 h13 a14 h14 a15 h15 a16 h16 X f8 f11 f12 f13 f14 f15 f16 n).2.2.2.2.1 (kept i a8 h8 a11 h11 a12 h12 a13 h13 a14 h14 a15 h15 a16 h16 X f8 f11 f12 f13 f14 f15 f16 n).2.2.2.2.2.1 (kept i a8 h8 a11 h11 a12 h12 a13 h13 a14 h14 a15 h15 a16 h16 X f8 f11 f12 f13 f14 f15 f16 n).2.2.2.2.2.2 = trips i X (stOf a8 a11 a12 a13 a14 a15 a16 f8 f11 f12 f13 f14 f15 f16) n := by
  cases n with
  | zero => rfl
  | succ n => unfold kept stOf; dsimp only; simp only [h8.read_unread, h11.read_unread, h12.read_unread, h13.read_unread, h14.read_unread, h15.read_unread, h16.read_unread]

set_option warn.classDefReducibility false in
set_option maxHeartbeats 3200000 in
/-- The loop by its invariant: before trip `n` the buffers are as `n` trips of the function leave them. -/
@[sl_loop] def loopInv (E : Set ℕ) (f2 : BufTy.Contents (Elt F) a2.view.ty) (f3 : BufTy.Contents (Elt F) a3.view.ty) (f4 : BufTy.Contents (Elt F) a4.view.ty) (f5 : BufTy.Contents (Elt F) a5.view.ty) (f6 : BufTy.Contents (Elt F) a6.view.ty) (f7 : BufTy.Contents (Elt F) a7.view.ty) (f8 : BufTy.Contents (Elt F) a8.view.ty) (f11 : BufTy.Contents (Elt F) a11.view.ty) (f12 : BufTy.Contents (Elt F) a12.view.ty) (f13 : BufTy.Contents (Elt F) a13.view.ty) (f14 : BufTy.Contents (Elt F) a14.view.ty) (f15 : BufTy.Contents (Elt F) a15.view.ty) (f16 : BufTy.Contents (Elt F) a16.view.ty) :
    LoopInvTy_k2_t1 (F := F) Unit ℕ (UR sig nD τ) ℕ 𝒱 c bd E i a2 h2 a3 h3 a4 h4 a5 h5 a6 h6 a7 h7 a8 h8 a9 h9 a10 h10 a11 h11 a12 h12 a13 h13 a14 h14 a15 h15 a16 h16 j v87 v102 where
  inv n _ := iprop((a2.view.loc (c : Thread nD τ) ↦[a2.view.set]{fullShare} f2) ∗ (a3.view.loc (c : Thread nD τ) ↦[a3.view.set]{fullShare} f3) ∗ (a4.view.loc (c : Thread nD τ) ↦[a4.view.set]{fullShare} f4) ∗ (a5.view.loc (c : Thread nD τ) ↦[a5.view.set]{fullShare} f5) ∗ (a6.view.loc (c : Thread nD τ) ↦[a6.view.set]{fullShare} f6) ∗ (a7.view.loc (c : Thread nD τ) ↦[a7.view.set]{fullShare} f7) ∗ (∃ f, (a8.view.loc (c : Thread nD τ) ↦[a8.view.set]{fullShare} f) ∗ ⌜f = (kept i a8 h8 a11 h11 a12 h12 a13 h13 a14 h14 a15 h15 a16 h16 (blocksOf a2 a3 a4 a5 a6 a7 f2 f3 f4 f5 f6 f7) f8 f11 f12 f13 f14 f15 f16 n).1⌝) ∗ (∃ f, (a11.view.loc (c : Thread nD τ) ↦[a11.view.set]{fullShare} f) ∗ ⌜f = (kept i a8 h8 a11 h11 a12 h12 a13 h13 a14 h14 a15 h15 a16 h16 (blocksOf a2 a3 a4 a5 a6 a7 f2 f3 f4 f5 f6 f7) f8 f11 f12 f13 f14 f15 f16 n).2.1⌝) ∗ (∃ f, (a12.view.loc (c : Thread nD τ) ↦[a12.view.set]{fullShare} f) ∗ ⌜f = (kept i a8 h8 a11 h11 a12 h12 a13 h13 a14 h14 a15 h15 a16 h16 (blocksOf a2 a3 a4 a5 a6 a7 f2 f3 f4 f5 f6 f7) f8 f11 f12 f13 f14 f15 f16 n).2.2.1⌝) ∗ (∃ f, (a13.view.loc (c : Thread nD τ) ↦[a13.view.set]{fullShare} f) ∗ ⌜f = (kept i a8 h8 a11 h11 a12 h12 a13 h13 a14 h14 a15 h15 a16 h16 (blocksOf a2 a3 a4 a5 a6 a7 f2 f3 f4 f5 f6 f7) f8 f11 f12 f13 f14 f15 f16 n).2.2.2.1⌝) ∗ (∃ f, (a14.view.loc (c : Thread nD τ) ↦[a14.view.set]{fullShare} f) ∗ ⌜f = (kept i a8 h8 a11 h11 a12 h12 a13 h13 a14 h14 a15 h15 a16 h16 (blocksOf a2 a3 a4 a5 a6 a7 f2 f3 f4 f5 f6 f7) f8 f11 f12 f13 f14 f15 f16 n).2.2.2.2.1⌝) ∗ (∃ f, (a15.view.loc (c : Thread nD τ) ↦[a15.view.set]{fullShare} f) ∗ ⌜f = (kept i a8 h8 a11 h11 a12 h12 a13 h13 a14 h14 a15 h15 a16 h16 (blocksOf a2 a3 a4 a5 a6 a7 f2 f3 f4 f5 f6 f7) f8 f11 f12 f13 f14 f15 f16 n).2.2.2.2.2.1⌝) ∗ (∃ f, (a16.view.loc (c : Thread nD τ) ↦[a16.view.set]{fullShare} f) ∗ ⌜f = (kept i a8 h8 a11 h11 a12 h12 a13 h13 a14 h14 a15 h15 a16 h16 (blocksOf a2 a3 a4 a5 a6 a7 f2 f3 f4 f5 f6 f7) f8 f11 f12 f13 f14 f15 f16 n).2.2.2.2.2.2⌝))
  step k acc := by
    iintro ⟨H2, H3, H4, H5, H6, H7, ⟨%g8, H8, %e8⟩, ⟨%g11, H11, %e11⟩, ⟨%g12, H12, %e12⟩, ⟨%g13, H13, %e13⟩, ⟨%g14, H14, %e14⟩, ⟨%g15, H15, %e15⟩, ⟨%g16, H16, %e16⟩⟩
    have hk := kept_read i a8 h8 a11 h11 a12 h12 a13 h13 a14 h14 a15 h15 a16 h16 (blocksOf a2 a3 a4 a5 a6 a7 f2 f3 f4 f5 f6 f7) f8 f11 f12 f13 f14 f15 f16 k.val
    iapply (wp_wand_r Idealize.ShloMosaic.frame (wpE (defs₀ (F := F)) 𝒱 (c : Thread nD τ) bd) E)
    isplitl [H2 H3 H4 H5 H6 H7 H8 H11 H12 H13 H14 H15 H16]
    · iapply (trip_run 𝒱 c bd i a2 h2 a3 h3 a4 h4 a5 h5 a6 h6 a7 h7 a8 h8 a9 h9 a10 h10 a11 h11 a12 h12 a13 h13 a14 h14 a15 h15 a16 h16 j v87 v102 E k f2 f3 f4 f5 f6 f7 g8 g11 g12 g13 g14 g15 g16)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H11]; · iexact H11
      isplitl [H12]; · iexact H12
      isplitl [H13]; · iexact H13
      isplitl [H14]; · iexact H14
      isplitl [H15]; · iexact H15
      iexact H16
    · iintro %_ ⟨H2, H3, H4, H5, H6, H7, ⟨%q8, H8, %r8⟩, ⟨%q11, H11, %r11⟩, ⟨%q12, H12, %r12⟩, ⟨%q13, H13, %r13⟩, ⟨%q14, H14, %r14⟩, ⟨%q15, H15, %r15⟩, ⟨%q16, H16, %r16⟩⟩
      rw [e8, e11, e12, e13, e14, e15, e16, hk] at r8 r11 r12 r13 r14 r15 r16
      isplitl [H2]; · iexact H2
      isplitl [H3]; · iexact H3
      isplitl [H4]; · iexact H4
      isplitl [H5]; · iexact H5
      isplitl [H6]; · iexact H6
      isplitl [H7]; · iexact H7
      isplitl [H8]
      · iexists _; isplitl [H8]; · iexact H8
        ipureintro; exact h8.eq_unread (r8.trans (congrArg St.dq (trips_succ i _ _ k).symm))
      isplitl [H11]
      · iexists _; isplitl [H11]; · iexact H11
        ipureintro; exact h11.eq_unread (r11.trans (congrArg St.sa (trips_succ i _ _ k).symm))
      isplitl [H12]
      · iexists _; isplitl [H12]; · iexact H12
        ipureintro; exact h12.eq_unread (r12.trans (congrArg St.da (trips_succ i _ _ k).symm))
      isplitl [H13]
      · iexists _; isplitl [H13]; · iexact H13
        ipureintro; exact h13.eq_unread (r13.trans (congrArg St.sb (trips_succ i _ _ k).symm))
      isplitl [H14]
      · iexists _; isplitl [H14]; · iexact H14
        ipureintro; exact h14.eq_unread (r14.trans (congrArg St.db (trips_succ i _ _ k).symm))
      isplitl [H15]
      · iexists _; isplitl [H15]; · iexact H15
        ipureintro; exact h15.eq_unread (r15.trans (congrArg St.dk (trips_succ i _ _ k).symm))
      iexists _; isplitl [H16]; · iexact H16
      ipureintro; exact h16.eq_unread (r16.trans (congrArg St.dv (trips_succ i _ _ k).symm))

/-- The loop, then what follows it from the buffers as its trips leave them. -/
theorem loop_then (E : Set ℕ) (f2 : BufTy.Contents (Elt F) a2.view.ty) (f3 : BufTy.Contents (Elt F) a3.view.ty) (f4 : BufTy.Contents (Elt F) a4.view.ty) (f5 : BufTy.Contents (Elt F) a5.view.ty) (f6 : BufTy.Contents (Elt F) a6.view.ty) (f7 : BufTy.Contents (Elt F) a7.view.ty) (f8 : BufTy.Contents (Elt F) a8.view.ty) (f11 : BufTy.Contents (Elt F) a11.view.ty) (f12 : BufTy.Contents (Elt F) a12.view.ty) (f13 : BufTy.Contents (Elt F) a13.view.ty) (f14 : BufTy.Contents (Elt F) a14.view.ty) (f15 : BufTy.Contents (Elt F) a15.view.ty) (f16 : BufTy.Contents (Elt F) a16.view.ty) {β : Type}
    {kk : PUnit → Prog (TpuEff nD τ sig (Elt F) Λ₀ Proc.tc) β} {Q : β → sProp 𝕄} :
    iprop((a2.view.loc (c : Thread nD τ) ↦[a2.view.set]{fullShare} f2) ∗ (a3.view.loc (c : Thread nD τ) ↦[a3.view.set]{fullShare} f3) ∗ (a4.view.loc (c : Thread nD τ) ↦[a4.view.set]{fullShare} f4) ∗ (a5.view.loc (c : Thread nD τ) ↦[a5.view.set]{fullShare} f5) ∗ (a6.view.loc (c : Thread nD τ) ↦[a6.view.set]{fullShare} f6) ∗ (a7.view.loc (c : Thread nD τ) ↦[a7.view.set]{fullShare} f7) ∗ (a8.view.loc (c : Thread nD τ) ↦[a8.view.set]{fullShare} f8) ∗ (a11.view.loc (c : Thread nD τ) ↦[a11.view.set]{fullShare} f11) ∗ (a12.view.loc (c : Thread nD τ) ↦[a12.view.set]{fullShare} f12) ∗ (a13.view.loc (c : Thread nD τ) ↦[a13.view.set]{fullShare} f13) ∗ (a14.view.loc (c : Thread nD τ) ↦[a14.view.set]{fullShare} f14) ∗ (a15.view.loc (c : Thread nD τ) ↦[a15.view.set]{fullShare} f15) ∗ (a16.view.loc (c : Thread nD τ) ↦[a16.view.set]{fullShare} f16)
        ∗ (∀ u, (a2.view.loc (c : Thread nD τ) ↦[a2.view.set]{fullShare} f2) -∗ (a3.view.loc (c : Thread nD τ) ↦[a3.view.set]{fullShare} f3) -∗ (a4.view.loc (c : Thread nD τ) ↦[a4.view.set]{fullShare} f4) -∗ (a5.view.loc (c : Thread nD τ) ↦[a5.view.set]{fullShare} f5) -∗ (a6.view.loc (c : Thread nD τ) ↦[a6.view.set]{fullShare} f6) -∗ (a7.view.loc (c : Thread nD τ) ↦[a7.view.set]{fullShare} f7) -∗ ∀ g8, (a8.view.loc (c : Thread nD τ) ↦[a8.view.set]{fullShare} g8) -∗ ∀ g11, (a11.view.loc (c : Thread nD τ) ↦[a11.view.set]{fullShare} g11) -∗ ∀ g12, (a12.view.loc (c : Thread nD τ) ↦[a12.view.set]{fullShare} g12) -∗ ∀ g13, (a13.view.loc (c : Thread nD τ) ↦[a13.view.set]{fullShare} g13) -∗ ∀ g14, (a14.view.loc (c : Thread nD τ) ↦[a14.view.set]{fullShare} g14) -∗ ∀ g15, (a15.view.loc (c : Thread nD τ) ↦[a15.view.set]{fullShare} g15) -∗ ∀ g16, (a16.view.loc (c : Thread nD τ) ↦[a16.view.set]{fullShare} g16)
          -∗ ⌜stOf a8 a11 a12 a13 a14 a15 a16 g8 g11 g12 g13 g14 g15 g16 = trips i (blocksOf a2 a3 a4 a5 a6 a7 f2 f3 f4 f5 f6 f7) (stOf a8 a11 a12 a13 a14 a15 a16 f8 f11 f12 f13 f14 f15 f16) (k2_t1_loop i).trips⌝
          -∗ wp Idealize.ShloMosaic.frame (wpE (defs₀ (F := F)) 𝒱 (c : Thread nD τ) bd) E (kk u) Q))
      ⊢ wp Idealize.ShloMosaic.frame (wpE (defs₀ (F := F)) 𝒱 (c : Thread nD τ) bd) E
          ((k2_t1_loop i).for (k2_t1_ok i) PUnit.unit (k2_t1_body i a2 h2 a3 h3 a4 h4 a5 h5 a6 h6 a7 h7 a8 h8 a9 h9 a10 h10 a11 h11 a12 h12 a13 h13 a14 h14 a15 h15 a16 h16 j v87 v102) >>= kk) Q := by
  iintro ⟨H2, H3, H4, H5, H6, H7, H8, H11, H12, H13, H14, H15, H16, HK⟩
  iapply (exec_loop Idealize.ShloMosaic.frame (wpE (defs₀ (F := F)) 𝒱 (c : Thread nD τ) bd) E _ _ _ _ _ _
    (loopInv 𝒱 c bd i a2 h2 a3 h3 a4 h4 a5 h5 a6 h6 a7 h7 a8 h8 a9 h9 a10 h10 a11 h11 a12 h12 a13 h13 a14 h14 a15 h15 a16 h16 j v87 v102 E f2 f3 f4 f5 f6 f7 f8 f11 f12 f13 f14 f15 f16)) $$ [H2 H3 H4 H5 H6 H7 H8 H11 H12 H13 H14 H15 H16]
  · unfold loopInv; dsimp only
    isplitl [H2]; · iexact H2
    isplitl [H3]; · iexact H3
    isplitl [H4]; · iexact H4
    isplitl [H5]; · iexact H5
    isplitl [H6]; · iexact H6
    isplitl [H7]; · iexact H7
    isplitl [H8]
    · iexists _; isplitl [H8]; · iexact H8
      ipureintro; rfl
    isplitl [H11]
    · iexists _; isplitl [H11]; · iexact H11
      ipureintro; rfl
    isplitl [H12]
    · iexists _; isplitl [H12]; · iexact H12
      ipureintro; rfl
    isplitl [H13]
    · iexists _; isplitl [H13]; · iexact H13
      ipureintro; rfl
    isplitl [H14]
    · iexists _; isplitl [H14]; · iexact H14
      ipureintro; rfl
    isplitl [H15]
    · iexists _; isplitl [H15]; · iexact H15
      ipureintro; rfl
    iexists _; isplitl [H16]; · iexact H16
    ipureintro; rfl
  · iintro %u HI
    unfold loopInv; dsimp only
    icases HI with ⟨H2, H3, H4, H5, H6, H7, ⟨%g8, H8, %e8⟩, ⟨%g11, H11, %e11⟩, ⟨%g12, H12, %e12⟩, ⟨%g13, H13, %e13⟩, ⟨%g14, H14, %e14⟩, ⟨%g15, H15, %e15⟩, ⟨%g16, H16, %e16⟩⟩
    iapply HK $$ %u H2 H3 H4 H5 H6 H7 %g8 H8 %g11 H11 %g12 H12 %g13 H13 %g14 H14 %g15 H15 %g16 H16
    ipureintro
    have hk := kept_read i a8 h8 a11 h11 a12 h12 a13 h13 a14 h14 a15 h15 a16 h16 (blocksOf a2 a3 a4 a5 a6 a7 f2 f3 f4 f5 f6 f7) f8 f11 f12 f13 f14 f15 f16 (k2_t1_loop i).trips
    rw [← hk]
    simp only [e8, e11, e12, e13, e14, e15, e16]

/-- Whether the point is the head's first. -/
abbrev cond0 : Prop := (Scalar.cmpi .ne (Scalar.extui (Scalar.cmpi .eq (BitVec.ofNat 32 (i 1).val) 0#32)) 0#32) = 1#1

open Classical in
/-- The query gradient a point starts from: zero at a head's first point. -/
def dq0 (dq : Vec F S16384x128 .f32) : Vec F S16384x128 .f32 := if cond0 i then k2_pay41 else dq

/-- What the point keeps before its loop. -/
def entry (X : Blocks F) (dq : Vec F S16384x128 .f32) : St F where
  sb := k2_pay44 X.k (rows X.q (k2_off1 i) (k2_off1_inb i))
  db := k2_pay46 (k2_pay45 X.v (rows X.d (k2_off1 i) (k2_off1_inb i)))
  sa := k2_pay47 X.k (rows X.q (k2_off2 i) (k2_off2_inb i))
  da := k2_pay48 X.v (rows X.d (k2_off2 i) (k2_off2_inb i))
  dv := k2_pay53 (k2_pay50 (rows X.d (k2_off1 i) (k2_off1_inb i))) (k2_pay44 X.k (rows X.q (k2_off1 i) (k2_off1_inb i)))
    (srow X.lse (k2_off3 i) (k2_off3_inb i)) k2_pay43
  dk := k2_pay54 (k2_pay49 (rows X.q (k2_off1 i) (k2_off1_inb i))) (k2_pay44 X.k (rows X.q (k2_off1 i) (k2_off1_inb i)))
    (srow X.lse (k2_off3 i) (k2_off3_inb i)) (k2_pay46 (k2_pay45 X.v (rows X.d (k2_off1 i) (k2_off1_inb i))))
    (srow X.delta (k2_off3 i) (k2_off3_inb i)) k2_pay42
  dq := VecWindow.put dq (k2_off1 i) S512x128.size
    (k2_pay55 (k2_pay52 (k2_pay44 X.k (rows X.q (k2_off1 i) (k2_off1_inb i))) (srow X.lse (k2_off3 i) (k2_off3_inb i))
      (k2_pay46 (k2_pay45 X.v (rows X.d (k2_off1 i) (k2_off1_inb i)))) (srow X.delta (k2_off3 i) (k2_off3_inb i)))
      (rows dq (k2_off1 i) (k2_off1_inb i)) X.k)

/-- The last row block, on its own where the loop's pairs leave it over. -/
def last (X : Blocks F) (s : St F) : St F where
  sa := s.sa
  da := s.da
  sb := s.sb
  db := s.db
  dv := k2_pay39 (rows X.d ![15872, 0] inb_S16384x128_S512x128_15872_0) s.sa (srow X.lse ![0, 31, 0, 0] inb_S1x32x8x512_S1x1x1x512_0_31_0_0) s.dv
  dk := k2_pay58 (k2_pay40 (rows X.q ![15872, 0] inb_S16384x128_S512x128_15872_0) s.sa (srow X.lse ![0, 31, 0, 0] inb_S1x32x8x512_S1x1x1x512_0_31_0_0)
    s.da (srow X.delta ![0, 31, 0, 0] inb_S1x32x8x512_S1x1x1x512_0_31_0_0) s.dk)
  dq := VecWindow.put s.dq ![15872, 0] S512x128.size
    (k2_pay59 (k2_pay38 s.sa (srow X.lse ![0, 31, 0, 0] inb_S1x32x8x512_S1x1x1x512_0_31_0_0) s.da
      (srow X.delta ![0, 31, 0, 0] inb_S1x32x8x512_S1x1x1x512_0_31_0_0)) (rows s.dq ![15872, 0] inb_S16384x128_S512x128_15872_0) X.k)

/-- The trips from the loop's entry, whose state is given by its fields. -/
theorem enter (X : Blocks F) (dq : Vec F S16384x128 .f32) {s s' : St F} {n : ℕ} (hq : s.dq = (entry i X dq).dq) (h1 : s.sa = (entry i X dq).sa)
    (h2 : s.da = (entry i X dq).da) (h3 : s.sb = (entry i X dq).sb) (h4 : s.db = (entry i X dq).db) (h5 : s.dk = (entry i X dq).dk)
    (h6 : s.dv = (entry i X dq).dv) (h : s' = trips i X s n) : s' = trips i X (entry i X dq) n :=
  h.trans (congrArg (fun u => trips i X u n) (St.ext hq h1 h2 h3 h4 h5 h6))

omit [FloatOps F] [Named F] in
/-- A head's gradient stored whole, then one row block of it. -/
theorem entry_dq_first {sp : Space} (v : View sig .tc sp S16384x128 .f32) (f : v.ty.Contents (Elt F)) (off : Fin 2 → ℕ)
    (inb : ∀ a, off a + S512x128.size a ≤ S16384x128.size a) (inb0 : ∀ a, (![0, 0] : Fin 2 → ℕ) a + (![16384, 128] : Fin 2 → ℕ) a ≤ S16384x128.size a)
    (z : Vec F S16384x128 .f32) (w : Vec F S512x128 .f32 → Vec F S512x128 .f32) :
    v.read (Elt F) (v.writes (Elt F) f [⟨Rect.unit (s := S16384x128) off S512x128.size inb, w (v.readAt (Elt F) (Rect.unit (s := S16384x128) off S512x128.size inb).toLoadRect
        (v.writes (Elt F) f [⟨Rect.unit (s := S16384x128) ![0, 0] ![16384, 128] inb0, z⟩]))⟩, ⟨Rect.unit (s := S16384x128) ![0, 0] ![16384, 128] inb0, z⟩])
      = VecWindow.put z off S512x128.size (w (rows z off inb)) := by
  have hz : v.read (Elt F) (v.writes (Elt F) f [⟨Rect.unit (s := S16384x128) ![0, 0] ![16384, 128] inb0, z⟩]) = z :=
    View.read_writes_full v f inb0 z []
  refine (View.read_writes_cons_put _ _ _ _ _ rfl).trans ?_
  rw [hz, View.readAt_eq_ld, hz]

open Classical in
/-- What the whole point leaves, from the query gradient it finds. -/
def point (X : Blocks F) (dq : Vec F S16384x128 .f32) : St F :=
  if k2_cond2 i = 1#1 then last X (trips i X (entry i X (dq0 i dq)) (k2_t1_loop i).trips)
  else trips i X (entry i X (dq0 i dq)) (k2_t1_loop i).trips

/-- Leaving a point: the blocks read are as found, the three results read what is said of them. -/
theorem leave (Y : St F) (W : Waits sig Unit) (K : PUnit → sProp 𝕄) (f2 : BufTy.Contents (Elt F) a2.view.ty) (f3 : BufTy.Contents (Elt F) a3.view.ty) (f4 : BufTy.Contents (Elt F) a4.view.ty) (f5 : BufTy.Contents (Elt F) a5.view.ty) (f6 : BufTy.Contents (Elt F) a6.view.ty) (f7 : BufTy.Contents (Elt F) a7.view.ty) (f8 : BufTy.Contents (Elt F) a8.view.ty) (f9 : BufTy.Contents (Elt F) a9.view.ty) (f10 : BufTy.Contents (Elt F) a10.view.ty) (f11 : BufTy.Contents (Elt F) a11.view.ty) (f12 : BufTy.Contents (Elt F) a12.view.ty) (f13 : BufTy.Contents (Elt F) a13.view.ty) (f14 : BufTy.Contents (Elt F) a14.view.ty) (f15 : BufTy.Contents (Elt F) a15.view.ty) (f16 : BufTy.Contents (Elt F) a16.view.ty) :
    iprop((a2.view.loc (c : Thread nD τ) ↦[a2.view.set]{fullShare} f2) ∗ (a3.view.loc (c : Thread nD τ) ↦[a3.view.set]{fullShare} f3) ∗ (a4.view.loc (c : Thread nD τ) ↦[a4.view.set]{fullShare} f4) ∗ (a5.view.loc (c : Thread nD τ) ↦[a5.view.set]{fullShare} f5) ∗ (a6.view.loc (c : Thread nD τ) ↦[a6.view.set]{fullShare} f6) ∗ (a7.view.loc (c : Thread nD τ) ↦[a7.view.set]{fullShare} f7) ∗ (a8.view.loc (c : Thread nD τ) ↦[a8.view.set]{fullShare} f8) ∗ (a9.view.loc (c : Thread nD τ) ↦[a9.view.set]{fullShare} f9) ∗ (a10.view.loc (c : Thread nD τ) ↦[a10.view.set]{fullShare} f10) ∗ (a11.view.loc (c : Thread nD τ) ↦[a11.view.set]{fullShare} f11) ∗ (a12.view.loc (c : Thread nD τ) ↦[a12.view.set]{fullShare} f12) ∗ (a13.view.loc (c : Thread nD τ) ↦[a13.view.set]{fullShare} f13) ∗ (a14.view.loc (c : Thread nD τ) ↦[a14.view.set]{fullShare} f14) ∗ (a15.view.loc (c : Thread nD τ) ↦[a15.view.set]{fullShare} f15) ∗ (a16.view.loc (c : Thread nD τ) ↦[a16.view.set]{fullShare} f16) ∗ owes (c : Thread nD τ) 0 W
        ∗ ⌜a8.view.read (Elt F) f8 = Y.dq⌝ ∗ ⌜a9.view.read (Elt F) f9 = k2_pay1 Y.dk⌝ ∗ ⌜a10.view.read (Elt F) f10 = k2_pay2 Y.dv⌝
        ∗ (iprop(owns (c : Thread nD τ) a2 fullShare (a2.view.read (Elt F) f2) ∗ owns (c : Thread nD τ) a3 fullShare (a3.view.read (Elt F) f3) ∗ owns (c : Thread nD τ) a4 fullShare (a4.view.read (Elt F) f4) ∗ owns (c : Thread nD τ) a5 fullShare (a5.view.read (Elt F) f5) ∗ owns (c : Thread nD τ) a6 fullShare (a6.view.read (Elt F) f6) ∗ owns (c : Thread nD τ) a7 fullShare (a7.view.read (Elt F) f7) ∗ owns (c : Thread nD τ) a8 fullShare Y.dq ∗ owns (c : Thread nD τ) a9 fullShare (k2_pay1 Y.dk) ∗ owns (c : Thread nD τ) a10 fullShare (k2_pay2 Y.dv) ∗ (∃ d, owns (c : Thread nD τ) a11 fullShare d) ∗ (∃ d, owns (c : Thread nD τ) a12 fullShare d) ∗ (∃ d, owns (c : Thread nD τ) a13 fullShare d) ∗ (∃ d, owns (c : Thread nD τ) a14 fullShare d) ∗ (∃ d, owns (c : Thread nD τ) a15 fullShare d) ∗ (∃ d, owns (c : Thread nD τ) a16 fullShare d) ∗ (∃ W', owes (c : Thread nD τ) 0 W')) -∗ K ⟨⟩))
      ⊢ (K ⟨⟩ : sProp 𝕄) := by
  unfold owns
  iintro ⟨H2, H3, H4, H5, H6, H7, H8, H9, H10, H11, H12, H13, H14, H15, H16, HW, %e8, %e9, %e10, Hk⟩
  iapply Hk
  isplitl [H2]
  · iexists f2; isplitr [H2]
    · ipureintro; rfl
    iexact H2
  isplitl [H3]
  · iexists f3; isplitr [H3]
    · ipureintro; rfl
    iexact H3
  isplitl [H4]
  · iexists f4; isplitr [H4]
    · ipureintro; rfl
    iexact H4
  isplitl [H5]
  · iexists f5; isplitr [H5]
    · ipureintro; rfl
    iexact H5
  isplitl [H6]
  · iexists f6; isplitr [H6]
    · ipureintro; rfl
    iexact H6
  isplitl [H7]
  · iexists f7; isplitr [H7]
    · ipureintro; rfl
    iexact H7
  isplitl [H8]
  · iexists f8; isplitr [H8]
    · ipureintro; exact e8
    iexact H8
  isplitl [H9]
  · iexists f9; isplitr [H9]
    · ipureintro; exact e9
    iexact H9
  isplitl [H10]
  · iexists f10; isplitr [H10]
    · ipureintro; exact e10
    iexact H10
  isplitl [H11]
  · iexists (a11.view.read (Elt F) f11), f11; isplitr [H11]
    · ipureintro; rfl
    iexact H11
  isplitl [H12]
  · iexists (a12.view.read (Elt F) f12), f12; isplitr [H12]
    · ipureintro; rfl
    iexact H12
  isplitl [H13]
  · iexists (a13.view.read (Elt F) f13), f13; isplitr [H13]
    · ipureintro; rfl
    iexact H13
  isplitl [H14]
  · iexists (a14.view.read (Elt F) f14), f14; isplitr [H14]
    · ipureintro; rfl
    iexact H14
  isplitl [H15]
  · iexists (a15.view.read (Elt F) f15), f15; isplitr [H15]
    · ipureintro; rfl
    iexact H15
  isplitl [H16]
  · iexists (a16.view.read (Elt F) f16), f16; isplitr [H16]
    · ipureintro; rfl
    iexact H16
  iexists _; iexact HW

set_option maxHeartbeats 12800000 in
/-- One grid point: it leaves the query gradient, and the rounded sums, as `point` says. -/
theorem point_run (X : Blocks F) (dq : Vec F S16384x128 .f32) (W : Waits sig Unit) (K : PUnit → sProp 𝕄) :
    iprop(owns (c : Thread nD τ) a2 fullShare X.q ∗ owns (c : Thread nD τ) a3 fullShare X.d ∗ owns (c : Thread nD τ) a4 fullShare X.lse ∗ owns (c : Thread nD τ) a5 fullShare X.delta ∗ owns (c : Thread nD τ) a6 fullShare X.k ∗ owns (c : Thread nD τ) a7 fullShare X.v ∗ owns (c : Thread nD τ) a8 fullShare dq ∗ (∃ d, owns (c : Thread nD τ) a9 fullShare d) ∗ (∃ d, owns (c : Thread nD τ) a10 fullShare d) ∗ (∃ d, owns (c : Thread nD τ) a11 fullShare d) ∗ (∃ d, owns (c : Thread nD τ) a12 fullShare d) ∗ (∃ d, owns (c : Thread nD τ) a13 fullShare d) ∗ (∃ d, owns (c : Thread nD τ) a14 fullShare d) ∗ (∃ d, owns (c : Thread nD τ) a15 fullShare d) ∗ (∃ d, owns (c : Thread nD τ) a16 fullShare d) ∗ owes (c : Thread nD τ) 0 W
        ∗ (iprop(owns (c : Thread nD τ) a2 fullShare X.q ∗ owns (c : Thread nD τ) a3 fullShare X.d ∗ owns (c : Thread nD τ) a4 fullShare X.lse ∗ owns (c : Thread nD τ) a5 fullShare X.delta ∗ owns (c : Thread nD τ) a6 fullShare X.k ∗ owns (c : Thread nD τ) a7 fullShare X.v ∗ owns (c : Thread nD τ) a8 fullShare (point i X dq).dq ∗ owns (c : Thread nD τ) a9 fullShare (k2_pay1 (point i X dq).dk) ∗ owns (c : Thread nD τ) a10 fullShare (k2_pay2 (point i X dq).dv) ∗ (∃ d, owns (c : Thread nD τ) a11 fullShare d) ∗ (∃ d, owns (c : Thread nD τ) a12 fullShare d) ∗ (∃ d, owns (c : Thread nD τ) a13 fullShare d) ∗ (∃ d, owns (c : Thread nD τ) a14 fullShare d) ∗ (∃ d, owns (c : Thread nD τ) a15 fullShare d) ∗ (∃ d, owns (c : Thread nD τ) a16 fullShare d) ∗ (∃ W', owes (c : Thread nD τ) 0 W')) -∗ K ⟨⟩))
      ⊢ wp frame (wpE (defs₀ (F := F)) 𝒱 c bd) Set.univ (cc2_flash_bwd i a2 h2 a3 h3 a4 h4 a5 h5 a6 h6 a7 h7 a8 h8 a9 h9 a10 h10 a11 h11 a12 h12 a13 h13 a14 h14 a15 h15 a16 h16) K := by
  simp only [cc2_flash_bwd_eq_skeleton]; unfold cc2_flash_bwd_skel
  simp only [k2_part10_eq_skeleton, k2_part11_eq_skeleton, k2_part12_eq_skeleton, k2_part13_eq_skeleton, k2_part9_eq_skeleton]
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, HW, Hk⟩
  obtain ⟨Xq, Xd, Xlse, Xdelta, Xk, Xv⟩ := X
  dsimp only at e2 e3 e4 e5 e6 e7
  subst e2 e3 e4 e5 e6 e7 e8
  by_cases hc0 : cond0 i <;> by_cases hc2 : k2_cond2 i = 1#1
  all_goals
    sl_exec (disch := first | sl_exact hc0 | sl_exact hc2)
    iapply (loop_then 𝒱 c bd i a2 h2 a3 h3 a4 h4 a5 h5 a6 h6 a7 h7 a8 h8 a9 h9 a10 h10 a11 h11 a12 h12 a13 h13 a14 h14 a15 h15 a16 h16 _ _ _ _ _ _ _ _ _ _ _ _ _ _ _ _ _)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H11]; · iexact H11
    isplitl [H12]; · iexact H12
    isplitl [H13]; · iexact H13
    isplitl [H14]; · iexact H14
    isplitl [H15]; · iexact H15
    isplitl [H16]; · iexact H16
    iintro %g H2 H3 H4 H5 H6 H7 %g8 H8 %g11 H11 %g12 H12 %g13 H13 %g14 H14 %g15 H15 %g16 H16 %hg
    have hg := enter i ⟨View.read (Elt F) a2.view f2, View.read (Elt F) a3.view f3, View.read (Elt F) a4.view f4, View.read (Elt F) a5.view f5, View.read (Elt F) a6.view f6, View.read (Elt F) a7.view f7⟩ (dq0 i (View.read (Elt F) a8.view f8))
      (by
        show View.read (Elt F) a8.view _ = VecWindow.put (dq0 i (View.read (Elt F) a8.view f8)) _ _ _
        unfold dq0; sl_unfold_words; by_cases h : cond0 i
        · rw [if_pos h]; first
            | exact absurd h hc0
            | (refine (entry_dq_first a8.view _ _ _ _ _ (fun x => k2_pay55 _ x _)).trans ?_
               simp only [cov_tile, cov_square, View.readAt_eq_ld, ld_tile, ld_square]; try rfl)
        · rw [if_neg h]; first
            | exact absurd hc0 h
            | (refine (View.read_writes_cons_put a8.view _ _ _ _ rfl).trans ?_
               simp only [cov_tile, cov_square, View.readAt_eq_ld, ld_tile, ld_square]; try rfl))
      (by sl_unfold_words; simp only [st_tile, st_square, cov_tile, cov_square, View.readAt_eq_ld, ld_tile, ld_square]; rfl)
      (by sl_unfold_words; simp only [st_tile, st_square, cov_tile, cov_square, View.readAt_eq_ld, ld_tile, ld_square]; rfl)
      (by sl_unfold_words; simp only [st_tile, st_square, cov_tile, cov_square, View.readAt_eq_ld, ld_tile, ld_square]; rfl)
      (by sl_unfold_words; simp only [st_tile, st_square, cov_tile, cov_square, View.readAt_eq_ld, ld_tile, ld_square]; rfl)
      (by sl_unfold_words; simp only [st_tile, st_square, cov_tile, cov_square, View.readAt_eq_ld, ld_tile, ld_square]; rfl)
      (by sl_unfold_words; simp only [st_tile, st_square, cov_tile, cov_square, View.readAt_eq_ld, ld_tile, ld_square]; rfl) hg
    sl_exec (disch := first | sl_exact hc0 | sl_exact hc2)
    sl_step
  all_goals
    iapply (leave c a2 a3 a4 a5 a6 a7 a8 a9 a10 a11 a12 a13 a14 a15 a16 (point i ⟨View.read (Elt F) a2.view f2, View.read (Elt F) a3.view f3, View.read (Elt F) a4.view f4, View.read (Elt F) a5.view f5, View.read (Elt F) a6.view f6, View.read (Elt F) a7.view f7⟩ (View.read (Elt F) a8.view f8)) W K _ _ _ _ _ _ _ _ _ _ _ _ _ _ _)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [HW]; · iexact HW
    isplitr
    · ipureintro; unfold point; by_cases h : k2_cond2 i = 1#1
      · rw [if_pos h, ← hg]; first
          | exact absurd h hc2
          | (sl_unfold_words; unfold last; dsimp only; refine (View.read_writes_cons_put _ _ _ _ _ rfl).trans ?_; simp only [View.readAt_eq_ld, ld_tile, ld_square]; rfl)
      · rw [if_neg h]; first
          | exact absurd hc2 h
          | exact congrArg St.dq hg
    isplitr
    · ipureintro; unfold point; by_cases h : k2_cond2 i = 1#1
      · rw [if_pos h, ← hg]; first
          | exact absurd h hc2
          | (sl_unfold_words; unfold last; simp only [st_tile, cov_tile, View.readAt_eq_ld, ld_tile, ld_square]; try rfl)
      · rw [if_neg h, ← hg]; first
          | exact absurd hc2 h
          | (sl_unfold_words; simp only [st_tile, cov_tile, View.readAt_eq_ld, ld_tile, ld_square]; try rfl)
    isplitr
    · ipureintro; unfold point; by_cases h : k2_cond2 i = 1#1
      · rw [if_pos h, ← hg]; first
          | exact absurd h hc2
          | (sl_unfold_words; unfold last; simp only [st_tile, cov_tile, View.readAt_eq_ld, ld_tile, ld_square]; try rfl)
      · rw [if_neg h, ← hg]; first
          | exact absurd hc2 h
          | (sl_unfold_words; simp only [st_tile, cov_tile, View.readAt_eq_ld, ld_tile, ld_square]; try rfl)
    iexact Hk

end Loop

end Cert.AttnKernelIdeal.Bwd

end
-- ==== Proof.Attn.Region2.lean ====
module

public import proofs.«01_k».proof.Proof.Attn.Bwd
public import proofs.«01_k».proof.Proof.Gen.AttnKernelIdeal.Points
public import proofs.«01_k».proof.Proof.Gen.AttnKernelIdeal.Launch
public import Idealize.ShloMosaic.Lib.Pipeline.FrameBody
public import Idealize.ShloMosaic.Lib.Pipeline.RegionsLoop
public import Idealize.ShloMosaic.Lib.Pipeline.TableIdle

@[expose] public section

set_option maxRecDepth 16384

noncomputable section

namespace Cert.AttnKernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.AttnKernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- A window's block at a point, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What a point reads. -/
def bwdBlocks (c : Dev nD) (t : Fin cfg2.N) : Bwd.Blocks F :=
  ⟨iblk2 V c 0 t, iblk2 V c 1 t, iblk2 V c 2 t, iblk2 V c 3 t, iblk2 V c 4 t, iblk2 V c 5 t⟩

/-- The states the points end with: each from the query gradient the one before left. -/
def bwdAt (c : Dev nD) : (n : ℕ) → n < cfg2.N → Bwd.St F
  | 0, h => Bwd.point (grid2.coords ⟨0, h⟩) (bwdBlocks V c ⟨0, h⟩) k2_pay41
  | n + 1, h => Bwd.point (grid2.coords ⟨n + 1, h⟩) (bwdBlocks V c ⟨n + 1, h⟩) (bwdAt c n (Nat.lt_of_succ_lt h)).dq

theorem cond0_iff : ∀ t : Fin grid2.N, Bwd.cond0 (grid2.coords t) ↔ t.val % 32 = 0 := by decide +kernel

/-- A head's first point starts its query gradient from zero. -/
theorem point_first (i : grid2.Coords) (h : Bwd.cond0 i) (X : Bwd.Blocks F) (d d' : Vec F S16384x128 .f32) : Bwd.point i X d = Bwd.point i X d' := by
  unfold Bwd.point Bwd.dq0
  rw [if_pos h, if_pos h]

/-- The region's proof data: its arrays as it finds them, each block read left in place, each result as the point leaves it. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (bwdAt V c t.val t.isLt).dq
    | ⟨7, _⟩ => k2_pay1 (bwdAt V c t.val t.isLt).dk
    | ⟨8, _⟩ => k2_pay2 (bwdAt V c t.val t.isLt).dv
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (bwdAt V c t.val t.isLt).dq := by dsimp only [dat2]
theorem after2_7 (c : Dev nD) (t : Fin cfg2.N) : (dat2 V c).after 7 t = k2_pay1 (bwdAt V c t.val t.isLt).dk := by dsimp only [dat2]
theorem after2_8 (c : Dev nD) (t : Fin cfg2.N) : (dat2 V c).after 8 t = k2_pay2 (bwdAt V c t.val t.isLt).dv := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl)
    (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl)
    (fun t => by rw [after2_5]; unfold Dat.blockOf iblk2; rw [A_eq2]; try rfl) t d).trans
    (by unfold Dat.fetched Dat.blockOf iblk2; rw [A_eq2]; try rfl)

/-- The scoped buffers outside the staging ones, the kernel's own scratch memrefs taken out. -/
theorem scratch2 (c : Dev nD) :
    (Pipeline.scopedRest (Ix := Unit) (Name := ℕ) (U := UR sig nD τ) (Lvl := ℕ) (Val := Elt F) spec2 c : sProp 𝕄)
      = iprop(iprop((∃ d, owns (c : Thread nD τ) (Memref.whole cc2_scratch0) fullShare d) ∗ (∃ d, owns (c : Thread nD τ) (Memref.whole cc2_scratch1) fullShare d) ∗ (∃ d, owns (c : Thread nD τ) (Memref.whole cc2_scratch2) fullShare d) ∗ (∃ d, owns (c : Thread nD τ) (Memref.whole cc2_scratch3) fullShare d) ∗ (∃ d, owns (c : Thread nD τ) (Memref.whole cc2_scratch4) fullShare d) ∗ (∃ d, owns (c : Thread nD τ) (Memref.whole cc2_scratch5) fullShare d))
          ∗ Pipeline.scopedRestBut (Ix := Unit) (Name := ℕ) (U := UR sig nD τ) (Lvl := ℕ) (Val := Elt F) spec2 c [cc2_scratch0, cc2_scratch1, cc2_scratch2, cc2_scratch3, cc2_scratch4, cc2_scratch5]) := by
  rw [scopedRest2_split]
  have h (b : Ref sig .tc) : (iprop(∃ f : Buf (Elt F) ((c : Thread nD τ).loc b), ((c : Thread nD τ).loc b) ↦{fullShare} f) : sProp 𝕄)
      = iprop(∃ d, owns (c : Thread nD τ) (Memref.whole b) fullShare d) := by
    simp only [owns_whole]
  simp only [h]

/-- What the body is called with at a point, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

/-- At a head's later points the query gradient's block is as the point before left it. -/
theorem before2_6 (c : Dev nD) (t : Fin cfg2.N) (h : t.val % 32 ≠ 0) (d) :
    (dat2 V c).before 6 t d = (bwdAt V c (t.val - 1) (Nat.lt_of_le_of_lt (Nat.sub_le _ _) t.isLt)).dq := by
  rw [Dat.before_out_traj _ 6 rfl (fun _ _ => rfl) (fun _ _ hi _ => absurd hi Bool.false_ne_true) t.val t rfl d, if_neg, after2_6]
  obtain ⟨n, hn⟩ := t
  match n, hn, h with
  | n + 1, hn, h =>
    dsimp only at h ⊢
    rw [Pipeline.Cfg.fresh_succ cfg2 6 n (Nat.lt_of_succ_lt hn)]
    have hf : (cfg2.win 6).flush ⟨n, Nat.lt_of_succ_lt hn⟩ = false := by
      rw [Bool.eq_false_iff]; intro hf
      have := (flush2_6 ⟨n, Nat.lt_of_succ_lt hn⟩).mp hf
      dsimp only at this; omega
    rw [hf]
    exact Bool.false_ne_true

/-- A point's state, from the query gradient its block holds. -/
theorem bwdAt_eq (c : Dev nD) (t : Fin cfg2.N) (d) :
    bwdAt V c t.val t.isLt = Bwd.point (grid2.coords t) (bwdBlocks V c t) ((dat2 V c).before 6 t d) := by
  by_cases h : t.val % 32 = 0
  · obtain ⟨n, hn⟩ := t
    match n, hn, h with
    | 0, hn, h => exact point_first _ ((cond0_iff ⟨0, hn⟩).mpr h) _ _ _
    | n + 1, hn, h => exact point_first _ ((cond0_iff ⟨n + 1, hn⟩).mpr h) _ _ _
  · rw [before2_6 V c t h]
    obtain ⟨n, hn⟩ := t
    match n, hn, h with
    | 0, hn, h => exact absurd rfl h
    | n + 1, hn, h => rfl

/-- The body at any point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = Pipeline.ΦA spec2 c from rfl, show (dat2 V c).Φ t.castSucc = Pipeline.ΦA spec2 c from rfl,
    after2_0, after2_1, after2_2, after2_3, after2_4, after2_5, after2_6, after2_7, after2_8]
  unfold Pipeline.ΦA Dat.owesAt Pipeline.owesWithin
  rw [show (dat2 V c).owed t.castSucc = 0 from rfl, show (dat2 V c).owed t.succ = 0 from rfl, scratch2]
  iintro ⟨⟨⟨⟨HS0, HS1, HS2, HS3, HS4, HS5⟩, Hb⟩, Hg⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [bwdAt_eq V c t d6]
  iapply (Bwd.point_run Variants.none c none (grid2.coords t) _ _ _ _ _ _ _ _ _ _ _ _ _ _ _ _ _ _ _ _ _ _ _ _ _ _ _ _ _ _ (bwdBlocks V c t) _ W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS0]; · iexact HS0
  isplitl [HS1]; · iexact HS1
  isplitl [HS2]; · iexact HS2
  isplitl [HS3]; · iexact HS3
  isplitl [HS4]; · iexact HS4
  isplitl [HS5]; · iexact HS5
  isplitl [HW]; · iexact HW
  iintro ⟨H0, H1, H2, H3, H4, H5, H6, H7, H8, HS0, HS1, HS2, HS3, HS4, HS5, ⟨%W', HW'⟩⟩
  isplitl [HS0 HS1 HS2 HS3 HS4 HS5 Hb Hg]
  · isplitl [HS0 HS1 HS2 HS3 HS4 HS5 Hb]
    · isplitl [HS0 HS1 HS2 HS3 HS4 HS5]
      · isplitl [HS0]; · iexact HS0
        isplitl [HS1]; · iexact HS1
        isplitl [HS2]; · iexact HS2
        isplitl [HS3]; · iexact HS3
        isplitl [HS4]; · iexact HS4
        iexact HS5
      iexact Hb
    iexact Hg
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row2 (t : Fin cfg2.N) :
    defs₀ (F := F) .tc cfg2.body (cfg2.bodyArgs t (cfg2.slots t)) = bodyAt2 t := by
  unfold defs₀; rw [Defs.onTc_tc]

/-- The region's body obligation. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.AttnKernelIdeal.Attn

end
-- ==== Proof.Attn.Run.lean ====
module

public import proofs.«01_k».proof.Proof.Attn.Region0
public import proofs.«01_k».proof.Proof.Attn.Region1
public import proofs.«01_k».proof.Proof.Attn.Region2
public import proofs.«01_k».proof.Proof.Gen.AttnKernelIdeal.Regions
public import Idealize.ShloMosaic.Lib.Pipeline.FrameSuffix

@[expose] public section

set_option maxRecDepth 16384

noncomputable section

namespace Cert.AttnKernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation cellOf)
open Cert.AttnKernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers between the stretches of @main -/

/-- The argument arrays. -/
abbrev argRefs : List (Ref sig .tc) := [main_arg0, main_arg1, main_arg2, main_arg3, main_arg4, main_arg5]

/-- The buffers at launch. -/
abbrev W0 (c : Dev nD) : Valuation τ sig (Elt F) := fun b => m (c, b)
/-- After `hostOps0`. -/
abbrev W1 (c : Dev nD) : Valuation τ sig (Elt F) := StableHlo.after hostOps0 (W0 m c)
theorem W1_of (c : Dev nD) (r : Ref sig .tc) (h : r ∉ hostOps0_W) : W1 m c r = W0 m c r :=
  StableHlo.after_of_writes_sub hostOps0 _ hostOps0_writes h
theorem W1_args (c : Dev nD) (a : Ref sig .tc) (ha : a ∈ argRefs) : W1 m c (Proc.devRef .tc a) = m ((c : Thread nD τ).loc a) :=
  (W1_of m c a ((ListAll.forall_mem_of_all_decide (by decide +kernel) : ∀ a ∈ argRefs, a ∉ hostOps0_W) a ha)).trans (rfl)
/-- After `hostOps0_1`. -/
abbrev W2 (c : Dev nD) : Valuation τ sig (Elt F) := StableHlo.after hostOps0_1 (W1 m c)
theorem W2_of (c : Dev nD) (r : Ref sig .tc) (h : r ∉ hostOps0_1_W) : W2 m c r = W1 m c r :=
  StableHlo.after_of_writes_sub hostOps0_1 _ hostOps0_1_writes h
theorem W2_args (c : Dev nD) (a : Ref sig .tc) (ha : a ∈ argRefs) : W2 m c (Proc.devRef .tc a) = m ((c : Thread nD τ).loc a) :=
  (W2_of m c a ((ListAll.forall_mem_of_all_decide (by decide +kernel) : ∀ a ∈ argRefs, a ∉ hostOps0_1_W) a ha)).trans (W1_args m c a ha)
/-- After `hostOps0_2`. -/
abbrev W3 (c : Dev nD) : Valuation τ sig (Elt F) := StableHlo.after hostOps0_2 (W2 m c)
theorem W3_of (c : Dev nD) (r : Ref sig .tc) (h : r ∉ hostOps0_2_W) : W3 m c r = W2 m c r :=
  StableHlo.after_of_writes_sub hostOps0_2 _ hostOps0_2_writes h
theorem W3_args (c : Dev nD) (a : Ref sig .tc) (ha : a ∈ argRefs) : W3 m c (Proc.devRef .tc a) = m ((c : Thread nD τ).loc a) :=
  (W3_of m c a ((ListAll.forall_mem_of_all_decide (by decide +kernel) : ∀ a ∈ argRefs, a ∉ hostOps0_2_W) a ha)).trans (W2_args m c a ha)
/-- After `hostOps0_3`. -/
abbrev W4 (c : Dev nD) : Valuation τ sig (Elt F) := StableHlo.after hostOps0_3 (W3 m c)
theorem W4_of (c : Dev nD) (r : Ref sig .tc) (h : r ∉ hostOps0_3_W) : W4 m c r = W3 m c r :=
  StableHlo.after_of_writes_sub hostOps0_3 _ hostOps0_3_writes h
theorem W4_args (c : Dev nD) (a : Ref sig .tc) (ha : a ∈ argRefs) : W4 m c (Proc.devRef .tc a) = m ((c : Thread nD τ).loc a) :=
  (W4_of m c a ((ListAll.forall_mem_of_all_decide (by decide +kernel) : ∀ a ∈ argRefs, a ∉ hostOps0_3_W) a ha)).trans (W3_args m c a ha)
/-- After `hostOps0_4`. -/
abbrev W5 (c : Dev nD) : Valuation τ sig (Elt F) := StableHlo.after hostOps0_4 (W4 m c)
theorem W5_of (c : Dev nD) (r : Ref sig .tc) (h : r ∉ hostOps0_4_W) : W5 m c r = W4 m c r :=
  StableHlo.after_of_writes_sub hostOps0_4 _ hostOps0_4_writes h
theorem W5_args (c : Dev nD) (a : Ref sig .tc) (ha : a ∈ argRefs) : W5 m c (Proc.devRef .tc a) = m ((c : Thread nD τ).loc a) :=
  (W5_of m c a ((ListAll.forall_mem_of_all_decide (by decide +kernel) : ∀ a ∈ argRefs, a ∉ hostOps0_4_W) a ha)).trans (W4_args m c a ha)
/-- After `hostOps0_5`. -/
abbrev W6 (c : Dev nD) : Valuation τ sig (Elt F) := StableHlo.after hostOps0_5 (W5 m c)
theorem W6_of (c : Dev nD) (r : Ref sig .tc) (h : r ∉ hostOps0_5_W) : W6 m c r = W5 m c r :=
  StableHlo.after_of_writes_sub hostOps0_5 _ hostOps0_5_writes h
theorem W6_args (c : Dev nD) (a : Ref sig .tc) (ha : a ∈ argRefs) : W6 m c (Proc.devRef .tc a) = m ((c : Thread nD τ).loc a) :=
  (W6_of m c a ((ListAll.forall_mem_of_all_decide (by decide +kernel) : ∀ a ∈ argRefs, a ∉ hostOps0_5_W) a ha)).trans (W5_args m c a ha)
/-- After `hostOps0_6`. -/
abbrev W7 (c : Dev nD) : Valuation τ sig (Elt F) := StableHlo.after hostOps0_6 (W6 m c)
theorem W7_of (c : Dev nD) (r : Ref sig .tc) (h : r ∉ hostOps0_6_W) : W7 m c r = W6 m c r :=
  StableHlo.after_of_writes_sub hostOps0_6 _ hostOps0_6_writes h
theorem W7_args (c : Dev nD) (a : Ref sig .tc) (ha : a ∈ argRefs) : W7 m c (Proc.devRef .tc a) = m ((c : Thread nD τ).loc a) :=
  (W7_of m c a ((ListAll.forall_mem_of_all_decide (by decide +kernel) : ∀ a ∈ argRefs, a ∉ hostOps0_6_W) a ha)).trans (W6_args m c a ha)
/-- What region 0 finds, by TensorCore reference, -/
abbrev E0 (c : Dev nD) (b : Ref sig .tc) : Buf (Elt F) ((c : Thread nD τ).loc b) := W7 m c b
/-- and what it leaves: its arrays as its points fold into them, the rest untouched. -/
def W8 (c : Dev nD) : Valuation τ sig (Elt F) :=
  Pipeline.withArrays spec0 c (W7 m c) fun w => (dat0 (E0 m) c).arrAt w cfg0.N
theorem W8_arr (c : Dev nD) (w : Fin cfg0.W) : W8 m c (Proc.devRef .tc (Pipeline.arrRef spec0 w)) = (dat0 (E0 m) c).arrAt w cfg0.N := by
  unfold W8; exact Pipeline.withArrays_arr spec0 launch0.win.arr_inj c _ _ w
theorem W8_of_ne (c : Dev nD) (b : Ref sig .tc) (hb : ∀ w, Pipeline.arrRef spec0 w ≠ b) : W8 m c (Proc.devRef .tc b) = W7 m c (Proc.devRef .tc b) := by
  unfold W8; exact Pipeline.withArrays_of_ne spec0 c _ _ b hb
theorem W8_of (c : Dev nD) (r : Ref sig .tc) (h : ∀ w : Fin cfg0.W, Pipeline.arrRef spec0 w = r → (cfg0.win w).isOut = false) :
    W8 m c (Proc.devRef .tc r) = W7 m c (Proc.devRef .tc r) := by
  by_cases hw : ∃ w : Fin cfg0.W, Pipeline.arrRef spec0 w = r
  · obtain ⟨w, rfl⟩ := hw
    exact (W8_arr m c w).trans (((dat0 (E0 m) c).arrAt_in w (h w rfl) _).trans (A_eq0 (E0 m) c w))
  · exact W8_of_ne m c r fun w e => hw ⟨w, e⟩
/-- The same by TensorCore reference. -/
abbrev L0 (c : Dev nD) (b : Ref sig .tc) : Buf (Elt F) ((c : Thread nD τ).loc b) := W8 m c b
theorem W8_args (c : Dev nD) (a : Ref sig .tc) (ha : a ∈ argRefs) : W8 m c (Proc.devRef .tc a) = m ((c : Thread nD τ).loc a) :=
  (W8_of m c a ((ListAll.forall_mem_of_all_decide (by decide +kernel) : ∀ a ∈ argRefs, ∀ w : Fin cfg0.W, Pipeline.arrRef spec0 w = a → (cfg0.win w).isOut = false) a ha)).trans (W7_args m c a ha)
/-- After `hostOps1`. -/
abbrev W9 (c : Dev nD) : Valuation τ sig (Elt F) := StableHlo.after hostOps1 (W8 m c)
theorem W9_of (c : Dev nD) (r : Ref sig .tc) (h : r ∉ hostOps1_W) : W9 m c r = W8 m c r :=
  StableHlo.after_of_writes_sub hostOps1 _ hostOps1_writes h
theorem W9_args (c : Dev nD) (a : Ref sig .tc) (ha : a ∈ argRefs) : W9 m c (Proc.devRef .tc a) = m ((c : Thread nD τ).loc a) :=
  (W9_of m c a ((ListAll.forall_mem_of_all_decide (by decide +kernel) : ∀ a ∈ argRefs, a ∉ hostOps1_W) a ha)).trans (W8_args m c a ha)
/-- After `hostOps1_1`. -/
abbrev W10 (c : Dev nD) : Valuation τ sig (Elt F) := StableHlo.after hostOps1_1 (W9 m c)
theorem W10_of (c : Dev nD) (r : Ref sig .tc) (h : r ∉ hostOps1_1_W) : W10 m c r = W9 m c r :=
  StableHlo.after_of_writes_sub hostOps1_1 _ hostOps1_1_writes h
theorem W10_args (c : Dev nD) (a : Ref sig .tc) (ha : a ∈ argRefs) : W10 m c (Proc.devRef .tc a) = m ((c : Thread nD τ).loc a) :=
  (W10_of m c a ((ListAll.forall_mem_of_all_decide (by decide +kernel) : ∀ a ∈ argRefs, a ∉ hostOps1_1_W) a ha)).trans (W9_args m c a ha)
/-- After `hostOps1_2`. -/
abbrev W11 (c : Dev nD) : Valuation τ sig (Elt F) := StableHlo.after hostOps1_2 (W10 m c)
theorem W11_of (c : Dev nD) (r : Ref sig .tc) (h : r ∉ hostOps1_2_W) : W11 m c r = W10 m c r :=
  StableHlo.after_of_writes_sub hostOps1_2 _ hostOps1_2_writes h
theorem W11_args (c : Dev nD) (a : Ref sig .tc) (ha : a ∈ argRefs) : W11 m c (Proc.devRef .tc a) = m ((c : Thread nD τ).loc a) :=
  (W11_of m c a ((ListAll.forall_mem_of_all_decide (by decide +kernel) : ∀ a ∈ argRefs, a ∉ hostOps1_2_W) a ha)).trans (W10_args m c a ha)
/-- What region 1 finds, by TensorCore reference, -/
abbrev E1 (c : Dev nD) (b : Ref sig .tc) : Buf (Elt F) ((c : Thread nD τ).loc b) := W11 m c b
/-- and what it leaves: its arrays as its points fold into them, the rest untouched. -/
def W12 (c : Dev nD) : Valuation τ sig (Elt F) :=
  Pipeline.withArrays spec1 c (W11 m c) fun w => (dat1 (E1 m) c).arrAt w cfg1.N
theorem W12_arr (c : Dev nD) (w : Fin cfg1.W) : W12 m c (Proc.devRef .tc (Pipeline.arrRef spec1 w)) = (dat1 (E1 m) c).arrAt w cfg1.N := by
  unfold W12; exact Pipeline.withArrays_arr spec1 launch1.win.arr_inj c _ _ w
theorem W12_of_ne (c : Dev nD) (b : Ref sig .tc) (hb : ∀ w, Pipeline.arrRef spec1 w ≠ b) : W12 m c (Proc.devRef .tc b) = W11 m c (Proc.devRef .tc b) := by
  unfold W12; exact Pipeline.withArrays_of_ne spec1 c _ _ b hb
theorem W12_of (c : Dev nD) (r : Ref sig .tc) (h : ∀ w : Fin cfg1.W, Pipeline.arrRef spec1 w = r → (cfg1.win w).isOut = false) :
    W12 m c (Proc.devRef .tc r) = W11 m c (Proc.devRef .tc r) := by
  by_cases hw : ∃ w : Fin cfg1.W, Pipeline.arrRef spec1 w = r
  · obtain ⟨w, rfl⟩ := hw
    exact (W12_arr m c w).trans (((dat1 (E1 m) c).arrAt_in w (h w rfl) _).trans (A_eq1 (E1 m) c w))
  · exact W12_of_ne m c r fun w e => hw ⟨w, e⟩
/-- The same by TensorCore reference. -/
abbrev L1 (c : Dev nD) (b : Ref sig .tc) : Buf (Elt F) ((c : Thread nD τ).loc b) := W12 m c b
theorem W12_args (c : Dev nD) (a : Ref sig .tc) (ha : a ∈ argRefs) : W12 m c (Proc.devRef .tc a) = m ((c : Thread nD τ).loc a) :=
  (W12_of m c a ((ListAll.forall_mem_of_all_decide (by decide +kernel) : ∀ a ∈ argRefs, ∀ w : Fin cfg1.W, Pipeline.arrRef spec1 w = a → (cfg1.win w).isOut = false) a ha)).trans (W11_args m c a ha)
/-- What region 2 finds, by TensorCore reference, -/
abbrev E2 (c : Dev nD) (b : Ref sig .tc) : Buf (Elt F) ((c : Thread nD τ).loc b) := W12 m c b
/-- and what it leaves: its arrays as its points fold into them, the rest untouched. -/
def W13 (c : Dev nD) : Valuation τ sig (Elt F) :=
  Pipeline.withArrays spec2 c (W12 m c) fun w => (dat2 (E2 m) c).arrAt w cfg2.N
theorem W13_arr (c : Dev nD) (w : Fin cfg2.W) : W13 m c (Proc.devRef .tc (Pipeline.arrRef spec2 w)) = (dat2 (E2 m) c).arrAt w cfg2.N := by
  unfold W13; exact Pipeline.withArrays_arr spec2 launch2.win.arr_inj c _ _ w
theorem W13_of_ne (c : Dev nD) (b : Ref sig .tc) (hb : ∀ w, Pipeline.arrRef spec2 w ≠ b) : W13 m c (Proc.devRef .tc b) = W12 m c (Proc.devRef .tc b) := by
  unfold W13; exact Pipeline.withArrays_of_ne spec2 c _ _ b hb
theorem W13_of (c : Dev nD) (r : Ref sig .tc) (h : ∀ w : Fin cfg2.W, Pipeline.arrRef spec2 w = r → (cfg2.win w).isOut = false) :
    W13 m c (Proc.devRef .tc r) = W12 m c (Proc.devRef .tc r) := by
  by_cases hw : ∃ w : Fin cfg2.W, Pipeline.arrRef spec2 w = r
  · obtain ⟨w, rfl⟩ := hw
    exact (W13_arr m c w).trans (((dat2 (E2 m) c).arrAt_in w (h w rfl) _).trans (A_eq2 (E2 m) c w))
  · exact W13_of_ne m c r fun w e => hw ⟨w, e⟩
/-- The same by TensorCore reference. -/
abbrev L2 (c : Dev nD) (b : Ref sig .tc) : Buf (Elt F) ((c : Thread nD τ).loc b) := W13 m c b
theorem W13_args (c : Dev nD) (a : Ref sig .tc) (ha : a ∈ argRefs) : W13 m c (Proc.devRef .tc a) = m ((c : Thread nD τ).loc a) :=
  (W13_of m c a ((ListAll.forall_mem_of_all_decide (by decide +kernel) : ∀ a ∈ argRefs, ∀ w : Fin cfg2.W, Pipeline.arrRef spec2 w = a → (cfg2.win w).isOut = false) a ha)).trans (W12_args m c a ha)
/-- After `hostOps3`. -/
abbrev W14 (c : Dev nD) : Valuation τ sig (Elt F) := StableHlo.after hostOps3 (W13 m c)
theorem W14_of (c : Dev nD) (r : Ref sig .tc) (h : r ∉ hostOps3_W) : W14 m c r = W13 m c r :=
  StableHlo.after_of_writes_sub hostOps3 _ hostOps3_writes h
theorem W14_args (c : Dev nD) (a : Ref sig .tc) (ha : a ∈ argRefs) : W14 m c (Proc.devRef .tc a) = m ((c : Thread nD τ).loc a) :=
  (W14_of m c a ((ListAll.forall_mem_of_all_decide (by decide +kernel) : ∀ a ∈ argRefs, a ∉ hostOps3_W) a ha)).trans (W13_args m c a ha)

/-! ## The thread state -/

abbrev adm : (p : Fin 3) → (pcfgs (F := F) p).Adm := fun p => (cfgs p).toPCfg_adm
/-- Each region's proof data, at what it finds. -/
def pdats : (p : Fin 3) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
  | ⟨2, _⟩ => fun c => dat2 (E2 m) c
abbrev 𝒱₀ : Variants := Variants.none
abbrev noLevels : GSem nD τ sig → Finset Unit := fun _ => ∅
abbrev level : GSem nD τ sig → Unit → ℕ := fun _ _ => 0
/-- What every stretch carries beside the buffers. -/
abbrev Side (c : Dev nD) : sProp 𝕄 := iprop((∃ r, prngReg c r) ∗ ∃ W, owes (c : Thread nD τ) (0 : CellTallies nD τ sig Unit) W)
/-- The buffers and what is carried. -/
abbrev Held (W : Dev nD → Valuation τ sig (Elt F)) (c : Dev nD) : sProp 𝕄 := iprop(StableHlo.held (c : Thread nD τ) (Pipeline.ucRefs τ sig) (W c) ∗ Side c)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ noLevels level :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Side

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state, without what the core owes. -/
abbrev Tₙ (c : Dev nD) : sProp 𝕄 := iprop(StableHlo.held (c : Thread nD τ) (Pipeline.ucRefs τ sig) (W14 m c) ∗ ∃ r, prngReg c r)

/-! ## The regions as segments -/

set_option backward.isDefEq.respectTransparency.types false in
/-- Region 0, from the buffers before it to the buffers after it. -/
def reg0 : Pipeline.RegionSeg (pcfgs (F := F)) adm (pdats m) () defs₀ 𝒱₀ noLevels level 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ noLevels level 0 fun _ _ => rfl
  pre := Held (W7 m)
  post := Held (W8 m)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) (A_eq0 (E0 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (L0 m c) ((pdats m 0 c).arrAt · cfg0.N) (fun w => (W8_arr m c w).symm)
      (fun b hb => W8_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1, from the buffers before it to the buffers after it. -/
def reg1 : Pipeline.RegionSeg (pcfgs (F := F)) adm (pdats m) () defs₀ 𝒱₀ noLevels level 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ noLevels level 1 fun _ _ => rfl
  pre := Held (W11 m)
  post := Held (W12 m)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) (A_eq1 (E1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (L1 m c) ((pdats m 1 c).arrAt · cfg1.N) (fun w => (W12_arr m c w).symm)
      (fun b hb => W12_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2, from the buffers before it to the buffers after it. -/
def reg2 : Pipeline.RegionSeg (pcfgs (F := F)) adm (pdats m) () defs₀ 𝒱₀ noLevels level 2 where
  win := launch2.win.to₀
  block_pos := launch2.block_pos
  stage_whole := launch2.stage_whole
  K := PEmpty
  osem k := k.elim
  ho := Pipeline.OwnSemFacts.none _
  hbody c := (body_obligation2 (E2 m) c).loose
  hwaits := Pipeline.hwaits_of_owed_zero _ _ _ _ noLevels level 2 fun _ _ => rfl
  pre := Held (W12 m)
  post := Held (W13 m)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E2 m c) (A_eq2 (E2 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E2 m c) (L2 m c) ((pdats m 2 c).arrAt · cfg2.N) (fun w => (W13_arr m c w).symm)
      (fun b hb => W13_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ noLevels level) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .host (hseg hostOps0_5 hostOps0_5_sub hostOps0_5_fresh (W5 m)),
    .host (hseg hostOps0_6 hostOps0_6_sub hostOps0_6_fresh (W6 m)),
    .region (reg0 m),
    .host (hseg hostOps1 hostOps1_sub hostOps1_fresh (W8 m)),
    .host (hseg hostOps1_1 hostOps1_1_sub hostOps1_1_fresh (W9 m)),
    .host (hseg hostOps1_2 hostOps1_2_sub hostOps1_2_fresh (W10 m)),
    .region (reg1 m),
    .region (reg2 m),
    .host (hseg hostOps3 hostOps3_sub hostOps3_fresh (W13 m)) ]

theorem main_run (c : Dev nD) : main (F := F) c = Pipeline.Seg.run (segs m) := (main_chain c).trans (by chain_rfl)

theorem no_unscoped : ∀ sm : SemLoc sig, sm.isScoped .tc = true := by decide

set_option backward.isDefEq.respectTransparency.types false in
/-- Every run ends, nothing faulting, with the buffers outside the kernels' own at the contents the fold gives and every counter at zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W14 m c b) ∧ r.2.sem = fun _ => 0) :=
  Pipeline.θ_run_regions_kit_sems (pcfgs (F := F)) adm (pdats m) () cellOf_inj emb₁ defs₀ 𝒱₀ noLevels level m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := Held (W0 m)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach noLevels level fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m c b)
    (hfin := fun c s' => by
      iintro ⟨⟨Hh, -⟩, HSI⟩
      unfold StableHlo.held
      imodintro
      iapply (pointsTo_read_all (Pipeline.ucRefs τ sig) (fun b => (((c : Thread nD τ)).1, b)) (W14 m c) s')
      isplitl [Hh] <;> iassumption)
    (hQ := fun s h hz => ⟨h, funext fun g => hz g (.inr (no_unscoped g.2))⟩)

/-- The same, of the results and the arguments. -/
theorem run_main : θ_run defs (onTc (τ := τ) (main (F := F))) ⟨m, fun _ => 0, ρ⟩ (fun r =>
      (∀ c : Dev nD, (r.2.mem ((c.tc : Thread nD τ).loc main_v31) = W14 m c (Proc.devRef .tc main_v31)
        ∧ r.2.mem ((c.tc : Thread nD τ).loc main_v32) = W14 m c (Proc.devRef .tc main_v32)
        ∧ r.2.mem ((c.tc : Thread nD τ).loc main_v33) = W14 m c (Proc.devRef .tc main_v33)
        ∧ r.2.mem ((c.tc : Thread nD τ).loc main_v36) = W14 m c (Proc.devRef .tc main_v36))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)))
      ∧ r.2.sem = fun _ => 0) :=
  (θ_run defs _ _).mono (fun r h => ⟨fun c =>
    have hr (b : Ref sig .tc) (hb : ¬ (Proc.devRef .tc b : DevRef τ sig).isScoped) : r.2.mem ((c.tc : Thread nD τ).loc b) = W14 m c (Proc.devRef .tc b) := h.1 c _ (mem_uc b hb)
    have ha (a : Ref sig .tc) (hb : ¬ (Proc.devRef .tc a : DevRef τ sig).isScoped) (hm : a ∈ argRefs) : r.2.mem ((c.tc : Thread nD τ).loc a) = m ((c.tc : Thread nD τ).loc a) := (hr a hb).trans (W14_args m c a hm)
    ⟨⟨hr main_v31 (by decide), hr main_v32 (by decide), hr main_v33 (by decide), hr main_v36 (by decide)⟩,
      ha main_arg0 (by decide) (by decide), ha main_arg1 (by decide) (by decide), ha main_arg2 (by decide) (by decide),
      ha main_arg3 (by decide) (by decide), ha main_arg4 (by decide) (by decide), ha main_arg5 (by decide) (by decide)⟩, h.2⟩) (run m ρ)

/-- The arguments alone. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => (h.1 c).2, h.2⟩) (run_main m ρ)

end Cert.AttnKernelIdeal.Attn

end
-- ==== Proof.Attn.Sums.lean ====
module

public import proofs.«01_k».proof.Proof.Tools.Real

/-! Attention with a causal mask over the real numbers, row by row and block by block of 512 keys, and the running maximum
and running sum of the forward kernel: after any number of blocks the sum kept is the masked sum of exponentials, times the
exponential of minus the maximum kept. Rows and lanes are numbered by the natural numbers. -/

@[expose] public section

set_option maxRecDepth 16384

noncomputable section

namespace Cert.Attn

open Cert.Tools
open Idealize.ShloMosaic

section sums

variable (Q K V D : ℕ → ℕ → ℝ)

/-- The score of query row `g` and key row `k`. -/
def score (g k : ℕ) : ℝ := ∑ d : Fin 128, Q g d * K k d

/-- The unnormalised weight of a key for a query: none for a key that comes after the query. -/
def weight (g k : ℕ) : ℝ := if k ≤ g then Real.exp (score Q K g k) else 0

/-- The weights' sum over the first `n` keys with the values. -/
def total (n g d : ℕ) : ℝ := ∑ k ∈ Finset.range n, weight Q K g k * V k d

/-- The sum of the weights of a row. -/
def norm (g : ℕ) : ℝ := ∑ k ∈ Finset.range 16384, weight Q K g k

theorem weight_nonneg (g k : ℕ) : 0 ≤ weight Q K g k := by
  unfold weight; split
  · exact (Real.exp_pos _).le
  · exact le_rfl

theorem norm_pos (g : ℕ) : 0 < norm Q K g := by
  refine lt_of_lt_of_le ?_ (Finset.single_le_sum (fun k _ => weight_nonneg Q K g k) (Finset.mem_range.2 (by norm_num : 0 < 16384)))
  unfold weight; rw [if_pos (Nat.zero_le g)]; exact Real.exp_pos _

/-- The probability of a key for a query. -/
def prob (g k : ℕ) : ℝ := if k ≤ g then Real.exp (score Q K g k - Real.log (norm Q K g)) else 0

theorem prob_eq (g k : ℕ) : prob Q K g k = weight Q K g k / norm Q K g := by
  unfold prob weight
  split
  · rw [Real.exp_sub, Real.exp_log (norm_pos Q K g)]
  · simp

/-- One lane of the output. -/
def out (g d : ℕ) : ℝ := (∑ k ∈ Finset.range 16384, weight Q K g k * V k d) / norm Q K g

/-- The sum of the products of a row of the output with its cotangent. -/
def delta (g : ℕ) : ℝ := ∑ d ∈ Finset.range 64, out Q K V g d * D g d

/-- The cotangent of the score of a query and a key. -/
def dscore (g k : ℕ) : ℝ := prob Q K g k * ((∑ d : Fin 128, V k d * D g d) - delta Q K V D g)

/-- The gradient by a query after the first `n` keys. -/
def dquery (n g d : ℕ) : ℝ := ∑ k ∈ Finset.range n, dscore Q K V D g k * K k d

/-- The gradients by a key and by a value after the first `n` queries. -/
def dkey (n k d : ℕ) : ℝ := ∑ g ∈ Finset.range n, dscore Q K V D g k * Q g d
def dvalue (n k d : ℕ) : ℝ := ∑ g ∈ Finset.range n, prob Q K g k * D g d

theorem prob_zero {g k : ℕ} (h : g < k) : prob Q K g k = 0 := by unfold prob; rw [if_neg (by omega)]

theorem dscore_zero {g k : ℕ} (h : g < k) : dscore Q K V D g k = 0 := by unfold dscore; rw [prob_zero Q K h, zero_mul]

/-- A sum over one block more. -/
theorem sum_block (f : ℕ → ℝ) (n : ℕ) :
    ∑ k ∈ Finset.range (512 * (n + 1)), f k = (∑ k ∈ Finset.range (512 * n), f k) + ∑ c : Fin 512, f (512 * n + c) := by
  rw [Nat.mul_succ, Finset.sum_range_add, Finset.sum_range (fun x => f (512 * n + x))]

/-- Terms that vanish from `m` on need not be added. -/
theorem sum_upto (f : ℕ → ℝ) {m n : ℕ} (hm : m ≤ n) (hf : ∀ k, m ≤ k → f k = 0) :
    ∑ k ∈ Finset.range n, f k = ∑ k ∈ Finset.range m, f k :=
  (Finset.sum_subset (Finset.range_mono hm) fun k _ hk => hf k (by simpa using hk)).symm

end sums

/-! The row of a running maximum and a running sum. -/

theorem bits_bot : (Ideal.ofBits .f32 4286578688#32 : EReal) = ⊥ := by simp [Ideal.ofBits, Ideal.ieee]

theorem exp_bot : Ideal.exp (⊥ : EReal) = 0 := rfl

/-- What a row keeps: the maximum and the sums of `T`, or nothing yet. -/
def Row (m : EReal) (acc : Fin 128 → EReal) (T : ℕ → ℝ) : Prop :=
  (m = ⊥ ∧ ∀ d : Fin 128, acc d = 0 ∧ T d = 0) ∨ ∃ M : ℝ, m = (M : EReal) ∧ ∀ d : Fin 128, acc d = ((Real.exp (-M) * T d : ℝ) : EReal)

/-- The maximum of a row some of whose scores are real is a real number. -/
theorem max_real {N : ℕ} {m : EReal} (hm : m = ⊥ ∨ ∃ M : ℝ, m = (M : EReal)) {s : Fin N → EReal} {σ : Fin N → ℝ} {p : Fin N → Prop}
    [DecidablePred p] (hs : ∀ c, s c = if p c then (σ c : EReal) else ⊥) (hp : ∃ c, p c) :
    ∃ M : ℝ, max m (Finset.univ.fold max (⊥ : EReal) s) = (M : EReal) := by
  have hne : max m (Finset.univ.fold max (⊥ : EReal) s) ≠ ⊤ := by
    intro h
    have h1 : max m (Finset.univ.fold max (⊥ : EReal) s) < ⊤ := by
      refine max_lt ?_ ((Finset.fold_max_lt _).2 ⟨bot_lt_top, fun c _ => ?_⟩)
      · rcases hm with rfl | ⟨M, rfl⟩
        exacts [bot_lt_top, EReal.coe_lt_top M]
      · rw [hs c]; split
        · exact EReal.coe_lt_top _
        · exact bot_lt_top
    exact absurd h h1.ne
  have hnb : max m (Finset.univ.fold max (⊥ : EReal) s) ≠ ⊥ := by
    obtain ⟨c, hc⟩ := hp
    have h1 : ((σ c : ℝ) : EReal) ≤ max m (Finset.univ.fold max (⊥ : EReal) s) :=
      le_max_of_le_right ((Finset.le_fold_max _).2 (Or.inr ⟨c, Finset.mem_univ c, by rw [hs c, if_pos hc]⟩))
    intro h; rw [h] at h1
    exact absurd h1 (by simp)
  exact ⟨_, (EReal.coe_toReal hne hnb).symm⟩

/-- A block of scores taken up by a row. -/
theorem Row.step {m : EReal} {acc : Fin 128 → EReal} {T : ℕ → ℝ} (h : Row m acc T) (s : Fin 512 → EReal) (σ : Fin 512 → ℝ)
    (p : Fin 512 → Prop) [DecidablePred p] (hs : ∀ c, s c = if p c then (σ c : EReal) else ⊥) (hp : ∃ c, p c)
    (v : Fin 512 → Fin 128 → EReal) (W : Fin 512 → ℕ → ℝ) (hv : ∀ c (d : Fin 128), v c d = (W c d : EReal)) :
    Row (max m (Finset.univ.fold max (⊥ : EReal) s))
      (fun d => Ideal.exp (m - max m (Finset.univ.fold max (⊥ : EReal) s)) * acc d
        + ∑ c : Fin 512, Ideal.exp (s c - max m (Finset.univ.fold max (⊥ : EReal) s)) * v c d)
      (fun d => T d + ∑ c : Fin 512, (if p c then Real.exp (σ c) else 0) * W c d) := by
  obtain ⟨M', hM'⟩ := max_real (h.imp (fun h => h.1) fun ⟨M, h, _⟩ => ⟨M, h⟩) hs hp
  right
  refine ⟨M', hM', fun d => ?_⟩
  rw [hM']
  have hsum : ∑ c : Fin 512, Ideal.exp (s c - (M' : EReal)) * v c d
      = ((∑ c : Fin 512, Real.exp (-M') * ((if p c then Real.exp (σ c) else 0) * W c d) : ℝ) : EReal) := by
    rw [← coe_sum]
    refine Finset.sum_congr rfl fun c _ => ?_
    rw [hs c, hv c d]
    split
    · rw [← EReal.coe_sub, Ideal.exp_coe, ← EReal.coe_mul]
      congr 1
      rw [sub_eq_add_neg, Real.exp_add]; ring
    · rw [EReal.bot_sub, exp_bot]; simp
  beta_reduce
  rw [hsum, ← Finset.mul_sum]
  rcases h with ⟨hm, ha⟩ | ⟨M, hm, ha⟩
  · rw [(ha d).1, (ha d).2, mul_zero, zero_add, zero_add]
  · rw [ha d, hm, ← EReal.coe_sub, Ideal.exp_coe, ← EReal.coe_mul, ← EReal.coe_add, mul_add, ← mul_assoc, ← Real.exp_add]
    congr 4
    ring

end Cert.Attn
-- ==== Proof.Attn.Heads.lean ====
/- The arrays the host lines of the attention call prepare, as real functions of the arguments: queries, keys, values with a column of
   ones, and the cotangent, one head in each stretch of 128 columns. -/
module

public import proofs.«01_k».proof.Proof.Attn.Run
public import proofs.«01_k».proof.Proof.Attn.Sums
public import proofs.«01_k».proof.Proof.Tools.Arrays
public import Idealize.ShloMosaic.Lib.StableHlo.ReadAt

@[expose] public section

set_option maxRecDepth 16384

noncomputable section

namespace Cert.Tools

open Idealize.ShloMosaic

/-- Element `(a, b, d)` of a finite array of rank three as a real number, zero outside of it. -/
def real3 {A B C : ℕ} (v : (⟨3, ![A, B, C]⟩ : Shape).Idx → EReal) (a b d : ℕ) : ℝ :=
  if h : a < A ∧ b < B ∧ d < C then (v (ix3 ⟨a, h.1⟩ ⟨b, h.2.1⟩ ⟨d, h.2.2⟩)).toReal else 0

theorem ix3_real {A B C : ℕ} {v : (⟨3, ![A, B, C]⟩ : Shape).Idx → EReal} (hv : Finite v) (a : Fin A) (b : Fin B) (d : Fin C) :
    v (ix3 a b d) = (real3 v a.val b.val d.val : EReal) := by
  unfold real3
  rw [dif_pos ⟨a.isLt, b.isLt, d.isLt⟩]
  exact hv _

end Cert.Tools

namespace Cert.Attn

open Idealize.ShloMosaic Cert.Tools

/-- The scores' factor. -/
def factor : ℝ := 13698540 / 134217728

theorem bits_factor : Ideal.ofBits .f32 1037108716#32 = ((factor : ℝ) : EReal) := by
  unfold factor; simp [Ideal.ofBits, Ideal.ieee, ← EReal.coe_mul]; norm_num

section
variable (a0 a2 a4 : (⟨3, ![16384, 8, 64]⟩ : Shape).Idx → EReal) (a1 : (⟨3, ![16384, 8, 32]⟩ : Shape).Idx → EReal)
variable (a3 : (⟨2, ![16384, 32]⟩ : Shape).Idx → EReal) (a5 : (⟨2, ![16384, 512]⟩ : Shape).Idx → EReal)

/-- A head's query row, without the factor. -/
def plainRow (h g d : ℕ) : ℝ := if d < 64 then real3 a0 g h d else if d < 96 then real3 a1 g h (d - 64) else 0
def queryRow (h g d : ℕ) : ℝ := plainRow a0 a1 h g d * factor
def keyRow (h g d : ℕ) : ℝ := if d < 64 then real3 a2 g h d else if d < 96 then real2 a3 g (d - 64) else 0
def valueRow (h g d : ℕ) : ℝ := if d < 64 then real3 a4 g h d else if d < 65 then 1 else 0
def cotRow (h g d : ℕ) : ℝ := if d < 64 then real2 a5 g (64 * h + d) else 0
end

end Cert.Attn

namespace Cert.AttnKernelIdeal.Attn

open Idealize.ShloMosaic Idealize.ShloMosaic.TcCoe Idealize.SL.Sem
open Cert.Tools Cert.Attn Cert.AttnKernelIdeal Cert.AttnKernelIdeal.Gen

variable (m : (ℓ : Loc nD τ sig) → Buf (Elt Ideal) ℓ) (c : Dev nD)

def rowQ (h g d : ℕ) : ℝ := queryRow (m ((c : Thread nD τ).loc main_arg0)) (m ((c : Thread nD τ).loc main_arg1)) h g d
def rowK (h g d : ℕ) : ℝ := keyRow (m ((c : Thread nD τ).loc main_arg2)) (m ((c : Thread nD τ).loc main_arg3)) h g d
def rowV (h g d : ℕ) : ℝ := valueRow (m ((c : Thread nD τ).loc main_arg4)) h g d
def rowD (h g d : ℕ) : ℝ := cotRow (m ((c : Thread nD τ).loc main_arg5)) h g d

theorem zero_word : (FloatOps.sitofp (F := Ideal) .f32 0#32 : EReal) = ((0 : ℝ) : EReal) := by
  show (((0#32 : BitVec 32).toInt : ℝ) : EReal) = _
  simp

/-! ## The prepared arrays, whole -/

def zeroPad : S_.Idx → EReal := sitofp (F := Ideal) .f32 (constantI S_ 32 0#32)

theorem zeroPad_at (i : S_.Idx) : zeroPad i = ((0 : ℝ) : EReal) := zero_word

def packQ (a : S16384x8x64.Idx → EReal) (b : S16384x8x32.Idx → EReal) : S16384x1024.Idx → EReal :=
  truncf (F := Ideal) .bf16 (shapeCast S16384x1024 (pad S16384x8x128 ![0, 0, 0] ![0, 0, 32] ![0, 0, 0]
    (mulf (F := Ideal) (concatenate S16384x8x96 2 [⟨S16384x8x64, a⟩, ⟨S16384x8x32, b⟩] concatenates_S16384x8x64_S16384x8x32_S16384x8x96_d2)
      (broadcastInDim S16384x8x96 ![] bcast_S_S16384x8x96 (constant (F := Ideal) S_ .f32 1037108716#32)))
    zeroPad pads_S16384x8x96_S16384x8x128_000_000_0320 h_S_) shapeCasts_S16384x8x128_S16384x1024) bitsLt_bf16_f32

def packK (a : S16384x8x64.Idx → EReal) (b : S16384x32.Idx → EReal) : S16384x1024.Idx → EReal :=
  truncf (F := Ideal) .bf16 (shapeCast S16384x1024 (pad S16384x8x128 ![0, 0, 0] ![0, 0, 32] ![0, 0, 0]
    (concatenate S16384x8x96 2 [⟨S16384x8x64, a⟩, ⟨S16384x8x32, broadcastInDim S16384x8x32 ![0, 1, 2] bcast_S16384x1x32_S16384x8x32_0_1_2
      (broadcastInDim S16384x1x32 ![0, 2] bcast_S16384x32_S16384x1x32_0_2 b)⟩] concatenates_S16384x8x64_S16384x8x32_S16384x8x96_d2)
    zeroPad pads_S16384x8x96_S16384x8x128_000_000_0320 h_S_) shapeCasts_S16384x8x128_S16384x1024) bitsLt_bf16_f32

def packV (a : S16384x8x64.Idx → EReal) : S16384x1024.Idx → EReal :=
  truncf (F := Ideal) .bf16 (shapeCast S16384x1024 (pad S16384x8x128 ![0, 0, 0] ![0, 0, 63] ![0, 0, 0]
    (concatenate S16384x8x65 2 [⟨S16384x8x64, a⟩, ⟨S16384x8x1, broadcastInDim S16384x8x1 ![] bcast_S_S16384x8x1
      (constant (F := Ideal) S_ .f32 1065353216#32)⟩] concatenates_S16384x8x64_S16384x8x1_S16384x8x65_d2)
    zeroPad pads_S16384x8x65_S16384x8x128_000_000_0630 h_S_) shapeCasts_S16384x8x128_S16384x1024) bitsLt_bf16_f32

def packD (a : S16384x512.Idx → EReal) : S16384x1536.Idx → EReal :=
  truncf (F := Ideal) .bf16 (concatenate S16384x1536 1 [⟨S16384x1024, shapeCast S16384x1024 (pad S16384x8x128 ![0, 0, 0] ![0, 0, 64] ![0, 0, 0]
    (shapeCast S16384x8x64 a shapeCasts_S16384x512_S16384x8x64)
    zeroPad pads_S16384x8x64_S16384x8x128_000_000_0640 h_S_) shapeCasts_S16384x8x128_S16384x1024⟩,
    ⟨S16384x512, broadcastInDim S16384x512 ![] bcast_S_S16384x512 (constant (F := Ideal) S_ .f32 0#32)⟩]
    concatenates_S16384x1024_S16384x512_S16384x1536_d1) bitsLt_bf16_f32

theorem W3_query : W3 m c (Proc.devRef .tc main_v5) = packQ (m ((c : Thread nD τ).loc main_arg0)) (m ((c : Thread nD τ).loc main_arg1)) := by
  simp only [W3, W2, W1, hostOps0_2, hostOps0_1, hostOps0]
  after_reads_simp
  try simp -implicitDefEqProofs only [StableHlo.TRef.toBuf, StableHlo.TRef.ofBuf, cast_cast, cast_eq]
  rfl

theorem W5_key : W5 m c (Proc.devRef .tc main_v11) = packK (m ((c : Thread nD τ).loc main_arg2)) (m ((c : Thread nD τ).loc main_arg3)) := by
  simp only [W5, W4, W3, W2, W1, hostOps0_4, hostOps0_3, hostOps0_2, hostOps0_1, hostOps0]
  after_reads_simp
  try simp -implicitDefEqProofs only [StableHlo.TRef.toBuf, StableHlo.TRef.ofBuf, cast_cast, cast_eq]
  rfl

theorem W7_value : W7 m c (Proc.devRef .tc main_v16) = packV (m ((c : Thread nD τ).loc main_arg4)) := by
  simp only [W7, W6, W5, W4, W3, W2, W1, hostOps0_6, hostOps0_5, hostOps0_4, hostOps0_3, hostOps0_2, hostOps0_1, hostOps0]
  after_reads_simp
  try simp -implicitDefEqProofs only [StableHlo.TRef.toBuf, StableHlo.TRef.ofBuf, cast_cast, cast_eq]
  rfl

theorem W11_cot : W11 m c (Proc.devRef .tc main_v23) = packD (m ((c : Thread nD τ).loc main_arg5)) := by
  refine Eq.trans ?_ (congrArg packD (W8_args m c main_arg5 (by decide)))
  simp only [W11, W10, W9, hostOps1_2, hostOps1_1, hostOps1]
  after_reads_simp
  try simp -implicitDefEqProofs only [StableHlo.TRef.toBuf, StableHlo.TRef.ofBuf, cast_cast, cast_eq]
  rfl

theorem packQ_at {a : S16384x8x64.Idx → EReal} {b : S16384x8x32.Idx → EReal} (fa : Finite a) (fb : Finite b) (g : Fin 16384) (l : Fin 1024) :
    packQ a b (ix2 g l) = ((queryRow a b (l.val / 128) g.val (l.val % 128) : ℝ) : EReal) := by
  pointwise [packQ]
  have hl := l.isLt
  by_cases h : l.val / 128 < 8 ∧ l.val % 128 < 96
  · refine (dif_pos h).trans ?_
    refine Eq.trans ?_ (EReal.coe_mul (plainRow a b (l.val / 128) g.val (l.val % 128)) factor).symm
    refine congrArg₂ (fun u v : EReal => u * v) ?_ bits_factor
    by_cases h' : l.val % 128 < 64
    · refine (dif_pos h').trans ((ix3_real fa _ _ _).trans (congrArg Real.toEReal ?_))
      unfold plainRow; exact (if_pos h').symm
    · refine (dif_neg h').trans ((ix3_real fb _ _ _).trans (congrArg Real.toEReal ?_))
      unfold plainRow; exact ((if_neg h').trans (if_pos h.2)).symm
  · have e : queryRow a b (l.val / 128) g.val (l.val % 128) = 0 := by
      unfold queryRow plainRow
      rw [if_neg (by omega), if_neg (by omega)]; exact zero_mul factor
    refine (dif_neg h).trans ((zeroPad_at _).trans (congrArg Real.toEReal e.symm))

theorem packK_at {a : S16384x8x64.Idx → EReal} {b : S16384x32.Idx → EReal} (fa : Finite a) (fb : Finite b) (g : Fin 16384) (l : Fin 1024) :
    packK a b (ix2 g l) = ((keyRow a b (l.val / 128) g.val (l.val % 128) : ℝ) : EReal) := by
  pointwise [packK]
  have hl := l.isLt
  by_cases h : l.val / 128 < 8 ∧ l.val % 128 < 96
  · refine (dif_pos h).trans ?_
    by_cases h' : l.val % 128 < 64
    · refine (dif_pos h').trans ((ix3_real fa _ _ _).trans (congrArg Real.toEReal ?_))
      unfold keyRow; exact (if_pos h').symm
    · refine (dif_neg h').trans ?_
      have e := ix_real fb g (⟨l.val % 128 - 64, by omega⟩ : Fin 32)
      have e' : keyRow a b (l.val / 128) g.val (l.val % 128) = real2 b g.val (l.val % 128 - 64) := by
        unfold keyRow; exact (if_neg h').trans (if_pos h.2)
      refine Eq.trans ?_ (congrArg Real.toEReal e'.symm)
      split_ifs <;> exact e
  · refine (dif_neg h).trans ((zeroPad_at _).trans (congrArg Real.toEReal ?_))
    unfold keyRow; exact ((if_neg (by omega)).trans (if_neg (by omega))).symm

theorem packV_at {a : S16384x8x64.Idx → EReal} (fa : Finite a) (g : Fin 16384) (l : Fin 1024) :
    packV a (ix2 g l) = ((valueRow a (l.val / 128) g.val (l.val % 128) : ℝ) : EReal) := by
  pointwise [packV]
  unfold valueRow
  have hl := l.isLt
  split_ifs <;> first | omega | skip
  · rw [ix3_real fa]
  · rfl
  · rw [zeroPad_at]

theorem packD_at {a : S16384x512.Idx → EReal} (fa : Finite a) (g : Fin 16384) (l : Fin 1536) (h : l.val < 1024) :
    packD a (ix2 g l) = ((cotRow a (l.val / 128) g.val (l.val % 128) : ℝ) : EReal) := by
  pointwise [packD]
  unfold cotRow
  have hl := l.isLt
  split_ifs <;> first | omega | skip
  · rw [at2_at a _ g.val (64 * (l.val / 128) + l.val % 128) (by simp [ix2]; try omega) (by simp [ix2]; try omega), at2_real fa]
  · rw [zeroPad_at]

end Cert.AttnKernelIdeal.Attn
-- ==== Proof.Attn.RefScore.lean ====
/- The attention's reference: its scores, its probabilities and their sums as real numbers. -/
module

public import proofs.«01_k».proof.Proof.Attn.Heads
public import Idealize.ShloMosaic.Lib.WordCmp
public import proofs.«01_k».proof.Proof.Gen.AttnReferenceIdeal.Read

@[expose] public section

set_option maxRecDepth 16384

noncomputable section

namespace Cert.Attn.Ref

open Idealize.ShloMosaic Idealize.ShloMosaic.TcCoe Idealize.SL.Sem
open Cert.Tools Cert.Attn Cert.AttnReferenceIdeal Cert.AttnReferenceIdeal.Read

variable {x0 x2 x4 : S16384x8x64.Idx → EReal} {x1 : S16384x8x32.Idx → EReal} {x3 : S16384x32.Idx → EReal} {x5 : S16384x512.Idx → EReal}

/-! ## The real functions -/

section reals
variable (Q K V D : ℕ → ℕ → ℝ)

/-- The sum of a row of the output times its cotangent is the probabilities' sum of their own cotangents. -/
theorem delta_eq (g : ℕ) (hD : ∀ d, 64 ≤ d → D g d = 0) :
    delta Q K V D g = ∑ k ∈ Finset.range 16384, prob Q K g k * ∑ d : Fin 128, V k d * D g d := by
  have e (k : ℕ) : ∑ d : Fin 128, V k d * D g d = ∑ d ∈ Finset.range 64, V k d * D g d := by
    rw [Fin.sum_univ_eq_sum_range (fun d => V k d * D g d) 128]
    exact sum_upto _ (by norm_num) fun d hd => by rw [hD d hd, mul_zero]
  simp only [e, Finset.mul_sum]
  rw [Finset.sum_comm]
  refine Finset.sum_congr rfl fun d _ => ?_
  unfold out
  rw [Finset.sum_div, Finset.sum_mul]
  exact Finset.sum_congr rfl fun k _ => by rw [prob_eq]; ring

/-- A softmax's gradient written with the exponentials `e·w` and their sum `e·n`. -/
theorem dscore_of (g k : ℕ) (hD : ∀ d, 64 ≤ d → D g d = 0) {e : ℝ} (he : e ≠ 0) :
    ((∑ d : Fin 128, V k d * D g d) / (e * norm Q K g)
        - ∑ j ∈ Finset.range 16384, (∑ d : Fin 128, V j d * D g d) * (1 / (e * norm Q K g * (e * norm Q K g))) * (e * weight Q K g j))
      * (e * weight Q K g k) = dscore Q K V D g k := by
  have hn := (norm_pos Q K g).ne'
  have hs : ∑ j ∈ Finset.range 16384, (∑ d : Fin 128, V j d * D g d) * (1 / (e * norm Q K g * (e * norm Q K g))) * (e * weight Q K g j)
      = delta Q K V D g / (e * norm Q K g) := by
    rw [delta_eq Q K V D g hD, Finset.sum_div]
    refine Finset.sum_congr rfl fun j _ => ?_
    rw [prob_eq]; field_simp
  rw [hs, dscore, prob_eq]
  field_simp

end reals

/-- The maximum along the last axis of an array of rank three. -/
theorem last_max {A B C : ℕ} {u : Shape} (x : (⟨3, ![A, B, C]⟩ : Shape).Idx → EReal) (init : u.Idx → EReal)
    (hr : (⟨3, ![A, B, C]⟩ : Shape).ReducesTo [2] ⟨2, ![A, B]⟩) (hu : 0 < u.numel) (a : Fin A) (b : Fin B) :
    Host.reduce (FloatOps.maximumf (F := Ideal) (φ := .f32)) x init hr hu (ix2 a b)
      = Finset.univ.fold max (init (Shape.Idx.first hu)) (fun k => x (ix3 a b k)) := by
  pointwise []

theorem ofBits_bot : (FloatOps.ofBits (F := Ideal) .f32 4286578688#32 : EReal) = ⊥ := bits_bot

theorem ofBits_zero : (FloatOps.ofBits (F := Ideal) .f32 0#32 : EReal) = ((0 : ℝ) : EReal) := by
  show (Ideal.ofBits .f32 0#32 : EReal) = _
  simp [Ideal.ofBits, Ideal.ieee]

/-! ## The scores -/

section scores
variable (f0 : Finite x0) (f1 : Finite x1) (f2 : Finite x2) (f3 : Finite x3) (f4 : Finite x4) (f5 : Finite x5)

include f0 f1 in
theorem query_real (g : Fin 16384) (h : Fin 8) (d : Fin 96) :
    (val_main_v0 (F := Ideal) x0 x1 (ix3 g h d) : EReal) = ((plainRow x0 x1 h g d : ℝ) : EReal) := by
  pointwise [val_main_v0]
  unfold plainRow
  by_cases hd : d.val < 64
  · rw [if_pos hd]; exact (dif_pos hd).trans (ix3_real f0 g h ⟨d.val, hd⟩)
  · rw [if_neg hd, if_pos d.isLt]; exact (dif_neg hd).trans (ix3_real f1 g h ⟨d.val - 64, by omega⟩)

include f2 f3 in
theorem key_real (g : Fin 16384) (h : Fin 8) (d : Fin 96) :
    (val_main_v3 (F := Ideal) x2 x3 (ix3 g h d) : EReal) = ((keyRow x2 x3 h g d : ℝ) : EReal) := by
  pointwise [val_main_v3, val_main_v2, val_main_v1]
  unfold keyRow
  by_cases hd : d.val < 64
  · rw [if_pos hd]; exact (dif_pos hd).trans (ix3_real f2 g h ⟨d.val, hd⟩)
  · rw [if_neg hd, if_pos d.isLt]; exact (dif_neg hd).trans (ix_real f3 g ⟨d.val - 64, by omega⟩)

theorem score_eq (h g k : ℕ) : (∑ d : Fin 96, plainRow x0 x1 h g d * keyRow x2 x3 h k d) * factor
    = score (queryRow x0 x1 h) (keyRow x2 x3 h) g k := by
  unfold score
  rw [Fin.sum_univ_eq_sum_range (fun d => plainRow x0 x1 h g d * keyRow x2 x3 h k d) 96,
    Fin.sum_univ_eq_sum_range (fun d => queryRow x0 x1 h g d * keyRow x2 x3 h k d) 128,
    sum_upto (fun d => queryRow x0 x1 h g d * keyRow x2 x3 h k d) (by norm_num : 96 ≤ 128) (fun d hd => by
      unfold keyRow; rw [if_neg (by omega), if_neg (by omega), mul_zero]), Finset.sum_mul]
  exact Finset.sum_congr rfl fun d _ => by unfold queryRow; ring

/-- A choice by whether a key comes after a query. -/
theorem select_mask (g k : Fin 16384) (x y : EReal) :
    Scalar.select (IntOp.cmpi CmpIPredicate.sle (BitVec.ofNat 32 k.val) (BitVec.ofNat 32 g.val)) x y = if k.val ≤ g.val then x else y := by
  rw [WordCmp.cmpi_sle_ofNat (w := 32) (by have := k.isLt; norm_num; omega) (by have := g.isLt; norm_num; omega)]
  exact WordCmp.select_decide _ _ _

include f0 f1 f2 f3 in
theorem masked_real (h : Fin 8) (g k : Fin 16384) : (val_main_v13_0 (F := Ideal) x0 x1 x2 x3 (ix3 h g k) : EReal)
    = if k.val ≤ g.val then ((score (queryRow x0 x1 h) (keyRow x2 x3 h) g k : ℝ) : EReal) else ⊥ := by
  pointwise [val_main_v13_0, val_main_v13_1, val_main_v6, val_main_v5, val_main_v4, val_main_cst, val_main_v12, val_main_v11, val_main_v10, val_main_v9, val_main_v8, val_main_v7, val_main_call0_v2, val_main_call0_v0, val_main_cst_0]
  refine (select_mask g k _ _).trans ?_
  split
  · rw [bits_factor, Finset.sum_congr rfl fun d _ => congrArg₂ (fun u v : EReal => u * v) (query_real f0 f1 g h d) (key_real f2 f3 k h d)]
    simp only [← EReal.coe_mul, coe_sum]
    exact congrArg Real.toEReal (score_eq h g k)
  · exact bits_bot

include f0 f1 f2 f3 in
theorem max_finite (h : Fin 8) (g : Fin 16384) : ∃ M : ℝ, (val_main_v21 (F := Ideal) x0 x1 x2 x3 (ix2 h g) : EReal) = (M : EReal) := by
  rw [val_main_v21_apply, val_main_v20_apply, val_main_cst_3_apply, val_main_v14, last_max, val_main_cst_1_apply, ofBits_bot]
  exact max_real (Or.inl rfl) (p := fun k : Fin 16384 => k.val ≤ g.val) (fun k => masked_real f0 f1 f2 f3 h g k) ⟨⟨0, by norm_num⟩, Nat.zero_le _⟩

include f0 f1 f2 f3 in
/-- The exponentials of a row and their sum, both up to the row's maximum. -/
theorem exps_real (h : Fin 8) (g : Fin 16384) : ∃ e : ℝ, e ≠ 0
    ∧ (∀ k : Fin 16384, (val_main_v34 (F := Ideal) x0 x1 x2 x3 (ix3 h g k) : EReal) = ((e * weight (queryRow x0 x1 h) (keyRow x2 x3 h) g k : ℝ) : EReal))
    ∧ (val_main_v35 (F := Ideal) x0 x1 x2 x3 (ix2 h g) : EReal) = ((e * norm (queryRow x0 x1 h) (keyRow x2 x3 h) g : ℝ) : EReal) := by
  obtain ⟨M, hM⟩ := max_finite f0 f1 f2 f3 h g
  have hk (k : Fin 16384) : (val_main_v34 (F := Ideal) x0 x1 x2 x3 (ix3 h g k) : EReal)
      = ((Real.exp (-M) * weight (queryRow x0 x1 h) (keyRow x2 x3 h) g k : ℝ) : EReal) := by
    pointwise [val_main_v34, val_main_v33, val_main_v32, val_main_v31]
    rw [hM, masked_real f0 f1 f2 f3 h g k]
    unfold weight
    split
    · rw [← EReal.coe_sub, Ideal.exp_coe, sub_eq_add_neg, Real.exp_add, mul_comm]
    · rw [EReal.bot_sub, exp_bot, mul_zero]; rfl
  refine ⟨Real.exp (-M), (Real.exp_pos _).ne', hk, ?_⟩
  pointwise [val_main_v35]
  rw [Finset.sum_congr rfl fun k _ => hk k, coe_sum]
  rw [val_main_cst_9_apply, ofBits_zero, ← EReal.coe_add, zero_add, ← Finset.mul_sum]
  unfold norm
  rw [← Fin.sum_univ_eq_sum_range (fun k => weight (queryRow x0 x1 h) (keyRow x2 x3 h) g k) 16384]

include f0 f1 f2 f3 in
/-- The probabilities. -/
theorem prob_real (h : Fin 8) (g k : Fin 16384) : (val_main_v38 (F := Ideal) x0 x1 x2 x3 (ix3 h g k) : EReal)
    = ((prob (queryRow x0 x1 h) (keyRow x2 x3 h) g k : ℝ) : EReal) := by
  obtain ⟨e, he, hk, hn⟩ := exps_real f0 f1 f2 f3 h g
  pointwise [val_main_v38, val_main_v37, val_main_v36]
  have hp := (norm_pos (queryRow x0 x1 h) (keyRow x2 x3 h) g).ne'
  rw [hk, hn, Ideal.div_coe (mul_ne_zero he hp), ← EReal.coe_mul]
  refine congrArg Real.toEReal ?_
  rw [prob_eq]; field_simp

end scores
end Cert.Attn.Ref
-- ==== Proof.Attn.Reference.lean ====
/- The attention's reference: its three gradients and its output as real numbers. -/
module

public import proofs.«01_k».proof.Proof.Attn.RefScore
public import proofs.«01_k».proof.Proof.Gen.AttnReferenceIdeal.Read

@[expose] public section

set_option maxRecDepth 16384

noncomputable section

namespace Cert.Attn.Ref

open Idealize.ShloMosaic Idealize.ShloMosaic.TcCoe Idealize.SL.Sem
open Cert.Tools Cert.Attn Cert.AttnReferenceIdeal Cert.AttnReferenceIdeal.Read

variable {x0 x2 x4 : S16384x8x64.Idx → EReal} {x1 : S16384x8x32.Idx → EReal} {x3 : S16384x32.Idx → EReal} {x5 : S16384x512.Idx → EReal}
variable (f0 : Finite x0) (f1 : Finite x1) (f2 : Finite x2) (f3 : Finite x3) (f4 : Finite x4) (f5 : Finite x5)

theorem cot_zero (h g d : ℕ) (hd : 64 ≤ d) : cotRow x5 h g d = 0 := by unfold cotRow; rw [if_neg (by omega)]

include f5 in
theorem cot_real (g : Fin 16384) (h : Fin 8) (d : Fin 64) (p : h.val * 64 + d.val < 512) :
    x5 (ix2 g ⟨h.val * 64 + d.val, p⟩) = ((cotRow x5 h g d : ℝ) : EReal) := by
  unfold cotRow
  rw [if_pos d.isLt, mul_comm 64 h.val]
  exact ix_real f5 g ⟨h.val * 64 + d.val, p⟩

include f4 f5 in
/-- The cotangent of a probability. -/
theorem back_real (h : Fin 8) (g k : Fin 16384) : (val_main_v47 (F := Ideal) x4 x5 (ix3 h g k) : EReal)
    = ((∑ d : Fin 128, valueRow x4 h k d * cotRow x5 h g d : ℝ) : EReal) := by
  have e : ∑ d : Fin 128, valueRow x4 h k d * cotRow x5 h g d = ∑ d : Fin 64, valueRow x4 h k d * cotRow x5 h g d := by
    rw [Fin.sum_univ_eq_sum_range (fun d => valueRow x4 h k d * cotRow x5 h g d) 128, Fin.sum_univ_eq_sum_range (fun d => valueRow x4 h k d * cotRow x5 h g d) 64]
    exact sum_upto _ (by norm_num) fun d hd => by rw [cot_zero _ _ _ hd, mul_zero]
  rw [e]
  pointwise [val_main_v47, val_main_v46, val_main_v45]
  rw [← coe_sum]
  refine Finset.sum_congr rfl fun d _ => ?_
  rw [cot_real f5 g h d, ix3_real f4 k h d, ← EReal.coe_mul]
  refine congrArg Real.toEReal ?_
  unfold valueRow
  rw [if_pos d.isLt, mul_comm]

include f0 f1 f2 f3 f4 f5 in
/-- The cotangent of a score, times the factor. -/
theorem dscore_real (h : Fin 8) (g k : Fin 16384) : (val_main_v64 (F := Ideal) x0 x1 x2 x3 x4 x5 (ix3 h g k) : EReal)
    = ((dscore (queryRow x0 x1 h) (keyRow x2 x3 h) (valueRow x4 h) (cotRow x5 h) g k * factor : ℝ) : EReal) := by
  obtain ⟨e, he, hk, hn⟩ := exps_real f0 f1 f2 f3 h g
  have hp := mul_ne_zero he (norm_pos (queryRow x0 x1 h) (keyRow x2 x3 h) g).ne'
  have hb := back_real f4 f5 h g
  have h36 : (val_main_v36 (F := Ideal) x0 x1 x2 x3 (ix3 h g 0) : EReal) = ((e * norm (queryRow x0 x1 h) (keyRow x2 x3 h) g : ℝ) : EReal) := by
    pointwise [val_main_v36]; exact hn
  have h50 (j : Fin 16384) : (val_main_v50 (F := Ideal) x0 x1 x2 x3 (ix3 h g j) : EReal)
      = ((1 / (e * norm (queryRow x0 x1 h) (keyRow x2 x3 h) g * (e * norm (queryRow x0 x1 h) (keyRow x2 x3 h) g)) : ℝ) : EReal) := by
    pointwise [val_main_v50, val_main_v41, val_main_v40, val_main_v39, val_main_cst_10]
    rw [h36, ← EReal.coe_mul, Ideal.div_coe (mul_ne_zero hp hp), one_mul]
  pointwise [val_main_v64, val_main_v63, val_main_v62, val_main_v61, val_main_v60, val_main_v59, val_main_v58, val_main_v57, val_main_v56, val_main_v55, val_main_v54, val_main_v53, val_main_v52, val_main_v51, val_main_cst_13, val_main_call1_v0, val_main_call1_cst, val_main_v13_1, val_main_v12, val_main_v11, val_main_v10, val_main_v9, val_main_v8, val_main_v7]
  refine (select_mask g k _ _).trans ?_
  rw [val_main_cst_11_apply, val_main_cst_12_apply, ofBits_zero]
  simp only [hk, hb, h50, h36, Ideal.div_coe hp, bits_factor, ← EReal.coe_mul, coe_sum, ← EReal.coe_add, zero_add, ← EReal.coe_neg,
    Finset.univ_unique, Finset.sum_singleton]
  split
  · refine congrArg Real.toEReal ?_
    rw [← dscore_of _ _ _ _ g k (fun d hd => cot_zero h g d hd) he,
      Fin.sum_univ_eq_sum_range (fun j => (∑ d : Fin 128, valueRow x4 h j d * cotRow x5 h g d) * (1 / (e * norm (queryRow x0 x1 h) (keyRow x2 x3 h) g
        * (e * norm (queryRow x0 x1 h) (keyRow x2 x3 h) g))) * (e * weight (queryRow x0 x1 h) (keyRow x2 x3 h) g j)) 16384]
    ring
  · rename_i hkg
    rw [dscore_zero _ _ _ _ (by omega), zero_mul]; rfl

include f0 f1 f2 f3 f4 f5 in
/-- The reference's three gradients. -/
theorem dq_real (g : Fin 16384) (h : Fin 8) (d : Fin 96) : (val_main_v68 (F := Ideal) x0 x1 x2 x3 x4 x5 (ix3 g h d) : EReal)
    = ((dquery (queryRow x0 x1 h) (keyRow x2 x3 h) (valueRow x4 h) (cotRow x5 h) 16384 g d * factor : ℝ) : EReal) := by
  pointwise [val_main_v68, val_main_v67]
  unfold dquery
  rw [← Fin.sum_univ_eq_sum_range (fun k => dscore (queryRow x0 x1 h) (keyRow x2 x3 h) (valueRow x4 h) (cotRow x5 h) g k * keyRow x2 x3 h k d) 16384,
    Finset.sum_mul, ← coe_sum]
  refine Finset.sum_congr rfl fun k _ => ?_
  rw [dscore_real f0 f1 f2 f3 f4 f5 h g k, key_real f2 f3 k h d, ← EReal.coe_mul]
  exact congrArg Real.toEReal (by ring)

include f0 f1 f2 f3 f4 f5 in
theorem dk_real (k : Fin 16384) (h : Fin 8) (d : Fin 96) : (val_main_v69 (F := Ideal) x0 x1 x2 x3 x4 x5 (ix3 k h d) : EReal)
    = ((dkey (queryRow x0 x1 h) (keyRow x2 x3 h) (valueRow x4 h) (cotRow x5 h) 16384 k d : ℝ) : EReal) := by
  pointwise [val_main_v69, val_main_v66, val_main_v65]
  unfold dkey
  rw [← Fin.sum_univ_eq_sum_range (fun g => dscore (queryRow x0 x1 h) (keyRow x2 x3 h) (valueRow x4 h) (cotRow x5 h) g k * queryRow x0 x1 h g d) 16384,
    ← coe_sum]
  refine Finset.sum_congr rfl fun g _ => ?_
  rw [dscore_real f0 f1 f2 f3 f4 f5 h g k, query_real f0 f1 g h d, ← EReal.coe_mul]
  exact congrArg Real.toEReal (by unfold queryRow; ring)

include f0 f1 f2 f3 f5 in
theorem dv_real (k : Fin 16384) (h : Fin 8) (d : Fin 64) : (val_main_v70 (F := Ideal) x0 x1 x2 x3 x5 (ix3 k h d) : EReal)
    = ((dvalue (queryRow x0 x1 h) (keyRow x2 x3 h) (cotRow x5 h) 16384 k d : ℝ) : EReal) := by
  pointwise [val_main_v70, val_main_v49, val_main_v48, val_main_v46, val_main_v45]
  unfold dvalue
  rw [← Fin.sum_univ_eq_sum_range (fun g => prob (queryRow x0 x1 h) (keyRow x2 x3 h) g k * cotRow x5 h g d) 16384,
    ← coe_sum]
  refine Finset.sum_congr rfl fun g _ => ?_
  rw [cot_real f5 g h d, prob_real f0 f1 f2 f3 h g k, ← EReal.coe_mul, mul_comm]

include f0 f1 f2 f3 f4 in
/-- The reference's output. -/
theorem out_real (g : Fin 16384) (l : Fin 512) : (val_main_v71 (F := Ideal) x0 x1 x2 x3 x4 (ix2 g l) : EReal)
    = ((out (queryRow x0 x1 (l.val / 64)) (keyRow x2 x3 (l.val / 64)) (valueRow x4 (l.val / 64)) g (l.val % 64) : ℝ) : EReal) := by
  have hh : l.val / 64 < 8 := by omega
  pointwise [val_main_v71, val_main_v44, val_main_v43, val_main_v42]
  unfold out
  rw [Finset.sum_div, ← Fin.sum_univ_eq_sum_range (fun k => weight (queryRow x0 x1 (l.val / 64)) (keyRow x2 x3 (l.val / 64)) g k
    * valueRow x4 (l.val / 64) k (l.val % 64) / norm (queryRow x0 x1 (l.val / 64)) (keyRow x2 x3 (l.val / 64)) g) 16384, ← coe_sum]
  refine Finset.sum_congr rfl fun k _ => ?_
  rw [prob_real f0 f1 f2 f3 ⟨l.val / 64, hh⟩ g k, ix3_real f4 k ⟨l.val / 64, hh⟩ ⟨l.val % 64, Nat.mod_lt _ (by norm_num)⟩, ← EReal.coe_mul]
  refine congrArg Real.toEReal ?_
  rw [prob_eq]
  unfold valueRow
  rw [if_pos (Nat.mod_lt _ (by norm_num))]
  ring

end Cert.Attn.Ref
-- ==== Proof.Attn.BwdValue.lean ====
module

public import proofs.«01_k».proof.Proof.Attn.Bwd
public import proofs.«01_k».proof.Proof.Attn.Sums
public import proofs.«01_k».proof.Proof.Tools.NormGrad
public import Idealize.ShloMosaic.Lib.WordCmp

/-! What a point of the backward kernel computes, over the real numbers: the gradients by its 512 keys and values, and what
those keys give to the gradient by the queries. -/

@[expose] public section

set_option maxRecDepth 16384

noncomputable section

namespace Cert.Attn.Back

open Cert.AttnKernelIdeal Cert.AttnKernelIdeal.Gen Cert.AttnKernelIdeal.Bwd Cert.Tools
open Idealize.ShloMosaic Idealize.ShloMosaic.TcCoe Idealize.SL.Sem

theorem sle_row (c r : Fin 512) : IntOp.cmpi CmpIPredicate.sle (BitVec.ofNat 32 c.val) (BitVec.ofNat 32 r.val) = BitVec.ofBool (decide (c.val ≤ r.val)) :=
  WordCmp.cmpi_sle_ofNat (lt_trans c.isLt (by norm_num)) (lt_trans r.isLt (by norm_num))

/-- Rows of a head's array that start at a block. -/
theorem rows_at {e : EltTy} (X : Vec Ideal S16384x128 e) {off : Fin 2 → ℕ} (inb : ∀ a, off a + S512x128.size a ≤ S16384x128.size a)
    {n : ℕ} (h : off = ![512 * n, 0]) (r : Fin 512) (d : Fin 128) :
    rows X off inb (ix2 r d) = X (ix2 ⟨512 * n + r.val, by have := inb 0; subst h; have h1 : 512 * n + 512 ≤ 16384 := this; omega⟩ d) := by
  subst h
  refine congrArg X (ext2 ?_ ?_)
  · show 512 * n + 1 * r.val = _; simp
  · show 0 + 1 * d.val = _; simp

/-- A row of sums. -/
theorem srow_at (X : Vec Ideal S1x32x8x512 .f32) {off : Fin 4 → ℕ} (inb : ∀ a, off a + S1x1x1x512.size a ≤ S1x32x8x512.size a)
    {n : ℕ} (h : off = ![0, n, 0, 0]) (r : Fin 512) :
    srow X off inb (ix4 0 0 0 r) = X (ix4 0 ⟨n, by have := inb 1; subst h; have h1 : n + 1 ≤ 32 := this; omega⟩ 0 r) := by
  subst h
  refine congrArg X (funext fun a => Fin.ext ?_)
  fin_cases a
  · rfl
  · rfl
  · rfl
  · show 0 + 1 * r.val = r.val; simp

/-- The query gradient with one block of rows put in. -/
theorem put_at (x : Vec Ideal S16384x128 .f32) {off : Fin 2 → ℕ} {n : ℕ} (h : off = ![512 * n, 0]) (w : Vec Ideal S512x128 .f32) (g : Fin 16384) (d : Fin 128) :
    VecWindow.put x off S512x128.size w (ix2 g d)
      = if h : 512 * n ≤ g.val ∧ g.val < 512 * (n + 1) then w (ix2 ⟨g.val - 512 * n, by omega⟩ d) else x (ix2 g d) := by
  subst h
  unfold VecWindow.put
  by_cases hg : 512 * n ≤ g.val ∧ g.val < 512 * (n + 1)
  · rw [dif_pos hg, dif_pos (fun a => by
      fin_cases a
      · exact ⟨hg.1, by show g.val < 512 * n + 512; omega⟩
      · exact ⟨Nat.zero_le _, by show d.val < 0 + 128; omega⟩)]
    refine congrArg w (funext fun a => Fin.ext ?_)
    fin_cases a
    · rfl
    · exact Nat.sub_zero _
  · rw [dif_neg hg, dif_neg]
    intro ha
    have h0 : 512 * n ≤ g.val ∧ g.val < 512 * n + 512 := ha 0
    omega

/-- The blocks of a point: a head's queries, cotangents and sums, and 512 keys and values from `512 * j` on. -/
structure BwdReal (j : ℕ) (Q K V D : ℕ → ℕ → ℝ) (X : Bwd.Blocks Ideal) : Prop where
  q : ∀ (g : Fin 16384) (d : Fin 128), (X.q (ix2 g d) : EReal) = (Q g d : EReal)
  d : ∀ (g : Fin 16384) (d : Fin 128), (X.d (ix2 g d) : EReal) = (D g d : EReal)
  lse : ∀ (b : Fin 32) (r : Fin 512), (X.lse (ix4 0 b 0 r) : EReal) = (Real.log (norm Q K (512 * b + r)) : EReal)
  delta : ∀ (b : Fin 32) (r : Fin 512), (X.delta (ix4 0 b 0 r) : EReal) = (delta Q K V D (512 * b + r) : EReal)
  k : ∀ (c : Fin 512) (d : Fin 128), (X.k (ix2 c d) : EReal) = (K (512 * j + c) d : EReal)
  v : ∀ (c : Fin 512) (d : Fin 128), (X.v (ix2 c d) : EReal) = (V (512 * j + c) d : EReal)

/-- The scores of the keys with the queries of block `n`. -/
def Scores (j n : ℕ) (Q K : ℕ → ℕ → ℝ) (s : Vec Ideal S512x512 .f32) : Prop :=
  ∀ c r : Fin 512, (s (ix2 c r) : EReal) = (score Q K (512 * n + r) (512 * j + c) : EReal)

/-- The products of the values with the cotangents of block `n`. -/
def Dots (j n : ℕ) (V D : ℕ → ℕ → ℝ) (s : Vec Ideal S512x512 .f32) : Prop :=
  ∀ c r : Fin 512, (s (ix2 c r) : EReal) = ((∑ d : Fin 128, V (512 * j + c) d * D (512 * n + r) d : ℝ) : EReal)

/-- The gradients after the query blocks before `n`. -/
structure Kept (j n : ℕ) (Q K V D : ℕ → ℕ → ℝ) (dk dv : Vec Ideal S512x128 .f32) (dq : Vec Ideal S16384x128 .f32) : Prop where
  dk : ∀ (c : Fin 512) (d : Fin 128), (dk (ix2 c d) : EReal) = (dkey Q K V D (512 * n) (512 * j + c) d : EReal)
  dv : ∀ (c : Fin 512) (d : Fin 128), (dv (ix2 c d) : EReal) = (dvalue Q K D (512 * n) (512 * j + c) d : EReal)
  dq : ∀ (g : Fin 16384) (d : Fin 128), (dq (ix2 g d) : EReal)
    = (dquery Q K V D (if g.val < 512 * n then 512 * (j + 1) else 512 * j) g d : EReal)

section

variable {j : ℕ} {Q K V D : ℕ → ℕ → ℝ} {X : Bwd.Blocks Ideal} (hX : BwdReal j Q K V D X)
include hX

theorem scores_of {n : ℕ} {off : Fin 2 → ℕ} (inb : ∀ a, off a + S512x128.size a ≤ S16384x128.size a) (h : off = ![512 * n, 0]) :
    Scores j n Q K (k2_pay3 X.k (rows X.q off inb)) := by
  intro c r
  have e : (k2_pay3 X.k (rows X.q off inb) (ix2 c r) : EReal) = ∑ d : Fin 128, (X.k (ix2 c d) : EReal) * rows X.q off inb (ix2 r d) := by
    pointwise [k2_pay3]
  rw [e]
  simp only [rows_at X.q inb h, hX.q, hX.k, ← EReal.coe_mul, coe_sum]
  exact congrArg _ (Finset.sum_congr rfl fun d _ => mul_comm _ _)

theorem dots_of {n : ℕ} {off : Fin 2 → ℕ} (inb : ∀ a, off a + S512x128.size a ≤ S16384x128.size a) (h : off = ![512 * n, 0]) :
    Dots j n V D (k2_pay4 X.v (rows X.d off inb)) := by
  intro c r
  have e : (k2_pay4 X.v (rows X.d off inb) (ix2 c r) : EReal) = ∑ d : Fin 128, (X.v (ix2 c d) : EReal) * rows X.d off inb (ix2 r d) := by
    pointwise [k2_pay4]
  rw [e]
  simp only [rows_at X.d inb h, hX.d, hX.v, ← EReal.coe_mul, coe_sum]

/-- The three sums with one block of queries added, given the block's probabilities and score cotangents. -/
theorem kept_add {n : ℕ} (hn : j ≤ n) (hn' : n < 32) {off : Fin 2 → ℕ} (inb : ∀ a, off a + S512x128.size a ≤ S16384x128.size a) (h : off = ![512 * n, 0])
    {p ds : FVec Ideal S512x512 .f32}
    (hp : ∀ c r : Fin 512, (p (ix2 c r) : EReal) = (prob Q K (512 * n + r) (512 * j + c) : EReal))
    (hd : ∀ c r : Fin 512, (ds (ix2 c r) : EReal) = (dscore Q K V D (512 * n + r) (512 * j + c) : EReal))
    {dk dv dk' dv' w : Vec Ideal S512x128 .f32} {dq : Vec Ideal S16384x128 .f32} (hk : Kept j n Q K V D dk dv dq)
    (ek : ∀ (c : Fin 512) (d : Fin 128), (dk' (ix2 c d) : EReal) = dk (ix2 c d) + ∑ r : Fin 512, (ds (ix2 c r) : EReal) * rows X.q off inb (ix2 r d))
    (ev : ∀ (c : Fin 512) (d : Fin 128), (dv' (ix2 c d) : EReal) = dv (ix2 c d) + ∑ r : Fin 512, (p (ix2 c r) : EReal) * rows X.d off inb (ix2 r d))
    (eq : ∀ (r : Fin 512) (d : Fin 128), (w (ix2 r d) : EReal) = rows dq off inb (ix2 r d) + ∑ c : Fin 512, (ds (ix2 c r) : EReal) * X.k (ix2 c d)) :
    Kept j (n + 1) Q K V D dk' dv' (VecWindow.put dq off S512x128.size w) := by
  refine ⟨fun c d => ?_, fun c d => ?_, fun g d => ?_⟩
  · rw [ek, hk.dk]
    simp only [rows_at X.q inb h, hX.q, hd, ← EReal.coe_mul, coe_sum, ← EReal.coe_add]
    unfold dkey; rw [sum_block]
  · rw [ev, hk.dv]
    simp only [rows_at X.d inb h, hX.d, hp, ← EReal.coe_mul, coe_sum, ← EReal.coe_add]
    unfold dvalue; rw [sum_block]
  · rw [put_at dq h]
    by_cases hg : 512 * n ≤ g.val ∧ g.val < 512 * (n + 1)
    · rw [dif_pos hg, eq, rows_at dq inb h, hk.dq, if_neg (by show ¬ 512 * n + (g.val - 512 * n) < 512 * n; omega), if_pos hg.2]
      have hgn : 512 * n + (g.val - 512 * n) = g.val := by omega
      simp only [hd, hX.k, ← EReal.coe_mul, coe_sum, ← EReal.coe_add, hgn]
      unfold dquery; rw [sum_block]
    · rw [dif_neg hg, hk.dq]
      congr 2
      by_cases h1 : g.val < 512 * n
      · rw [if_pos h1, if_pos (by omega)]
      · rw [if_neg h1, if_neg (by omega)]

/-- A block of queries that all come after the keys. -/
theorem kept_step {n : ℕ} (hn : j < n) (hn' : n < 32) {off : Fin 2 → ℕ} (inb : ∀ a, off a + S512x128.size a ≤ S16384x128.size a) (h : off = ![512 * n, 0])
    {offs : Fin 4 → ℕ} (inbs : ∀ a, offs a + S1x1x1x512.size a ≤ S1x32x8x512.size a) (hs : offs = ![0, n, 0, 0])
    {s dp : Vec Ideal S512x512 .f32} (hS : Scores j n Q K s) (hD : Dots j n V D dp)
    {dk dv : Vec Ideal S512x128 .f32} {dq : Vec Ideal S16384x128 .f32} (hk : Kept j n Q K V D dk dv dq) :
    Kept j (n + 1) Q K V D
      (k2_pay10 (k2_pay5 (rows X.q off inb)) s (srow X.lse offs inbs) dp (srow X.delta offs inbs) dk)
      (k2_pay9 (k2_pay6 (rows X.d off inb)) s (srow X.lse offs inbs) dv)
      (VecWindow.put dq off S512x128.size
        (k2_pay12 (k2_pay8 s (srow X.lse offs inbs) dp (srow X.delta offs inbs)) (k2_pay11 (rows dq off inb)) X.k)) := by
  have hp : ∀ c r : Fin 512, (k2_pay7 s (srow X.lse offs inbs) (ix2 c r) : EReal) = (prob Q K (512 * n + r) (512 * j + c) : EReal) := by
    intro c r
    have e : (k2_pay7 s (srow X.lse offs inbs) (ix2 c r) : EReal) = Ideal.exp ((s (ix2 c r) : EReal) - srow X.lse offs inbs (ix4 0 0 0 r)) := by
      pointwise [k2_pay7]
    rw [e, hS c r, srow_at X.lse inbs hs, hX.lse, ← EReal.coe_sub, Ideal.exp_coe]
    unfold prob; rw [if_pos (by have := c.isLt; omega)]
  have hd : ∀ c r : Fin 512, (k2_pay8 s (srow X.lse offs inbs) dp (srow X.delta offs inbs) (ix2 c r) : EReal) = (dscore Q K V D (512 * n + r) (512 * j + c) : EReal) := by
    intro c r
    have e : (k2_pay8 s (srow X.lse offs inbs) dp (srow X.delta offs inbs) (ix2 c r) : EReal)
        = (k2_pay7 s (srow X.lse offs inbs) (ix2 c r) : EReal) * ((dp (ix2 c r) : EReal) - srow X.delta offs inbs (ix4 0 0 0 r)) := by
      pointwise [k2_pay8]
    rw [e, hp, hD c r, srow_at X.delta inbs hs, hX.delta, ← EReal.coe_sub, ← EReal.coe_mul]
    rfl
  refine kept_add hX hn.le hn' inb h (p := k2_pay7 s (srow X.lse offs inbs)) (ds := k2_pay8 s (srow X.lse offs inbs) dp (srow X.delta offs inbs)) hp hd hk ?_ ?_ ?_
  · intro c d; pointwise [k2_pay10, k2_pay5]
  · intro c d; pointwise [k2_pay9, k2_pay6]
  · intro r d; pointwise [k2_pay12, k2_pay11]

/-- The block of queries beside the keys: a query takes the keys up to its own. -/
theorem kept_first (hn' : j < 32) {off : Fin 2 → ℕ} (inb : ∀ a, off a + S512x128.size a ≤ S16384x128.size a) (h : off = ![512 * j, 0])
    {offs : Fin 4 → ℕ} (inbs : ∀ a, offs a + S1x1x1x512.size a ≤ S1x32x8x512.size a) (hs : offs = ![0, j, 0, 0])
    {s dp : Vec Ideal S512x512 .f32} (hS : Scores j j Q K s) (hD : Dots j j V D dp)
    {dk dv : Vec Ideal S512x128 .f32} {dq : Vec Ideal S16384x128 .f32} (hk : Kept j j Q K V D dk dv dq) :
    Kept j (j + 1) Q K V D
      (k2_pay54 (k2_pay49 (rows X.q off inb)) s (srow X.lse offs inbs) dp (srow X.delta offs inbs) dk)
      (k2_pay53 (k2_pay50 (rows X.d off inb)) s (srow X.lse offs inbs) dv)
      (VecWindow.put dq off S512x128.size
        (k2_pay55 (k2_pay52 s (srow X.lse offs inbs) dp (srow X.delta offs inbs)) (rows dq off inb) X.k)) := by
  have hp : ∀ c r : Fin 512, (k2_pay51 s (srow X.lse offs inbs) (ix2 c r) : EReal) = (prob Q K (512 * j + r) (512 * j + c) : EReal) := by
    intro c r
    have e : (k2_pay51 s (srow X.lse offs inbs) (ix2 c r) : EReal)
        = Scalar.select (IntOp.cmpi CmpIPredicate.sle (BitVec.ofNat 32 c.val) (BitVec.ofNat 32 r.val))
          (Ideal.exp ((s (ix2 c r) : EReal) - srow X.lse offs inbs (ix4 0 0 0 r))) 0 := by
      pointwise [k2_pay51]
    rw [e, sle_row, hS c r, srow_at X.lse inbs hs, hX.lse, ← EReal.coe_sub, Ideal.exp_coe]
    unfold prob
    by_cases hc : c.val ≤ r.val
    · rw [decide_eq_true hc, if_pos (by omega)]; exact WordCmp.select_one _ _
    · rw [decide_eq_false hc, if_neg (by omega)]; exact WordCmp.select_zero _ _
  have hd : ∀ c r : Fin 512, (k2_pay52 s (srow X.lse offs inbs) dp (srow X.delta offs inbs) (ix2 c r) : EReal) = (dscore Q K V D (512 * j + r) (512 * j + c) : EReal) := by
    intro c r
    have e : (k2_pay52 s (srow X.lse offs inbs) dp (srow X.delta offs inbs) (ix2 c r) : EReal)
        = (k2_pay51 s (srow X.lse offs inbs) (ix2 c r) : EReal) * ((dp (ix2 c r) : EReal) - srow X.delta offs inbs (ix4 0 0 0 r)) := by
      pointwise [k2_pay52]
    rw [e, hp, hD c r, srow_at X.delta inbs hs, hX.delta, ← EReal.coe_sub, ← EReal.coe_mul]
    rfl
  refine kept_add hX le_rfl hn' inb h (p := k2_pay51 s (srow X.lse offs inbs)) (ds := k2_pay52 s (srow X.lse offs inbs) dp (srow X.delta offs inbs)) hp hd hk ?_ ?_ ?_
  · intro c d; pointwise [k2_pay54, k2_pay49]
  · intro c d; pointwise [k2_pay53, k2_pay50]
  · intro r d; pointwise [k2_pay55]

end

theorem trips_eq : ∀ c : grid2.Coords, (k2_t1_loop c).trips = (31 - (c 1).val) / 2 := by decide +kernel
theorem off_own : ∀ c : grid2.Coords, k2_off1 c = ![512 * (c 1).val, 0] := by decide +kernel
theorem off_next : ∀ c : grid2.Coords, k2_off2 c = ![512 * min ((c 1).val + 1) 31, 0] := by decide +kernel
theorem off_sum : ∀ c : grid2.Coords, k2_off3 c = ![0, (c 1).val, 0, 0] := by decide +kernel
theorem off_sum1 : ∀ (c : grid2.Coords) (t : Fin (k2_t1_loop c).trips), k2_off6 c t = ![0, (c 1).val + 1 + 2 * t.val, 0, 0] := by decide +kernel
theorem off_sum2 : ∀ (c : grid2.Coords) (t : Fin (k2_t1_loop c).trips), k2_off8 c t = ![0, (c 1).val + 1 + 2 * t.val + 1, 0, 0] := by decide +kernel
theorem off_row1 : ∀ (c : grid2.Coords) (t : Fin (k2_t1_loop c).trips), k2_off5 c t = ![512 * ((c 1).val + 1 + 2 * t.val), 0] := by decide +kernel
theorem off_row2 : ∀ (c : grid2.Coords) (t : Fin (k2_t1_loop c).trips), k2_off4 c t = ![512 * ((c 1).val + 1 + 2 * t.val + 1), 0] := by decide +kernel
theorem off_row3 : ∀ (c : grid2.Coords) (t : Fin (k2_t1_loop c).trips), k2_off7 c t = ![512 * min ((c 1).val + 1 + 2 * t.val + 2) 31, 0] := by decide +kernel
theorem odd_iff : ∀ c : grid2.Coords, k2_cond2 c = 1#1 ↔ (31 - (c 1).val) % 2 = 1 := by decide +kernel

section

variable {c : grid2.Coords} {Q K V D : ℕ → ℕ → ℝ} {X : Bwd.Blocks Ideal} (hX : BwdReal (c 1).val Q K V D X)
include hX

/-- A point finds the query gradient after the keys before its own, and starts with its own rows of queries. -/
theorem entry_value {dq : Vec Ideal S16384x128 .f32}
    (hq : ∀ (g : Fin 16384) (d : Fin 128), (dq (ix2 g d) : EReal) = (dquery Q K V D (512 * (c 1).val) g d : EReal)) :
    Scores (c 1).val (min ((c 1).val + 1) 31) Q K (Bwd.entry c X dq).sa ∧ Dots (c 1).val (min ((c 1).val + 1) 31) V D (Bwd.entry c X dq).da ∧
      Kept (c 1).val ((c 1).val + 1) Q K V D (Bwd.entry c X dq).dk (Bwd.entry c X dq).dv (Bwd.entry c X dq).dq := by
  refine ⟨scores_of hX _ (off_next c), dots_of hX _ (off_next c), ?_⟩
  refine kept_first hX (c 1).isLt (k2_off1_inb c) (off_own c) (k2_off3_inb c) (off_sum c) (scores_of hX (k2_off1_inb c) (off_own c))
    (dots_of hX (k2_off1_inb c) (off_own c)) ⟨fun r d => ?_, fun r d => ?_, fun g d => ?_⟩
  · have e : (k2_pay42 (F := Ideal) (ix2 r d) : EReal) = 0 := by pointwise [k2_pay42]
    rw [e]; unfold dkey
    rw [Finset.sum_eq_zero fun g hg => by rw [dscore_zero Q K V D (by have := Finset.mem_range.1 hg; omega), zero_mul]]; rfl
  · have e : (k2_pay43 (F := Ideal) (ix2 r d) : EReal) = 0 := by pointwise [k2_pay43]
    rw [e]; unfold dvalue
    rw [Finset.sum_eq_zero fun g hg => by rw [prob_zero Q K (by have := Finset.mem_range.1 hg; omega), zero_mul]]; rfl
  · rw [hq]
    congr 1
    split
    · rename_i hg
      unfold dquery
      exact (sum_upto _ (by omega) fun k hk => by rw [dscore_zero Q K V D (by omega), zero_mul]).symm
    · rfl

theorem trips_value (s : Bwd.St Ideal) (hs : Scores (c 1).val (min ((c 1).val + 1) 31) Q K s.sa) (hd : Dots (c 1).val (min ((c 1).val + 1) 31) V D s.da)
    (hk : Kept (c 1).val ((c 1).val + 1) Q K V D s.dk s.dv s.dq) :
    ∀ n, n ≤ (k2_t1_loop c).trips → Scores (c 1).val (min ((c 1).val + 1 + 2 * n) 31) Q K (Bwd.trips c X s n).sa ∧
      Dots (c 1).val (min ((c 1).val + 1 + 2 * n) 31) V D (Bwd.trips c X s n).da ∧
      Kept (c 1).val ((c 1).val + 1 + 2 * n) Q K V D (Bwd.trips c X s n).dk (Bwd.trips c X s n).dv (Bwd.trips c X s n).dq
  | 0, _ => ⟨hs, hd, hk⟩
  | n + 1, hn => by
    obtain ⟨h1, h2, h3⟩ := trips_value s hs hd hk n (by omega)
    have hlt : n < (k2_t1_loop c).trips := hn
    have hc : (c 1).val + 1 + 2 * n + 1 < 32 := by have := trips_eq c; omega
    rw [Nat.min_eq_left (by omega)] at h1 h2
    rw [show Bwd.trips c X s (n + 1) = Bwd.trip c X ⟨n, hlt⟩ (Bwd.trips c X s n) from Bwd.trips_succ c X s ⟨n, hlt⟩]
    have hstep := kept_step hX (n := (c 1).val + 1 + 2 * n) (by omega) (by omega) (k2_off5_inb c ⟨n, hlt⟩) (off_row1 c ⟨n, hlt⟩) (k2_off6_inb c ⟨n, hlt⟩) (off_sum1 c ⟨n, hlt⟩) h1 h2 h3
    have hstep2 := kept_step hX (by omega) hc (k2_off4_inb c ⟨n, hlt⟩) (off_row2 c ⟨n, hlt⟩) (k2_off8_inb c ⟨n, hlt⟩) (off_sum2 c ⟨n, hlt⟩)
      (scores_of hX (k2_off4_inb c ⟨n, hlt⟩) (off_row2 c ⟨n, hlt⟩)) (dots_of hX (k2_off4_inb c ⟨n, hlt⟩) (off_row2 c ⟨n, hlt⟩)) hstep
    exact ⟨scores_of hX _ (off_row3 c ⟨n, hlt⟩), dots_of hX _ (off_row3 c ⟨n, hlt⟩), hstep2⟩

/-- The gradients when a point of the backward kernel ends. -/
theorem point_value {dq : Vec Ideal S16384x128 .f32}
    (hq : ∀ (g : Fin 16384) (d : Fin 128), (Bwd.dq0 c dq (ix2 g d) : EReal) = (dquery Q K V D (512 * (c 1).val) g d : EReal)) :
    Kept (c 1).val 32 Q K V D (Bwd.point c X dq).dk (Bwd.point c X dq).dv (Bwd.point c X dq).dq := by
  obtain ⟨h1, h2, h3⟩ := entry_value hX hq
  obtain ⟨h4, h5, h6⟩ := trips_value hX _ h1 h2 h3 _ le_rfl
  have hlt : (c 1).val < 32 := (c 1).isLt
  rw [trips_eq] at h4 h5 h6
  unfold Bwd.point
  rw [trips_eq]
  rcases Nat.mod_two_eq_zero_or_one (31 - (c 1).val) with he | ho
  · rw [if_neg (fun h => by have := (odd_iff c).1 h; omega)]
    rw [show (c 1).val + 1 + 2 * ((31 - (c 1).val) / 2) = 32 by omega] at h6
    exact h6
  · rw [if_pos ((odd_iff c).2 ho)]
    rw [show (c 1).val + 1 + 2 * ((31 - (c 1).val) / 2) = 31 by omega] at h4 h5 h6
    exact kept_step hX (by omega) (by omega) inb_S16384x128_S512x128_15872_0 rfl inb_S1x32x8x512_S1x1x1x512_0_31_0_0 rfl h4 h5 h6

end

end Cert.Attn.Back
-- ==== Proof.Attn.FwdValue.lean ====
module

public import proofs.«01_k».proof.Proof.Attn.Fwd
public import proofs.«01_k».proof.Proof.Attn.Sums
public import proofs.«01_k».proof.Proof.Tools.NormGrad
public import Idealize.ShloMosaic.Lib.WordCmp

/-! What a point of the forward kernel computes, over the real numbers: the output of its 512 query rows, and the logarithm
of the sum of each row's weights. -/

@[expose] public section

set_option maxRecDepth 16384

noncomputable section

namespace Cert.Attn

open Cert.AttnKernelIdeal Cert.AttnKernelIdeal.Gen Cert.AttnKernelIdeal.Tiles Cert.Tools
open Idealize.ShloMosaic Idealize.ShloMosaic.TcCoe Idealize.SL.Sem

/-- The constant that stands for no score. -/
theorem mask_bot : (Named.named (F := Ideal) Cert.AttnKernelIdeal.κ "mask" (φ := .f32) 4048155338#32 : EReal) = ⊥ := rfl

theorem sle_col (c r : Fin 512) : IntOp.cmpi CmpIPredicate.sle (BitVec.ofNat 32 c.val) (BitVec.ofNat 32 r.val) = BitVec.ofBool (decide (c.val ≤ r.val)) :=
  WordCmp.cmpi_sle_ofNat (lt_trans c.isLt (by norm_num)) (lt_trans r.isLt (by norm_num))

/-- Rows of a head's array that start at a block. -/
theorem rows_at {e : EltTy} (X : Vec Ideal S16384x128 e) (off : Fin 2 → ℕ) (inb : ∀ a, off a + S512x128.size a ≤ S16384x128.size a)
    {n : ℕ} (h : off = ![512 * n, 0]) (r : Fin 512) (d : Fin 128) :
    rows X off inb (ix2 r d) = X (ix2 ⟨512 * n + r.val, by have := inb 0; subst h; have h1 : 512 * n + 512 ≤ 16384 := this; omega⟩ d) := by
  subst h
  refine congrArg X (ext2 ?_ ?_)
  · show 512 * n + 1 * r.val = _; simp
  · show 0 + 1 * d.val = _; simp

/-- The blocks of a point: 512 query rows from `512 * i` on, and a head's keys and values. -/
structure FwdReal (i : ℕ) (Q K V : ℕ → ℕ → ℝ) (X : Fwd.Blocks Ideal) : Prop where
  q : ∀ (r : Fin 512) (d : Fin 128), (X.q (ix2 r d) : EReal) = (Q (512 * i + r) d : EReal)
  k : ∀ (g : Fin 16384) (d : Fin 128), (X.k (ix2 g d) : EReal) = (K g d : EReal)
  v : ∀ (g : Fin 16384) (d : Fin 128), (X.v (ix2 g d) : EReal) = (V g d : EReal)

/-- A score block: the scores of the rows with the keys of block `n`. -/
def Scores (i n : ℕ) (Q K : ℕ → ℕ → ℝ) (s : Vec Ideal S512x512 .f32) : Prop :=
  ∀ r c : Fin 512, (s (ix2 r c) : EReal) = (score Q K (512 * i + r) (512 * n + c) : EReal)

/-- The maximum and the sums after `n` blocks. -/
def Kept (i n : ℕ) (Q K V : ℕ → ℕ → ℝ) (m : Vec Ideal S512x1 .f32) (acc : Vec Ideal S512x128 .f32) : Prop :=
  ∀ r : Fin 512, Row (m (ix2 r 0)) (fun d => acc (ix2 r d)) (total Q K V (512 * n) (512 * i + r))

section

variable {i : ℕ} {Q K V : ℕ → ℕ → ℝ} {X : Fwd.Blocks Ideal} (hX : FwdReal i Q K V X)
include hX

theorem scores_of {n : ℕ} {off : Fin 2 → ℕ} (inb : ∀ a, off a + S512x128.size a ≤ S16384x128.size a) (h : off = ![512 * n, 0]) :
    Scores i n Q K (k0_pay26 (rows X.k off inb) X.q) := by
  intro r c
  have e : (k0_pay26 (rows X.k off inb) X.q (ix2 r c) : EReal) = ∑ d : Fin 128, (X.q (ix2 r d) : EReal) * rows X.k off inb (ix2 c d) := by
    pointwise [k0_pay26]
  rw [e]
  simp only [rows_at X.k off inb h, hX.q, hX.k, ← EReal.coe_mul, coe_sum]
  rfl

/-- One block of keys taken up whole by every row: it comes before every row. -/
theorem kept_step {n : ℕ} (hn : n < i) {off : Fin 2 → ℕ} (inb : ∀ a, off a + S512x128.size a ≤ S16384x128.size a) (h : off = ![512 * n, 0])
    {s : Vec Ideal S512x512 .f32} (hs : Scores i n Q K s) {m : Vec Ideal S512x1 .f32} {acc : Vec Ideal S512x128 .f32} (hk : Kept i n Q K V m acc) :
    Kept i (n + 1) Q K V (k0_pay2 s m) (k0_pay3 (rows X.v off inb) s m acc) := by
  intro r
  have hm : (k0_pay2 s m (ix2 r 0) : EReal) = max (m (ix2 r 0)) (Finset.univ.fold max (⊥ : EReal) fun c => s (ix2 r c)) := by
    rw [← bits_bot]; pointwise [k0_pay2]
  have ha : ∀ d : Fin 128, (k0_pay3 (rows X.v off inb) s m acc (ix2 r d) : EReal)
      = Ideal.exp ((m (ix2 r 0) : EReal) - max (m (ix2 r 0)) (Finset.univ.fold max (⊥ : EReal) fun c => s (ix2 r c))) * acc (ix2 r d)
        + ∑ c : Fin 512, Ideal.exp ((s (ix2 r c) : EReal) - max (m (ix2 r 0)) (Finset.univ.fold max (⊥ : EReal) fun c => s (ix2 r c)))
          * rows X.v off inb (ix2 c d) := by
    intro d; rw [← bits_bot]; pointwise [k0_pay3, k0_pay2]
  have := (hk r).step (fun c => s (ix2 r c)) (fun c => score Q K (512 * i + r) (512 * n + c)) (fun _ => True)
    (fun c => by rw [if_pos trivial]; exact hs r c) ⟨0, trivial⟩ (fun c d => rows X.v off inb (ix2 c d)) (fun c d => V (512 * n + c) d)
    (fun c d => by rw [rows_at X.v off inb h]; exact hX.v _ _)
  rw [hm, funext ha]
  convert this using 1
  funext d
  unfold total
  rw [sum_block]
  congr 1
  refine Finset.sum_congr rfl fun c _ => ?_
  unfold weight
  rw [if_pos trivial, if_pos (by have := c.isLt; omega)]

/-- The last block of keys taken up: a row takes the keys up to its own. -/
theorem kept_last {off : Fin 2 → ℕ} (inb : ∀ a, off a + S512x128.size a ≤ S16384x128.size a) (h : off = ![512 * i, 0])
    {s : Vec Ideal S512x512 .f32} (hs : Scores i i Q K s) {m : Vec Ideal S512x1 .f32} {acc : Vec Ideal S512x128 .f32} (hk : Kept i i Q K V m acc) :
    Kept i (i + 1) Q K V (k0_pay32 s m) (k0_pay33 (rows X.v off inb) s m acc) := by
  intro r
  have hp : ∀ c : Fin 512, (k0_pay31 s (ix2 r c) : EReal) = if c ≤ r then (score Q K (512 * i + r) (512 * i + c) : EReal) else ⊥ := by
    intro c
    have e : (k0_pay31 s (ix2 r c) : EReal) = Scalar.select (IntOp.cmpi CmpIPredicate.sle (BitVec.ofNat 32 c.val) (BitVec.ofNat 32 r.val)) (s (ix2 r c))
        (Named.named (F := Ideal) Cert.AttnKernelIdeal.κ "mask" (φ := .f32) 4048155338#32) := by
      pointwise [k0_pay31]
    rw [e, sle_col, mask_bot]
    by_cases hc : c ≤ r
    · rw [if_pos hc, decide_eq_true (Fin.le_def.1 hc)]; exact hs r c
    · rw [if_neg hc, decide_eq_false (fun h => hc (Fin.le_def.2 h))]; rfl
  have hm : (k0_pay32 s m (ix2 r 0) : EReal) = max (m (ix2 r 0)) (Finset.univ.fold max (⊥ : EReal) fun c => k0_pay31 s (ix2 r c)) := by
    rw [← bits_bot]; pointwise [k0_pay32]
  have ha : ∀ d : Fin 128, (k0_pay33 (rows X.v off inb) s m acc (ix2 r d) : EReal)
      = Ideal.exp ((m (ix2 r 0) : EReal) - max (m (ix2 r 0)) (Finset.univ.fold max (⊥ : EReal) fun c => k0_pay31 s (ix2 r c))) * acc (ix2 r d)
        + ∑ c : Fin 512, Ideal.exp ((k0_pay31 s (ix2 r c) : EReal) - max (m (ix2 r 0)) (Finset.univ.fold max (⊥ : EReal) fun c => k0_pay31 s (ix2 r c)))
          * rows X.v off inb (ix2 c d) := by
    intro d; rw [← bits_bot]; pointwise [k0_pay33, k0_pay32]
  have := (hk r).step (fun c => k0_pay31 s (ix2 r c)) (fun c => score Q K (512 * i + r) (512 * i + c)) (fun c => c ≤ r)
    hp ⟨0, Fin.zero_le _⟩ (fun c d => rows X.v off inb (ix2 c d)) (fun c d => V (512 * i + c) d)
    (fun c d => by rw [rows_at X.v off inb h]; exact hX.v _ _)
  rw [hm, funext ha]
  convert this using 1
  funext d
  unfold total
  rw [sum_block]
  congr 1
  refine Finset.sum_congr rfl fun c _ => ?_
  unfold weight
  by_cases hc : c ≤ r
  · rw [if_pos hc, if_pos (by have := Fin.le_def.1 hc; omega)]
  · rw [if_neg hc, if_neg (by have := fun h => hc (Fin.le_def.2 h); omega)]

end

/-! Steps that only change the layout leave a block as it is. -/

theorem col_same (x : Vec Ideal S512x1 .f32) : k0_pay5 (F := Ideal) x = x := by
  funext y; obtain ⟨r, z, rfl⟩ : ∃ r z, y = ix2 r z := ⟨y 0, y 1, ext2 rfl rfl⟩; pointwise [k0_pay5]

theorem tile_same (x : Vec Ideal S512x128 .f32) : k0_pay4 (F := Ideal) x = x := by
  funext y; obtain ⟨r, z, rfl⟩ : ∃ r z, y = ix2 r z := ⟨y 0, y 1, ext2 rfl rfl⟩; pointwise [k0_pay4]

theorem Kept.cast_col {i n : ℕ} {Q K V : ℕ → ℕ → ℝ} {m : Vec Ideal S512x1 .f32} {acc : Vec Ideal S512x128 .f32} (h : Kept i n Q K V m acc) :
    Kept i n Q K V (k0_pay5 (F := Ideal) m) acc := by rw [col_same]; exact h

theorem Kept.cast {i n : ℕ} {Q K V : ℕ → ℕ → ℝ} {m : Vec Ideal S512x1 .f32} {acc : Vec Ideal S512x128 .f32} (h : Kept i n Q K V m acc) :
    Kept i n Q K V (k0_pay5 (F := Ideal) m) (k0_pay4 (F := Ideal) acc) := by rw [tile_same]; exact h.cast_col

theorem trips_eq : ∀ c : grid0.Coords, (k0_t1_loop c).trips = (c 1).val / 2 := by decide +kernel
theorem off_fst : ∀ (c : grid0.Coords) (t : Fin (k0_t1_loop c).trips), k0_off1 c t 1#32 = ![512 * (2 * t.val + 1), 0] := by decide +kernel
theorem off_snd : ∀ (c : grid0.Coords) (t : Fin (k0_t1_loop c).trips), k0_off1 c t 2#32 = ![512 * (2 * t.val + 2), 0] := by decide +kernel
theorem off_even : ∀ (c : grid0.Coords) (t : Fin (k0_t1_loop c).trips), k0_off2 c t = ![512 * (2 * t.val), 0] := by decide +kernel
theorem off_last5 : ∀ c : grid0.Coords, k0_off5 c = ![512 * (c 1).val, 0] := by decide +kernel
theorem off_last6 : ∀ c : grid0.Coords, k0_off6 c = ![512 * (c 1).val, 0] := by decide +kernel
theorem off_last7 : ∀ c : grid0.Coords, k0_cond2 c = 1#1 → k0_off7 c = ![512 * ((c 1).val - 1), 0] := by decide +kernel
theorem even_iff : ∀ c : grid0.Coords, k0_cond1 c = 1#1 ↔ (c 1).val % 2 = 0 := by decide +kernel
theorem odd_iff : ∀ c : grid0.Coords, k0_cond2 c = 1#1 ↔ (c 1).val % 2 = 1 := by decide +kernel

section

variable {c : grid0.Coords} {Q K V : ℕ → ℕ → ℝ} {X : Fwd.Blocks Ideal} (hX : FwdReal (c 1).val Q K V X)
include hX

theorem entry_value (sb : Vec Ideal S512x512 .f32) :
    Scores (c 1).val 0 Q K (Fwd.entry X sb).sa ∧ Kept (c 1).val 0 Q K V (Fwd.entry X sb).m (Fwd.entry X sb).acc := by
  refine ⟨scores_of hX _ rfl, fun r => Or.inl ⟨?_, fun d => ⟨?_, ?_⟩⟩⟩
  · rw [← mask_bot]; show (k0_pay24 (F := Ideal) (ix2 r 0) : EReal) = _; pointwise [k0_pay24]
  · show (k0_pay25 (F := Ideal) (ix2 r d) : EReal) = 0; pointwise [k0_pay25]
  · simp [total]

theorem trips_value (s : Fwd.St Ideal) (hs : Scores (c 1).val 0 Q K s.sa) (hk : Kept (c 1).val 0 Q K V s.m s.acc) :
    ∀ n, n ≤ (k0_t1_loop c).trips → Scores (c 1).val (2 * n) Q K (Fwd.trips c X s n).sa ∧ Kept (c 1).val (2 * n) Q K V (Fwd.trips c X s n).m (Fwd.trips c X s n).acc
  | 0, _ => ⟨hs, hk⟩
  | n + 1, hn => by
    obtain ⟨h1, h2⟩ := trips_value s hs hk n (by omega)
    have hlt : n < (k0_t1_loop c).trips := hn
    have hc : 2 * n + 1 < (c 1).val := by have := trips_eq c; omega
    have hstep := kept_step hX (by omega : 2 * n < (c 1).val) (k0_off2_inb c ⟨n, hlt⟩) (off_even c ⟨n, hlt⟩) h1 h2
    have hsb : Scores (c 1).val (2 * n + 1) Q K (k0_pay1 (rows X.k (k0_off1 c ⟨n, hlt⟩ 1#32) (k0_off1_inb c ⟨n, hlt⟩ 0)) X.q) :=
      scores_of hX _ (off_fst c ⟨n, hlt⟩)
    rw [show Fwd.trips c X s (n + 1) = Fwd.trip c X ⟨n, hlt⟩ (Fwd.trips c X s n) from Fwd.trips_succ c X s ⟨n, hlt⟩]
    have hstep2 := kept_step hX hc (k0_off1_inb c ⟨n, hlt⟩ 0) (off_fst c ⟨n, hlt⟩) hsb hstep.cast
    exact ⟨scores_of hX _ (off_snd c ⟨n, hlt⟩), hstep2.cast⟩

theorem point_kept (sb : Vec Ideal S512x512 .f32) :
    Kept (c 1).val ((c 1).val + 1) Q K V (Fwd.point c X sb).m (Fwd.point c X sb).acc := by
  obtain ⟨h1, h2⟩ := entry_value hX sb
  obtain ⟨h3, h4⟩ := trips_value hX _ h1 h2 _ le_rfl
  rw [trips_eq] at h3 h4
  unfold Fwd.point
  beta_reduce
  rw [trips_eq]
  rcases Nat.mod_two_eq_zero_or_one (c 1).val with he | ho
  · rw [dif_neg (fun h => by have := (odd_iff c).1 h; omega), dif_pos ((even_iff c).2 he)]
    rw [show 2 * ((c 1).val / 2) = (c 1).val by omega] at h3 h4
    have := kept_last hX (k0_off5_inb c ((even_iff c).2 he)) (off_last5 c) h3 h4
    exact this.cast_col
  · have hb := (odd_iff c).2 ho
    rw [dif_pos hb, dif_neg (fun h => by have := (even_iff c).1 h; omega)]
    have e : 2 * ((c 1).val / 2) = (c 1).val - 1 := by omega
    rw [e] at h3 h4
    have hstep := kept_step hX (by omega) (k0_off7_inb c hb) (off_last7 c hb) h3 h4
    rw [show (c 1).val - 1 + 1 = (c 1).val by omega] at hstep
    have := kept_last hX (k0_off6_inb c hb) (off_last6 c) (scores_of hX (k0_off6_inb c hb) (off_last6 c)) hstep.cast
    exact this.cast_col

/-- The point's row of sums over every key. -/
theorem point_row (hone : ∀ k, k < 16384 → V k 64 = 1) (sb : Vec Ideal S512x512 .f32) (r : Fin 512) :
    ∃ M : ℝ, ((Fwd.point c X sb).m (ix2 r 0) : EReal) = (M : EReal) ∧
      ((Fwd.point c X sb).acc (ix2 r 64) : EReal) = ((Real.exp (-M) * norm Q K (512 * (c 1).val + r) : ℝ) : EReal) ∧
      ∀ d : Fin 128, ((Fwd.point c X sb).acc (ix2 r d) : EReal)
        = ((Real.exp (-M) * ∑ k ∈ Finset.range 16384, weight Q K (512 * (c 1).val + r) k * V k d : ℝ) : EReal) := by
  have hfull : ∀ d, total Q K V (512 * ((c 1).val + 1)) (512 * (c 1).val + r) d
      = ∑ k ∈ Finset.range 16384, weight Q K (512 * (c 1).val + r) k * V k d := fun d =>
    (sum_upto _ (by have : (c 1).val < 32 := (c 1).isLt; omega) fun k hk => by
      unfold weight; rw [if_neg (by have := r.isLt; omega), zero_mul]).symm
  have hnorm : (∑ k ∈ Finset.range 16384, weight Q K (512 * (c 1).val + r) k * V k 64) = norm Q K (512 * (c 1).val + r) :=
    Finset.sum_congr rfl fun k hk => by rw [hone k (Finset.mem_range.1 hk), mul_one]
  rcases point_kept hX sb r with ⟨_, h⟩ | ⟨M, hm, h⟩
  · have := (h 64).2
    rw [hfull] at this
    exact absurd (hnorm.symm.trans this) (norm_pos Q K _).ne'
  · refine ⟨M, hm, ?_, fun d => by rw [← hfull]; exact h d⟩
    rw [← hnorm, ← hfull]; exact h 64

/-- The output of the point's rows: the lanes of a head, and zeros. -/
theorem point_out (hone : ∀ k, k < 16384 → V k 64 = 1) (sb : Vec Ideal S512x512 .f32) (r : Fin 512) (d : Fin 128) :
    (k0_pay41 (Fwd.point c X sb).acc (ix2 r d) : EReal) = ((if d.val < 64 then out Q K V (512 * (c 1).val + r) d else 0 : ℝ) : EReal) := by
  obtain ⟨M, -, h64, h⟩ := point_row hX hone sb r
  have e : (k0_pay41 (Fwd.point c X sb).acc (ix2 r d) : EReal) = Scalar.select (IntOp.cmpi CmpIPredicate.slt (BitVec.ofNat 32 d.val) 64#32)
      (Ideal.div ((Fwd.point c X sb).acc (ix2 r d)) ((Fwd.point c X sb).acc (ix2 r 64))) 0 := by
    pointwise [k0_pay41, k0_pay40]
  rw [e, h64, h d, WordCmp.cmpi_slt_ofNat (b := 64) (lt_trans d.isLt (by norm_num)) (by norm_num),
    Ideal.div_coe (mul_pos (Real.exp_pos _) (norm_pos Q K _)).ne', ← EReal.coe_mul]
  by_cases hd : d.val < 64
  · rw [if_pos hd, decide_eq_true hd, out, mul_one_div, mul_div_mul_left _ _ (Real.exp_pos _).ne']
    exact WordCmp.select_one _ _
  · rw [if_neg hd, decide_eq_false hd]; rfl

/-- The logarithm of the sum of the weights of the point's rows. -/
theorem point_lse (hone : ∀ k, k < 16384 → V k 64 = 1) (sb : Vec Ideal S512x512 .f32) (z w : Fin 1) (x : Fin 8) (r : Fin 512) :
    (k0_pay42 (Fwd.point c X sb).acc (Fwd.point c X sb).m (ix4 z w x r) : EReal) = (Real.log (norm Q K (512 * (c 1).val + r)) : EReal) := by
  obtain ⟨M, hm, h64, -⟩ := point_row hX hone sb r
  have e : (k0_pay42 (Fwd.point c X sb).acc (Fwd.point c X sb).m (ix4 z w x r) : EReal)
      = (Fwd.point c X sb).m (ix2 r 0) + Ideal.log ((Fwd.point c X sb).acc (ix2 r 64)) := by
    pointwise [k0_pay42, k0_pay40]
  have hp := norm_pos Q K (512 * (c 1).val + r)
  rw [e, hm, h64, Ideal.log_coe, if_neg (not_le.2 (mul_pos (Real.exp_pos _) hp)), ← EReal.coe_add,
    Real.log_mul (Real.exp_pos _).ne' hp.ne', Real.log_exp]
  congr 1; ring

end

end Cert.Attn
-- ==== Proof.Attn.Arrays0.lean ====
/- The forward call's two result arrays: every head's normalised output, one head in each stretch of 128 columns, and the logarithms of
   the rows' sums. -/
module

public import proofs.«01_k».proof.Proof.Attn.Region0
public import proofs.«01_k».proof.Proof.Attn.FwdValue
public import proofs.«01_k».proof.Proof.Tools.Arrays
public import proofs.«01_k».proof.Proof.Gen.AttnKernelIdeal.Points

@[expose] public section

set_option maxRecDepth 16384

noncomputable section

namespace Cert.AttnKernelIdeal.Attn

open Idealize.ShloMosaic Idealize.ShloMosaic.TcCoe Idealize.SL.Sem
open Idealize.ShloMosaic.Pipeline (Dat)
open Cert.Tools Cert.Attn Cert.AttnKernelIdeal Cert.AttnKernelIdeal.Gen

/-- The grid's two coordinates, a head and a block of rows. -/
theorem coords0 : ∀ t : Fin grid0.N, (grid0.coords t 0).val = t.val / 32 ∧ (grid0.coords t 1).val = t.val % 32 := by decide +kernel

theorem index0 : ∀ t : Fin grid0.N, (win0_0.index t 0 = t.val % 32 ∧ win0_0.index t 1 = t.val / 32)
    ∧ (win0_1.index t 0 = 0 ∧ win0_1.index t 1 = t.val / 32) ∧ (win0_2.index t 0 = 0 ∧ win0_2.index t 1 = t.val / 32)
    ∧ (win0_3.index t 0 = t.val % 32 ∧ win0_3.index t 1 = t.val / 32)
    ∧ (win0_4.index t 0 = t.val / 32 ∧ win0_4.index t 1 = t.val % 32 ∧ win0_4.index t 2 = 0 ∧ win0_4.index t 3 = 0) := by decide +kernel

variable (V : (c : Dev nD) → (b : Ref sig .tc) → Buf (Elt Ideal) ((c : Thread nD τ).loc b)) (c : Dev nD)
variable (Q K U : ℕ → ℕ → ℕ → ℝ)

/-- An array with a head's row in each stretch of 128 columns. -/
def Packed {n w : ℕ} (A : (⟨2, ![n, w]⟩ : Shape).Idx → EReal) (f : ℕ → ℕ → ℕ → ℝ) : Prop :=
  ∀ (g : Fin n) (l : Fin w), l.val < 1024 → A (ix2 g l) = ((f (l.val / 128) g.val (l.val % 128) : ℝ) : EReal)

/-- The same at an index whose coordinates are known. -/
theorem Packed.at {n w : ℕ} {A : (⟨2, ![n, w]⟩ : Shape).Idx → EReal} {f : ℕ → ℕ → ℕ → ℝ} (hA : Packed A f) (i : (⟨2, ![n, w]⟩ : Shape).Idx)
    {h g d : ℕ} (hh : h < 8) (hd : d < 128) (h0 : (i 0).val = g) (h1 : (i 1).val = h * 128 + d) : A i = ((f h g d : ℝ) : EReal) := by
  have e : i = ix2 (i 0) (i 1) := eq_ix2 i
  have e2 := hA (i 0) (i 1) (by rw [h1]; omega)
  exact (congrArg A e).trans (e2.trans (by rw [h0, h1, show (h * 128 + d) / 128 = h by omega, show (h * 128 + d) % 128 = d by omega]))

section
variable (hQ : Packed (V c main_v5) Q) (hK : Packed (V c main_v11) K) (hU : Packed (V c main_v16) U)
include hQ hK hU

/-- What a point of the forward grid reads. -/
theorem fwd_real (t : Fin cfg0.N) : FwdReal (t.val % 32) (Q (t.val / 32)) (K (t.val / 32)) (U (t.val / 32)) (fwdBlocks V c t) := by
  obtain ⟨⟨a0, a1⟩, ⟨b0, b1⟩, ⟨d0, d1⟩, -⟩ := index0 t
  have ht : t.val < 256 := t.isLt
  refine ⟨fun r d => ?_, fun g d => ?_, fun g d => ?_⟩
  · exact hQ.at ((win0_0.rect t).emb (ix2 r d)) (by omega) d.isLt ((win0_0.rect_emb_val t (ix2 r d) 0).trans (by rw [a0, mul_comm]; rfl))
      ((win0_0.rect_emb_val t (ix2 r d) 1).trans (by rw [a1]; rfl))
  · exact hK.at ((win0_1.rect t).emb (ix2 g d)) (by omega) d.isLt ((win0_1.rect_emb_val t (ix2 g d) 0).trans (by rw [b0]; exact Nat.zero_add _))
      ((win0_1.rect_emb_val t (ix2 g d) 1).trans (by rw [b1]; rfl))
  · exact hU.at ((win0_2.rect t).emb (ix2 g d)) (by omega) d.isLt ((win0_2.rect_emb_val t (ix2 g d) 0).trans (by rw [d0]; exact Nat.zero_add _))
      ((win0_2.rect_emb_val t (ix2 g d) 1).trans (by rw [d1]; rfl))

end

/-- The outputs and the logarithms, as arrays. -/
def outRow (h g d : ℕ) : ℝ := if d < 64 then out (Q h) (K h) (U h) g d else 0
def resOut : S16384x1024.Idx → EReal := fun i => ((outRow Q K U ((i 1).val / 128) (i 0).val ((i 1).val % 128) : ℝ) : EReal)
def logRow (h g : ℕ) : ℝ := Real.log (norm (Q h) (K h) g)
def resLog : S8x32x8x512.Idx → EReal := fun i => ((logRow Q K (i 0).val (512 * (i 1).val + (i 3).val) : ℝ) : EReal)

theorem resOut_packed : Packed (resOut Q K U) (outRow Q K U) := fun _ _ _ => rfl

section
variable (hQ : Packed (V c main_v5) Q) (hK : Packed (V c main_v11) K) (hU : Packed (V c main_v16) U)
variable (hone : ∀ h k, h < 8 → k < 16384 → U h k 64 = 1)
include hQ hK hU hone

theorem out_point (t : Fin cfg0.N) (r : Fin 512) (d : Fin 128) :
    k0_pay41 (fwdAt V c t).acc (ix2 r d) = ((outRow Q K U (t.val / 32) (512 * (t.val % 32) + r) d : ℝ) : EReal) := by
  have ht : t.val < 256 := t.isLt
  have h := fwd_real V c Q K U hQ hK hU t
  rw [← (coords0 t).2] at h
  exact (point_out h (fun k hk => hone _ k (by omega) hk) _ r d).trans (by rw [(coords0 t).2]; rfl)

theorem log_point (t : Fin cfg0.N) (z w : Fin 1) (x : Fin 8) (r : Fin 512) :
    k0_pay42 (fwdAt V c t).acc (fwdAt V c t).m (ix4 z w x r) = ((logRow Q K (t.val / 32) (512 * (t.val % 32) + r) : ℝ) : EReal) := by
  have ht : t.val < 256 := t.isLt
  have h := fwd_real V c Q K U hQ hK hU t
  rw [← (coords0 t).2] at h
  exact (point_lse h (fun k hk => hone _ k (by omega) hk) _ z w x r).trans (by rw [(coords0 t).2]; rfl)

/-- The output array after the run. -/
theorem final_out : (dat0 V c).arrAt 3 cfg0.N = resOut Q K U := by
  refine (dat0 V c).arrAt_eq_of_cover 3 (resOut Q K U) (fun t _ => ?_) (fun i => ?_)
  · show (cfg0.win 3).cut (grid0.coords t) ((dat0 V c).after 3 t) = _
    rw [after0_3]
    funext y
    obtain ⟨r, l, rfl⟩ : ∃ (r : Fin 512) (l : Fin 128), y = ix2 r l := ⟨y 0, y 1, eq_ix2 y⟩
    obtain ⟨a, b⟩ := (index0 t).2.2.2.1
    have ht : t.val < 256 := t.isLt
    exact (out_point V c Q K U hQ hK hU hone t r l).trans
      ((resOut_packed Q K U).at ((win0_3.rect t).emb (ix2 r l)) (by omega) l.isLt
        ((win0_3.rect_emb_val t (ix2 r l) 0).trans (by rw [a, mul_comm]; rfl)) ((win0_3.rect_emb_val t (ix2 r l) 1).trans (by rw [b]; rfl))).symm
  · obtain ⟨r, l, rfl⟩ : ∃ (r : Fin 16384) (l : Fin 1024), i = ix2 r l := ⟨i 0, i 1, eq_ix2 i⟩
    have hr := r.isLt
    have hl := l.isLt
    have ht : 32 * (l.val / 128) + r.val / 512 < 256 := by omega
    obtain ⟨a, b⟩ := (index0 ⟨32 * (l.val / 128) + r.val / 512, ht⟩).2.2.2.1
    have e : ix2 r l = ((cfg0.win 3).blk ⟨32 * (l.val / 128) + r.val / 512, ht⟩).view.emb
        (ix2 (⟨r.val % 512, Nat.mod_lt _ (by decide)⟩ : Fin 512) (⟨l.val % 128, Nat.mod_lt _ (by decide)⟩ : Fin 128)) :=
      ext2 (((win0_3.rect_emb_val _ _ 0).trans (by rw [a]; show (32 * (l.val / 128) + r.val / 512) % 32 * 512 + r.val % 512 = r.val; omega)).symm)
        (((win0_3.rect_emb_val _ _ 1).trans (by rw [b]; show (32 * (l.val / 128) + r.val / 512) / 32 * 128 + l.val % 128 = l.val; omega)).symm)
    exact ⟨_, flush0_3 _, e ▸ View.emb_mem_set _ _⟩

end

/-- Two indices of rank four with the same coordinates are equal. -/
theorem ext4 {A B C D : ℕ} {i j : (⟨4, ![A, B, C, D]⟩ : Shape).Idx} (h0 : (i 0).val = (j 0).val) (h1 : (i 1).val = (j 1).val)
    (h2 : (i 2).val = (j 2).val) (h3 : (i 3).val = (j 3).val) : i = j := by
  funext a
  fin_cases a
  · exact Fin.ext h0
  · exact Fin.ext h1
  · exact Fin.ext h2
  · exact Fin.ext h3

section
variable (hQ : Packed (V c main_v5) Q) (hK : Packed (V c main_v11) K) (hU : Packed (V c main_v16) U)
variable (hone : ∀ h k, h < 8 → k < 16384 → U h k 64 = 1)
include hQ hK hU hone

/-- The array of logarithms after the run. -/
theorem final_log : (dat0 V c).arrAt 4 cfg0.N = resLog Q K := by
  have emb : ∀ (t : Fin cfg0.N) (z w : Fin 1) (x : Fin 8) (r : Fin 512), ((cfg0.win 4).blk t).view.emb (ix4 z w x r)
      = ix4 (⟨t.val / 32, Nat.div_lt_of_lt_mul t.isLt⟩ : Fin 8) (⟨t.val % 32, Nat.mod_lt _ (by decide)⟩ : Fin 32) x r := fun t z w x r => by
    obtain ⟨a, b, d, e⟩ := (index0 t).2.2.2.2
    exact ext4 ((win0_4.rect_emb_val t (ix4 z w x r) 0).trans (by rw [a]; show t.val / 32 * 1 + z.val = t.val / 32; omega))
      ((win0_4.rect_emb_val t (ix4 z w x r) 1).trans (by rw [b]; show t.val % 32 * 1 + w.val = t.val % 32; omega))
      ((win0_4.rect_emb_val t (ix4 z w x r) 2).trans (by rw [d]; exact Nat.zero_add _))
      ((win0_4.rect_emb_val t (ix4 z w x r) 3).trans (by rw [e]; exact Nat.zero_add _))
  refine (dat0 V c).arrAt_eq_of_cover 4 (resLog Q K) (fun t _ => ?_) (fun i => ?_)
  · show (cfg0.win 4).cut (grid0.coords t) ((dat0 V c).after 4 t) = _
    rw [after0_4]
    funext y
    obtain ⟨z, w, x, r, rfl⟩ : ∃ (z w : Fin 1) (x : Fin 8) (r : Fin 512), y = ix4 z w x r := ⟨y 0, y 1, y 2, y 3, eq_ix4 y⟩
    exact (log_point V c Q K U hQ hK hU hone t z w x r).trans (congrArg (resLog Q K) (emb t z w x r)).symm
  · obtain ⟨h, b, x, r, rfl⟩ : ∃ (h : Fin 8) (b : Fin 32) (x : Fin 8) (r : Fin 512), i = ix4 h b x r := ⟨i 0, i 1, i 2, i 3, eq_ix4 i⟩
    have hh := h.isLt
    have hb := b.isLt
    have ht : 32 * h.val + b.val < 256 := by omega
    have e := emb ⟨32 * h.val + b.val, ht⟩ 0 0 x r
    rw [show (⟨(⟨32 * h.val + b.val, ht⟩ : Fin cfg0.N).val / 32, Nat.div_lt_of_lt_mul ht⟩ : Fin 8) = h from Fin.ext (by show (32 * h.val + b.val) / 32 = h.val; omega),
      show (⟨(⟨32 * h.val + b.val, ht⟩ : Fin cfg0.N).val % 32, Nat.mod_lt _ (by decide)⟩ : Fin 32) = b from Fin.ext (by show (32 * h.val + b.val) % 32 = b.val; omega)] at e
    exact ⟨⟨32 * h.val + b.val, ht⟩, flush0_4 _, e ▸ View.emb_mem_set _ _⟩

end

end Cert.AttnKernelIdeal.Attn
-- ==== Proof.Attn.Arrays1.lean ====
/- The array of row sums of the forward output times its cotangent. -/
module

public import proofs.«01_k».proof.Proof.Attn.Region1
public import proofs.«01_k».proof.Proof.Attn.Arrays0
public import Idealize.ShloMosaic.Lib.Pipeline.ValueKit.Tiles

@[expose] public section

set_option maxRecDepth 16384

noncomputable section

namespace Cert.AttnKernelIdeal.Attn

open Idealize.ShloMosaic Idealize.ShloMosaic.TcCoe Idealize.SL.Sem
open Idealize.ShloMosaic.Pipeline (Dat)
open Cert.Tools Cert.Attn Cert.AttnKernelIdeal Cert.AttnKernelIdeal.Gen

theorem index1 : ∀ t : Fin grid1.N, (win1_0.index t 0 = t.val % 8 ∧ win1_0.index t 1 = t.val / 8)
    ∧ (win1_1.index t 0 = t.val % 8 ∧ win1_1.index t 1 = t.val / 8)
    ∧ (win1_2.index t 0 = t.val / 8 ∧ win1_2.index t 1 = t.val % 8 ∧ win1_2.index t 2 = 0 ∧ win1_2.index t 3 = 0) := by decide +kernel

section
variable (u v : Vec Ideal S512x128 .bf16) (z w : Fin 1) (x : Fin 8) (r : Fin 512)

/-- A store's value: the sum along a row. -/
def RowSum (p : Vec Ideal S1x1x8x512 .f32) : Prop :=
  (p (ix4 z w x r) : EReal) = ∑ d : Fin 128, (u (ix2 r d) : EReal) * (v (ix2 r d) : EReal)

theorem pay2_sum : RowSum u v z w x r (k1_pay2 u v) := by
  unfold RowSum; pointwise [k1_pay2]
theorem pay3_sum : RowSum u v z w x r (k1_pay3 u v) := by
  unfold RowSum; pointwise [k1_pay3]
theorem pay4_sum : RowSum u v z w x r (k1_pay4 u v) := by
  unfold RowSum; pointwise [k1_pay4]
theorem pay1_sum : RowSum u v z w x r (k1_pay1 (k1_pay5 u) v) := by
  unfold RowSum; pointwise [k1_pay1, k1_pay5]
end

section
variable {X Y : Vec Ideal S2048x128 .bf16} {O D : ℕ → ℕ → ℝ}
variable (hX : ∀ (g : Fin 2048) (d : Fin 128), (X (ix2 g d) : EReal) = ((O g d : ℝ) : EReal))
variable (hY : ∀ (g : Fin 2048) (d : Fin 128), (Y (ix2 g d) : EReal) = ((D g d : ℝ) : EReal))
include hX hY

/-- One store at its place. -/
theorem tile_sum (b : ℕ) (hb : b < 4) {off : Fin 4 → ℕ} (ho : off 0 = 0 ∧ off 1 = b ∧ off 2 = 0 ∧ off 3 = 0)
    (u v : Vec Ideal S512x128 .bf16) (p : Vec Ideal S1x1x8x512 .f32)
    (hu : ∀ (r : Fin 512) (d : Fin 128), u (ix2 r d) = X (ix2 (⟨512 * b + r, by omega⟩ : Fin 2048) d))
    (hv : ∀ (r : Fin 512) (d : Fin 128), v (ix2 r d) = Y (ix2 (⟨512 * b + r, by omega⟩ : Fin 2048) d))
    (hp : ∀ z w x r, RowSum u v z w x r p) (z : Fin 1) (w : Fin 4) (x : Fin 8) (r : Fin 512) :
    View.TileAt (Val := Elt Ideal) (e := .f32) (S := S1x4x8x512) (ix4 z w x r) off S1x1x8x512.size p
      (((∑ d : Fin 128, O (512 * w + r) d * D (512 * w + r) d : ℝ) : EReal) : Elt Ideal .f32) := by
  intro y hy
  obtain ⟨z', w', x', r', rfl⟩ : ∃ (z' w' : Fin 1) (x' : Fin 8) (r' : Fin 512), y = ix4 z' w' x' r' := ⟨y 0, y 1, y 2, y 3, eq_ix4 y⟩
  have h1 : w.val = off 1 + w'.val := hy 1
  have h3 : r.val = off 3 + r'.val := hy 3
  have e1 : w.val = b := by omega
  have e3 : r' = r := Fin.ext (by omega)
  subst e3
  refine (hp z' w' x' r').trans ?_
  rw [← coe_sum]
  refine Finset.sum_congr rfl fun d _ => ?_
  rw [hu, hv, hX, hY, e1, ← EReal.coe_mul]

theorem sums_at (z : Fin 1) (b : Fin 4) (x : Fin 8) (r : Fin 512) :
    (sumsOf X Y (ix4 z b x r) : EReal) = ((∑ d : Fin 128, O (512 * b + r) d * D (512 * b + r) d : ℝ) : EReal) := by
  have ld : ∀ (Z : Vec Ideal S2048x128 .bf16) (o : ℕ) (inb) (b : ℕ) (hb : b < 4) (ho : o = 512 * b) (r : Fin 512) (d : Fin 128),
      View.ld Z (Rect.unit (s := S2048x128) ![o, 0] S512x128.size inb) (ix2 r d) = Z (ix2 (⟨512 * b + r, by omega⟩ : Fin 2048) d) := by
    intro Z o inb b hb ho r d
    refine congrArg Z (ext2 ?_ ?_)
    · show o + 1 * r.val = 512 * b + r.val; omega
    · show 0 + 1 * d.val = d.val; omega
  unfold sumsOf
  refine View.canon_eq_of_allAt _ _ _ (sums_cover _ _ _ _ _) ?_
  refine View.allAt_cons_unit _ _ _ _ _ (tile_sum hX hY 3 (by omega) ⟨rfl, rfl, rfl, rfl⟩ _ _ _ (ld X _ _ 3 (by omega) rfl) (ld Y _ _ 3 (by omega) rfl) (fun z w x r => pay2_sum _ _ z w x r) z b x r) ?_
  refine View.allAt_cons_unit _ _ _ _ _ (tile_sum hX hY 2 (by omega) ⟨rfl, rfl, rfl, rfl⟩ _ _ _ (ld X _ _ 2 (by omega) rfl) (ld Y _ _ 2 (by omega) rfl) (fun z w x r => pay1_sum _ _ z w x r) z b x r) ?_
  refine View.allAt_cons_unit _ _ _ _ _ (tile_sum hX hY 1 (by omega) ⟨rfl, rfl, rfl, rfl⟩ _ _ _ (ld X _ _ 1 (by omega) rfl) (ld Y _ _ 1 (by omega) rfl) (fun z w x r => pay4_sum _ _ z w x r) z b x r) ?_
  refine View.allAt_cons_unit _ _ _ _ _ (tile_sum hX hY 0 (by omega) ⟨rfl, rfl, rfl, rfl⟩ _ _ _ (ld X _ _ 0 (by omega) rfl) (ld Y _ _ 0 (by omega) rfl) (fun z w x r => pay3_sum _ _ z w x r) z b x r) ?_
  exact View.allAt_nil _ _
end

variable (V : (c : Dev nD) → (b : Ref sig .tc) → Buf (Elt Ideal) ((c : Thread nD τ).loc b)) (c : Dev nD)
variable (Q K U D : ℕ → ℕ → ℕ → ℝ)

def deltaRow (h g : ℕ) : ℝ := delta (Q h) (K h) (U h) (D h) g
def resDelta : S8x32x8x512.Idx → EReal := fun i => ((deltaRow Q K U D (i 0).val (512 * (i 1).val + (i 3).val) : ℝ) : EReal)

/-- The output's columns past the values' are zero. -/
theorem out_delta (h g : ℕ) : ∑ d : Fin 128, outRow Q K U h g d * D h g d = deltaRow Q K U D h g := by
  unfold deltaRow delta
  rw [Fin.sum_univ_eq_sum_range (fun d => outRow Q K U h g d * D h g d) 128]
  rw [sum_upto _ (show 64 ≤ 128 by omega) fun k hk => by unfold outRow; rw [if_neg (by omega), zero_mul]]
  exact Finset.sum_congr rfl fun d hd => by unfold outRow; rw [if_pos (Finset.mem_range.mp hd)]

section
variable (hO : Packed (V c main_v17_0) (outRow Q K U)) (hD : Packed (V c main_v23) D)
include hO hD

theorem delta_point (t : Fin cfg1.N) (z : Fin 1) (b : Fin 4) (x : Fin 8) (r : Fin 512) :
    (sumsOf (iblk1 V c 0 t) (iblk1 V c 1 t) (ix4 z b x r) : EReal) = ((deltaRow Q K U D (t.val / 8) (2048 * (t.val % 8) + (512 * b + r)) : ℝ) : EReal) := by
  obtain ⟨⟨a0, a1⟩, ⟨b0, b1⟩, -⟩ := index1 t
  have ht : t.val < 64 := t.isLt
  refine (sums_at (O := fun g d => outRow Q K U (t.val / 8) (2048 * (t.val % 8) + g) d) (D := fun g d => D (t.val / 8) (2048 * (t.val % 8) + g) d)
    (fun g d => ?_) (fun g d => ?_) z b x r).trans (congrArg Real.toEReal (out_delta Q K U D _ _))
  · exact hO.at ((win1_0.rect t).emb (ix2 g d)) (by omega) d.isLt ((win1_0.rect_emb_val t (ix2 g d) 0).trans (by rw [a0, mul_comm]; rfl))
      ((win1_0.rect_emb_val t (ix2 g d) 1).trans (by rw [a1]; rfl))
  · exact hD.at ((win1_1.rect t).emb (ix2 g d)) (by omega) d.isLt ((win1_1.rect_emb_val t (ix2 g d) 0).trans (by rw [b0, mul_comm]; rfl))
      ((win1_1.rect_emb_val t (ix2 g d) 1).trans (by rw [b1]; rfl))

/-- The array of row sums after the run. -/
theorem final_delta : (dat1 V c).arrAt 2 cfg1.N = resDelta Q K U D := by
  have emb : ∀ (t : Fin cfg1.N) (z : Fin 1) (b : Fin 4) (x : Fin 8) (r : Fin 512), ((cfg1.win 2).blk t).view.emb (ix4 z b x r)
      = ix4 (⟨t.val / 8, Nat.div_lt_of_lt_mul t.isLt⟩ : Fin 8) (⟨4 * (t.val % 8) + b.val, by omega⟩ : Fin 32) x r := fun t z b x r => by
    obtain ⟨e0, e1, e2, e3⟩ := (index1 t).2.2
    exact ext4 ((win1_2.rect_emb_val t (ix4 z b x r) 0).trans (by rw [e0]; show t.val / 8 * 1 + z.val = t.val / 8; omega))
      ((win1_2.rect_emb_val t (ix4 z b x r) 1).trans (by rw [e1]; show t.val % 8 * 4 + b.val = 4 * (t.val % 8) + b.val; omega))
      ((win1_2.rect_emb_val t (ix4 z b x r) 2).trans (by rw [e2]; exact Nat.zero_add _))
      ((win1_2.rect_emb_val t (ix4 z b x r) 3).trans (by rw [e3]; exact Nat.zero_add _))
  refine (dat1 V c).arrAt_eq_of_cover 2 (resDelta Q K U D) (fun t _ => ?_) (fun i => ?_)
  · show (cfg1.win 2).cut (grid1.coords t) ((dat1 V c).after 2 t) = _
    rw [after1_2]
    funext y
    obtain ⟨z, b, x, r, rfl⟩ : ∃ (z : Fin 1) (b : Fin 4) (x : Fin 8) (r : Fin 512), y = ix4 z b x r := ⟨y 0, y 1, y 2, y 3, eq_ix4 y⟩
    refine (delta_point V c Q K U D hO hD t z b x r).trans (Eq.trans ?_ (congrArg (resDelta Q K U D) (emb t z b x r)).symm)
    show _ = ((deltaRow Q K U D (t.val / 8) (512 * (4 * (t.val % 8) + b.val) + r.val) : ℝ) : EReal)
    rw [show 2048 * (t.val % 8) + (512 * b.val + r.val) = 512 * (4 * (t.val % 8) + b.val) + r.val by ring]
  · obtain ⟨h, b, x, r, rfl⟩ : ∃ (h : Fin 8) (b : Fin 32) (x : Fin 8) (r : Fin 512), i = ix4 h b x r := ⟨i 0, i 1, i 2, i 3, eq_ix4 i⟩
    have hh := h.isLt
    have hb := b.isLt
    have ht : 8 * h.val + b.val / 4 < 64 := by omega
    have e : ix4 h b x r = ((cfg1.win 2).blk ⟨8 * h.val + b.val / 4, ht⟩).view.emb (ix4 (0 : Fin 1) (⟨b.val % 4, Nat.mod_lt _ (by decide)⟩ : Fin 4) x r) := by
      refine Eq.trans ?_ (emb ⟨8 * h.val + b.val / 4, ht⟩ 0 ⟨b.val % 4, Nat.mod_lt _ (by decide)⟩ x r).symm
      exact ext4 (by show h.val = (8 * h.val + b.val / 4) / 8; omega) (by show b.val = 4 * ((8 * h.val + b.val / 4) % 8) + b.val % 4; omega) rfl rfl
    exact ⟨⟨8 * h.val + b.val / 4, ht⟩, flush1_2 _, e ▸ View.emb_mem_set _ _⟩

end

end Cert.AttnKernelIdeal.Attn
-- ==== Proof.Attn.Arrays2.lean ====
/- The backward call's three result arrays. -/
module

public import proofs.«01_k».proof.Proof.Attn.Region2
public import proofs.«01_k».proof.Proof.Attn.BwdValue
public import proofs.«01_k».proof.Proof.Attn.Arrays1

@[expose] public section

set_option maxRecDepth 16384

noncomputable section

namespace Cert.AttnKernelIdeal.Attn

open Idealize.ShloMosaic Idealize.ShloMosaic.TcCoe Idealize.SL.Sem
open Idealize.ShloMosaic.Pipeline (Dat)
open Cert.Tools Cert.Attn Cert.Attn.Back Cert.AttnKernelIdeal Cert.AttnKernelIdeal.Gen

theorem coords2 : ∀ t : Fin grid2.N, (grid2.coords t 0).val = t.val / 32 ∧ (grid2.coords t 1).val = t.val % 32 := by decide +kernel

theorem index2 : ∀ t : Fin grid2.N, (win2_0.index t 0 = 0 ∧ win2_0.index t 1 = t.val / 32)
    ∧ (win2_1.index t 0 = 0 ∧ win2_1.index t 1 = t.val / 32)
    ∧ (win2_2.index t 0 = t.val / 32 ∧ win2_2.index t 1 = 0 ∧ win2_2.index t 2 = 0 ∧ win2_2.index t 3 = 0)
    ∧ (win2_3.index t 0 = t.val / 32 ∧ win2_3.index t 1 = 0 ∧ win2_3.index t 2 = 0 ∧ win2_3.index t 3 = 0)
    ∧ (win2_4.index t 0 = t.val % 32 ∧ win2_4.index t 1 = t.val / 32) ∧ (win2_5.index t 0 = t.val % 32 ∧ win2_5.index t 1 = t.val / 32)
    ∧ (win2_6.index t 0 = 0 ∧ win2_6.index t 1 = t.val / 32)
    ∧ (win2_7.index t 0 = t.val % 32 ∧ win2_7.index t 1 = t.val / 32) ∧ (win2_8.index t 0 = t.val % 32 ∧ win2_8.index t 1 = t.val / 32) := by
  decide +kernel

variable (V : (c : Dev nD) → (b : Ref sig .tc) → Buf (Elt Ideal) ((c : Thread nD τ).loc b)) (c : Dev nD)
variable (Q K U D : ℕ → ℕ → ℕ → ℝ)

/-- The gradients, a head's row in each stretch of 128 columns. -/
def dqRow (h g d : ℕ) : ℝ := dquery (Q h) (K h) (U h) (D h) 16384 g d
def dkRow (h k d : ℕ) : ℝ := dkey (Q h) (K h) (U h) (D h) 16384 k d
def dvRow (h k d : ℕ) : ℝ := dvalue (Q h) (K h) (D h) 16384 k d
/-- Such an array, whole. -/
def packed (f : ℕ → ℕ → ℕ → ℝ) : S16384x1024.Idx → EReal := fun i => ((f ((i 1).val / 128) (i 0).val ((i 1).val % 128) : ℝ) : EReal)
theorem packed_packed (f : ℕ → ℕ → ℕ → ℝ) : Packed (packed f) f := fun _ _ _ => rfl

section
variable (hQ : Packed (V c main_v5) Q) (hK : Packed (V c main_v11) K) (hU : Packed (V c main_v16) U) (hD : Packed (V c main_v23) D)
variable (hL : V c main_v17_1 = resLog Q K) (hS : V c main_v24 = resDelta Q K U D)
include hQ hK hU hD hL hS

/-- What a point of the backward grid reads. -/
theorem bwd_real (t : Fin cfg2.N) : BwdReal (t.val % 32) (Q (t.val / 32)) (K (t.val / 32)) (U (t.val / 32)) (D (t.val / 32)) (bwdBlocks V c t) := by
  obtain ⟨⟨a0, a1⟩, ⟨b0, b1⟩, ⟨l0, l1, l2, l3⟩, ⟨s0, s1, s2, s3⟩, ⟨k0, k1⟩, ⟨u0, u1⟩, -⟩ := index2 t
  have ht : t.val < 256 := t.isLt
  refine ⟨fun g d => ?_, fun g d => ?_, fun b r => ?_, fun b r => ?_, fun k d => ?_, fun k d => ?_⟩
  · exact hQ.at ((win2_0.rect t).emb (ix2 g d)) (by omega) d.isLt ((win2_0.rect_emb_val t (ix2 g d) 0).trans (by rw [a0]; exact Nat.zero_add _))
      ((win2_0.rect_emb_val t (ix2 g d) 1).trans (by rw [a1]; rfl))
  · exact hD.at ((win2_1.rect t).emb (ix2 g d)) (by omega) d.isLt ((win2_1.rect_emb_val t (ix2 g d) 0).trans (by rw [b0]; exact Nat.zero_add _))
      ((win2_1.rect_emb_val t (ix2 g d) 1).trans (by rw [b1]; rfl))
  · have e : (win2_2.rect t).emb (ix4 (0 : Fin 1) b (0 : Fin 8) r) = ix4 (⟨t.val / 32, by omega⟩ : Fin 8) b (0 : Fin 8) r :=
      ext4 ((win2_2.rect_emb_val t (ix4 (0 : Fin 1) b (0 : Fin 8) r) 0).trans (by rw [l0]; show t.val / 32 * 1 + 0 = t.val / 32; omega))
        ((win2_2.rect_emb_val t (ix4 (0 : Fin 1) b (0 : Fin 8) r) 1).trans (by rw [l1]; exact Nat.zero_add _))
        ((win2_2.rect_emb_val t (ix4 (0 : Fin 1) b (0 : Fin 8) r) 2).trans (by rw [l2]; rfl))
        ((win2_2.rect_emb_val t (ix4 (0 : Fin 1) b (0 : Fin 8) r) 3).trans (by rw [l3]; exact Nat.zero_add _))
    have h := congrFun hL ((win2_2.rect t).emb (ix4 (0 : Fin 1) b (0 : Fin 8) r))
    refine h.trans ((congrArg (resLog Q K) e).trans ?_)
    unfold resLog logRow; rfl
  · have e : (win2_3.rect t).emb (ix4 (0 : Fin 1) b (0 : Fin 8) r) = ix4 (⟨t.val / 32, by omega⟩ : Fin 8) b (0 : Fin 8) r :=
      ext4 ((win2_3.rect_emb_val t (ix4 (0 : Fin 1) b (0 : Fin 8) r) 0).trans (by rw [s0]; show t.val / 32 * 1 + 0 = t.val / 32; omega))
        ((win2_3.rect_emb_val t (ix4 (0 : Fin 1) b (0 : Fin 8) r) 1).trans (by rw [s1]; exact Nat.zero_add _))
        ((win2_3.rect_emb_val t (ix4 (0 : Fin 1) b (0 : Fin 8) r) 2).trans (by rw [s2]; rfl))
        ((win2_3.rect_emb_val t (ix4 (0 : Fin 1) b (0 : Fin 8) r) 3).trans (by rw [s3]; exact Nat.zero_add _))
    have h := congrFun hS ((win2_3.rect t).emb (ix4 (0 : Fin 1) b (0 : Fin 8) r))
    refine h.trans ((congrArg (resDelta Q K U D) e).trans ?_)
    unfold resDelta deltaRow; rfl
  · exact hK.at ((win2_4.rect t).emb (ix2 k d)) (by omega) d.isLt ((win2_4.rect_emb_val t (ix2 k d) 0).trans (by rw [k0, mul_comm]; rfl))
      ((win2_4.rect_emb_val t (ix2 k d) 1).trans (by rw [k1]; rfl))
  · exact hU.at ((win2_5.rect t).emb (ix2 k d)) (by omega) d.isLt ((win2_5.rect_emb_val t (ix2 k d) 0).trans (by rw [u0, mul_comm]; rfl))
      ((win2_5.rect_emb_val t (ix2 k d) 1).trans (by rw [u1]; rfl))

/-- What a point leaves: the sums of its block of keys, and the queries' sums so far. -/
def After (n : ℕ) (h : n < cfg2.N) : Prop :=
  Kept (n % 32) 32 (Q (n / 32)) (K (n / 32)) (U (n / 32)) (D (n / 32)) (bwdAt V c n h).dk (bwdAt V c n h).dv (bwdAt V c n h).dq

omit hQ hK hU hD hL hS in
theorem zero_array (i : S16384x128.Idx) : (k2_pay41 (F := Ideal) i : EReal) = ((0 : ℝ) : EReal) := by
  obtain ⟨g, d, rfl⟩ : ∃ (g : Fin 16384) (d : Fin 128), i = ix2 g d := ⟨i 0, i 1, eq_ix2 i⟩
  pointwise [k2_pay41]
  simp

theorem after_point (t : Fin cfg2.N) (dq : Vec Ideal S16384x128 .f32)
    (hq : ∀ (g : Fin 16384) (d : Fin 128), (Bwd.dq0 (grid2.coords t) dq (ix2 g d) : EReal)
      = (dquery (Q (t.val / 32)) (K (t.val / 32)) (U (t.val / 32)) (D (t.val / 32)) (512 * (t.val % 32)) g d : EReal)) :
    Kept (t.val % 32) 32 (Q (t.val / 32)) (K (t.val / 32)) (U (t.val / 32)) (D (t.val / 32))
      (Bwd.point (grid2.coords t) (bwdBlocks V c t) dq).dk (Bwd.point (grid2.coords t) (bwdBlocks V c t) dq).dv
      (Bwd.point (grid2.coords t) (bwdBlocks V c t) dq).dq := by
  have h := bwd_real V c Q K U D hQ hK hU hD hL hS t
  have e := (coords2 t).2
  rw [← e] at h hq ⊢
  exact point_value h hq

theorem after_all (n : ℕ) (h : n < cfg2.N) : After V c Q K U D n h := by
  induction n with
  | zero =>
    refine after_point V c Q K U D hQ hK hU hD hL hS ⟨0, h⟩ _ fun g d => ?_
    unfold Bwd.dq0
    rw [if_pos ((cond0_iff ⟨0, h⟩).mpr rfl), zero_array]
    simp [dquery]
  | succ n ih =>
    refine after_point V c Q K U D hQ hK hU hD hL hS ⟨n + 1, h⟩ _ fun g d => ?_
    unfold Bwd.dq0
    by_cases h0 : (n + 1) % 32 = 0
    · rw [if_pos ((cond0_iff ⟨n + 1, h⟩).mpr h0), zero_array]
      simp [dquery, h0]
    · rw [if_neg fun h' => h0 ((cond0_iff ⟨n + 1, h⟩).mp h')]
      have k := (ih (Nat.lt_of_succ_lt h)).dq g d
      have hg := g.isLt
      rw [if_pos (by omega)] at k
      refine k.trans ?_
      rw [show n / 32 = (n + 1) / 32 by omega, show n % 32 + 1 = (n + 1) % 32 by omega]

/-- The keys' gradient array after the run. -/
theorem final_dk : (dat2 V c).arrAt 7 cfg2.N = packed (dkRow Q K U D) := by
  refine (dat2 V c).arrAt_eq_of_cover 7 (packed (dkRow Q K U D)) (fun t _ => ?_) (fun i => ?_)
  · show (cfg2.win 7).cut (grid2.coords t) ((dat2 V c).after 7 t) = _
    rw [after2_7]
    funext y
    obtain ⟨r, l, rfl⟩ : ∃ (r : Fin 512) (l : Fin 128), y = ix2 r l := ⟨y 0, y 1, eq_ix2 y⟩
    obtain ⟨a, b⟩ := (index2 t).2.2.2.2.2.2.2.1
    have ht : t.val < 256 := t.isLt
    exact ((after_all V c Q K U D hQ hK hU hD hL hS t.val t.isLt).dk r l).trans
      ((packed_packed (dkRow Q K U D)).at ((win2_7.rect t).emb (ix2 r l)) (by omega) l.isLt
        ((win2_7.rect_emb_val t (ix2 r l) 0).trans (by rw [a, mul_comm]; rfl)) ((win2_7.rect_emb_val t (ix2 r l) 1).trans (by rw [b]; rfl))).symm
  · obtain ⟨r, l, rfl⟩ : ∃ (r : Fin 16384) (l : Fin 1024), i = ix2 r l := ⟨i 0, i 1, eq_ix2 i⟩
    have hr := r.isLt
    have hl := l.isLt
    have ht : 32 * (l.val / 128) + r.val / 512 < 256 := by omega
    obtain ⟨a, b⟩ := (index2 ⟨32 * (l.val / 128) + r.val / 512, ht⟩).2.2.2.2.2.2.2.1
    have e : ix2 r l = ((cfg2.win 7).blk ⟨32 * (l.val / 128) + r.val / 512, ht⟩).view.emb
        (ix2 (⟨r.val % 512, Nat.mod_lt _ (by decide)⟩ : Fin 512) (⟨l.val % 128, Nat.mod_lt _ (by decide)⟩ : Fin 128)) :=
      ext2 (((win2_7.rect_emb_val _ _ 0).trans (by rw [a]; show (32 * (l.val / 128) + r.val / 512) % 32 * 512 + r.val % 512 = r.val; omega)).symm)
        (((win2_7.rect_emb_val _ _ 1).trans (by rw [b]; show (32 * (l.val / 128) + r.val / 512) / 32 * 128 + l.val % 128 = l.val; omega)).symm)
    exact ⟨_, flush2_7 _, e ▸ View.emb_mem_set _ _⟩

/-- The values' gradient array after the run. -/
theorem final_dv : (dat2 V c).arrAt 8 cfg2.N = packed (dvRow Q K D) := by
  refine (dat2 V c).arrAt_eq_of_cover 8 (packed (dvRow Q K D)) (fun t _ => ?_) (fun i => ?_)
  · show (cfg2.win 8).cut (grid2.coords t) ((dat2 V c).after 8 t) = _
    rw [after2_8]
    funext y
    obtain ⟨r, l, rfl⟩ : ∃ (r : Fin 512) (l : Fin 128), y = ix2 r l := ⟨y 0, y 1, eq_ix2 y⟩
    obtain ⟨a, b⟩ := (index2 t).2.2.2.2.2.2.2.2
    have ht : t.val < 256 := t.isLt
    exact ((after_all V c Q K U D hQ hK hU hD hL hS t.val t.isLt).dv r l).trans
      ((packed_packed (dvRow Q K D)).at ((win2_8.rect t).emb (ix2 r l)) (by omega) l.isLt
        ((win2_8.rect_emb_val t (ix2 r l) 0).trans (by rw [a, mul_comm]; rfl)) ((win2_8.rect_emb_val t (ix2 r l) 1).trans (by rw [b]; rfl))).symm
  · obtain ⟨r, l, rfl⟩ : ∃ (r : Fin 16384) (l : Fin 1024), i = ix2 r l := ⟨i 0, i 1, eq_ix2 i⟩
    have hr := r.isLt
    have hl := l.isLt
    have ht : 32 * (l.val / 128) + r.val / 512 < 256 := by omega
    obtain ⟨a, b⟩ := (index2 ⟨32 * (l.val / 128) + r.val / 512, ht⟩).2.2.2.2.2.2.2.2
    have e : ix2 r l = ((cfg2.win 8).blk ⟨32 * (l.val / 128) + r.val / 512, ht⟩).view.emb
        (ix2 (⟨r.val % 512, Nat.mod_lt _ (by decide)⟩ : Fin 512) (⟨l.val % 128, Nat.mod_lt _ (by decide)⟩ : Fin 128)) :=
      ext2 (((win2_8.rect_emb_val _ _ 0).trans (by rw [a]; show (32 * (l.val / 128) + r.val / 512) % 32 * 512 + r.val % 512 = r.val; omega)).symm)
        (((win2_8.rect_emb_val _ _ 1).trans (by rw [b]; show (32 * (l.val / 128) + r.val / 512) / 32 * 128 + l.val % 128 = l.val; omega)).symm)
    exact ⟨_, flush2_8 _, e ▸ View.emb_mem_set _ _⟩

/-- The queries' gradient array after the run. -/
theorem final_dq : (dat2 V c).arrAt 6 cfg2.N = packed (dqRow Q K U D) := by
  refine (dat2 V c).arrAt_eq_of_cover 6 (packed (dqRow Q K U D)) (fun t hf => ?_) (fun i => ?_)
  · have h31 := (flush2_6 t).mp hf
    show (cfg2.win 6).cut (grid2.coords t) ((dat2 V c).after 6 t) = _
    rw [after2_6]
    funext y
    obtain ⟨r, l, rfl⟩ : ∃ (r : Fin 16384) (l : Fin 128), y = ix2 r l := ⟨y 0, y 1, eq_ix2 y⟩
    obtain ⟨a, b⟩ := (index2 t).2.2.2.2.2.2.1
    have ht : t.val < 256 := t.isLt
    have hr := r.isLt
    have k := (after_all V c Q K U D hQ hK hU hD hL hS t.val t.isLt).dq r l
    rw [if_pos (by omega), h31] at k
    exact k.trans
      ((packed_packed (dqRow Q K U D)).at ((win2_6.rect t).emb (ix2 r l)) (by omega) l.isLt
        ((win2_6.rect_emb_val t (ix2 r l) 0).trans (by rw [a]; exact Nat.zero_add _)) ((win2_6.rect_emb_val t (ix2 r l) 1).trans (by rw [b]; rfl))).symm
  · obtain ⟨r, l, rfl⟩ : ∃ (r : Fin 16384) (l : Fin 1024), i = ix2 r l := ⟨i 0, i 1, eq_ix2 i⟩
    have hl := l.isLt
    have ht : 32 * (l.val / 128) + 31 < 256 := by omega
    obtain ⟨a, b⟩ := (index2 ⟨32 * (l.val / 128) + 31, ht⟩).2.2.2.2.2.2.1
    have e : ix2 r l = ((cfg2.win 6).blk ⟨32 * (l.val / 128) + 31, ht⟩).view.emb (ix2 r (⟨l.val % 128, Nat.mod_lt _ (by decide)⟩ : Fin 128)) :=
      ext2 (((win2_6.rect_emb_val _ _ 0).trans (by rw [a]; exact Nat.zero_add _)).symm)
        (((win2_6.rect_emb_val _ _ 1).trans (by rw [b]; show (32 * (l.val / 128) + 31) / 32 * 128 + l.val % 128 = l.val; omega)).symm)
    exact ⟨⟨32 * (l.val / 128) + 31, ht⟩, (flush2_6 _).mpr (by show (32 * (l.val / 128) + 31) % 32 = 31; omega), e ▸ View.emb_mem_set _ _⟩

end

end Cert.AttnKernelIdeal.Attn
-- ==== Proof.Attn.Final.lean ====
/- What the attention call's program leaves in its four results, as real functions of its arguments. -/
module

public import proofs.«01_k».proof.Proof.Attn.Heads
public import proofs.«01_k».proof.Proof.Attn.Arrays2

@[expose] public section

set_option maxRecDepth 16384

noncomputable section

namespace Cert.AttnKernelIdeal.Attn

open Idealize.ShloMosaic Idealize.ShloMosaic.TcCoe Idealize.SL.Sem
open Cert.Tools Cert.Attn Cert.AttnKernelIdeal Cert.AttnKernelIdeal.Gen

variable (m : (ℓ : Loc nD τ sig) → Buf (Elt Ideal) ℓ) (c : Dev nD)

/-- Every argument is finite. -/
structure FiniteArgs : Prop where
  a0 : Finite (s := S16384x8x64) (m ((c : Thread nD τ).loc main_arg0))
  a1 : Finite (s := S16384x8x32) (m ((c : Thread nD τ).loc main_arg1))
  a2 : Finite (s := S16384x8x64) (m ((c : Thread nD τ).loc main_arg2))
  a3 : Finite (s := S16384x32) (m ((c : Thread nD τ).loc main_arg3))
  a4 : Finite (s := S16384x8x64) (m ((c : Thread nD τ).loc main_arg4))
  a5 : Finite (s := S16384x512) (m ((c : Thread nD τ).loc main_arg5))

variable {m c} (f : FiniteArgs m c)
include f

theorem query_packed : Packed (W3 m c (Proc.devRef .tc main_v5)) (rowQ m c) := fun g l _ => by
  rw [W3_query]; exact packQ_at f.a0 f.a1 g l
theorem key_packed : Packed (W5 m c (Proc.devRef .tc main_v11)) (rowK m c) := fun g l _ => by
  rw [W5_key]; exact packK_at f.a2 f.a3 g l
theorem value_packed : Packed (W7 m c (Proc.devRef .tc main_v16)) (rowV m c) := fun g l _ => by
  rw [W7_value]; exact packV_at f.a4 g l
theorem cot_packed : Packed (W11 m c (Proc.devRef .tc main_v23)) (rowD m c) := fun g l h => by
  rw [W11_cot]; exact packD_at f.a5 g l h

omit f in
theorem query_kept : E0 m c main_v5 = W3 m c (Proc.devRef .tc main_v5) :=
  (W7_of m c main_v5 (by decide)).trans ((W6_of m c main_v5 (by decide)).trans ((W5_of m c main_v5 (by decide)).trans (W4_of m c main_v5 (by decide))))
omit f in
theorem key_kept : E0 m c main_v11 = W5 m c (Proc.devRef .tc main_v11) :=
  (W7_of m c main_v11 (by decide)).trans (W6_of m c main_v11 (by decide))
omit f in
/-- What the forward call reads the backward call reads again. -/
theorem later (r : Ref sig .tc) (h0 : ∀ w : Fin cfg0.W, Pipeline.arrRef spec0 w = r → (cfg0.win w).isOut = false)
    (h1 : r ∉ hostOps1_W) (h2 : r ∉ hostOps1_1_W) (h3 : r ∉ hostOps1_2_W)
    (h4 : ∀ w : Fin cfg1.W, Pipeline.arrRef spec1 w = r → (cfg1.win w).isOut = false) : E2 m c r = E0 m c r :=
  (W12_of m c r h4).trans ((W11_of m c r h3).trans ((W10_of m c r h2).trans ((W9_of m c r h1).trans (W8_of m c r h0))))

theorem q0 : Packed (E0 m c main_v5) (rowQ m c) := by rw [query_kept]; exact query_packed f
theorem k0 : Packed (E0 m c main_v11) (rowK m c) := by rw [key_kept]; exact key_packed f
theorem v0 : Packed (E0 m c main_v16) (rowV m c) := value_packed f
omit f in
theorem ones (h k : ℕ) (_ : h < 8) (_ : k < 16384) : rowV m c h k 64 = 1 := by
  unfold rowV valueRow; norm_num

theorem o1 : Packed (E1 m c main_v17_0) (outRow (rowQ m c) (rowK m c) (rowV m c)) := by
  have e : E1 m c main_v17_0 = resOut (rowQ m c) (rowK m c) (rowV m c) :=
    (W11_of m c main_v17_0 (by decide)).trans ((W10_of m c main_v17_0 (by decide)).trans ((W9_of m c main_v17_0 (by decide)).trans
      ((W8_arr m c 3).trans (final_out (E0 m) c _ _ _ (q0 f) (k0 f) (v0 f) ones))))
  rw [e]; exact resOut_packed _ _ _

theorem q2 : Packed (E2 m c main_v5) (rowQ m c) := by
  rw [later main_v5 (by decide) (by decide) (by decide) (by decide) (by decide)]; exact q0 f
theorem k2 : Packed (E2 m c main_v11) (rowK m c) := by
  rw [later main_v11 (by decide) (by decide) (by decide) (by decide) (by decide)]; exact k0 f
theorem v2 : Packed (E2 m c main_v16) (rowV m c) := by
  rw [later main_v16 (by decide) (by decide) (by decide) (by decide) (by decide)]; exact v0 f
theorem d2 : Packed (E2 m c main_v23) (rowD m c) := by
  rw [show E2 m c main_v23 = W11 m c (Proc.devRef .tc main_v23) from W12_of m c main_v23 (by decide)]; exact cot_packed f
theorem l2 : E2 m c main_v17_1 = resLog (rowQ m c) (rowK m c) :=
  (W12_of m c main_v17_1 (by decide)).trans ((W11_of m c main_v17_1 (by decide)).trans ((W10_of m c main_v17_1 (by decide)).trans ((W9_of m c main_v17_1 (by decide)).trans
      ((W8_arr m c 4).trans (final_log (E0 m) c _ _ _ (q0 f) (k0 f) (v0 f) ones)))))
theorem s2 : E2 m c main_v24 = resDelta (rowQ m c) (rowK m c) (rowV m c) (rowD m c) :=
  (W12_arr m c 2).trans (final_delta (E1 m) c _ _ _ _ (o1 f) (cot_packed f))

theorem dq_array : W13 m c (Proc.devRef .tc main_v25_0) = packed (dqRow (rowQ m c) (rowK m c) (rowV m c) (rowD m c)) :=
  (W13_arr m c 6).trans (final_dq (E2 m) c _ _ _ _ (q2 f) (k2 f) (v2 f) (d2 f) (l2 f) (s2 f))
theorem dk_array : W13 m c (Proc.devRef .tc main_v25_1) = packed (dkRow (rowQ m c) (rowK m c) (rowV m c) (rowD m c)) :=
  (W13_arr m c 7).trans (final_dk (E2 m) c _ _ _ _ (q2 f) (k2 f) (v2 f) (d2 f) (l2 f) (s2 f))
theorem dv_array : W13 m c (Proc.devRef .tc main_v25_2) = packed (dvRow (rowQ m c) (rowK m c) (rowD m c)) :=
  (W13_arr m c 8).trans (final_dv (E2 m) c _ _ _ _ (q2 f) (k2 f) (v2 f) (d2 f) (l2 f) (s2 f))

omit f
/-! ## The last host lines -/

def cutQ (a : S16384x1024.Idx → EReal) : S16384x8x96.Idx → EReal :=
  extractStridedSlice S16384x8x96 ![0, 0, 0] (mulf (F := Ideal) (φ := .f32) (shapeCast S16384x8x128 a shapeCasts_S16384x1024_S16384x8x128)
    (broadcastInDim S16384x8x128 ![] bcast_S_S16384x8x128 (constant (F := Ideal) S_ .f32 1037108716#32))) slices_S16384x8x128_S16384x8x96_0_0_0
def cutK (a : S16384x1024.Idx → EReal) : S16384x8x96.Idx → EReal :=
  extractStridedSlice S16384x8x96 ![0, 0, 0] (shapeCast S16384x8x128 a shapeCasts_S16384x1024_S16384x8x128) slices_S16384x8x128_S16384x8x96_0_0_0
def cutV (a : S16384x1024.Idx → EReal) : S16384x8x64.Idx → EReal :=
  extractStridedSlice S16384x8x64 ![0, 0, 0] (shapeCast S16384x8x128 a shapeCasts_S16384x1024_S16384x8x128) slices_S16384x8x128_S16384x8x64_0_0_0

theorem W14_dq : W14 m c (Proc.devRef .tc main_v31) = cutQ (W13 m c (Proc.devRef .tc main_v25_0)) := by
  simp only [W14, hostOps3]; after_reads_simp; rfl
theorem W14_dk : W14 m c (Proc.devRef .tc main_v32) = cutK (W13 m c (Proc.devRef .tc main_v25_1)) := by
  simp only [W14, hostOps3]; after_reads_simp; rfl
theorem W14_dv : W14 m c (Proc.devRef .tc main_v33) = cutV (W13 m c (Proc.devRef .tc main_v25_2)) := by
  simp only [W14, hostOps3]; after_reads_simp; rfl
/-- The output's lanes of the heads, side by side. -/
def cutO (a : S16384x1024.Idx → EReal) : S16384x512.Idx → EReal := shapeCast S16384x512 (cutV a) shapeCasts_S16384x8x64_S16384x512

theorem W14_out : W14 m c (Proc.devRef .tc main_v36) = cutO (W13 m c (Proc.devRef .tc main_v17_0)) := by
  simp only [W14, hostOps3]; after_reads_simp; rfl

theorem cutQ_at (r : ℕ → ℕ → ℕ → ℝ) (g : Fin 16384) (h : Fin 8) (d : Fin 96) : cutQ (packed r) (ix3 g h d) = ((r h g d * factor : ℝ) : EReal) := by
  pointwise [cutQ]
  rw [bits_factor, (packed_packed r).at _ h.isLt (show d.val < 128 by omega) rfl rfl, ← EReal.coe_mul]
  rfl
theorem cutK_at (r : ℕ → ℕ → ℕ → ℝ) (g : Fin 16384) (h : Fin 8) (d : Fin 96) : cutK (packed r) (ix3 g h d) = ((r h g d : ℝ) : EReal) := by
  pointwise [cutK]
  exact (packed_packed r).at _ h.isLt (show d.val < 128 by omega) rfl rfl
theorem cutV_at (r : ℕ → ℕ → ℕ → ℝ) (g : Fin 16384) (h : Fin 8) (d : Fin 64) : cutV (packed r) (ix3 g h d) = ((r h g d : ℝ) : EReal) := by
  pointwise [cutV]
  exact (packed_packed r).at _ h.isLt (show d.val < 128 by omega) rfl rfl

theorem cutO_at {a : S16384x1024.Idx → EReal} {r : ℕ → ℕ → ℕ → ℝ} (ha : Packed a r) (g : Fin 16384) (l : Fin 512) :
    cutO a (ix2 g l) = ((r (l.val / 64) g (l.val % 64) : ℝ) : EReal) := by
  pointwise [cutO, cutV]
  exact ha.at _ (by omega) (show l.val % 64 < 128 by omega) rfl rfl

/-- The four results. -/
def resDq (m : (ℓ : Loc nD τ sig) → Buf (Elt Ideal) ℓ) (c : Dev nD) : S16384x8x96.Idx → EReal :=
  fun i => ((dqRow (rowQ m c) (rowK m c) (rowV m c) (rowD m c) (i 1).val (i 0).val (i 2).val * factor : ℝ) : EReal)
def resDk (m : (ℓ : Loc nD τ sig) → Buf (Elt Ideal) ℓ) (c : Dev nD) : S16384x8x96.Idx → EReal :=
  fun i => ((dkRow (rowQ m c) (rowK m c) (rowV m c) (rowD m c) (i 1).val (i 0).val (i 2).val : ℝ) : EReal)
def resDv (m : (ℓ : Loc nD τ sig) → Buf (Elt Ideal) ℓ) (c : Dev nD) : S16384x8x64.Idx → EReal :=
  fun i => ((dvRow (rowQ m c) (rowK m c) (rowD m c) (i 1).val (i 0).val (i 2).val : ℝ) : EReal)
def resO (m : (ℓ : Loc nD τ sig) → Buf (Elt Ideal) ℓ) (c : Dev nD) : S16384x512.Idx → EReal :=
  fun i => ((outRow (rowQ m c) (rowK m c) (rowV m c) ((i 1).val / 64) (i 0).val ((i 1).val % 64) : ℝ) : EReal)

include f
theorem final_31 : W14 m c (Proc.devRef .tc main_v31) = resDq m c := by
  rw [W14_dq, dq_array f]
  funext i
  obtain ⟨g, h, d, rfl⟩ : ∃ (g : Fin 16384) (h : Fin 8) (d : Fin 96), i = ix3 g h d := ⟨i 0, i 1, i 2, eq_ix3 i⟩
  exact cutQ_at _ g h d
theorem final_32 : W14 m c (Proc.devRef .tc main_v32) = resDk m c := by
  rw [W14_dk, dk_array f]
  funext i
  obtain ⟨g, h, d, rfl⟩ : ∃ (g : Fin 16384) (h : Fin 8) (d : Fin 96), i = ix3 g h d := ⟨i 0, i 1, i 2, eq_ix3 i⟩
  exact cutK_at _ g h d
theorem final_33 : W14 m c (Proc.devRef .tc main_v33) = resDv m c := by
  rw [W14_dv, dv_array f]
  funext i
  obtain ⟨g, h, d, rfl⟩ : ∃ (g : Fin 16384) (h : Fin 8) (d : Fin 64), i = ix3 g h d := ⟨i 0, i 1, i 2, eq_ix3 i⟩
  exact cutV_at _ g h d
theorem final_36 : W14 m c (Proc.devRef .tc main_v36) = resO m c := by
  rw [W14_out, W13_of m c main_v17_0 (by decide), W12_of m c main_v17_0 (by decide)]
  funext i
  obtain ⟨g, l, rfl⟩ : ∃ (g : Fin 16384) (l : Fin 512), i = ix2 g l := ⟨i 0, i 1, eq_ix2 i⟩
  exact cutO_at (o1 f) g l

end Cert.AttnKernelIdeal.Attn
-- ==== Proof.Attn.Claims.lean ====
module

public import proofs.«01_k».proof.Defs
public import proofs.«01_k».proof.Proof.Attn.Reference
public import proofs.«01_k».proof.Proof.Attn.Final
public import proofs.«01_k».proof.Proof.Gen.Pre_attn_finite
public import proofs.«01_k».proof.Proof.Gen.AttnKernel
public import proofs.«01_k».proof.Proof.Gen.AttnReferenceIdeal.Run

@[expose] public section

set_option maxRecDepth 16384

noncomputable section

namespace Cert.Attn

open Idealize.ShloMosaic Idealize.ShloMosaic.TcCoe Idealize.SL.Sem

/-- At the bits a named constant is its own pattern. -/
local instance : Named Bits where
  named _ _ {φ} b := FloatOps.ofBits (F := Bits) φ b

/-- At the bits the two printed kernels are one program. -/
theorem same_program (m : (ℓ : Loc Cert.AttnKernel.nD Cert.AttnKernel.τ Cert.AttnKernel.sig) → Buf (Elt Bits) ℓ) (ρ : Dev Cert.AttnKernel.nD → PrngReg) :
    θ_run (Cert.AttnKernelIdeal.defs (F := Bits)) (onTc (τ := Cert.AttnKernelIdeal.τ) (Cert.AttnKernelIdeal.main (F := Bits))) ⟨m, fun _ => 0, ρ⟩
      = θ_run (Cert.AttnKernel.defs (F := Bits)) (onTc (τ := Cert.AttnKernel.τ) (Cert.AttnKernel.main (F := Bits))) ⟨m, fun _ => 0, ρ⟩ := by
  sl_kernel_rfl

theorem frame_kernel : Cert.quiescent_AttnKernel := fun m ρ _ => by
  have h := Cert.AttnKernelIdeal.Attn.unchanged (F := Bits) m ρ
  rw [same_program] at h
  exact h

theorem frame_kernelIdeal : Cert.quiescent_AttnKernelIdeal := fun m ρ _ =>
  Cert.AttnKernelIdeal.Attn.unchanged m ρ

theorem frame_kernelIdeal_finite : Cert.quiescent_AttnKernelIdeal_pre_attn_finite := fun m ρ _ =>
  Cert.AttnKernelIdeal.Attn.unchanged m ρ

theorem frame_reference : Cert.quiescent_AttnReferenceIdeal := fun m ρ _ =>
  (θ_run _ _ _).mono (fun r h => ⟨fun c => (h c).2.2.2.2, sem_eq_zero_of_no_sems (sig := Cert.AttnReferenceIdeal.sig) (by decide) r.2⟩) (Cert.AttnReferenceIdeal.Value.run m ρ)

theorem frame_reference_finite : Cert.quiescent_AttnReferenceIdeal_pre_attn_finite := fun m ρ _ => frame_reference m ρ trivial

theorem preserves : Cert.preserves_AttnKernel_AttnKernelIdeal :=
  IdealRules.named_const.statement Cert.AttnKernelIdeal.κ "mask" .f32 0xF149F2CA#32 ⊥ rfl

open Cert.Tools Cert.AttnKernelIdeal.Attn

/-- The precondition says of each argument that it is finite. -/
theorem finite_args {m : (ℓ : Loc Cert.AttnKernelIdeal.nD Cert.AttnKernelIdeal.τ Cert.AttnKernelIdeal.sig) → Buf (Elt Ideal) ℓ}
    (hp : Cert.Pre_AttnKernelIdeal_attn_finite m) (c : Dev Cert.AttnKernelIdeal.nD) : FiniteArgs m c :=
  ⟨finite_of_lt _ _ (fun _ => rfl) (hp c).1, finite_of_lt _ _ (fun _ => rfl) (hp c).2.1, finite_of_lt _ _ (fun _ => rfl) (hp c).2.2.1,
    finite_of_lt _ _ (fun _ => rfl) (hp c).2.2.2.1, finite_of_lt _ _ (fun _ => rfl) (hp c).2.2.2.2.1,
    finite_of_lt _ _ (fun _ => rfl) (hp c).2.2.2.2.2⟩

theorem algebraic : Cert.algebraic_AttnKernelIdeal_AttnReferenceIdeal_pre_attn_finite := fun m ρ m' ρ' hp hm =>
  ⟨fun c => resDq m c, fun c => resDk m c, fun c => resDv m c, fun c => resO m c,
    (θ_run _ _ _).mono (fun r h c =>
        have f := finite_args hp c
        ⟨(h.1 c).1.1.trans (final_31 f), (h.1 c).1.2.1.trans (final_32 f), (h.1 c).1.2.2.1.trans (final_33 f),
          (h.1 c).1.2.2.2.trans (final_36 f), (h.1 c).2⟩)
      (run_main m ρ),
    (θ_run _ _ _).mono (fun r h c => by
        have f := finite_args hp c
        obtain ⟨h0, h1, h2, h3, h4, h5⟩ := hm c
        refine ⟨(h c).1.trans ?_, (h c).2.1.trans ?_, (h c).2.2.1.trans ?_, (h c).2.2.2.1.trans ?_, (h c).2.2.2.2⟩
        · rw [Cert.AttnReferenceIdeal.Read.val_main_v68_eq, h0, h1, h2, h3, h4, h5]
          funext i
          obtain ⟨g, k, d, rfl⟩ : ∃ (g : Fin 16384) (k : Fin 8) (d : Fin 96), i = ix3 g k d := ⟨i 0, i 1, i 2, eq_ix3 i⟩
          exact Ref.dq_real f.a0 f.a1 f.a2 f.a3 f.a4 f.a5 g k d
        · rw [Cert.AttnReferenceIdeal.Read.val_main_v69_eq, h0, h1, h2, h3, h4, h5]
          funext i
          obtain ⟨g, k, d, rfl⟩ : ∃ (g : Fin 16384) (k : Fin 8) (d : Fin 96), i = ix3 g k d := ⟨i 0, i 1, i 2, eq_ix3 i⟩
          exact Ref.dk_real f.a0 f.a1 f.a2 f.a3 f.a4 f.a5 g k d
        · rw [Cert.AttnReferenceIdeal.Read.val_main_v70_eq, h0, h1, h2, h3, h5]
          funext i
          obtain ⟨g, k, d, rfl⟩ : ∃ (g : Fin 16384) (k : Fin 8) (d : Fin 64), i = ix3 g k d := ⟨i 0, i 1, i 2, eq_ix3 i⟩
          exact Ref.dv_real f.a0 f.a1 f.a2 f.a3 f.a5 g k d
        · rw [Cert.AttnReferenceIdeal.Read.val_main_v71_eq, h0, h1, h2, h3, h4]
          funext i
          obtain ⟨g, l, rfl⟩ : ∃ (g : Fin 16384) (l : Fin 512), i = ix2 g l := ⟨i 0, i 1, eq_ix2 i⟩
          refine (Ref.out_real f.a0 f.a1 f.a2 f.a3 f.a4 g l).trans (congrArg Real.toEReal ?_)
          exact (if_pos (Nat.mod_lt _ (by norm_num))).symm)
      (Cert.AttnReferenceIdeal.Value.run m' ρ')⟩

end Cert.Attn

end
-- ==== Proof.Sgu.Block.lean ====
module

public import proofs.«01_k».proof.Proof.Gen.SguKernelIdeal.Skeleton
public import proofs.«01_k».proof.Proof.Tools.Arrays

/-! One chunk of the spatial gating's gradient.

A chunk is 128 rows of 512 lanes. Its lanes are mixed over the rows in four blocks of 128 lanes; a block's weights are two
128 × 128 matrices on top of each other, the upper one for the block's first 64 lanes, the lower one for the other 64. -/

@[expose] public section

set_option maxRecDepth 16384

noncomputable section

namespace Cert.Sgu

open Cert.SguKernelIdeal Cert.SguKernelIdeal.Gen Cert.Tools
open Idealize.ShloMosaic Idealize.ShloMosaic.TcCoe

/-! ## One block of lanes -/

/-- 128 lanes mixed over the rows with both matrices, the lane choosing between them. -/
def mixLanes (w : Vec Ideal S1x256x128 .bf16) (x : FVec Ideal S128x128 .bf16) : FVec Ideal S128x128 .f32 :=
  have q : FVec Ideal S256x128 .bf16 := shapeCast S256x128 w shapeCasts_S1x256x128_S256x128
  have p : FVec Ideal S256x128 .f32 := matmul dot_S256x128_S128x128_S256x128_1_0_0_1_n_n none q x (constant S256x128 .f32 0x00000000#32)
  select k0_pay17 (extractStridedSlice S128x128 ![0, 0] p slices_S256x128_o0_0_S128x128) (extractStridedSlice S128x128 ![128, 0] p slices_S256x128_o128_0_S128x128)

theorem lane_bit : ∀ l : Fin 128, IntOp.cmpi CmpIPredicate.slt (BitVec.ofNat 32 l.val) 64#32 = if l.val < 64 then 1#1 else 0#1 := by decide +kernel

theorem lane_select (l : Fin 128) (x y : EReal) : Scalar.select (IntOp.cmpi CmpIPredicate.slt (BitVec.ofNat 32 l.val) 64#32) x y = if l.val < 64 then x else y := by
  rw [lane_bit l]
  split_ifs <;> rfl

/-- The row of the stacked weights that a lane takes. -/
def stack (l r : ℕ) : ℕ := if l < 64 then r else 128 + r

theorem mixLanes_at {w : Vec Ideal S1x256x128 .bf16} {x : FVec Ideal S128x128 .bf16} {W X : ℕ → ℕ → EReal}
    (hw : ∀ (a : Fin 256) (s : Fin 128), (w (ix3 0 a s) : EReal) = W a s) (hx : ∀ s l : Fin 128, (x (ix2 s l) : EReal) = X s l) (r l : Fin 128) :
    (mixLanes w x (ix2 r l) : EReal) = ∑ s : Fin 128, W (stack l r) s * X s l := by
  pointwise [mixLanes, k0_pay17]
  simp only [hw, hx]
  rw [lane_select]
  unfold stack
  split_ifs <;> simp

/-! ## The whole chunk -/

def mix (w0 w1 w2 w3 : Vec Ideal S1x256x128 .bf16) (x : FVec Ideal S128x512 .bf16) : FVec Ideal S128x512 .f32 :=
  concatenate S128x512 1 [⟨S128x128, mixLanes w0 (extractStridedSlice S128x128 ![0, 0] x slices_S128x512_o0_0_S128x128)⟩,
    ⟨S128x128, mixLanes w1 (extractStridedSlice S128x128 ![0, 128] x slices_S128x512_o0_128_S128x128)⟩,
    ⟨S128x128, mixLanes w2 (extractStridedSlice S128x128 ![0, 256] x slices_S128x512_o0_256_S128x128)⟩,
    ⟨S128x128, mixLanes w3 (extractStridedSlice S128x128 ![0, 384] x slices_S128x512_o0_384_S128x128)⟩] concatenates_S128x128_S128x128_S128x128_S128x128_S128x512_d1

/-- A chunk mixed: the block of lanes and the lane in it choose the weights. -/
def mixed (W : ℕ → ℕ → ℕ → EReal) (X : ℕ → ℕ → EReal) (r l : ℕ) : EReal := ∑ s : Fin 128, W (l / 128) (stack (l % 128) r) s * X s l

/-- The chunk's gradient by the gate, and by the mixed values. -/
def chunkU (w0 w1 w2 w3 : Vec Ideal S1x256x128 .bf16) (d v : Vec Ideal S128x512 .bf16) (b : Vec Ideal S128x512 .f32) : FVec Ideal S128x512 .bf16 :=
  truncf .bf16 (mulf (extf .f32 (shapeCast S128x512 d shapeCasts_S128x512_S128x512) bitsLt_bf16_f32)
    (addf (mix w0 w1 w2 w3 (shapeCast S128x512 v shapeCasts_S128x512_S128x512)) (shapeCast S128x512 b shapeCasts_S128x512_S128x512))) bitsLt_bf16_f32

def chunkV (w0 w1 w2 w3 : Vec Ideal S1x256x128 .bf16) (d u : Vec Ideal S128x512 .bf16) : FVec Ideal S128x512 .bf16 :=
  truncf .bf16 (mix w0 w1 w2 w3 (truncf .bf16 (mulf (extf .f32 (shapeCast S128x512 d shapeCasts_S128x512_S128x512) bitsLt_bf16_f32)
    (extf .f32 (shapeCast S128x512 u shapeCasts_S128x512_S128x512) bitsLt_bf16_f32)) bitsLt_bf16_f32)) bitsLt_bf16_f32

section

variable {w0 w1 w2 w3 : Vec Ideal S1x256x128 .bf16} {W : ℕ → ℕ → ℕ → EReal}
  (h0 : ∀ (a : Fin 256) (s : Fin 128), (w0 (ix3 0 a s) : EReal) = W 0 a s) (h1 : ∀ (a : Fin 256) (s : Fin 128), (w1 (ix3 0 a s) : EReal) = W 1 a s)
  (h2 : ∀ (a : Fin 256) (s : Fin 128), (w2 (ix3 0 a s) : EReal) = W 2 a s) (h3 : ∀ (a : Fin 256) (s : Fin 128), (w3 (ix3 0 a s) : EReal) = W 3 a s)

include h0 h1 h2 h3 in
theorem mix_at {x : FVec Ideal S128x512 .bf16} {X : ℕ → ℕ → EReal} (hx : ∀ (s : Fin 128) (l : Fin 512), (x (ix2 s l) : EReal) = X s l) (r : Fin 128) (l : Fin 512) :
    (mix w0 w1 w2 w3 x (ix2 r l) : EReal) = mixed W X r l := by
  have hl := l.isLt
  have e0 := mixLanes_at (x := extractStridedSlice S128x128 ![0, 0] x slices_S128x512_o0_0_S128x128) (X := fun s l => X s (0 + l)) h0 (fun s l => by pointwise []; exact hx s _)
  have e1 := mixLanes_at (x := extractStridedSlice S128x128 ![0, 128] x slices_S128x512_o0_128_S128x128) (X := fun s l => X s (128 + l)) h1 (fun s l => by pointwise []; exact hx s _)
  have e2 := mixLanes_at (x := extractStridedSlice S128x128 ![0, 256] x slices_S128x512_o0_256_S128x128) (X := fun s l => X s (256 + l)) h2 (fun s l => by pointwise []; exact hx s _)
  have e3 := mixLanes_at (x := extractStridedSlice S128x128 ![0, 384] x slices_S128x512_o0_384_S128x128) (X := fun s l => X s (384 + l)) h3 (fun s l => by pointwise []; exact hx s _)
  pointwise [mix]
  have close : ∀ j q : ℕ, q < 128 → 128 * j + q = l.val → ∑ s : Fin 128, W j (stack q r) s * X s (128 * j + q) = mixed W X r l := by
    intro j q hq h
    unfold mixed
    rw [show l.val / 128 = j by omega, show l.val % 128 = q by omega, h]
  by_cases c0 : l.val < 128
  · rw [dif_pos c0]
    exact (e0 r _).trans (close 0 l.val c0 (by omega))
  rw [dif_neg c0]
  by_cases c1 : l.val - 128 < 128
  · rw [dif_pos c1]
    exact (e1 r _).trans (close 1 (l.val - 128) c1 (by omega))
  rw [dif_neg c1]
  by_cases c2 : l.val - 128 - 128 < 128
  · rw [dif_pos c2]
    exact (e2 r _).trans (close 2 (l.val - 128 - 128) c2 (by omega))
  rw [dif_neg c2]
  exact (e3 r _).trans (close 3 (l.val - 128 - 128 - 128) (by omega) (by omega))

include h0 h1 h2 h3 in
theorem chunkU_at {d v : Vec Ideal S128x512 .bf16} {b : Vec Ideal S128x512 .f32} {D V B : ℕ → ℕ → EReal}
    (hd : ∀ (s : Fin 128) (l : Fin 512), (d (ix2 s l) : EReal) = D s l) (hv : ∀ (s : Fin 128) (l : Fin 512), (v (ix2 s l) : EReal) = V s l)
    (hb : ∀ (s : Fin 128) (l : Fin 512), (b (ix2 s l) : EReal) = B s l) (r : Fin 128) (l : Fin 512) :
    (chunkU w0 w1 w2 w3 d v b (ix2 r l) : EReal) = D r l * (mixed W V r l + B r l) := by
  pointwise [chunkU]
  rw [hd, hb, mix_at h0 h1 h2 h3 hv]

include h0 h1 h2 h3 in
theorem chunkV_at {d u : Vec Ideal S128x512 .bf16} {D U : ℕ → ℕ → EReal}
    (hd : ∀ (s : Fin 128) (l : Fin 512), (d (ix2 s l) : EReal) = D s l) (hu : ∀ (s : Fin 128) (l : Fin 512), (u (ix2 s l) : EReal) = U s l) (r : Fin 128) (l : Fin 512) :
    (chunkV w0 w1 w2 w3 d u (ix2 r l) : EReal) = mixed W (fun s l => D s l * U s l) r l := by
  unfold chunkV
  refine mix_at h0 h1 h2 h3 (X := fun s l => D s l * U s l) (fun s l => ?_) r l
  pointwise []
  rw [hd, hu]

end

end Cert.Sgu

end
-- ==== Proof.Sgu.Points.lean ====
module

public import proofs.«01_k».proof.Proof.Gen.SguKernelIdeal.Frame
public import proofs.«01_k».proof.Proof.Sgu.Block
public import Idealize.ShloMosaic.Lib.Pipeline.ValueKit.Tiles

/-! The spatial gating's gradient: what a grid point leaves in its blocks of the two results.

A point has 1024 rows, which are eight chunks. -/

@[expose] public section

set_option maxRecDepth 16384

noncomputable section

namespace Cert.Sgu

open Cert.SguKernelIdeal Cert.SguKernelIdeal.Gen Cert.Tools
open Idealize.ShloMosaic Idealize.ShloMosaic.TcCoe Idealize.SL.Sem

/-- What the six operands hold, by row and column: the cotangent, the mixed and the gating values, the two stacks of weights, the bias. -/
structure Data where
  (D V U : ℕ → ℕ → EReal)
  (W T : ℕ → ℕ → ℕ → EReal)
  (B : ℕ → ℕ → EReal)

namespace Data

variable (w : Data)

/-- The two results, by row and column. -/
def du (r l : ℕ) : EReal := w.D r l * (mixed w.W (fun s => w.V (r / 128 * 128 + s)) (r % 128) l + w.B (r % 128) l)
def dv (r l : ℕ) : EReal := mixed w.T (fun s l => w.D (r / 128 * 128 + s) l * w.U (r / 128 * 128 + s) l) (r % 128) l

end Data

/-- What the staged blocks hold at point `t`. -/
structure Held (w : Data) (t : ℕ) (x0 x1 x2 : Vec Ideal S1024x512 .bf16) (x3 x4 : Vec Ideal S4x256x128 .bf16) (x5 : Vec Ideal S128x512 .f32) : Prop where
  h0 : ∀ (r : Fin 1024) (l : Fin 512), (x0 (ix2 r l) : EReal) = w.D (t * 1024 + r) l
  h1 : ∀ (r : Fin 1024) (l : Fin 512), (x1 (ix2 r l) : EReal) = w.V (t * 1024 + r) l
  h2 : ∀ (r : Fin 1024) (l : Fin 512), (x2 (ix2 r l) : EReal) = w.U (t * 1024 + r) l
  h3 : ∀ (j : Fin 4) (a : Fin 256) (s : Fin 128), (x3 (ix3 j a s) : EReal) = w.W j a s
  h4 : ∀ (j : Fin 4) (a : Fin 256) (s : Fin 128), (x4 (ix3 j a s) : EReal) = w.T j a s
  h5 : ∀ (r : Fin 128) (l : Fin 512), (x5 (ix2 r l) : EReal) = w.B r l

/-! ## Reading a chunk -/

/-- A chunk that starts at row `a` lies inside the block. -/
abbrev Fits (a : ℕ) : Prop := ∀ b, (![a, 0] : Fin 2 → ℕ) b + (![128, 512] : Fin 2 → ℕ) b ≤ S1024x512.size b

/-- The rows of a chunk, the weights of a block of lanes, and the bias. -/
abbrev rows (x : Vec Ideal S1024x512 .bf16) (a : ℕ) (inb : Fits a) : Vec Ideal S128x512 .bf16 :=
  View.ld x (Rect.unit (s := S1024x512) ![a, 0] ![128, 512] inb)
abbrev pair (x : Vec Ideal S4x256x128 .bf16) (j : ℕ) (inb : ∀ b, (![j, 0, 0] : Fin 3 → ℕ) b + (![1, 256, 128] : Fin 3 → ℕ) b ≤ S4x256x128.size b) : Vec Ideal S1x256x128 .bf16 :=
  View.ld x (Rect.unit (s := S4x256x128) ![j, 0, 0] ![1, 256, 128] inb)
abbrev bias (x : Vec Ideal S128x512 .f32) : Vec Ideal S128x512 .f32 := View.ld x (Rect.unit (s := S128x512) ![0, 0] ![128, 512] inb_S128x512_S128x512_0_0)

theorem rows_at (x : Vec Ideal S1024x512 .bf16) (a : ℕ) (inb : Fits a) (r : Fin 128) (l : Fin 512) (h : a + r.val < 1024) : rows x a inb (ix2 r l) = x (ix2 ⟨a + r.val, h⟩ l) :=
  congrArg x (ext2 (by show a + 1 * r.val = a + r.val; omega) (by show 0 + 1 * l.val = l.val; omega))

theorem pair_at (x : Vec Ideal S4x256x128 .bf16) (j : Fin 4) (inb) (a : Fin 256) (s : Fin 128) : pair x j.val inb (ix3 0 a s) = x (ix3 j a s) :=
  congrArg x (ext3 (by show j.val + 1 * 0 = j.val; omega) (by show 0 + 1 * a.val = a.val; omega) (by show 0 + 1 * s.val = s.val; omega))

theorem bias_at (x : Vec Ideal S128x512 .f32) (r : Fin 128) (l : Fin 512) : bias x (ix2 r l) = x (ix2 r l) :=
  congrArg x (ext2 (by show 0 + 1 * r.val = r.val; omega) (by show 0 + 1 * l.val = l.val; omega))

theorem tile_of {a : ℕ} (p : Vec Ideal S128x512 .bf16) (f : ℕ → ℕ → EReal) (hp : ∀ (r : Fin 128) (l : Fin 512), (p (ix2 r l) : EReal) = f (a + r) l)
    (r : Fin 1024) (k : Fin 512) : View.TileAt (Val := Elt Ideal) (e := .bf16) (S := S1024x512) (ix2 r k) ![a, 0] ![128, 512] p (f r k : Elt Ideal .bf16) := by
  intro y hy
  obtain ⟨r', l, rfl⟩ : ∃ (r' : Fin 128) (l : Fin 512), y = ix2 r' l := ⟨y 0, y 1, eq_ix2 y⟩
  have e0 : r.val = a + r'.val := hy 0
  have e1 : k.val = 0 + l.val := hy 1
  obtain rfl : l = k := Fin.ext (by omega)
  rw [e0]
  exact hp r' l

section

variable {w : Data} {t : ℕ} {x0 x1 x2 : Vec Ideal S1024x512 .bf16} {x3 x4 : Vec Ideal S4x256x128 .bf16} {x5 : Vec Ideal S128x512 .f32}

/-- A chunk's gradients as the blocks' parts give them. -/
abbrev partU (x0 x1 : Vec Ideal S1024x512 .bf16) (x3 : Vec Ideal S4x256x128 .bf16) (x5 : Vec Ideal S128x512 .f32) (a : ℕ) (inb : Fits a) : FVec Ideal S128x512 .bf16 :=
  chunkU (pair x3 0 inb_S4x256x128_S1x256x128_0_0_0) (pair x3 1 inb_S4x256x128_S1x256x128_1_0_0) (pair x3 2 inb_S4x256x128_S1x256x128_2_0_0)
    (pair x3 3 inb_S4x256x128_S1x256x128_3_0_0) (rows x0 a inb) (rows x1 a inb) (bias x5)
abbrev partV (x0 x2 : Vec Ideal S1024x512 .bf16) (x4 : Vec Ideal S4x256x128 .bf16) (a : ℕ) (inb : Fits a) : FVec Ideal S128x512 .bf16 :=
  chunkV (pair x4 0 inb_S4x256x128_S1x256x128_0_0_0) (pair x4 1 inb_S4x256x128_S1x256x128_1_0_0) (pair x4 2 inb_S4x256x128_S1x256x128_2_0_0)
    (pair x4 3 inb_S4x256x128_S1x256x128_3_0_0) (rows x0 a inb) (rows x2 a inb)

variable (h : Held w t x0 x1 x2 x3 x4 x5)
include h

theorem partU_at (a : ℕ) (inb : Fits a) (ha : a % 128 = 0) (ha' : a ≤ 896) (r : Fin 128) (l : Fin 512) :
    (partU x0 x1 x3 x5 a inb (ix2 r l) : EReal) = w.du (t * 1024 + (a + r)) l := by
  have e := chunkU_at (W := w.W) (D := fun s => w.D (t * 1024 + (a + s))) (V := fun s => w.V (t * 1024 + (a + s))) (B := w.B)
    (fun p s => (pair_at x3 0 inb_S4x256x128_S1x256x128_0_0_0 p s).trans (h.h3 0 p s)) (fun p s => (pair_at x3 1 inb_S4x256x128_S1x256x128_1_0_0 p s).trans (h.h3 1 p s))
    (fun p s => (pair_at x3 2 inb_S4x256x128_S1x256x128_2_0_0 p s).trans (h.h3 2 p s)) (fun p s => (pair_at x3 3 inb_S4x256x128_S1x256x128_3_0_0 p s).trans (h.h3 3 p s))
    (fun s l => (rows_at x0 a inb s l (by omega)).trans (h.h0 _ l)) (fun s l => (rows_at x1 a inb s l (by omega)).trans (h.h1 _ l))
    (fun s l => (bias_at x5 s l).trans (h.h5 s l)) r l
  refine e.trans ?_
  unfold Data.du
  rw [show (t * 1024 + (a + r.val)) % 128 = r.val by omega, show (t * 1024 + (a + r.val)) / 128 * 128 = t * 1024 + a by omega]
  simp only [Nat.add_assoc]

theorem partV_at (a : ℕ) (inb : Fits a) (ha : a % 128 = 0) (ha' : a ≤ 896) (r : Fin 128) (l : Fin 512) :
    (partV x0 x2 x4 a inb (ix2 r l) : EReal) = w.dv (t * 1024 + (a + r)) l := by
  have e := chunkV_at (W := w.T) (D := fun s => w.D (t * 1024 + (a + s))) (U := fun s => w.U (t * 1024 + (a + s)))
    (fun p s => (pair_at x4 0 inb_S4x256x128_S1x256x128_0_0_0 p s).trans (h.h4 0 p s)) (fun p s => (pair_at x4 1 inb_S4x256x128_S1x256x128_1_0_0 p s).trans (h.h4 1 p s))
    (fun p s => (pair_at x4 2 inb_S4x256x128_S1x256x128_2_0_0 p s).trans (h.h4 2 p s)) (fun p s => (pair_at x4 3 inb_S4x256x128_S1x256x128_3_0_0 p s).trans (h.h4 3 p s))
    (fun s l => (rows_at x0 a inb s l (by omega)).trans (h.h0 _ l)) (fun s l => (rows_at x2 a inb s l (by omega)).trans (h.h2 _ l)) r l
  refine e.trans ?_
  unfold Data.dv
  rw [show (t * 1024 + (a + r.val)) % 128 = r.val by omega, show (t * 1024 + (a + r.val)) / 128 * 128 = t * 1024 + a by omega]
  simp only [Nat.add_assoc]

/-! ## The eight chunks together -/

abbrev stripe (p : ∀ (a : ℕ) (_ : Fits a), FVec Ideal S128x512 .bf16) (a : ℕ)
    (inb : Fits a) : View.Piece (Elt Ideal) S1024x512 .bf16 :=
  ⟨Rect.unit (s := S1024x512) ![a, 0] ![128, 512] inb, p a inb⟩

/-- Eight chunks, last first. -/
abbrev stripes (p : ∀ (a : ℕ) (_ : Fits a), FVec Ideal S128x512 .bf16) :
    List (View.Piece (Elt Ideal) S1024x512 .bf16) :=
  [stripe p 896 inb_S1024x512_S128x512_896_0, stripe p 768 inb_S1024x512_S128x512_768_0, stripe p 640 inb_S1024x512_S128x512_640_0,
    stripe p 512 inb_S1024x512_S128x512_512_0, stripe p 384 inb_S1024x512_S128x512_384_0, stripe p 256 inb_S1024x512_S128x512_256_0,
    stripe p 128 inb_S1024x512_S128x512_128_0, stripe p 0 inb_S1024x512_S128x512_0_0]

omit h in
theorem stripes_at (p : ∀ (a : ℕ) (_ : Fits a), FVec Ideal S128x512 .bf16)
    (f : ℕ → ℕ → EReal) (hp : ∀ (a : ℕ) (inb : Fits a), a % 128 = 0 → a ≤ 896 → ∀ (r : Fin 128) (l : Fin 512), (p a inb (ix2 r l) : EReal) = f (a + r) l)
    (r : Fin 1024) (k : Fin 512) : View.AllAt (Val := Elt Ideal) (stripes p) (ix2 r k) (f r k : Elt Ideal .bf16) := by
  have piece : ∀ (a : ℕ) (inb : Fits a) (_ : a % 128 = 0) (_ : a ≤ 896), View.TileAt (Val := Elt Ideal) (e := .bf16) (S := S1024x512) (ix2 r k) ![a, 0] ![128, 512] (p a inb) (f r k : Elt Ideal .bf16) :=
    fun a inb ha ha' => tile_of (p a inb) f (hp a inb ha ha') r k
  refine View.allAt_cons_unit _ _ _ _ _ (piece 896 _ rfl (by omega)) ?_
  refine View.allAt_cons_unit _ _ _ _ _ (piece 768 _ rfl (by omega)) ?_
  refine View.allAt_cons_unit _ _ _ _ _ (piece 640 _ rfl (by omega)) ?_
  refine View.allAt_cons_unit _ _ _ _ _ (piece 512 _ rfl (by omega)) ?_
  refine View.allAt_cons_unit _ _ _ _ _ (piece 384 _ rfl (by omega)) ?_
  refine View.allAt_cons_unit _ _ _ _ _ (piece 256 _ rfl (by omega)) ?_
  refine View.allAt_cons_unit _ _ _ _ _ (piece 128 _ rfl (by omega)) ?_
  refine View.allAt_cons_unit _ _ _ _ _ (piece 0 _ rfl (by omega)) ?_
  exact View.allAt_nil _ _

theorem allU (r : Fin 1024) (k : Fin 512) : View.AllAt (Val := Elt Ideal) (stripes (partU x0 x1 x3 x5)) (ix2 r k) (w.du (t * 1024 + r) k : Elt Ideal .bf16) :=
  stripes_at _ (fun r k => w.du (t * 1024 + r) k) (partU_at h) r k

theorem allV (r : Fin 1024) (k : Fin 512) : View.AllAt (Val := Elt Ideal) (stripes (partV x0 x2 x4)) (ix2 r k) (w.dv (t * 1024 + r) k : Elt Ideal .bf16) :=
  stripes_at _ (fun r k => w.dv (t * 1024 + r) k) (partV_at h) r k

end

/-! ## What a point leaves -/

variable (m : (ℓ : Loc nD τ sig) → Buf (Elt Ideal) ℓ) (c : Dev nD) {w : Data}

set_option maxHeartbeats 1000000 in
theorem du_first (t : Fin cfg0.N) (h0 : t.val % 16 = 0) (h1 : ¬ t.val % 16 = 15)
    (h : Held w t.val (iblk m c 0 t) (iblk m c 1 t) (iblk m c 2 t) (iblk m c 3 t) (iblk m c 4 t) (iblk m c 5 t)) (r : Fin 1024) (k : Fin 512) :
    ((outsAt0 m c t.val t.isLt).1 (ix2 r k) : EReal) = w.du (t.val * 1024 + r) k := by
  rw [outsAt0_A m c t h0 h1]
  dsimp only
  unfold out0_A_6
  rw [View.read_writes_eq_canon _ _ _ (fun y => cover0_A_6 (y := y) ..)]
  refine View.canon_eq_of_allAt _ _ _ (cover0_A_6 (y := _) ..) ?_
  unfold kernelRun0_A; dsimp only; sl_unfold_words
  simp only [View.readAt_eq_ld, (hs0_0 t).read_unread, (hs0_1 t).read_unread, (hs0_2 t).read_unread, (hs0_3 t).read_unread, (hs0_4 t).read_unread, (hs0_5 t).read_unread]
  exact allU h r k

set_option maxHeartbeats 1000000 in
theorem dv_first (t : Fin cfg0.N) (h0 : t.val % 16 = 0) (h1 : ¬ t.val % 16 = 15)
    (h : Held w t.val (iblk m c 0 t) (iblk m c 1 t) (iblk m c 2 t) (iblk m c 3 t) (iblk m c 4 t) (iblk m c 5 t)) (r : Fin 1024) (k : Fin 512) :
    ((outsAt0 m c t.val t.isLt).2.1 (ix2 r k) : EReal) = w.dv (t.val * 1024 + r) k := by
  rw [outsAt0_A m c t h0 h1]
  dsimp only
  unfold out0_A_7
  rw [View.read_writes_eq_canon _ _ _ (fun y => cover0_A_7 (y := y) ..)]
  refine View.canon_eq_of_allAt _ _ _ (cover0_A_7 (y := _) ..) ?_
  unfold kernelRun0_A; dsimp only; sl_unfold_words
  simp only [View.readAt_eq_ld, (hs0_0 t).read_unread, (hs0_1 t).read_unread, (hs0_2 t).read_unread, (hs0_3 t).read_unread, (hs0_4 t).read_unread, (hs0_5 t).read_unread]
  exact allV h r k

set_option maxHeartbeats 1000000 in
theorem du_inner (t : Fin cfg0.N) (h0 : ¬ t.val % 16 = 0) (h1 : ¬ t.val % 16 = 15)
    (h : Held w t.val (iblk m c 0 t) (iblk m c 1 t) (iblk m c 2 t) (iblk m c 3 t) (iblk m c 4 t) (iblk m c 5 t)) (r : Fin 1024) (k : Fin 512) :
    ((outsAt0 m c t.val t.isLt).1 (ix2 r k) : EReal) = w.du (t.val * 1024 + r) k := by
  rw [outsAt0_B m c t h0 h1]
  dsimp only
  unfold out0_B_6
  rw [View.read_writes_eq_canon _ _ _ (fun y => cover0_B_6 (y := y) ..)]
  refine View.canon_eq_of_allAt _ _ _ (cover0_B_6 (y := _) ..) ?_
  unfold kernelRun0_B; dsimp only; sl_unfold_words
  simp only [View.readAt_eq_ld, (hs0_0 t).read_unread, (hs0_1 t).read_unread, (hs0_2 t).read_unread, (hs0_3 t).read_unread, (hs0_4 t).read_unread, (hs0_5 t).read_unread]
  exact allU h r k

set_option maxHeartbeats 1000000 in
theorem dv_inner (t : Fin cfg0.N) (h0 : ¬ t.val % 16 = 0) (h1 : ¬ t.val % 16 = 15)
    (h : Held w t.val (iblk m c 0 t) (iblk m c 1 t) (iblk m c 2 t) (iblk m c 3 t) (iblk m c 4 t) (iblk m c 5 t)) (r : Fin 1024) (k : Fin 512) :
    ((outsAt0 m c t.val t.isLt).2.1 (ix2 r k) : EReal) = w.dv (t.val * 1024 + r) k := by
  rw [outsAt0_B m c t h0 h1]
  dsimp only
  unfold out0_B_7
  rw [View.read_writes_eq_canon _ _ _ (fun y => cover0_B_7 (y := y) ..)]
  refine View.canon_eq_of_allAt _ _ _ (cover0_B_7 (y := _) ..) ?_
  unfold kernelRun0_B; dsimp only; sl_unfold_words
  simp only [View.readAt_eq_ld, (hs0_0 t).read_unread, (hs0_1 t).read_unread, (hs0_2 t).read_unread, (hs0_3 t).read_unread, (hs0_4 t).read_unread, (hs0_5 t).read_unread]
  exact allV h r k

set_option maxHeartbeats 1000000 in
theorem du_last (t : Fin cfg0.N) (h0 : ¬ t.val % 16 = 0) (h1 : t.val % 16 = 15)
    (h : Held w t.val (iblk m c 0 t) (iblk m c 1 t) (iblk m c 2 t) (iblk m c 3 t) (iblk m c 4 t) (iblk m c 5 t)) (r : Fin 1024) (k : Fin 512) :
    ((outsAt0 m c t.val t.isLt).1 (ix2 r k) : EReal) = w.du (t.val * 1024 + r) k := by
  rw [outsAt0_C m c t h0 h1]
  dsimp only
  unfold out0_C_6
  rw [View.read_writes_eq_canon _ _ _ (fun y => cover0_C_6 (y := y) ..)]
  refine View.canon_eq_of_allAt _ _ _ (cover0_C_6 (y := _) ..) ?_
  unfold kernelRun0_C; dsimp only; sl_unfold_words
  simp only [View.readAt_eq_ld, (hs0_0 t).read_unread, (hs0_1 t).read_unread, (hs0_2 t).read_unread, (hs0_3 t).read_unread, (hs0_4 t).read_unread, (hs0_5 t).read_unread]
  exact allU h r k

set_option maxHeartbeats 1000000 in
theorem dv_last (t : Fin cfg0.N) (h0 : ¬ t.val % 16 = 0) (h1 : t.val % 16 = 15)
    (h : Held w t.val (iblk m c 0 t) (iblk m c 1 t) (iblk m c 2 t) (iblk m c 3 t) (iblk m c 4 t) (iblk m c 5 t)) (r : Fin 1024) (k : Fin 512) :
    ((outsAt0 m c t.val t.isLt).2.1 (ix2 r k) : EReal) = w.dv (t.val * 1024 + r) k := by
  rw [outsAt0_C m c t h0 h1]
  dsimp only
  unfold out0_C_7
  rw [View.read_writes_eq_canon _ _ _ (fun y => cover0_C_7 (y := y) ..)]
  refine View.canon_eq_of_allAt _ _ _ (cover0_C_7 (y := _) ..) ?_
  unfold kernelRun0_C; dsimp only; sl_unfold_words
  simp only [View.readAt_eq_ld, (hs0_0 t).read_unread, (hs0_1 t).read_unread, (hs0_2 t).read_unread, (hs0_3 t).read_unread, (hs0_4 t).read_unread, (hs0_5 t).read_unread]
  exact allV h r k

end Cert.Sgu

end
-- ==== Proof.Sgu.Arrays.lean ====
module

public import proofs.«01_k».proof.Proof.Sgu.Points
public import Idealize.ShloMosaic.Lib.StableHlo.ReadAt

/-! The spatial gating's gradient: the arrays of the two results after the run, from the arguments. -/

@[expose] public section

set_option maxRecDepth 16384

noncomputable section

namespace Cert.Sgu

open Cert.SguKernelIdeal Cert.SguKernelIdeal.Gen Cert.Tools
open Idealize.ShloMosaic Idealize.ShloMosaic.TcCoe Idealize.ShloMosaic.Tactic Idealize.SL.Sem
open Idealize.ShloMosaic.Pipeline (Dat)

/-- Element `(a, b, d)` of an array of rank three, zero outside of it. -/
def at3 {A B C : ℕ} (v : (⟨3, ![A, B, C]⟩ : Shape).Idx → EReal) (a b d : ℕ) : EReal :=
  if h : a < A ∧ b < B ∧ d < C then v (ix3 ⟨a, h.1⟩ ⟨b, h.2.1⟩ ⟨d, h.2.2⟩) else 0

theorem at3_ix {A B C : ℕ} (v : (⟨3, ![A, B, C]⟩ : Shape).Idx → EReal) {a b d : ℕ} (ha : a < A) (hb : b < B) (hd : d < C) :
    v (ix3 ⟨a, ha⟩ ⟨b, hb⟩ ⟨d, hd⟩) = at3 v a b d := by
  unfold at3; rw [dif_pos ⟨ha, hb, hd⟩]

/-! ## The arrays before the region -/

/-- The weights without what lies above the diagonal. -/
def masked (w : S8x128x128.Idx → EReal) : S8x128x128.Idx → EReal :=
  mulf (F := Ideal) (φ := .f32) w (broadcastInDim S8x128x128 ![0, 1, 2] bcast_S1x128x128_S8x128x128_0_1_2 (broadcastInDim S1x128x128 ![1, 2] bcast_S128x128_S1x128x128_1_2
    (select (cmpi .sge (addi (iotaInDim S128x128 32 0) (broadcastInDim S128x128 ![] bcast_S_S128x128 (constantI S_ 32 0#32))) (iotaInDim S128x128 32 1))
      (broadcastInDim S128x128 ![] bcast_S_S128x128 (constant (F := Ideal) S_ .f32 0x3F800000#32)) (broadcastInDim S128x128 ![] bcast_S_S128x128 (constant (F := Ideal) S_ .f32 0x00000000#32)))))

/-- The groups' matrices in pairs, and the same of the transposed ones. -/
def pairs (w : S8x128x128.Idx → EReal) : S4x256x128.Idx → EReal := shapeCast S4x256x128 w shapeCasts_S8x128x128_S4x256x128
def turned (w : S8x128x128.Idx → EReal) : S8x128x128.Idx → EReal := transpose S8x128x128 [0, 2, 1] w transposes_S8x128x128_S8x128x128_0_2_1

theorem pairs_at (w : S8x128x128.Idx → EReal) (j : Fin 4) (a : Fin 256) (s : Fin 128) : pairs w (ix3 j a s) = at3 w ((256 * j + a) / 128) (a % 128) s := by
  pointwise [pairs]
  have hj := j.isLt
  have ha := a.isLt
  have hs := s.isLt
  rw [← at3_ix w (a := (256 * j.val + a.val) / 128) (by omega) (Nat.mod_lt _ (by decide)) s.isLt]
  exact congrArg w (ext3 (by dsimp <;> omega) (by dsimp <;> omega) (by dsimp <;> omega))

theorem turned_at (w : S8x128x128.Idx → EReal) {g t s : ℕ} : at3 (turned w) g t s = at3 w g s t := by
  unfold at3
  by_cases h : g < 8 ∧ t < 128 ∧ s < 128
  · rw [dif_pos h, dif_pos ⟨h.1, h.2.2, h.2.1⟩]
    pointwise [turned]
  · rw [dif_neg h, dif_neg fun h' => h ⟨h'.1, h'.2.2, h'.2.1⟩]

/-- The bias by rows, each group's repeated over its lanes. -/
def spread (b : S8x128.Idx → EReal) : S128x512.Idx → EReal :=
  shapeCast S128x512 (broadcastInDim S128x8x64 ![0, 1] bcast_S128x8_S128x8x64_0_1 (transpose S128x8 [1, 0] b transposes_S8x128_S128x8_1_0)) shapeCasts_S128x8x64_S128x512

theorem spread_at (b : S8x128.Idx → EReal) (r : Fin 128) (l : Fin 512) : spread b (ix2 r l) = at2 b (l / 64) r := by
  pointwise [spread]
  have hl := l.isLt
  have hr := r.isLt
  exact at2_at b _ _ _ (by dsimp <;> omega) (by dsimp <;> omega)

/-- The cotangent behind the columns that belong to another layer. -/
def behind (d : S16384x512.Idx → EReal) : S16384x1536.Idx → EReal :=
  concatenate S16384x1536 1 [⟨S16384x1024, broadcastInDim S16384x1024 ![] bcast_S_S16384x1024 (constant (F := Ideal) S_ .f32 0x00000000#32)⟩, ⟨S16384x512, d⟩]
    concatenates_S16384x1024_S16384x512_S16384x1536_d1

theorem behind_at (d : S16384x512.Idx → EReal) (r : Fin 16384) (l : ℕ) (hl : l < 512) : behind d (ix2 r ⟨1024 + l, by omega⟩) = at2 d r l := by
  pointwise [behind]
  exact at2_at d _ _ _ rfl rfl

variable (m : (ℓ : Loc nD τ sig) → Buf (Elt Ideal) ℓ) (ρ : Dev nD → PrngReg) (c : Dev nD)

abbrev arg0 : S16384x512.Idx → EReal := m ((c : Thread nD τ).loc main_arg0)
abbrev arg1 : S16384x512.Idx → EReal := m ((c : Thread nD τ).loc main_arg1)
abbrev arg2 : S8x128x128.Idx → EReal := m ((c : Thread nD τ).loc main_arg2)
abbrev arg3 : S8x128.Idx → EReal := m ((c : Thread nD τ).loc main_arg3)
abbrev arg4 : S16384x512.Idx → EReal := m ((c : Thread nD τ).loc main_arg4)

theorem V_6 : V m c main_v6 = pairs (masked (arg2 m c)) := by entry_read; rfl
theorem V_9 : V m c main_v9 = pairs (turned (masked (arg2 m c))) := by entry_read; rfl
theorem V_12 : V m c main_v12 = spread (arg3 m c) := by entry_read; rfl
theorem V_15 : V m c main_v15 = behind (arg4 m c) := by entry_read; rfl
theorem V_16 : V m c main_v16 = arg1 m c := by entry_read; rfl
theorem V_17 : V m c main_v17 = arg0 m c := by entry_read; rfl

/-- The operands by row and column. -/
def data : Data where
  D := at2 (arg4 m c)
  V := at2 (arg1 m c)
  U := at2 (arg0 m c)
  W := fun j a s => at3 (masked (arg2 m c)) ((256 * j + a) / 128) (a % 128) s
  T := fun j a s => at3 (masked (arg2 m c)) ((256 * j + a) / 128) s (a % 128)
  B := fun r l => at2 (arg3 m c) (l / 64) r

/-! ## The blocks of a point -/

theorem index_at : ∀ t : Fin grid0.N,
    (win0_0.index t 0 = t.val ∧ win0_0.index t 1 = 2)
    ∧ (win0_1.index t 0 = t.val ∧ win0_1.index t 1 = 0)
    ∧ (win0_2.index t 0 = t.val ∧ win0_2.index t 1 = 0)
    ∧ (win0_3.index t 0 = 0 ∧ win0_3.index t 1 = 0 ∧ win0_3.index t 2 = 0)
    ∧ (win0_4.index t 0 = 0 ∧ win0_4.index t 1 = 0 ∧ win0_4.index t 2 = 0)
    ∧ (win0_5.index t 0 = 0 ∧ win0_5.index t 1 = 0)
    ∧ (win0_6.index t 0 = t.val ∧ win0_6.index t 1 = 0)
    ∧ (win0_7.index t 0 = t.val ∧ win0_7.index t 1 = 0) := by decide +kernel

theorem row_lt (t : Fin cfg0.N) (r : Fin 1024) : t.val * 1024 + r.val < 16384 := by have : t.val < 16 := t.isLt; omega

theorem in_0 (t : Fin cfg0.N) (r : Fin 1024) (k : Fin 512) : (iblk m c 0 t (ix2 r k) : EReal) = (data m c).D (t.val * 1024 + r) k := by
  obtain ⟨a, b⟩ := (index_at t).1
  have e : (win0_0.rect t).emb (ix2 r k) = (ix2 (⟨t.val * 1024 + r.val, row_lt t r⟩ : Fin 16384) ⟨1024 + k.val, by omega⟩ : S16384x1536.Idx) :=
    ext2 ((win0_0.rect_emb_val t (ix2 r k) 0).trans (by rw [a]; rfl)) ((win0_0.rect_emb_val t (ix2 r k) 1).trans (by rw [b]; rfl))
  exact (congrArg (V m c main_v15) e).trans ((congrFun (V_15 m c) _).trans (behind_at _ _ _ k.isLt))

theorem in_1 (t : Fin cfg0.N) (r : Fin 1024) (k : Fin 512) : (iblk m c 1 t (ix2 r k) : EReal) = (data m c).V (t.val * 1024 + r) k := by
  obtain ⟨a, b⟩ := (index_at t).2.1
  have e : (win0_1.rect t).emb (ix2 r k) = (ix2 (⟨t.val * 1024 + r.val, row_lt t r⟩ : Fin 16384) k : S16384x512.Idx) :=
    ext2 ((win0_1.rect_emb_val t (ix2 r k) 0).trans (by rw [a]; rfl)) ((win0_1.rect_emb_val t (ix2 r k) 1).trans (by rw [b]; exact Nat.zero_add _))
  exact (congrArg (V m c main_v16) e).trans ((congrFun (V_16 m c) _).trans (at2_ix _ _ _).symm)

theorem in_2 (t : Fin cfg0.N) (r : Fin 1024) (k : Fin 512) : (iblk m c 2 t (ix2 r k) : EReal) = (data m c).U (t.val * 1024 + r) k := by
  obtain ⟨a, b⟩ := (index_at t).2.2.1
  have e : (win0_2.rect t).emb (ix2 r k) = (ix2 (⟨t.val * 1024 + r.val, row_lt t r⟩ : Fin 16384) k : S16384x512.Idx) :=
    ext2 ((win0_2.rect_emb_val t (ix2 r k) 0).trans (by rw [a]; rfl)) ((win0_2.rect_emb_val t (ix2 r k) 1).trans (by rw [b]; exact Nat.zero_add _))
  exact (congrArg (V m c main_v17) e).trans ((congrFun (V_17 m c) _).trans (at2_ix _ _ _).symm)

theorem in_3 (t : Fin cfg0.N) (j : Fin 4) (a : Fin 256) (s : Fin 128) : (iblk m c 3 t (ix3 j a s) : EReal) = (data m c).W j a s := by
  obtain ⟨x, y, z⟩ := (index_at t).2.2.2.1
  have e : (win0_3.rect t).emb (ix3 j a s) = (ix3 j a s : S4x256x128.Idx) :=
    ext3 ((win0_3.rect_emb_val t (ix3 j a s) 0).trans (by rw [x]; exact Nat.zero_add _)) ((win0_3.rect_emb_val t (ix3 j a s) 1).trans (by rw [y]; exact Nat.zero_add _))
      ((win0_3.rect_emb_val t (ix3 j a s) 2).trans (by rw [z]; exact Nat.zero_add _))
  exact (congrArg (V m c main_v6) e).trans ((congrFun (V_6 m c) _).trans (pairs_at _ j a s))

theorem in_4 (t : Fin cfg0.N) (j : Fin 4) (a : Fin 256) (s : Fin 128) : (iblk m c 4 t (ix3 j a s) : EReal) = (data m c).T j a s := by
  obtain ⟨x, y, z⟩ := (index_at t).2.2.2.2.1
  have e : (win0_4.rect t).emb (ix3 j a s) = (ix3 j a s : S4x256x128.Idx) :=
    ext3 ((win0_4.rect_emb_val t (ix3 j a s) 0).trans (by rw [x]; exact Nat.zero_add _)) ((win0_4.rect_emb_val t (ix3 j a s) 1).trans (by rw [y]; exact Nat.zero_add _))
      ((win0_4.rect_emb_val t (ix3 j a s) 2).trans (by rw [z]; exact Nat.zero_add _))
  exact (congrArg (V m c main_v9) e).trans ((congrFun (V_9 m c) _).trans ((pairs_at _ j a s).trans (turned_at _)))

theorem in_5 (t : Fin cfg0.N) (r : Fin 128) (k : Fin 512) : (iblk m c 5 t (ix2 r k) : EReal) = (data m c).B r k := by
  obtain ⟨a, b⟩ := (index_at t).2.2.2.2.2.1
  have e : (win0_5.rect t).emb (ix2 r k) = (ix2 r k : S128x512.Idx) :=
    ext2 ((win0_5.rect_emb_val t (ix2 r k) 0).trans (by rw [a]; exact Nat.zero_add _)) ((win0_5.rect_emb_val t (ix2 r k) 1).trans (by rw [b]; exact Nat.zero_add _))
  exact (congrArg (V m c main_v12) e).trans ((congrFun (V_12 m c) _).trans (spread_at _ r k))

theorem held (t : Fin cfg0.N) : Held (data m c) t.val (iblk m c 0 t) (iblk m c 1 t) (iblk m c 2 t) (iblk m c 3 t) (iblk m c 4 t) (iblk m c 5 t) :=
  ⟨in_0 m c t, in_1 m c t, in_2 m c t, in_3 m c t, in_4 m c t, in_5 m c t⟩

theorem outs_du (t : Fin cfg0.N) (r : Fin 1024) (k : Fin 512) : ((outsAt0 m c t.val t.isLt).1 (ix2 r k) : EReal) = (data m c).du (t.val * 1024 + r) k := by
  by_cases h0 : t.val % 16 = 0
  · exact du_first m c t h0 (by omega) (held m c t) r k
  by_cases h1 : t.val % 16 = 15
  · exact du_last m c t h0 h1 (held m c t) r k
  · exact du_inner m c t h0 h1 (held m c t) r k

theorem outs_dv (t : Fin cfg0.N) (r : Fin 1024) (k : Fin 512) : ((outsAt0 m c t.val t.isLt).2.1 (ix2 r k) : EReal) = (data m c).dv (t.val * 1024 + r) k := by
  by_cases h0 : t.val % 16 = 0
  · exact dv_first m c t h0 (by omega) (held m c t) r k
  by_cases h1 : t.val % 16 = 15
  · exact dv_last m c t h0 h1 (held m c t) r k
  · exact dv_inner m c t h0 h1 (held m c t) r k

/-! ## The arrays after the run -/

def resU : S16384x512.Idx → EReal := fun i => (data m c).du (i 0).val (i 1).val
def resV : S16384x512.Idx → EReal := fun i => (data m c).dv (i 0).val (i 1).val

theorem final_du : (dats m 0 c).arrAt 6 cfg0.N = resU m c := by
  have emb : ∀ (t : Fin cfg0.N) (r : Fin 1024) (k : Fin 512), ((cfg0.win 6).blk t).view.emb (ix2 r k)
      = (ix2 (⟨t.val * 1024 + r.val, row_lt t r⟩ : Fin 16384) k : S16384x512.Idx) := fun t r k => by
    obtain ⟨a, b⟩ := (index_at t).2.2.2.2.2.2.1
    exact ext2 ((win0_6.rect_emb_val t (ix2 r k) 0).trans (by rw [a]; rfl)) ((win0_6.rect_emb_val t (ix2 r k) 1).trans (by rw [b]; exact Nat.zero_add _))
  refine (dats m 0 c).arrAt_eq_of_cover 6 _ (fun t _ => ?_) (fun i => ?_)
  · show (cfg0.win 6).cut (grid0.coords t) ((dats m 0 c).after 6 t) = _
    rw [after0_6]
    funext y
    obtain ⟨r, k, rfl⟩ : ∃ (r : Fin 1024) (k : Fin 512), y = ix2 r k := ⟨y 0, y 1, eq_ix2 y⟩
    exact (outs_du m c t r k).trans (congrArg (resU m c) (emb t r k)).symm
  · obtain ⟨r, k, rfl⟩ : ∃ (r : Fin 16384) (k : Fin 512), i = ix2 r k := ⟨i 0, i 1, eq_ix2 i⟩
    have hr := r.isLt
    have ht : r.val / 1024 < 16 := by omega
    have e : ix2 r k = ((cfg0.win 6).blk ⟨r.val / 1024, ht⟩).view.emb (ix2 (⟨r.val % 1024, Nat.mod_lt _ (by decide)⟩ : Fin 1024) k) :=
      Eq.trans (congrArg (fun q : Fin 16384 => (ix2 q k : S16384x512.Idx)) (Fin.ext (Nat.div_add_mod' r.val 1024).symm)) (emb ⟨r.val / 1024, ht⟩ ⟨r.val % 1024, Nat.mod_lt _ (by decide)⟩ k).symm
    exact ⟨⟨r.val / 1024, ht⟩, flush0_6 _, e ▸ View.emb_mem_set _ _⟩

theorem final_dv : (dats m 0 c).arrAt 7 cfg0.N = resV m c := by
  have emb : ∀ (t : Fin cfg0.N) (r : Fin 1024) (k : Fin 512), ((cfg0.win 7).blk t).view.emb (ix2 r k)
      = (ix2 (⟨t.val * 1024 + r.val, row_lt t r⟩ : Fin 16384) k : S16384x512.Idx) := fun t r k => by
    obtain ⟨a, b⟩ := (index_at t).2.2.2.2.2.2.2
    exact ext2 ((win0_7.rect_emb_val t (ix2 r k) 0).trans (by rw [a]; rfl)) ((win0_7.rect_emb_val t (ix2 r k) 1).trans (by rw [b]; exact Nat.zero_add _))
  refine (dats m 0 c).arrAt_eq_of_cover 7 _ (fun t _ => ?_) (fun i => ?_)
  · show (cfg0.win 7).cut (grid0.coords t) ((dats m 0 c).after 7 t) = _
    rw [after0_7]
    funext y
    obtain ⟨r, k, rfl⟩ : ∃ (r : Fin 1024) (k : Fin 512), y = ix2 r k := ⟨y 0, y 1, eq_ix2 y⟩
    exact (outs_dv m c t r k).trans (congrArg (resV m c) (emb t r k)).symm
  · obtain ⟨r, k, rfl⟩ : ∃ (r : Fin 16384) (k : Fin 512), i = ix2 r k := ⟨i 0, i 1, eq_ix2 i⟩
    have hr := r.isLt
    have ht : r.val / 1024 < 16 := by omega
    have e : ix2 r k = ((cfg0.win 7).blk ⟨r.val / 1024, ht⟩).view.emb (ix2 (⟨r.val % 1024, Nat.mod_lt _ (by decide)⟩ : Fin 1024) k) :=
      Eq.trans (congrArg (fun q : Fin 16384 => (ix2 q k : S16384x512.Idx)) (Fin.ext (Nat.div_add_mod' r.val 1024).symm)) (emb ⟨r.val / 1024, ht⟩ ⟨r.val % 1024, Nat.mod_lt _ (by decide)⟩ k).symm
    exact ⟨⟨r.val / 1024, ht⟩, flush0_7 _, e ▸ View.emb_mem_set _ _⟩

end Cert.Sgu

end
-- ==== Proof.Sgu.Reference.lean ====
module

public import proofs.«01_k».proof.Proof.Gen.SguReferenceIdeal.Read
public import proofs.«01_k».proof.Proof.Sgu.Arrays

/-! The reference's two gradients at an index are the run's. -/

@[expose] public section

set_option maxRecDepth 16384

noncomputable section

namespace Cert.Sgu

open Cert.SguReferenceIdeal Cert.SguReferenceIdeal.Gen Cert.SguReferenceIdeal.Read Cert.Tools
open Idealize.ShloMosaic Idealize.ShloMosaic.TcCoe Idealize.SL.Sem

theorem masked_ref (x2 : S8x128x128.Idx → EReal) : val_main_v5 (F := Ideal) x2 = masked x2 := rfl

/-- An array of rank three read where its coordinates are known. -/
theorem at3_at {A B C : ℕ} (v : (⟨3, ![A, B, C]⟩ : Shape).Idx → EReal) (i : (⟨3, ![A, B, C]⟩ : Shape).Idx) {a b d : ℕ}
    (ha : (i 0).val = a) (hb : (i 1).val = b) (hd : (i 2).val = d) : v i = at3 v a b d := by
  subst ha hb hd
  exact (congrArg v (show i = ix3 (i 0) (i 1) (i 2) from ext3 rfl rfl rfl)).trans (at3_ix v (i 0).isLt (i 1).isLt (i 2).isLt)

/-- The group of a lane, from the pair of groups and the lane's half. -/
theorem group_of (l r : ℕ) (hr : r < 128) : (256 * (l / 128) + stack (l % 128) r) / 128 = l / 64 ∧ stack (l % 128) r % 128 = r := by
  unfold stack
  split_ifs <;> omega

theorem du_ref (x1 : S16384x512.Idx → EReal) (x2 : S8x128x128.Idx → EReal) (x3 : S8x128.Idx → EReal) (x4 : S16384x512.Idx → EReal) (r : Fin 16384) (l : Fin 512) :
    (val_main_v28 (F := Ideal) x1 x2 x3 x4 (ix2 r l) : EReal)
      = at2 x4 r l * ((∑ s : Fin 128, at3 (masked x2) (l / 64) (r % 128) s * at2 x1 (r / 128 * 128 + s) l) + at2 x3 (l / 64) (r % 128)) := by
  have hr := r.isLt
  have hl := l.isLt
  have e6 : ∀ s : Fin 128, (val_main_v0 (F := Ideal) x1 (lidx_main_v6 (idx_main_v7 (idx_main_v12 (ix2 r l))) s) : EReal) = at2 x1 (r / 128 * 128 + s) l := fun s => by
    have hs := s.isLt
    rw [val_main_v0_apply]
    exact at2_at x1 _ _ _ (by dsimp <;> omega) (by dsimp <;> omega)
  have e5 : ∀ s : Fin 128, (val_main_v5 (F := Ideal) x2 (ridx_main_v6 (idx_main_v7 (idx_main_v12 (ix2 r l))) s) : EReal) = at3 (masked x2) (l / 64) (r % 128) s := fun s => by
    rw [masked_ref]
    exact at3_at (masked x2) _ (by dsimp <;> omega) (by dsimp <;> omega) rfl
  have e10 : (val_main_v10 (F := Ideal) x3 (idx_main_v12 (ix2 r l)) : EReal) = at2 x3 (l / 64) (r % 128) := by
    rw [val_main_v10_apply, val_main_v9_apply, val_main_v8_apply]
    exact at2_at x3 _ _ _ (by dsimp <;> omega) (by dsimp <;> omega)
  have e7 : (val_main_v7 (F := Ideal) x1 x2 (idx_main_v12 (ix2 r l)) : EReal) = ∑ s : Fin 128, at3 (masked x2) (l / 64) (r % 128) s * at2 x1 (r / 128 * 128 + s) l := by
    rw [val_main_v7_apply, val_main_v6_apply]
    exact Finset.sum_congr rfl fun s _ => by rw [e6, e5, mul_comm]
  have e12 : (val_main_v12 (F := Ideal) x1 x2 x3 (ix2 r l) : EReal) = (∑ s : Fin 128, at3 (masked x2) (l / 64) (r % 128) s * at2 x1 (r / 128 * 128 + s) l) + at2 x3 (l / 64) (r % 128) := by
    rw [val_main_v12_apply, val_main_v11_apply, e7, e10]
    rfl
  show (x4 (ix2 r l) : EReal) * val_main_v12 (F := Ideal) x1 x2 x3 (ix2 r l) = _
  rw [e12, at2_ix]

theorem dv_ref (x0 : S16384x512.Idx → EReal) (x2 : S8x128x128.Idx → EReal) (x4 : S16384x512.Idx → EReal) (r : Fin 16384) (l : Fin 512) :
    (val_main_v29 (F := Ideal) x0 x2 x4 (ix2 r l) : EReal)
      = ∑ s : Fin 128, at3 (masked x2) (l / 64) s (r % 128) * (at2 x4 (r / 128 * 128 + s) l * at2 x0 (r / 128 * 128 + s) l) := by
  have hr := r.isLt
  have hl := l.isLt
  show (val_main_v27 (F := Ideal) x0 x2 x4 (ix2 r l) : EReal) = _
  rw [val_main_v27_apply, val_main_v24_apply, val_main_v23_apply]
  refine Finset.sum_congr rfl fun s _ => ?_
  have hs := s.isLt
  rw [masked_ref, at3_at (masked x2) _ (a := l.val / 64) (b := s.val) (d := r.val % 128) (by dsimp <;> omega) rfl (by dsimp <;> omega)]
  rw [mul_comm]
  refine congrArg _ ?_
  rw [mul_comm (at2 x4 _ _)]
  rw [val_main_v21_apply, val_main_v16_apply, val_main_v14_apply]
  exact congrArg₂ (fun a b : EReal => a * b) (at2_at x0 _ _ _ (by dsimp <;> omega) (by dsimp <;> omega)) (at2_at x4 _ _ _ (by dsimp <;> omega) (by dsimp <;> omega))

/-- The run's results in the arguments' own terms. -/
theorem resU_eq (m : (ℓ : Loc Cert.SguKernelIdeal.nD Cert.SguKernelIdeal.τ Cert.SguKernelIdeal.sig) → Buf (Elt Ideal) ℓ) (c : Dev Cert.SguKernelIdeal.nD) (r : Fin 16384) (l : Fin 512) :
    (val_main_v28 (F := Ideal) (arg1 m c) (arg2 m c) (arg3 m c) (arg4 m c) (ix2 r l) : EReal) = resU m c (ix2 r l) := by
  obtain ⟨eg, et⟩ := group_of l.val (r.val % 128) (Nat.mod_lt _ (by decide))
  refine (du_ref (arg1 m c) (arg2 m c) (arg3 m c) (arg4 m c) r l).trans ?_
  show _ = at2 (arg4 m c) r l * ((∑ s : Fin 128, at3 (masked (arg2 m c)) ((256 * (l.val / 128) + stack (l.val % 128) (r.val % 128)) / 128) (stack (l.val % 128) (r.val % 128) % 128) s
    * at2 (arg1 m c) (r.val / 128 * 128 + s) l) + at2 (arg3 m c) (l.val / 64) (r.val % 128))
  rw [eg, et]

theorem resV_eq (m : (ℓ : Loc Cert.SguKernelIdeal.nD Cert.SguKernelIdeal.τ Cert.SguKernelIdeal.sig) → Buf (Elt Ideal) ℓ) (c : Dev Cert.SguKernelIdeal.nD) (r : Fin 16384) (l : Fin 512) :
    (val_main_v29 (F := Ideal) (arg0 m c) (arg2 m c) (arg4 m c) (ix2 r l) : EReal) = resV m c (ix2 r l) := by
  obtain ⟨eg, et⟩ := group_of l.val (r.val % 128) (Nat.mod_lt _ (by decide))
  refine (dv_ref (arg0 m c) (arg2 m c) (arg4 m c) r l).trans ?_
  show _ = ∑ s : Fin 128, at3 (masked (arg2 m c)) ((256 * (l.val / 128) + stack (l.val % 128) (r.val % 128)) / 128) s (stack (l.val % 128) (r.val % 128) % 128)
    * (at2 (arg4 m c) (r.val / 128 * 128 + s) l * at2 (arg0 m c) (r.val / 128 * 128 + s) l)
  rw [eg, et]

end Cert.Sgu

end
-- ==== Proof.Sgu.Weights.lean ====
module

public import proofs.«01_k».proof.Proof.Sgu.Points

/-! The spatial gating's gradient: what a grid point adds to the weights' gradient.

Eight matrices are kept, one for a group. A chunk adds to each the product of two blocks of 128 lanes, of which only the group's 64 lanes count. -/

@[expose] public section

set_option maxRecDepth 16384

noncomputable section

namespace Cert.Sgu

open Cert.SguKernelIdeal Cert.SguKernelIdeal.Gen Cert.Tools
open Idealize.ShloMosaic Idealize.ShloMosaic.TcCoe Idealize.SL.Sem

abbrev Pieces := List (View.Piece (Elt Ideal) S8x128x128 .f32)

/-! ## One matrix -/

/-- A block of lanes without its upper or its lower half. -/
def blank : FVec Ideal S128x128 .bf16 := broadcast S128x128 (Scalar.ofBits (F := Ideal) .bf16 0x0000#16)
def left (x : FVec Ideal S128x128 .bf16) : FVec Ideal S128x128 .bf16 := select k0_pay17 x blank
def right (x : FVec Ideal S128x128 .bf16) : FVec Ideal S128x128 .bf16 := select k0_pay17 blank x

/-- A matrix with a product added. -/
def plus (x y : FVec Ideal S128x128 .bf16) (o : Vec Ideal S1x128x128 .f32) : FVec Ideal S1x128x128 .f32 :=
  shapeCast S1x128x128 (addf (shapeCast S128x128 o shapeCasts_S1x128x128_S128x128)
    (matmul dot_S128x128_S128x128_S128x128_1_1_0_0_n_n .none x y (constant S128x128 .f32 0x00000000#32))) shapeCasts_S128x128_S1x128x128

theorem left_at (x : FVec Ideal S128x128 .bf16) (r l : Fin 128) : (left x (ix2 r l) : EReal) = if l.val < 64 then (x (ix2 r l) : EReal) else 0 := by
  pointwise [left, blank, k0_pay17]
  rw [lane_select]

theorem right_at (x : FVec Ideal S128x128 .bf16) (r l : Fin 128) : (right x (ix2 r l) : EReal) = if l.val < 64 then 0 else (x (ix2 r l) : EReal) := by
  pointwise [right, blank, k0_pay17]
  rw [lane_select]

theorem plus_at (x y : FVec Ideal S128x128 .bf16) (o : Vec Ideal S1x128x128 .f32) (r k : Fin 128) :
    (plus x y o (ix3 0 r k) : EReal) = (o (ix3 0 r k) : EReal) + ∑ l : Fin 128, (x (ix2 r l) : EReal) * (y (ix2 k l) : EReal) := by
  pointwise [plus]

/-! ## The eight matrices -/

abbrev Slab (g : ℕ) : Prop := ∀ b, (![g, 0, 0] : Fin 3 → ℕ) b + (![1, 128, 128] : Fin 3 → ℕ) b ≤ S8x128x128.size b
abbrev slab (g : ℕ) (inb : Slab g) : Rect S8x128x128 := Rect.unit (s := S8x128x128) ![g, 0, 0] ![1, 128, 128] inb

/-- How a matrix is read while the stores so far are known. -/
abbrev Reader := Pieces → (g : ℕ) → Slab g → Vec Ideal S1x128x128 .f32

def put (R : Reader) (g : ℕ) (inb : Slab g) (x y : FVec Ideal S128x128 .bf16) (L : Pieces) : Pieces := ⟨slab g inb, plus x y (R L g inb)⟩ :: L

theorem slab_at (g : ℕ) (inb : Slab g) (p : FVec Ideal S1x128x128 .f32) (L : Pieces) (i : Fin 8) (r k : Fin 128) :
    (View.canon (⟨slab g inb, p⟩ :: L) (ix3 i r k) : EReal) = if i.val = g then (p (ix3 0 r k) : EReal) else (View.canon L (ix3 i r k) : EReal) := by
  split_ifs with h
  · have e : (slab g inb).emb (ix3 0 r k) = (ix3 i r k : S8x128x128.Idx) :=
      ext3 (by show g + 1 * 0 = i.val; omega) (by show 0 + 1 * r.val = r.val; omega) (by show 0 + 1 * k.val = k.val; omega)
    rw [← e]
    exact View.canon_cons_emb (Val := Elt Ideal) (slab g inb) p L (ix3 0 r k)
  · refine congrArg (fun x : Elt Ideal .f32 => (x : EReal)) (View.canon_cons_of_not_mem _ L ?_)
    intro hm
    have hb := (Rect.mem_set_unit (inb := inb)).mp hm 0
    have h1 : g ≤ i.val := hb.1
    have h2 : i.val < g + 1 := hb.2
    omega

abbrev lanes0 (x : FVec Ideal S128x512 .bf16) : FVec Ideal S128x128 .bf16 := extractStridedSlice S128x128 ![0, 0] x slices_S128x512_o0_0_S128x128
abbrev lanes1 (x : FVec Ideal S128x512 .bf16) : FVec Ideal S128x128 .bf16 := extractStridedSlice S128x128 ![0, 128] x slices_S128x512_o0_128_S128x128
abbrev lanes2 (x : FVec Ideal S128x512 .bf16) : FVec Ideal S128x128 .bf16 := extractStridedSlice S128x128 ![0, 256] x slices_S128x512_o0_256_S128x128
abbrev lanes3 (x : FVec Ideal S128x512 .bf16) : FVec Ideal S128x128 .bf16 := extractStridedSlice S128x128 ![0, 384] x slices_S128x512_o0_384_S128x128

/-- What a chunk stores, last first. -/
def chunkW (R : Reader) (x y : FVec Ideal S128x512 .bf16) (L : Pieces) : Pieces :=
  put R 7 inb_S8x128x128_S1x128x128_7_0_0 (right (lanes3 x)) (lanes3 y) <| put R 6 inb_S8x128x128_S1x128x128_6_0_0 (left (lanes3 x)) (lanes3 y) <|
  put R 5 inb_S8x128x128_S1x128x128_5_0_0 (right (lanes2 x)) (lanes2 y) <| put R 4 inb_S8x128x128_S1x128x128_4_0_0 (left (lanes2 x)) (lanes2 y) <|
  put R 3 inb_S8x128x128_S1x128x128_3_0_0 (right (lanes1 x)) (lanes1 y) <| put R 2 inb_S8x128x128_S1x128x128_2_0_0 (left (lanes1 x)) (lanes1 y) <|
  put R 1 inb_S8x128x128_S1x128x128_1_0_0 (right (lanes0 x)) (lanes0 y) <| put R 0 inb_S8x128x128_S1x128x128_0_0_0 (left (lanes0 x)) (lanes0 y) L

/-- A group's matrix from the two arrays of a chunk, by row and column. -/
def outer (X Y : ℕ → ℕ → EReal) (g r k : ℕ) : EReal := ∑ l : Fin 128, (if l.val / 64 = g % 2 then X r (128 * (g / 2) + l) else 0) * Y k (128 * (g / 2) + l)

theorem left_outer {x y : FVec Ideal S128x128 .bf16} {X Y : ℕ → ℕ → EReal} (j : ℕ) (hx : ∀ r l : Fin 128, (x (ix2 r l) : EReal) = X r (128 * j + l))
    (hy : ∀ r l : Fin 128, (y (ix2 r l) : EReal) = Y r (128 * j + l)) (r k : Fin 128) :
    ∑ l : Fin 128, (left x (ix2 r l) : EReal) * (y (ix2 k l) : EReal) = outer X Y (2 * j) r k := by
  unfold outer
  refine Finset.sum_congr rfl fun l _ => ?_
  have hl := l.isLt
  rw [left_at, hx, hy, show 2 * j / 2 = j by omega]
  refine congrArg (· * _) (if_congr ?_ rfl rfl)
  omega

theorem right_outer {x y : FVec Ideal S128x128 .bf16} {X Y : ℕ → ℕ → EReal} (j : ℕ) (hx : ∀ r l : Fin 128, (x (ix2 r l) : EReal) = X r (128 * j + l))
    (hy : ∀ r l : Fin 128, (y (ix2 r l) : EReal) = Y r (128 * j + l)) (r k : Fin 128) :
    ∑ l : Fin 128, (right x (ix2 r l) : EReal) * (y (ix2 k l) : EReal) = outer X Y (2 * j + 1) r k := by
  unfold outer
  refine Finset.sum_congr rfl fun l _ => ?_
  have hl := l.isLt
  rw [right_at, hx, hy, show (2 * j + 1) / 2 = j by omega, ← ite_not]
  refine congrArg (· * _) (if_congr ?_ rfl rfl)
  omega

theorem chunkW_at (R : Reader) {x y : FVec Ideal S128x512 .bf16} {X Y : ℕ → ℕ → EReal} (L : Pieces) (O : ℕ → ℕ → ℕ → EReal)
    (hR : ∀ (L' : Pieces) (i : Fin 8) (inb : Slab i.val), (∀ r k : Fin 128, (View.canon L' (ix3 i r k) : EReal) = View.canon L (ix3 i r k)) →
      ∀ r k : Fin 128, (R L' i.val inb (ix3 0 r k) : EReal) = O i r k)
    (hx : ∀ (r : Fin 128) (l : Fin 512), (x (ix2 r l) : EReal) = X r l) (hy : ∀ (r : Fin 128) (l : Fin 512), (y (ix2 r l) : EReal) = Y r l) (i : Fin 8) (r k : Fin 128) :
    (View.canon (chunkW R x y L) (ix3 i r k) : EReal) = O i r k + outer X Y i r k := by
  have x0 : ∀ r l : Fin 128, (lanes0 x (ix2 r l) : EReal) = X r (128 * 0 + l) := fun r l => by pointwise []; exact hx r _
  have x1 : ∀ r l : Fin 128, (lanes1 x (ix2 r l) : EReal) = X r (128 * 1 + l) := fun r l => by pointwise []; exact hx r _
  have x2 : ∀ r l : Fin 128, (lanes2 x (ix2 r l) : EReal) = X r (128 * 2 + l) := fun r l => by pointwise []; exact hx r _
  have x3 : ∀ r l : Fin 128, (lanes3 x (ix2 r l) : EReal) = X r (128 * 3 + l) := fun r l => by pointwise []; exact hx r _
  have y0 : ∀ r l : Fin 128, (lanes0 y (ix2 r l) : EReal) = Y r (128 * 0 + l) := fun r l => by pointwise []; exact hy r _
  have y1 : ∀ r l : Fin 128, (lanes1 y (ix2 r l) : EReal) = Y r (128 * 1 + l) := fun r l => by pointwise []; exact hy r _
  have y2 : ∀ r l : Fin 128, (lanes2 y (ix2 r l) : EReal) = Y r (128 * 2 + l) := fun r l => by pointwise []; exact hy r _
  have y3 : ∀ r l : Fin 128, (lanes3 y (ix2 r l) : EReal) = Y r (128 * 3 + l) := fun r l => by pointwise []; exact hy r _
  unfold chunkW put
  obtain ⟨i, hi⟩ := i
  have cases : i = 0 ∨ i = 1 ∨ i = 2 ∨ i = 3 ∨ i = 4 ∨ i = 5 ∨ i = 6 ∨ i = 7 := by omega
  rcases cases with rfl | rfl | rfl | rfl | rfl | rfl | rfl | rfl <;>
    simp only [slab_at, plus_at, left_outer 0 x0 y0, right_outer 0 x0 y0, left_outer 1 x1 y1, right_outer 1 x1 y1, left_outer 2 x2 y2, right_outer 2 x2 y2,
      left_outer 3 x3 y3, right_outer 3 x3 y3, reduceIte, Nat.reduceEqDiff, OfNat.ofNat_ne_zero, OfNat.zero_ne_ofNat, OfNat.one_ne_ofNat, OfNat.ofNat_ne_one, zero_ne_one, one_ne_zero, Nat.reduceMul, Nat.reduceAdd] <;>
    refine congrArg (· + _) (hR _ ⟨_, hi⟩ _ (fun r k => ?_) r k) <;>
    simp [slab_at]

/-! ## A point -/

/-- The product of a chunk's cotangent with its gating values, and a chunk's mixed values. -/
abbrev gated (d u : Vec Ideal S128x512 .bf16) : FVec Ideal S128x512 .f32 :=
  mulf (extf .f32 (shapeCast S128x512 d shapeCasts_S128x512_S128x512) bitsLt_bf16_f32) (extf .f32 (shapeCast S128x512 u shapeCasts_S128x512_S128x512) bitsLt_bf16_f32)

abbrev Chunks := (a : ℕ) → Fits a → Vec Ideal S128x512 .bf16

abbrev stepW (d u v : Chunks) (R : Reader) (a : ℕ) (inb : Fits a) (L : Pieces) : Pieces :=
  chunkW R (truncf .bf16 (gated (d a inb) (u a inb)) bitsLt_bf16_f32) (shapeCast S128x512 (v a inb) shapeCasts_S128x512_S128x512) L

/-- A matrix read back from the stores so far, or from what the point before left. -/
abbrev back (W : View sig .tc .vmem S8x128x128 .f32) : Reader := fun L g inb => W.readCov L (slab g inb).toLoadRect

theorem back_at (W : View sig .tc .vmem S8x128x128 .f32) (L : Pieces) (i : Fin 8) (inb : Slab i.val) (r k : Fin 128) :
    (back W L i.val inb (ix3 0 r k) : EReal) = View.canon L (ix3 i r k) := by
  show (W.readCov L (slab i.val inb).toLoadRect (ix3 0 r k) : EReal) = _
  rw [View.readCov_eq_canon']
  exact congrArg (View.canon L) (ext3 (by show i.val + 1 * 0 = i.val; omega) (by show 0 + 1 * r.val = r.val; omega) (by show 0 + 1 * k.val = k.val; omega))

/-- A chunk's share in a group's matrix. -/
def Data.share (w : Data) (n : ℕ) : ℕ → ℕ → ℕ → EReal := outer (fun r l => w.D (128 * n + r) l * w.U (128 * n + r) l) (fun r l => w.V (128 * n + r) l)

/-- What a point's chunks hold. -/
structure Reads (w : Data) (t : ℕ) (d u v : Chunks) : Prop where
  hd : ∀ (a : ℕ) (inb : Fits a), a ≤ 896 → ∀ (r : Fin 128) (l : Fin 512), (d a inb (ix2 r l) : EReal) = w.D (t * 1024 + (a + r)) l
  hu : ∀ (a : ℕ) (inb : Fits a), a ≤ 896 → ∀ (r : Fin 128) (l : Fin 512), (u a inb (ix2 r l) : EReal) = w.U (t * 1024 + (a + r)) l
  hv : ∀ (a : ℕ) (inb : Fits a), a ≤ 896 → ∀ (r : Fin 128) (l : Fin 512), (v a inb (ix2 r l) : EReal) = w.V (t * 1024 + (a + r)) l

section

variable {w : Data} {t : ℕ} {d u v : Chunks} (h : Reads w t d u v)
include h

theorem gated_at (a : ℕ) (inb : Fits a) (ha : a ≤ 896) (r : Fin 128) (l : Fin 512) :
    (gated (d a inb) (u a inb) (ix2 r l) : EReal) = w.D (t * 1024 + (a + r)) l * w.U (t * 1024 + (a + r)) l := by
  pointwise []
  rw [h.hd a inb ha, h.hu a inb ha]

theorem stepW_at (R : Reader) (L : Pieces) (O : ℕ → ℕ → ℕ → EReal) (c : ℕ) (hc : c < 8) (inb : Fits (128 * c))
    (hR : ∀ (L' : Pieces) (i : Fin 8) (inb : Slab i.val), (∀ r k : Fin 128, (View.canon L' (ix3 i r k) : EReal) = View.canon L (ix3 i r k)) →
      ∀ r k : Fin 128, (R L' i.val inb (ix3 0 r k) : EReal) = O i r k) (i : Fin 8) (r k : Fin 128) :
    (View.canon (stepW d u v R (128 * c) inb L) (ix3 i r k) : EReal) = O i r k + w.share (8 * t + c) i r k := by
  refine chunkW_at R L O hR (fun r l => ?_) (fun r l => ?_) i r k
  · refine (gated_at h (128 * c) inb (by omega) r l).trans ?_
    rw [show 128 * (8 * t + c) + r.val = t * 1024 + (128 * c + r.val) by omega]
  · pointwise []
    rw [h.hv (128 * c) inb (by omega), show 128 * (8 * t + c) + r.val = t * 1024 + (128 * c + r.val) by omega]

end

/-! ## The last point -/

/-- A matrix without what lies above the diagonal. -/
def lower (o : Vec Ideal S1x128x128 .f32) : FVec Ideal S1x128x128 .f32 :=
  shapeCast S1x128x128 (select k0_pay2 (shapeCast S128x128 o shapeCasts_S1x128x128_S128x128) (broadcast S128x128 (Scalar.ofBits (F := Ideal) .f32 0x00000000#32))) shapeCasts_S128x128_S1x128x128

theorem tri_bit : ∀ r k : Fin 128, IntOp.cmpi CmpIPredicate.sle (BitVec.ofNat 32 k.val) (BitVec.ofNat 32 r.val) = if k.val ≤ r.val then 1#1 else 0#1 := by decide +kernel

theorem lower_at (o : Vec Ideal S1x128x128 .f32) (r k : Fin 128) : (lower o (ix3 0 r k) : EReal) = if k.val ≤ r.val then (o (ix3 0 r k) : EReal) else 0 := by
  pointwise [lower, k0_pay2]
  rw [tri_bit]
  split_ifs <;> rfl

abbrev cut (W : View sig .tc .vmem S8x128x128 .f32) (g : ℕ) (inb : Slab g) (L : Pieces) : Pieces := ⟨slab g inb, lower (back W L g inb)⟩ :: L

def cuts (W : View sig .tc .vmem S8x128x128 .f32) (L : Pieces) : Pieces :=
  cut W 7 inb_S8x128x128_S1x128x128_7_0_0 <| cut W 6 inb_S8x128x128_S1x128x128_6_0_0 <| cut W 5 inb_S8x128x128_S1x128x128_5_0_0 <|
  cut W 4 inb_S8x128x128_S1x128x128_4_0_0 <| cut W 3 inb_S8x128x128_S1x128x128_3_0_0 <| cut W 2 inb_S8x128x128_S1x128x128_2_0_0 <|
  cut W 1 inb_S8x128x128_S1x128x128_1_0_0 <| cut W 0 inb_S8x128x128_S1x128x128_0_0_0 L

theorem cuts_at (W : View sig .tc .vmem S8x128x128 .f32) (L : Pieces) (i : Fin 8) (r k : Fin 128) :
    (View.canon (cuts W L) (ix3 i r k) : EReal) = if k.val ≤ r.val then (View.canon L (ix3 i r k) : EReal) else 0 := by
  unfold cuts cut
  obtain ⟨i, hi⟩ := i
  have cases : i = 0 ∨ i = 1 ∨ i = 2 ∨ i = 3 ∨ i = 4 ∨ i = 5 ∨ i = 6 ∨ i = 7 := by omega
  rcases cases with rfl | rfl | rfl | rfl | rfl | rfl | rfl | rfl <;>
    simp only [slab_at, lower_at, reduceIte, Nat.reduceEqDiff, OfNat.ofNat_ne_zero, OfNat.zero_ne_ofNat, OfNat.one_ne_ofNat, OfNat.ofNat_ne_one, zero_ne_one, one_ne_zero] <;>
    refine if_congr Iff.rfl ((back_at W _ ⟨_, hi⟩ _ r k).trans ?_) rfl <;>
    simp [slab_at]

end Cert.Sgu

end
-- ==== Proof.Sgu.Carried.lean ====
module

public import proofs.«01_k».proof.Proof.Sgu.Weights

/-! The spatial gating's gradient: the weights' gradient after each grid point.

Every point adds its eight chunks' shares; the last one then clears what lies above the diagonal. -/

@[expose] public section

set_option maxRecDepth 16384

noncomputable section

namespace Cert.Sgu

open Cert.SguKernelIdeal Cert.SguKernelIdeal.Gen Cert.Tools
open Idealize.ShloMosaic Idealize.ShloMosaic.TcCoe Idealize.SL.Sem

variable (m : (ℓ : Loc nD τ sig) → Buf (Elt Ideal) ℓ) (c : Dev nD) {w : Data}

/-- A chunk of each of the three row operands, as the kernel loads it. -/
abbrev loadD (t : Fin cfg0.N) : Chunks := fun a inb =>
  View.readAt (Elt Ideal) (ms0_0 t).view (Rect.unit (s := S1024x512) ![a, 0] ![128, 512] inb).toLoadRect ((hs0_0 t).unread (iblk m c 0 t))
abbrev loadV (t : Fin cfg0.N) : Chunks := fun a inb =>
  View.readAt (Elt Ideal) (ms0_1 t).view (Rect.unit (s := S1024x512) ![a, 0] ![128, 512] inb).toLoadRect ((hs0_1 t).unread (iblk m c 1 t))
abbrev loadU (t : Fin cfg0.N) : Chunks := fun a inb =>
  View.readAt (Elt Ideal) (ms0_2 t).view (Rect.unit (s := S1024x512) ![a, 0] ![128, 512] inb).toLoadRect ((hs0_2 t).unread (iblk m c 2 t))

/-- All operands' blocks hold the data. -/
abbrev Holds (w : Data) (t : Fin cfg0.N) : Prop := Held w t.val (iblk m c 0 t) (iblk m c 1 t) (iblk m c 2 t) (iblk m c 3 t) (iblk m c 4 t) (iblk m c 5 t)

theorem reads (t : Fin cfg0.N) (h : Holds m c w t) : Reads w t.val (loadD m c t) (loadU m c t) (loadV m c t) where
  hd a inb ha r l := by
    simp only [loadD, View.readAt_eq_ld, (hs0_0 t).read_unread]
    exact (rows_at (iblk m c 0 t) a inb r l (by omega)).trans (h.h0 _ l)
  hu a inb ha r l := by
    simp only [loadU, View.readAt_eq_ld, (hs0_2 t).read_unread]
    exact (rows_at (iblk m c 2 t) a inb r l (by omega)).trans (h.h2 _ l)
  hv a inb ha r l := by
    simp only [loadV, View.readAt_eq_ld, (hs0_1 t).read_unread]
    exact (rows_at (iblk m c 1 t) a inb r l (by omega)).trans (h.h1 _ l)

/-- What the point before left of a matrix. -/
abbrev before (t : Fin cfg0.N) (x : Vec Ideal S8x128x128 .f32) : Reader := fun _ g inb =>
  View.readAt (Elt Ideal) (ms0_8 t).view (slab g inb).toLoadRect ((hs0_8 t).unread x)

theorem before_at (t : Fin cfg0.N) (x : Vec Ideal S8x128x128 .f32) (L : Pieces) (i : Fin 8) (inb : Slab i.val) (r k : Fin 128) :
    (before t x L i.val inb (ix3 0 r k) : EReal) = x (ix3 i r k) := by
  simp only [before, View.readAt_eq_ld, (hs0_8 t).read_unread]
  exact congrArg x (ext3 (by show i.val + 1 * 0 = i.val; omega) (by show 0 + 1 * r.val = r.val; omega) (by show 0 + 1 * k.val = k.val; omega))

/-- The shares of the chunks before chunk `n`. -/
def Data.dw (w : Data) (n : ℕ) (i r k : ℕ) : EReal := ∑ a ∈ Finset.range n, w.share a i r k

theorem dw_step (n : ℕ) (i r k : ℕ) : w.dw (8 * n) i r k + ∑ a ∈ Finset.range 8, w.share (8 * n + a) i r k = w.dw (8 * (n + 1)) i r k := by
  unfold Data.dw
  rw [Nat.mul_add, Finset.sum_range_add]

theorem stepW_next {t : ℕ} {d u v : Chunks} (h : Reads w t d u v) (W : View sig .tc .vmem S8x128x128 .f32) (c : ℕ) (hc : c < 8) (inb : Fits (128 * c)) (L : Pieces)
    (O : ℕ → ℕ → ℕ → EReal) (hO : ∀ (i : Fin 8) (r k : Fin 128), (View.canon L (ix3 i r k) : EReal) = O i r k + ∑ n ∈ Finset.range c, w.share (8 * t + n) i r k)
    (i : Fin 8) (r k : Fin 128) : (View.canon (stepW d u v (back W) (128 * c) inb L) (ix3 i r k) : EReal) = O i r k + ∑ n ∈ Finset.range (c + 1), w.share (8 * t + n) i r k := by
  rw [Finset.sum_range_succ, ← add_assoc]
  exact stepW_at h (back W) L (fun i r k => O i r k + ∑ n ∈ Finset.range c, w.share (8 * t + n) i r k) c hc inb
    (fun L' i inb e r k => (back_at W L' i inb r k).trans ((e r k).trans (hO i r k))) i r k

theorem stepW_start {t : ℕ} {d u v : Chunks} (h : Reads w t d u v) (R : Reader) (L : Pieces) (O : ℕ → ℕ → ℕ → EReal)
    (hR : ∀ (L' : Pieces) (i : Fin 8) (inb : Slab i.val), (∀ r k : Fin 128, (View.canon L' (ix3 i r k) : EReal) = View.canon L (ix3 i r k)) →
      ∀ r k : Fin 128, (R L' i.val inb (ix3 0 r k) : EReal) = O i r k) (i : Fin 8) (r k : Fin 128) :
    (View.canon (stepW d u v R 0 inb_S1024x512_S128x512_0_0 L) (ix3 i r k) : EReal) = O i r k + ∑ n ∈ Finset.range (0 + 1), w.share (8 * t + n) i r k := by
  rw [zero_add, Finset.sum_range_one]
  exact stepW_at h R L O 0 (by omega) inb_S1024x512_S128x512_0_0 hR i r k

theorem zeros_at (inb) (i : Fin 8) (r k : Fin 128) :
    (View.canon [(⟨Rect.unit (s := S8x128x128) ![0, 0, 0] S8x128x128.size inb, k0_pay18 (F := Ideal)⟩ : View.Piece (Elt Ideal) S8x128x128 .f32)] (ix3 i r k) : EReal) = 0 := by
  rw [View.canon_cons_unit_lit inb _ _ (by decide)]
  pointwise [k0_pay18]

set_option maxHeartbeats 1000000 in
theorem dw_first (t : Fin cfg0.N) (h0 : t.val % 16 = 0) (h1 : ¬ t.val % 16 = 15) (h : Holds m c w t) (i : Fin 8) (r k : Fin 128) :
    ((outsAt0 m c t.val t.isLt).2.2.1 (ix3 i r k) : EReal) = ∑ n ∈ Finset.range 8, w.share (8 * t.val + n) i r k := by
  rw [outsAt0_A m c t h0 h1, ← zero_add (∑ n ∈ Finset.range 8, w.share (8 * t.val + n) i r k)]
  dsimp only
  unfold out0_A_8
  rw [View.read_writes_eq_canon _ _ _ (fun y => cover0_A_8 (y := y) ..)]
  unfold kernelRun0_A; dsimp only
  have hr := reads m c t h
  refine stepW_next hr (ms0_8 t).view 7 (by omega) inb_S1024x512_S128x512_896_0 _ (fun _ _ _ => 0) ?_ i r k
  refine stepW_next hr (ms0_8 t).view 6 (by omega) inb_S1024x512_S128x512_768_0 _ (fun _ _ _ => 0) ?_
  refine stepW_next hr (ms0_8 t).view 5 (by omega) inb_S1024x512_S128x512_640_0 _ (fun _ _ _ => 0) ?_
  refine stepW_next hr (ms0_8 t).view 4 (by omega) inb_S1024x512_S128x512_512_0 _ (fun _ _ _ => 0) ?_
  refine stepW_next hr (ms0_8 t).view 3 (by omega) inb_S1024x512_S128x512_384_0 _ (fun _ _ _ => 0) ?_
  refine stepW_next hr (ms0_8 t).view 2 (by omega) inb_S1024x512_S128x512_256_0 _ (fun _ _ _ => 0) ?_
  refine stepW_next hr (ms0_8 t).view 1 (by omega) inb_S1024x512_S128x512_128_0 _ (fun _ _ _ => 0) ?_
  exact stepW_start hr (back (ms0_8 t).view) [⟨Rect.unit (s := S8x128x128) ![0, 0, 0] S8x128x128.size inb_S8x128x128_S8x128x128_0_0_0, k0_pay18 (F := Ideal)⟩] (fun _ _ _ => 0)
    (fun L i inb e r k => (back_at (ms0_8 t).view L i inb r k).trans ((e r k).trans (zeros_at inb_S8x128x128_S8x128x128_0_0_0 i r k)))

set_option maxHeartbeats 1000000 in
theorem dw_inner (t : Fin cfg0.N) (h0 : ¬ t.val % 16 = 0) (h1 : ¬ t.val % 16 = 15) (h : Holds m c w t)
    (ih : ∀ (i : Fin 8) (r k : Fin 128), ((outsAt0 m c (t.val - 1) (Nat.lt_of_le_of_lt (Nat.sub_le _ _) t.isLt)).2.2.1 (ix3 i r k) : EReal) = w.dw (8 * t.val) i r k)
    (i : Fin 8) (r k : Fin 128) : ((outsAt0 m c t.val t.isLt).2.2.1 (ix3 i r k) : EReal) = w.dw (8 * (t.val + 1)) i r k := by
  rw [outsAt0_B m c t h0 h1]
  dsimp only
  unfold out0_B_8
  rw [View.read_writes_eq_canon _ _ _ (fun y => cover0_B_8 (y := y) ..), ← dw_step]
  unfold kernelRun0_B; dsimp only
  have hr := reads m c t h
  refine stepW_next hr (ms0_8 t).view 7 (by omega) inb_S1024x512_S128x512_896_0 _ (w.dw (8 * t.val)) ?_ i r k
  refine stepW_next hr (ms0_8 t).view 6 (by omega) inb_S1024x512_S128x512_768_0 _ (w.dw (8 * t.val)) ?_
  refine stepW_next hr (ms0_8 t).view 5 (by omega) inb_S1024x512_S128x512_640_0 _ (w.dw (8 * t.val)) ?_
  refine stepW_next hr (ms0_8 t).view 4 (by omega) inb_S1024x512_S128x512_512_0 _ (w.dw (8 * t.val)) ?_
  refine stepW_next hr (ms0_8 t).view 3 (by omega) inb_S1024x512_S128x512_384_0 _ (w.dw (8 * t.val)) ?_
  refine stepW_next hr (ms0_8 t).view 2 (by omega) inb_S1024x512_S128x512_256_0 _ (w.dw (8 * t.val)) ?_
  refine stepW_next hr (ms0_8 t).view 1 (by omega) inb_S1024x512_S128x512_128_0 _ (w.dw (8 * t.val)) ?_
  exact stepW_start hr (before t _) [] (w.dw (8 * t.val)) (fun L i inb _ r k => (before_at t _ L i inb r k).trans (ih i r k))

theorem cut_list (W : View sig .tc .vmem S8x128x128 .f32) (L : Pieces) (f : ℕ → ℕ → ℕ → EReal) (hf : ∀ (i : Fin 8) (r k : Fin 128), (View.canon L (ix3 i r k) : EReal) = f i r k)
    (i : Fin 8) (r k : Fin 128) : (View.canon (cuts W L) (ix3 i r k) : EReal) = if k.val ≤ r.val then f i r k else 0 := by
  rw [cuts_at, hf]

set_option maxHeartbeats 1000000 in
theorem dw_last (t : Fin cfg0.N) (h0 : ¬ t.val % 16 = 0) (h1 : t.val % 16 = 15) (h : Holds m c w t)
    (ih : ∀ (i : Fin 8) (r k : Fin 128), ((outsAt0 m c (t.val - 1) (Nat.lt_of_le_of_lt (Nat.sub_le _ _) t.isLt)).2.2.1 (ix3 i r k) : EReal) = w.dw (8 * t.val) i r k)
    (i : Fin 8) (r k : Fin 128) : ((outsAt0 m c t.val t.isLt).2.2.1 (ix3 i r k) : EReal) = if k.val ≤ r.val then w.dw (8 * (t.val + 1)) i r k else 0 := by
  rw [outsAt0_C m c t h0 h1]
  dsimp only
  unfold out0_C_8
  rw [View.read_writes_eq_canon _ _ _ (fun y => cover0_C_8 (y := y) ..)]
  unfold kernelRun0_C; dsimp only
  refine cut_list (ms0_8 t).view _ (w.dw (8 * (t.val + 1))) (fun i r k => ?_) i r k
  rw [← dw_step]
  revert i r k
  have hr := reads m c t h
  refine stepW_next hr (ms0_8 t).view 7 (by omega) inb_S1024x512_S128x512_896_0 _ (w.dw (8 * t.val)) ?_
  refine stepW_next hr (ms0_8 t).view 6 (by omega) inb_S1024x512_S128x512_768_0 _ (w.dw (8 * t.val)) ?_
  refine stepW_next hr (ms0_8 t).view 5 (by omega) inb_S1024x512_S128x512_640_0 _ (w.dw (8 * t.val)) ?_
  refine stepW_next hr (ms0_8 t).view 4 (by omega) inb_S1024x512_S128x512_512_0 _ (w.dw (8 * t.val)) ?_
  refine stepW_next hr (ms0_8 t).view 3 (by omega) inb_S1024x512_S128x512_384_0 _ (w.dw (8 * t.val)) ?_
  refine stepW_next hr (ms0_8 t).view 2 (by omega) inb_S1024x512_S128x512_256_0 _ (w.dw (8 * t.val)) ?_
  refine stepW_next hr (ms0_8 t).view 1 (by omega) inb_S1024x512_S128x512_128_0 _ (w.dw (8 * t.val)) ?_
  exact stepW_start hr (before t _) [] (w.dw (8 * t.val)) (fun L i inb _ r k => (before_at t _ L i inb r k).trans (ih i r k))

/-- The weights' gradient after a point that is not the last, by the points before it. -/
theorem dw_after (h : ∀ t, Holds m c w t) : ∀ (n : ℕ) (hn : n < cfg0.N), n < 15 → ∀ (i : Fin 8) (r k : Fin 128),
    ((outsAt0 m c n hn).2.2.1 (ix3 i r k) : EReal) = w.dw (8 * (n + 1)) i r k
  | 0, hn, _, i, r, k => by
    refine (dw_first m c ⟨0, hn⟩ rfl (fun e : 0 % 16 = 15 => absurd e (by decide)) (h _) i r k).trans ?_
    show (∑ n ∈ Finset.range 8, w.share (8 * 0 + n) i r k) = w.dw (8 * (0 + 1)) i r k
    unfold Data.dw
    simp
  | n + 1, hn, h15, i, r, k => dw_inner m c ⟨n + 1, hn⟩ (by dsimp <;> omega) (by dsimp <;> omega) (h _)
      (fun i r k => dw_after h n (by omega) (by omega) i r k) i r k

end Cert.Sgu

end
-- ==== Proof.Sgu.WeightArray.lean ====
module

public import proofs.«01_k».proof.Proof.Sgu.Arrays
public import proofs.«01_k».proof.Proof.Sgu.Carried

/-! The spatial gating's gradient: the array of the weights' gradient after the run, and the run's three results. -/

@[expose] public section

set_option maxRecDepth 16384

noncomputable section

namespace Cert.Sgu

open Cert.SguKernelIdeal Cert.SguKernelIdeal.Gen Cert.Tools
open Idealize.ShloMosaic Idealize.ShloMosaic.TcCoe Idealize.SL.Sem

variable (m : (ℓ : Loc nD τ sig) → Buf (Elt Ideal) ℓ) (ρ : Dev nD → PrngReg) (c : Dev nD)

theorem index_dw : ∀ t : Fin grid0.N, win0_8.index t 0 = 0 ∧ win0_8.index t 1 = 0 ∧ win0_8.index t 2 = 0 := by decide +kernel

def resW : S8x128x128.Idx → EReal := fun i => if (i 2).val ≤ (i 1).val then (data m c).dw 128 (i 0).val (i 1).val (i 2).val else 0

theorem outs_dw (t : Fin cfg0.N) (h : t.val % 16 = 15) (i : Fin 8) (r k : Fin 128) : ((outsAt0 m c t.val t.isLt).2.2.1 (ix3 i r k) : EReal) = resW m c (ix3 i r k) := by
  have hN : t.val < 16 := t.isLt
  have e := dw_last m c t (by omega) h (held m c t) (fun i r k => by
    have e := dw_after m c (held m c) (t.val - 1) (Nat.lt_of_le_of_lt (Nat.sub_le _ _) t.isLt) (by omega) i r k
    rw [show 8 * (t.val - 1 + 1) = 8 * t.val by omega] at e
    exact e) i r k
  rw [show 8 * (t.val + 1) = 128 by omega] at e
  exact e

theorem final_dw : (dats m 0 c).arrAt 8 cfg0.N = resW m c := by
  have emb : ∀ (t : Fin cfg0.N) (i : Fin 8) (r k : Fin 128), ((cfg0.win 8).blk t).view.emb (ix3 i r k) = (ix3 i r k : S8x128x128.Idx) := fun t i r k => by
    obtain ⟨x, y, z⟩ := index_dw t
    exact ext3 ((win0_8.rect_emb_val t (ix3 i r k) 0).trans (by rw [x]; exact Nat.zero_add _)) ((win0_8.rect_emb_val t (ix3 i r k) 1).trans (by rw [y]; exact Nat.zero_add _))
      ((win0_8.rect_emb_val t (ix3 i r k) 2).trans (by rw [z]; exact Nat.zero_add _))
  refine (dats m 0 c).arrAt_eq_of_cover 8 _ (fun t ht => ?_) (fun y => ?_)
  · have h := (flush0_8 t).mp ht
    show (cfg0.win 8).cut (grid0.coords t) ((dats m 0 c).after 8 t) = _
    rw [after0_8]
    funext y
    obtain ⟨i, r, k, rfl⟩ : ∃ (i : Fin 8) (r k : Fin 128), y = ix3 i r k := ⟨y 0, y 1, y 2, eq_ix3 y⟩
    exact (outs_dw m c t h i r k).trans (congrArg (resW m c) (emb t i r k)).symm
  · obtain ⟨i, r, k, rfl⟩ : ∃ (i : Fin 8) (r k : Fin 128), y = ix3 i r k := ⟨y 0, y 1, y 2, eq_ix3 y⟩
    exact ⟨⟨15, by decide⟩, (flush0_8 _).mpr rfl, (emb ⟨15, by decide⟩ i r k) ▸ View.emb_mem_set _ _⟩

/-- The run's three results. -/
theorem run_results : θ_run defs (onTc (τ := τ) (main (F := Ideal))) ⟨m, fun _ => 0, ρ⟩ (fun r => ∀ c : Dev nD,
    r.2.mem ((c.tc : Thread nD τ).loc main_v18_0) = resU m c ∧ r.2.mem ((c.tc : Thread nD τ).loc main_v18_1) = resV m c
      ∧ r.2.mem ((c.tc : Thread nD τ).loc main_v18_2) = resW m c) :=
  (θ_run defs _ _).mono (fun r h c => ⟨((h c).1 6).trans (final_du m c), ((h c).1 7).trans (final_dv m c), ((h c).1 8).trans (final_dw m c)⟩) (run_main m ρ)

end Cert.Sgu

end
-- ==== Proof.Sgu.WeightReference.lean ====
module

public import proofs.«01_k».proof.Proof.Sgu.Reference
public import proofs.«01_k».proof.Proof.Sgu.WeightArray
public import Idealize.ShloMosaic.Lib.TwoAxisContraction

/-! The reference's gradient of the weights at an index is the run's. -/

@[expose] public section

set_option maxRecDepth 16384

noncomputable section

namespace Cert.Sgu

open Cert.SguReferenceIdeal Cert.SguReferenceIdeal.Gen Cert.SguReferenceIdeal.Read Cert.Tools
open Idealize.ShloMosaic Idealize.ShloMosaic.TcCoe Idealize.SL.Sem
open Idealize.ShloMosaic.ValueIdx (contrEquiv2 contrEquiv2_symm_val0 contrEquiv2_symm_val1 sum_contr2)

/-- The product summed over the chunks and a group's lanes. -/
theorem dot_at (L : FVec Ideal S8x128x64x128 .f32) (R : FVec Ideal S128x128x8x64 .f32) (i : Fin 8) (r k : Fin 128) :
    (Host.dotGeneral dot_S8x128x64x128_S128x128x8x64_S8x128x128_12_03_3_1_0_2 none L R (ix3 i r k) : EReal)
      = ∑ n : Fin 128, ∑ p : Fin 64, (L (ix4 i n p r) : EReal) * (R (ix4 n k i p) : EReal) := by
  let D := dot_S8x128x64x128_S128x128x8x64_S8x128x128_12_03_3_1_0_2
  show FloatOps.dotGeneral D none _ L R (ix3 i r k) = _
  rw [Ideal.dotGeneral_apply, sum_contr2 D 128 64 rfl rfl rfl]
  refine Finset.sum_congr rfl fun n _ => Finset.sum_congr rfl fun p _ => ?_
  have h0 := contrEquiv2_symm_val0 D 128 64 rfl rfl rfl (n, p)
  have h1 := contrEquiv2_symm_val1 D 128 64 rfl rfl rfl (n, p)
  have el : D.lhsIdx (ix3 i r k) ((contrEquiv2 D 128 64 rfl rfl rfl).symm (n, p)) = ix4 i n p r := by
    funext a; apply Fin.ext
    match a with
    | ⟨0, _⟩ => rfl
    | ⟨1, _⟩ => exact h0
    | ⟨2, _⟩ => exact h1
    | ⟨3, _⟩ => rfl
  have er : D.rhsIdx (ix3 i r k) ((contrEquiv2 D 128 64 rfl rfl rfl).symm (n, p)) = ix4 n k i p := by
    funext a; apply Fin.ext
    match a with
    | ⟨0, _⟩ => exact h0
    | ⟨1, _⟩ => rfl
    | ⟨2, _⟩ => rfl
    | ⟨3, _⟩ => exact h1
  rw [el, er]

theorem mask_bit : ∀ r k : Fin 128, IntOp.cmpi CmpIPredicate.sge (IntOp.addi (BitVec.ofNat 32 r.val) 0#32) (BitVec.ofNat 32 k.val) = if k.val ≤ r.val then 1#1 else 0#1 := by
  decide +kernel

theorem mask_at (i : Fin 8) (r k : Fin 128) : (val_main_v25 (F := Ideal) (ix3 i r k) : EReal) = if k.val ≤ r.val then 1 else 0 := by
  rw [val_main_v25_apply, val_main_v3_apply, val_main_v2_apply, val_main_call0_v4_apply, val_main_call0_v2_apply, val_main_call0_v0_apply, val_main_call0_v3_apply,
    val_main_call0_v1_apply, val_main_v1_apply, val_main_call0_v5_apply]
  show Scalar.select (IntOp.cmpi CmpIPredicate.sge (IntOp.addi (BitVec.ofNat 32 r.val) 0#32) (BitVec.ofNat 32 k.val)) (Ideal.ofBits .f32 0x3F800000#32) (Ideal.ofBits .f32 0x00000000#32) = _
  rw [mask_bit]
  split_ifs
  · exact Ideal.ofBits_one_f32
  · exact Ideal.ofBits_zero_f32

theorem dw_ref (x0 x1 x4 : S16384x512.Idx → EReal) (i : Fin 8) (r k : Fin 128) :
    (val_main_v26 (F := Ideal) x0 x1 x4 (ix3 i r k) : EReal)
      = if k.val ≤ r.val then ∑ n : Fin 128, ∑ p : Fin 64, at2 x4 (128 * n + r) (64 * i + p) * at2 x0 (128 * n + r) (64 * i + p) * at2 x1 (128 * n + k) (64 * i + p) else 0 := by
  have hi := i.isLt
  have hr := r.isLt
  have hk := k.isLt
  show (val_main_v22 (F := Ideal) x0 x1 x4 (ix3 i r k) : EReal) * (val_main_v25 (F := Ideal) (ix3 i r k) : EReal) = _
  rw [mask_at]
  unfold val_main_v22
  rw [dot_at, mul_ite, mul_one, mul_zero]
  refine if_congr Iff.rfl (Finset.sum_congr rfl fun n _ => Finset.sum_congr rfl fun p _ => ?_) rfl
  have hn := n.isLt
  have hp := p.isLt
  rw [val_main_v21_apply, val_main_v16_apply, val_main_v14_apply, val_main_v0_apply, mul_comm (at2 x4 _ _)]
  refine congrArg₂ (fun a b : EReal => a * b) (congrArg₂ (fun a b : EReal => a * b) (at2_at x0 _ _ _ ?_ ?_) (at2_at x4 _ _ _ ?_ ?_)) (at2_at x1 _ _ _ ?_ ?_) <;> dsimp <;> omega

/-- A group's lanes among the 128 that a matrix product runs over. -/
theorem outer_lanes (X Y : ℕ → ℕ → EReal) (i r k : ℕ) : outer X Y i r k = ∑ p : Fin 64, X r (64 * i + p) * Y k (64 * i + p) := by
  unfold outer
  refine (Fin.sum_univ_add (a := 64) (b := 64) (fun l : Fin (64 + 64) => (if l.val / 64 = i % 2 then X r (128 * (i / 2) + l.val) else 0) * Y k (128 * (i / 2) + l.val))).trans ?_
  have lo : ∀ p : Fin 64, (Fin.castAdd 64 p).val / 64 = 0 := fun p => by have := p.isLt; show p.val / 64 = 0; omega
  have hi : ∀ p : Fin 64, (Fin.natAdd 64 p).val / 64 = 1 := fun p => by have := p.isLt; show (64 + p.val) / 64 = 1; omega
  rcases Nat.mod_two_eq_zero_or_one i with e | e
  · simp only [lo, hi, e, reduceIte, one_ne_zero, zero_mul, Finset.sum_const_zero, add_zero]
    refine Finset.sum_congr rfl fun p _ => ?_
    rw [show 128 * (i / 2) + (Fin.castAdd 64 p).val = 64 * i + p.val by show 128 * (i / 2) + p.val = _; omega]
  · simp only [lo, hi, e, reduceIte, zero_ne_one, zero_mul, Finset.sum_const_zero, zero_add]
    refine Finset.sum_congr rfl fun p _ => ?_
    rw [show 128 * (i / 2) + (Fin.natAdd 64 p).val = 64 * i + p.val by show 128 * (i / 2) + (64 + p.val) = _; omega]

theorem resW_eq (m : (ℓ : Loc Cert.SguKernelIdeal.nD Cert.SguKernelIdeal.τ Cert.SguKernelIdeal.sig) → Buf (Elt Ideal) ℓ) (c : Dev Cert.SguKernelIdeal.nD) (i : Fin 8) (r k : Fin 128) :
    (val_main_v26 (F := Ideal) (arg0 m c) (arg1 m c) (arg4 m c) (ix3 i r k) : EReal) = resW m c (ix3 i r k) := by
  refine (dw_ref (arg0 m c) (arg1 m c) (arg4 m c) i r k).trans ?_
  show _ = if k.val ≤ r.val then (data m c).dw 128 i.val r.val k.val else 0
  refine if_congr Iff.rfl ?_ rfl
  unfold Data.dw Data.share
  rw [Finset.sum_range]
  refine Finset.sum_congr rfl fun n _ => ?_
  rw [outer_lanes]
  rfl

end Cert.Sgu

end
-- ==== Proof.Sgu.Claims.lean ====
module

public import proofs.«01_k».proof.Defs
public import proofs.«01_k».proof.Proof.Gen.SguKernel.Frame
public import proofs.«01_k».proof.Proof.Gen.SguReferenceIdeal.Run
public import proofs.«01_k».proof.Proof.Sgu.WeightReference

@[expose] public section

set_option maxRecDepth 16384

noncomputable section

namespace Cert.Sgu

open Idealize.ShloMosaic Idealize.ShloMosaic.TcCoe Idealize.SL.Sem

theorem frame_kernel : Cert.quiescent_SguKernel := fun m ρ _ => Cert.SguKernel.Gen.frame m ρ

theorem frame_kernelIdeal : Cert.quiescent_SguKernelIdeal := fun m ρ _ => Cert.SguKernelIdeal.Gen.frame m ρ

theorem frame_reference : Cert.quiescent_SguReferenceIdeal := fun m ρ _ =>
  (θ_run _ _ _).mono (fun r h => ⟨fun c => (h c).2.2.2, sem_eq_zero_of_no_sems (sig := Cert.SguReferenceIdeal.sig) (by decide) r.2⟩) (Cert.SguReferenceIdeal.Value.run m ρ)

open Cert.SguReferenceIdeal.Read in
theorem algebraic : Cert.algebraic_SguKernelIdeal_SguReferenceIdeal := fun m ρ m' ρ' _ hm =>
  ⟨fun c => resU m c, fun c => resV m c, fun c => resW m c,
    (θ_run _ _ _).mono (fun r h c => ⟨(h.1 c).1, (h.1 c).2.1, (h.1 c).2.2, h.2 c⟩) (θ_run_and (run_results m ρ) (Cert.SguKernelIdeal.Gen.unchanged m ρ)),
    (θ_run _ _ _).mono (fun r h c => by
        obtain ⟨h0, h1, h2, h3, h4⟩ := hm c
        refine ⟨(h c).1.trans ?_, (h c).2.1.trans ?_, (h c).2.2.1.trans ?_, (h c).2.2.2⟩
        · refine (val_main_v28_eq _ _ _ _).trans ?_
          show val_main_v28 (F := Ideal) (m' ((c.tc : Thread Cert.SguReferenceIdeal.nD Cert.SguReferenceIdeal.τ).loc Cert.SguReferenceIdeal.main_arg1)) (m' ((c.tc : Thread Cert.SguReferenceIdeal.nD Cert.SguReferenceIdeal.τ).loc Cert.SguReferenceIdeal.main_arg2)) (m' ((c.tc : Thread Cert.SguReferenceIdeal.nD Cert.SguReferenceIdeal.τ).loc Cert.SguReferenceIdeal.main_arg3)) (m' ((c.tc : Thread Cert.SguReferenceIdeal.nD Cert.SguReferenceIdeal.τ).loc Cert.SguReferenceIdeal.main_arg4)) = _
          rw [h1, h2, h3, h4]
          funext i
          obtain ⟨k, l, rfl⟩ : ∃ (k : Fin 16384) (l : Fin 512), i = ix2 k l := ⟨i 0, i 1, eq_ix2 i⟩
          exact resU_eq m c k l
        · refine (val_main_v29_eq _ _ _).trans ?_
          show val_main_v29 (F := Ideal) (m' ((c.tc : Thread Cert.SguReferenceIdeal.nD Cert.SguReferenceIdeal.τ).loc Cert.SguReferenceIdeal.main_arg0)) (m' ((c.tc : Thread Cert.SguReferenceIdeal.nD Cert.SguReferenceIdeal.τ).loc Cert.SguReferenceIdeal.main_arg2)) (m' ((c.tc : Thread Cert.SguReferenceIdeal.nD Cert.SguReferenceIdeal.τ).loc Cert.SguReferenceIdeal.main_arg4)) = _
          rw [h0, h2, h4]
          funext i
          obtain ⟨k, l, rfl⟩ : ∃ (k : Fin 16384) (l : Fin 512), i = ix2 k l := ⟨i 0, i 1, eq_ix2 i⟩
          exact resV_eq m c k l
        · refine (val_main_v26_eq _ _ _).trans ?_
          show val_main_v26 (F := Ideal) (m' ((c.tc : Thread Cert.SguReferenceIdeal.nD Cert.SguReferenceIdeal.τ).loc Cert.SguReferenceIdeal.main_arg0)) (m' ((c.tc : Thread Cert.SguReferenceIdeal.nD Cert.SguReferenceIdeal.τ).loc Cert.SguReferenceIdeal.main_arg1)) (m' ((c.tc : Thread Cert.SguReferenceIdeal.nD Cert.SguReferenceIdeal.τ).loc Cert.SguReferenceIdeal.main_arg4)) = _
          rw [h0, h1, h4]
          funext i
          obtain ⟨g, k, l, rfl⟩ : ∃ (g : Fin 8) (k l : Fin 128), i = ix3 g k l := ⟨i 0, i 1, i 2, eq_ix3 i⟩
          exact resW_eq m c g k l)
      (Cert.SguReferenceIdeal.Value.run m' ρ')⟩

end Cert.Sgu

end
-- ==== Proof.Prep.Norm.lean ====
module

public import proofs.«01_k».proof.Proof.Tools.Real

/-! The normalisation by the root of the mean square at any width, and the Gaussian unit, over the real numbers. -/

@[expose] public section

set_option maxRecDepth 16384

noncomputable section

namespace Cert.Prep

open Cert.Tools Idealize.ShloMosaic

theorem bits_384 : (Ideal.ofBits .f32 0x43C00000#32 : EReal) = (((384 : ℕ) : ℝ) : EReal) := by
  simp [Ideal.ofBits, Ideal.ieee]
  rw [← EReal.coe_mul]; norm_num
theorem bits_256 : (Ideal.ofBits .f32 0x43800000#32 : EReal) = (((256 : ℕ) : ℝ) : EReal) := by
  simp [Ideal.ofBits, Ideal.ieee]
  rw [← EReal.coe_mul]; norm_num
theorem bits_512 : (Ideal.ofBits .f32 0x44000000#32 : EReal) = (((512 : ℕ) : ℝ) : EReal) := by
  simp [Ideal.ofBits, Ideal.ieee]
  rw [← EReal.coe_mul]; norm_num

section

variable (n : ℕ)

/-- A row's mean square and the room above zero. -/
def room (x : ℕ → ℝ) : ℝ := (∑ k : Fin n, x k * x k) / (n : ℝ) + eps
/-- The reciprocal root of a row's mean square. -/
def root (x : ℕ → ℝ) : ℝ := (√(room n x))⁻¹
/-- The gradient of the normalisation, by `x`, at the cotangent `d` of the normalised row. -/
def backward (x d : ℕ → ℝ) (l : ℕ) : ℝ := root n x * (d l - x l * root n x * ((∑ k : Fin n, d k * (x k * root n x)) / (n : ℝ)))

theorem room_pos (x : ℕ → ℝ) : 0 < room n x :=
  add_pos_of_nonneg_of_pos (div_nonneg (Finset.sum_nonneg fun k _ => mul_self_nonneg _) (Nat.cast_nonneg _)) (by unfold eps; norm_num)

theorem rsqrt_room (x : ℕ → ℝ) : Ideal.rsqrt (room n x : EReal) = (root n x : EReal) := by
  rw [Ideal.rsqrt_coe, if_neg (not_lt.mpr (room_pos n x).le), if_neg (room_pos n x).ne']; rfl

theorem div_room (a : ℝ) (x : ℕ → ℝ) : Ideal.div (a : EReal) (room n x : EReal) = ((a / room n x : ℝ) : EReal) := by
  rw [Ideal.div_coe (room_pos n x).ne', ← EReal.coe_mul, mul_one_div]

theorem div_width (hn : n ≠ 0) (a : ℝ) : Ideal.div (a : EReal) ((n : ℝ) : EReal) = ((a / (n : ℝ) : ℝ) : EReal) := by
  rw [Ideal.div_coe (Nat.cast_ne_zero.mpr hn), ← EReal.coe_mul, mul_one_div]

/-- The gradient as the derivative of each factor gives it. -/
theorem backward_eq (x d : ℕ → ℝ) (l : ℕ) :
    d l * root n x + x l * ((∑ k : Fin n, x k * d k) * (-(1 / 2) * (root n x / room n x)) / (n : ℝ))
      + (∑ k : Fin n, x k * d k) * (-(1 / 2) * (root n x / room n x)) / (n : ℝ) * x l = backward n x d l := by
  have h : root n x * root n x = (room n x)⁻¹ := by
    unfold root; rw [← mul_inv, Real.mul_self_sqrt (room_pos n x).le]
  have hs : ∑ k : Fin n, d k * (x k * root n x) = (∑ k : Fin n, x k * d k) * root n x := by
    rw [Finset.sum_mul]; exact Finset.sum_congr rfl fun k _ => by ring
  unfold backward
  rw [hs, div_eq_mul_inv (root n x), ← h]
  ring

end

/-- The error function on the real numbers. -/
def erfR (r : ℝ) : ℝ := 2 / √Real.pi * ∫ t in (0 : ℝ)..r, Real.exp (-(t ^ 2))
theorem erf_real (r : ℝ) : Ideal.erf (r : EReal) = (erfR r : EReal) := Ideal.erf_coe r

/-- The values of the rounded constants `1/√2` and `1/√(2π)`. -/
def isq2 : ℝ := 11863283 / 16777216
def isq2pi : ℝ := 13386282 / 33554432

theorem bits_isq2 : (Ideal.ofBits .f32 0x3F3504F3#32 : EReal) = (isq2 : EReal) := by
  unfold isq2
  simp [Ideal.ofBits, Ideal.ieee]
  rw [← EReal.coe_mul]; norm_num
theorem bits_isq2pi : (Ideal.ofBits .f32 0x3ECC422A#32 : EReal) = (isq2pi : EReal) := by
  unfold isq2pi
  simp [Ideal.ofBits, Ideal.ieee]
  rw [← EReal.coe_mul]; norm_num

/-- The Gaussian unit, and its derivative as the kernel writes it. -/
def gelu (z : ℝ) : ℝ := 1 / 2 * z * (1 + erfR (z * isq2))
def slope (z : ℝ) : ℝ := 1 / 2 * (1 + erfR (z * isq2)) + z * (isq2pi * Real.exp (-(1 / 2) * z * z))

end Cert.Prep

end
-- ==== Proof.Prep.Block.lean ====
module

public import proofs.«01_k».proof.Proof.Gen.PrepKernelIdeal.Frame
public import proofs.«01_k».proof.Proof.Prep.Norm

/-! One block of the preparation's gradient: what each piece of the body computes, at an element. -/

@[expose] public section

set_option maxRecDepth 16384

noncomputable section

namespace Cert.Prep

open Cert.PrepKernelIdeal Cert.PrepKernelIdeal.Gen Cert.Tools
open Idealize.ShloMosaic Idealize.ShloMosaic.TcCoe

/-! ## The queries' normalisation, 384 wide -/

section

variable {v : Vec Ideal S256x384 .f32} {g : Vec Ideal S1x384 .f32} {d : Vec Ideal S256x384 .f32} {X D : ℕ → ℕ → ℝ} {G : ℕ → ℝ}
  (hv : ∀ (r : Fin 256) (l : Fin 384), (v (ix2 r l) : EReal) = X r l) (hg : ∀ (k : Fin 1) (l : Fin 384), (g (ix2 k l) : EReal) = G l)
  (hd : ∀ (r : Fin 256) (l : Fin 384), (d (ix2 r l) : EReal) = D r l)

include hv in
theorem root_q (r : Fin 256) (k : Fin 1) : (k0_pay5 v (ix2 r k) : EReal) = (root 384 (X r) : EReal) := by
  pointwise [k0_pay5, k0_pay4]
  simp only [hv, bits_384, bits_eps, ← EReal.coe_mul, coe_sum, div_width 384 (by decide), ← EReal.coe_add]
  exact rsqrt_room 384 (X r)

include hv in
theorem hat_q (r : Fin 256) (l : Fin 384) : (k0_pay6 v (ix2 r l) : EReal) = ((X r l * root 384 (X r) : ℝ) : EReal) := by
  pointwise [k0_pay6, k0_pay4]
  rw [root_q hv, hv, ← EReal.coe_mul]

include hv hg hd in
theorem block_q (r : Fin 256) (l : Fin 384) :
    (k0_pay8 v g d (ix2 r l) : EReal) = (backward 384 (X r) (fun k => G k * D r k) l : EReal) := by
  pointwise [k0_pay8]
  simp only [root_q hv, hat_q hv, hg, hd, bits_384, ← EReal.coe_mul, coe_sum, div_width 384 (by decide), ← EReal.coe_sub]
  rfl

include hv hd in
theorem gain_q (k : Fin 1) (l : Fin 384) :
    (k0_pay28 (k0_pay7 v d) (ix2 k l) : EReal) = ((∑ r : Fin 256, D r l * (X r l * root 384 (X r)) : ℝ) : EReal) := by
  pointwise [k0_pay28, k0_pay7]
  simp only [hat_q hv, hd, ← EReal.coe_mul, coe_sum]

end

/-! ## The keys' and values' normalisation, 256 wide -/

section

variable {v : Vec Ideal S256x256 .f32} {g : Vec Ideal S1x256 .f32} {d : Vec Ideal S256x256 .f32} {X D : ℕ → ℕ → ℝ} {G : ℕ → ℝ}
  (hv : ∀ (r l : Fin 256), (v (ix2 r l) : EReal) = X r l) (hg : ∀ (k : Fin 1) (l : Fin 256), (g (ix2 k l) : EReal) = G l)
  (hd : ∀ (r l : Fin 256), (d (ix2 r l) : EReal) = D r l)

include hv in
theorem root_kv (r : Fin 256) (k : Fin 1) : (k0_pay12 (k0_pay11 v) (ix2 r k) : EReal) = (root 256 (X r) : EReal) := by
  pointwise [k0_pay12, k0_pay11, k0_pay9]
  simp only [hv, bits_256, bits_eps, ← EReal.coe_mul, coe_sum, div_width 256 (by decide), ← EReal.coe_add]
  exact rsqrt_room 256 (X r)

include hv in
theorem hat_kv (r l : Fin 256) : (k0_pay13 (k0_pay9 v) (k0_pay11 v) (ix2 r l) : EReal) = ((X r l * root 256 (X r) : ℝ) : EReal) := by
  pointwise [k0_pay13, k0_pay9]
  rw [root_kv hv, hv, ← EReal.coe_mul]

include hv hg hd in
theorem block_kv (r l : Fin 256) :
    (k0_pay15 (k0_pay9 v) (k0_pay10 g) d (k0_pay11 v) (ix2 r l) : EReal) = (backward 256 (X r) (fun k => G k * D r k) l : EReal) := by
  pointwise [k0_pay15, k0_pay10]
  simp only [root_kv hv, hat_kv hv, hg, hd, bits_256, ← EReal.coe_mul, coe_sum, div_width 256 (by decide), ← EReal.coe_sub]
  rfl

include hv hd in
theorem gain_kv (k : Fin 1) (l : Fin 256) :
    (k0_pay29 (k0_pay14 (k0_pay9 v) d (k0_pay11 v)) (ix2 k l) : EReal) = ((∑ r : Fin 256, D r l * (X r l * root 256 (X r)) : ℝ) : EReal) := by
  pointwise [k0_pay29, k0_pay14]
  simp only [hat_kv hv, hd, ← EReal.coe_mul, coe_sum]

end

/-! ## The gate's first half: the Gaussian unit alone -/

section

variable {v : Vec Ideal S256x512 .f32} {u : Vec Ideal S256x512 .bf16} {Z D : ℕ → ℕ → ℝ}
  (hv : ∀ (r : Fin 256) (l : Fin 512), (v (ix2 r l) : EReal) = Z r l) (hu : ∀ (r : Fin 256) (l : Fin 512), (u (ix2 r l) : EReal) = D r l)

include hv hu in
theorem block_u (r : Fin 256) (l : Fin 512) : (k0_pay19 (k0_pay18 v) u (ix2 r l) : EReal) = ((D r l * slope (Z r l) : ℝ) : EReal) := by
  pointwise [k0_pay19, k0_pay18]
  simp only [hv, hu, bits_isq2, bits_isq2pi, bits_half, bits_neg_half, bits_one, ← EReal.coe_mul, Ideal.erf_def, erf_real, Ideal.exp_coe, ← EReal.coe_add]
  rfl

end

/-! ## The gate's second half: the Gaussian unit and its normalisation, 512 wide -/

section

variable {v : Vec Ideal S256x512 .f32} {g : Vec Ideal S1x512 .f32} {d : Vec Ideal S256x512 .bf16} {Z D : ℕ → ℕ → ℝ} {G : ℕ → ℝ}
  (hv : ∀ (r : Fin 256) (l : Fin 512), (v (ix2 r l) : EReal) = Z r l) (hg : ∀ (k : Fin 1) (l : Fin 512), (g (ix2 k l) : EReal) = G l)
  (hd : ∀ (r : Fin 256) (l : Fin 512), (d (ix2 r l) : EReal) = D r l) {e : Ideal .f32} (he : (e : EReal) = (eps : EReal))

/-- The Gaussian unit of a row. -/
def unit (Z : ℕ → ℕ → ℝ) (r l : ℕ) : ℝ := gelu (Z r l)

include hv in
theorem unit_v (r : Fin 256) (l : Fin 512) : (k0_pay21 v (ix2 r l) : EReal) = (unit Z r l : EReal) := by
  pointwise [k0_pay21, k0_pay20]
  simp only [hv, bits_isq2, bits_half, bits_one, ← EReal.coe_mul, Ideal.erf_def, erf_real, ← EReal.coe_add]
  rfl

include hv he in
theorem root_v (r : Fin 256) (k : Fin 1) : (k0_pay25 (k0_pay24 v) e (ix2 r k) : EReal) = (root 512 (unit Z r) : EReal) := by
  pointwise [k0_pay25, k0_pay24]
  simp only [unit_v hv, bits_512, he, ← EReal.coe_mul, coe_sum, div_width 512 (by decide), ← EReal.coe_add]
  exact rsqrt_room 512 (unit Z r)

include hv he in
theorem hat_v (r : Fin 256) (l : Fin 512) : (k0_pay26 (k0_pay21 v) (k0_pay24 v) e (ix2 r l) : EReal)
    = ((unit Z r l * root 512 (unit Z r) : ℝ) : EReal) := by
  pointwise [k0_pay26]
  rw [root_v hv he, unit_v hv, ← EReal.coe_mul]

include hv hg hd he in
theorem block_v (r : Fin 256) (l : Fin 512) :
    (k0_pay27 (k0_pay20 v) (k0_pay21 v) (k0_pay22 g) (k0_pay23 d) (k0_pay24 v) e (ix2 r l) : EReal)
      = ((backward 512 (unit Z r) (fun k => G k * D r k) l * slope (Z r l) : ℝ) : EReal) := by
  pointwise [k0_pay27, k0_pay20, k0_pay22, k0_pay23]
  simp only [root_v hv he, hat_v hv he, hv, hg, hd, bits_isq2, bits_isq2pi, bits_half, bits_neg_half, bits_one, bits_512, ← EReal.coe_mul, coe_sum, div_width 512 (by decide),
    ← EReal.coe_sub, Ideal.erf_def, erf_real, Ideal.exp_coe, ← EReal.coe_add]
  rfl

include hv hd he in
theorem gain_v (k : Fin 1) (l : Fin 512) :
    (k0_pay30 (k0_pay21 v) (k0_pay23 d) (k0_pay24 v) e (ix2 k l) : EReal)
      = ((∑ r : Fin 256, D r l * (unit Z r l * root 512 (unit Z r)) : ℝ) : EReal) := by
  pointwise [k0_pay30, k0_pay23]
  simp only [hat_v hv he, hd, ← EReal.coe_mul, coe_sum]

end

/-! ## The shared key's rotation -/

/-- The sum over the heads, of the rotated columns only. -/
def heads (K : ℕ → ℕ → EReal) (l : ℕ) : EReal := if 64 ≤ l ∧ l < 96 then ∑ h : Fin 8, K h l else 0

/-- One row turned back by rows of the tables of the cosine and of the two signed sines. -/
def turn (s c a b : ℕ → EReal) (l : ℕ) : EReal :=
  s l * c l + s ((l + 112) % 128) * a ((l + 112) % 128) + s ((l + 16) % 128) * b ((l + 16) % 128)

section

variable {k0 k1 k2 k3 k4 k5 k6 k7 : Vec Ideal S256x128 .bf16} {c a b : Vec Ideal S256x128 .f32} {K : ℕ → ℕ → EReal} {C A B : ℕ → EReal} (r : Fin 256)
  (h0 : ∀ l : Fin 128, (k0 (ix2 r l) : EReal) = K 0 l) (h1 : ∀ l : Fin 128, (k1 (ix2 r l) : EReal) = K 1 l)
  (h2 : ∀ l : Fin 128, (k2 (ix2 r l) : EReal) = K 2 l) (h3 : ∀ l : Fin 128, (k3 (ix2 r l) : EReal) = K 3 l)
  (h4 : ∀ l : Fin 128, (k4 (ix2 r l) : EReal) = K 4 l) (h5 : ∀ l : Fin 128, (k5 (ix2 r l) : EReal) = K 5 l)
  (h6 : ∀ l : Fin 128, (k6 (ix2 r l) : EReal) = K 6 l) (h7 : ∀ l : Fin 128, (k7 (ix2 r l) : EReal) = K 7 l)
  (hc : ∀ l : Fin 128, (c (ix2 r l) : EReal) = C l) (ha : ∀ l : Fin 128, (a (ix2 r l) : EReal) = A l)
  (hb : ∀ l : Fin 128, (b (ix2 r l) : EReal) = B l)

theorem mask_bit : ∀ l : Fin 128, IntOp.andi (IntOp.cmpi CmpIPredicate.sge (BitVec.ofNat 32 l.val) 64#32) (IntOp.cmpi CmpIPredicate.slt (BitVec.ofNat 32 l.val) 96#32)
    = if 64 ≤ l.val ∧ l.val < 96 then 1#1 else 0#1 := by decide +kernel

theorem mask_at (l : ℕ) (hl : l < 128) (x y : EReal) :
    Scalar.select (IntOp.andi (IntOp.cmpi CmpIPredicate.sge (BitVec.ofNat 32 l) 64#32) (IntOp.cmpi CmpIPredicate.slt (BitVec.ofNat 32 l) 96#32)) x y
      = if 64 ≤ l ∧ l < 96 then x else y := by
  have h := mask_bit ⟨l, hl⟩
  dsimp only at h
  rw [h]
  split_ifs <;> rfl

theorem heads_mul (K : ℕ → ℕ → EReal) (l : ℕ) (z : EReal) :
    (if 64 ≤ l ∧ l < 96 then (K 0 l + K 1 l + K 2 l + K 3 l + K 4 l + K 5 l + K 6 l + K 7 l) * z else 0) = heads K l * z := by
  unfold heads
  split_ifs
  · rw [Fin.sum_univ_eight]; rfl
  · rw [zero_mul]

include h0 h1 h2 h3 h4 h5 h6 h7 hc ha hb in
theorem block_k (l : Fin 128) : (k0_pay17 (k0_pay16 k0 k1 k2 k3 k4) k5 k6 k7 c a b (ix2 r l) : EReal) = turn (heads K) C A B l := by
  pointwise [k0_pay17, k0_pay16]
  simp only [h0, h1, h2, h3, h4, h5, h6, h7, hc, ha, hb]
  have hl := l.isLt
  rw [show l.val + 128 - 16 = l.val + 112 by omega, show l.val + 128 - 112 = l.val + 16 by omega, mask_at _ hl, mask_at _ (Nat.mod_lt _ (by decide)),
    mask_at _ (Nat.mod_lt _ (by decide)), heads_mul, heads_mul, heads_mul]
  rfl

end

end Cert.Prep

end
-- ==== Proof.Prep.Arrays.lean ====
module

public import proofs.«01_k».proof.Proof.Gen.PrepKernelIdeal.Frame
public import proofs.«01_k».proof.Proof.Prep.Block
public import proofs.«01_k».proof.Proof.Unrope.Final
public import Idealize.ShloMosaic.Lib.Pipeline.ValueKit.Tiles

/-! The preparation's gradient: what the region leaves in its four arrays, from what its twelve operands hold.

`Data` names the operands' contents as functions of row and column. The projection's gradient is written once, 256 rows at
a grid point and five column pieces to a row; the three gains' gradients stay in place and collect a part at each point. -/

@[expose] public section

set_option maxRecDepth 16384

noncomputable section

namespace Cert.Prep

open Cert.PrepKernelIdeal Cert.PrepKernelIdeal.Gen Cert.Tools
open Cert.Unrope (arr)
open Idealize.ShloMosaic Idealize.ShloMosaic.TcCoe Idealize.SL.Sem
open Idealize.ShloMosaic.Pipeline (Dat)

/-- The operands: the projection, the cotangents, the gains, the shared key's cotangent by heads, the three tables. -/
structure Data where
  (P Dq Dk Du Dv : ℕ → ℕ → ℝ)
  (Gq Gk Gs : ℕ → ℝ)
  (K C A B : ℕ → ℕ → EReal)

namespace Data

variable (w : Data)

/-- A row of the middle and of the last columns. -/
def mid (r j : ℕ) : ℝ := w.P r (384 + j)
def last (r j : ℕ) : ℝ := w.P r (1280 + j)

/-- The projection's gradient over the packed columns. -/
def dp (r k : ℕ) : EReal :=
  if k < 384 then ((backward 384 (w.P r) (fun j => w.Gq j * w.Dq r j) k : ℝ) : EReal)
  else if k < 640 then ((backward 256 (w.mid r) (fun j => w.Gk j * w.Dk r j) (k - 384) : ℝ) : EReal)
  else if k < 768 then turn (heads fun h l => w.K r (128 * h + l)) (w.C r) (w.A r) (w.B r) (k - 640)
  else if k < 1280 then ((w.Du r (k - 768) * slope (w.P r k) : ℝ) : EReal)
  else ((backward 512 (unit w.last r) (fun j => w.Gs j * w.Dv r j) (k - 1280) * slope (w.P r k) : ℝ) : EReal)

/-- A row's part of the gains' gradients. -/
def gq (r l : ℕ) : ℝ := w.Dq r l * (w.P r l * root 384 (w.P r))
def gk (r l : ℕ) : ℝ := w.Dk r l * (w.mid r l * root 256 (w.mid r))
def gs (r l : ℕ) : ℝ := w.Dv r l * (unit w.last r l * root 512 (unit w.last r))

end Data

/-- The twelve input blocks hold rows `256 t …` of the operands. -/
structure Held (w : Data) (t : ℕ) (x0 : Vec Ideal S256x1792 .f32) (x1 : Vec Ideal S1x384 .f32) (x2 : Vec Ideal S1x256 .f32) (x3 : Vec Ideal S1x512 .f32)
    (x4 x5 x6 : Vec Ideal S256x128 .f32) (x7 : Vec Ideal S256x384 .f32) (x8 : Vec Ideal S256x256 .f32) (x9 : Vec Ideal S256x1024 .bf16)
    (x10 x11 : Vec Ideal S256x512 .bf16) : Prop where
  h0 : ∀ (r : Fin 256) (k : Fin 1792), (x0 (ix2 r k) : EReal) = (w.P (t * 256 + r) k : EReal)
  h1 : ∀ (r : Fin 1) (k : Fin 384), (x1 (ix2 r k) : EReal) = (w.Gq k : EReal)
  h2 : ∀ (r : Fin 1) (k : Fin 256), (x2 (ix2 r k) : EReal) = (w.Gk k : EReal)
  h3 : ∀ (r : Fin 1) (k : Fin 512), (x3 (ix2 r k) : EReal) = (w.Gs k : EReal)
  h4 : ∀ (r : Fin 256) (k : Fin 128), (x4 (ix2 r k) : EReal) = w.C (t * 256 + r) k
  h5 : ∀ (r : Fin 256) (k : Fin 128), (x5 (ix2 r k) : EReal) = w.A (t * 256 + r) k
  h6 : ∀ (r : Fin 256) (k : Fin 128), (x6 (ix2 r k) : EReal) = w.B (t * 256 + r) k
  h7 : ∀ (r : Fin 256) (k : Fin 384), (x7 (ix2 r k) : EReal) = (w.Dq (t * 256 + r) k : EReal)
  h8 : ∀ (r : Fin 256) (k : Fin 256), (x8 (ix2 r k) : EReal) = (w.Dk (t * 256 + r) k : EReal)
  h9 : ∀ (r : Fin 256) (k : Fin 1024), (x9 (ix2 r k) : EReal) = w.K (t * 256 + r) k
  h10 : ∀ (r : Fin 256) (k : Fin 512), (x10 (ix2 r k) : EReal) = (w.Du (t * 256 + r) k : EReal)
  h11 : ∀ (r : Fin 256) (k : Fin 512), (x11 (ix2 r k) : EReal) = (w.Dv (t * 256 + r) k : EReal)

theorem ld_cols {R C N o : ℕ} {e : EltTy} (x : Vec Ideal (⟨2, ![R, C]⟩ : Shape) e) (inb) (r : Fin R) (l : Fin N) (h : o + l.val < C) :
    View.ld x (Rect.unit (s := (⟨2, ![R, C]⟩ : Shape)) ![0, o] ![R, N] inb) (ix2 r l) = x (ix2 r ⟨o + l.val, h⟩) :=
  congrArg x (ext2 (by show 0 + 1 * r.val = r.val; omega) (by show o + 1 * l.val = o + l.val; omega))

theorem tile_of {N o : ℕ} (p : Vec Ideal (⟨2, ![256, N]⟩ : Shape) .bf16) (f : ℕ → ℕ → EReal) (hp : ∀ (r : Fin 256) (l : Fin N), (p (ix2 r l) : EReal) = f r (o + l))
    (r : Fin 256) (k : Fin 1792) : View.TileAt (Val := Elt Ideal) (e := .bf16) (S := S256x1792) (ix2 r k) ![0, o] ![256, N] p (f r k : Elt Ideal .bf16) := by
  intro y hy
  obtain ⟨r', l, rfl⟩ : ∃ (r' : Fin 256) (l : Fin N), y = ix2 r' l := ⟨y 0, y 1, eq_ix2 y⟩
  have e0 : r.val = 0 + r'.val := hy 0
  have e1 : k.val = o + l.val := hy 1
  obtain rfl : r' = r := Fin.ext (by omega)
  rw [e1]
  exact hp r' l

section

variable {w : Data} {t : ℕ} {x0 : Vec Ideal S256x1792 .f32} {x1 : Vec Ideal S1x384 .f32} {x2 : Vec Ideal S1x256 .f32} {x3 : Vec Ideal S1x512 .f32}
    {x4 x5 x6 : Vec Ideal S256x128 .f32} {x7 : Vec Ideal S256x384 .f32} {x8 : Vec Ideal S256x256 .f32} {x9 : Vec Ideal S256x1024 .bf16}
    {x10 x11 : Vec Ideal S256x512 .bf16}

/-- The projection's columns that the four normalised or gated pieces read. -/
abbrev colsQ (x0 : Vec Ideal S256x1792 .f32) : Vec Ideal S256x384 .f32 := View.ld x0 (Rect.unit (s := S256x1792) ![0, 0] ![256, 384] inb_S256x1792_S256x384_0_0)
abbrev colsK (x0 : Vec Ideal S256x1792 .f32) : Vec Ideal S256x256 .f32 := View.ld x0 (Rect.unit (s := S256x1792) ![0, 384] ![256, 256] inb_S256x1792_S256x256_0_384)
abbrev colsU (x0 : Vec Ideal S256x1792 .f32) : Vec Ideal S256x512 .f32 := View.ld x0 (Rect.unit (s := S256x1792) ![0, 768] ![256, 512] inb_S256x1792_S256x512_0_768)
abbrev colsV (x0 : Vec Ideal S256x1792 .f32) : Vec Ideal S256x512 .f32 := View.ld x0 (Rect.unit (s := S256x1792) ![0, 1280] ![256, 512] inb_S256x1792_S256x512_0_1280)
abbrev room0 : Ideal .f32 := FloatOps.ofBits FTy.f32 897988541#32

/-- The parts of the gains' gradients. -/
abbrev partQ (x0 : Vec Ideal S256x1792 .f32) (x7 : Vec Ideal S256x384 .f32) : Vec Ideal S1x384 .f32 := k0_pay28 (k0_pay7 (colsQ x0) x7)
abbrev partK (x0 : Vec Ideal S256x1792 .f32) (x8 : Vec Ideal S256x256 .f32) : Vec Ideal S1x256 .f32 := k0_pay29 (k0_pay14 (k0_pay9 (colsK x0)) x8 (k0_pay11 (colsK x0)))
abbrev partS (x0 : Vec Ideal S256x1792 .f32) (x11 : Vec Ideal S256x512 .bf16) : Vec Ideal S1x512 .f32 := k0_pay30 (k0_pay21 (colsV x0)) (k0_pay23 x11) (k0_pay24 (colsV x0)) room0

variable (h : Held w t x0 x1 x2 x3 x4 x5 x6 x7 x8 x9 x10 x11)

include h

theorem at_q (r : Fin 256) (l : Fin 384) : (colsQ x0 (ix2 r l) : EReal) = (w.P (t * 256 + r) l : EReal) :=
  (ld_cols x0 _ r l (by omega)).trans ((h.h0 r _).trans (by dsimp only; rw [Nat.zero_add]))
theorem at_k (r l : Fin 256) : (colsK x0 (ix2 r l) : EReal) = (w.mid (t * 256 + r) l : EReal) := (ld_cols x0 _ r l (by omega)).trans (h.h0 r _)
theorem at_u (r : Fin 256) (l : Fin 512) : (colsU x0 (ix2 r l) : EReal) = (w.P (t * 256 + r) (768 + l) : EReal) := (ld_cols x0 _ r l (by omega)).trans (h.h0 r _)
theorem at_v (r : Fin 256) (l : Fin 512) : (colsV x0 (ix2 r l) : EReal) = (w.last (t * 256 + r) l : EReal) := (ld_cols x0 _ r l (by omega)).trans (h.h0 r _)

theorem part_q (k : Fin 1) (l : Fin 384) : (partQ x0 x7 (ix2 k l) : EReal) = ((∑ r : Fin 256, w.gq (t * 256 + r) l : ℝ) : EReal) :=
  gain_q (X := fun r l => w.P (t * 256 + r) l) (D := fun r l => w.Dq (t * 256 + r) l) (at_q h) h.h7 k l
theorem part_k (k : Fin 1) (l : Fin 256) : (partK x0 x8 (ix2 k l) : EReal) = ((∑ r : Fin 256, w.gk (t * 256 + r) l : ℝ) : EReal) :=
  gain_kv (X := fun r l => w.mid (t * 256 + r) l) (D := fun r l => w.Dk (t * 256 + r) l) (at_k h) h.h8 k l
theorem part_s (k : Fin 1) (l : Fin 512) : (partS x0 x11 (ix2 k l) : EReal) = ((∑ r : Fin 256, w.gs (t * 256 + r) l : ℝ) : EReal) :=
  gain_v (Z := fun r l => w.last (t * 256 + r) l) (D := fun r l => w.Dv (t * 256 + r) l) (at_v h) h.h11 bits_eps k l

theorem piece_q (r : Fin 256) (l : Fin 384) : (k0_pay8 (colsQ x0) x1 x7 (ix2 r l) : EReal) = w.dp (t * 256 + r) (0 + l) := by
  refine (block_q (X := fun r l => w.P (t * 256 + r) l) (D := fun r l => w.Dq (t * 256 + r) l) (at_q h) h.h1 h.h7 r l).trans ?_
  unfold Data.dp
  rw [Nat.zero_add, if_pos l.isLt]
theorem piece_k (r l : Fin 256) : (k0_pay15 (k0_pay9 (colsK x0)) (k0_pay10 x2) x8 (k0_pay11 (colsK x0)) (ix2 r l) : EReal) = w.dp (t * 256 + r) (384 + l) := by
  refine (block_kv (X := fun r l => w.mid (t * 256 + r) l) (D := fun r l => w.Dk (t * 256 + r) l) (at_k h) h.h2 h.h8 r l).trans ?_
  unfold Data.dp
  rw [if_neg (by omega), if_pos (by omega), Nat.add_sub_cancel_left]
theorem piece_u (r : Fin 256) (l : Fin 512) : (k0_pay19 (k0_pay18 (colsU x0)) x10 (ix2 r l) : EReal) = w.dp (t * 256 + r) (768 + l) := by
  refine (block_u (Z := fun r l => w.P (t * 256 + r) (768 + l)) (D := fun r l => w.Du (t * 256 + r) l) (at_u h) h.h10 r l).trans ?_
  unfold Data.dp
  rw [if_neg (by omega), if_neg (by omega), if_neg (by omega), if_pos (by omega), Nat.add_sub_cancel_left]
theorem piece_v (r : Fin 256) (l : Fin 512) :
    (k0_pay27 (k0_pay20 (colsV x0)) (k0_pay21 (colsV x0)) (k0_pay22 x3) (k0_pay23 x11) (k0_pay24 (colsV x0)) room0 (ix2 r l) : EReal) = w.dp (t * 256 + r) (1280 + l) := by
  refine (block_v (Z := fun r l => w.last (t * 256 + r) l) (D := fun r l => w.Dv (t * 256 + r) l) (at_v h) h.h3 h.h11 bits_eps r l).trans ?_
  unfold Data.dp
  rw [if_neg (by omega), if_neg (by omega), if_neg (by omega), if_neg (by omega), Nat.add_sub_cancel_left]
  rfl
theorem piece_r (r : Fin 256) (l : Fin 128) :
    (k0_pay17 (k0_pay16 (View.ld x9 (Rect.unit (s := S256x1024) ![0, 0] ![256, 128] inb_S256x1024_S256x128_0_0)) (View.ld x9 (Rect.unit (s := S256x1024) ![0, 128] ![256, 128] inb_S256x1024_S256x128_0_128))
      (View.ld x9 (Rect.unit (s := S256x1024) ![0, 256] ![256, 128] inb_S256x1024_S256x128_0_256)) (View.ld x9 (Rect.unit (s := S256x1024) ![0, 384] ![256, 128] inb_S256x1024_S256x128_0_384))
      (View.ld x9 (Rect.unit (s := S256x1024) ![0, 512] ![256, 128] inb_S256x1024_S256x128_0_512))) (View.ld x9 (Rect.unit (s := S256x1024) ![0, 640] ![256, 128] inb_S256x1024_S256x128_0_640))
      (View.ld x9 (Rect.unit (s := S256x1024) ![0, 768] ![256, 128] inb_S256x1024_S256x128_0_768)) (View.ld x9 (Rect.unit (s := S256x1024) ![0, 896] ![256, 128] inb_S256x1024_S256x128_0_896))
      x4 x5 x6 (ix2 r l) : EReal) = w.dp (t * 256 + r) (640 + l) := by
  have k : ∀ (o : ℕ) (ho : o + 128 ≤ 1024) (inb) (l : Fin 128), (View.ld x9 (Rect.unit (s := S256x1024) ![0, o] ![256, 128] inb) (ix2 r l) : EReal) = w.K (t * 256 + r) (o + l) :=
    fun o ho inb l => (ld_cols x9 inb r l (by omega)).trans (h.h9 r _)
  refine (block_k (K := fun h l => w.K (t * 256 + r) (128 * h + l)) r (fun l => k 0 (by omega) _ l) (k 128 (by omega) _) (k 256 (by omega) _) (k 384 (by omega) _)
    (k 512 (by omega) _) (k 640 (by omega) _) (k 768 (by omega) _) (k 896 (by omega) _) (h.h4 r) (h.h5 r) (h.h6 r) l).trans ?_
  unfold Data.dp
  rw [if_neg (by omega), if_neg (by omega), if_pos (by omega), Nat.add_sub_cancel_left]

end

variable (m : (ℓ : Loc nD τ sig) → Buf (Elt Ideal) ℓ) (c : Dev nD)

/-! ## What a point leaves -/

set_option maxHeartbeats 1000000 in
theorem dp_first {w : Data} (t : Fin cfg0.N) (ht : t.val = 0)
    (h : Held w t.val (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t)) (r : Fin 256) (k : Fin 1792) :
    ((outsAt0 m c t.val t.isLt).1 (ix2 r k) : EReal) = w.dp (t.val * 256 + r) k := by
  rw [outsAt0_A m c t (by omega) (by omega)]
  dsimp only
  unfold out0_A_12
  rw [View.read_writes_eq_canon _ _ _ (fun y => cover0_A_12 (y := y) ..)]
  refine View.canon_eq_of_allAt _ _ _ (cover0_A_12 (y := _) ..) ?_
  unfold kernelRun0_A; dsimp only; sl_unfold_words
  simp only [View.readAt_eq_ld, (hs0_0 t).read_unread, (hs0_1 t).read_unread, (hs0_2 t).read_unread, (hs0_3 t).read_unread, (hs0_4 t).read_unread,
    (hs0_5 t).read_unread, (hs0_6 t).read_unread, (hs0_7 t).read_unread, (hs0_8 t).read_unread, (hs0_9 t).read_unread, (hs0_10 t).read_unread, (hs0_11 t).read_unread,
    View.ld_unit_zero (S := S256x384) zero2, View.ld_unit_zero (S := S256x256) zero2, View.ld_unit_zero (S := S256x512) zero2, View.ld_unit_zero (S := S256x128) zero2,
    View.ld_unit_zero (S := S1x384) zero2, View.ld_unit_zero (S := S1x256) zero2, View.ld_unit_zero (S := S1x512) zero2]
  refine View.allAt_cons_unit _ _ _ _ _ (tile_of _ (fun r k => w.dp (t.val * 256 + r) k) (piece_v h) r k) ?_
  refine View.allAt_cons_unit _ _ _ _ _ (tile_of _ (fun r k => w.dp (t.val * 256 + r) k) (piece_u h) r k) ?_
  refine View.allAt_cons_unit _ _ _ _ _ (tile_of _ (fun r k => w.dp (t.val * 256 + r) k) (piece_r h) r k) ?_
  refine View.allAt_cons_unit _ _ _ _ _ (tile_of _ (fun r k => w.dp (t.val * 256 + r) k) (piece_k h) r k) ?_
  refine View.allAt_cons_unit _ _ _ _ _ (tile_of _ (fun r k => w.dp (t.val * 256 + r) k) (piece_q h) r k) ?_
  exact View.allAt_nil _ _

set_option maxHeartbeats 1000000 in
theorem gainQ_first (t : Fin cfg0.N) (ht : t.val = 0) :
    (outsAt0 m c t.val t.isLt).2.1 = partQ (iblk m c 0 t) (iblk m c 7 t) := by
  rw [outsAt0_A m c t (by omega) (by omega)]
  dsimp only
  unfold out0_A_13
  rw [View.read_writes_eq_canon _ _ _ (fun y => cover0_A_13 (y := y) ..)]
  unfold kernelRun0_A; dsimp only; sl_unfold_words
  simp only [View.readAt_eq_ld, (hs0_0 t).read_unread, (hs0_1 t).read_unread, (hs0_2 t).read_unread, (hs0_3 t).read_unread, (hs0_4 t).read_unread,
    (hs0_5 t).read_unread, (hs0_6 t).read_unread, (hs0_7 t).read_unread, (hs0_8 t).read_unread, (hs0_9 t).read_unread, (hs0_10 t).read_unread, (hs0_11 t).read_unread,
    View.ld_unit_zero (S := S256x384) zero2, View.ld_unit_zero (S := S256x256) zero2, View.ld_unit_zero (S := S256x512) zero2, View.ld_unit_zero (S := S256x128) zero2,
    View.ld_unit_zero (S := S1x384) zero2, View.ld_unit_zero (S := S1x256) zero2, View.ld_unit_zero (S := S1x512) zero2]
  rw [View.canon_unit_zero zero2]

set_option maxHeartbeats 1000000 in
theorem gainK_first (t : Fin cfg0.N) (ht : t.val = 0) :
    (outsAt0 m c t.val t.isLt).2.2.1 = partK (iblk m c 0 t) (iblk m c 8 t) := by
  rw [outsAt0_A m c t (by omega) (by omega)]
  dsimp only
  unfold out0_A_14
  rw [View.read_writes_eq_canon _ _ _ (fun y => cover0_A_14 (y := y) ..)]
  unfold kernelRun0_A; dsimp only; sl_unfold_words
  simp only [View.readAt_eq_ld, (hs0_0 t).read_unread, (hs0_1 t).read_unread, (hs0_2 t).read_unread, (hs0_3 t).read_unread, (hs0_4 t).read_unread,
    (hs0_5 t).read_unread, (hs0_6 t).read_unread, (hs0_7 t).read_unread, (hs0_8 t).read_unread, (hs0_9 t).read_unread, (hs0_10 t).read_unread, (hs0_11 t).read_unread,
    View.ld_unit_zero (S := S256x384) zero2, View.ld_unit_zero (S := S256x256) zero2, View.ld_unit_zero (S := S256x512) zero2, View.ld_unit_zero (S := S256x128) zero2,
    View.ld_unit_zero (S := S1x384) zero2, View.ld_unit_zero (S := S1x256) zero2, View.ld_unit_zero (S := S1x512) zero2]
  rw [View.canon_unit_zero zero2]

set_option maxHeartbeats 1000000 in
theorem gainS_first (t : Fin cfg0.N) (ht : t.val = 0) :
    (outsAt0 m c t.val t.isLt).2.2.2 = partS (iblk m c 0 t) (iblk m c 11 t) := by
  rw [outsAt0_A m c t (by omega) (by omega)]
  dsimp only
  unfold out0_A_15
  rw [View.read_writes_eq_canon _ _ _ (fun y => cover0_A_15 (y := y) ..)]
  unfold kernelRun0_A; dsimp only; sl_unfold_words
  simp only [View.readAt_eq_ld, (hs0_0 t).read_unread, (hs0_1 t).read_unread, (hs0_2 t).read_unread, (hs0_3 t).read_unread, (hs0_4 t).read_unread,
    (hs0_5 t).read_unread, (hs0_6 t).read_unread, (hs0_7 t).read_unread, (hs0_8 t).read_unread, (hs0_9 t).read_unread, (hs0_10 t).read_unread, (hs0_11 t).read_unread,
    View.ld_unit_zero (S := S256x384) zero2, View.ld_unit_zero (S := S256x256) zero2, View.ld_unit_zero (S := S256x512) zero2, View.ld_unit_zero (S := S256x128) zero2,
    View.ld_unit_zero (S := S1x384) zero2, View.ld_unit_zero (S := S1x256) zero2, View.ld_unit_zero (S := S1x512) zero2]
  rw [View.canon_unit_zero zero2]

set_option maxHeartbeats 1000000 in
theorem dp_later {w : Data} (t : Fin cfg0.N) (ht : 1 ≤ t.val)
    (h : Held w t.val (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t)) (r : Fin 256) (k : Fin 1792) :
    ((outsAt0 m c t.val t.isLt).1 (ix2 r k) : EReal) = w.dp (t.val * 256 + r) k := by
  rw [outsAt0_B m c t (by have hN : t.val < 64 := t.isLt; omega) ht]
  dsimp only
  unfold out0_B_12
  rw [View.read_writes_eq_canon _ _ _ (fun y => cover0_B_12 (y := y) ..)]
  refine View.canon_eq_of_allAt _ _ _ (cover0_B_12 (y := _) ..) ?_
  unfold kernelRun0_B; dsimp only; sl_unfold_words
  simp only [View.readAt_eq_ld, (hs0_0 t).read_unread, (hs0_1 t).read_unread, (hs0_2 t).read_unread, (hs0_3 t).read_unread, (hs0_4 t).read_unread,
    (hs0_5 t).read_unread, (hs0_6 t).read_unread, (hs0_7 t).read_unread, (hs0_8 t).read_unread, (hs0_9 t).read_unread, (hs0_10 t).read_unread, (hs0_11 t).read_unread,
    View.ld_unit_zero (S := S256x384) zero2, View.ld_unit_zero (S := S256x256) zero2, View.ld_unit_zero (S := S256x512) zero2, View.ld_unit_zero (S := S256x128) zero2,
    View.ld_unit_zero (S := S1x384) zero2, View.ld_unit_zero (S := S1x256) zero2, View.ld_unit_zero (S := S1x512) zero2]
  refine View.allAt_cons_unit _ _ _ _ _ (tile_of _ (fun r k => w.dp (t.val * 256 + r) k) (piece_v h) r k) ?_
  refine View.allAt_cons_unit _ _ _ _ _ (tile_of _ (fun r k => w.dp (t.val * 256 + r) k) (piece_u h) r k) ?_
  refine View.allAt_cons_unit _ _ _ _ _ (tile_of _ (fun r k => w.dp (t.val * 256 + r) k) (piece_r h) r k) ?_
  refine View.allAt_cons_unit _ _ _ _ _ (tile_of _ (fun r k => w.dp (t.val * 256 + r) k) (piece_k h) r k) ?_
  refine View.allAt_cons_unit _ _ _ _ _ (tile_of _ (fun r k => w.dp (t.val * 256 + r) k) (piece_q h) r k) ?_
  exact View.allAt_nil _ _

set_option maxHeartbeats 1000000 in
theorem gainQ_later (t : Fin cfg0.N) (ht : 1 ≤ t.val) :
    (outsAt0 m c t.val t.isLt).2.1 = k0_pay1 (partQ (iblk m c 0 t) (iblk m c 7 t)) (outsAt0 m c (t.val - 1) (Nat.lt_of_le_of_lt (Nat.sub_le _ _) t.isLt)).2.1 := by
  rw [outsAt0_B m c t (by have hN : t.val < 64 := t.isLt; omega) ht]
  dsimp only
  unfold out0_B_13
  rw [View.read_writes_eq_canon _ _ _ (fun y => cover0_B_13 (y := y) ..)]
  unfold kernelRun0_B; dsimp only; sl_unfold_words
  simp only [View.readAt_eq_ld, (hs0_0 t).read_unread, (hs0_1 t).read_unread, (hs0_2 t).read_unread, (hs0_3 t).read_unread, (hs0_4 t).read_unread,
    (hs0_5 t).read_unread, (hs0_6 t).read_unread, (hs0_7 t).read_unread, (hs0_8 t).read_unread, (hs0_9 t).read_unread, (hs0_10 t).read_unread, (hs0_11 t).read_unread, (hs0_13 t).read_unread,
    View.ld_unit_zero (S := S256x384) zero2, View.ld_unit_zero (S := S256x256) zero2, View.ld_unit_zero (S := S256x512) zero2, View.ld_unit_zero (S := S256x128) zero2,
    View.ld_unit_zero (S := S1x384) zero2, View.ld_unit_zero (S := S1x256) zero2, View.ld_unit_zero (S := S1x512) zero2]
  rw [View.canon_unit_zero zero2]

set_option maxHeartbeats 1000000 in
theorem gainK_later (t : Fin cfg0.N) (ht : 1 ≤ t.val) :
    (outsAt0 m c t.val t.isLt).2.2.1 = k0_pay2 (partK (iblk m c 0 t) (iblk m c 8 t)) (outsAt0 m c (t.val - 1) (Nat.lt_of_le_of_lt (Nat.sub_le _ _) t.isLt)).2.2.1 := by
  rw [outsAt0_B m c t (by have hN : t.val < 64 := t.isLt; omega) ht]
  dsimp only
  unfold out0_B_14
  rw [View.read_writes_eq_canon _ _ _ (fun y => cover0_B_14 (y := y) ..)]
  unfold kernelRun0_B; dsimp only; sl_unfold_words
  simp only [View.readAt_eq_ld, (hs0_0 t).read_unread, (hs0_1 t).read_unread, (hs0_2 t).read_unread, (hs0_3 t).read_unread, (hs0_4 t).read_unread,
    (hs0_5 t).read_unread, (hs0_6 t).read_unread, (hs0_7 t).read_unread, (hs0_8 t).read_unread, (hs0_9 t).read_unread, (hs0_10 t).read_unread, (hs0_11 t).read_unread, (hs0_14 t).read_unread,
    View.ld_unit_zero (S := S256x384) zero2, View.ld_unit_zero (S := S256x256) zero2, View.ld_unit_zero (S := S256x512) zero2, View.ld_unit_zero (S := S256x128) zero2,
    View.ld_unit_zero (S := S1x384) zero2, View.ld_unit_zero (S := S1x256) zero2, View.ld_unit_zero (S := S1x512) zero2]
  rw [View.canon_unit_zero zero2]

set_option maxHeartbeats 1000000 in
theorem gainS_later (t : Fin cfg0.N) (ht : 1 ≤ t.val) :
    (outsAt0 m c t.val t.isLt).2.2.2 = k0_pay3 (partS (iblk m c 0 t) (iblk m c 11 t)) (outsAt0 m c (t.val - 1) (Nat.lt_of_le_of_lt (Nat.sub_le _ _) t.isLt)).2.2.2 := by
  rw [outsAt0_B m c t (by have hN : t.val < 64 := t.isLt; omega) ht]
  dsimp only
  unfold out0_B_15
  rw [View.read_writes_eq_canon _ _ _ (fun y => cover0_B_15 (y := y) ..)]
  unfold kernelRun0_B; dsimp only; sl_unfold_words
  simp only [View.readAt_eq_ld, (hs0_0 t).read_unread, (hs0_1 t).read_unread, (hs0_2 t).read_unread, (hs0_3 t).read_unread, (hs0_4 t).read_unread,
    (hs0_5 t).read_unread, (hs0_6 t).read_unread, (hs0_7 t).read_unread, (hs0_8 t).read_unread, (hs0_9 t).read_unread, (hs0_10 t).read_unread, (hs0_11 t).read_unread, (hs0_15 t).read_unread,
    View.ld_unit_zero (S := S256x384) zero2, View.ld_unit_zero (S := S256x256) zero2, View.ld_unit_zero (S := S256x512) zero2, View.ld_unit_zero (S := S256x128) zero2,
    View.ld_unit_zero (S := S1x384) zero2, View.ld_unit_zero (S := S1x256) zero2, View.ld_unit_zero (S := S1x512) zero2]
  rw [View.canon_unit_zero zero2]

theorem index_at : ∀ t : Fin grid0.N,
    (win0_0.index t 0 = t.val ∧ win0_0.index t 1 = 0)
    ∧ (win0_1.index t 0 = 0 ∧ win0_1.index t 1 = 0)
    ∧ (win0_2.index t 0 = 0 ∧ win0_2.index t 1 = 0)
    ∧ (win0_3.index t 0 = 0 ∧ win0_3.index t 1 = 0)
    ∧ (win0_4.index t 0 = t.val ∧ win0_4.index t 1 = 0)
    ∧ (win0_5.index t 0 = t.val ∧ win0_5.index t 1 = 0)
    ∧ (win0_6.index t 0 = t.val ∧ win0_6.index t 1 = 0)
    ∧ (win0_7.index t 0 = t.val ∧ win0_7.index t 1 = 0)
    ∧ (win0_8.index t 0 = t.val ∧ win0_8.index t 1 = 0)
    ∧ (win0_9.index t 0 = t.val ∧ win0_9.index t 1 = 0)
    ∧ (win0_10.index t 0 = t.val ∧ win0_10.index t 1 = 0)
    ∧ (win0_11.index t 0 = t.val ∧ win0_11.index t 1 = 0)
    ∧ (win0_12.index t 0 = t.val ∧ win0_12.index t 1 = 0)
    ∧ (win0_13.index t 0 = 0 ∧ win0_13.index t 1 = 0)
    ∧ (win0_14.index t 0 = 0 ∧ win0_14.index t 1 = 0)
    ∧ (win0_15.index t 0 = 0 ∧ win0_15.index t 1 = 0) := by decide +kernel

/-- What the twelve operands hold where the region starts. -/
structure Start (w : Data) : Prop where
  s0 : ∀ (r : Fin 16384) (k : Fin 1792), (V m c main_v4 (ix2 r k) : EReal) = (w.P r k : EReal)
  s1 : ∀ (r : Fin 1) (k : Fin 384), (V m c main_v43 (ix2 r k) : EReal) = (w.Gq k : EReal)
  s2 : ∀ (r : Fin 1) (k : Fin 256), (V m c main_v44 (ix2 r k) : EReal) = (w.Gk k : EReal)
  s3 : ∀ (r : Fin 1) (k : Fin 512), (V m c main_v45 (ix2 r k) : EReal) = (w.Gs k : EReal)
  s4 : ∀ (r : Fin 16384) (k : Fin 128), (V m c main_v38 (ix2 r k) : EReal) = w.C r k
  s5 : ∀ (r : Fin 16384) (k : Fin 128), (V m c main_v40 (ix2 r k) : EReal) = w.A r k
  s6 : ∀ (r : Fin 16384) (k : Fin 128), (V m c main_v42 (ix2 r k) : EReal) = w.B r k
  s7 : ∀ (r : Fin 16384) (k : Fin 384), (V m c main_arg5 (ix2 r k) : EReal) = (w.Dq r k : EReal)
  s8 : ∀ (r : Fin 16384) (k : Fin 256), (V m c main_arg6 (ix2 r k) : EReal) = (w.Dk r k : EReal)
  s9 : ∀ (r : Fin 16384) (k : Fin 1024), (V m c main_v7 (ix2 r k) : EReal) = w.K r k
  s10 : ∀ (r : Fin 16384) (k : Fin 512), (V m c main_v46 (ix2 r k) : EReal) = (w.Du r k : EReal)
  s11 : ∀ (r : Fin 16384) (k : Fin 512), (V m c main_v47 (ix2 r k) : EReal) = (w.Dv r k : EReal)

variable {m c} {w : Data} (s : Start m c w)

theorem row_lt (t : Fin cfg0.N) (r : Fin 256) : t.val * 256 + r.val < 16384 := by have : t.val < 64 := t.isLt; omega

include s in
theorem in_0 (t : Fin cfg0.N) (r : Fin 256) (k : Fin 1792) : (iblk m c 0 t (ix2 r k) : EReal) = (w.P (t.val * 256 + r) k : EReal) := by
  obtain ⟨a, b⟩ := (index_at t).1
  have e : (win0_0.rect t).emb (ix2 r k) = (ix2 (⟨t.val * 256 + r.val, row_lt t r⟩ : Fin 16384) k : S16384x1792.Idx) :=
    ext2 ((win0_0.rect_emb_val t (ix2 r k) 0).trans (by rw [a]; rfl)) ((win0_0.rect_emb_val t (ix2 r k) 1).trans (by rw [b]; exact Nat.zero_add _))
  exact (congrArg (V m c main_v4) e).trans (s.s0 _ k)

include s in
theorem in_1 (t : Fin cfg0.N) (r : Fin 1) (k : Fin 384) : (iblk m c 1 t (ix2 r k) : EReal) = (w.Gq k : EReal) := by
  obtain ⟨a, b⟩ := (index_at t).2.1
  have e : (win0_1.rect t).emb (ix2 r k) = (ix2 r k : S1x384.Idx) :=
    ext2 ((win0_1.rect_emb_val t (ix2 r k) 0).trans (by rw [a]; exact Nat.zero_add _)) ((win0_1.rect_emb_val t (ix2 r k) 1).trans (by rw [b]; exact Nat.zero_add _))
  exact (congrArg (V m c main_v43) e).trans (s.s1 r k)

include s in
theorem in_2 (t : Fin cfg0.N) (r : Fin 1) (k : Fin 256) : (iblk m c 2 t (ix2 r k) : EReal) = (w.Gk k : EReal) := by
  obtain ⟨a, b⟩ := (index_at t).2.2.1
  have e : (win0_2.rect t).emb (ix2 r k) = (ix2 r k : S1x256.Idx) :=
    ext2 ((win0_2.rect_emb_val t (ix2 r k) 0).trans (by rw [a]; exact Nat.zero_add _)) ((win0_2.rect_emb_val t (ix2 r k) 1).trans (by rw [b]; exact Nat.zero_add _))
  exact (congrArg (V m c main_v44) e).trans (s.s2 r k)

include s in
theorem in_3 (t : Fin cfg0.N) (r : Fin 1) (k : Fin 512) : (iblk m c 3 t (ix2 r k) : EReal) = (w.Gs k : EReal) := by
  obtain ⟨a, b⟩ := (index_at t).2.2.2.1
  have e : (win0_3.rect t).emb (ix2 r k) = (ix2 r k : S1x512.Idx) :=
    ext2 ((win0_3.rect_emb_val t (ix2 r k) 0).trans (by rw [a]; exact Nat.zero_add _)) ((win0_3.rect_emb_val t (ix2 r k) 1).trans (by rw [b]; exact Nat.zero_add _))
  exact (congrArg (V m c main_v45) e).trans (s.s3 r k)

include s in
theorem in_4 (t : Fin cfg0.N) (r : Fin 256) (k : Fin 128) : (iblk m c 4 t (ix2 r k) : EReal) = w.C (t.val * 256 + r) k := by
  obtain ⟨a, b⟩ := (index_at t).2.2.2.2.1
  have e : (win0_4.rect t).emb (ix2 r k) = (ix2 (⟨t.val * 256 + r.val, row_lt t r⟩ : Fin 16384) k : S16384x128.Idx) :=
    ext2 ((win0_4.rect_emb_val t (ix2 r k) 0).trans (by rw [a]; rfl)) ((win0_4.rect_emb_val t (ix2 r k) 1).trans (by rw [b]; exact Nat.zero_add _))
  exact (congrArg (V m c main_v38) e).trans (s.s4 _ k)

include s in
theorem in_5 (t : Fin cfg0.N) (r : Fin 256) (k : Fin 128) : (iblk m c 5 t (ix2 r k) : EReal) = w.A (t.val * 256 + r) k := by
  obtain ⟨a, b⟩ := (index_at t).2.2.2.2.2.1
  have e : (win0_5.rect t).emb (ix2 r k) = (ix2 (⟨t.val * 256 + r.val, row_lt t r⟩ : Fin 16384) k : S16384x128.Idx) :=
    ext2 ((win0_5.rect_emb_val t (ix2 r k) 0).trans (by rw [a]; rfl)) ((win0_5.rect_emb_val t (ix2 r k) 1).trans (by rw [b]; exact Nat.zero_add _))
  exact (congrArg (V m c main_v40) e).trans (s.s5 _ k)

include s in
theorem in_6 (t : Fin cfg0.N) (r : Fin 256) (k : Fin 128) : (iblk m c 6 t (ix2 r k) : EReal) = w.B (t.val * 256 + r) k := by
  obtain ⟨a, b⟩ := (index_at t).2.2.2.2.2.2.1
  have e : (win0_6.rect t).emb (ix2 r k) = (ix2 (⟨t.val * 256 + r.val, row_lt t r⟩ : Fin 16384) k : S16384x128.Idx) :=
    ext2 ((win0_6.rect_emb_val t (ix2 r k) 0).trans (by rw [a]; rfl)) ((win0_6.rect_emb_val t (ix2 r k) 1).trans (by rw [b]; exact Nat.zero_add _))
  exact (congrArg (V m c main_v42) e).trans (s.s6 _ k)

include s in
theorem in_7 (t : Fin cfg0.N) (r : Fin 256) (k : Fin 384) : (iblk m c 7 t (ix2 r k) : EReal) = (w.Dq (t.val * 256 + r) k : EReal) := by
  obtain ⟨a, b⟩ := (index_at t).2.2.2.2.2.2.2.1
  have e : (win0_7.rect t).emb (ix2 r k) = (ix2 (⟨t.val * 256 + r.val, row_lt t r⟩ : Fin 16384) k : S16384x384.Idx) :=
    ext2 ((win0_7.rect_emb_val t (ix2 r k) 0).trans (by rw [a]; rfl)) ((win0_7.rect_emb_val t (ix2 r k) 1).trans (by rw [b]; exact Nat.zero_add _))
  exact (congrArg (V m c main_arg5) e).trans (s.s7 _ k)

include s in
theorem in_8 (t : Fin cfg0.N) (r : Fin 256) (k : Fin 256) : (iblk m c 8 t (ix2 r k) : EReal) = (w.Dk (t.val * 256 + r) k : EReal) := by
  obtain ⟨a, b⟩ := (index_at t).2.2.2.2.2.2.2.2.1
  have e : (win0_8.rect t).emb (ix2 r k) = (ix2 (⟨t.val * 256 + r.val, row_lt t r⟩ : Fin 16384) k : S16384x256.Idx) :=
    ext2 ((win0_8.rect_emb_val t (ix2 r k) 0).trans (by rw [a]; rfl)) ((win0_8.rect_emb_val t (ix2 r k) 1).trans (by rw [b]; exact Nat.zero_add _))
  exact (congrArg (V m c main_arg6) e).trans (s.s8 _ k)

include s in
theorem in_9 (t : Fin cfg0.N) (r : Fin 256) (k : Fin 1024) : (iblk m c 9 t (ix2 r k) : EReal) = w.K (t.val * 256 + r) k := by
  obtain ⟨a, b⟩ := (index_at t).2.2.2.2.2.2.2.2.2.1
  have e : (win0_9.rect t).emb (ix2 r k) = (ix2 (⟨t.val * 256 + r.val, row_lt t r⟩ : Fin 16384) k : S16384x1024.Idx) :=
    ext2 ((win0_9.rect_emb_val t (ix2 r k) 0).trans (by rw [a]; rfl)) ((win0_9.rect_emb_val t (ix2 r k) 1).trans (by rw [b]; exact Nat.zero_add _))
  exact (congrArg (V m c main_v7) e).trans (s.s9 _ k)

include s in
theorem in_10 (t : Fin cfg0.N) (r : Fin 256) (k : Fin 512) : (iblk m c 10 t (ix2 r k) : EReal) = (w.Du (t.val * 256 + r) k : EReal) := by
  obtain ⟨a, b⟩ := (index_at t).2.2.2.2.2.2.2.2.2.2.1
  have e : (win0_10.rect t).emb (ix2 r k) = (ix2 (⟨t.val * 256 + r.val, row_lt t r⟩ : Fin 16384) k : S16384x512.Idx) :=
    ext2 ((win0_10.rect_emb_val t (ix2 r k) 0).trans (by rw [a]; rfl)) ((win0_10.rect_emb_val t (ix2 r k) 1).trans (by rw [b]; exact Nat.zero_add _))
  exact (congrArg (V m c main_v46) e).trans (s.s10 _ k)

include s in
theorem in_11 (t : Fin cfg0.N) (r : Fin 256) (k : Fin 512) : (iblk m c 11 t (ix2 r k) : EReal) = (w.Dv (t.val * 256 + r) k : EReal) := by
  obtain ⟨a, b⟩ := (index_at t).2.2.2.2.2.2.2.2.2.2.2.1
  have e : (win0_11.rect t).emb (ix2 r k) = (ix2 (⟨t.val * 256 + r.val, row_lt t r⟩ : Fin 16384) k : S16384x512.Idx) :=
    ext2 ((win0_11.rect_emb_val t (ix2 r k) 0).trans (by rw [a]; rfl)) ((win0_11.rect_emb_val t (ix2 r k) 1).trans (by rw [b]; exact Nat.zero_add _))
  exact (congrArg (V m c main_v47) e).trans (s.s11 _ k)

include s in
theorem held (t : Fin cfg0.N) : Held w t.val (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) :=
  ⟨in_0 s t, in_1 s t, in_2 s t, in_3 s t, in_4 s t, in_5 s t, in_6 s t, in_7 s t, in_8 s t, in_9 s t, in_10 s t, in_11 s t⟩

include s in
theorem outs_dp (t : Fin cfg0.N) (r : Fin 256) (k : Fin 1792) : ((outsAt0 m c t.val t.isLt).1 (ix2 r k) : EReal) = w.dp (t.val * 256 + r) k := by
  rcases Nat.eq_zero_or_pos t.val with h | h
  · exact dp_first m c t h (held s t) r k
  · exact dp_later m c t h (held s t) r k

include s in
/-- A gain's gradient after `n + 1` points: the sum of their parts. -/
theorem sumQ (n : ℕ) (hn : n < cfg0.N) (k : Fin 1) (l : Fin 384) :
    ((outsAt0 m c n hn).2.1 (ix2 k l) : EReal) = ((∑ t ∈ Finset.range (n + 1), ∑ r : Fin 256, w.gq (t * 256 + r) l : ℝ) : EReal) := by
  induction n with
  | zero =>
    rw [Finset.sum_range_one]
    exact (congrFun (gainQ_first m c ⟨0, hn⟩ rfl) _).trans (part_q (held s ⟨0, hn⟩) k l)
  | succ n ih =>
    have e := congrFun (gainQ_later m c ⟨n + 1, hn⟩ (Nat.succ_pos n)) (ix2 k l)
    rw [Finset.sum_range_succ, EReal.coe_add, ← ih (Nat.lt_of_succ_lt hn), ← part_q (held s ⟨n + 1, hn⟩) k l]
    refine Eq.trans e ?_
    unfold k0_pay1
    rw [shapeCast_self]
    rfl

include s in
/-- A gain's gradient after `n + 1` points: the sum of their parts. -/
theorem sumK (n : ℕ) (hn : n < cfg0.N) (k : Fin 1) (l : Fin 256) :
    ((outsAt0 m c n hn).2.2.1 (ix2 k l) : EReal) = ((∑ t ∈ Finset.range (n + 1), ∑ r : Fin 256, w.gk (t * 256 + r) l : ℝ) : EReal) := by
  induction n with
  | zero =>
    rw [Finset.sum_range_one]
    exact (congrFun (gainK_first m c ⟨0, hn⟩ rfl) _).trans (part_k (held s ⟨0, hn⟩) k l)
  | succ n ih =>
    have e := congrFun (gainK_later m c ⟨n + 1, hn⟩ (Nat.succ_pos n)) (ix2 k l)
    rw [Finset.sum_range_succ, EReal.coe_add, ← ih (Nat.lt_of_succ_lt hn), ← part_k (held s ⟨n + 1, hn⟩) k l]
    refine Eq.trans e ?_
    unfold k0_pay2
    rw [shapeCast_self]
    rfl

include s in
/-- A gain's gradient after `n + 1` points: the sum of their parts. -/
theorem sumS (n : ℕ) (hn : n < cfg0.N) (k : Fin 1) (l : Fin 512) :
    ((outsAt0 m c n hn).2.2.2 (ix2 k l) : EReal) = ((∑ t ∈ Finset.range (n + 1), ∑ r : Fin 256, w.gs (t * 256 + r) l : ℝ) : EReal) := by
  induction n with
  | zero =>
    rw [Finset.sum_range_one]
    exact (congrFun (gainS_first m c ⟨0, hn⟩ rfl) _).trans (part_s (held s ⟨0, hn⟩) k l)
  | succ n ih =>
    have e := congrFun (gainS_later m c ⟨n + 1, hn⟩ (Nat.succ_pos n)) (ix2 k l)
    rw [Finset.sum_range_succ, EReal.coe_add, ← ih (Nat.lt_of_succ_lt hn), ← part_s (held s ⟨n + 1, hn⟩) k l]
    refine Eq.trans e ?_
    unfold k0_pay3
    rw [shapeCast_self]
    rfl

/-! ## The arrays after the run -/

include s in
theorem final_dp : (dats m 0 c).arrAt 12 cfg0.N = arr w.dp := by
  have emb : ∀ (t : Fin cfg0.N) (r : Fin 256) (k : Fin 1792), ((cfg0.win 12).blk t).view.emb (ix2 r k)
      = (ix2 (⟨t.val * 256 + r.val, by have : t.val < 64 := t.isLt; omega⟩ : Fin 16384) k : S16384x1792.Idx) := fun t r k => by
    obtain ⟨a, b⟩ := (index_at t).2.2.2.2.2.2.2.2.2.2.2.2.1
    exact ext2 ((win0_12.rect_emb_val t (ix2 r k) 0).trans (by rw [a]; rfl)) ((win0_12.rect_emb_val t (ix2 r k) 1).trans (by rw [b]; exact Nat.zero_add _))
  refine (dats m 0 c).arrAt_eq_of_cover 12 _ (fun t _ => ?_) (fun i => ?_)
  · show (cfg0.win 12).cut (grid0.coords t) ((dats m 0 c).after 12 t) = _
    rw [after0_12]
    funext y
    obtain ⟨r, k, rfl⟩ : ∃ (r : Fin 256) (k : Fin 1792), y = ix2 r k := ⟨y 0, y 1, eq_ix2 y⟩
    exact (outs_dp s t r k).trans (congrArg (arr w.dp) (emb t r k)).symm
  · obtain ⟨r, k, rfl⟩ : ∃ (r : Fin 16384) (k : Fin 1792), i = ix2 r k := ⟨i 0, i 1, eq_ix2 i⟩
    have hr := r.isLt
    have ht : r.val / 256 < 64 := by omega
    have e : ix2 r k = ((cfg0.win 12).blk ⟨r.val / 256, ht⟩).view.emb (ix2 (⟨r.val % 256, Nat.mod_lt _ (by decide)⟩ : Fin 256) k) :=
      Eq.trans (congrArg (fun q : Fin 16384 => (ix2 q k : S16384x1792.Idx)) (Fin.ext (Nat.div_add_mod' r.val 256).symm)) (emb ⟨r.val / 256, ht⟩ ⟨r.val % 256, Nat.mod_lt _ (by decide)⟩ k).symm
    exact ⟨⟨r.val / 256, ht⟩, flush0_12 _, e ▸ View.emb_mem_set _ _⟩

/-- A gain's gradient: the sum over the rows. -/
def total (g : ℕ → ℕ → ℝ) (l : ℕ) : EReal := ((∑ r : Fin 16384, g r l : ℝ) : EReal)

include s in
theorem final_gq : (dats m 0 c).arrAt 13 cfg0.N = arr fun _ l => total w.gq l := by
  have emb : ∀ (t : Fin cfg0.N) (k : Fin 1) (l : Fin 384), (ix2 k l : S1x384.Idx) = ((cfg0.win 13).blk t).view.emb (ix2 k l) := fun t k l => by
    obtain ⟨a, b⟩ := (index_at t).2.2.2.2.2.2.2.2.2.2.2.2.2.1
    exact ext2 ((win0_13.rect_emb_val t (ix2 k l) 0).trans (by rw [a]; exact Nat.zero_add _)).symm
      ((win0_13.rect_emb_val t (ix2 k l) 1).trans (by rw [b]; exact Nat.zero_add _)).symm
  refine (dats m 0 c).arrAt_eq_of_cover 13 _ (fun t ht => ?_) (fun i => ?_)
  · have h := (flush0_13 t).mp ht
    have hN : t.val < 64 := t.isLt
    show (cfg0.win 13).cut (grid0.coords t) ((dats m 0 c).after 13 t) = _
    rw [after0_13]
    funext y
    obtain ⟨k, l, rfl⟩ : ∃ (k : Fin 1) (l : Fin 384), y = ix2 k l := ⟨y 0, y 1, eq_ix2 y⟩
    refine (sumQ s t.val t.isLt k l).trans (Eq.trans ?_ (congrArg (arr fun _ l => total w.gq l) (emb t k l)))
    rw [show t.val + 1 = 64 by omega, sum_tiles 64 256 fun r => w.gq r l, ← Fin.sum_univ_eq_sum_range]
    rfl
  · obtain ⟨k, l, rfl⟩ : ∃ (k : Fin 1) (l : Fin 384), i = ix2 k l := ⟨i 0, i 1, eq_ix2 i⟩
    exact ⟨⟨63, by decide⟩, (flush0_13 _).mpr rfl, (emb ⟨63, by decide⟩ k l) ▸ View.emb_mem_set _ _⟩

include s in
theorem final_gk : (dats m 0 c).arrAt 14 cfg0.N = arr fun _ l => total w.gk l := by
  have emb : ∀ (t : Fin cfg0.N) (k : Fin 1) (l : Fin 256), (ix2 k l : S1x256.Idx) = ((cfg0.win 14).blk t).view.emb (ix2 k l) := fun t k l => by
    obtain ⟨a, b⟩ := (index_at t).2.2.2.2.2.2.2.2.2.2.2.2.2.2.1
    exact ext2 ((win0_14.rect_emb_val t (ix2 k l) 0).trans (by rw [a]; exact Nat.zero_add _)).symm
      ((win0_14.rect_emb_val t (ix2 k l) 1).trans (by rw [b]; exact Nat.zero_add _)).symm
  refine (dats m 0 c).arrAt_eq_of_cover 14 _ (fun t ht => ?_) (fun i => ?_)
  · have h := (flush0_14 t).mp ht
    have hN : t.val < 64 := t.isLt
    show (cfg0.win 14).cut (grid0.coords t) ((dats m 0 c).after 14 t) = _
    rw [after0_14]
    funext y
    obtain ⟨k, l, rfl⟩ : ∃ (k : Fin 1) (l : Fin 256), y = ix2 k l := ⟨y 0, y 1, eq_ix2 y⟩
    refine (sumK s t.val t.isLt k l).trans (Eq.trans ?_ (congrArg (arr fun _ l => total w.gk l) (emb t k l)))
    rw [show t.val + 1 = 64 by omega, sum_tiles 64 256 fun r => w.gk r l, ← Fin.sum_univ_eq_sum_range]
    rfl
  · obtain ⟨k, l, rfl⟩ : ∃ (k : Fin 1) (l : Fin 256), i = ix2 k l := ⟨i 0, i 1, eq_ix2 i⟩
    exact ⟨⟨63, by decide⟩, (flush0_14 _).mpr rfl, (emb ⟨63, by decide⟩ k l) ▸ View.emb_mem_set _ _⟩

include s in
theorem final_gs : (dats m 0 c).arrAt 15 cfg0.N = arr fun _ l => total w.gs l := by
  have emb : ∀ (t : Fin cfg0.N) (k : Fin 1) (l : Fin 512), (ix2 k l : S1x512.Idx) = ((cfg0.win 15).blk t).view.emb (ix2 k l) := fun t k l => by
    obtain ⟨a, b⟩ := (index_at t).2.2.2.2.2.2.2.2.2.2.2.2.2.2.2
    exact ext2 ((win0_15.rect_emb_val t (ix2 k l) 0).trans (by rw [a]; exact Nat.zero_add _)).symm
      ((win0_15.rect_emb_val t (ix2 k l) 1).trans (by rw [b]; exact Nat.zero_add _)).symm
  refine (dats m 0 c).arrAt_eq_of_cover 15 _ (fun t ht => ?_) (fun i => ?_)
  · have h := (flush0_15 t).mp ht
    have hN : t.val < 64 := t.isLt
    show (cfg0.win 15).cut (grid0.coords t) ((dats m 0 c).after 15 t) = _
    rw [after0_15]
    funext y
    obtain ⟨k, l, rfl⟩ : ∃ (k : Fin 1) (l : Fin 512), y = ix2 k l := ⟨y 0, y 1, eq_ix2 y⟩
    refine (sumS s t.val t.isLt k l).trans (Eq.trans ?_ (congrArg (arr fun _ l => total w.gs l) (emb t k l)))
    rw [show t.val + 1 = 64 by omega, sum_tiles 64 256 fun r => w.gs r l, ← Fin.sum_univ_eq_sum_range]
    rfl
  · obtain ⟨k, l, rfl⟩ : ∃ (k : Fin 1) (l : Fin 512), i = ix2 k l := ⟨i 0, i 1, eq_ix2 i⟩
    exact ⟨⟨63, by decide⟩, (flush0_15 _).mpr rfl, (emb ⟨63, by decide⟩ k l) ▸ View.emb_mem_set _ _⟩

end Cert.Prep

end
-- ==== Proof.Prep.Turn.lean ====
module

public import proofs.«01_k».proof.Proof.Prep.Arrays

/-! The shared key's row turned back by its position, and the gradient of a normalisation from its first columns alone. -/

@[expose] public section

set_option maxRecDepth 16384

noncomputable section

namespace Cert.Prep

open Cert.Tools
open Cert.Unrope (freq rowF rowA rowB)
open Idealize.ShloMosaic

/-- The row `x` turned back by the position `p`, as the mathematics has it, in the rotated columns. -/
def back (p : EReal) (x : ℕ → EReal) (l : ℕ) : EReal :=
  if l < 80 then x l * Ideal.cos (p * freq (l - 64)) + x (l + 16) * Ideal.sin (p * freq (l - 64))
  else x l * Ideal.cos (p * freq (l - 80)) + -(x (l - 16) * Ideal.sin (p * freq (l - 80)))

theorem turn_back (p : EReal) (x : ℕ → EReal) {l : ℕ} (h0 : 64 ≤ l) (hl : l < 96) :
    turn x (fun l => Ideal.cos (p * rowF l)) (fun l => Ideal.sin (p * rowF l) * rowA l) (fun l => Ideal.sin (p * rowF l) * rowB l) l = back p x l := by
  unfold turn back
  dsimp only
  by_cases h2 : l < 80
  · have e : rowF l = freq (l - 64) := by unfold rowF; rw [if_neg (by omega), if_pos h2]
    have a : rowA ((l + 112) % 128) = 0 := by unfold rowA; split_ifs <;> first | rfl | omega
    have s : (l + 16) % 128 = l + 16 := by omega
    have e' : rowF (l + 16) = freq (l - 64) := by
      unfold rowF; rw [if_neg (by omega), if_neg (by omega), if_pos (by omega)]; exact congrArg freq (by omega)
    have b : rowB (l + 16) = 1 := by unfold rowB; rw [if_neg (by omega), if_pos (by omega)]
    rw [a, s, e, e', b, if_pos h2, mul_zero, mul_zero, mul_one, add_zero]
  · have e : rowF l = freq (l - 80) := by unfold rowF; rw [if_neg (by omega), if_neg h2, if_pos hl]
    have b : rowB ((l + 16) % 128) = 0 := by unfold rowB; split_ifs <;> first | rfl | omega
    have s : (l + 112) % 128 = l - 16 := by omega
    have e' : rowF (l - 16) = freq (l - 80) := by
      unfold rowF; rw [if_neg (by omega), if_pos (by omega)]; exact congrArg freq (by omega)
    have a : rowA (l - 16) = -1 := by unfold rowA; rw [if_neg (by omega), if_pos (by omega)]
    rw [b, s, e, e', a, if_neg h2, mul_zero, mul_zero, add_zero, mul_neg, mul_one, mul_neg]

/-- The heads' sum is taken in the rotated columns, which are the only ones the turn of such a column reads. -/
theorem back_heads (p : EReal) (K : ℕ → ℕ → EReal) {l : ℕ} (h0 : 64 ≤ l) (hl : l < 96) : back p (heads K) l = back p (fun l => ∑ h : Fin 8, K h l) l := by
  have e : ∀ j, 64 ≤ j → j < 96 → heads K j = ∑ h : Fin 8, K h j := fun j a b => by unfold heads; rw [if_pos ⟨a, b⟩]
  unfold back
  by_cases h2 : l < 80
  · rw [if_pos h2, if_pos h2, e _ h0 hl, e _ (by omega) (by omega)]
  · rw [if_neg h2, if_neg h2, e _ h0 hl, e _ (by omega) (by omega)]

theorem room_congr (n : ℕ) {x y : ℕ → ℝ} (h : ∀ k, k < n → x k = y k) : room n x = room n y := by
  unfold room; rw [Finset.sum_congr rfl fun k _ => by rw [h _ (Fin.isLt k)]]

theorem root_congr (n : ℕ) {x y : ℕ → ℝ} (h : ∀ k, k < n → x k = y k) : root n x = root n y := by
  unfold root; rw [room_congr n h]

theorem backward_congr (n : ℕ) {x y : ℕ → ℝ} (h : ∀ k, k < n → x k = y k) (d : ℕ → ℝ) {l : ℕ} (hl : l < n) : backward n x d l = backward n y d l := by
  unfold backward
  rw [root_congr n h, h l hl, Finset.sum_congr rfl fun k _ => by rw [h _ (Fin.isLt k)]]

end Cert.Prep

end
-- ==== Proof.Prep.Final.lean ====
module

public import proofs.«01_k».proof.Proof.Prep.Turn
public import Idealize.ShloMosaic.Lib.StableHlo.ReadAt

/-! The preparation's gradient as the run leaves it, from the arguments. -/

@[expose] public section

set_option maxRecDepth 16384

noncomputable section

namespace Cert.Prep

open Cert.PrepKernelIdeal Cert.PrepKernelIdeal.Gen Cert.Tools
open Cert.Unrope (arr freqs packF packA packB packX packF_at packA_at packB_at packX_at entry posOf rowF rowA rowB)
open Idealize.ShloMosaic Idealize.ShloMosaic.TcCoe Idealize.ShloMosaic.Tactic Idealize.SL.Sem
open Idealize.ShloMosaic.Pipeline (Dat)

/-! ## The arrays before the region -/

/-- The projection with the shared key's columns moved into a head's padded columns. -/
def packP (p : S16384x1696.Idx → EReal) : S16384x1792.Idx → EReal :=
  concatenate S16384x1792 1 [⟨S16384x640, extractStridedSlice S16384x640 ![0, 0] p slices_S16384x1696_S16384x640_0_0⟩,
    ⟨S16384x128, pad S16384x128 ![0, 64] ![0, 32] ![0, 0] (extractStridedSlice S16384x32 ![0, 640] p slices_S16384x1696_S16384x32_0_640)
      (sitofp (F := Ideal) .f32 (constantI S_ 32 0#32)) pads_S16384x32_S16384x128_000_64320 h_S_⟩,
    ⟨S16384x1024, extractStridedSlice S16384x1024 ![0, 672] p slices_S16384x1696_S16384x1024_0_672⟩] concatenates_S16384x640_S16384x128_S16384x1024_S16384x1792_d1

/-- The angles: positions times the row of frequencies. -/
def angles (p : S16384.Idx → BitVec 32) : S16384x128.Idx → EReal :=
  mulf (F := Ideal) (φ := .f32) (broadcastInDim S16384x128 ![0, 1] bcast_S16384x1_S16384x128_0_1 (sitofp (F := Ideal) .f32 (shapeCast S16384x1 p shapeCasts_S16384_S16384x1)))
    (broadcastInDim S16384x128 ![0, 1] bcast_S1x128_S16384x128_0_1 (packF freqs))
def cosines (p : S16384.Idx → BitVec 32) : S16384x128.Idx → EReal := Host.cos (F := Ideal) (φ := .f32) (angles p)
def signed (p : S16384.Idx → BitVec 32) (s : S1x128.Idx → EReal) : S16384x128.Idx → EReal :=
  mulf (F := Ideal) (φ := .f32) (Host.sin (F := Ideal) (φ := .f32) (angles p)) (broadcastInDim S16384x128 ![0, 1] bcast_S1x128_S16384x128_0_1 s)

/-- The projection's column that a packed column holds. -/
def packed (X : ℕ → ℕ → ℝ) (r k : ℕ) : ℝ :=
  if k < 640 then X r k else if k < 704 then 0 else if k < 736 then X r (k - 64) else if k < 768 then 0 else X r (k - 96)

theorem packP_at {p : S16384x1696.Idx → EReal} {X : ℕ → ℕ → ℝ} (hx : ∀ (r : Fin 16384) (k : Fin 1696), p (ix2 r k) = (X r k : EReal))
    (r : Fin 16384) (k : Fin 1792) : packP p (ix2 r k) = (packed X r k : EReal) := by
  pointwise [packP]
  unfold packed
  have hk := k.isLt
  by_cases h1 : k.val < 640
  · simp only [h1, dite_true, if_true, hx]
    try rfl
  by_cases h2 : k.val < 704
  · simp [h1, h2, show k.val - 640 < 128 by omega, show ¬ (64 ≤ k.val - 640) by omega, FloatOps.sitofp]
  by_cases h3 : k.val < 736
  · simp only [h1, h2, h3, show k.val - 640 < 128 by omega, show 64 ≤ k.val - 640 by omega, show k.val - 640 - 64 < 32 by omega, and_self, dite_true, dite_false, if_true, if_false, hx]
    exact congrArg (fun j => ((X r j : ℝ) : EReal)) (by omega)
  by_cases h4 : k.val < 768
  · simp [h1, h2, h3, h4, show k.val - 640 < 128 by omega, show 64 ≤ k.val - 640 by omega, show ¬ (k.val - 640 - 64 < 32) by omega, FloatOps.sitofp]
  · simp only [h1, h2, h3, h4, show ¬ (k.val - 640 < 128) by omega, dite_true, dite_false, if_true, if_false, hx]
    exact congrArg (fun j => ((X r j : ℝ) : EReal)) (by omega)

theorem angles_at (p : S16384.Idx → BitVec 32) (r : Fin 16384) (l : Fin 128) : angles p (ix2 r l) = posOf p r * rowF l := by
  pointwise [angles]
  rw [packF_at]
  unfold posOf
  rw [dif_pos r.isLt]

theorem cosines_at (p : S16384.Idx → BitVec 32) (r : Fin 16384) (l : Fin 128) : cosines p (ix2 r l) = Ideal.cos (posOf p r * rowF l) := by
  pointwise [cosines]
  rw [angles_at]

theorem signed_at (p : S16384.Idx → BitVec 32) {s : S1x128.Idx → EReal} {f : ℕ → EReal} (hs : ∀ l : Fin 128, s (ix2 0 l) = f l) (r : Fin 16384) (l : Fin 128) :
    signed p s (ix2 r l) = Ideal.sin (posOf p r * rowF l) * f l := by
  pointwise [signed]
  rw [angles_at, hs]

variable (m : (ℓ : Loc nD τ sig) → Buf (Elt Ideal) ℓ) (ρ : Dev nD → PrngReg) (c : Dev nD)

abbrev arg0 : S16384x1696.Idx → EReal := m ((c : Thread nD τ).loc main_arg0)
abbrev arg1 : S16384.Idx → BitVec 32 := m ((c : Thread nD τ).loc main_arg1)
abbrev arg2 : S384.Idx → EReal := m ((c : Thread nD τ).loc main_arg2)
abbrev arg3 : S256.Idx → EReal := m ((c : Thread nD τ).loc main_arg3)
abbrev arg4 : S512.Idx → EReal := m ((c : Thread nD τ).loc main_arg4)
abbrev arg5 : S16384x384.Idx → EReal := m ((c : Thread nD τ).loc main_arg5)
abbrev arg6 : S16384x256.Idx → EReal := m ((c : Thread nD τ).loc main_arg6)
abbrev arg7 : S16384x8x96.Idx → EReal := m ((c : Thread nD τ).loc main_arg7)
abbrev arg8 : S16384x512.Idx → EReal := m ((c : Thread nD τ).loc main_arg8)
abbrev arg9 : S16384x512.Idx → EReal := m ((c : Thread nD τ).loc main_arg9)

theorem V_4 : V m c main_v4 = packP (arg0 m c) := by entry_read; rfl
theorem V_7 : V m c main_v7 = packX (arg7 m c) := by entry_read; rfl
theorem V_38 : V m c main_v38 = cosines (arg1 m c) := by entry_read; rfl
theorem V_40 : V m c main_v40 = signed (arg1 m c) packA := by entry_read; rfl
theorem V_42 : V m c main_v42 = signed (arg1 m c) packB := by entry_read; rfl
theorem V_43 : V m c main_v43 = shapeCast S1x384 (arg2 m c) shapeCasts_S384_S1x384 := by entry_read; rfl
theorem V_44 : V m c main_v44 = shapeCast S1x256 (arg3 m c) shapeCasts_S256_S1x256 := by entry_read; rfl
theorem V_45 : V m c main_v45 = shapeCast S1x512 (arg4 m c) shapeCasts_S512_S1x512 := by entry_read; rfl
theorem V_46 : V m c main_v46 = arg8 m c := by entry_read; rfl
theorem V_47 : V m c main_v47 = arg9 m c := by entry_read; rfl
theorem V_5 : V m c main_arg5 = arg5 m c := by entry_read; try rfl
theorem V_6 : V m c main_arg6 = arg6 m c := by entry_read; try rfl

/-- The operands' contents from the arguments. -/
def data : Data where
  P := packed (real2 (arg0 m c))
  Dq := real2 (arg5 m c)
  Dk := real2 (arg6 m c)
  Du := real2 (arg8 m c)
  Dv := real2 (arg9 m c)
  Gq := real1 (arg2 m c)
  Gk := real1 (arg3 m c)
  Gs := real1 (arg4 m c)
  K := fun r k => entry (arg7 m c) r (k / 128) (k % 128)
  C := fun r l => Ideal.cos (posOf (arg1 m c) r * rowF l)
  A := fun r l => Ideal.sin (posOf (arg1 m c) r * rowF l) * rowA l
  B := fun r l => Ideal.sin (posOf (arg1 m c) r * rowF l) * rowB l

theorem gain_384 {v : S384.Idx → EReal} (f : Finite v) (k : Fin 1) (l : Fin 384) : shapeCast S1x384 v shapeCasts_S384_S1x384 (ix2 k l) = (real1 v l : EReal) := by
  pointwise []
  exact at1_real f l

theorem gain_256 {v : S256.Idx → EReal} (f : Finite v) (k : Fin 1) (l : Fin 256) : shapeCast S1x256 v shapeCasts_S256_S1x256 (ix2 k l) = (real1 v l : EReal) := by
  pointwise []
  exact at1_real f l

theorem gain_512 {v : S512.Idx → EReal} (f : Finite v) (k : Fin 1) (l : Fin 512) : shapeCast S1x512 v shapeCasts_S512_S1x512 (ix2 k l) = (real1 v l : EReal) := by
  pointwise []
  exact at1_real f l

/-- The arguments that must be finite are. -/
structure AllFinite : Prop where
  f0 : Finite (arg0 m c)
  f2 : Finite (arg2 m c)
  f3 : Finite (arg3 m c)
  f4 : Finite (arg4 m c)
  f5 : Finite (arg5 m c)
  f6 : Finite (arg6 m c)
  f8 : Finite (arg8 m c)
  f9 : Finite (arg9 m c)

theorem start (f : AllFinite m c) : Start m c (data m c) where
  s0 r k := (congrFun (V_4 m c) _).trans (packP_at (ix_real f.f0) r k)
  s1 r k := (congrFun (V_43 m c) _).trans (gain_384 f.f2 r k)
  s2 r k := (congrFun (V_44 m c) _).trans (gain_256 f.f3 r k)
  s3 r k := (congrFun (V_45 m c) _).trans (gain_512 f.f4 r k)
  s4 r k := (congrFun (V_38 m c) _).trans (cosines_at _ r k)
  s5 r k := (congrFun (V_40 m c) _).trans (signed_at _ packA_at r k)
  s6 r k := (congrFun (V_42 m c) _).trans (signed_at _ packB_at r k)
  s7 r k := (congrFun (V_5 m c) _).trans (ix_real f.f5 r k)
  s8 r k := (congrFun (V_6 m c) _).trans (ix_real f.f6 r k)
  s9 r k := (congrFun (V_7 m c) _).trans (packX_at _ r k)
  s10 r k := (congrFun (V_46 m c) _).trans (ix_real f.f8 r k)
  s11 r k := (congrFun (V_47 m c) _).trans (ix_real f.f9 r k)

end Cert.Prep

end
-- ==== Proof.Prep.Run.lean ====
module

public import proofs.«01_k».proof.Proof.Prep.Final

/-! The run of the preparation's gradient: the results that the lines after the region cut out of its arrays. -/

@[expose] public section

set_option maxRecDepth 16384

noncomputable section

namespace Cert.Prep

open Cert.PrepKernelIdeal Cert.PrepKernelIdeal.Gen Cert.Tools
open Cert.Unrope (arr)
open Idealize.ShloMosaic Idealize.ShloMosaic.TcCoe Idealize.ShloMosaic.Tactic Idealize.SL.Sem

/-- The projection's columns that are claimed, without the padding. -/
def cut (a : S16384x1792.Idx → EReal) : S16384x672.Idx → EReal :=
  concatenate S16384x672 1 [⟨S16384x640, extractStridedSlice S16384x640 ![0, 0] a slices_S16384x1792_S16384x640_0_0⟩,
    ⟨S16384x32, extractStridedSlice S16384x32 ![0, 704] a slices_S16384x1792_S16384x32_0_704⟩] concatenates_S16384x640_S16384x32_S16384x672_d1

theorem cut_at (f : ℕ → ℕ → EReal) (r : Fin 16384) (k : Fin 672) : cut (arr f) (ix2 r k) = f r (if k.val < 640 then k.val else k.val + 64) := by
  pointwise [cut]
  by_cases h : k.val < 640
  · rw [dif_pos h, if_pos h]
    rfl
  · rw [dif_neg h, if_neg h]
    exact congrArg (f r) (show 704 + (k.val - 640) = k.val + 64 by omega)

theorem row_384 (g : ℕ → EReal) (l : Fin 384) : shapeCast S384 (arr fun _ l => g l : S1x384.Idx → EReal) shapeCasts_S1x384_S384 (ix1 l) = g l := by
  pointwise []
  rfl
theorem row_256 (g : ℕ → EReal) (l : Fin 256) : shapeCast S256 (arr fun _ l => g l : S1x256.Idx → EReal) shapeCasts_S1x256_S256 (ix1 l) = g l := by
  pointwise []
  rfl
theorem row_512 (g : ℕ → EReal) (l : Fin 512) : shapeCast S512 (arr fun _ l => g l : S1x512.Idx → EReal) shapeCasts_S1x512_S512 (ix1 l) = g l := by
  pointwise []
  rfl

/-! The lines after the region, from any contents. -/

section

variable (W : Valuation τ sig (Elt Ideal))

theorem after_51 : StableHlo.after hostOps1 W (Proc.devRef .tc main_v51) = cut (W (Proc.devRef .tc main_v48_0)) := by
  simp only [hostOps1]; after_reads_simp; rfl
theorem after_52 : StableHlo.after hostOps1 W (Proc.devRef .tc main_v52) = shapeCast S384 (W (Proc.devRef .tc main_v48_1) : S1x384.Idx → EReal) shapeCasts_S1x384_S384 := by
  simp only [hostOps1]; after_reads_simp; rfl
theorem after_53 : StableHlo.after hostOps1 W (Proc.devRef .tc main_v53) = shapeCast S256 (W (Proc.devRef .tc main_v48_2) : S1x256.Idx → EReal) shapeCasts_S1x256_S256 := by
  simp only [hostOps1]; after_reads_simp; rfl
theorem after_54 : StableHlo.after hostOps1 W (Proc.devRef .tc main_v54) = shapeCast S512 (W (Proc.devRef .tc main_v48_3) : S1x512.Idx → EReal) shapeCasts_S1x512_S512 := by
  simp only [hostOps1]; after_reads_simp; rfl

end

variable (m : (ℓ : Loc nD τ sig) → Buf (Elt Ideal) ℓ) (ρ : Dev nD → PrngReg) (c : Dev nD)

/-- The buffers when the region is left. -/
abbrev left : Valuation τ sig (Elt Ideal) := Pipeline.withArrays (cfgs 0).spec c (V0 m c) fun w => (dats m 0 c).arrAt w (cfgs 0).N

theorem apart : Function.Injective (Pipeline.arrRef spec0) := by decide

theorem left_arr (w : Fin cfg0.W) : left m c (Proc.devRef .tc (Pipeline.arrRef spec0 w)) = (dats m 0 c).arrAt w cfg0.N :=
  Pipeline.withArrays_arr spec0 apart c (V0 m c) (fun w => (dats m 0 c).arrAt w cfg0.N) w

theorem tail_eq (b : Ref sig .tc) : Pipeline.afterTail₀ cfgs (dats m) 0 (V0 m) [hostOps1] c b = StableHlo.after hostOps1 (left m c) (Proc.devRef .tc b) := by
  unfold Pipeline.afterTail₀
  rw [List.flatten_cons, List.flatten_nil, List.append_nil]

/-! The results. -/

def resP : S16384x672.Idx → EReal := fun i => (data m c).dp (i 0).val (if (i 1).val < 640 then (i 1).val else (i 1).val + 64)
def resQ : S384.Idx → EReal := fun i => total (data m c).gq (i 0).val
def resK : S256.Idx → EReal := fun i => total (data m c).gk (i 0).val
def resS : S512.Idx → EReal := fun i => total (data m c).gs (i 0).val

section

variable (f : AllFinite m c)
include f

theorem tail_51 : Pipeline.afterTail₀ cfgs (dats m) 0 (V0 m) [hostOps1] c main_v51 = resP m c := by
  rw [tail_eq, after_51]
  refine (congrArg cut ((left_arr m c 12).trans (final_dp (start m c f)))).trans ?_
  funext i
  obtain ⟨r, k, rfl⟩ : ∃ (r : Fin 16384) (k : Fin 672), i = ix2 r k := ⟨i 0, i 1, eq_ix2 i⟩
  exact cut_at _ r k

theorem tail_52 : Pipeline.afterTail₀ cfgs (dats m) 0 (V0 m) [hostOps1] c main_v52 = resQ m c := by
  rw [tail_eq, after_52]
  refine (congrArg (fun a : S1x384.Idx → EReal => shapeCast S384 a shapeCasts_S1x384_S384) ((left_arr m c 13).trans (final_gq (start m c f)))).trans ?_
  funext i
  obtain ⟨l, rfl⟩ : ∃ l : Fin 384, i = ix1 l := ⟨i 0, eq_ix1 i⟩
  exact row_384 _ l

theorem tail_53 : Pipeline.afterTail₀ cfgs (dats m) 0 (V0 m) [hostOps1] c main_v53 = resK m c := by
  rw [tail_eq, after_53]
  refine (congrArg (fun a : S1x256.Idx → EReal => shapeCast S256 a shapeCasts_S1x256_S256) ((left_arr m c 14).trans (final_gk (start m c f)))).trans ?_
  funext i
  obtain ⟨l, rfl⟩ : ∃ l : Fin 256, i = ix1 l := ⟨i 0, eq_ix1 i⟩
  exact row_256 _ l

theorem tail_54 : Pipeline.afterTail₀ cfgs (dats m) 0 (V0 m) [hostOps1] c main_v54 = resS m c := by
  rw [tail_eq, after_54]
  refine (congrArg (fun a : S1x512.Idx → EReal => shapeCast S512 a shapeCasts_S1x512_S512) ((left_arr m c 15).trans (final_gs (start m c f)))).trans ?_
  funext i
  obtain ⟨l, rfl⟩ : ∃ l : Fin 512, i = ix1 l := ⟨i 0, eq_ix1 i⟩
  exact row_512 _ l

end

/-- The run's four results at finite arguments, and the arguments unchanged. -/
theorem run_results (f : ∀ c, AllFinite m c) : θ_run defs (onTc (τ := τ) (main (F := Ideal))) ⟨m, fun _ => 0, ρ⟩ (fun r => ∀ c : Dev nD,
    (r.2.mem ((c.tc : Thread nD τ).loc main_v51) = resP m c ∧ r.2.mem ((c.tc : Thread nD τ).loc main_v52) = resQ m c
      ∧ r.2.mem ((c.tc : Thread nD τ).loc main_v53) = resK m c ∧ r.2.mem ((c.tc : Thread nD τ).loc main_v54) = resS m c)) :=
  (θ_run defs _ _).mono (fun r h c =>
    ⟨((h c).2 main_v51 (by decide)).trans (tail_51 m c (f c)), ((h c).2 main_v52 (by decide)).trans (tail_52 m c (f c)),
      ((h c).2 main_v53 (by decide)).trans (tail_53 m c (f c)), ((h c).2 main_v54 (by decide)).trans (tail_54 m c (f c))⟩) (run_main m ρ)

end Cert.Prep

end
-- ==== Proof.Prep.Reference.lean ====
module

public import proofs.«01_k».proof.Proof.Gen.PrepReferenceIdeal.Read
public import proofs.«01_k».proof.Proof.Prep.Turn

/-! The reference of the preparation's gradient at an element, at finite arguments. -/

@[expose] public section

set_option maxRecDepth 16384

noncomputable section

namespace Cert.Prep

open Cert.PrepReferenceIdeal Cert.PrepReferenceIdeal.Read Cert.Tools
open Cert.Unrope (freqs freq freq_at entry posOf)
open Idealize.ShloMosaic

theorem freqs_ref : (val_main_v9 (F := Ideal) : S16.Idx → EReal) = freqs := rfl

section

variable {X : ℕ → ℕ → ℝ} {x0 : (⟨S16384x1696, .f32⟩ : BufTy).Contents (Elt Ideal)} (hx : ∀ (r : Fin 16384) (k : Fin 1696), (x0 (ix2 r k) : EReal) = X r k)

/-- A row of the middle columns, and the Gaussian unit of the last ones. -/
def rowK (X : ℕ → ℕ → ℝ) (r : ℕ) : ℕ → ℝ := fun j => X r (384 + j)
def rowV (X : ℕ → ℕ → ℝ) (r : ℕ) : ℕ → ℝ := fun j => gelu (X r (672 + (512 + j)))

/-! ## The queries' normalisation, 384 wide -/

section

variable {D : ℕ → ℕ → ℝ} {G : ℕ → ℝ} {g : (⟨S384, .f32⟩ : BufTy).Contents (Elt Ideal)} {d : (⟨S16384x384, .f32⟩ : BufTy).Contents (Elt Ideal)}
  (hg : ∀ l : Fin 384, (g (ix1 l) : EReal) = G l) (hd : ∀ (r : Fin 16384) (l : Fin 384), (d (ix2 r l) : EReal) = D r l)

include hx in
theorem room_q_ref (r : Fin 16384) (k : Fin 1) : (val_main_v51 (F := Ideal) x0 (ix2 r k) : EReal) = (room 384 (X r) : EReal) := by
  pointwise [val_main_v51, val_main_v50, val_main_v49, val_main_v48, val_main_v47, val_main_v46, val_main_v45, val_main_v18, val_main_cst_5, val_main_cst_6, val_main_cst_7]
  simp only [hx, bits_384, bits_eps, ← EReal.coe_mul, coe_sum, div_width 384 (by decide), ← EReal.coe_add]
  rfl

include hx in
theorem root_q_ref (r : Fin 16384) (k : Fin 1) : (val_main_v52 (F := Ideal) x0 (ix2 r k) : EReal) = (root 384 (X r) : EReal) := by
  pointwise [val_main_v52]
  rw [room_q_ref hx]
  exact rsqrt_room 384 (X r)

include hx in
theorem half_q_ref (r : Fin 16384) (k : Fin 1) :
    (val_main_v55 (F := Ideal) x0 (ix2 r k) : EReal) = ((-(1 / 2) * (root 384 (X r) / room 384 (X r)) : ℝ) : EReal) := by
  pointwise [val_main_v55, val_main_v54, val_main_v53, val_main_cst_8]
  rw [room_q_ref hx, root_q_ref hx, div_room, bits_neg_half, ← EReal.coe_mul]

include hx hg hd in
theorem dx_q_ref (r : Fin 16384) (l : Fin 384) : (val_main_v153 (F := Ideal) x0 g d (ix2 r l) : EReal) = (backward 384 (X r) (fun k => G k * D r k) l : EReal) := by
  pointwise [val_main_v153, val_main_v152, val_main_v151, val_main_v150, val_main_v149, val_main_v148, val_main_v147, val_main_v146, val_main_v145, val_main_v144, val_main_v143, val_main_v142, val_main_v141, val_main_v140, val_main_v138, val_main_v137, val_main_v58, val_main_v18, val_main_cst_29, val_main_cst_30, val_main_cst_31]
  simp only [hx, hg, hd, root_q_ref hx, half_q_ref hx, bits_384, bits_two, ← EReal.coe_mul, coe_sum, div_width 384 (by decide), ← EReal.coe_add, Finset.univ_unique, Finset.sum_singleton]
  refine congrArg _ ?_
  rw [show (fun k => G k * D r k) = fun k => D r k * G k from funext fun k => mul_comm _ _, ← backward_eq]
  try rfl
  try ring

include hx hd in
theorem gain_q_ref (l : Fin 384) : (val_main_v139 (F := Ideal) x0 d (ix1 l) : EReal) = ((∑ r : Fin 16384, D r l * (X r l * root 384 (X r)) : ℝ) : EReal) := by
  pointwise [val_main_v139, val_main_v136, val_main_v135, val_main_v134, val_main_v57, val_main_v56, val_main_v18, val_main_cst_27, val_main_cst_28]
  simp only [hx, hd, root_q_ref hx, ← EReal.coe_mul, coe_sum, Finset.univ_unique, Finset.sum_singleton]
  exact congrArg _ (Finset.sum_congr rfl fun r _ => mul_comm _ _)

end

/-! ## The keys' and values' normalisation, 256 wide -/

section

variable {D : ℕ → ℕ → ℝ} {G : ℕ → ℝ} {g : (⟨S256, .f32⟩ : BufTy).Contents (Elt Ideal)} {d : (⟨S16384x256, .f32⟩ : BufTy).Contents (Elt Ideal)}
  (hg : ∀ l : Fin 256, (g (ix1 l) : EReal) = G l) (hd : ∀ (r : Fin 16384) (l : Fin 256), (d (ix2 r l) : EReal) = D r l)

include hx in
theorem room_kv_ref (r : Fin 16384) (k : Fin 1) : (val_main_v67 (F := Ideal) x0 (ix2 r k) : EReal) = (room 256 (rowK X r) : EReal) := by
  pointwise [val_main_v67, val_main_v66, val_main_v65, val_main_v64, val_main_v63, val_main_v62, val_main_v61, val_main_v19, val_main_cst_9, val_main_cst_10, val_main_cst_11]
  simp only [hx, bits_256, bits_eps, ← EReal.coe_mul, coe_sum, div_width 256 (by decide), ← EReal.coe_add]
  rfl

include hx in
theorem root_kv_ref (r : Fin 16384) (k : Fin 1) : (val_main_v68 (F := Ideal) x0 (ix2 r k) : EReal) = (root 256 (rowK X r) : EReal) := by
  pointwise [val_main_v68]
  rw [room_kv_ref hx]
  exact rsqrt_room 256 (rowK X r)

include hx in
theorem half_kv_ref (r : Fin 16384) (k : Fin 1) :
    (val_main_v71 (F := Ideal) x0 (ix2 r k) : EReal) = ((-(1 / 2) * (root 256 (rowK X r) / room 256 (rowK X r)) : ℝ) : EReal) := by
  pointwise [val_main_v71, val_main_v70, val_main_v69, val_main_cst_12]
  rw [room_kv_ref hx, root_kv_ref hx, div_room, bits_neg_half, ← EReal.coe_mul]

include hx hg hd in
theorem dx_kv_ref (r : Fin 16384) (l : Fin 256) : (val_main_v133 (F := Ideal) x0 g d (ix2 r l) : EReal) = (backward 256 (rowK X r) (fun k => G k * D r k) l : EReal) := by
  pointwise [val_main_v133, val_main_v132, val_main_v131, val_main_v130, val_main_v129, val_main_v128, val_main_v127, val_main_v126, val_main_v125, val_main_v124, val_main_v123, val_main_v122, val_main_v121, val_main_v120, val_main_v118, val_main_v117, val_main_v74, val_main_v19, val_main_cst_24, val_main_cst_25, val_main_cst_26]
  simp only [hx, hg, hd, root_kv_ref hx, half_kv_ref hx, bits_256, bits_two, ← EReal.coe_mul, coe_sum, div_width 256 (by decide), ← EReal.coe_add, Finset.univ_unique, Finset.sum_singleton]
  refine congrArg _ ?_
  rw [show (fun k => G k * D r k) = fun k => D r k * G k from funext fun k => mul_comm _ _, ← backward_eq]
  try rfl
  try ring

include hx hd in
theorem gain_kv_ref (l : Fin 256) : (val_main_v119 (F := Ideal) x0 d (ix1 l) : EReal) = ((∑ r : Fin 16384, D r l * (rowK X r l * root 256 (rowK X r)) : ℝ) : EReal) := by
  pointwise [val_main_v119, val_main_v116, val_main_v115, val_main_v114, val_main_v73, val_main_v72, val_main_v19, val_main_cst_22, val_main_cst_23]
  simp only [hx, hd, root_kv_ref hx, ← EReal.coe_mul, coe_sum, Finset.univ_unique, Finset.sum_singleton]
  exact congrArg _ (Finset.sum_congr rfl fun r _ => mul_comm _ _)

end

/-! ## The gate's second half, 512 wide -/

include hx in
theorem unit_ref (r : Fin 16384) (l : Fin 512) : (val_main_v33 (F := Ideal) x0 (ix2 r l) : EReal) = (rowV X r l : EReal) := by
  pointwise [val_main_v33, val_main_v31, val_main_v27, val_main_v26, val_main_v25, val_main_v24, val_main_v23, val_main_v22, val_main_v21, val_main_cst_3, val_main_cst_4]
  rw [hx, neg_mul, Ideal.erfc_neg, bits_isq2, bits_half, ← EReal.coe_mul, ← EReal.coe_mul, erf_real, ← EReal.coe_one, ← EReal.coe_add, ← EReal.coe_mul]
  rfl

include hx in
theorem root_v_ref (r : Fin 16384) (k : Fin 1) : (val_main_v84 (F := Ideal) x0 (ix2 r k) : EReal) = (root 512 (rowV X r) : EReal) := by
  pointwise [val_main_v84, val_main_v83, val_main_v82, val_main_v81, val_main_v80, val_main_v79, val_main_v78, val_main_v77, val_main_cst_13, val_main_cst_14, val_main_cst_15]
  simp only [unit_ref hx, bits_512, bits_eps, ← EReal.coe_mul, coe_sum, div_width 512 (by decide), ← EReal.coe_add]
  exact rsqrt_room 512 (rowV X r)

section

variable {D : ℕ → ℕ → ℝ} {d : (⟨S16384x512, .f32⟩ : BufTy).Contents (Elt Ideal)} (hd : ∀ (r : Fin 16384) (l : Fin 512), (d (ix2 r l) : EReal) = D r l)

include hx hd in
theorem gain_v_ref (l : Fin 512) : (val_main_v99 (F := Ideal) x0 d (ix1 l) : EReal) = ((∑ r : Fin 16384, D r l * (rowV X r l * root 512 (rowV X r)) : ℝ) : EReal) := by
  pointwise [val_main_v99, val_main_v96, val_main_v95, val_main_v94, val_main_v89, val_main_v88, val_main_cst_17, val_main_cst_18]
  simp only [hd, unit_ref hx, root_v_ref hx, ← EReal.coe_mul, coe_sum, Finset.univ_unique, Finset.sum_singleton]
  exact congrArg _ (Finset.sum_congr rfl fun r _ => mul_comm _ _)

end

end

/-! ## The shared key's rotation -/

section

variable (p : (⟨S16384, .i32⟩ : BufTy).Contents (Elt Ideal)) (q : (⟨S16384x8x96, .f32⟩ : BufTy).Contents (Elt Ideal)) (r : Fin 16384)

theorem angle_ref (j : Fin 16) : (val_main_v15 (F := Ideal) p (ix2 r j) : EReal) = posOf p r * freq j := by
  pointwise [val_main_v15, val_main_v14, val_main_v13, val_main_v12, val_main_v11, val_main_v10]
  rw [freqs_ref, freq_at]
  unfold posOf
  rw [dif_pos r.isLt]

theorem cos_ref (j : Fin 16) : (val_main_v16 (F := Ideal) p (ix2 r j) : EReal) = Ideal.cos (posOf p r * freq j) := by
  pointwise [val_main_v16]
  rw [angle_ref]

theorem sin_ref (j : Fin 16) : (val_main_v17 (F := Ideal) p (ix2 r j) : EReal) = Ideal.sin (posOf p r * freq j) := by
  pointwise [val_main_v17]
  rw [angle_ref]

theorem sum_ref (j : Fin 32) : (val_main_v156 (F := Ideal) q (ix2 r j) : EReal) = ∑ h : Fin 8, entry q r h (64 + j) := by
  pointwise [val_main_v156, val_main_v155, val_main_v154, val_main_v93, val_main_cst_32, val_main_cst_33]
  simp only [Finset.univ_unique, Finset.sum_singleton]
  refine Finset.sum_congr rfl fun h _ => ?_
  unfold entry
  rw [dif_pos ⟨r.isLt, h.isLt, by omega⟩]

theorem turn_ref (j : Fin 32) : (val_main_v166 (F := Ideal) p q (ix2 r j) : EReal) = back (posOf p r) (fun l => ∑ h : Fin 8, entry q r h l) (64 + j) := by
  pointwise [val_main_v166, val_main_v165, val_main_v164, val_main_v163, val_main_v162, val_main_v161, val_main_v160, val_main_v159, val_main_v158, val_main_v157]
  unfold back
  have hj := j.isLt
  by_cases h : j.val < 16
  · rw [dif_pos h, if_pos (show 64 + j.val < 80 by omega), sum_ref, sum_ref, cos_ref, sin_ref, add_comm]
    dsimp only
    rw [show 64 + j.val - 64 = j.val by omega, show 64 + (16 + j.val) = 64 + j.val + 16 by omega]
  · rw [dif_neg h, if_neg (show ¬ 64 + j.val < 80 by omega), sum_ref, sum_ref, cos_ref, sin_ref, neg_mul]
    dsimp only
    rw [show 64 + j.val - 80 = j.val - 16 by omega, show 64 + (16 + (j.val - 16)) = 64 + j.val by omega, show 64 + (j.val - 16) = 64 + j.val - 16 by omega]

end

end Cert.Prep

end
-- ==== Proof.Prep.Claims.lean ====
module

public import proofs.«01_k».proof.Defs
public import proofs.«01_k».proof.Proof.Prep.Run
public import proofs.«01_k».proof.Proof.Prep.Reference
public import proofs.«01_k».proof.Proof.Gen.PrepKernel.Frame
public import proofs.«01_k».proof.Proof.Gen.Pre_prep_finite

/-! The claims about the call that differentiates the attention layer's preparation. -/

@[expose] public section

set_option maxRecDepth 16384

noncomputable section

namespace Cert.Prep

open Idealize.ShloMosaic Idealize.ShloMosaic.TcCoe Idealize.SL.Sem Cert.Tools
open Cert.Unrope (entry posOf)
open Cert.PrepReferenceIdeal.Read

theorem frame_kernel : Cert.quiescent_PrepKernel := fun m ρ _ => Cert.PrepKernel.Gen.frame m ρ

theorem frame_kernelIdeal : Cert.quiescent_PrepKernelIdeal := fun m ρ _ => Cert.PrepKernelIdeal.Gen.frame m ρ

theorem frame_kernelIdeal_finite : Cert.quiescent_PrepKernelIdeal_pre_prep_finite := fun m ρ _ => Cert.PrepKernelIdeal.Gen.frame m ρ

theorem frame_reference : Cert.quiescent_PrepReferenceIdeal := fun m ρ _ =>
  (θ_run _ _ _).mono (fun r h => ⟨fun c => (h c).2.2.2.2, sem_eq_zero_of_no_sems (sig := Cert.PrepReferenceIdeal.sig) (by decide) r.2⟩) (Cert.PrepReferenceIdeal.Value.run m ρ)

theorem frame_reference_finite : Cert.quiescent_PrepReferenceIdeal_pre_prep_finite := fun m ρ _ => frame_reference m ρ trivial

/-! The reference's results are the run's. -/

/-- The heads' rows as the padded columns hold them. -/
theorem heads_rows (q : Cert.PrepKernelIdeal.S16384x8x96.Idx → EReal) (r : ℕ) :
    (heads fun h l => entry q r ((128 * h + l) / 128) ((128 * h + l) % 128)) = heads fun h l => entry q r h l := by
  funext l
  unfold heads
  by_cases h : 64 ≤ l ∧ l < 96
  · rw [if_pos h, if_pos h]
    refine Finset.sum_congr rfl fun j _ => ?_
    dsimp only
    rw [show (128 * j.val + l) / 128 = j.val by omega, show (128 * j.val + l) % 128 = l by omega]
  · rw [if_neg h, if_neg h]

theorem packed_low (X : ℕ → ℕ → ℝ) (r : ℕ) {k : ℕ} (h : k < 640) : packed X r k = X r k := by unfold packed; rw [if_pos h]
theorem packed_high (X : ℕ → ℕ → ℝ) (r : ℕ) {k : ℕ} (h : 768 ≤ k) : packed X r k = X r (k - 96) := by
  unfold packed; rw [if_neg (by omega), if_neg (by omega), if_neg (by omega), if_neg (by omega)]

variable {m : (ℓ : Loc Cert.PrepKernelIdeal.nD Cert.PrepKernelIdeal.τ Cert.PrepKernelIdeal.sig) → Buf (Elt Ideal) ℓ} {c : Dev Cert.PrepKernelIdeal.nD} (f : AllFinite m c)
include f

theorem first_eq (r : Fin 16384) (l : ℕ) (h : l < 384) : (val_main_v153 (F := Ideal) (arg0 m c) (arg2 m c) (arg5 m c) (ix2 r ⟨l, h⟩) : EReal) = (data m c).dp r l := by
  refine (dx_q_ref (ix_real f.f0) (at1_real f.f2) (ix_real f.f5) r ⟨l, h⟩).trans ?_
  unfold Data.dp
  rw [if_pos h]
  rw [backward_congr 384 (x := (data m c).P r) (y := real2 (arg0 m c) r) (fun k hk => packed_low (real2 (arg0 m c)) r (k := k) (by omega)) _ h]
  rfl

theorem second_eq (r : Fin 16384) (l : ℕ) (h : l < 256) : (val_main_v133 (F := Ideal) (arg0 m c) (arg3 m c) (arg6 m c) (ix2 r ⟨l, h⟩) : EReal) = (data m c).dp r (384 + l) := by
  refine (dx_kv_ref (ix_real f.f0) (at1_real f.f3) (ix_real f.f6) r ⟨l, h⟩).trans ?_
  unfold Data.dp
  rw [if_neg (by omega), if_pos (by omega), show 384 + l - 384 = l by omega]
  rw [backward_congr 256 (x := (data m c).mid r) (y := rowK (real2 (arg0 m c)) r) (fun k hk => packed_low (real2 (arg0 m c)) r (k := 384 + k) (by omega)) _ h]
  rfl

omit f in
theorem third_eq (r : Fin 16384) (l : ℕ) (h : l < 32) : (val_main_v166 (F := Ideal) (arg1 m c) (arg7 m c) (ix2 r ⟨l, h⟩) : EReal) = (data m c).dp r (704 + l) := by
  refine (turn_ref (arg1 m c) (arg7 m c) r ⟨l, h⟩).trans ?_
  unfold Data.dp
  rw [if_neg (by omega), if_neg (by omega), if_pos (by omega), show 704 + l - 640 = 64 + l by omega]
  refine Eq.trans ?_ (turn_back (posOf (arg1 m c) r) _ (by omega) (by omega)).symm
  show _ = back _ (heads fun h l => entry (arg7 m c) r ((128 * h + l) / 128) ((128 * h + l) % 128)) _
  rw [heads_rows, back_heads _ _ (by omega) (by omega)]

theorem dp_eq (r : Fin 16384) (k : Fin 672) :
    (val_main_v181 (F := Ideal) (arg0 m c) (arg1 m c) (arg2 m c) (arg3 m c) (arg4 m c) (arg5 m c) (arg6 m c) (arg7 m c) (arg8 m c) (arg9 m c) (ix2 r k) : EReal) = resP m c (ix2 r k) := by
  pointwise [val_main_v181, val_main_v180, val_main_v179]
  have hk := k.isLt
  show _ = (data m c).dp r (if k.val < 640 then k.val else k.val + 64)
  by_cases h1 : k.val < 384
  · refine Eq.trans ?_ (congrArg ((data m c).dp r) (if_pos (show k.val < 640 by omega))).symm
    rw [dif_pos h1]
    exact first_eq f r k h1
  rw [dif_neg h1]
  by_cases h2 : k.val < 640
  · refine Eq.trans ?_ (congrArg ((data m c).dp r) (if_pos h2)).symm
    rw [dif_pos (show k.val - 384 < 256 by omega)]
    exact (second_eq f r (k - 384) (by omega)).trans (congrArg ((data m c).dp r) (by omega))
  · refine Eq.trans ?_ (congrArg ((data m c).dp r) (if_neg h2)).symm
    rw [dif_neg (show ¬ k.val - 384 < 256 by omega), dif_pos (show k.val - 384 - 256 < 32 by omega)]
    exact (third_eq r (k - 384 - 256) (by omega)).trans (congrArg ((data m c).dp r) (by omega))

theorem gq_eq (l : Fin 384) : (val_main_v139 (F := Ideal) (arg0 m c) (arg5 m c) (ix1 l) : EReal) = resQ m c (ix1 l) := by
  refine (gain_q_ref (ix_real f.f0) (ix_real f.f5) l).trans (congrArg _ (Finset.sum_congr rfl fun r _ => ?_))
  show _ = (data m c).Dq r l * ((data m c).P r l * root 384 ((data m c).P r))
  rw [root_congr 384 (x := (data m c).P r) (y := real2 (arg0 m c) r) (fun k hk => packed_low (real2 (arg0 m c)) r (k := k) (by omega)),
    show (data m c).P r l = real2 (arg0 m c) r l from packed_low (real2 (arg0 m c)) r (k := l.val) (by omega)]
  rfl

theorem gk_eq (l : Fin 256) : (val_main_v119 (F := Ideal) (arg0 m c) (arg6 m c) (ix1 l) : EReal) = resK m c (ix1 l) := by
  refine (gain_kv_ref (ix_real f.f0) (ix_real f.f6) l).trans (congrArg _ (Finset.sum_congr rfl fun r _ => ?_))
  show _ = (data m c).Dk r l * ((data m c).mid r l * root 256 ((data m c).mid r))
  rw [root_congr 256 (x := (data m c).mid r) (y := rowK (real2 (arg0 m c)) r) (fun k hk => packed_low (real2 (arg0 m c)) r (k := 384 + k) (by omega)),
    show (data m c).mid r l = rowK (real2 (arg0 m c)) r l from packed_low (real2 (arg0 m c)) r (k := 384 + l.val) (by omega)]
  rfl

theorem gs_eq (l : Fin 512) : (val_main_v99 (F := Ideal) (arg0 m c) (arg9 m c) (ix1 l) : EReal) = resS m c (ix1 l) := by
  refine (gain_v_ref (ix_real f.f0) (ix_real f.f9) l).trans (congrArg _ (Finset.sum_congr rfl fun r _ => ?_))
  show _ = (data m c).Dv r l * (unit (data m c).last r l * root 512 (unit (data m c).last r))
  have e : ∀ k, k < 512 → unit (data m c).last r k = rowV (real2 (arg0 m c)) r k := fun k hk =>
    congrArg gelu ((packed_high (real2 (arg0 m c)) r (k := 1280 + k) (by omega)).trans (congrArg (real2 (arg0 m c) r) (by omega)))
  rw [root_congr 512 e, e l l.isLt]
  rfl

omit f

/-- The precondition says of the arguments but the positions and the keys' cotangent that they are finite. -/
theorem finite_args (m : (ℓ : Loc Cert.PrepKernelIdeal.nD Cert.PrepKernelIdeal.τ Cert.PrepKernelIdeal.sig) → Buf (Elt Ideal) ℓ) (hp : Cert.Pre_PrepKernelIdeal_prep_finite m)
    (c : Dev Cert.PrepKernelIdeal.nD) : AllFinite m c where
  f0 := finite_of_lt _ _ (fun _ => rfl) (hp c).1
  f2 := finite_of_lt _ _ (fun _ => rfl) (hp c).2.1
  f3 := finite_of_lt _ _ (fun _ => rfl) (hp c).2.2.1
  f4 := finite_of_lt _ _ (fun _ => rfl) (hp c).2.2.2.1
  f5 := finite_of_lt _ _ (fun _ => rfl) (hp c).2.2.2.2.1
  f6 := finite_of_lt _ _ (fun _ => rfl) (hp c).2.2.2.2.2.1
  f8 := finite_of_lt _ _ (fun _ => rfl) (hp c).2.2.2.2.2.2.1
  f9 := finite_of_lt _ _ (fun _ => rfl) (hp c).2.2.2.2.2.2.2

theorem algebraic : Cert.algebraic_PrepKernelIdeal_PrepReferenceIdeal_pre_prep_finite := fun m ρ m' ρ' hp hm =>
  ⟨fun c => resP m c, fun c => resQ m c, fun c => resK m c, fun c => resS m c,
    (θ_run _ _ _).mono (fun r h c => ⟨(h.1 c).1, (h.1 c).2.1, (h.1 c).2.2.1, (h.1 c).2.2.2, h.2 c⟩)
      (θ_run_and (run_results m ρ (finite_args m hp)) (Cert.PrepKernelIdeal.Gen.unchanged m ρ)),
    (θ_run _ _ _).mono (fun r h c => by
        have f := finite_args m hp c
        obtain ⟨h0, h1, h2, h3, h4, h5, h6, h7, h8, h9⟩ := hm c
        refine ⟨(h c).1.trans ?_, (h c).2.1.trans ?_, (h c).2.2.1.trans ?_, (h c).2.2.2.1.trans ?_, (h c).2.2.2.2⟩
        · refine (val_main_v181_eq _).trans ?_
          show val_main_v181 (F := Ideal) (m' ((c.tc : Thread Cert.PrepReferenceIdeal.nD Cert.PrepReferenceIdeal.τ).loc Cert.PrepReferenceIdeal.main_arg0)) (m' ((c.tc : Thread Cert.PrepReferenceIdeal.nD Cert.PrepReferenceIdeal.τ).loc Cert.PrepReferenceIdeal.main_arg1)) (m' ((c.tc : Thread Cert.PrepReferenceIdeal.nD Cert.PrepReferenceIdeal.τ).loc Cert.PrepReferenceIdeal.main_arg2)) (m' ((c.tc : Thread Cert.PrepReferenceIdeal.nD Cert.PrepReferenceIdeal.τ).loc Cert.PrepReferenceIdeal.main_arg3)) (m' ((c.tc : Thread Cert.PrepReferenceIdeal.nD Cert.PrepReferenceIdeal.τ).loc Cert.PrepReferenceIdeal.main_arg4)) (m' ((c.tc : Thread Cert.PrepReferenceIdeal.nD Cert.PrepReferenceIdeal.τ).loc Cert.PrepReferenceIdeal.main_arg5)) (m' ((c.tc : Thread Cert.PrepReferenceIdeal.nD Cert.PrepReferenceIdeal.τ).loc Cert.PrepReferenceIdeal.main_arg6)) (m' ((c.tc : Thread Cert.PrepReferenceIdeal.nD Cert.PrepReferenceIdeal.τ).loc Cert.PrepReferenceIdeal.main_arg7)) (m' ((c.tc : Thread Cert.PrepReferenceIdeal.nD Cert.PrepReferenceIdeal.τ).loc Cert.PrepReferenceIdeal.main_arg8)) (m' ((c.tc : Thread Cert.PrepReferenceIdeal.nD Cert.PrepReferenceIdeal.τ).loc Cert.PrepReferenceIdeal.main_arg9)) = _
          rw [h0, h1, h2, h3, h4, h5, h6, h7, h8, h9]
          funext i
          obtain ⟨k, l, rfl⟩ : ∃ (k : Fin 16384) (l : Fin 672), i = ix2 k l := ⟨i 0, i 1, eq_ix2 i⟩
          exact dp_eq f k l
        · refine (val_main_v139_eq _).trans ?_
          show val_main_v139 (F := Ideal) (m' ((c.tc : Thread Cert.PrepReferenceIdeal.nD Cert.PrepReferenceIdeal.τ).loc Cert.PrepReferenceIdeal.main_arg0)) (m' ((c.tc : Thread Cert.PrepReferenceIdeal.nD Cert.PrepReferenceIdeal.τ).loc Cert.PrepReferenceIdeal.main_arg5)) = _
          rw [h0, h5]
          funext i
          obtain ⟨l, rfl⟩ : ∃ l : Fin 384, i = ix1 l := ⟨i 0, eq_ix1 i⟩
          exact gq_eq f l
        · refine (val_main_v119_eq _).trans ?_
          show val_main_v119 (F := Ideal) (m' ((c.tc : Thread Cert.PrepReferenceIdeal.nD Cert.PrepReferenceIdeal.τ).loc Cert.PrepReferenceIdeal.main_arg0)) (m' ((c.tc : Thread Cert.PrepReferenceIdeal.nD Cert.PrepReferenceIdeal.τ).loc Cert.PrepReferenceIdeal.main_arg6)) = _
          rw [h0, h6]
          funext i
          obtain ⟨l, rfl⟩ : ∃ l : Fin 256, i = ix1 l := ⟨i 0, eq_ix1 i⟩
          exact gk_eq f l
        · refine (val_main_v99_eq _).trans ?_
          show val_main_v99 (F := Ideal) (m' ((c.tc : Thread Cert.PrepReferenceIdeal.nD Cert.PrepReferenceIdeal.τ).loc Cert.PrepReferenceIdeal.main_arg0)) (m' ((c.tc : Thread Cert.PrepReferenceIdeal.nD Cert.PrepReferenceIdeal.τ).loc Cert.PrepReferenceIdeal.main_arg9)) = _
          rw [h0, h9]
          funext i
          obtain ⟨l, rfl⟩ : ∃ l : Fin 512, i = ix1 l := ⟨i 0, eq_ix1 i⟩
          exact gs_eq f l)
      (Cert.PrepReferenceIdeal.Value.run m' ρ')⟩

end Cert.Prep

end
-- ==== Proof.lean ====
module

public import proofs.«01_k».proof.Defs
public import proofs.«01_k».proof.Proof.Conv.Claims
public import proofs.«01_k».proof.Proof.Loss.Claims
public import proofs.«01_k».proof.Proof.Unrope.Claims
public import proofs.«01_k».proof.Proof.GateUp.Claims
public import proofs.«01_k».proof.Proof.ConvDx.Claims
public import proofs.«01_k».proof.Proof.EvenDx.Claims
public import proofs.«01_k».proof.Proof.FfnDx.Claims
public import proofs.«01_k».proof.Proof.Attn.Claims
public import proofs.«01_k».proof.Proof.Sgu.Claims
public import proofs.«01_k».proof.Proof.Prep.Claims
public import proofs.«01_k».proof.Proof.Gen.ConvKernel
public import proofs.«01_k».proof.Proof.Gen.ConvKernelIdeal
public import proofs.«01_k».proof.Proof.Gen.ConvReferenceIdeal
public import proofs.«01_k».proof.Proof.Gen.LossKernel
public import proofs.«01_k».proof.Proof.Gen.LossKernelIdeal
public import proofs.«01_k».proof.Proof.Gen.LossReferenceIdeal
public import proofs.«01_k».proof.Proof.Gen.UnropeKernel
public import proofs.«01_k».proof.Proof.Gen.UnropeKernelIdeal
public import proofs.«01_k».proof.Proof.Gen.UnropeReferenceIdeal
public import proofs.«01_k».proof.Proof.Gen.GateUpKernel
public import proofs.«01_k».proof.Proof.Gen.GateUpKernelIdeal
public import proofs.«01_k».proof.Proof.Gen.GateUpReferenceIdeal
public import proofs.«01_k».proof.Proof.Gen.ConvDxKernel
public import proofs.«01_k».proof.Proof.Gen.ConvDxKernelIdeal
public import proofs.«01_k».proof.Proof.Gen.ConvDxReferenceIdeal
public import proofs.«01_k».proof.Proof.Gen.EvenDxKernel
public import proofs.«01_k».proof.Proof.Gen.EvenDxKernelIdeal
public import proofs.«01_k».proof.Proof.Gen.EvenDxReferenceIdeal
public import proofs.«01_k».proof.Proof.Gen.FfnDxKernel
public import proofs.«01_k».proof.Proof.Gen.FfnDxKernelIdeal
public import proofs.«01_k».proof.Proof.Gen.FfnDxReferenceIdeal
public import proofs.«01_k».proof.Proof.Gen.AttnKernel
public import proofs.«01_k».proof.Proof.Gen.AttnKernelIdeal
public import proofs.«01_k».proof.Proof.Gen.AttnReferenceIdeal
public import proofs.«01_k».proof.Proof.Gen.SguKernel
public import proofs.«01_k».proof.Proof.Gen.SguKernelIdeal
public import proofs.«01_k».proof.Proof.Gen.SguReferenceIdeal
public import proofs.«01_k».proof.Proof.Gen.PrepKernel
public import proofs.«01_k».proof.Proof.Gen.PrepKernelIdeal
public import proofs.«01_k».proof.Proof.Gen.PrepReferenceIdeal
public import proofs.«01_k».proof.Proof.Gen.Pre_loss_finite
public import proofs.«01_k».proof.Proof.Gen.Pre_dgu_finite
public import proofs.«01_k».proof.Proof.Gen.Pre_convdx_finite
public import proofs.«01_k».proof.Proof.Gen.Pre_evendx_finite
public import proofs.«01_k».proof.Proof.Gen.Pre_ffndx_finite
public import proofs.«01_k».proof.Proof.Gen.Pre_attn_finite
public import proofs.«01_k».proof.Proof.Gen.Pre_prep_finite
public import Idealize.ShloMosaic.Adequacy
public import Idealize.ShloMosaic.Init

@[expose] public section

noncomputable section

namespace Cert.Proof

open Idealize.ShloMosaic Idealize.SL.Sem

theorem claim : Cert.Claim := ⟨
  Cert.ConvKernel.Gen.facts, Cert.ConvKernelIdeal.Gen.facts, Cert.ConvReferenceIdeal.Gen.facts, Cert.LossKernel.Gen.facts,
  Cert.LossKernelIdeal.Gen.facts, Cert.LossReferenceIdeal.Gen.facts, Cert.UnropeKernel.Gen.facts, Cert.UnropeKernelIdeal.Gen.facts,
  Cert.UnropeReferenceIdeal.Gen.facts, Cert.GateUpKernel.Gen.facts, Cert.GateUpKernelIdeal.Gen.facts, Cert.GateUpReferenceIdeal.Gen.facts,
  Cert.ConvDxKernel.Gen.facts, Cert.ConvDxKernelIdeal.Gen.facts, Cert.ConvDxReferenceIdeal.Gen.facts, Cert.EvenDxKernel.Gen.facts,
  Cert.EvenDxKernelIdeal.Gen.facts, Cert.EvenDxReferenceIdeal.Gen.facts, Cert.FfnDxKernel.Gen.facts, Cert.FfnDxKernelIdeal.Gen.facts,
  Cert.FfnDxReferenceIdeal.Gen.facts, Cert.AttnKernel.Gen.facts, Cert.AttnKernelIdeal.Gen.facts, Cert.AttnReferenceIdeal.Gen.facts,
  Cert.SguKernel.Gen.facts, Cert.SguKernelIdeal.Gen.facts, Cert.SguReferenceIdeal.Gen.facts, Cert.PrepKernel.Gen.facts, Cert.PrepKernelIdeal.Gen.facts,
  Cert.PrepReferenceIdeal.Gen.facts, Cert.Pre_loss_finite.Gen.facts, Cert.Pre_dgu_finite.Gen.facts, Cert.Pre_convdx_finite.Gen.facts,
  Cert.Pre_evendx_finite.Gen.facts, Cert.Pre_ffndx_finite.Gen.facts, Cert.Pre_attn_finite.Gen.facts, Cert.Pre_prep_finite.Gen.facts,
  Cert.Conv.frame_kernel, Cert.Conv.frame_kernelIdeal, Cert.Conv.frame_reference, Cert.Loss.frame_kernel, Cert.Loss.frame_kernelIdeal,
  Cert.Loss.frame_kernelIdeal_finite, Cert.Loss.frame_reference, Cert.Loss.frame_reference_finite, Cert.Unrope.frame_kernel,
  Cert.Unrope.frame_kernelIdeal, Cert.Unrope.frame_reference, Cert.GateUp.frame_kernel, Cert.GateUp.frame_kernelIdeal,
  Cert.GateUp.frame_kernelIdeal_finite, Cert.GateUp.frame_reference, Cert.GateUp.frame_reference_finite, Cert.ConvDx.frame_kernel,
  Cert.ConvDx.frame_kernelIdeal, Cert.ConvDx.frame_kernelIdeal_finite, Cert.ConvDx.frame_reference, Cert.ConvDx.frame_reference_finite,
  Cert.EvenDx.frame_kernel, Cert.EvenDx.frame_kernelIdeal, Cert.EvenDx.frame_kernelIdeal_finite, Cert.EvenDx.frame_reference,
  Cert.EvenDx.frame_reference_finite, Cert.FfnDx.frame_kernel, Cert.FfnDx.frame_kernelIdeal, Cert.FfnDx.frame_kernelIdeal_finite,
  Cert.FfnDx.frame_reference, Cert.FfnDx.frame_reference_finite, Cert.Attn.frame_kernel, Cert.Attn.frame_kernelIdeal,
  Cert.Attn.frame_kernelIdeal_finite, Cert.Attn.frame_reference, Cert.Attn.frame_reference_finite, Cert.Sgu.frame_kernel, Cert.Sgu.frame_kernelIdeal,
  Cert.Sgu.frame_reference, Cert.Prep.frame_kernel, Cert.Prep.frame_kernelIdeal, Cert.Prep.frame_kernelIdeal_finite, Cert.Prep.frame_reference,
  Cert.Prep.frame_reference_finite, trivial, Cert.Conv.algebraic, trivial, Cert.Loss.algebraic, trivial, Cert.Unrope.algebraic, trivial,
  Cert.GateUp.algebraic, trivial, Cert.ConvDx.algebraic, trivial, Cert.EvenDx.algebraic, trivial, Cert.FfnDx.algebraic, Cert.Attn.preserves,
  Cert.Attn.algebraic, trivial, Cert.Sgu.algebraic, trivial, Cert.Prep.algebraic⟩

end Cert.Proof

end
